-- ==== Defs.lean ====
def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerIdeal_attention_pre [hPre_attention_pre : Cert.Pre_attention_pre.Facts] (m : (ℓ : Loc Cert.MixerIdeal.nD Cert.MixerIdeal.τ Cert.MixerIdeal.sig) → Buf (Elt Ideal) ℓ) : Prop :=
  ∀ c : Dev Cert.MixerIdeal.nD,
    (Cert.Pre_attention_pre.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6)) (m ((c.tc : Thread Cert.MixerIdeal.nD Cert.MixerIdeal.τ).loc Cert.MixerIdeal.main_arg7)) (m ((c.tc : Thread Cert.MixerIdeal.nD Cert.MixerIdeal.τ).loc Cert.MixerIdeal.main_arg8)) (m ((c.tc : Thread Cert.MixerIdeal.nD Cert.MixerIdeal.τ).loc Cert.MixerIdeal.main_arg9)) (m ((c.tc : Thread Cert.MixerIdeal.nD Cert.MixerIdeal.τ).loc Cert.MixerIdeal.main_arg10)) (m ((c.tc : Thread Cert.MixerIdeal.nD Cert.MixerIdeal.τ).loc Cert.MixerIdeal.main_arg11)) (m ((c.tc : Thread Cert.MixerIdeal.nD Cert.MixerIdeal.τ).loc Cert.MixerIdeal.main_arg12)) (m ((c.tc : Thread Cert.MixerIdeal.nD Cert.MixerIdeal.τ).loc Cert.MixerIdeal.main_arg13)) (m ((c.tc : Thread Cert.MixerIdeal.nD Cert.MixerIdeal.τ).loc Cert.MixerIdeal.main_arg14)) (m ((c.tc : Thread Cert.MixerIdeal.nD Cert.MixerIdeal.τ).loc Cert.MixerIdeal.main_arg15)) (m ((c.tc : Thread Cert.MixerIdeal.nD Cert.MixerIdeal.τ).loc Cert.MixerIdeal.main_arg16)) (m ((c.tc : Thread Cert.MixerIdeal.nD Cert.MixerIdeal.τ).loc Cert.MixerIdeal.main_arg17)) (m ((c.tc : Thread Cert.MixerIdeal.nD Cert.MixerIdeal.τ).loc Cert.MixerIdeal.main_arg18)) (m ((c.tc : Thread Cert.MixerIdeal.nD Cert.MixerIdeal.τ).loc Cert.MixerIdeal.main_arg19))) = (fun _ => 1#1)

def Pre_AttentionIdeal (m : (ℓ : Loc Cert.AttentionIdeal.nD Cert.AttentionIdeal.τ Cert.AttentionIdeal.sig) → Buf (Elt Ideal) ℓ) : Prop :=
  True

def Pre_AttentionIdeal_attention_pre [hPre_attention_pre : Cert.Pre_attention_pre.Facts] (m : (ℓ : Loc Cert.AttentionIdeal.nD Cert.AttentionIdeal.τ Cert.AttentionIdeal.sig) → Buf (Elt Ideal) ℓ) : Prop :=
  ∀ c : Dev Cert.AttentionIdeal.nD,
    (Cert.Pre_attention_pre.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2)) (m ((c.tc : Thread Cert.AttentionIdeal.nD Cert.AttentionIdeal.τ).loc Cert.AttentionIdeal.main_arg3)) (m ((c.tc : Thread Cert.AttentionIdeal.nD Cert.AttentionIdeal.τ).loc Cert.AttentionIdeal.main_arg4)) (m ((c.tc : Thread Cert.AttentionIdeal.nD Cert.AttentionIdeal.τ).loc Cert.AttentionIdeal.main_arg5)) (m ((c.tc : Thread Cert.AttentionIdeal.nD Cert.AttentionIdeal.τ).loc Cert.AttentionIdeal.main_arg6)) (m ((c.tc : Thread Cert.AttentionIdeal.nD Cert.AttentionIdeal.τ).loc Cert.AttentionIdeal.main_arg7)) (m ((c.tc : Thread Cert.AttentionIdeal.nD Cert.AttentionIdeal.τ).loc Cert.AttentionIdeal.main_arg8)) (m ((c.tc : Thread Cert.AttentionIdeal.nD Cert.AttentionIdeal.τ).loc Cert.AttentionIdeal.main_arg9)) (m ((c.tc : Thread Cert.AttentionIdeal.nD Cert.AttentionIdeal.τ).loc Cert.AttentionIdeal.main_arg10)) (m ((c.tc : Thread Cert.AttentionIdeal.nD Cert.AttentionIdeal.τ).loc Cert.AttentionIdeal.main_arg11)) (m ((c.tc : Thread Cert.AttentionIdeal.nD Cert.AttentionIdeal.τ).loc Cert.AttentionIdeal.main_arg12)) (m ((c.tc : Thread Cert.AttentionIdeal.nD Cert.AttentionIdeal.τ).loc Cert.AttentionIdeal.main_arg13)) (m ((c.tc : Thread Cert.AttentionIdeal.nD Cert.AttentionIdeal.τ).loc Cert.AttentionIdeal.main_arg14)) (m ((c.tc : Thread Cert.AttentionIdeal.nD Cert.AttentionIdeal.τ).loc Cert.AttentionIdeal.main_arg15)) (m ((c.tc : Thread Cert.AttentionIdeal.nD Cert.AttentionIdeal.τ).loc Cert.AttentionIdeal.main_arg16)) (m ((c.tc : Thread Cert.AttentionIdeal.nD Cert.AttentionIdeal.τ).loc Cert.AttentionIdeal.main_arg17)) (m ((c.tc : Thread Cert.AttentionIdeal.nD Cert.AttentionIdeal.τ).loc Cert.AttentionIdeal.main_arg18)) (m ((c.tc : Thread Cert.AttentionIdeal.nD Cert.AttentionIdeal.τ).loc Cert.AttentionIdeal.main_arg19))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojReferenceIdeal (m : (ℓ : Loc Cert.OutprojReferenceIdeal.nD Cert.OutprojReferenceIdeal.τ Cert.OutprojReferenceIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6)
      ∧ r.2.mem ((c.tc : Thread Cert.Mixer.nD Cert.Mixer.τ).loc Cert.Mixer.main_arg7) = m ((c.tc : Thread Cert.Mixer.nD Cert.Mixer.τ).loc Cert.Mixer.main_arg7)
      ∧ r.2.mem ((c.tc : Thread Cert.Mixer.nD Cert.Mixer.τ).loc Cert.Mixer.main_arg8) = m ((c.tc : Thread Cert.Mixer.nD Cert.Mixer.τ).loc Cert.Mixer.main_arg8)
      ∧ r.2.mem ((c.tc : Thread Cert.Mixer.nD Cert.Mixer.τ).loc Cert.Mixer.main_arg9) = m ((c.tc : Thread Cert.Mixer.nD Cert.Mixer.τ).loc Cert.Mixer.main_arg9)
      ∧ r.2.mem ((c.tc : Thread Cert.Mixer.nD Cert.Mixer.τ).loc Cert.Mixer.main_arg10) = m ((c.tc : Thread Cert.Mixer.nD Cert.Mixer.τ).loc Cert.Mixer.main_arg10)
      ∧ r.2.mem ((c.tc : Thread Cert.Mixer.nD Cert.Mixer.τ).loc Cert.Mixer.main_arg11) = m ((c.tc : Thread Cert.Mixer.nD Cert.Mixer.τ).loc Cert.Mixer.main_arg11)
      ∧ r.2.mem ((c.tc : Thread Cert.Mixer.nD Cert.Mixer.τ).loc Cert.Mixer.main_arg12) = m ((c.tc : Thread Cert.Mixer.nD Cert.Mixer.τ).loc Cert.Mixer.main_arg12)
      ∧ r.2.mem ((c.tc : Thread Cert.Mixer.nD Cert.Mixer.τ).loc Cert.Mixer.main_arg13) = m ((c.tc : Thread Cert.Mixer.nD Cert.Mixer.τ).loc Cert.Mixer.main_arg13)
      ∧ r.2.mem ((c.tc : Thread Cert.Mixer.nD Cert.Mixer.τ).loc Cert.Mixer.main_arg14) = m ((c.tc : Thread Cert.Mixer.nD Cert.Mixer.τ).loc Cert.Mixer.main_arg14)
      ∧ r.2.mem ((c.tc : Thread Cert.Mixer.nD Cert.Mixer.τ).loc Cert.Mixer.main_arg15) = m ((c.tc : Thread Cert.Mixer.nD Cert.Mixer.τ).loc Cert.Mixer.main_arg15)
      ∧ r.2.mem ((c.tc : Thread Cert.Mixer.nD Cert.Mixer.τ).loc Cert.Mixer.main_arg16) = m ((c.tc : Thread Cert.Mixer.nD Cert.Mixer.τ).loc Cert.Mixer.main_arg16)
      ∧ r.2.mem ((c.tc : Thread Cert.Mixer.nD Cert.Mixer.τ).loc Cert.Mixer.main_arg17) = m ((c.tc : Thread Cert.Mixer.nD Cert.Mixer.τ).loc Cert.Mixer.main_arg17)
      ∧ r.2.mem ((c.tc : Thread Cert.Mixer.nD Cert.Mixer.τ).loc Cert.Mixer.main_arg18) = m ((c.tc : Thread Cert.Mixer.nD Cert.Mixer.τ).loc Cert.Mixer.main_arg18)
      ∧ r.2.mem ((c.tc : Thread Cert.Mixer.nD Cert.Mixer.τ).loc Cert.Mixer.main_arg19) = m ((c.tc : Thread Cert.Mixer.nD Cert.Mixer.τ).loc Cert.Mixer.main_arg19))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
      ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
      ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11)
      ∧ r.2.mem ((c.tc : Thread Cert.MixerIdeal.nD Cert.MixerIdeal.τ).loc Cert.MixerIdeal.main_arg12) = m ((c.tc : Thread Cert.MixerIdeal.nD Cert.MixerIdeal.τ).loc Cert.MixerIdeal.main_arg12)
      ∧ r.2.mem ((c.tc : Thread Cert.MixerIdeal.nD Cert.MixerIdeal.τ).loc Cert.MixerIdeal.main_arg13) = m ((c.tc : Thread Cert.MixerIdeal.nD Cert.MixerIdeal.τ).loc Cert.MixerIdeal.main_arg13)
      ∧ r.2.mem ((c.tc : Thread Cert.MixerIdeal.nD Cert.MixerIdeal.τ).loc Cert.MixerIdeal.main_arg14) = m ((c.tc : Thread Cert.MixerIdeal.nD Cert.MixerIdeal.τ).loc Cert.MixerIdeal.main_arg14)
      ∧ r.2.mem ((c.tc : Thread Cert.MixerIdeal.nD Cert.MixerIdeal.τ).loc Cert.MixerIdeal.main_arg15) = m ((c.tc : Thread Cert.MixerIdeal.nD Cert.MixerIdeal.τ).loc Cert.MixerIdeal.main_arg15)
      ∧ r.2.mem ((c.tc : Thread Cert.MixerIdeal.nD Cert.MixerIdeal.τ).loc Cert.MixerIdeal.main_arg16) = m ((c.tc : Thread Cert.MixerIdeal.nD Cert.MixerIdeal.τ).loc Cert.MixerIdeal.main_arg16)
      ∧ r.2.mem ((c.tc : Thread Cert.MixerIdeal.nD Cert.MixerIdeal.τ).loc Cert.MixerIdeal.main_arg17) = m ((c.tc : Thread Cert.MixerIdeal.nD Cert.MixerIdeal.τ).loc Cert.MixerIdeal.main_arg17)
      ∧ r.2.mem ((c.tc : Thread Cert.MixerIdeal.nD Cert.MixerIdeal.τ).loc Cert.MixerIdeal.main_arg18) = m ((c.tc : Thread Cert.MixerIdeal.nD Cert.MixerIdeal.τ).loc Cert.MixerIdeal.main_arg18)
      ∧ r.2.mem ((c.tc : Thread Cert.MixerIdeal.nD Cert.MixerIdeal.τ).loc Cert.MixerIdeal.main_arg19) = m ((c.tc : Thread Cert.MixerIdeal.nD Cert.MixerIdeal.τ).loc Cert.MixerIdeal.main_arg19))
      ∧ r.2.sem = fun _ => 0)

def quiescent_MixerIdeal_pre_attention_pre [hMixerIdeal : Cert.MixerIdeal.Facts] [hPre_attention_pre : Cert.Pre_attention_pre.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal_attention_pre m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
      ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
      ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11)
      ∧ r.2.mem ((c.tc : Thread Cert.MixerIdeal.nD Cert.MixerIdeal.τ).loc Cert.MixerIdeal.main_arg12) = m ((c.tc : Thread Cert.MixerIdeal.nD Cert.MixerIdeal.τ).loc Cert.MixerIdeal.main_arg12)
      ∧ r.2.mem ((c.tc : Thread Cert.MixerIdeal.nD Cert.MixerIdeal.τ).loc Cert.MixerIdeal.main_arg13) = m ((c.tc : Thread Cert.MixerIdeal.nD Cert.MixerIdeal.τ).loc Cert.MixerIdeal.main_arg13)
      ∧ r.2.mem ((c.tc : Thread Cert.MixerIdeal.nD Cert.MixerIdeal.τ).loc Cert.MixerIdeal.main_arg14) = m ((c.tc : Thread Cert.MixerIdeal.nD Cert.MixerIdeal.τ).loc Cert.MixerIdeal.main_arg14)
      ∧ r.2.mem ((c.tc : Thread Cert.MixerIdeal.nD Cert.MixerIdeal.τ).loc Cert.MixerIdeal.main_arg15) = m ((c.tc : Thread Cert.MixerIdeal.nD Cert.MixerIdeal.τ).loc Cert.MixerIdeal.main_arg15)
      ∧ r.2.mem ((c.tc : Thread Cert.MixerIdeal.nD Cert.MixerIdeal.τ).loc Cert.MixerIdeal.main_arg16) = m ((c.tc : Thread Cert.MixerIdeal.nD Cert.MixerIdeal.τ).loc Cert.MixerIdeal.main_arg16)
      ∧ r.2.mem ((c.tc : Thread Cert.MixerIdeal.nD Cert.MixerIdeal.τ).loc Cert.MixerIdeal.main_arg17) = m ((c.tc : Thread Cert.MixerIdeal.nD Cert.MixerIdeal.τ).loc Cert.MixerIdeal.main_arg17)
      ∧ r.2.mem ((c.tc : Thread Cert.MixerIdeal.nD Cert.MixerIdeal.τ).loc Cert.MixerIdeal.main_arg18) = m ((c.tc : Thread Cert.MixerIdeal.nD Cert.MixerIdeal.τ).loc Cert.MixerIdeal.main_arg18)
      ∧ r.2.mem ((c.tc : Thread Cert.MixerIdeal.nD Cert.MixerIdeal.τ).loc Cert.MixerIdeal.main_arg19) = m ((c.tc : Thread Cert.MixerIdeal.nD Cert.MixerIdeal.τ).loc Cert.MixerIdeal.main_arg19))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
      ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3)
      ∧ r.2.mem ((c.tc : Thread Cert.AttentionIdeal.nD Cert.AttentionIdeal.τ).loc Cert.AttentionIdeal.main_arg4) = m ((c.tc : Thread Cert.AttentionIdeal.nD Cert.AttentionIdeal.τ).loc Cert.AttentionIdeal.main_arg4)
      ∧ r.2.mem ((c.tc : Thread Cert.AttentionIdeal.nD Cert.AttentionIdeal.τ).loc Cert.AttentionIdeal.main_arg5) = m ((c.tc : Thread Cert.AttentionIdeal.nD Cert.AttentionIdeal.τ).loc Cert.AttentionIdeal.main_arg5)
      ∧ r.2.mem ((c.tc : Thread Cert.AttentionIdeal.nD Cert.AttentionIdeal.τ).loc Cert.AttentionIdeal.main_arg6) = m ((c.tc : Thread Cert.AttentionIdeal.nD Cert.AttentionIdeal.τ).loc Cert.AttentionIdeal.main_arg6)
      ∧ r.2.mem ((c.tc : Thread Cert.AttentionIdeal.nD Cert.AttentionIdeal.τ).loc Cert.AttentionIdeal.main_arg7) = m ((c.tc : Thread Cert.AttentionIdeal.nD Cert.AttentionIdeal.τ).loc Cert.AttentionIdeal.main_arg7)
      ∧ r.2.mem ((c.tc : Thread Cert.AttentionIdeal.nD Cert.AttentionIdeal.τ).loc Cert.AttentionIdeal.main_arg8) = m ((c.tc : Thread Cert.AttentionIdeal.nD Cert.AttentionIdeal.τ).loc Cert.AttentionIdeal.main_arg8)
      ∧ r.2.mem ((c.tc : Thread Cert.AttentionIdeal.nD Cert.AttentionIdeal.τ).loc Cert.AttentionIdeal.main_arg9) = m ((c.tc : Thread Cert.AttentionIdeal.nD Cert.AttentionIdeal.τ).loc Cert.AttentionIdeal.main_arg9)
      ∧ r.2.mem ((c.tc : Thread Cert.AttentionIdeal.nD Cert.AttentionIdeal.τ).loc Cert.AttentionIdeal.main_arg10) = m ((c.tc : Thread Cert.AttentionIdeal.nD Cert.AttentionIdeal.τ).loc Cert.AttentionIdeal.main_arg10)
      ∧ r.2.mem ((c.tc : Thread Cert.AttentionIdeal.nD Cert.AttentionIdeal.τ).loc Cert.AttentionIdeal.main_arg11) = m ((c.tc : Thread Cert.AttentionIdeal.nD Cert.AttentionIdeal.τ).loc Cert.AttentionIdeal.main_arg11)
      ∧ r.2.mem ((c.tc : Thread Cert.AttentionIdeal.nD Cert.AttentionIdeal.τ).loc Cert.AttentionIdeal.main_arg12) = m ((c.tc : Thread Cert.AttentionIdeal.nD Cert.AttentionIdeal.τ).loc Cert.AttentionIdeal.main_arg12)
      ∧ r.2.mem ((c.tc : Thread Cert.AttentionIdeal.nD Cert.AttentionIdeal.τ).loc Cert.AttentionIdeal.main_arg13) = m ((c.tc : Thread Cert.AttentionIdeal.nD Cert.AttentionIdeal.τ).loc Cert.AttentionIdeal.main_arg13)
      ∧ r.2.mem ((c.tc : Thread Cert.AttentionIdeal.nD Cert.AttentionIdeal.τ).loc Cert.AttentionIdeal.main_arg14) = m ((c.tc : Thread Cert.AttentionIdeal.nD Cert.AttentionIdeal.τ).loc Cert.AttentionIdeal.main_arg14)
      ∧ r.2.mem ((c.tc : Thread Cert.AttentionIdeal.nD Cert.AttentionIdeal.τ).loc Cert.AttentionIdeal.main_arg15) = m ((c.tc : Thread Cert.AttentionIdeal.nD Cert.AttentionIdeal.τ).loc Cert.AttentionIdeal.main_arg15)
      ∧ r.2.mem ((c.tc : Thread Cert.AttentionIdeal.nD Cert.AttentionIdeal.τ).loc Cert.AttentionIdeal.main_arg16) = m ((c.tc : Thread Cert.AttentionIdeal.nD Cert.AttentionIdeal.τ).loc Cert.AttentionIdeal.main_arg16)
      ∧ r.2.mem ((c.tc : Thread Cert.AttentionIdeal.nD Cert.AttentionIdeal.τ).loc Cert.AttentionIdeal.main_arg17) = m ((c.tc : Thread Cert.AttentionIdeal.nD Cert.AttentionIdeal.τ).loc Cert.AttentionIdeal.main_arg17)
      ∧ r.2.mem ((c.tc : Thread Cert.AttentionIdeal.nD Cert.AttentionIdeal.τ).loc Cert.AttentionIdeal.main_arg18) = m ((c.tc : Thread Cert.AttentionIdeal.nD Cert.AttentionIdeal.τ).loc Cert.AttentionIdeal.main_arg18)
      ∧ r.2.mem ((c.tc : Thread Cert.AttentionIdeal.nD Cert.AttentionIdeal.τ).loc Cert.AttentionIdeal.main_arg19) = m ((c.tc : Thread Cert.AttentionIdeal.nD Cert.AttentionIdeal.τ).loc Cert.AttentionIdeal.main_arg19))
      ∧ r.2.sem = fun _ => 0)

def quiescent_AttentionIdeal_pre_attention_pre [hAttentionIdeal : Cert.AttentionIdeal.Facts] [hPre_attention_pre : Cert.Pre_attention_pre.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal_attention_pre m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
      ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3)
      ∧ r.2.mem ((c.tc : Thread Cert.AttentionIdeal.nD Cert.AttentionIdeal.τ).loc Cert.AttentionIdeal.main_arg4) = m ((c.tc : Thread Cert.AttentionIdeal.nD Cert.AttentionIdeal.τ).loc Cert.AttentionIdeal.main_arg4)
      ∧ r.2.mem ((c.tc : Thread Cert.AttentionIdeal.nD Cert.AttentionIdeal.τ).loc Cert.AttentionIdeal.main_arg5) = m ((c.tc : Thread Cert.AttentionIdeal.nD Cert.AttentionIdeal.τ).loc Cert.AttentionIdeal.main_arg5)
      ∧ r.2.mem ((c.tc : Thread Cert.AttentionIdeal.nD Cert.AttentionIdeal.τ).loc Cert.AttentionIdeal.main_arg6) = m ((c.tc : Thread Cert.AttentionIdeal.nD Cert.AttentionIdeal.τ).loc Cert.AttentionIdeal.main_arg6)
      ∧ r.2.mem ((c.tc : Thread Cert.AttentionIdeal.nD Cert.AttentionIdeal.τ).loc Cert.AttentionIdeal.main_arg7) = m ((c.tc : Thread Cert.AttentionIdeal.nD Cert.AttentionIdeal.τ).loc Cert.AttentionIdeal.main_arg7)
      ∧ r.2.mem ((c.tc : Thread Cert.AttentionIdeal.nD Cert.AttentionIdeal.τ).loc Cert.AttentionIdeal.main_arg8) = m ((c.tc : Thread Cert.AttentionIdeal.nD Cert.AttentionIdeal.τ).loc Cert.AttentionIdeal.main_arg8)
      ∧ r.2.mem ((c.tc : Thread Cert.AttentionIdeal.nD Cert.AttentionIdeal.τ).loc Cert.AttentionIdeal.main_arg9) = m ((c.tc : Thread Cert.AttentionIdeal.nD Cert.AttentionIdeal.τ).loc Cert.AttentionIdeal.main_arg9)
      ∧ r.2.mem ((c.tc : Thread Cert.AttentionIdeal.nD Cert.AttentionIdeal.τ).loc Cert.AttentionIdeal.main_arg10) = m ((c.tc : Thread Cert.AttentionIdeal.nD Cert.AttentionIdeal.τ).loc Cert.AttentionIdeal.main_arg10)
      ∧ r.2.mem ((c.tc : Thread Cert.AttentionIdeal.nD Cert.AttentionIdeal.τ).loc Cert.AttentionIdeal.main_arg11) = m ((c.tc : Thread Cert.AttentionIdeal.nD Cert.AttentionIdeal.τ).loc Cert.AttentionIdeal.main_arg11)
      ∧ r.2.mem ((c.tc : Thread Cert.AttentionIdeal.nD Cert.AttentionIdeal.τ).loc Cert.AttentionIdeal.main_arg12) = m ((c.tc : Thread Cert.AttentionIdeal.nD Cert.AttentionIdeal.τ).loc Cert.AttentionIdeal.main_arg12)
      ∧ r.2.mem ((c.tc : Thread Cert.AttentionIdeal.nD Cert.AttentionIdeal.τ).loc Cert.AttentionIdeal.main_arg13) = m ((c.tc : Thread Cert.AttentionIdeal.nD Cert.AttentionIdeal.τ).loc Cert.AttentionIdeal.main_arg13)
      ∧ r.2.mem ((c.tc : Thread Cert.AttentionIdeal.nD Cert.AttentionIdeal.τ).loc Cert.AttentionIdeal.main_arg14) = m ((c.tc : Thread Cert.AttentionIdeal.nD Cert.AttentionIdeal.τ).loc Cert.AttentionIdeal.main_arg14)
      ∧ r.2.mem ((c.tc : Thread Cert.AttentionIdeal.nD Cert.AttentionIdeal.τ).loc Cert.AttentionIdeal.main_arg15) = m ((c.tc : Thread Cert.AttentionIdeal.nD Cert.AttentionIdeal.τ).loc Cert.AttentionIdeal.main_arg15)
      ∧ r.2.mem ((c.tc : Thread Cert.AttentionIdeal.nD Cert.AttentionIdeal.τ).loc Cert.AttentionIdeal.main_arg16) = m ((c.tc : Thread Cert.AttentionIdeal.nD Cert.AttentionIdeal.τ).loc Cert.AttentionIdeal.main_arg16)
      ∧ r.2.mem ((c.tc : Thread Cert.AttentionIdeal.nD Cert.AttentionIdeal.τ).loc Cert.AttentionIdeal.main_arg17) = m ((c.tc : Thread Cert.AttentionIdeal.nD Cert.AttentionIdeal.τ).loc Cert.AttentionIdeal.main_arg17)
      ∧ r.2.mem ((c.tc : Thread Cert.AttentionIdeal.nD Cert.AttentionIdeal.τ).loc Cert.AttentionIdeal.main_arg18) = m ((c.tc : Thread Cert.AttentionIdeal.nD Cert.AttentionIdeal.τ).loc Cert.AttentionIdeal.main_arg18)
      ∧ r.2.mem ((c.tc : Thread Cert.AttentionIdeal.nD Cert.AttentionIdeal.τ).loc Cert.AttentionIdeal.main_arg19) = m ((c.tc : Thread Cert.AttentionIdeal.nD Cert.AttentionIdeal.τ).loc Cert.AttentionIdeal.main_arg19))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4)
      ∧ r.2.mem ((c.tc : Thread Cert.Outproj.nD Cert.Outproj.τ).loc Cert.Outproj.main_arg5) = m ((c.tc : Thread Cert.Outproj.nD Cert.Outproj.τ).loc Cert.Outproj.main_arg5)
      ∧ r.2.mem ((c.tc : Thread Cert.Outproj.nD Cert.Outproj.τ).loc Cert.Outproj.main_arg6) = m ((c.tc : Thread Cert.Outproj.nD Cert.Outproj.τ).loc Cert.Outproj.main_arg6))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
      ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
      ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6))
      ∧ r.2.sem = fun _ => 0)

def quiescent_OutprojReferenceIdeal [hOutprojReferenceIdeal : Cert.OutprojReferenceIdeal.Facts] : Prop :=
  ∀ (m : (ℓ : Loc Cert.OutprojReferenceIdeal.nD Cert.OutprojReferenceIdeal.τ Cert.OutprojReferenceIdeal.sig) → Buf (Elt Ideal) ℓ) (g : Dev Cert.OutprojReferenceIdeal.nD → PrngReg), Pre_OutprojReferenceIdeal m →
    θ_run (Cert.OutprojReferenceIdeal.defs (F := Ideal)) (onTc (τ := Cert.OutprojReferenceIdeal.τ) (Cert.OutprojReferenceIdeal.main (F := Ideal))) ⟨m, fun _ => 0, g⟩ (fun r => (∀ c : Dev Cert.OutprojReferenceIdeal.nD,
      r.2.mem ((c.tc : Thread Cert.OutprojReferenceIdeal.nD Cert.OutprojReferenceIdeal.τ).loc Cert.OutprojReferenceIdeal.main_arg0) = m ((c.tc : Thread Cert.OutprojReferenceIdeal.nD Cert.OutprojReferenceIdeal.τ).loc Cert.OutprojReferenceIdeal.main_arg0)
      ∧ r.2.mem ((c.tc : Thread Cert.OutprojReferenceIdeal.nD Cert.OutprojReferenceIdeal.τ).loc Cert.OutprojReferenceIdeal.main_arg1) = m ((c.tc : Thread Cert.OutprojReferenceIdeal.nD Cert.OutprojReferenceIdeal.τ).loc Cert.OutprojReferenceIdeal.main_arg1)
      ∧ r.2.mem ((c.tc : Thread Cert.OutprojReferenceIdeal.nD Cert.OutprojReferenceIdeal.τ).loc Cert.OutprojReferenceIdeal.main_arg2) = m ((c.tc : Thread Cert.OutprojReferenceIdeal.nD Cert.OutprojReferenceIdeal.τ).loc Cert.OutprojReferenceIdeal.main_arg2)
      ∧ r.2.mem ((c.tc : Thread Cert.OutprojReferenceIdeal.nD Cert.OutprojReferenceIdeal.τ).loc Cert.OutprojReferenceIdeal.main_arg3) = m ((c.tc : Thread Cert.OutprojReferenceIdeal.nD Cert.OutprojReferenceIdeal.τ).loc Cert.OutprojReferenceIdeal.main_arg3)
      ∧ r.2.mem ((c.tc : Thread Cert.OutprojReferenceIdeal.nD Cert.OutprojReferenceIdeal.τ).loc Cert.OutprojReferenceIdeal.main_arg4) = m ((c.tc : Thread Cert.OutprojReferenceIdeal.nD Cert.OutprojReferenceIdeal.τ).loc Cert.OutprojReferenceIdeal.main_arg4)
      ∧ r.2.mem ((c.tc : Thread Cert.OutprojReferenceIdeal.nD Cert.OutprojReferenceIdeal.τ).loc Cert.OutprojReferenceIdeal.main_arg5) = m ((c.tc : Thread Cert.OutprojReferenceIdeal.nD Cert.OutprojReferenceIdeal.τ).loc Cert.OutprojReferenceIdeal.main_arg5)
      ∧ r.2.mem ((c.tc : Thread Cert.OutprojReferenceIdeal.nD Cert.OutprojReferenceIdeal.τ).loc Cert.OutprojReferenceIdeal.main_arg6) = m ((c.tc : Thread Cert.OutprojReferenceIdeal.nD Cert.OutprojReferenceIdeal.τ).loc Cert.OutprojReferenceIdeal.main_arg6))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3)
      ∧ r.2.mem ((c.tc : Thread Cert.InprojReferenceIdeal.nD Cert.InprojReferenceIdeal.τ).loc Cert.InprojReferenceIdeal.main_arg4) = m ((c.tc : Thread Cert.InprojReferenceIdeal.nD Cert.InprojReferenceIdeal.τ).loc Cert.InprojReferenceIdeal.main_arg4)
      ∧ r.2.mem ((c.tc : Thread Cert.InprojReferenceIdeal.nD Cert.InprojReferenceIdeal.τ).loc Cert.InprojReferenceIdeal.main_arg5) = m ((c.tc : Thread Cert.InprojReferenceIdeal.nD Cert.InprojReferenceIdeal.τ).loc Cert.InprojReferenceIdeal.main_arg5))
      ∧ r.2.sem = fun _ => 0)

def preserves_Mixer_MixerIdeal : Prop :=
  IdealRules.named_const.Statement Cert.MixerIdeal.κ "log2e" .f32 0x3FB8AA3B#32 (((Real.log 2)⁻¹ : ℝ) : EReal)
  ∧ IdealRules.named_const.Statement Cert.MixerIdeal.κ "mask" .f32 0xF191ACCB#32 ⊥

def algebraic_MixerIdeal_AttentionIdeal_pre_attention_pre [hMixerIdeal : Cert.MixerIdeal.Facts] [hAttentionIdeal : Cert.AttentionIdeal.Facts] [hPre_attention_pre : Cert.Pre_attention_pre.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.AttentionIdeal.nD Cert.AttentionIdeal.τ Cert.AttentionIdeal.sig) → Buf (Elt Ideal) ℓ) (g' : Dev Cert.AttentionIdeal.nD → PrngReg), Pre_MixerIdeal_attention_pre m →
    (∀ c : Dev Cert.MixerIdeal.nD,
      m' ((c.tc : Thread Cert.AttentionIdeal.nD Cert.AttentionIdeal.τ).loc Cert.AttentionIdeal.main_arg0) = m ((c.tc : Thread Cert.MixerIdeal.nD Cert.MixerIdeal.τ).loc Cert.MixerIdeal.main_arg0)
      ∧ m' ((c.tc : Thread Cert.AttentionIdeal.nD Cert.AttentionIdeal.τ).loc Cert.AttentionIdeal.main_arg1) = m ((c.tc : Thread Cert.MixerIdeal.nD Cert.MixerIdeal.τ).loc Cert.MixerIdeal.main_arg1)
      ∧ m' ((c.tc : Thread Cert.AttentionIdeal.nD Cert.AttentionIdeal.τ).loc Cert.AttentionIdeal.main_arg2) = m ((c.tc : Thread Cert.MixerIdeal.nD Cert.MixerIdeal.τ).loc Cert.MixerIdeal.main_arg2)
      ∧ m' ((c.tc : Thread Cert.AttentionIdeal.nD Cert.AttentionIdeal.τ).loc Cert.AttentionIdeal.main_arg3) = m ((c.tc : Thread Cert.MixerIdeal.nD Cert.MixerIdeal.τ).loc Cert.MixerIdeal.main_arg3)
      ∧ m' ((c.tc : Thread Cert.AttentionIdeal.nD Cert.AttentionIdeal.τ).loc Cert.AttentionIdeal.main_arg4) = m ((c.tc : Thread Cert.MixerIdeal.nD Cert.MixerIdeal.τ).loc Cert.MixerIdeal.main_arg4)
      ∧ m' ((c.tc : Thread Cert.AttentionIdeal.nD Cert.AttentionIdeal.τ).loc Cert.AttentionIdeal.main_arg5) = m ((c.tc : Thread Cert.MixerIdeal.nD Cert.MixerIdeal.τ).loc Cert.MixerIdeal.main_arg5)
      ∧ m' ((c.tc : Thread Cert.AttentionIdeal.nD Cert.AttentionIdeal.τ).loc Cert.AttentionIdeal.main_arg6) = m ((c.tc : Thread Cert.MixerIdeal.nD Cert.MixerIdeal.τ).loc Cert.MixerIdeal.main_arg6)
      ∧ m' ((c.tc : Thread Cert.AttentionIdeal.nD Cert.AttentionIdeal.τ).loc Cert.AttentionIdeal.main_arg7) = m ((c.tc : Thread Cert.MixerIdeal.nD Cert.MixerIdeal.τ).loc Cert.MixerIdeal.main_arg7)
      ∧ m' ((c.tc : Thread Cert.AttentionIdeal.nD Cert.AttentionIdeal.τ).loc Cert.AttentionIdeal.main_arg8) = m ((c.tc : Thread Cert.MixerIdeal.nD Cert.MixerIdeal.τ).loc Cert.MixerIdeal.main_arg8)
      ∧ m' ((c.tc : Thread Cert.AttentionIdeal.nD Cert.AttentionIdeal.τ).loc Cert.AttentionIdeal.main_arg9) = m ((c.tc : Thread Cert.MixerIdeal.nD Cert.MixerIdeal.τ).loc Cert.MixerIdeal.main_arg9)
      ∧ m' ((c.tc : Thread Cert.AttentionIdeal.nD Cert.AttentionIdeal.τ).loc Cert.AttentionIdeal.main_arg10) = m ((c.tc : Thread Cert.MixerIdeal.nD Cert.MixerIdeal.τ).loc Cert.MixerIdeal.main_arg10)
      ∧ m' ((c.tc : Thread Cert.AttentionIdeal.nD Cert.AttentionIdeal.τ).loc Cert.AttentionIdeal.main_arg11) = m ((c.tc : Thread Cert.MixerIdeal.nD Cert.MixerIdeal.τ).loc Cert.MixerIdeal.main_arg11)
      ∧ m' ((c.tc : Thread Cert.AttentionIdeal.nD Cert.AttentionIdeal.τ).loc Cert.AttentionIdeal.main_arg12) = m ((c.tc : Thread Cert.MixerIdeal.nD Cert.MixerIdeal.τ).loc Cert.MixerIdeal.main_arg12)
      ∧ m' ((c.tc : Thread Cert.AttentionIdeal.nD Cert.AttentionIdeal.τ).loc Cert.AttentionIdeal.main_arg13) = m ((c.tc : Thread Cert.MixerIdeal.nD Cert.MixerIdeal.τ).loc Cert.MixerIdeal.main_arg13)
      ∧ m' ((c.tc : Thread Cert.AttentionIdeal.nD Cert.AttentionIdeal.τ).loc Cert.AttentionIdeal.main_arg14) = m ((c.tc : Thread Cert.MixerIdeal.nD Cert.MixerIdeal.τ).loc Cert.MixerIdeal.main_arg14)
      ∧ m' ((c.tc : Thread Cert.AttentionIdeal.nD Cert.AttentionIdeal.τ).loc Cert.AttentionIdeal.main_arg15) = m ((c.tc : Thread Cert.MixerIdeal.nD Cert.MixerIdeal.τ).loc Cert.MixerIdeal.main_arg15)
      ∧ m' ((c.tc : Thread Cert.AttentionIdeal.nD Cert.AttentionIdeal.τ).loc Cert.AttentionIdeal.main_arg16) = m ((c.tc : Thread Cert.MixerIdeal.nD Cert.MixerIdeal.τ).loc Cert.MixerIdeal.main_arg16)
      ∧ m' ((c.tc : Thread Cert.AttentionIdeal.nD Cert.AttentionIdeal.τ).loc Cert.AttentionIdeal.main_arg17) = m ((c.tc : Thread Cert.MixerIdeal.nD Cert.MixerIdeal.τ).loc Cert.MixerIdeal.main_arg17)
      ∧ m' ((c.tc : Thread Cert.AttentionIdeal.nD Cert.AttentionIdeal.τ).loc Cert.AttentionIdeal.main_arg18) = m ((c.tc : Thread Cert.MixerIdeal.nD Cert.MixerIdeal.τ).loc Cert.MixerIdeal.main_arg18)
      ∧ m' ((c.tc : Thread Cert.AttentionIdeal.nD Cert.AttentionIdeal.τ).loc Cert.AttentionIdeal.main_arg19) = m ((c.tc : Thread Cert.MixerIdeal.nD Cert.MixerIdeal.τ).loc Cert.MixerIdeal.main_arg19)) →
    ∃ (v0 : (c : Dev Cert.MixerIdeal.nD) → Buf (Elt Ideal) ((c.tc : Thread Cert.MixerIdeal.nD Cert.MixerIdeal.τ).loc Cert.MixerIdeal.main_v0_0)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v0_0) = v0 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
          ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
          ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
          ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
          ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
          ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
          ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
          ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11)
          ∧ r.2.mem ((c.tc : Thread Cert.MixerIdeal.nD Cert.MixerIdeal.τ).loc Cert.MixerIdeal.main_arg12) = m ((c.tc : Thread Cert.MixerIdeal.nD Cert.MixerIdeal.τ).loc Cert.MixerIdeal.main_arg12)
          ∧ r.2.mem ((c.tc : Thread Cert.MixerIdeal.nD Cert.MixerIdeal.τ).loc Cert.MixerIdeal.main_arg13) = m ((c.tc : Thread Cert.MixerIdeal.nD Cert.MixerIdeal.τ).loc Cert.MixerIdeal.main_arg13)
          ∧ r.2.mem ((c.tc : Thread Cert.MixerIdeal.nD Cert.MixerIdeal.τ).loc Cert.MixerIdeal.main_arg14) = m ((c.tc : Thread Cert.MixerIdeal.nD Cert.MixerIdeal.τ).loc Cert.MixerIdeal.main_arg14)
          ∧ r.2.mem ((c.tc : Thread Cert.MixerIdeal.nD Cert.MixerIdeal.τ).loc Cert.MixerIdeal.main_arg15) = m ((c.tc : Thread Cert.MixerIdeal.nD Cert.MixerIdeal.τ).loc Cert.MixerIdeal.main_arg15)
          ∧ r.2.mem ((c.tc : Thread Cert.MixerIdeal.nD Cert.MixerIdeal.τ).loc Cert.MixerIdeal.main_arg16) = m ((c.tc : Thread Cert.MixerIdeal.nD Cert.MixerIdeal.τ).loc Cert.MixerIdeal.main_arg16)
          ∧ r.2.mem ((c.tc : Thread Cert.MixerIdeal.nD Cert.MixerIdeal.τ).loc Cert.MixerIdeal.main_arg17) = m ((c.tc : Thread Cert.MixerIdeal.nD Cert.MixerIdeal.τ).loc Cert.MixerIdeal.main_arg17)
          ∧ r.2.mem ((c.tc : Thread Cert.MixerIdeal.nD Cert.MixerIdeal.τ).loc Cert.MixerIdeal.main_arg18) = m ((c.tc : Thread Cert.MixerIdeal.nD Cert.MixerIdeal.τ).loc Cert.MixerIdeal.main_arg18)
          ∧ r.2.mem ((c.tc : Thread Cert.MixerIdeal.nD Cert.MixerIdeal.τ).loc Cert.MixerIdeal.main_arg19) = m ((c.tc : Thread Cert.MixerIdeal.nD Cert.MixerIdeal.τ).loc Cert.MixerIdeal.main_arg19))
      ∧ θ_run (Cert.AttentionIdeal.defs (F := Ideal)) (onTc (τ := Cert.AttentionIdeal.τ) (Cert.AttentionIdeal.main (F := Ideal))) ⟨m', fun _ => 0, g'⟩ (fun r => ∀ c : Dev Cert.AttentionIdeal.nD,
          r.2.mem ((c.tc : Thread Cert.AttentionIdeal.nD Cert.AttentionIdeal.τ).loc Cert.AttentionIdeal.main_v120) = v0 c
          ∧ r.2.mem ((c.tc : Thread Cert.AttentionIdeal.nD Cert.AttentionIdeal.τ).loc Cert.AttentionIdeal.main_arg0) = m' ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m' ((c.tc : Thread Cert.AttentionIdeal.nD Cert.AttentionIdeal.τ).loc Cert.AttentionIdeal.main_arg1)
          ∧ r.2.mem ((c.tc : Thread Cert.AttentionIdeal.nD Cert.AttentionIdeal.τ).loc Cert.AttentionIdeal.main_arg2) = m' ((c.tc : Thread Cert.AttentionIdeal.nD Cert.AttentionIdeal.τ).loc Cert.AttentionIdeal.main_arg2)
          ∧ r.2.mem ((c.tc : Thread Cert.AttentionIdeal.nD Cert.AttentionIdeal.τ).loc Cert.AttentionIdeal.main_arg3) = m' ((c.tc : Thread Cert.AttentionIdeal.nD Cert.AttentionIdeal.τ).loc Cert.AttentionIdeal.main_arg3)
          ∧ r.2.mem ((c.tc : Thread Cert.AttentionIdeal.nD Cert.AttentionIdeal.τ).loc Cert.AttentionIdeal.main_arg4) = m' ((c.tc : Thread Cert.AttentionIdeal.nD Cert.AttentionIdeal.τ).loc Cert.AttentionIdeal.main_arg4)
          ∧ r.2.mem ((c.tc : Thread Cert.AttentionIdeal.nD Cert.AttentionIdeal.τ).loc Cert.AttentionIdeal.main_arg5) = m' ((c.tc : Thread Cert.AttentionIdeal.nD Cert.AttentionIdeal.τ).loc Cert.AttentionIdeal.main_arg5)
          ∧ r.2.mem ((c.tc : Thread Cert.AttentionIdeal.nD Cert.AttentionIdeal.τ).loc Cert.AttentionIdeal.main_arg6) = m' ((c.tc : Thread Cert.AttentionIdeal.nD Cert.AttentionIdeal.τ).loc Cert.AttentionIdeal.main_arg6)
          ∧ r.2.mem ((c.tc : Thread Cert.AttentionIdeal.nD Cert.AttentionIdeal.τ).loc Cert.AttentionIdeal.main_arg7) = m' ((c.tc : Thread Cert.AttentionIdeal.nD Cert.AttentionIdeal.τ).loc Cert.AttentionIdeal.main_arg7)
          ∧ r.2.mem ((c.tc : Thread Cert.AttentionIdeal.nD Cert.AttentionIdeal.τ).loc Cert.AttentionIdeal.main_arg8) = m' ((c.tc : Thread Cert.AttentionIdeal.nD Cert.AttentionIdeal.τ).loc Cert.AttentionIdeal.main_arg8)
          ∧ r.2.mem ((c.tc : Thread Cert.AttentionIdeal.nD Cert.AttentionIdeal.τ).loc Cert.AttentionIdeal.main_arg9) = m' ((c.tc : Thread Cert.AttentionIdeal.nD Cert.AttentionIdeal.τ).loc Cert.AttentionIdeal.main_arg9)
          ∧ r.2.mem ((c.tc : Thread Cert.AttentionIdeal.nD Cert.AttentionIdeal.τ).loc Cert.AttentionIdeal.main_arg10) = m' ((c.tc : Thread Cert.AttentionIdeal.nD Cert.AttentionIdeal.τ).loc Cert.AttentionIdeal.main_arg10)
          ∧ r.2.mem ((c.tc : Thread Cert.AttentionIdeal.nD Cert.AttentionIdeal.τ).loc Cert.AttentionIdeal.main_arg11) = m' ((c.tc : Thread Cert.AttentionIdeal.nD Cert.AttentionIdeal.τ).loc Cert.AttentionIdeal.main_arg11)
          ∧ r.2.mem ((c.tc : Thread Cert.AttentionIdeal.nD Cert.AttentionIdeal.τ).loc Cert.AttentionIdeal.main_arg12) = m' ((c.tc : Thread Cert.AttentionIdeal.nD Cert.AttentionIdeal.τ).loc Cert.AttentionIdeal.main_arg12)
          ∧ r.2.mem ((c.tc : Thread Cert.AttentionIdeal.nD Cert.AttentionIdeal.τ).loc Cert.AttentionIdeal.main_arg13) = m' ((c.tc : Thread Cert.AttentionIdeal.nD Cert.AttentionIdeal.τ).loc Cert.AttentionIdeal.main_arg13)
          ∧ r.2.mem ((c.tc : Thread Cert.AttentionIdeal.nD Cert.AttentionIdeal.τ).loc Cert.AttentionIdeal.main_arg14) = m' ((c.tc : Thread Cert.AttentionIdeal.nD Cert.AttentionIdeal.τ).loc Cert.AttentionIdeal.main_arg14)
          ∧ r.2.mem ((c.tc : Thread Cert.AttentionIdeal.nD Cert.AttentionIdeal.τ).loc Cert.AttentionIdeal.main_arg15) = m' ((c.tc : Thread Cert.AttentionIdeal.nD Cert.AttentionIdeal.τ).loc Cert.AttentionIdeal.main_arg15)
          ∧ r.2.mem ((c.tc : Thread Cert.AttentionIdeal.nD Cert.AttentionIdeal.τ).loc Cert.AttentionIdeal.main_arg16) = m' ((c.tc : Thread Cert.AttentionIdeal.nD Cert.AttentionIdeal.τ).loc Cert.AttentionIdeal.main_arg16)
          ∧ r.2.mem ((c.tc : Thread Cert.AttentionIdeal.nD Cert.AttentionIdeal.τ).loc Cert.AttentionIdeal.main_arg17) = m' ((c.tc : Thread Cert.AttentionIdeal.nD Cert.AttentionIdeal.τ).loc Cert.AttentionIdeal.main_arg17)
          ∧ r.2.mem ((c.tc : Thread Cert.AttentionIdeal.nD Cert.AttentionIdeal.τ).loc Cert.AttentionIdeal.main_arg18) = m' ((c.tc : Thread Cert.AttentionIdeal.nD Cert.AttentionIdeal.τ).loc Cert.AttentionIdeal.main_arg18)
          ∧ r.2.mem ((c.tc : Thread Cert.AttentionIdeal.nD Cert.AttentionIdeal.τ).loc Cert.AttentionIdeal.main_arg19) = m' ((c.tc : Thread Cert.AttentionIdeal.nD Cert.AttentionIdeal.τ).loc Cert.AttentionIdeal.main_arg19))

def preserves_Mlp_MlpIdeal : Prop :=
  True

def algebraic_MlpIdeal_MlpReferenceIdeal [hMlpIdeal : Cert.MlpIdeal.Facts] [hMlpReferenceIdeal : Cert.MlpReferenceIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)
      ∧ m' ((c.tc : Thread Cert.MlpReferenceIdeal.nD Cert.MlpReferenceIdeal.τ).loc Cert.MlpReferenceIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v0)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v0) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v19) = v0 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4))

def preserves_Outproj_OutprojIdeal : Prop :=
  True

def algebraic_OutprojIdeal_OutprojReferenceIdeal [hOutprojIdeal : Cert.OutprojIdeal.Facts] [hOutprojReferenceIdeal : Cert.OutprojReferenceIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojReferenceIdeal.nD Cert.OutprojReferenceIdeal.τ Cert.OutprojReferenceIdeal.sig) → Buf (Elt Ideal) ℓ) (g' : Dev Cert.OutprojReferenceIdeal.nD → PrngReg), Pre_OutprojIdeal m →
    (∀ c : Dev Cert.OutprojIdeal.nD,
      m' ((c.tc : Thread Cert.OutprojReferenceIdeal.nD Cert.OutprojReferenceIdeal.τ).loc Cert.OutprojReferenceIdeal.main_arg0) = m ((c.tc : Thread Cert.OutprojIdeal.nD Cert.OutprojIdeal.τ).loc Cert.OutprojIdeal.main_arg0)
      ∧ m' ((c.tc : Thread Cert.OutprojReferenceIdeal.nD Cert.OutprojReferenceIdeal.τ).loc Cert.OutprojReferenceIdeal.main_arg1) = m ((c.tc : Thread Cert.OutprojIdeal.nD Cert.OutprojIdeal.τ).loc Cert.OutprojIdeal.main_arg1)
      ∧ m' ((c.tc : Thread Cert.OutprojReferenceIdeal.nD Cert.OutprojReferenceIdeal.τ).loc Cert.OutprojReferenceIdeal.main_arg2) = m ((c.tc : Thread Cert.OutprojIdeal.nD Cert.OutprojIdeal.τ).loc Cert.OutprojIdeal.main_arg2)
      ∧ m' ((c.tc : Thread Cert.OutprojReferenceIdeal.nD Cert.OutprojReferenceIdeal.τ).loc Cert.OutprojReferenceIdeal.main_arg3) = m ((c.tc : Thread Cert.OutprojIdeal.nD Cert.OutprojIdeal.τ).loc Cert.OutprojIdeal.main_arg3)
      ∧ m' ((c.tc : Thread Cert.OutprojReferenceIdeal.nD Cert.OutprojReferenceIdeal.τ).loc Cert.OutprojReferenceIdeal.main_arg4) = m ((c.tc : Thread Cert.OutprojIdeal.nD Cert.OutprojIdeal.τ).loc Cert.OutprojIdeal.main_arg4)
      ∧ m' ((c.tc : Thread Cert.OutprojReferenceIdeal.nD Cert.OutprojReferenceIdeal.τ).loc Cert.OutprojReferenceIdeal.main_arg5) = m ((c.tc : Thread Cert.OutprojIdeal.nD Cert.OutprojIdeal.τ).loc Cert.OutprojIdeal.main_arg5)
      ∧ m' ((c.tc : Thread Cert.OutprojReferenceIdeal.nD Cert.OutprojReferenceIdeal.τ).loc Cert.OutprojReferenceIdeal.main_arg6) = m ((c.tc : Thread Cert.OutprojIdeal.nD Cert.OutprojIdeal.τ).loc Cert.OutprojIdeal.main_arg6)) →
    ∃ (v0 : (c : Dev Cert.OutprojIdeal.nD) → Buf (Elt Ideal) ((c.tc : Thread Cert.OutprojIdeal.nD Cert.OutprojIdeal.τ).loc Cert.OutprojIdeal.main_v0_0)) (v1 : (c : Dev Cert.OutprojIdeal.nD) → Buf (Elt Ideal) ((c.tc : Thread Cert.OutprojIdeal.nD Cert.OutprojIdeal.τ).loc Cert.OutprojIdeal.main_v0_1)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v0_0) = v0 c
          ∧ r.2.mem ((c.tc : Thread Cert.OutprojIdeal.nD Cert.OutprojIdeal.τ).loc Cert.OutprojIdeal.main_v0_1) = v1 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
          ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
          ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6))
      ∧ θ_run (Cert.OutprojReferenceIdeal.defs (F := Ideal)) (onTc (τ := Cert.OutprojReferenceIdeal.τ) (Cert.OutprojReferenceIdeal.main (F := Ideal))) ⟨m', fun _ => 0, g'⟩ (fun r => ∀ c : Dev Cert.OutprojReferenceIdeal.nD,
          r.2.mem ((c.tc : Thread Cert.OutprojReferenceIdeal.nD Cert.OutprojReferenceIdeal.τ).loc Cert.OutprojReferenceIdeal.main_v11) = v0 c
          ∧ r.2.mem ((c.tc : Thread Cert.OutprojReferenceIdeal.nD Cert.OutprojReferenceIdeal.τ).loc Cert.OutprojReferenceIdeal.main_v24) = v1 c
          ∧ r.2.mem ((c.tc : Thread Cert.OutprojReferenceIdeal.nD Cert.OutprojReferenceIdeal.τ).loc Cert.OutprojReferenceIdeal.main_arg0) = m' ((c.tc : Thread Cert.OutprojReferenceIdeal.nD Cert.OutprojReferenceIdeal.τ).loc Cert.OutprojReferenceIdeal.main_arg0)
          ∧ r.2.mem ((c.tc : Thread Cert.OutprojReferenceIdeal.nD Cert.OutprojReferenceIdeal.τ).loc Cert.OutprojReferenceIdeal.main_arg1) = m' ((c.tc : Thread Cert.OutprojReferenceIdeal.nD Cert.OutprojReferenceIdeal.τ).loc Cert.OutprojReferenceIdeal.main_arg1)
          ∧ r.2.mem ((c.tc : Thread Cert.OutprojReferenceIdeal.nD Cert.OutprojReferenceIdeal.τ).loc Cert.OutprojReferenceIdeal.main_arg2) = m' ((c.tc : Thread Cert.OutprojReferenceIdeal.nD Cert.OutprojReferenceIdeal.τ).loc Cert.OutprojReferenceIdeal.main_arg2)
          ∧ r.2.mem ((c.tc : Thread Cert.OutprojReferenceIdeal.nD Cert.OutprojReferenceIdeal.τ).loc Cert.OutprojReferenceIdeal.main_arg3) = m' ((c.tc : Thread Cert.OutprojReferenceIdeal.nD Cert.OutprojReferenceIdeal.τ).loc Cert.OutprojReferenceIdeal.main_arg3)
          ∧ r.2.mem ((c.tc : Thread Cert.OutprojReferenceIdeal.nD Cert.OutprojReferenceIdeal.τ).loc Cert.OutprojReferenceIdeal.main_arg4) = m' ((c.tc : Thread Cert.OutprojReferenceIdeal.nD Cert.OutprojReferenceIdeal.τ).loc Cert.OutprojReferenceIdeal.main_arg4)
          ∧ r.2.mem ((c.tc : Thread Cert.OutprojReferenceIdeal.nD Cert.OutprojReferenceIdeal.τ).loc Cert.OutprojReferenceIdeal.main_arg5) = m' ((c.tc : Thread Cert.OutprojReferenceIdeal.nD Cert.OutprojReferenceIdeal.τ).loc Cert.OutprojReferenceIdeal.main_arg5)
          ∧ r.2.mem ((c.tc : Thread Cert.OutprojReferenceIdeal.nD Cert.OutprojReferenceIdeal.τ).loc Cert.OutprojReferenceIdeal.main_arg6) = m' ((c.tc : Thread Cert.OutprojReferenceIdeal.nD Cert.OutprojReferenceIdeal.τ).loc Cert.OutprojReferenceIdeal.main_arg6))

def preserves_Inproj_InprojIdeal : Prop :=
  True

def algebraic_InprojIdeal_InprojReferenceIdeal [hInprojIdeal : Cert.InprojIdeal.Facts] [hInprojReferenceIdeal : Cert.InprojReferenceIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojIdeal m →
    (∀ c : Dev Cert.InprojIdeal.nD,
      m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)
      ∧ m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)
      ∧ m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)
      ∧ m' ((c.tc : Thread Cert.InprojReferenceIdeal.nD Cert.InprojReferenceIdeal.τ).loc Cert.InprojReferenceIdeal.main_arg3) = m ((c.tc : Thread Cert.InprojIdeal.nD Cert.InprojIdeal.τ).loc Cert.InprojIdeal.main_arg3)
      ∧ m' ((c.tc : Thread Cert.InprojReferenceIdeal.nD Cert.InprojReferenceIdeal.τ).loc Cert.InprojReferenceIdeal.main_arg4) = m ((c.tc : Thread Cert.InprojIdeal.nD Cert.InprojIdeal.τ).loc Cert.InprojIdeal.main_arg4)
      ∧ m' ((c.tc : Thread Cert.InprojReferenceIdeal.nD Cert.InprojReferenceIdeal.τ).loc Cert.InprojReferenceIdeal.main_arg5) = m ((c.tc : Thread Cert.InprojIdeal.nD Cert.InprojIdeal.τ).loc Cert.InprojIdeal.main_arg5)) →
    ∃ (v0 : (c : Dev Cert.InprojIdeal.nD) → Buf (Elt Ideal) ((c.tc : Thread Cert.InprojIdeal.nD Cert.InprojIdeal.τ).loc Cert.InprojIdeal.main_v62_0)) (v1 : (c : Dev Cert.InprojIdeal.nD) → Buf (Elt Ideal) ((c.tc : Thread Cert.InprojIdeal.nD Cert.InprojIdeal.τ).loc Cert.InprojIdeal.main_v62_1)) (v2 : (c : Dev Cert.InprojIdeal.nD) → Buf (Elt Ideal) ((c.tc : Thread Cert.InprojIdeal.nD Cert.InprojIdeal.τ).loc Cert.InprojIdeal.main_v62_2)) (v3 : (c : Dev Cert.InprojIdeal.nD) → Buf (Elt Ideal) ((c.tc : Thread Cert.InprojIdeal.nD Cert.InprojIdeal.τ).loc Cert.InprojIdeal.main_v62_3)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v62_0) = v0 c
          ∧ r.2.mem ((c.tc : Thread Cert.InprojIdeal.nD Cert.InprojIdeal.τ).loc Cert.InprojIdeal.main_v62_1) = v1 c
          ∧ r.2.mem ((c.tc : Thread Cert.InprojIdeal.nD Cert.InprojIdeal.τ).loc Cert.InprojIdeal.main_v62_2) = v2 c
          ∧ r.2.mem ((c.tc : Thread Cert.InprojIdeal.nD Cert.InprojIdeal.τ).loc Cert.InprojIdeal.main_v62_3) = v3 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v26) = v0 c
          ∧ r.2.mem ((c.tc : Thread Cert.InprojReferenceIdeal.nD Cert.InprojReferenceIdeal.τ).loc Cert.InprojReferenceIdeal.main_v27) = v1 c
          ∧ r.2.mem ((c.tc : Thread Cert.InprojReferenceIdeal.nD Cert.InprojReferenceIdeal.τ).loc Cert.InprojReferenceIdeal.main_v29) = v2 c
          ∧ r.2.mem ((c.tc : Thread Cert.InprojReferenceIdeal.nD Cert.InprojReferenceIdeal.τ).loc Cert.InprojReferenceIdeal.main_v25) = v3 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2)
          ∧ r.2.mem ((c.tc : Thread Cert.InprojReferenceIdeal.nD Cert.InprojReferenceIdeal.τ).loc Cert.InprojReferenceIdeal.main_arg3) = m' ((c.tc : Thread Cert.InprojReferenceIdeal.nD Cert.InprojReferenceIdeal.τ).loc Cert.InprojReferenceIdeal.main_arg3)
          ∧ r.2.mem ((c.tc : Thread Cert.InprojReferenceIdeal.nD Cert.InprojReferenceIdeal.τ).loc Cert.InprojReferenceIdeal.main_arg4) = m' ((c.tc : Thread Cert.InprojReferenceIdeal.nD Cert.InprojReferenceIdeal.τ).loc Cert.InprojReferenceIdeal.main_arg4)
          ∧ r.2.mem ((c.tc : Thread Cert.InprojReferenceIdeal.nD Cert.InprojReferenceIdeal.τ).loc Cert.InprojReferenceIdeal.main_arg5) = m' ((c.tc : Thread Cert.InprojReferenceIdeal.nD Cert.InprojReferenceIdeal.τ).loc Cert.InprojReferenceIdeal.main_arg5))

def Claim : Prop :=
  ∃ (hMixer : Cert.Mixer.Facts) (hMixerIdeal : Cert.MixerIdeal.Facts) (hAttentionIdeal : Cert.AttentionIdeal.Facts) (hMlp : Cert.Mlp.Facts) (hMlpIdeal : Cert.MlpIdeal.Facts) (hMlpReferenceIdeal : Cert.MlpReferenceIdeal.Facts) (hOutproj : Cert.Outproj.Facts) (hOutprojIdeal : Cert.OutprojIdeal.Facts) (hOutprojReferenceIdeal : Cert.OutprojReferenceIdeal.Facts) (hInproj : Cert.Inproj.Facts) (hInprojIdeal : Cert.InprojIdeal.Facts) (hInprojReferenceIdeal : Cert.InprojReferenceIdeal.Facts) (hPre_attention_pre : Cert.Pre_attention_pre.Facts),
    quiescent_Mixer (hMixer := hMixer)
    ∧ quiescent_MixerIdeal (hMixerIdeal := hMixerIdeal)
    ∧ quiescent_MixerIdeal_pre_attention_pre (hMixerIdeal := hMixerIdeal) (hPre_attention_pre := hPre_attention_pre)
    ∧ quiescent_AttentionIdeal (hAttentionIdeal := hAttentionIdeal)
    ∧ quiescent_AttentionIdeal_pre_attention_pre (hAttentionIdeal := hAttentionIdeal) (hPre_attention_pre := hPre_attention_pre)
    ∧ quiescent_Mlp (hMlp := hMlp)
    ∧ quiescent_MlpIdeal (hMlpIdeal := hMlpIdeal)
    ∧ quiescent_MlpReferenceIdeal (hMlpReferenceIdeal := hMlpReferenceIdeal)
    ∧ quiescent_Outproj (hOutproj := hOutproj)
    ∧ quiescent_OutprojIdeal (hOutprojIdeal := hOutprojIdeal)
    ∧ quiescent_OutprojReferenceIdeal (hOutprojReferenceIdeal := hOutprojReferenceIdeal)
    ∧ quiescent_Inproj (hInproj := hInproj)
    ∧ quiescent_InprojIdeal (hInprojIdeal := hInprojIdeal)
    ∧ quiescent_InprojReferenceIdeal (hInprojReferenceIdeal := hInprojReferenceIdeal)
    ∧ preserves_Mixer_MixerIdeal
    ∧ algebraic_MixerIdeal_AttentionIdeal_pre_attention_pre (hMixerIdeal := hMixerIdeal) (hAttentionIdeal := hAttentionIdeal) (hPre_attention_pre := hPre_attention_pre)
    ∧ preserves_Mlp_MlpIdeal
    ∧ algebraic_MlpIdeal_MlpReferenceIdeal (hMlpIdeal := hMlpIdeal) (hMlpReferenceIdeal := hMlpReferenceIdeal)
    ∧ preserves_Outproj_OutprojIdeal
    ∧ algebraic_OutprojIdeal_OutprojReferenceIdeal (hOutprojIdeal := hOutprojIdeal) (hOutprojReferenceIdeal := hOutprojReferenceIdeal)
    ∧ preserves_Inproj_InprojIdeal
    ∧ algebraic_InprojIdeal_InprojReferenceIdeal (hInprojIdeal := hInprojIdeal) (hInprojReferenceIdeal := hInprojReferenceIdeal)
-- ==== Pre_attention_pre.lean ====
abbrev S16 : Shape := ⟨1, ![16]⟩
abbrev S1280x4096 : Shape := ⟨2, ![1280, 4096]⟩
abbrev S4096x256 : Shape := ⟨2, ![4096, 256]⟩
abbrev S128x256 : Shape := ⟨2, ![128, 256]⟩
abbrev S1280x128 : Shape := ⟨2, ![1280, 128]⟩
abbrev S4x256x512 : Shape := ⟨3, ![4, 256, 512]⟩
abbrev S32x4x16x512 : Shape := ⟨4, ![32, 4, 16, 512]⟩
abbrev S4096x3072 : Shape := ⟨2, ![4096, 3072]⟩
abbrev S4096x128 : Shape := ⟨2, ![4096, 128]⟩
abbrev S1x128 : Shape := ⟨2, ![1, 128]⟩
abbrev S512x256 : Shape := ⟨2, ![512, 256]⟩
abbrev S4x1024 : Shape := ⟨2, ![4, 1024]⟩
abbrev S1x1024 : Shape := ⟨2, ![1, 1024]⟩
abbrev S4x128x256 : Shape := ⟨3, ![4, 128, 256]⟩
abbrev S4x8x128 : Shape := ⟨3, ![4, 8, 128]⟩
abbrev S128x1024 : Shape := ⟨2, ![128, 1024]⟩
abbrev S2048x2048 : Shape := ⟨2, ![2048, 2048]⟩
abbrev S8192x2048 : Shape := ⟨2, ![8192, 2048]⟩
abbrev S_ : Shape := ⟨0, ![]⟩
abbrev S1024x4096 : Shape := ⟨2, ![1024, 4096]⟩
abbrev S16x256 : Shape := ⟨2, ![16, 256]⟩

class Facts : Prop where
  bcast_S_S16 : S_.BroadcastsInDim S16 (![] : Fin 0 → Fin S16.rank)
  reducesTo_S16_S_d0 : S16.ReducesTo [0] S_
  h_S_ : 0 < S_.numel
  slices_S1280x4096_S1024x4096_0_0 : S1280x4096.Slices ![0, 0] S1024x4096
  bitsLt_bf16_f32 : FTy.bits .bf16 < FTy.bits .f32
  bcast_S_S1024x4096 : S_.BroadcastsInDim S1024x4096 (![] : Fin 0 → Fin S1024x4096.rank)
  reducesTo_S1024x4096_S_d0_1 : S1024x4096.ReducesTo [0, 1] S_
  bcast_S_S4096x256 : S_.BroadcastsInDim S4096x256 (![] : Fin 0 → Fin S4096x256.rank)
  reducesTo_S4096x256_S_d0_1 : S4096x256.ReducesTo [0, 1] S_
  slices_S128x256_S16x256_112_0 : S128x256.Slices ![112, 0] S16x256
  bcast_S_S16x256 : S_.BroadcastsInDim S16x256 (![] : Fin 0 → Fin S16x256.rank)
  reducesTo_S16x256_S_d0_1 : S16x256.ReducesTo [0, 1] S_
  bcast_S_S4x256x512 : S_.BroadcastsInDim S4x256x512 (![] : Fin 0 → Fin S4x256x512.rank)
  reducesTo_S4x256x512_S_d0_1_2 : S4x256x512.ReducesTo [0, 1, 2] S_
  bcast_S_S32x4x16x512 : S_.BroadcastsInDim S32x4x16x512 (![] : Fin 0 → Fin S32x4x16x512.rank)
  reducesTo_S32x4x16x512_S_d0_1_2_3 : S32x4x16x512.ReducesTo [0, 1, 2, 3] S_

variable [Facts]

def fn_part1 {F : FTy → Type} [FloatOps F] (main_arg5 : FVec F S4x256x512 .f32) (main_arg6 : FVec F S32x4x16x512 .f32) (main_v16 : IVec S_ 1) (main_v17 : FVec F S16x256 .bf16) : IVec S_ 1 :=
  let main_v18 : FVec F S16x256 .f32 := (extf .f32 · bitsLt_bf16_f32) main_v17
  let main_v19 : FVec F S16x256 .f32 := Host.absf main_v18
  let main_cst_4 : FVec F S_ .f32 := constant S_ .f32 0x7F800000#32
  let main_v20 : FVec F S16x256 .f32 := broadcastInDim S16x256 ![] bcast_S_S16x256 main_cst_4
  let main_v21 : IVec S16x256 1 := cmpf .olt main_v19 main_v20
  let main_c_5 : IVec S_ 1 := constantI S_ 1 1#1
  let main_v22 : IVec S_ 1 := (fun x v => Host.reduce IntOp.andi x v reducesTo_S16x256_S_d0_1 h_S_) main_v21 main_c_5
  let main_v23 : IVec S_ 1 := andi main_v16 main_v22
  let main_v24 : FVec F S4x256x512 .f32 := Host.absf main_arg5
  let main_cst_6 : FVec F S_ .f32 := constant S_ .f32 0x7F800000#32
  let main_v25 : FVec F S4x256x512 .f32 := broadcastInDim S4x256x512 ![] bcast_S_S4x256x512 main_cst_6
  let main_v26 : IVec S4x256x512 1 := cmpf .olt main_v24 main_v25
  let main_c_7 : IVec S_ 1 := constantI S_ 1 1#1
  let main_v27 : IVec S_ 1 := (fun x v => Host.reduce IntOp.andi x v reducesTo_S4x256x512_S_d0_1_2 h_S_) main_v26 main_c_7
  let main_v28 : IVec S_ 1 := andi main_v23 main_v27
  let main_v29 : FVec F S32x4x16x512 .f32 := Host.absf main_arg6
  let main_cst_8 : FVec F S_ .f32 := constant S_ .f32 0x7F800000#32
  let main_v30 : FVec F S32x4x16x512 .f32 := broadcastInDim S32x4x16x512 ![] bcast_S_S32x4x16x512 main_cst_8
  let main_v31 : IVec S32x4x16x512 1 := cmpf .olt main_v29 main_v30
  let main_c_9 : IVec S_ 1 := constantI S_ 1 1#1
  let main_v32 : IVec S_ 1 := (fun x v => Host.reduce IntOp.andi x v reducesTo_S32x4x16x512_S_d0_1_2_3 h_S_) main_v31 main_c_9
  let main_v33 : IVec S_ 1 := andi main_v28 main_v32
  main_v33

def fn {F : FTy → Type} [FloatOps F] (main_arg0 : FVec F S16 .f32) (main_arg1 : FVec F S1280x4096 .bf16) (main_arg2 : FVec F S4096x256 .bf16) (main_arg3 : FVec F S128x256 .bf16) (main_arg4 : FVec F S1280x128 .bf16) (main_arg5 : FVec F S4x256x512 .f32) (main_arg6 : FVec F S32x4x16x512 .f32) (main_arg7 : FVec F S4096x3072 .bf16) (main_arg8 : FVec F S4096x128 .f32) (main_arg9 : FVec F S1x128 .f32) (main_arg10 : FVec F S512x256 .bf16) (main_arg11 : FVec F S4x1024 .f32) (main_arg12 : FVec F S1x1024 .f32) (main_arg13 : FVec F S1x1024 .f32) (main_arg14 : FVec F S4x128x256 .f32) (main_arg15 : FVec F S4x8x128 .f32) (main_arg16 : FVec F S4x8x128 .f32) (main_arg17 : FVec F S128x1024 .bf16) (main_arg18 : FVec F S2048x2048 .f32) (main_arg19 : FVec F S8192x2048 .f32) : IVec S_ 1 :=
  let main_v0 : FVec F S16 .f32 := Host.absf main_arg0
  let main_cst : FVec F S_ .f32 := constant S_ .f32 0x7F800000#32
  let main_v1 : FVec F S16 .f32 := broadcastInDim S16 ![] bcast_S_S16 main_cst
  let main_v2 : IVec S16 1 := cmpf .olt main_v0 main_v1
  let main_c : IVec S_ 1 := constantI S_ 1 1#1
  let main_v3 : IVec S_ 1 := (fun x v => Host.reduce IntOp.andi x v reducesTo_S16_S_d0 h_S_) main_v2 main_c
  let main_v4 : FVec F S1024x4096 .bf16 := (extractStridedSlice S1024x4096 ![0, 0] · slices_S1280x4096_S1024x4096_0_0) main_arg1
  let main_v5 : FVec F S1024x4096 .f32 := (extf .f32 · bitsLt_bf16_f32) main_v4
  let main_v6 : FVec F S1024x4096 .f32 := Host.absf main_v5
  let main_cst_0 : FVec F S_ .f32 := constant S_ .f32 0x7F800000#32
  let main_v7 : FVec F S1024x4096 .f32 := broadcastInDim S1024x4096 ![] bcast_S_S1024x4096 main_cst_0
  let main_v8 : IVec S1024x4096 1 := cmpf .olt main_v6 main_v7
  let main_c_1 : IVec S_ 1 := constantI S_ 1 1#1
  let main_v9 : IVec S_ 1 := (fun x v => Host.reduce IntOp.andi x v reducesTo_S1024x4096_S_d0_1 h_S_) main_v8 main_c_1
  let main_v10 : IVec S_ 1 := andi main_v3 main_v9
  let main_v11 : FVec F S4096x256 .f32 := (extf .f32 · bitsLt_bf16_f32) main_arg2
  let main_v12 : FVec F S4096x256 .f32 := Host.absf main_v11
  let main_cst_2 : FVec F S_ .f32 := constant S_ .f32 0x7F800000#32
  let main_v13 : FVec F S4096x256 .f32 := broadcastInDim S4096x256 ![] bcast_S_S4096x256 main_cst_2
  let main_v14 : IVec S4096x256 1 := cmpf .olt main_v12 main_v13
  let main_c_3 : IVec S_ 1 := constantI S_ 1 1#1
  let main_v15 : IVec S_ 1 := (fun x v => Host.reduce IntOp.andi x v reducesTo_S4096x256_S_d0_1 h_S_) main_v14 main_c_3
  let main_v16 : IVec S_ 1 := andi main_v10 main_v15
  let main_v17 : FVec F S16x256 .bf16 := (extractStridedSlice S16x256 ![112, 0] · slices_S128x256_S16x256_112_0) main_arg3
  fn_part1 (F := F) main_arg5 main_arg6 main_v16 main_v17
-- ==== Mixer.lean ====
abbrev S16 : Shape := ⟨1, ![16]⟩
abbrev S1280x4096 : Shape := ⟨2, ![1280, 4096]⟩
abbrev S4096x256 : Shape := ⟨2, ![4096, 256]⟩
abbrev S128x256 : Shape := ⟨2, ![128, 256]⟩
abbrev S1280x128 : Shape := ⟨2, ![1280, 128]⟩
abbrev S4x256x512 : Shape := ⟨3, ![4, 256, 512]⟩
abbrev S32x4x16x512 : Shape := ⟨4, ![32, 4, 16, 512]⟩
abbrev S4096x3072 : Shape := ⟨2, ![4096, 3072]⟩
abbrev S4096x128 : Shape := ⟨2, ![4096, 128]⟩
abbrev S1x128 : Shape := ⟨2, ![1, 128]⟩
abbrev S512x256 : Shape := ⟨2, ![512, 256]⟩
abbrev S4x1024 : Shape := ⟨2, ![4, 1024]⟩
abbrev S1x1024 : Shape := ⟨2, ![1, 1024]⟩
abbrev S4x128x256 : Shape := ⟨3, ![4, 128, 256]⟩
abbrev S4x8x128 : Shape := ⟨3, ![4, 8, 128]⟩
abbrev S128x1024 : Shape := ⟨2, ![128, 1024]⟩
abbrev S2048x2048 : Shape := ⟨2, ![2048, 2048]⟩
abbrev S8192x2048 : Shape := ⟨2, ![8192, 2048]⟩
abbrev S1024x4096 : Shape := ⟨2, ![1024, 4096]⟩
abbrev S4096x1024 : Shape := ⟨2, ![4096, 1024]⟩
abbrev S1024x256 : Shape := ⟨2, ![1024, 256]⟩
abbrev S256x256 : Shape := ⟨2, ![256, 256]⟩
abbrev S16x256 : Shape := ⟨2, ![16, 256]⟩
abbrev S256x128 : Shape := ⟨2, ![256, 128]⟩
abbrev S2x4x16x512 : Shape := ⟨4, ![2, 4, 16, 512]⟩
abbrev S256x3072 : Shape := ⟨2, ![256, 3072]⟩
abbrev S128x2048 : Shape := ⟨2, ![128, 2048]⟩
abbrev S512x2048 : Shape := ⟨2, ![512, 2048]⟩
abbrev S256x1024 : Shape := ⟨2, ![256, 1024]⟩
abbrev S128x128 : Shape := ⟨2, ![128, 128]⟩
abbrev S16x128 : Shape := ⟨2, ![16, 128]⟩
abbrev S272x256 : Shape := ⟨2, ![272, 256]⟩
abbrev S272x128 : Shape := ⟨2, ![272, 128]⟩
abbrev S1024x128 : Shape := ⟨2, ![1024, 128]⟩
abbrev S64x128 : Shape := ⟨2, ![64, 128]⟩
abbrev S64x512 : Shape := ⟨2, ![64, 512]⟩
abbrev S128x512 : Shape := ⟨2, ![128, 512]⟩
abbrev S272x512 : Shape := ⟨2, ![272, 512]⟩
abbrev S112x128 : Shape := ⟨2, ![112, 128]⟩
abbrev S1 : Shape := ⟨1, ![1]⟩
abbrev S1x256x128 : Shape := ⟨3, ![1, 256, 128]⟩
abbrev S1x4x16x512 : Shape := ⟨4, ![1, 4, 16, 512]⟩
abbrev S1x1x16x128 : Shape := ⟨4, ![1, 1, 16, 128]⟩
abbrev S128 : Shape := ⟨1, ![128]⟩
abbrev S256x512 : Shape := ⟨2, ![256, 512]⟩
abbrev S64x256 : Shape := ⟨2, ![64, 256]⟩
abbrev S80x256 : Shape := ⟨2, ![80, 256]⟩
abbrev S80x512 : Shape := ⟨2, ![80, 512]⟩
abbrev S80x128 : Shape := ⟨2, ![80, 128]⟩
abbrev S128x3072 : Shape := ⟨2, ![128, 3072]⟩
abbrev S512x1024 : Shape := ⟨2, ![512, 1024]⟩
abbrev S128x1 : Shape := ⟨2, ![128, 1]⟩
abbrev S1x1 : Shape := ⟨2, ![1, 1]⟩
abbrev S1x128x256 : Shape := ⟨3, ![1, 128, 256]⟩
abbrev S1x8x128 : Shape := ⟨3, ![1, 8, 128]⟩
abbrev S8x128 : Shape := ⟨2, ![8, 128]⟩
abbrev S1x256 : Shape := ⟨2, ![1, 256]⟩

abbrev nBuf : Space → Nat
  | .hbm => 24
  | .vmem => 44
  | .smem => 1
  | _ => 0

abbrev bufTy : (tb : Table) → Fin (tcTables nBuf tb) → BufTy
  | .hbm, ⟨0, _⟩ => ⟨S16, .f32⟩
  | .hbm, ⟨1, _⟩ => ⟨S1280x4096, .bf16⟩
  | .hbm, ⟨2, _⟩ => ⟨S4096x256, .bf16⟩
  | .hbm, ⟨3, _⟩ => ⟨S128x256, .bf16⟩
  | .hbm, ⟨4, _⟩ => ⟨S1280x128, .bf16⟩
  | .hbm, ⟨5, _⟩ => ⟨S4x256x512, .f32⟩
  | .hbm, ⟨6, _⟩ => ⟨S32x4x16x512, .f32⟩
  | .hbm, ⟨7, _⟩ => ⟨S4096x3072, .bf16⟩
  | .hbm, ⟨8, _⟩ => ⟨S4096x128, .f32⟩
  | .hbm, ⟨9, _⟩ => ⟨S1x128, .f32⟩
  | .hbm, ⟨10, _⟩ => ⟨S512x256, .bf16⟩
  | .hbm, ⟨11, _⟩ => ⟨S4x1024, .f32⟩
  | .hbm, ⟨12, _⟩ => ⟨S1x1024, .f32⟩
  | .hbm, ⟨13, _⟩ => ⟨S1x1024, .f32⟩
  | .hbm, ⟨14, _⟩ => ⟨S4x128x256, .f32⟩
  | .hbm, ⟨15, _⟩ => ⟨S4x8x128, .f32⟩
  | .hbm, ⟨16, _⟩ => ⟨S4x8x128, .f32⟩
  | .hbm, ⟨17, _⟩ => ⟨S128x1024, .bf16⟩
  | .hbm, ⟨18, _⟩ => ⟨S2048x2048, .f32⟩
  | .hbm, ⟨19, _⟩ => ⟨S8192x2048, .f32⟩
  | .hbm, ⟨20, _⟩ => ⟨S1024x4096, .bf16⟩
  | .hbm, ⟨21, _⟩ => ⟨S4096x1024, .bf16⟩
  | .hbm, ⟨22, _⟩ => ⟨S2048x2048, .bf16⟩
  | .hbm, ⟨23, _⟩ => ⟨S8192x2048, .bf16⟩
  | .local _ .vmem, ⟨0, _⟩ => ⟨S1024x256, .bf16⟩
  | .local _ .vmem, ⟨1, _⟩ => ⟨S1024x256, .bf16⟩
  | .local _ .vmem, ⟨2, _⟩ => ⟨S256x256, .bf16⟩
  | .local _ .vmem, ⟨3, _⟩ => ⟨S256x256, .bf16⟩
  | .local _ .vmem, ⟨4, _⟩ => ⟨S128x256, .bf16⟩
  | .local _ .vmem, ⟨5, _⟩ => ⟨S128x256, .bf16⟩
  | .local _ .vmem, ⟨6, _⟩ => ⟨S16x256, .bf16⟩
  | .local _ .vmem, ⟨7, _⟩ => ⟨S256x256, .bf16⟩
  | .local _ .vmem, ⟨8, _⟩ => ⟨S256x256, .bf16⟩
  | .local _ .vmem, ⟨9, _⟩ => ⟨S256x128, .bf16⟩
  | .local _ .vmem, ⟨10, _⟩ => ⟨S256x128, .bf16⟩
  | .local _ .vmem, ⟨11, _⟩ => ⟨S256x128, .bf16⟩
  | .local _ .vmem, ⟨12, _⟩ => ⟨S4x256x512, .f32⟩
  | .local _ .vmem, ⟨13, _⟩ => ⟨S2x4x16x512, .f32⟩
  | .local _ .vmem, ⟨14, _⟩ => ⟨S2x4x16x512, .f32⟩
  | .local _ .vmem, ⟨15, _⟩ => ⟨S256x3072, .bf16⟩
  | .local _ .vmem, ⟨16, _⟩ => ⟨S256x3072, .bf16⟩
  | .local _ .vmem, ⟨17, _⟩ => ⟨S256x128, .f32⟩
  | .local _ .vmem, ⟨18, _⟩ => ⟨S256x128, .f32⟩
  | .local _ .vmem, ⟨19, _⟩ => ⟨S1x128, .f32⟩
  | .local _ .vmem, ⟨20, _⟩ => ⟨S512x256, .bf16⟩
  | .local _ .vmem, ⟨21, _⟩ => ⟨S4x1024, .f32⟩
  | .local _ .vmem, ⟨22, _⟩ => ⟨S1x1024, .f32⟩
  | .local _ .vmem, ⟨23, _⟩ => ⟨S1x1024, .f32⟩
  | .local _ .vmem, ⟨24, _⟩ => ⟨S4x128x256, .f32⟩
  | .local _ .vmem, ⟨25, _⟩ => ⟨S4x8x128, .f32⟩
  | .local _ .vmem, ⟨26, _⟩ => ⟨S4x8x128, .f32⟩
  | .local _ .vmem, ⟨27, _⟩ => ⟨S128x1024, .bf16⟩
  | .local _ .vmem, ⟨28, _⟩ => ⟨S128x2048, .f32⟩
  | .local _ .vmem, ⟨29, _⟩ => ⟨S128x2048, .f32⟩
  | .local _ .vmem, ⟨30, _⟩ => ⟨S512x2048, .f32⟩
  | .local _ .vmem, ⟨31, _⟩ => ⟨S512x2048, .f32⟩
  | .local _ .vmem, ⟨32, _⟩ => ⟨S1024x256, .bf16⟩
  | .local _ .vmem, ⟨33, _⟩ => ⟨S1024x256, .bf16⟩
  | .local _ .vmem, ⟨34, _⟩ => ⟨S256x1024, .bf16⟩
  | .local _ .vmem, ⟨35, _⟩ => ⟨S256x1024, .bf16⟩
  | .local _ .vmem, ⟨36, _⟩ => ⟨S128x2048, .bf16⟩
  | .local _ .vmem, ⟨37, _⟩ => ⟨S128x2048, .bf16⟩
  | .local _ .vmem, ⟨38, _⟩ => ⟨S512x2048, .bf16⟩
  | .local _ .vmem, ⟨39, _⟩ => ⟨S512x2048, .bf16⟩
  | .local _ .vmem, ⟨40, _⟩ => ⟨S4x128x256, .f32⟩
  | .local _ .vmem, ⟨41, _⟩ => ⟨S4x8x128, .f32⟩
  | .local _ .vmem, ⟨42, _⟩ => ⟨S4x8x128, .f32⟩
  | .local _ .vmem, ⟨43, _⟩ => ⟨S128x1024, .bf16⟩
  | .local _ .smem, ⟨0, _⟩ => ⟨S16, .f32⟩
  | _, _ => ⟨S16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .smem, ⟨0, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0_0 : Ref sig .tc := ⟨.hbm, 20, rfl⟩
abbrev main_v0_1 : Ref sig .tc := ⟨.hbm, 21, rfl⟩
abbrev main_v0_2 : Ref sig .tc := ⟨.hbm, 22, rfl⟩
abbrev main_v0_3 : Ref sig .tc := ⟨.hbm, 23, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg18_0 : Ref sig .tc := ⟨.vmem, 25, rfl⟩
abbrev cc0_stg19_0 : Ref sig .tc := ⟨.vmem, 26, rfl⟩
abbrev cc0_stg20_0 : Ref sig .tc := ⟨.vmem, 27, rfl⟩
abbrev cc0_stg21_0 : Ref sig .tc := ⟨.vmem, 28, rfl⟩
abbrev cc0_stg21_1 : Ref sig .tc := ⟨.vmem, 29, rfl⟩
abbrev cc0_stg22_0 : Ref sig .tc := ⟨.vmem, 30, rfl⟩
abbrev cc0_stg22_1 : Ref sig .tc := ⟨.vmem, 31, rfl⟩
abbrev cc0_stg23_0 : Ref sig .tc := ⟨.vmem, 32, rfl⟩
abbrev cc0_stg23_1 : Ref sig .tc := ⟨.vmem, 33, rfl⟩
abbrev cc0_stg24_0 : Ref sig .tc := ⟨.vmem, 34, rfl⟩
abbrev cc0_stg24_1 : Ref sig .tc := ⟨.vmem, 35, rfl⟩
abbrev cc0_stg25_0 : Ref sig .tc := ⟨.vmem, 36, rfl⟩
abbrev cc0_stg25_1 : Ref sig .tc := ⟨.vmem, 37, rfl⟩
abbrev cc0_stg26_0 : Ref sig .tc := ⟨.vmem, 38, rfl⟩
abbrev cc0_stg26_1 : Ref sig .tc := ⟨.vmem, 39, rfl⟩
abbrev cc0_scratch0 : Ref sig .tc := ⟨.vmem, 40, rfl⟩
abbrev cc0_scratch1 : Ref sig .tc := ⟨.vmem, 41, rfl⟩
abbrev cc0_scratch2 : Ref sig .tc := ⟨.vmem, 42, rfl⟩
abbrev cc0_scratch3 : Ref sig .tc := ⟨.vmem, 43, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem18_0 : DmaSem sig := 26
abbrev cc0_sem19_0 : DmaSem sig := 27
abbrev cc0_sem20_0 : DmaSem sig := 28
abbrev cc0_sem21_0 : DmaSem sig := 29
abbrev cc0_sem21_1 : DmaSem sig := 30
abbrev cc0_sem22_0 : DmaSem sig := 31
abbrev cc0_sem22_1 : DmaSem sig := 32
abbrev cc0_sem23_0 : DmaSem sig := 33
abbrev cc0_sem23_1 : DmaSem sig := 34
abbrev cc0_sem24_0 : DmaSem sig := 35
abbrev cc0_sem24_1 : DmaSem sig := 36
abbrev cc0_sem25_0 : DmaSem sig := 37
abbrev cc0_sem25_1 : DmaSem sig := 38
abbrev cc0_sem26_0 : DmaSem sig := 39
abbrev cc0_sem26_1 : DmaSem sig := 40

abbrev nD : Nat := 1
abbrev τ : Topo := Topo.v7x

variable {F : FTy → Type} [FloatOps F]

abbrev grid0 : Pipeline.Grid := ⟨1, ![16], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c7_i32 : BitVec 32 := 7#32
  let c0_i32 : BitVec 32 := 0#32
  let c0_i32_0 : BitVec 32 := 0#32
  ![c7_i32.toNat, c0_i32.toNat]

def cc0_transform_5 (i : grid0.Coords) : Fin 2 → Nat :=
  let arg0 : BitVec 32 := BitVec.ofNat 32 (i 0).val
  let c4_i32 : BitVec 32 := 4#32
  let c0_i32 : BitVec 32 := 0#32
  ![c4_i32.toNat, arg0.toNat]

def cc0_transform_6 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![c4_i32.toNat, v2.toNat]

def cc0_transform_7 (i : grid0.Coords) : Fin 2 → Nat :=
  let arg0 : BitVec 32 := BitVec.ofNat 32 (i 0).val
  let c4_i32 : BitVec 32 := 4#32
  let c0_i32 : BitVec 32 := 0#32
  let c0_i32_0 : BitVec 32 := 0#32
  ![c4_i32.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S256x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x256x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2x4x16x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x3072 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S4x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S4x128x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S4x8x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S4x8x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S128x1024 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S128x2048 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x2048 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1024x256 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x1024 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S128x2048 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S512x2048 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]
-- ==== MixerIdeal.lean ====
variable {F : FTy → Type} [FloatOps F] [Named F]
def κ : String → Option EReal := fun
  | "log2e" => some (((Real.log 2)⁻¹ : ℝ) : EReal)
  | "mask" => some ⊥
  | _ => none
-- ==== AttentionIdeal.lean ====
abbrev S16 : Shape := ⟨1, ![16]⟩
abbrev S1280x4096 : Shape := ⟨2, ![1280, 4096]⟩
abbrev S4096x256 : Shape := ⟨2, ![4096, 256]⟩
abbrev S128x256 : Shape := ⟨2, ![128, 256]⟩
abbrev S1280x128 : Shape := ⟨2, ![1280, 128]⟩
abbrev S4x256x512 : Shape := ⟨3, ![4, 256, 512]⟩
abbrev S32x4x16x512 : Shape := ⟨4, ![32, 4, 16, 512]⟩
abbrev S4096x3072 : Shape := ⟨2, ![4096, 3072]⟩
abbrev S4096x128 : Shape := ⟨2, ![4096, 128]⟩
abbrev S1x128 : Shape := ⟨2, ![1, 128]⟩
abbrev S512x256 : Shape := ⟨2, ![512, 256]⟩
abbrev S4x1024 : Shape := ⟨2, ![4, 1024]⟩
abbrev S1x1024 : Shape := ⟨2, ![1, 1024]⟩
abbrev S4x128x256 : Shape := ⟨3, ![4, 128, 256]⟩
abbrev S4x8x128 : Shape := ⟨3, ![4, 8, 128]⟩
abbrev S128x1024 : Shape := ⟨2, ![128, 1024]⟩
abbrev S2048x2048 : Shape := ⟨2, ![2048, 2048]⟩
abbrev S8192x2048 : Shape := ⟨2, ![8192, 2048]⟩
abbrev S1024x4096 : Shape := ⟨2, ![1024, 4096]⟩
abbrev S4096x1024 : Shape := ⟨2, ![4096, 1024]⟩
abbrev S32x128x4x4x64 : Shape := ⟨5, ![32, 128, 4, 4, 64]⟩
abbrev S4224x256 : Shape := ⟨2, ![4224, 256]⟩
abbrev S33x128x4x64 : Shape := ⟨4, ![33, 128, 4, 64]⟩
abbrev S256x128 : Shape := ⟨2, ![256, 128]⟩
abbrev S256x4096 : Shape := ⟨2, ![256, 4096]⟩
abbrev S256x4224 : Shape := ⟨2, ![256, 4224]⟩
abbrev S32x128x4x64 : Shape := ⟨4, ![32, 128, 4, 64]⟩
abbrev S32x256x4x64 : Shape := ⟨4, ![32, 256, 4, 64]⟩
abbrev S1x16x4x64 : Shape := ⟨4, ![1, 16, 4, 64]⟩
abbrev S16x4x64 : Shape := ⟨3, ![16, 4, 64]⟩
abbrev S4x256x4x128 : Shape := ⟨4, ![4, 256, 4, 128]⟩
abbrev S4x4x128x256 : Shape := ⟨4, ![4, 4, 128, 256]⟩
abbrev S32x4x16x4x128 : Shape := ⟨5, ![32, 4, 16, 4, 128]⟩
abbrev S32x4x4x128x16 : Shape := ⟨5, ![32, 4, 4, 128, 16]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S1x128x1 : Shape := ⟨3, ![1, 128, 1]⟩
abbrev S32x128x1 : Shape := ⟨3, ![32, 128, 1]⟩
abbrev S1x1x16 : Shape := ⟨3, ![1, 1, 16]⟩
abbrev S32x128x16 : Shape := ⟨3, ![32, 128, 16]⟩
abbrev S32x4x256x128x4 : Shape := ⟨5, ![32, 4, 256, 128, 4]⟩
abbrev S32x4x4x128x256 : Shape := ⟨5, ![32, 4, 4, 128, 256]⟩
abbrev S1x4x4x128x256 : Shape := ⟨5, ![1, 4, 4, 128, 256]⟩
abbrev S4x16x32x128x4 : Shape := ⟨5, ![4, 16, 32, 128, 4]⟩
abbrev S32x4x4x128x272 : Shape := ⟨5, ![32, 4, 4, 128, 272]⟩
abbrev S32x128x272 : Shape := ⟨3, ![32, 128, 272]⟩
abbrev S32x1x1x128x272 : Shape := ⟨5, ![32, 1, 1, 128, 272]⟩
abbrev S4x4 : Shape := ⟨2, ![4, 4]⟩
abbrev S4x4x1x1 : Shape := ⟨4, ![4, 4, 1, 1]⟩
abbrev S32x4x4x128 : Shape := ⟨4, ![32, 4, 4, 128]⟩
abbrev S32x4x4x128x1 : Shape := ⟨5, ![32, 4, 4, 128, 1]⟩
abbrev S1x4x4x1x1 : Shape := ⟨5, ![1, 4, 4, 1, 1]⟩
abbrev S32x4x64x4x128 : Shape := ⟨5, ![32, 4, 64, 4, 128]⟩
abbrev S4x64x32x4x128 : Shape := ⟨5, ![4, 64, 32, 4, 128]⟩

abbrev nBuf : Space → Nat
  | .hbm => 158
  | .vmem => 0
  | .smem => 0
  | _ => 0

abbrev hbmTy0_0 (i : Nat) : BufTy := match i % 128 with
  | 0 => ⟨S16, .f32⟩
  | 1 => ⟨S1280x4096, .bf16⟩
  | 2 => ⟨S4096x256, .bf16⟩
  | 3 => ⟨S128x256, .bf16⟩
  | 4 => ⟨S1280x128, .bf16⟩
  | 5 => ⟨S4x256x512, .f32⟩
  | 6 => ⟨S32x4x16x512, .f32⟩
  | 7 => ⟨S4096x3072, .bf16⟩
  | 8 => ⟨S4096x128, .f32⟩
  | 9 => ⟨S1x128, .f32⟩
  | 10 => ⟨S512x256, .bf16⟩
  | 11 => ⟨S4x1024, .f32⟩
  | 12 => ⟨S1x1024, .f32⟩
  | 13 => ⟨S1x1024, .f32⟩
  | 14 => ⟨S4x128x256, .f32⟩
  | 15 => ⟨S4x8x128, .f32⟩
  | 16 => ⟨S4x8x128, .f32⟩
  | 17 => ⟨S128x1024, .bf16⟩
  | 18 => ⟨S2048x2048, .f32⟩
  | 19 => ⟨S8192x2048, .f32⟩
  | 20 => ⟨S1280x4096, .f32⟩
  | 21 => ⟨S4096x256, .f32⟩
  | 22 => ⟨S128x256, .f32⟩
  | 23 => ⟨S1280x128, .f32⟩
  | 24 => ⟨S1024x4096, .f32⟩
  | 25 => ⟨S4096x1024, .f32⟩
  | 26 => ⟨S32x128x4x4x64, .f32⟩
  | 27 => ⟨S4224x256, .f32⟩
  | 28 => ⟨S33x128x4x64, .f32⟩
  | 29 => ⟨S256x128, .f32⟩
  | 30 => ⟨S256x4096, .f32⟩
  | 31 => ⟨S256x4224, .f32⟩
  | 32 => ⟨S4224x256, .f32⟩
  | 33 => ⟨S33x128x4x64, .f32⟩
  | 34 => ⟨S32x128x4x64, .f32⟩
  | 35 => ⟨S32x128x4x64, .f32⟩
  | 36 => ⟨S32x256x4x64, .f32⟩
  | 37 => ⟨S32x128x4x64, .f32⟩
  | 38 => ⟨S32x128x4x64, .f32⟩
  | 39 => ⟨S32x256x4x64, .f32⟩
  | 40 => ⟨S1x16x4x64, .f32⟩
  | 41 => ⟨S16x4x64, .f32⟩
  | 42 => ⟨S1x16x4x64, .f32⟩
  | 43 => ⟨S16x4x64, .f32⟩
  | 44 => ⟨S4x256x4x128, .f32⟩
  | 45 => ⟨S4x4x128x256, .f32⟩
  | 46 => ⟨S32x4x16x4x128, .f32⟩
  | 47 => ⟨S32x4x4x128x16, .f32⟩
  | 48 => ⟨S128, .i32⟩
  | 49 => ⟨S128x1, .i32⟩
  | 50 => ⟨S256, .i32⟩
  | 51 => ⟨S1x256, .i32⟩
  | 52 => ⟨S_, .i32⟩
  | 53 => ⟨S128x1, .i32⟩
  | 54 => ⟨S128x1, .i32⟩
  | 55 => ⟨S128x256, .i32⟩
  | 56 => ⟨S128x256, .i32⟩
  | 57 => ⟨S128x256, .i32⟩
  | 58 => ⟨S32, .i32⟩
  | 59 => ⟨S32x1x1, .i32⟩
  | 60 => ⟨S_, .i32⟩
  | 61 => ⟨S32x1x1, .i32⟩
  | 62 => ⟨S32x1x1, .i32⟩
  | 63 => ⟨S_, .i32⟩
  | 64 => ⟨S32x1x1, .i32⟩
  | 65 => ⟨S32x1x1, .i32⟩
  | 66 => ⟨S_, .i32⟩
  | 67 => ⟨S32x1x1, .i32⟩
  | 68 => ⟨S32x1x1, .i32⟩
  | 69 => ⟨S1x1x256, .i32⟩
  | 70 => ⟨S32x1x256, .i32⟩
  | 71 => ⟨S32x1x256, .i32⟩
  | 72 => ⟨S32x1x256, .i32⟩
  | 73 => ⟨S_, .i32⟩
  | 74 => ⟨S128x256, .i32⟩
  | 75 => ⟨S128x256, .i1⟩
  | 76 => ⟨S_, .i32⟩
  | 77 => ⟨S128x256, .i32⟩
  | 78 => ⟨S128x256, .i1⟩
  | 79 => ⟨S128x256, .i1⟩
  | 80 => ⟨S_, .i32⟩
  | 81 => ⟨S32x1x256, .i32⟩
  | 82 => ⟨S32x1x256, .i1⟩
  | 83 => ⟨S1x128x256, .i1⟩
  | 84 => ⟨S32x128x256, .i1⟩
  | 85 => ⟨S32x128x256, .i1⟩
  | 86 => ⟨S32x128x256, .i1⟩
  | 87 => ⟨S_, .i32⟩
  | 88 => ⟨S32x1x1, .i32⟩
  | 89 => ⟨S32x1x1, .i32⟩
  | 90 => ⟨S1x128x1, .i32⟩
  | 91 => ⟨S32x128x1, .i32⟩
  | 92 => ⟨S32x128x1, .i32⟩
  | 93 => ⟨S32x128x1, .i32⟩
  | 94 => ⟨S16, .i32⟩
  | 95 => ⟨S1x1x16, .i32⟩
  | 96 => ⟨S_, .i32⟩
  | 97 => ⟨S1x1x16, .i32⟩
  | 98 => ⟨S1x1x16, .i32⟩
  | 99 => ⟨S32x128x16, .i32⟩
  | 100 => ⟨S32x128x16, .i32⟩
  | 101 => ⟨S32x128x16, .i32⟩
  | 102 => ⟨S_, .i32⟩
  | 103 => ⟨S32x128x16, .i32⟩
  | 104 => ⟨S32x128x16, .i1⟩
  | 105 => ⟨S_, .f32⟩
  | 106 => ⟨S_, .f32⟩
  | 107 => ⟨S32x4x256x128x4, .f32⟩
  | 108 => ⟨S32x4x4x128x256, .f32⟩
  | 109 => ⟨S1x4x4x128x256, .f32⟩
  | 110 => ⟨S32x4x4x128x256, .f32⟩
  | 111 => ⟨S32x4x4x128x256, .f32⟩
  | 112 => ⟨S32x4x4x128x256, .f32⟩
  | 113 => ⟨S32x4x4x128x256, .f32⟩
  | 114 => ⟨S4x16x32x128x4, .f32⟩
  | 115 => ⟨S32x4x4x128x16, .f32⟩
  | 116 => ⟨S32x4x4x128x16, .f32⟩
  | 117 => ⟨S32x4x4x128x16, .f32⟩
  | 118 => ⟨S32x4x4x128x16, .f32⟩
  | 119 => ⟨S32x4x4x128x272, .f32⟩
  | 120 => ⟨S32x128x272, .i1⟩
  | 121 => ⟨S32x1x1x128x272, .i1⟩
  | 122 => ⟨S_, .f32⟩
  | 123 => ⟨S_, .f32⟩
  | 124 => ⟨S32x4x4x128x272, .i1⟩
  | 125 => ⟨S32x4x4x128x272, .f32⟩
  | 126 => ⟨S32x4x4x128x272, .f32⟩
  | 127 => ⟨S4x4, .f32⟩
  | _ => ⟨S16, .f32⟩

abbrev hbmTy0_1 (i : Nat) : BufTy := match i % 128 with
  | 0 => ⟨S4x4x1x1, .f32⟩
  | 1 => ⟨S_, .f32⟩
  | 2 => ⟨S32x4x4x128, .f32⟩
  | 3 => ⟨S32x4x4x128x1, .f32⟩
  | 4 => ⟨S1x4x4x1x1, .f32⟩
  | 5 => ⟨S32x4x4x128x1, .f32⟩
  | 6 => ⟨S32x4x4x128x1, .f32⟩
  | 7 => ⟨S32x4x4x128x272, .f32⟩
  | 8 => ⟨S32x4x4x128x272, .f32⟩
  | 9 => ⟨S32x4x4x128x272, .f32⟩
  | 10 => ⟨S_, .f32⟩
  | 11 => ⟨S32x4x4x128, .f32⟩
  | 12 => ⟨S32x4x4x128x1, .f32⟩
  | 13 => ⟨S1x4x4x1x1, .f32⟩
  | 14 => ⟨S32x4x4x128x1, .f32⟩
  | 15 => ⟨S32x4x4x128x1, .f32⟩
  | 16 => ⟨S32x4x4x128x1, .f32⟩
  | 17 => ⟨S32x4x4x128x1, .f32⟩
  | 18 => ⟨S32x4x4x128x272, .f32⟩
  | 19 => ⟨S32x4x4x128x272, .f32⟩
  | 20 => ⟨S32x4x4x128x256, .f32⟩
  | 21 => ⟨S32x4x64x4x128, .f32⟩
  | 22 => ⟨S32x128x4x4x64, .f32⟩
  | 23 => ⟨S32x4x4x128x16, .f32⟩
  | 24 => ⟨S4x64x32x4x128, .f32⟩
  | 25 => ⟨S32x128x4x4x64, .f32⟩
  | 26 => ⟨S32x128x4x4x64, .f32⟩
  | 27 => ⟨S4096x1024, .f32⟩
  | 28 => ⟨S1024x4096, .f32⟩
  | 29 => ⟨S1024x4096, .bf16⟩
  | _ => ⟨S16, .f32⟩

abbrev hbmTy (i : Nat) : BufTy := match i / 128 with
  | 0 => hbmTy0_0 i
  | 1 => hbmTy0_1 i
  | _ => ⟨S16, .f32⟩

abbrev bufTy : (tb : Table) → Fin (tcTables nBuf tb) → BufTy
  | .hbm, ⟨i, _⟩ => hbmTy i
  | _, _ => ⟨S16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c_0 : Ref sig .tc := ⟨.hbm, 60, rfl⟩
abbrev main_v39 : Ref sig .tc := ⟨.hbm, 61, rfl⟩
abbrev main_v40 : Ref sig .tc := ⟨.hbm, 62, rfl⟩
abbrev main_c_1 : Ref sig .tc := ⟨.hbm, 63, rfl⟩
abbrev main_v41 : Ref sig .tc := ⟨.hbm, 64, rfl⟩
abbrev main_v42 : Ref sig .tc := ⟨.hbm, 65, rfl⟩
abbrev main_c_2 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_c_3 : Ref sig .tc := ⟨.hbm, 73, rfl⟩
abbrev main_v49 : Ref sig .tc := ⟨.hbm, 74, rfl⟩
abbrev main_v50 : Ref sig .tc := ⟨.hbm, 75, rfl⟩
abbrev main_c_4 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_c_5 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_c_6 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_c_7 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_c_8 : Ref sig .tc := ⟨.hbm, 102, rfl⟩
abbrev main_v73 : Ref sig .tc := ⟨.hbm, 103, rfl⟩
abbrev main_v74 : Ref sig .tc := ⟨.hbm, 104, rfl⟩
abbrev main_cst : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_cst_9 : Ref sig .tc := ⟨.hbm, 122, rfl⟩
abbrev main_call0_v0 : Ref sig .tc := ⟨.hbm, 123, rfl⟩
abbrev main_call0_v1 : Ref sig .tc := ⟨.hbm, 124, rfl⟩
abbrev main_call0_v2 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_cst_10 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_cst_11 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩

abbrev nD : Nat := 1
abbrev τ : Topo := Topo.v7x

variable {F : FTy → Type} [FloatOps F]
-- ==== Mlp.lean ====
abbrev S8192x2048 : Shape := ⟨2, ![8192, 2048]⟩
abbrev S2048x8192 : Shape := ⟨2, ![2048, 8192]⟩
abbrev S1x2048 : Shape := ⟨2, ![1, 2048]⟩
abbrev S1024x2048 : Shape := ⟨2, ![1024, 2048]⟩
abbrev S2048x1024 : Shape := ⟨2, ![2048, 1024]⟩
abbrev S1024x128 : Shape := ⟨2, ![1024, 128]⟩
abbrev S_ : Shape := ⟨0, ![]⟩
abbrev S2048x256 : Shape := ⟨2, ![2048, 256]⟩
abbrev S1024x256 : Shape := ⟨2, ![1024, 256]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S2048x8192, .bf16⟩
  | .hbm, ⟨3, _⟩ => ⟨S8192x2048, .bf16⟩
  | .hbm, ⟨4, _⟩ => ⟨S1x2048, .f32⟩
  | .hbm, ⟨5, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1x2048, .f32⟩
  | .local _ .vmem, ⟨7, _⟩ => ⟨S1024x2048, .f32⟩
  | .local _ .vmem, ⟨8, _⟩ => ⟨S1024x2048, .f32⟩
  | .local _ .vmem, ⟨9, _⟩ => ⟨S1024x2048, .f32⟩
  | .local _ .vmem, ⟨10, _⟩ => ⟨S1024x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg0 : BitVec 32 := BitVec.ofNat 32 (i 0).val
  let c1024_i32 : BitVec 32 := 1024#32
  let v0 : BitVec 32 := Scalar.muli arg0 c1024_i32
  v0
def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_0 : BitVec 32 := 0#32
  let v4 : BitVec 1 := Scalar.cmpi .ne v3 c0_i32_0
  v4

def k0_off1 (i : grid0.Coords) : Fin 2 → Nat :=
  let arg0 : BitVec 32 := BitVec.ofNat 32 (i 0).val
  let c1024_i32 : BitVec 32 := 1024#32
  let v0 : BitVec 32 := Scalar.muli arg0 c1024_i32
  let v1 : BitVec 32 := v0
  let c0_i32_5 : BitVec 32 := 0#32
  ![v1.toNat, 0]
def k0_cond3 (i : grid0.Coords) : BitVec 1 :=
  let arg1 : BitVec 32 := BitVec.ofNat 32 (i 1).val
  let c7_i32_3 : BitVec 32 := 7#32
  let v10 : BitVec 1 := Scalar.cmpi .eq arg1 c7_i32_3
  let v11 : BitVec 32 := Scalar.extui v10
  let c0_i32_4 : BitVec 32 := 0#32
  let v12 : BitVec 1 := Scalar.cmpi .ne v11 c0_i32_4
  v12

def k0_off2 (i : grid0.Coords) : Fin 2 → Nat :=
  let arg0 : BitVec 32 := BitVec.ofNat 32 (i 0).val
  let c1024_i32 : BitVec 32 := 1024#32
  let v0 : BitVec 32 := Scalar.muli arg0 c1024_i32
  let v1 : BitVec 32 := v0
  let c0_i32_5 : BitVec 32 := 0#32
  ![v1.toNat, 0]
def k0_cond2 (i : grid0.Coords) : BitVec 1 :=
  let arg1 : BitVec 32 := BitVec.ofNat 32 (i 1).val
  let c0_i32_1 : BitVec 32 := 0#32
  let v5 : BitVec 1 := Scalar.cmpi .sgt arg1 c0_i32_1
  let c7_i32 : BitVec 32 := 7#32
  let v6 : BitVec 1 := Scalar.cmpi .slt arg1 c7_i32
  let v7 : BitVec 1 := Scalar.andi v5 v6
  let v8 : BitVec 32 := Scalar.extui v7
  let c0_i32_2 : BitVec 32 := 0#32
  let v9 : BitVec 1 := Scalar.cmpi .ne v8 c0_i32_2
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MlpReferenceIdeal.lean ====
abbrev S8192x2048 : Shape := ⟨2, ![8192, 2048]⟩
abbrev S2048x8192 : Shape := ⟨2, ![2048, 8192]⟩
abbrev S1x2048 : Shape := ⟨2, ![1, 2048]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 30
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S2048x8192, .bf16⟩
  | .hbm, ⟨3, _⟩ => ⟨S8192x2048, .bf16⟩
  | .hbm, ⟨4, _⟩ => ⟨S1x2048, .f32⟩
  | .hbm, ⟨5, _⟩ => ⟨S8192x2048, .f32⟩
  | .hbm, ⟨6, _⟩ => ⟨S2048x8192, .f32⟩
  | .hbm, ⟨7, _⟩ => ⟨S8192x2048, .f32⟩
  | .hbm, ⟨8, _⟩ => ⟨S8192x8192, .f32⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]
-- ==== Outproj.lean ====
abbrev S1024x4096 : Shape := ⟨2, ![1024, 4096]⟩
abbrev S4096x1024 : Shape := ⟨2, ![4096, 1024]⟩
abbrev S8192x2048 : Shape := ⟨2, ![8192, 2048]⟩
abbrev S2048x2048 : Shape := ⟨2, ![2048, 2048]⟩
abbrev S1x2048 : Shape := ⟨2, ![1, 2048]⟩
abbrev S1024x512 : Shape := ⟨2, ![1024, 512]⟩
abbrev S512x1024 : Shape := ⟨2, ![512, 1024]⟩
abbrev S512x2048 : Shape := ⟨2, ![512, 2048]⟩
abbrev S1024x2048 : Shape := ⟨2, ![1024, 2048]⟩
abbrev S512 : Shape := ⟨1, ![512]⟩
abbrev S512x1 : Shape := ⟨2, ![512, 1]⟩

abbrev nBuf : Space → Nat
  | .hbm => 9
  | .vmem => 17
  | .smem => 0
  | _ => 0

abbrev bufTy : (tb : Table) → Fin (tcTables nBuf tb) → BufTy
  | .hbm, ⟨0, _⟩ => ⟨S1024x4096, .bf16⟩
  | .hbm, ⟨1, _⟩ => ⟨S1024x4096, .bf16⟩
  | .hbm, ⟨2, _⟩ => ⟨S4096x1024, .bf16⟩
  | .hbm, ⟨3, _⟩ => ⟨S4096x1024, .bf16⟩
  | .hbm, ⟨4, _⟩ => ⟨S8192x2048, .f32⟩
  | .hbm, ⟨5, _⟩ => ⟨S2048x2048, .bf16⟩
  | .hbm, ⟨6, _⟩ => ⟨S1x2048, .f32⟩
  | .hbm, ⟨7, _⟩ => ⟨S8192x2048, .f32⟩
  | .hbm, ⟨8, _⟩ => ⟨S8192x2048, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x2048, .f32⟩
  | .local _ .vmem, ⟨9, _⟩ => ⟨S512x2048, .f32⟩
  | .local _ .vmem, ⟨10, _⟩ => ⟨S1024x2048, .bf16⟩
  | .local _ .vmem, ⟨11, _⟩ => ⟨S1024x2048, .bf16⟩
  | .local _ .vmem, ⟨12, _⟩ => ⟨S1x2048, .f32⟩
  | .local _ .vmem, ⟨13, _⟩ => ⟨S512x2048, .f32⟩
  | .local _ .vmem, ⟨14, _⟩ => ⟨S512x2048, .f32⟩
  | .local _ .vmem, ⟨15, _⟩ => ⟨S512x2048, .bf16⟩
  | .local _ .vmem, ⟨16, _⟩ => ⟨S512x2048, .bf16⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c8_i32_0 : BitVec 32 := 8#32
  let v3 : BitVec 1 := Scalar.cmpi .sge arg0 c8_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_2 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OutprojReferenceIdeal.lean ====
abbrev S1024x4096 : Shape := ⟨2, ![1024, 4096]⟩
abbrev S4096x1024 : Shape := ⟨2, ![4096, 1024]⟩
abbrev S8192x2048 : Shape := ⟨2, ![8192, 2048]⟩
abbrev S2048x2048 : Shape := ⟨2, ![2048, 2048]⟩
abbrev S1x2048 : Shape := ⟨2, ![1, 2048]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩

abbrev nBuf : Space → Nat
  | .hbm => 35
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S1024x4096, .bf16⟩
  | .hbm, ⟨2, _⟩ => ⟨S4096x1024, .bf16⟩
  | .hbm, ⟨3, _⟩ => ⟨S4096x1024, .bf16⟩
  | .hbm, ⟨4, _⟩ => ⟨S8192x2048, .f32⟩
  | .hbm, ⟨5, _⟩ => ⟨S2048x2048, .bf16⟩
  | .hbm, ⟨6, _⟩ => ⟨S1x2048, .f32⟩
  | .hbm, ⟨7, _⟩ => ⟨S1024x4096, .f32⟩
  | .hbm, ⟨8, _⟩ => ⟨S1024x4096, .f32⟩
  | .hbm, ⟨9, _⟩ => ⟨S4096x1024, .f32⟩
  | .hbm, ⟨10, _⟩ => ⟨S4096x1024, .f32⟩
  | .hbm, ⟨11, _⟩ => ⟨S2048x2048, .f32⟩
  | .hbm, ⟨12, _⟩ => ⟨S4096x1024, .f32⟩
  | .hbm, ⟨13, _⟩ => ⟨S4096x1024, .f32⟩
  | .hbm, ⟨14, _⟩ => ⟨S8192x1024, .f32⟩
  | .hbm, ⟨15, _⟩ => ⟨S8192x1024, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .bf16⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Inproj.lean ====
abbrev S8192x2048 : Shape := ⟨2, ![8192, 2048]⟩
abbrev S16x2048 : Shape := ⟨2, ![16, 2048]⟩
abbrev S1x2048 : Shape := ⟨2, ![1, 2048]⟩
abbrev S3072x2048 : Shape := ⟨2, ![3072, 2048]⟩
abbrev S1792x2048 : Shape := ⟨2, ![1792, 2048]⟩
abbrev S32x16 : Shape := ⟨2, ![32, 16]⟩
abbrev S256 : Shape := ⟨1, ![256]⟩
abbrev S256x1 : Shape := ⟨2, ![256, 1]⟩
abbrev S128 : Shape := ⟨1, ![128]⟩
abbrev S1x128 : Shape := ⟨2, ![1, 128]⟩
abbrev S_ : Shape := ⟨0, ![]⟩
abbrev S256x128 : Shape := ⟨2, ![256, 128]⟩
abbrev S4096 : Shape := ⟨1, ![4096]⟩
abbrev S1x4096 : Shape := ⟨2, ![1, 4096]⟩
abbrev S16 : Shape := ⟨1, ![16]⟩
abbrev S16x1 : Shape := ⟨2, ![16, 1]⟩
abbrev S16x4096 : Shape := ⟨2, ![16, 4096]⟩
abbrev S16x32x128 : Shape := ⟨3, ![16, 32, 128]⟩
abbrev S32x16x128 : Shape := ⟨3, ![32, 16, 128]⟩
abbrev S4096x3072 : Shape := ⟨2, ![4096, 3072]⟩
abbrev S4096x256 : Shape := ⟨2, ![4096, 256]⟩
abbrev S1280x4096 : Shape := ⟨2, ![1280, 4096]⟩
abbrev S4096x128 : Shape := ⟨2, ![4096, 128]⟩
abbrev S128x3072 : Shape := ⟨2, ![128, 3072]⟩
abbrev S128x256 : Shape := ⟨2, ![128, 256]⟩
abbrev S1280x128 : Shape := ⟨2, ![1280, 128]⟩
abbrev S128x128 : Shape := ⟨2, ![128, 128]⟩
abbrev S4x256x512 : Shape := ⟨3, ![4, 256, 512]⟩
abbrev S32x4x16x512 : Shape := ⟨4, ![32, 4, 16, 512]⟩
abbrev S1024x2048 : Shape := ⟨2, ![1024, 2048]⟩
abbrev S16x128 : Shape := ⟨2, ![16, 128]⟩
abbrev S2x16x128 : Shape := ⟨3, ![2, 16, 128]⟩
abbrev S1024x1024 : Shape := ⟨2, ![1024, 1024]⟩
abbrev S1024x256 : Shape := ⟨2, ![1024, 256]⟩
abbrev S1280x1024 : Shape := ⟨2, ![1280, 1024]⟩
abbrev S1024x128 : Shape := ⟨2, ![1024, 128]⟩
abbrev S128x1024 : Shape := ⟨2, ![128, 1024]⟩
abbrev S4x16x512 : Shape := ⟨3, ![4, 16, 512]⟩
abbrev S2x4x16x512 : Shape := ⟨4, ![2, 4, 16, 512]⟩
abbrev S128x2048 : Shape := ⟨2, ![128, 2048]⟩
abbrev S512x8x128 : Shape := ⟨3, ![512, 8, 128]⟩
abbrev S1024 : Shape := ⟨1, ![1024]⟩
abbrev S1024x1 : Shape := ⟨2, ![1024, 1]⟩
abbrev S112x2048 : Shape := ⟨2, ![112, 2048]⟩
abbrev S128x1 : Shape := ⟨2, ![128, 1]⟩
abbrev S1x1 : Shape := ⟨2, ![1, 1]⟩
abbrev S8x128 : Shape := ⟨2, ![8, 128]⟩
abbrev S1x8x128 : Shape := ⟨3, ![1, 8, 128]⟩
abbrev S256x2048 : Shape := ⟨2, ![256, 2048]⟩
abbrev S1x16x128 : Shape := ⟨3, ![1, 16, 128]⟩
abbrev S1x1x16x128 : Shape := ⟨4, ![1, 1, 16, 128]⟩
abbrev S256x1024 : Shape := ⟨2, ![256, 1024]⟩

abbrev nBuf : Space → Nat
  | .hbm => 97
  | .vmem => 31
  | .smem => 1
  | _ => 0

abbrev bufTy : (tb : Table) → Fin (tcTables nBuf tb) → BufTy
  | .hbm, ⟨0, _⟩ => ⟨S8192x2048, .f32⟩
  | .hbm, ⟨1, _⟩ => ⟨S16x2048, .f32⟩
  | .hbm, ⟨2, _⟩ => ⟨S1x2048, .f32⟩
  | .hbm, ⟨3, _⟩ => ⟨S3072x2048, .bf16⟩
  | .hbm, ⟨4, _⟩ => ⟨S1792x2048, .bf16⟩
  | .hbm, ⟨5, _⟩ => ⟨S32x16, .f32⟩
  | .hbm, ⟨6, _⟩ => ⟨S256, .i32⟩
  | .hbm, ⟨7, _⟩ => ⟨S256x1, .i32⟩
  | .hbm, ⟨8, _⟩ => ⟨S128, .i32⟩
  | .hbm, ⟨9, _⟩ => ⟨S1x128, .i32⟩
  | .hbm, ⟨10, _⟩ => ⟨S_, .i32⟩
  | .hbm, ⟨11, _⟩ => ⟨S1x128, .i32⟩
  | .hbm, ⟨12, _⟩ => ⟨S1x128, .i32⟩
  | .hbm, ⟨13, _⟩ => ⟨S256x128, .i32⟩
  | .hbm, ⟨14, _⟩ => ⟨S256x128, .i32⟩
  | .hbm, ⟨15, _⟩ => ⟨S256x128, .i32⟩
  | .hbm, ⟨16, _⟩ => ⟨S_, .i32⟩
  | .hbm, ⟨17, _⟩ => ⟨S256x128, .i32⟩
  | .hbm, ⟨18, _⟩ => ⟨S256x128, .i32⟩
  | .hbm, ⟨19, _⟩ => ⟨S_, .i32⟩
  | .hbm, ⟨20, _⟩ => ⟨S256x128, .i32⟩
  | .hbm, ⟨21, _⟩ => ⟨S256x128, .i32⟩
  | .hbm, ⟨22, _⟩ => ⟨S256x128, .f32⟩
  | .hbm, ⟨23, _⟩ => ⟨S_, .f32⟩
  | .hbm, ⟨24, _⟩ => ⟨S256x128, .f32⟩
  | .hbm, ⟨25, _⟩ => ⟨S256x128, .f32⟩
  | .hbm, ⟨26, _⟩ => ⟨S256x128, .f32⟩
  | .hbm, ⟨27, _⟩ => ⟨S_, .f32⟩
  | .hbm, ⟨28, _⟩ => ⟨S256x128, .f32⟩
  | .hbm, ⟨29, _⟩ => ⟨S256x128, .f32⟩
  | .hbm, ⟨30, _⟩ => ⟨S_, .f32⟩
  | .hbm, ⟨31, _⟩ => ⟨S256x128, .f32⟩
  | .hbm, ⟨32, _⟩ => ⟨S256x128, .f32⟩
  | .hbm, ⟨33, _⟩ => ⟨S256x128, .i32⟩
  | .hbm, ⟨34, _⟩ => ⟨S_, .i32⟩
  | .hbm, ⟨35, _⟩ => ⟨S256x128, .i32⟩
  | .hbm, ⟨36, _⟩ => ⟨S256x128, .i32⟩
  | .hbm, ⟨37, _⟩ => ⟨S_, .i32⟩
  | .hbm, ⟨38, _⟩ => ⟨S256x128, .i32⟩
  | .hbm, ⟨39, _⟩ => ⟨S256x128, .i32⟩
  | .hbm, ⟨40, _⟩ => ⟨S_, .i32⟩
  | .hbm, ⟨41, _⟩ => ⟨S256x128, .i32⟩
  | .hbm, ⟨42, _⟩ => ⟨S256x128, .i1⟩
  | .hbm, ⟨43, _⟩ => ⟨S256x128, .i32⟩
  | .hbm, ⟨44, _⟩ => ⟨S4096, .i32⟩
  | .hbm, ⟨45, _⟩ => ⟨S1x4096, .i32⟩
  | .hbm, ⟨46, _⟩ => ⟨S_, .i32⟩
  | .hbm, ⟨47, _⟩ => ⟨S1x4096, .i32⟩
  | .hbm, ⟨48, _⟩ => ⟨S1x4096, .i32⟩
  | .hbm, ⟨49, _⟩ => ⟨S16, .i32⟩
  | .hbm, ⟨50, _⟩ => ⟨S16x1, .i32⟩
  | .hbm, ⟨51, _⟩ => ⟨S_, .i32⟩
  | .hbm, ⟨52, _⟩ => ⟨S16x1, .i32⟩
  | .hbm, ⟨53, _⟩ => ⟨S16x1, .i32⟩
  | .hbm, ⟨54, _⟩ => ⟨S16x4096, .i32⟩
  | .hbm, ⟨55, _⟩ => ⟨S16x4096, .i32⟩
  | .hbm, ⟨56, _⟩ => ⟨S16x4096, .i32⟩
  | .hbm, ⟨57, _⟩ => ⟨S_, .i32⟩
  | .hbm, ⟨58, _⟩ => ⟨S16x4096, .i32⟩
  | .hbm, ⟨59, _⟩ => ⟨S16x4096, .i32⟩
  | .hbm, ⟨60, _⟩ => ⟨S_, .i32⟩
  | .hbm, ⟨61, _⟩ => ⟨S16x4096, .i32⟩
  | .hbm, ⟨62, _⟩ => ⟨S16x4096, .i32⟩
  | .hbm, ⟨63, _⟩ => ⟨S16x4096, .f32⟩
  | .hbm, ⟨64, _⟩ => ⟨S_, .f32⟩
  | .hbm, ⟨65, _⟩ => ⟨S16x4096, .f32⟩
  | .hbm, ⟨66, _⟩ => ⟨S16x4096, .f32⟩
  | .hbm, ⟨67, _⟩ => ⟨S16x4096, .f32⟩
  | .hbm, ⟨68, _⟩ => ⟨S_, .f32⟩
  | .hbm, ⟨69, _⟩ => ⟨S16x4096, .f32⟩
  | .hbm, ⟨70, _⟩ => ⟨S16x4096, .f32⟩
  | .hbm, ⟨71, _⟩ => ⟨S_, .f32⟩
  | .hbm, ⟨72, _⟩ => ⟨S16x4096, .f32⟩
  | .hbm, ⟨73, _⟩ => ⟨S16x4096, .f32⟩
  | .hbm, ⟨74, _⟩ => ⟨S16x4096, .i32⟩
  | .hbm, ⟨75, _⟩ => ⟨S_, .i32⟩
  | .hbm, ⟨76, _⟩ => ⟨S16x4096, .i32⟩
  | .hbm, ⟨77, _⟩ => ⟨S16x4096, .i32⟩
  | .hbm, ⟨78, _⟩ => ⟨S_, .i32⟩
  | .hbm, ⟨79, _⟩ => ⟨S16x4096, .i32⟩
  | .hbm, ⟨80, _⟩ => ⟨S16x4096, .i32⟩
  | .hbm, ⟨81, _⟩ => ⟨S_, .i32⟩
  | .hbm, ⟨82, _⟩ => ⟨S16x4096, .i32⟩
  | .hbm, ⟨83, _⟩ => ⟨S16x4096, .i1⟩
  | .hbm, ⟨84, _⟩ => ⟨S16x4096, .i32⟩
  | .hbm, ⟨85, _⟩ => ⟨S16x32x128, .i32⟩
  | .hbm, ⟨86, _⟩ => ⟨S32x16x128, .i32⟩
  | .hbm, ⟨87, _⟩ => ⟨S4096x3072, .bf16⟩
  | .hbm, ⟨88, _⟩ => ⟨S4096x256, .bf16⟩
  | .hbm, ⟨89, _⟩ => ⟨S1280x4096, .bf16⟩
  | .hbm, ⟨90, _⟩ => ⟨S4096x128, .f32⟩
  | .hbm, ⟨91, _⟩ => ⟨S128x3072, .bf16⟩
  | .hbm, ⟨92, _⟩ => ⟨S128x256, .bf16⟩
  | .hbm, ⟨93, _⟩ => ⟨S1280x128, .bf16⟩
  | .hbm, ⟨94, _⟩ => ⟨S128x128, .f32⟩
  | .hbm, ⟨95, _⟩ => ⟨S4x256x512, .f32⟩
  | .hbm, ⟨96, _⟩ => ⟨S32x4x16x512, .f32⟩
  | .local _ .vmem, ⟨0, _⟩ => ⟨S1024x2048, .f32⟩
  | .local _ .vmem, ⟨1, _⟩ => ⟨S1024x2048, .f32⟩
  | .local _ .vmem, ⟨2, _⟩ => ⟨S16x2048, .f32⟩
  | .local _ .vmem, ⟨3, _⟩ => ⟨S1x2048, .f32⟩
  | .local _ .vmem, ⟨4, _⟩ => ⟨S1024x2048, .bf16⟩
  | .local _ .vmem, ⟨5, _⟩ => ⟨S1024x2048, .bf16⟩
  | .local _ .vmem, ⟨6, _⟩ => ⟨S1792x2048, .bf16⟩
  | .local _ .vmem, ⟨7, _⟩ => ⟨S16x128, .i32⟩
  | .local _ .vmem, ⟨8, _⟩ => ⟨S16x128, .i32⟩
  | .local _ .vmem, ⟨9, _⟩ => ⟨S2x16x128, .i32⟩
  | .local _ .vmem, ⟨10, _⟩ => ⟨S2x16x128, .i32⟩
  | .local _ .vmem, ⟨11, _⟩ => ⟨S1024x1024, .bf16⟩
  | .local _ .vmem, ⟨12, _⟩ => ⟨S1024x1024, .bf16⟩
  | .local _ .vmem, ⟨13, _⟩ => ⟨S1024x256, .bf16⟩
  | .local _ .vmem, ⟨14, _⟩ => ⟨S1024x256, .bf16⟩
  | .local _ .vmem, ⟨15, _⟩ => ⟨S1280x1024, .bf16⟩
  | .local _ .vmem, ⟨16, _⟩ => ⟨S1280x1024, .bf16⟩
  | .local _ .vmem, ⟨17, _⟩ => ⟨S1024x128, .f32⟩
  | .local _ .vmem, ⟨18, _⟩ => ⟨S1024x128, .f32⟩
  | .local _ .vmem, ⟨19, _⟩ => ⟨S128x1024, .bf16⟩
  | .local _ .vmem, ⟨20, _⟩ => ⟨S128x1024, .bf16⟩
  | .local _ .vmem, ⟨21, _⟩ => ⟨S128x256, .bf16⟩
  | .local _ .vmem, ⟨22, _⟩ => ⟨S1280x128, .bf16⟩
  | .local _ .vmem, ⟨23, _⟩ => ⟨S128x128, .f32⟩
  | .local _ .vmem, ⟨24, _⟩ => ⟨S4x16x512, .f32⟩
  | .local _ .vmem, ⟨25, _⟩ => ⟨S4x16x512, .f32⟩
  | .local _ .vmem, ⟨26, _⟩ => ⟨S2x4x16x512, .f32⟩
  | .local _ .vmem, ⟨27, _⟩ => ⟨S2x4x16x512, .f32⟩
  | .local _ .vmem, ⟨28, _⟩ => ⟨S1024x2048, .bf16⟩
  | .local _ .vmem, ⟨29, _⟩ => ⟨S128x2048, .bf16⟩
  | .local _ .vmem, ⟨30, _⟩ => ⟨S512x8x128, .f32⟩
  | .local _ .smem, ⟨0, _⟩ => ⟨S32x16, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .smem, ⟨0, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_c_9 : Ref sig .tc := ⟨.hbm, 57, rfl⟩
abbrev main_v40 : Ref sig .tc := ⟨.hbm, 58, rfl⟩
abbrev main_v41 : Ref sig .tc := ⟨.hbm, 59, rfl⟩
abbrev main_c_10 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_11 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_12 : Ref sig .tc := ⟨.hbm, 68, rfl⟩
abbrev main_v48 : Ref sig .tc := ⟨.hbm, 69, rfl⟩
abbrev main_v49 : Ref sig .tc := ⟨.hbm, 70, rfl⟩
abbrev main_cst_13 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_c_14 : Ref sig .tc := ⟨.hbm, 75, rfl⟩
abbrev main_v53 : Ref sig .tc := ⟨.hbm, 76, rfl⟩
abbrev main_v54 : Ref sig .tc := ⟨.hbm, 77, rfl⟩
abbrev main_c_15 : Ref sig .tc := ⟨.hbm, 78, rfl⟩
abbrev main_v55 : Ref sig .tc := ⟨.hbm, 79, rfl⟩
abbrev main_v56 : Ref sig .tc := ⟨.hbm, 80, rfl⟩
abbrev main_c_16 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62_0 : Ref sig .tc := ⟨.hbm, 87, rfl⟩
abbrev main_v62_1 : Ref sig .tc := ⟨.hbm, 88, rfl⟩
abbrev main_v62_2 : Ref sig .tc := ⟨.hbm, 89, rfl⟩
abbrev main_v62_3 : Ref sig .tc := ⟨.hbm, 90, rfl⟩
abbrev main_v62_4 : Ref sig .tc := ⟨.hbm, 91, rfl⟩
abbrev main_v62_5 : Ref sig .tc := ⟨.hbm, 92, rfl⟩
abbrev main_v62_6 : Ref sig .tc := ⟨.hbm, 93, rfl⟩
abbrev main_v62_7 : Ref sig .tc := ⟨.hbm, 94, rfl⟩
abbrev main_v62_8 : Ref sig .tc := ⟨.hbm, 95, rfl⟩
abbrev main_v62_9 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_stg5_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem16_1 : DmaSem sig := 26
abbrev cc0_sem17_0 : DmaSem sig := 27
abbrev cc0_sem17_1 : DmaSem sig := 28

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let arg0 : BitVec 32 := BitVec.ofNat 32 (i 0).val
  let c0_i32_2 : BitVec 32 := 0#32
  let v4 : BitVec 1 := Scalar.cmpi .eq arg0 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

@[reducible] def k0_t1_loop : Scf.Loop 32 :=
  let c0_i32_21 : BitVec 32 := 0#32
  let c32_i32 : BitVec 32 := 32#32
  let v44 : BitVec 32 := Scalar.addi c0_i32_21 c32_i32
  let c1_i32 : BitVec 32 := 1#32
  ⟨c0_i32_21, v44, c1_i32⟩
def k0_off1 (k0_t1 : Fin k0_t1_loop.trips) : Fin 2 → Nat :=
  let c0_i32_21 : BitVec 32 := 0#32
  let c1_i32 : BitVec 32 := 1#32
  let arg23 : BitVec 32 := Scf.iv c0_i32_21 c1_i32 k0_t1
  let v45 : Index := Scalar.indexCast arg23
  let c0_23 : Index := 0#32
  ![v45.toNat, 0]
def k0_off2 (k0_t1 : Fin k0_t1_loop.trips) (c0_i32_25 : BitVec 32) : Fin 3 → Nat :=
  let c0_i32_21 : BitVec 32 := 0#32
  let c1_i32 : BitVec 32 := 1#32
  let arg23 : BitVec 32 := Scf.iv c0_i32_21 c1_i32 k0_t1
  let c16_i32 : BitVec 32 := 16#32
  let v50 : BitVec 32 := Scalar.muli arg23 c16_i32
  let v51 : BitVec 32 := Scalar.addi v50 c0_i32_25
  let v52 : Index := Scalar.indexCast v51
  let c0_26 : Index := 0#32
  let c0_27 : Index := 0#32
  ![v52.toNat, 0, 0]
def k0_off3 (k0_t1 : Fin k0_t1_loop.trips) : Fin 2 → Nat :=
  let c0_i32_21 : BitVec 32 := 0#32
  let c1_i32 : BitVec 32 := 1#32
  let arg23 : BitVec 32 := Scf.iv c0_i32_21 c1_i32 k0_t1
  let v56 : Index := Scalar.indexCast arg23
  let c1 : Index := 1#32
  ![v56.toNat, 1]
def k0_off4 (k0_t1 : Fin k0_t1_loop.trips) : Fin 2 → Nat :=
  let c0_i32_21 : BitVec 32 := 0#32
  let c1_i32 : BitVec 32 := 1#32
  let arg23 : BitVec 32 := Scf.iv c0_i32_21 c1_i32 k0_t1
  let v67 : Index := Scalar.indexCast arg23
  let c2 : Index := 2#32
  ![v67.toNat, 2]
def k0_off5 (k0_t1 : Fin k0_t1_loop.trips) : Fin 2 → Nat :=
  let c0_i32_21 : BitVec 32 := 0#32
  let c1_i32 : BitVec 32 := 1#32
  let arg23 : BitVec 32 := Scf.iv c0_i32_21 c1_i32 k0_t1
  let v78 : Index := Scalar.indexCast arg23
  let c3 : Index := 3#32
  ![v78.toNat, 3]
def k0_off6 (k0_t1 : Fin k0_t1_loop.trips) : Fin 2 → Nat :=
  let c0_i32_21 : BitVec 32 := 0#32
  let c1_i32 : BitVec 32 := 1#32
  let arg23 : BitVec 32 := Scf.iv c0_i32_21 c1_i32 k0_t1
  let v89 : Index := Scalar.indexCast arg23
  let c4 : Index := 4#32
  ![v89.toNat, 4]
def k0_off7 (k0_t1 : Fin k0_t1_loop.trips) : Fin 2 → Nat :=
  let c0_i32_21 : BitVec 32 := 0#32
  let c1_i32 : BitVec 32 := 1#32
  let arg23 : BitVec 32 := Scf.iv c0_i32_21 c1_i32 k0_t1
  let v100 : Index := Scalar.indexCast arg23
  let c5 : Index := 5#32
  ![v100.toNat, 5]
def k0_off8 (k0_t1 : Fin k0_t1_loop.trips) : Fin 2 → Nat :=
  let c0_i32_21 : BitVec 32 := 0#32
  let c1_i32 : BitVec 32 := 1#32
  let arg23 : BitVec 32 := Scf.iv c0_i32_21 c1_i32 k0_t1
  let v111 : Index := Scalar.indexCast arg23
  let c6 : Index := 6#32
  ![v111.toNat, 6]
def k0_off9 (k0_t1 : Fin k0_t1_loop.trips) : Fin 2 → Nat :=
  let c0_i32_21 : BitVec 32 := 0#32
  let c1_i32 : BitVec 32 := 1#32
  let arg23 : BitVec 32 := Scf.iv c0_i32_21 c1_i32 k0_t1
  let v122 : Index := Scalar.indexCast arg23
  let c7 : Index := 7#32
  ![v122.toNat, 7]
def k0_off10 (k0_t1 : Fin k0_t1_loop.trips) : Fin 2 → Nat :=
  let c0_i32_21 : BitVec 32 := 0#32
  let c1_i32 : BitVec 32 := 1#32
  let arg23 : BitVec 32 := Scf.iv c0_i32_21 c1_i32 k0_t1
  let v133 : Index := Scalar.indexCast arg23
  let c8 : Index := 8#32
  ![v133.toNat, 8]
def k0_off11 (k0_t1 : Fin k0_t1_loop.trips) : Fin 2 → Nat :=
  let c0_i32_21 : BitVec 32 := 0#32
  let c1_i32 : BitVec 32 := 1#32
  let arg23 : BitVec 32 := Scf.iv c0_i32_21 c1_i32 k0_t1
  let v144 : Index := Scalar.indexCast arg23
  let c9 : Index := 9#32
  ![v144.toNat, 9]
def k0_off12 (k0_t1 : Fin k0_t1_loop.trips) : Fin 2 → Nat :=
  let c0_i32_21 : BitVec 32 := 0#32
  let c1_i32 : BitVec 32 := 1#32
  let arg23 : BitVec 32 := Scf.iv c0_i32_21 c1_i32 k0_t1
  let v155 : Index := Scalar.indexCast arg23
  let c10 : Index := 10#32
  ![v155.toNat, 10]
def k0_off13 (k0_t1 : Fin k0_t1_loop.trips) : Fin 2 → Nat :=
  let c0_i32_21 : BitVec 32 := 0#32
  let c1_i32 : BitVec 32 := 1#32
  let arg23 : BitVec 32 := Scf.iv c0_i32_21 c1_i32 k0_t1
  let v166 : Index := Scalar.indexCast arg23
  let c11 : Index := 11#32
  ![v166.toNat, 11]
def k0_off14 (k0_t1 : Fin k0_t1_loop.trips) : Fin 2 → Nat :=
  let c0_i32_21 : BitVec 32 := 0#32
  let c1_i32 : BitVec 32 := 1#32
  let arg23 : BitVec 32 := Scf.iv c0_i32_21 c1_i32 k0_t1
  let v177 : Index := Scalar.indexCast arg23
  let c12 : Index := 12#32
  ![v177.toNat, 12]
def k0_off15 (k0_t1 : Fin k0_t1_loop.trips) : Fin 2 → Nat :=
  let c0_i32_21 : BitVec 32 := 0#32
  let c1_i32 : BitVec 32 := 1#32
  let arg23 : BitVec 32 := Scf.iv c0_i32_21 c1_i32 k0_t1
  let v188 : Index := Scalar.indexCast arg23
  let c13 : Index := 13#32
  ![v188.toNat, 13]
def k0_off16 (k0_t1 : Fin k0_t1_loop.trips) : Fin 2 → Nat :=
  let c0_i32_21 : BitVec 32 := 0#32
  let c1_i32 : BitVec 32 := 1#32
  let arg23 : BitVec 32 := Scf.iv c0_i32_21 c1_i32 k0_t1
  let v199 : Index := Scalar.indexCast arg23
  let c14 : Index := 14#32
  ![v199.toNat, 14]
def k0_off17 (k0_t1 : Fin k0_t1_loop.trips) : Fin 2 → Nat :=
  let c0_i32_21 : BitVec 32 := 0#32
  let c1_i32 : BitVec 32 := 1#32
  let arg23 : BitVec 32 := Scf.iv c0_i32_21 c1_i32 k0_t1
  let v210 : Index := Scalar.indexCast arg23
  let c15 : Index := 15#32
  ![v210.toNat, 15]
def k0_cond3 (i : grid0.Coords) : BitVec 1 :=
  let arg1 : BitVec 32 := BitVec.ofNat 32 (i 1).val
  let c3_i32 : BitVec 32 := 3#32
  let v8 : BitVec 1 := Scalar.cmpi .slt arg1 c3_i32
  let v9 : BitVec 32 := Scalar.extui v8
  let c0_i32_4 : BitVec 32 := 0#32
  let v10 : BitVec 1 := Scalar.cmpi .ne v9 c0_i32_4
  v10

def k0_cond4 (i : grid0.Coords) : BitVec 1 :=
  let arg1 : BitVec 32 := BitVec.ofNat 32 (i 1).val
  let c3_i32_5 : BitVec 32 := 3#32
  let v11 : BitVec 1 := Scalar.cmpi .eq arg1 c3_i32_5
  let v12 : BitVec 32 := Scalar.extui v11
  let c0_i32_6 : BitVec 32 := 0#32
  let v13 : BitVec 1 := Scalar.cmpi .ne v12 c0_i32_6
  v13

def k0_cond5 (i : grid0.Coords) : BitVec 1 :=
  let arg0 : BitVec 32 := BitVec.ofNat 32 (i 0).val
  let c0_i32_7 : BitVec 32 := 0#32
  let v14 : BitVec 1 := Scalar.cmpi .eq arg0 c0_i32_7
  let arg1 : BitVec 32 := BitVec.ofNat 32 (i 1).val
  let c3_i32_8 : BitVec 32 := 3#32
  let v15 : BitVec 1 := Scalar.cmpi .slt arg1 c3_i32_8
  let v16 : BitVec 1 := Scalar.andi v14 v15
  let v17 : BitVec 32 := Scalar.extui v16
  let c0_i32_9 : BitVec 32 := 0#32
  let v18 : BitVec 1 := Scalar.cmpi .ne v17 c0_i32_9
  v18

def k0_cond6 (i : grid0.Coords) : BitVec 1 :=
  let arg0 : BitVec 32 := BitVec.ofNat 32 (i 0).val
  let c0_i32_10 : BitVec 32 := 0#32
  let v19 : BitVec 1 := Scalar.cmpi .eq arg0 c0_i32_10
  let arg1 : BitVec 32 := BitVec.ofNat 32 (i 1).val
  let c3_i32_11 : BitVec 32 := 3#32
  let v20 : BitVec 1 := Scalar.cmpi .eq arg1 c3_i32_11
  let v21 : BitVec 1 := Scalar.andi v19 v20
  let v22 : BitVec 32 := Scalar.extui v21
  let c0_i32_12 : BitVec 32 := 0#32
  let v23 : BitVec 1 := Scalar.cmpi .ne v22 c0_i32_12
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.minsi arg1 c2_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.minsi arg1 c2_i32
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c2_i32 : BitVec 32 := 2#32
  let v1 : BitVec 32 := Scalar.minsi arg1 c2_i32
  let c2_i32_0 : BitVec 32 := 2#32
  let v2 : BitVec 32 := Scalar.select v0 v1 c2_i32_0
  let c0_i32_1 : BitVec 32 := 0#32
  let c0_i32_2 : BitVec 32 := 0#32
  ![c0_i32_1.toNat, v2.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_17 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S16x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1792x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .smem S32x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S16x128 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x16x128 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1280x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S128x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 1 → Memref sig .tc .vmem S128x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1280x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S4x16x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S2x4x16x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== InprojReferenceIdeal.lean ====
abbrev S8192x2048 : Shape := ⟨2, ![8192, 2048]⟩
abbrev S16x2048 : Shape := ⟨2, ![16, 2048]⟩
abbrev S1x2048 : Shape := ⟨2, ![1, 2048]⟩
abbrev S3072x2048 : Shape := ⟨2, ![3072, 2048]⟩
abbrev S1792x2048 : Shape := ⟨2, ![1792, 2048]⟩
abbrev S32x16 : Shape := ⟨2, ![32, 16]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S2048x3072 : Shape := ⟨2, ![2048, 3072]⟩
abbrev S4096x3072 : Shape := ⟨2, ![4096, 3072]⟩
abbrev S256x2048 : Shape := ⟨2, ![256, 2048]⟩
abbrev S2048x256 : Shape := ⟨2, ![2048, 256]⟩
abbrev S4096x256 : Shape := ⟨2, ![4096, 256]⟩
abbrev S1280x2048 : Shape := ⟨2, ![1280, 2048]⟩
abbrev S2048x1280 : Shape := ⟨2, ![2048, 1280]⟩
abbrev S4096x1280 : Shape := ⟨2, ![4096, 1280]⟩
abbrev S128x2048 : Shape := ⟨2, ![128, 2048]⟩
abbrev S2048x128 : Shape := ⟨2, ![2048, 128]⟩
abbrev S4096x128 : Shape := ⟨2, ![4096, 128]⟩
abbrev S1280x4096 : Shape := ⟨2, ![1280, 4096]⟩

abbrev nBuf : Space → Nat
  | .hbm => 39
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S16x2048, .f32⟩
  | .hbm, ⟨2, _⟩ => ⟨S1x2048, .f32⟩
  | .hbm, ⟨3, _⟩ => ⟨S3072x2048, .bf16⟩
  | .hbm, ⟨4, _⟩ => ⟨S1792x2048, .bf16⟩
  | .hbm, ⟨5, _⟩ => ⟨S32x16, .f32⟩
  | .hbm, ⟨6, _⟩ => ⟨S3072x2048, .f32⟩
  | .hbm, ⟨7, _⟩ => ⟨S1792x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S2048x3072, .f32⟩
  | .hbm, ⟨25, _⟩ => ⟨S4096x3072, .f32⟩
  | .hbm, ⟨26, _⟩ => ⟨S256x2048, .f32⟩
  | .hbm, ⟨27, _⟩ => ⟨S2048x256, .f32⟩
  | .hbm, ⟨28, _⟩ => ⟨S4096x256, .f32⟩
  | .hbm, ⟨29, _⟩ => ⟨S1280x2048, .f32⟩
  | .hbm, ⟨30, _⟩ => ⟨S2048x1280, .f32⟩
  | .hbm, ⟨31, _⟩ => ⟨S4096x1280, .f32⟩
  | .hbm, ⟨32, _⟩ => ⟨S128x2048, .f32⟩
  | .hbm, ⟨33, _⟩ => ⟨S2048x128, .f32⟩
  | .hbm, ⟨34, _⟩ => ⟨S4096x128, .f32⟩
  | .hbm, ⟨35, _⟩ => ⟨S4096x3072, .bf16⟩
  | .hbm, ⟨36, _⟩ => ⟨S4096x256, .bf16⟩
  | .hbm, ⟨37, _⟩ => ⟨S1280x4096, .f32⟩
  | .hbm, ⟨38, _⟩ => ⟨S1280x4096, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== Proof.MixFrame.lean ====
module

public import proofs.«01_k».proof.Proof.Gen.Mixer.Frame.RunB
public import Idealize.ShloMosaic.Lib.Claim
public import Idealize.ShloMosaic.Lib.Pipeline.ValueKit

@[expose] public section

/-! The run of the layer's mixing kernel over machine words: it ends, leaves its arguments as they were and every
counter at zero; of its outputs nothing is said. -/

set_option maxRecDepth 16384

noncomputable section

namespace Cert.Mixer.Att

open Cert.Mixer Cert.Mixer.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows of which nothing is said: 23, 24, 25, 26. -/
def fgt : Fin 27 → Bool := fun w => w.val == 23 || w.val == 24 || w.val == 25 || w.val == 26

/-- The pipeline's data on a core: every input's buffer holds its block after the body,
    the invariant is that the scratch buffers are owned at some contents, and nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, h⟩ => Pipeline.Dat.unnamed (cfg := cfg0) ⟨23, h⟩ t
    | ⟨24, h⟩ => Pipeline.Dat.unnamed (cfg := cfg0) ⟨24, h⟩ t
    | ⟨25, h⟩ => Pipeline.Dat.unnamed (cfg := cfg0) ⟨25, h⟩ t
    | ⟨26, h⟩ => Pipeline.Dat.unnamed (cfg := cfg0) ⟨26, h⟩ t
    | ⟨_ + 27, h⟩ => absurd h (Nat.not_lt.2 (Nat.le_add_left _ _))
  Φ _ := Pipeline.ΦA spec0 c
  q w := Pipeline.shareOf spec0 w
  owed _ := 0

/-- The data's arrays are the ones the region finds. -/
theorem A_eq (c : Dev nD) (w : Fin cfg0.W) : (dats m 0 c).A w = V m c (Pipeline.arrRef spec0 w) := by
  dsimp only [dats]

-- what each input's buffer holds after the body

theorem after_0 (c : Dev nD) (t : Fin cfg0.N) : (dats m 0 c).after 0 t = iblk m c 0 t := by dsimp only [dats]
theorem after_1 (c : Dev nD) (t : Fin cfg0.N) : (dats m 0 c).after 1 t = X0_1 m c t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = iblk m c 17 t := by dsimp only [dats]
theorem after_18 (c : Dev nD) (t : Fin cfg0.N) : (dats m 0 c).after 18 t = iblk m c 18 t := by dsimp only [dats]
theorem after_19 (c : Dev nD) (t : Fin cfg0.N) : (dats m 0 c).after 19 t = iblk m c 19 t := by dsimp only [dats]
theorem after_20 (c : Dev nD) (t : Fin cfg0.N) : (dats m 0 c).after 20 t = iblk m c 20 t := by dsimp only [dats]
theorem after_21 (c : Dev nD) (t : Fin cfg0.N) : (dats m 0 c).after 21 t = iblk m c 21 t := by dsimp only [dats]
theorem after_22 (c : Dev nD) (t : Fin cfg0.N) : (dats m 0 c).after 22 t = iblk m c 22 t := by dsimp only [dats]

-- and before it
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = X0_1 m c t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d
theorem before_15 (c : Dev nD) (t : Fin cfg0.N) (d) : (dats m 0 c).before 15 t d = iblk m c 15 t :=
  before0_15_of m (dats m 0 c) (A_eq m c 15) (after_15 m c) t d
theorem before_16 (c : Dev nD) (t : Fin cfg0.N) (d) : (dats m 0 c).before 16 t d = iblk m c 16 t :=
  before0_16_of m (dats m 0 c) (A_eq m c 16) (after_16 m c) t d
theorem before_17 (c : Dev nD) (t : Fin cfg0.N) (d) : (dats m 0 c).before 17 t d = iblk m c 17 t :=
  before0_17_of m (dats m 0 c) (A_eq m c 17) (after_17 m c) t d
theorem before_18 (c : Dev nD) (t : Fin cfg0.N) (d) : (dats m 0 c).before 18 t d = iblk m c 18 t :=
  before0_18_of m (dats m 0 c) (A_eq m c 18) (after_18 m c) t d
theorem before_19 (c : Dev nD) (t : Fin cfg0.N) (d) : (dats m 0 c).before 19 t d = iblk m c 19 t :=
  before0_19_of m (dats m 0 c) (A_eq m c 19) (after_19 m c) t d
theorem before_20 (c : Dev nD) (t : Fin cfg0.N) (d) : (dats m 0 c).before 20 t d = iblk m c 20 t :=
  before0_20_of m (dats m 0 c) (A_eq m c 20) (after_20 m c) t d
theorem before_21 (c : Dev nD) (t : Fin cfg0.N) (d) : (dats m 0 c).before 21 t d = iblk m c 21 t :=
  before0_21_of m (dats m 0 c) (A_eq m c 21) (after_21 m c) t d
theorem before_22 (c : Dev nD) (t : Fin cfg0.N) (d) : (dats m 0 c).before 22 t d = iblk m c 22 t :=
  before0_22_of m (dats m 0 c) (A_eq m c 22) (after_22 m c) t d

/-- What the body starts from at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare d)
    ∗ (∃ d, owns (c : Thread nD τ) (ms0_24 t) fullShare d)
    ∗ (∃ d, owns (c : Thread nD τ) (ms0_25 t) fullShare d)
    ∗ (∃ d, owns (c : Thread nD τ) (ms0_26 t) fullShare d))

/-- What it leaves. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ (∃ d, owns (c : Thread nD τ) (ms0_23 t) fullShare d)
    ∗ (∃ d, owns (c : Thread nD τ) (ms0_24 t) fullShare d)
    ∗ (∃ d, owns (c : Thread nD τ) (ms0_25 t) fullShare d)
    ∗ (∃ d, owns (c : Thread nD τ) (ms0_26 t) fullShare d))

/-- The body table's row at point `t`'s slots is the body. -/
theorem row (t : Fin cfg0.N) :
    defs₀ (F := F) .tc cfg0.body (cfg0.bodyArgs t (cfg0.slots t)) = bodyAt0 t := by
  unfold defs₀; rw [Defs.onTc_tc]

set_option maxHeartbeats 22400000 in
/-- The body at a point: the run of the point's case, the scratch and the windows nothing is said of taken at any contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16, before_17, before_18, before_19, before_20, before_21, before_22]
  rw [show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19, after_20, after_21, after_22]
  rw [show (dats m 0 c).Φ t.castSucc = Pipeline.ΦA spec0 c from rfl, show (dats m 0 c).Φ t.succ = Pipeline.ΦA spec0 c from rfl, PhiA0_eq]
  by_cases h0 : t.val % 16 = 0
  · iintro ⟨⟨⟨⟨%s0, HS0⟩, ⟨%s1, HS1⟩, ⟨%s2, HS2⟩, ⟨%s3, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
    iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (iblk m c 0 t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)).2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexists _; iexact H23
    isplitl [H24]; · iexists _; iexact H24
    isplitl [H25]; · iexists _; iexact H25
    isplitl [H26]; · iexists _; iexact H26
    isplitl [HS0]; · iexists _; iexact HS0
    isplitl [HS1]; · iexists _; iexact HS1
    isplitl [HS2]; · iexists _; iexact HS2
    isplitl [HS3]; · iexists _; iexact HS3
    iintro ⟨H0, H1, H2, H3, H4, H5, H6, H7, H8, H9, H10, H11, H12, H13, H14, H15, H16, H17, H18, H19, H20, H21, H22, ⟨%e23, H23⟩, ⟨%e24, H24⟩, ⟨%e25, H25⟩, ⟨%e26, H26⟩, ⟨%es0, HS0⟩, ⟨%es1, HS1⟩, ⟨%es2, HS2⟩, ⟨%es3, HS3⟩⟩
    isplitl [HS0 HS1 HS2 HS3 Hg]
    · isplitl [HS0 HS1 HS2 HS3]
      · isplitl [HS0]
        · iexists _; unfold owns; iexists _; isplitr; swap; iexact HS0; ipureintro; rfl
        isplitl [HS1]
        · iexists _; unfold owns; iexists _; isplitr; swap; iexact HS1; ipureintro; rfl
        isplitl [HS2]
        · iexists _; unfold owns; iexists _; isplitr; swap; iexact HS2; ipureintro; rfl
        iexists _; unfold owns; iexists _; isplitr; swap; iexact HS3; ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexists _; unfold owns; iexists _; isplitr; swap; iexact H23; ipureintro; rfl
    isplitl [H24]; · iexists _; unfold owns; iexists _; isplitr; swap; iexact H24; ipureintro; rfl
    isplitl [H25]; · iexists _; unfold owns; iexists _; isplitr; swap; iexact H25; ipureintro; rfl
    iexists _; unfold owns; iexists _; isplitr; swap; iexact H26; ipureintro; rfl
  · iintro ⟨⟨⟨⟨%s0, HS0⟩, ⟨%s1, HS1⟩, ⟨%s2, HS2⟩, ⟨%s3, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
    iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (iblk m c 0 t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) s0 s1 s2 s3).2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexists _; iexact H23
    isplitl [H24]; · iexists _; iexact H24
    isplitl [H25]; · iexists _; iexact H25
    isplitl [H26]; · iexists _; iexact H26
    isplitl [HS0]; · iexact HS0
    isplitl [HS1]; · iexact HS1
    isplitl [HS2]; · iexact HS2
    isplitl [HS3]; · iexact HS3
    iintro ⟨H0, H1, H2, H3, H4, H5, H6, H7, H8, H9, H10, H11, H12, H13, H14, H15, H16, H17, H18, H19, H20, H21, H22, ⟨%e23, H23⟩, ⟨%e24, H24⟩, ⟨%e25, H25⟩, ⟨%e26, H26⟩, ⟨%es0, HS0⟩, ⟨%es1, HS1⟩, ⟨%es2, HS2⟩, ⟨%es3, HS3⟩⟩
    isplitl [HS0 HS1 HS2 HS3 Hg]
    · isplitl [HS0 HS1 HS2 HS3]
      · isplitl [HS0]
        · iexists _; unfold owns; iexists _; isplitr; swap; iexact HS0; ipureintro; rfl
        isplitl [HS1]
        · iexists _; unfold owns; iexists _; isplitr; swap; iexact HS1; ipureintro; rfl
        isplitl [HS2]
        · iexists _; unfold owns; iexists _; isplitr; swap; iexact HS2; ipureintro; rfl
        iexists _; unfold owns; iexists _; isplitr; swap; iexact HS3; ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexists _; unfold owns; iexists _; isplitr; swap; iexact H23; ipureintro; rfl
    isplitl [H24]; · iexists _; unfold owns; iexists _; isplitr; swap; iexact H24; ipureintro; rfl
    isplitl [H25]; · iexists _; unfold owns; iexists _; isplitr; swap; iexact H25; ipureintro; rfl
    iexists _; unfold owns; iexists _; isplitr; swap; iexact H26; ipureintro; rfl

set_option maxHeartbeats 8000000 in
/-- The body obligation at every point. -/
theorem obligation (c : Dev nD) : BodyObligation (dats (F := F) m 0 c) (defs₀ (F := F)) Variants.none () Set.univ fgt := fun t => by
  rw [bigSep_W0, bigSep_W0, row]
  exact triple_restated (sound_body m c t) rfl .rfl fun _ => .rfl

set_option backward.isDefEq.respectTransparency.types false in
/-- The whole run: the arrays end as the data say, and every counter ends at zero. -/
theorem run : θ_run defs (onTc (τ := τ) (main (F := F))) (s₀ m ρ)
    (fun r => (Pipeline.RDat.FramePost (cfgs 0) (fun c => (dats m 0 c).toRForget fgt) (V m)) r ∧ r.2.sem = fun _ => 0) :=
  Pipeline.θ_run_frame_track_forget_shared (Q' := _) cfgs (dats m) (0 : Fin 1) launch₀0 defs₀ Variants.none fgt m ρ main
    (hbody := fun c => (obligation m c).loose) (hq := fun _ _ _ => rfl)
    (howed := fun _ _ => rfl) (V := V m) (hmain := hmain m Variants.none) (hA := A_eq m)
    (hin := fun _ => Idealize.SL.BI.Entails.refl _) (hout := fun _ => Idealize.SL.BI.Entails.refl _)

/-- THE FRAME: every argument array ends unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19))
      ∧ r.2.sem = fun _ => 0) :=
  (θ_run defs _ _).mono (fun _ h => ⟨fun c => ⟨(Pipeline.RDat.FramePost.arr_in h.1 c 0 rfl).trans (V_main_arg0 m c),
      (Pipeline.RDat.FramePost.arr_in h.1 c 6 rfl).trans (V_main_arg1 m c),
      (Pipeline.RDat.FramePost.arr_in h.1 c 3 rfl).trans (V_main_arg2 m c),
      (Pipeline.RDat.FramePost.arr_in h.1 c 4 rfl).trans (V_main_arg3 m c),
      (Pipeline.RDat.FramePost.arr_in h.1 c 7 rfl).trans (V_main_arg4 m c),
      (Pipeline.RDat.FramePost.arr_in h.1 c 8 rfl).trans (V_main_arg5 m c),
      (Pipeline.RDat.FramePost.arr_in h.1 c 9 rfl).trans (V_main_arg6 m c),
      (Pipeline.RDat.FramePost.arr_in h.1 c 10 rfl).trans (V_main_arg7 m c),
      (Pipeline.RDat.FramePost.arr_in h.1 c 11 rfl).trans (V_main_arg8 m c),
      (Pipeline.RDat.FramePost.arr_in h.1 c 12 rfl).trans (V_main_arg9 m c),
      (Pipeline.RDat.FramePost.arr_in h.1 c 13 rfl).trans (V_main_arg10 m c),
      (Pipeline.RDat.FramePost.arr_in h.1 c 14 rfl).trans (V_main_arg11 m c),
      (Pipeline.RDat.FramePost.arr_in h.1 c 15 rfl).trans (V_main_arg12 m c),
      (Pipeline.RDat.FramePost.arr_in h.1 c 16 rfl).trans (V_main_arg13 m c),
      (Pipeline.RDat.FramePost.arr_in h.1 c 17 rfl).trans (V_main_arg14 m c),
      (Pipeline.RDat.FramePost.arr_in h.1 c 18 rfl).trans (V_main_arg15 m c),
      (Pipeline.RDat.FramePost.arr_in h.1 c 19 rfl).trans (V_main_arg16 m c),
      (Pipeline.RDat.FramePost.arr_in h.1 c 20 rfl).trans (V_main_arg17 m c),
      (Pipeline.RDat.FramePost.arr_in h.1 c 21 rfl).trans (V_main_arg18 m c),
      (Pipeline.RDat.FramePost.arr_in h.1 c 22 rfl).trans (V_main_arg19 m c)⟩, h.2⟩) (run m ρ)

end Cert.Mixer.Att
-- ==== Proof.MixFrameIdeal.lean ====
module

public import proofs.«01_k».proof.Proof.Gen.MixerIdeal.Frame.RunB
public import Idealize.ShloMosaic.Lib.Claim
public import Idealize.ShloMosaic.Lib.Pipeline.ValueKit

@[expose] public section

/-! The run of the layer's mixing kernel over ideal values: the attention window is followed through the points,
of its other outputs (the recurrent branch and the two converted weights) nothing is said. -/

set_option maxRecDepth 16384

noncomputable section

namespace Cert.MixerIdeal.Att

open Cert.MixerIdeal Cert.MixerIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The stores the kernel makes into the attention window at the first point. -/
abbrev LA (c : Dev nD) (t : Fin cfg0.N) (h0 : t.val % 16 = 0) :=
  (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) scM0_3 (Memref.isWhole_whole _) ((hcond0_0 t).mpr h0) (iblk m c 0 t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)).1

/-- The stores the kernel makes into the attention window at a later point, over the scratch contents it finds. -/
abbrev LB (c : Dev nD) (t : Fin cfg0.N) (h0 : ¬t.val % 16 = 0) (xs0 : Vec F S4x128x256 .f32) (xs1 xs2 : Vec F S4x8x128 .f32) (xs3 : Vec F S128x1024 .bf16) :=
  (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) scM0_3 (Memref.isWhole_whole _) (fun h => h0 ((hcond0_0 t).mp h)) (iblk m c 0 t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) xs0 xs1 xs2 xs3).1

/-- The stores of the first point tile the attention window. -/
theorem coverA (c : Dev nD) (t : Fin cfg0.N) (h0 : t.val % 16 = 0) (y : S1024x256.Idx) : ∃ pc ∈ LA m c t h0, y ∈ pc.1.set :=
  View.cover_of_tiledL (LA m c t h0) S64x128.size (by sl_kernel_rfl) y

/-- The stores of a later point tile the attention window. -/
theorem coverB (c : Dev nD) (t : Fin cfg0.N) (h0 : ¬t.val % 16 = 0) (xs0 : Vec F S4x128x256 .f32) (xs1 xs2 : Vec F S4x8x128 .f32) (xs3 : Vec F S128x1024 .bf16) (y : S1024x256.Idx) :
    ∃ pc ∈ LB m c t h0 xs0 xs1 xs2 xs3, y ∈ pc.1.set :=
  View.cover_of_tiledL (LB m c t h0 xs0 xs1 xs2 xs3) S64x128.size (by sl_kernel_rfl) y

-- what the attention window holds after the body at each point, and that the stores of either case leave it there
variable (S : Dev nD → (t : Fin cfg0.N) → Vec F S1024x256 .bf16)
  (hA : ∀ c t h0, VO0_23.read (Elt F) (VO0_23.writes (Elt F) VO0_23.junk (LA m c t h0)) = S c t)
  (hB : ∀ c t h0 xs0 xs1 xs2 xs3, VO0_23.read (Elt F) (VO0_23.writes (Elt F) VO0_23.junk (LB m c t h0 xs0 xs1 xs2 xs3)) = S c t)

/-- The windows of which nothing is said: 24, 25, 26. -/
def fgt : Fin 27 → Bool := fun w => w.val == 24 || w.val == 25 || w.val == 26

/-- The pipeline's data on a core: every input's buffer holds its block after the body, the attention window holds the stated block,
    the invariant is that the scratch buffers are owned at some contents, and nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => S c t
    | ⟨24, h⟩ => Pipeline.Dat.unnamed (cfg := cfg0) ⟨24, h⟩ t
    | ⟨25, h⟩ => Pipeline.Dat.unnamed (cfg := cfg0) ⟨25, h⟩ t
    | ⟨26, h⟩ => Pipeline.Dat.unnamed (cfg := cfg0) ⟨26, h⟩ t
    | ⟨_ + 27, h⟩ => absurd h (Nat.not_lt.2 (Nat.le_add_left _ _))
  Φ _ := Pipeline.ΦA spec0 c
  q w := Pipeline.shareOf spec0 w
  owed _ := 0

/-- The data's arrays are the ones the region finds. -/
theorem A_eq (c : Dev nD) (w : Fin cfg0.W) : (dats m S 0 c).A w = V m c (Pipeline.arrRef spec0 w) := by
  dsimp only [dats]

-- what each input's buffer holds after the body

theorem after_0 (c : Dev nD) (t : Fin cfg0.N) : (dats m S 0 c).after 0 t = iblk m c 0 t := by dsimp only [dats]
theorem after_1 (c : Dev nD) (t : Fin cfg0.N) : (dats m S 0 c).after 1 t = X0_1 m c t := by dsimp only [dats]
theorem after_2 (c : Dev nD) (t : Fin cfg0.N) : (dats m S 0 c).after 2 t = iblk m c 2 t := by dsimp only [dats]
theorem after_3 (c : Dev nD) (t : Fin cfg0.N) : (dats m S 0 c).after 3 t = iblk m c 3 t := by dsimp only [dats]
theorem after_4 (c : Dev nD) (t : Fin cfg0.N) : (dats m S 0 c).after 4 t = iblk m c 4 t := by dsimp only [dats]
theorem after_5 (c : Dev nD) (t : Fin cfg0.N) : (dats m S 0 c).after 5 t = iblk m c 5 t := by dsimp only [dats]
theorem after_6 (c : Dev nD) (t : Fin cfg0.N) : (dats m S 0 c).after 6 t = iblk m c 6 t := by dsimp only [dats]
theorem after_7 (c : Dev nD) (t : Fin cfg0.N) : (dats m S 0 c).after 7 t = iblk m c 7 t := by dsimp only [dats]
theorem after_8 (c : Dev nD) (t : Fin cfg0.N) : (dats m S 0 c).after 8 t = iblk m c 8 t := by dsimp only [dats]
theorem after_9 (c : Dev nD) (t : Fin cfg0.N) : (dats m S 0 c).after 9 t = iblk m c 9 t := by dsimp only [dats]
theorem after_10 (c : Dev nD) (t : Fin cfg0.N) : (dats m S 0 c).after 10 t = iblk m c 10 t := by dsimp only [dats]
theorem after_11 (c : Dev nD) (t : Fin cfg0.N) : (dats m S 0 c).after 11 t = iblk m c 11 t := by dsimp only [dats]
theorem after_12 (c : Dev nD) (t : Fin cfg0.N) : (dats m S 0 c).after 12 t = iblk m c 12 t := by dsimp only [dats]
theorem after_13 (c : Dev nD) (t : Fin cfg0.N) : (dats m S 0 c).after 13 t = iblk m c 13 t := by dsimp only [dats]
theorem after_14 (c : Dev nD) (t : Fin cfg0.N) : (dats m S 0 c).after 14 t = iblk m c 14 t := by dsimp only [dats]
theorem after_15 (c : Dev nD) (t : Fin cfg0.N) : (dats m S 0 c).after 15 t = iblk m c 15 t := by dsimp only [dats]
theorem after_16 (c : Dev nD) (t : Fin cfg0.N) : (dats m S 0 c).after 16 t = iblk m c 16 t := by dsimp only [dats]
theorem after_17 (c : Dev nD) (t : Fin cfg0.N) : (dats m S 0 c).after 17 t = iblk m c 17 t := by dsimp only [dats]
theorem after_18 (c : Dev nD) (t : Fin cfg0.N) : (dats m S 0 c).after 18 t = iblk m c 18 t := by dsimp only [dats]
theorem after_19 (c : Dev nD) (t : Fin cfg0.N) : (dats m S 0 c).after 19 t = iblk m c 19 t := by dsimp only [dats]
theorem after_20 (c : Dev nD) (t : Fin cfg0.N) : (dats m S 0 c).after 20 t = iblk m c 20 t := by dsimp only [dats]
theorem after_21 (c : Dev nD) (t : Fin cfg0.N) : (dats m S 0 c).after 21 t = iblk m c 21 t := by dsimp only [dats]
theorem after_22 (c : Dev nD) (t : Fin cfg0.N) : (dats m S 0 c).after 22 t = iblk m c 22 t := by dsimp only [dats]
theorem after_23 (c : Dev nD) (t : Fin cfg0.N) : (dats m S 0 c).after 23 t = S c t := by dsimp only [dats]

-- and before it
theorem before_0 (c : Dev nD) (t : Fin cfg0.N) (d) : (dats m S 0 c).before 0 t d = iblk m c 0 t :=
  before0_0_of m (dats m S 0 c) (A_eq m S c 0) (after_0 m S c) t d
theorem before_1 (c : Dev nD) (t : Fin cfg0.N) (d) : (dats m S 0 c).before 1 t d = X0_1 m c t :=
  before0_1_of m (dats m S 0 c) (A_eq m S c 1) (after_1 m S c) t d
theorem before_2 (c : Dev nD) (t : Fin cfg0.N) (d) : (dats m S 0 c).before 2 t d = iblk m c 2 t :=
  before0_2_of m (dats m S 0 c) (A_eq m S c 2) (after_2 m S c) t d
theorem before_3 (c : Dev nD) (t : Fin cfg0.N) (d) : (dats m S 0 c).before 3 t d = iblk m c 3 t :=
  before0_3_of m (dats m S 0 c) (A_eq m S c 3) (after_3 m S c) t d
theorem before_4 (c : Dev nD) (t : Fin cfg0.N) (d) : (dats m S 0 c).before 4 t d = iblk m c 4 t :=
  before0_4_of m (dats m S 0 c) (A_eq m S c 4) (after_4 m S c) t d
theorem before_5 (c : Dev nD) (t : Fin cfg0.N) (d) : (dats m S 0 c).before 5 t d = iblk m c 5 t :=
  before0_5_of m (dats m S 0 c) (A_eq m S c 5) (after_5 m S c) t d
theorem before_6 (c : Dev nD) (t : Fin cfg0.N) (d) : (dats m S 0 c).before 6 t d = iblk m c 6 t :=
  before0_6_of m (dats m S 0 c) (A_eq m S c 6) (after_6 m S c) t d
theorem before_7 (c : Dev nD) (t : Fin cfg0.N) (d) : (dats m S 0 c).before 7 t d = iblk m c 7 t :=
  before0_7_of m (dats m S 0 c) (A_eq m S c 7) (after_7 m S c) t d
theorem before_8 (c : Dev nD) (t : Fin cfg0.N) (d) : (dats m S 0 c).before 8 t d = iblk m c 8 t :=
  before0_8_of m (dats m S 0 c) (A_eq m S c 8) (after_8 m S c) t d
theorem before_9 (c : Dev nD) (t : Fin cfg0.N) (d) : (dats m S 0 c).before 9 t d = iblk m c 9 t :=
  before0_9_of m (dats m S 0 c) (A_eq m S c 9) (after_9 m S c) t d
theorem before_10 (c : Dev nD) (t : Fin cfg0.N) (d) : (dats m S 0 c).before 10 t d = iblk m c 10 t :=
  before0_10_of m (dats m S 0 c) (A_eq m S c 10) (after_10 m S c) t d
theorem before_11 (c : Dev nD) (t : Fin cfg0.N) (d) : (dats m S 0 c).before 11 t d = iblk m c 11 t :=
  before0_11_of m (dats m S 0 c) (A_eq m S c 11) (after_11 m S c) t d
theorem before_12 (c : Dev nD) (t : Fin cfg0.N) (d) : (dats m S 0 c).before 12 t d = iblk m c 12 t :=
  before0_12_of m (dats m S 0 c) (A_eq m S c 12) (after_12 m S c) t d
theorem before_13 (c : Dev nD) (t : Fin cfg0.N) (d) : (dats m S 0 c).before 13 t d = iblk m c 13 t :=
  before0_13_of m (dats m S 0 c) (A_eq m S c 13) (after_13 m S c) t d
theorem before_14 (c : Dev nD) (t : Fin cfg0.N) (d) : (dats m S 0 c).before 14 t d = iblk m c 14 t :=
  before0_14_of m (dats m S 0 c) (A_eq m S c 14) (after_14 m S c) t d
theorem before_15 (c : Dev nD) (t : Fin cfg0.N) (d) : (dats m S 0 c).before 15 t d = iblk m c 15 t :=
  before0_15_of m (dats m S 0 c) (A_eq m S c 15) (after_15 m S c) t d
theorem before_16 (c : Dev nD) (t : Fin cfg0.N) (d) : (dats m S 0 c).before 16 t d = iblk m c 16 t :=
  before0_16_of m (dats m S 0 c) (A_eq m S c 16) (after_16 m S c) t d
theorem before_17 (c : Dev nD) (t : Fin cfg0.N) (d) : (dats m S 0 c).before 17 t d = iblk m c 17 t :=
  before0_17_of m (dats m S 0 c) (A_eq m S c 17) (after_17 m S c) t d
theorem before_18 (c : Dev nD) (t : Fin cfg0.N) (d) : (dats m S 0 c).before 18 t d = iblk m c 18 t :=
  before0_18_of m (dats m S 0 c) (A_eq m S c 18) (after_18 m S c) t d
theorem before_19 (c : Dev nD) (t : Fin cfg0.N) (d) : (dats m S 0 c).before 19 t d = iblk m c 19 t :=
  before0_19_of m (dats m S 0 c) (A_eq m S c 19) (after_19 m S c) t d
theorem before_20 (c : Dev nD) (t : Fin cfg0.N) (d) : (dats m S 0 c).before 20 t d = iblk m c 20 t :=
  before0_20_of m (dats m S 0 c) (A_eq m S c 20) (after_20 m S c) t d
theorem before_21 (c : Dev nD) (t : Fin cfg0.N) (d) : (dats m S 0 c).before 21 t d = iblk m c 21 t :=
  before0_21_of m (dats m S 0 c) (A_eq m S c 21) (after_21 m S c) t d
theorem before_22 (c : Dev nD) (t : Fin cfg0.N) (d) : (dats m S 0 c).before 22 t d = iblk m c 22 t :=
  before0_22_of m (dats m S 0 c) (A_eq m S c 22) (after_22 m S c) t d

/-- What the body starts from at point `t`. -/
def bodyPre (c : Dev nD) (t : Fin cfg0.N) : sProp 𝕄 :=
  iprop((dats m S 0 c).Φ t.castSucc ∗ (dats m S 0 c).owesAt () t.castSucc
    ∗ (∃ d, owns (c : Thread nD τ) (ms0_0 t) fullShare ((dats m S 0 c).before 0 t d))
    ∗ (∃ d, owns (c : Thread nD τ) (ms0_1 t) fullShare ((dats m S 0 c).before 1 t d))
    ∗ (∃ d, owns (c : Thread nD τ) (ms0_2 t) fullShare ((dats m S 0 c).before 2 t d))
    ∗ (∃ d, owns (c : Thread nD τ) (ms0_3 t) fullShare ((dats m S 0 c).before 3 t d))
    ∗ (∃ d, owns (c : Thread nD τ) (ms0_4 t) fullShare ((dats m S 0 c).before 4 t d))
    ∗ (∃ d, owns (c : Thread nD τ) (ms0_5 t) fullShare ((dats m S 0 c).before 5 t d))
    ∗ (∃ d, owns (c : Thread nD τ) (ms0_6 t) fullShare ((dats m S 0 c).before 6 t d))
    ∗ (∃ d, owns (c : Thread nD τ) (ms0_7 t) fullShare ((dats m S 0 c).before 7 t d))
    ∗ (∃ d, owns (c : Thread nD τ) (ms0_8 t) fullShare ((dats m S 0 c).before 8 t d))
    ∗ (∃ d, owns (c : Thread nD τ) (ms0_9 t) fullShare ((dats m S 0 c).before 9 t d))
    ∗ (∃ d, owns (c : Thread nD τ) (ms0_10 t) fullShare ((dats m S 0 c).before 10 t d))
    ∗ (∃ d, owns (c : Thread nD τ) (ms0_11 t) fullShare ((dats m S 0 c).before 11 t d))
    ∗ (∃ d, owns (c : Thread nD τ) (ms0_12 t) fullShare ((dats m S 0 c).before 12 t d))
    ∗ (∃ d, owns (c : Thread nD τ) (ms0_13 t) fullShare ((dats m S 0 c).before 13 t d))
    ∗ (∃ d, owns (c : Thread nD τ) (ms0_14 t) fullShare ((dats m S 0 c).before 14 t d))
    ∗ (∃ d, owns (c : Thread nD τ) (ms0_15 t) fullShare ((dats m S 0 c).before 15 t d))
    ∗ (∃ d, owns (c : Thread nD τ) (ms0_16 t) fullShare ((dats m S 0 c).before 16 t d))
    ∗ (∃ d, owns (c : Thread nD τ) (ms0_17 t) fullShare ((dats m S 0 c).before 17 t d))
    ∗ (∃ d, owns (c : Thread nD τ) (ms0_18 t) fullShare ((dats m S 0 c).before 18 t d))
    ∗ (∃ d, owns (c : Thread nD τ) (ms0_19 t) fullShare ((dats m S 0 c).before 19 t d))
    ∗ (∃ d, owns (c : Thread nD τ) (ms0_20 t) fullShare ((dats m S 0 c).before 20 t d))
    ∗ (∃ d, owns (c : Thread nD τ) (ms0_21 t) fullShare ((dats m S 0 c).before 21 t d))
    ∗ (∃ d, owns (c : Thread nD τ) (ms0_22 t) fullShare ((dats m S 0 c).before 22 t d))
    ∗ (∃ d, owns (c : Thread nD τ) (ms0_23 t) fullShare ((dats m S 0 c).before 23 t d))
    ∗ (∃ d, owns (c : Thread nD τ) (ms0_24 t) fullShare d)
    ∗ (∃ d, owns (c : Thread nD τ) (ms0_25 t) fullShare d)
    ∗ (∃ d, owns (c : Thread nD τ) (ms0_26 t) fullShare d))

/-- What it leaves. -/
def bodyPost (c : Dev nD) (t : Fin cfg0.N) : sProp 𝕄 :=
  iprop((dats m S 0 c).Φ t.succ ∗ (dats m S 0 c).owesAt () t.succ
    ∗ owns (c : Thread nD τ) (ms0_0 t) fullShare ((dats m S 0 c).after 0 t)
    ∗ owns (c : Thread nD τ) (ms0_1 t) fullShare ((dats m S 0 c).after 1 t)
    ∗ owns (c : Thread nD τ) (ms0_2 t) fullShare ((dats m S 0 c).after 2 t)
    ∗ owns (c : Thread nD τ) (ms0_3 t) fullShare ((dats m S 0 c).after 3 t)
    ∗ owns (c : Thread nD τ) (ms0_4 t) fullShare ((dats m S 0 c).after 4 t)
    ∗ owns (c : Thread nD τ) (ms0_5 t) fullShare ((dats m S 0 c).after 5 t)
    ∗ owns (c : Thread nD τ) (ms0_6 t) fullShare ((dats m S 0 c).after 6 t)
    ∗ owns (c : Thread nD τ) (ms0_7 t) fullShare ((dats m S 0 c).after 7 t)
    ∗ owns (c : Thread nD τ) (ms0_8 t) fullShare ((dats m S 0 c).after 8 t)
    ∗ owns (c : Thread nD τ) (ms0_9 t) fullShare ((dats m S 0 c).after 9 t)
    ∗ owns (c : Thread nD τ) (ms0_10 t) fullShare ((dats m S 0 c).after 10 t)
    ∗ owns (c : Thread nD τ) (ms0_11 t) fullShare ((dats m S 0 c).after 11 t)
    ∗ owns (c : Thread nD τ) (ms0_12 t) fullShare ((dats m S 0 c).after 12 t)
    ∗ owns (c : Thread nD τ) (ms0_13 t) fullShare ((dats m S 0 c).after 13 t)
    ∗ owns (c : Thread nD τ) (ms0_14 t) fullShare ((dats m S 0 c).after 14 t)
    ∗ owns (c : Thread nD τ) (ms0_15 t) fullShare ((dats m S 0 c).after 15 t)
    ∗ owns (c : Thread nD τ) (ms0_16 t) fullShare ((dats m S 0 c).after 16 t)
    ∗ owns (c : Thread nD τ) (ms0_17 t) fullShare ((dats m S 0 c).after 17 t)
    ∗ owns (c : Thread nD τ) (ms0_18 t) fullShare ((dats m S 0 c).after 18 t)
    ∗ owns (c : Thread nD τ) (ms0_19 t) fullShare ((dats m S 0 c).after 19 t)
    ∗ owns (c : Thread nD τ) (ms0_20 t) fullShare ((dats m S 0 c).after 20 t)
    ∗ owns (c : Thread nD τ) (ms0_21 t) fullShare ((dats m S 0 c).after 21 t)
    ∗ owns (c : Thread nD τ) (ms0_22 t) fullShare ((dats m S 0 c).after 22 t)
    ∗ owns (c : Thread nD τ) (ms0_23 t) fullShare ((dats m S 0 c).after 23 t)
    ∗ (∃ d, owns (c : Thread nD τ) (ms0_24 t) fullShare d)
    ∗ (∃ d, owns (c : Thread nD τ) (ms0_25 t) fullShare d)
    ∗ (∃ d, owns (c : Thread nD τ) (ms0_26 t) fullShare d))

/-- The body table's row at point `t`'s slots is the body. -/
theorem row (t : Fin cfg0.N) :
    defs₀ (F := F) .tc cfg0.body (cfg0.bodyArgs t (cfg0.slots t)) = bodyAt0 t := by
  unfold defs₀; rw [Defs.onTc_tc]

/-- The attention window's array after the run is the one its stated blocks make. -/
theorem att {r : PUnit × MemSt nD τ sig (Elt F)} (h : Pipeline.RDat.FramePost (cfgs 0) (fun c => (dats m S 0 c).toRForget fgt) (V m) r) (c : Dev nD) :
    r.2.mem ((c : Thread nD τ).loc main_v0_0) = (dats m S 0 c).arrAt 23 cfg0.N :=
  ((dats m S 0 c).toRForget_arrAt_iff (fgt := fgt) (w := 23) (by decide) _ _).1 ((h c).1 23)

include hA hB

set_option maxHeartbeats 22400000 in
/-- The body at a point: the run of the point's case, the scratch and the windows nothing is said of taken at any contents. -/
theorem sound_body (c : Dev nD) (t : Fin cfg0.N) :
    bodyPre m S c t ⊢ wp frame (wpE (defs₀ (F := F)) Variants.none c none) Set.univ (bodyAt0 t) (fun _ => bodyPost m S c t) := by
  unfold bodyPre bodyPost bodyAt0
  simp only [before_0, before_1, before_2, before_3, before_4, before_5, before_6, before_7, before_8, before_9, before_10, before_11, before_12, before_13, before_14, before_15, before_16, before_17, before_18, before_19, before_20, before_21, before_22]
  rw [show (dats m S 0 c).owesAt () t.succ = (dats m S 0 c).owesAt () t.castSucc from rfl,
    after_0, after_1, after_2, after_3, after_4, after_5, after_6, after_7, after_8, after_9, after_10, after_11, after_12, after_13, after_14, after_15, after_16, after_17, after_18, after_19, after_20, after_21, after_22, after_23]
  rw [show (dats m S 0 c).Φ t.castSucc = Pipeline.ΦA spec0 c from rfl, show (dats m S 0 c).Φ t.succ = Pipeline.ΦA spec0 c from rfl, PhiA0_eq]
  by_cases h0 : t.val % 16 = 0
  · iintro ⟨⟨⟨⟨%s0, HS0⟩, ⟨%s1, HS1⟩, ⟨%s2, HS2⟩, ⟨%s3, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
    iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (iblk m c 0 t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)).2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexists _; iexact H23
    isplitl [H24]; · iexists _; iexact H24
    isplitl [H25]; · iexists _; iexact H25
    isplitl [H26]; · iexists _; iexact H26
    isplitl [HS0]; · iexists _; iexact HS0
    isplitl [HS1]; · iexists _; iexact HS1
    isplitl [HS2]; · iexists _; iexact HS2
    isplitl [HS3]; · iexists _; iexact HS3
    iintro ⟨H0, H1, H2, H3, H4, H5, H6, H7, H8, H9, H10, H11, H12, H13, H14, H15, H16, H17, H18, H19, H20, H21, H22, ⟨%e23, H23⟩, ⟨%e24, H24⟩, ⟨%e25, H25⟩, ⟨%e26, H26⟩, ⟨%es0, HS0⟩, ⟨%es1, HS1⟩, ⟨%es2, HS2⟩, ⟨%es3, HS3⟩⟩
    isplitl [HS0 HS1 HS2 HS3 Hg]
    · isplitl [HS0 HS1 HS2 HS3]
      · isplitl [HS0]
        · iexists _; unfold owns; iexists _; isplitr; swap; iexact HS0; ipureintro; rfl
        isplitl [HS1]
        · iexists _; unfold owns; iexists _; isplitr; swap; iexact HS1; ipureintro; rfl
        isplitl [HS2]
        · iexists _; unfold owns; iexists _; isplitr; swap; iexact HS2; ipureintro; rfl
        iexists _; unfold owns; iexists _; isplitr; swap; iexact HS3; ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · unfold owns; iexists _; isplitr; swap; iexact H23; ipureintro; exact (View.read_writes_of_cover _ _ _ _ _ (coverA m c t h0)).trans (hA c t h0)
    isplitl [H24]; · iexists _; unfold owns; iexists _; isplitr; swap; iexact H24; ipureintro; rfl
    isplitl [H25]; · iexists _; unfold owns; iexists _; isplitr; swap; iexact H25; ipureintro; rfl
    iexists _; unfold owns; iexists _; isplitr; swap; iexact H26; ipureintro; rfl
  · iintro ⟨⟨⟨⟨%s0, HS0⟩, ⟨%s1, HS1⟩, ⟨%s2, HS2⟩, ⟨%s3, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
    iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (iblk m c 0 t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) s0 s1 s2 s3).2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexists _; iexact H23
    isplitl [H24]; · iexists _; iexact H24
    isplitl [H25]; · iexists _; iexact H25
    isplitl [H26]; · iexists _; iexact H26
    isplitl [HS0]; · iexact HS0
    isplitl [HS1]; · iexact HS1
    isplitl [HS2]; · iexact HS2
    isplitl [HS3]; · iexact HS3
    iintro ⟨H0, H1, H2, H3, H4, H5, H6, H7, H8, H9, H10, H11, H12, H13, H14, H15, H16, H17, H18, H19, H20, H21, H22, ⟨%e23, H23⟩, ⟨%e24, H24⟩, ⟨%e25, H25⟩, ⟨%e26, H26⟩, ⟨%es0, HS0⟩, ⟨%es1, HS1⟩, ⟨%es2, HS2⟩, ⟨%es3, HS3⟩⟩
    isplitl [HS0 HS1 HS2 HS3 Hg]
    · isplitl [HS0 HS1 HS2 HS3]
      · isplitl [HS0]
        · iexists _; unfold owns; iexists _; isplitr; swap; iexact HS0; ipureintro; rfl
        isplitl [HS1]
        · iexists _; unfold owns; iexists _; isplitr; swap; iexact HS1; ipureintro; rfl
        isplitl [HS2]
        · iexists _; unfold owns; iexists _; isplitr; swap; iexact HS2; ipureintro; rfl
        iexists _; unfold owns; iexists _; isplitr; swap; iexact HS3; ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · unfold owns; iexists _; isplitr; swap; iexact H23; ipureintro; exact (View.read_writes_of_cover _ _ _ _ _ (coverB m c t h0 s0 s1 s2 s3)).trans (hB c t h0 s0 s1 s2 s3)
    isplitl [H24]; · iexists _; unfold owns; iexists _; isplitr; swap; iexact H24; ipureintro; rfl
    isplitl [H25]; · iexists _; unfold owns; iexists _; isplitr; swap; iexact H25; ipureintro; rfl
    iexists _; unfold owns; iexists _; isplitr; swap; iexact H26; ipureintro; rfl

set_option maxHeartbeats 8000000 in
/-- The body obligation at every point. -/
theorem obligation (c : Dev nD) : BodyObligation (dats (F := F) m S 0 c) (defs₀ (F := F)) Variants.none () Set.univ fgt := fun t => by
  rw [bigSep_W0, bigSep_W0, row]
  exact triple_restated (sound_body m S hA hB c t) rfl .rfl fun _ => .rfl

set_option backward.isDefEq.respectTransparency.types false in
/-- The whole run: the arrays end as the data say, and every counter ends at zero. -/
theorem run : θ_run defs (onTc (τ := τ) (main (F := F))) (s₀ m ρ)
    (fun r => (Pipeline.RDat.FramePost (cfgs 0) (fun c => (dats m S 0 c).toRForget fgt) (V m)) r ∧ r.2.sem = fun _ => 0) :=
  Pipeline.θ_run_frame_track_forget_shared (Q' := _) cfgs (dats m S) (0 : Fin 1) launch₀0 defs₀ Variants.none fgt m ρ main
    (hbody := fun c => (obligation m S hA hB c).loose) (hq := fun _ _ _ => rfl)
    (howed := fun _ _ => rfl) (V := V m) (hmain := hmain m Variants.none) (hA := A_eq m S)
    (hin := fun _ => Idealize.SL.BI.Entails.refl _) (hout := fun _ => Idealize.SL.BI.Entails.refl _)

/-- THE FRAME: every argument array ends unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19))
      ∧ r.2.sem = fun _ => 0) :=
  (θ_run defs _ _).mono (fun _ h => ⟨fun c => ⟨(Pipeline.RDat.FramePost.arr_in h.1 c 0 rfl).trans (V_main_arg0 m c),
      (Pipeline.RDat.FramePost.arr_in h.1 c 6 rfl).trans (V_main_arg1 m c),
      (Pipeline.RDat.FramePost.arr_in h.1 c 3 rfl).trans (V_main_arg2 m c),
      (Pipeline.RDat.FramePost.arr_in h.1 c 4 rfl).trans (V_main_arg3 m c),
      (Pipeline.RDat.FramePost.arr_in h.1 c 7 rfl).trans (V_main_arg4 m c),
      (Pipeline.RDat.FramePost.arr_in h.1 c 8 rfl).trans (V_main_arg5 m c),
      (Pipeline.RDat.FramePost.arr_in h.1 c 9 rfl).trans (V_main_arg6 m c),
      (Pipeline.RDat.FramePost.arr_in h.1 c 10 rfl).trans (V_main_arg7 m c),
      (Pipeline.RDat.FramePost.arr_in h.1 c 11 rfl).trans (V_main_arg8 m c),
      (Pipeline.RDat.FramePost.arr_in h.1 c 12 rfl).trans (V_main_arg9 m c),
      (Pipeline.RDat.FramePost.arr_in h.1 c 13 rfl).trans (V_main_arg10 m c),
      (Pipeline.RDat.FramePost.arr_in h.1 c 14 rfl).trans (V_main_arg11 m c),
      (Pipeline.RDat.FramePost.arr_in h.1 c 15 rfl).trans (V_main_arg12 m c),
      (Pipeline.RDat.FramePost.arr_in h.1 c 16 rfl).trans (V_main_arg13 m c),
      (Pipeline.RDat.FramePost.arr_in h.1 c 17 rfl).trans (V_main_arg14 m c),
      (Pipeline.RDat.FramePost.arr_in h.1 c 18 rfl).trans (V_main_arg15 m c),
      (Pipeline.RDat.FramePost.arr_in h.1 c 19 rfl).trans (V_main_arg16 m c),
      (Pipeline.RDat.FramePost.arr_in h.1 c 20 rfl).trans (V_main_arg17 m c),
      (Pipeline.RDat.FramePost.arr_in h.1 c 21 rfl).trans (V_main_arg18 m c),
      (Pipeline.RDat.FramePost.arr_in h.1 c 22 rfl).trans (V_main_arg19 m c)⟩, h.2⟩) (run m ρ S hA hB)

end Cert.MixerIdeal.Att
-- ==== Proof.AttRef.lean ====
/- The reference's attention, read index by index. -/
module

public import proofs.«01_k».proof.Proof.Gen.AttentionIdeal.Run
public import Idealize.ShloMosaic.Lib.Pointwise
public import Idealize.ShloMosaic.Lib.LayoutAt

@[expose] public section

set_option maxRecDepth 16384

noncomputable section

namespace Cert.AttentionIdeal.Ref

open Idealize.ShloMosaic Idealize.ShloMosaic.TcCoe Idealize.SL.Sem Idealize.ShloMosaic.StableHlo
open Cert.AttentionIdeal Cert.AttentionIdeal.Gen

/-- The queries by block, row, key head, group and lane. -/
def Q (x1 : FVec Ideal S1280x4096 .bf16) : FVec Ideal S32x128x4x4x64 .f32 :=
  shapeCast _ (transpose S4096x1024 [1, 0] (extractStridedSlice S1024x4096 ![0, 0] (extf .f32 x1 bitsLt_bf16_f32) slices_S1280x4096_S1024x4096_0_0) transposes_S1024x4096_S4096x1024_1_0) shapeCasts_S4096x1024_S32x128x4x4x64

/-- The keys by block (the lead block first), row, head and lane. -/
def K (x2 : FVec Ideal S4096x256 .bf16) (x3 : FVec Ideal S128x256 .bf16) : FVec Ideal S33x128x4x64 .f32 :=
  shapeCast _ (concatenate S4224x256 0 [⟨S128x256, (extf .f32 x3 bitsLt_bf16_f32)⟩, ⟨S4096x256, (extf .f32 x2 bitsLt_bf16_f32)⟩] concatenates_S128x256_S4096x256_S4224x256_d0) shapeCasts_S4224x256_S33x128x4x64

/-- The values by block (the lead block first), row, head and lane. -/
def V (x1 : FVec Ideal S1280x4096 .bf16) (x4 : FVec Ideal S1280x128 .bf16) : FVec Ideal S33x128x4x64 .f32 :=
  shapeCast _ (transpose S4224x256 [1, 0] (concatenate S256x4224 1 [⟨S256x128, (extractStridedSlice S256x128 ![1024, 0] (extf .f32 x4 bitsLt_bf16_f32) slices_S1280x128_S256x128_1024_0)⟩, ⟨S256x4096, (extractStridedSlice S256x4096 ![1024, 0] (extf .f32 x1 bitsLt_bf16_f32) slices_S1280x4096_S256x4096_1024_0)⟩] concatenates_S256x128_S256x4096_S256x4224_d1) transposes_S256x4224_S4224x256_1_0) shapeCasts_S4224x256_S33x128x4x64

/-- The band of a block: the block before it and itself. -/
def BAND (k : FVec Ideal S33x128x4x64 .f32) : FVec Ideal S32x256x4x64 .f32 :=
  concatenate S32x256x4x64 1 [⟨S32x128x4x64, (extractStridedSlice S32x128x4x64 ![0, 0, 0, 0] k slices_S33x128x4x64_S32x128x4x64_0_0_0_0)⟩, ⟨S32x128x4x64, (extractStridedSlice S32x128x4x64 ![1, 0, 0, 0] k slices_S33x128x4x64_S32x128x4x64_1_0_0_0)⟩] concatenates_S32x128x4x64_S32x128x4x64_S32x256x4x64_d1

/-- The sixteen meta rows. -/
def META (k : FVec Ideal S33x128x4x64 .f32) : FVec Ideal S16x4x64 .f32 :=
  shapeCast _ (extractStridedSlice S1x16x4x64 ![0, 112, 0, 0] k slices_S33x128x4x64_S1x16x4x64_0_112_0_0) shapeCasts_S1x16x4x64_S16x4x64

/-- The mask of the band. -/
def MB : IVec S32x128x256 1 :=
  (andi (broadcastInDim S32x128x256 ![0, 1, 2] bcast_S1x128x256_S32x128x256_0_1_2 (broadcastInDim S1x128x256 ![1, 2] bcast_S128x256_S1x128x256_1_2 (andi (cmpi .sge (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 0#32))) (cmpi .slt (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 128#32)))))) (broadcastInDim S32x128x256 ![0, 1, 2] bcast_S32x1x256_S32x128x256_0_1_2 (cmpi .sge (addi (broadcastInDim S32x1x256 ![0, 1, 2] bcast_S32x1x1_S32x1x256_0_1_2 (muli (subi (addi (broadcastInDim S32x1x1 ![] bcast_S_S32x1x1 (constantI S_ 32 1#32)) (broadcastInDim S32x1x1 ![0] bcast_S32_S32x1x1_0 (iotaInDim S32 32 0))) (broadcastInDim S32x1x1 ![] bcast_S_S32x1x1 (constantI S_ 32 1#32))) (broadcastInDim S32x1x1 ![] bcast_S_S32x1x1 (constantI S_ 32 128#32)))) (broadcastInDim S32x1x256 ![0, 1, 2] bcast_S1x1x256_S32x1x256_0_1_2 (broadcastInDim S1x1x256 ![1, 2] bcast_S1x256_S1x1x256_1_2 (broadcastInDim S1x256 ![1] bcast_S256_S1x256_1 (iotaInDim S256 32 0))))) (broadcastInDim S32x1x256 ![] bcast_S_S32x1x256 (constantI S_ 32 128#32)))))

/-- The mask of the meta rows. -/
def MM : IVec S32x128x16 1 :=
  (cmpi .sge (subi (broadcastInDim S32x128x16 ![0, 1, 2] bcast_S32x128x1_S32x128x16_0_1_2 (addi (broadcastInDim S32x128x1 ![0, 1, 2] bcast_S32x1x1_S32x128x1_0_1_2 (muli (addi (broadcastInDim S32x1x1 ![] bcast_S_S32x1x1 (constantI S_ 32 1#32)) (broadcastInDim S32x1x1 ![0] bcast_S32_S32x1x1_0 (iotaInDim S32 32 0))) (broadcastInDim S32x1x1 ![] bcast_S_S32x1x1 (constantI S_ 32 128#32)))) (broadcastInDim S32x128x1 ![0, 1, 2] bcast_S1x128x1_S32x128x1_0_1_2 (broadcastInDim S1x128x1 ![1, 2] bcast_S128x1_S1x128x1_1_2 (broadcastInDim S128x1 ![0] bcast_S128_S128x1_0 (iotaInDim S128 32 0)))))) (broadcastInDim S32x128x16 ![0, 1, 2] bcast_S1x1x16_S32x128x16_0_1_2 (addi (broadcastInDim S1x1x16 ![] bcast_S_S1x1x16 (constantI S_ 32 112#32)) (broadcastInDim S1x1x16 ![2] bcast_S16_S1x1x16_2 (iotaInDim S16 32 0))))) (broadcastInDim S32x128x16 ![] bcast_S_S32x128x16 (constantI S_ 32 0#32)))

/-- The band's logits before the mask. -/
def SB (q : FVec Ideal S32x128x4x4x64 .f32) (kb : FVec Ideal S32x256x4x64 .f32) (x5 : FVec Ideal S4x256x512 .f32) : FVec Ideal S32x4x4x128x256 .f32 :=
  mulf (addf (transpose S32x4x4x128x256 [0, 1, 4, 3, 2] (Host.dotGeneral dot_S32x256x4x64_S32x128x4x4x64_S32x4x256x128x4_3_4_1_13_02_02 none kb q) transposes_S32x4x256x128x4_S32x4x4x128x256_0_1_4_3_2) (broadcastInDim S32x4x4x128x256 ![0, 1, 2, 3, 4] bcast_S1x4x4x128x256_S32x4x4x128x256_0_1_2_3_4 (broadcastInDim S1x4x4x128x256 ![1, 2, 3, 4] bcast_S4x4x128x256_S1x4x4x128x256_1_2_3_4 (transpose S4x4x128x256 [0, 2, 3, 1] (shapeCast _ x5 shapeCasts_S4x256x512_S4x256x4x128) transposes_S4x256x4x128_S4x4x128x256_0_2_3_1)))) (broadcastInDim S32x4x4x128x256 ![] bcast_S_S32x4x4x128x256 (Host.log (constant S_ .f32 0x40000000#32)))

/-- The meta rows' logits before the mask. -/
def SM (q : FVec Ideal S32x128x4x4x64 .f32) (km : FVec Ideal S16x4x64 .f32) (x6 : FVec Ideal S32x4x16x512 .f32) : FVec Ideal S32x4x4x128x16 .f32 :=
  mulf (addf (transpose S32x4x4x128x16 [2, 0, 4, 3, 1] (Host.dotGeneral dot_S16x4x64_S32x128x4x4x64_S4x16x32x128x4_2_4_0_013_1_2 none km q) transposes_S4x16x32x128x4_S32x4x4x128x16_2_0_4_3_1) (transpose S32x4x4x128x16 [0, 1, 3, 4, 2] (shapeCast _ x6 shapeCasts_S32x4x16x512_S32x4x16x4x128) transposes_S32x4x16x4x128_S32x4x4x128x16_0_1_3_4_2)) (broadcastInDim S32x4x4x128x16 ![] bcast_S_S32x4x4x128x16 (Host.log (constant S_ .f32 0x40000000#32)))

/-- The masked logits of a query: 256 band keys, then the 16 meta rows. -/
def L (sb : FVec Ideal S32x4x4x128x256 .f32) (sm : FVec Ideal S32x4x4x128x16 .f32) : FVec Ideal S32x4x4x128x272 .f32 :=
  select (broadcastInDim S32x4x4x128x272 ![0, 1, 2, 3, 4] bcast_S32x1x1x128x272_S32x4x4x128x272_0_1_2_3_4 (broadcastInDim S32x1x1x128x272 ![0, 3, 4] bcast_S32x128x272_S32x1x1x128x272_0_3_4 (concatenate S32x128x272 2 [⟨S32x128x256, MB⟩, ⟨S32x128x16, MM⟩] concatenates_S32x128x256_S32x128x16_S32x128x272_d2))) (concatenate S32x4x4x128x272 4 [⟨S32x4x4x128x256, sb⟩, ⟨S32x4x4x128x16, sm⟩] concatenates_S32x4x4x128x256_S32x4x4x128x16_S32x4x4x128x272_d4) (broadcastInDim S32x4x4x128x272 ![] bcast_S_S32x4x4x128x272 (constant S_ .f32 0xFF800000#32))

/-- The sinks, one for each head and group. -/
def SINK (x0 : FVec Ideal S16 .f32) : FVec Ideal S32x4x4x128x1 .f32 :=
  broadcastInDim S32x4x4x128x1 ![0, 1, 2, 3, 4] bcast_S1x4x4x1x1_S32x4x4x128x1_0_1_2_3_4 (broadcastInDim S1x4x4x1x1 ![1, 2, 3, 4] bcast_S4x4x1x1_S1x4x4x1x1_1_2_3_4 (broadcastInDim S4x4x1x1 ![0, 1] bcast_S4x4_S4x4x1x1_0_1 (shapeCast _ x0 shapeCasts_S16_S4x4)))

/-- The maximum of a query's logits and its sink. -/
def M (l : FVec Ideal S32x4x4x128x272 .f32) (s : FVec Ideal S32x4x4x128x1 .f32) : FVec Ideal S32x4x4x128x1 .f32 :=
  maximumf (broadcastInDim S32x4x4x128x1 ![0, 1, 2, 3] bcast_S32x4x4x128_S32x4x4x128x1_0_1_2_3 (Host.reduce FloatOps.maximumf l (constant S_ .f32 0xFF800000#32) reducesTo_S32x4x4x128x272_S32x4x4x128_d4 h_S_)) s

/-- The weights before they are normalised. -/
def P (l : FVec Ideal S32x4x4x128x272 .f32) (mx : FVec Ideal S32x4x4x128x1 .f32) : FVec Ideal S32x4x4x128x272 .f32 :=
  Host.exp (subf l (broadcastInDim S32x4x4x128x272 ![0, 1, 2, 3, 4] bcast_S32x4x4x128x1_S32x4x4x128x272_0_1_2_3_4 mx))

/-- The normaliser: the weights' sum and the sink's weight. -/
def D (p : FVec Ideal S32x4x4x128x272 .f32) (s mx : FVec Ideal S32x4x4x128x1 .f32) : FVec Ideal S32x4x4x128x1 .f32 :=
  addf (broadcastInDim S32x4x4x128x1 ![0, 1, 2, 3] bcast_S32x4x4x128_S32x4x4x128x1_0_1_2_3 (Host.reduceAdd p (constant S_ .f32 0x00000000#32) reducesTo_S32x4x4x128x272_S32x4x4x128_d4 h_S_)) (Host.exp (subf s mx))

/-- The weights. -/
def W (p : FVec Ideal S32x4x4x128x272 .f32) (d : FVec Ideal S32x4x4x128x1 .f32) : FVec Ideal S32x4x4x128x272 .f32 :=
  Host.divf p (broadcastInDim S32x4x4x128x272 ![0, 1, 2, 3, 4] bcast_S32x4x4x128x1_S32x4x4x128x272_0_1_2_3_4 d)

/-- The weighted values, laid out as the result. -/
def O (w : FVec Ideal S32x4x4x128x272 .f32) (vb : FVec Ideal S32x256x4x64 .f32) (vm : FVec Ideal S16x4x64 .f32) : FVec Ideal S1024x4096 .bf16 :=
  truncf .bf16 (transpose S1024x4096 [1, 0] (shapeCast _ (addf (transpose S32x128x4x4x64 [0, 4, 1, 3, 2] (Host.dotGeneral dot_S32x256x4x64_S32x4x4x128x256_S32x4x64x4x128_1_4_3_23_02_01 none vb (extractStridedSlice S32x4x4x128x256 ![0, 0, 0, 0, 0] w slices_S32x4x4x128x272_S32x4x4x128x256_0_0_0_0_0)) transposes_S32x4x64x4x128_S32x128x4x4x64_0_4_1_3_2) (transpose S32x128x4x4x64 [2, 4, 0, 3, 1] (Host.dotGeneral dot_S16x4x64_S32x4x4x128x16_S4x64x32x4x128_0_4_2_023_1_1 none vm (extractStridedSlice S32x4x4x128x16 ![0, 0, 0, 0, 256] w slices_S32x4x4x128x272_S32x4x4x128x16_0_0_0_0_256)) transposes_S4x64x32x4x128_S32x128x4x4x64_2_4_0_3_1)) shapeCasts_S32x128x4x4x64_S4096x1024) transposes_S4096x1024_S1024x4096_1_0) bitsLt_bf16_f32

/-- The masked logits from the arguments. -/
def LL (x1 : FVec Ideal S1280x4096 .bf16) (x2 : FVec Ideal S4096x256 .bf16) (x3 : FVec Ideal S128x256 .bf16) (x5 : FVec Ideal S4x256x512 .f32) (x6 : FVec Ideal S32x4x16x512 .f32) : FVec Ideal S32x4x4x128x272 .f32 :=
  L (SB (Q x1) (BAND (K x2 x3)) x5) (SM (Q x1) (META (K x2 x3)) x6)

/-- The attention from the logits, the sinks and the values. -/
def ATT (l : FVec Ideal S32x4x4x128x272 .f32) (s : FVec Ideal S32x4x4x128x1 .f32) (v : FVec Ideal S33x128x4x64 .f32) : FVec Ideal S1024x4096 .bf16 :=
  O (W (P l (M l s)) (D (P l (M l s)) s (M l s))) (BAND v) (META v)

set_option maxHeartbeats 1600000 in
/-- The reference's result is the attention above. -/
theorem res_eq (m : (ℓ : Loc nD τ sig) → Buf (Elt Ideal) ℓ) (c : Dev nD) :
    Value.res_out0 (F := Ideal) m c =
      ATT (LL (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)))
        (SINK (m ((c.tc : Thread nD τ).loc main_arg0)))
        (V (m ((c.tc : Thread nD τ).loc main_arg1)) (m ((c.tc : Thread nD τ).loc main_arg4))) := rfl

end Cert.AttentionIdeal.Ref
-- ==== Proof.Soft.lean ====
/- The softmax identity: weights to base two from any finite reference point, normalised after the weighted sum,
   are weights to base e from any other, normalised before it. -/
module

public import Idealize.ShloMosaic.Lib.Pointwise

@[expose] public section

noncomputable section

namespace Cert.Soft

open Idealize.ShloMosaic

/-- Finite: neither infinity. -/
def Fin' (x : EReal) : Prop := x ≠ ⊤ ∧ x ≠ ⊥

/-- The natural logarithm of two. -/
abbrev ln2 : EReal := ((Real.log 2 : ℝ) : EReal)

/-- The reciprocal of the natural logarithm of two. -/
abbrev log2e : EReal := (((Real.log 2)⁻¹ : ℝ) : EReal)

theorem log2_pos : 0 < Real.log 2 := Real.log_pos (by norm_num)

/-- A finite value is a real. -/
theorem fin_iff {x : EReal} : Fin' x ↔ ∃ r : ℝ, x = (r : EReal) := by
  constructor
  · rintro ⟨h, h'⟩
    exact ⟨x.toReal, (EReal.coe_toReal h h').symm⟩
  · rintro ⟨r, rfl⟩
    exact ⟨EReal.coe_ne_top r, EReal.coe_ne_bot r⟩

/-- Finite values multiply to a finite value. -/
theorem Fin'.mul {x y : EReal} (hx : Fin' x) (hy : Fin' y) : Fin' (x * y) := by
  obtain ⟨a, rfl⟩ := fin_iff.1 hx
  obtain ⟨b, rfl⟩ := fin_iff.1 hy
  exact fin_iff.2 ⟨a * b, (EReal.coe_mul a b).symm⟩

/-- Finite values add to a finite value. -/
theorem Fin'.add {x y : EReal} (hx : Fin' x) (hy : Fin' y) : Fin' (x + y) := by
  obtain ⟨a, rfl⟩ := fin_iff.1 hx
  obtain ⟨b, rfl⟩ := fin_iff.1 hy
  exact fin_iff.2 ⟨a + b, (EReal.coe_add a b).symm⟩

/-- A sum of reals is a real. -/
theorem coe_sum' {n : ℕ} (f : Fin n → ℝ) : ((∑ i, f i : ℝ) : EReal) = ∑ i, (f i : EReal) := by
  induction n with
  | zero => simp
  | succ n ih => rw [Fin.sum_univ_succ, Fin.sum_univ_succ, EReal.coe_add, ih]

/-- A sum of finite values is finite. -/
theorem Fin'.sum {n : ℕ} {f : Fin n → EReal} (h : ∀ i, Fin' (f i)) : Fin' (∑ i, f i) := by
  choose r hr using fun i => fin_iff.1 (h i)
  refine fin_iff.2 ⟨∑ i, r i, ?_⟩
  rw [coe_sum']
  exact Finset.sum_congr rfl fun i _ => hr i

/-- The larger of a value below `⊤` and a finite one is finite. -/
theorem fin_max {x s : EReal} (hx : x ≠ ⊤) (hs : Fin' s) : Fin' (max x s) := by
  refine ⟨?_, ?_⟩
  · rcases max_choice x s with h | h <;> rw [h]
    exacts [hx, hs.1]
  · intro h
    exact hs.2 (le_bot_iff.1 (h ▸ le_max_right x s))

/-- A maximum of values below `⊤` is below `⊤`. -/
theorem fold_ne_top {n : ℕ} {f : Fin n → EReal} (h : ∀ i, f i ≠ ⊤) : Finset.fold max ⊥ f Finset.univ ≠ ⊤ := by
  refine ne_of_lt ?_
  rw [Finset.fold_max_lt]
  exact ⟨bot_lt_top, fun i _ => lt_top_iff_ne_top.2 (h i)⟩

/-- The larger of two values below `⊤` is below `⊤`. -/
theorem max_ne_top {x y : EReal} (hx : x ≠ ⊤) (hy : y ≠ ⊤) : max x y ≠ ⊤ := by
  rcases max_choice x y with h | h <;> rw [h] <;> assumption

/-- A power of two below `⊤` is a nonnegative real. -/
theorem exp2_real {x m : EReal} (hx : x ≠ ⊤) (hm : Fin' m) : ∃ w : ℝ, 0 ≤ w ∧ Ideal.exp2 (x - m) = (w : EReal) := by
  obtain ⟨m, rfl⟩ := fin_iff.1 hm
  induction x with
  | bot => exact ⟨0, le_rfl, by simp⟩
  | top => exact absurd rfl hx
  | coe x =>
    refine ⟨Real.rpow 2 (x - m), Real.rpow_nonneg (by norm_num) _, ?_⟩
    rw [← EReal.coe_sub, Ideal.exp2_coe]

/-- Changing the base and the reference point multiplies every weight by one positive real. -/
theorem shift {m m' : EReal} (hm : Fin' m) (hm' : Fin' m') :
    ∃ c : ℝ, 0 < c ∧ ∀ x : EReal, x ≠ ⊤ → Ideal.exp (x * ln2 - m') = (c : EReal) * Ideal.exp2 (x - m) := by
  obtain ⟨m, rfl⟩ := fin_iff.1 hm
  obtain ⟨m', rfl⟩ := fin_iff.1 hm'
  refine ⟨Real.exp (m * Real.log 2 - m'), Real.exp_pos _, fun x hx => ?_⟩
  induction x with
  | bot =>
    rw [EReal.bot_mul_coe_of_pos log2_pos]
    simp
  | top => exact absurd rfl hx
  | coe x =>
    rw [← EReal.coe_mul, ← EReal.coe_sub, ← EReal.coe_sub, Ideal.exp2_coe, Ideal.exp_coe, ← EReal.coe_mul]
    congr 1
    change _ = Real.exp _ * (2 : ℝ) ^ (x - m)
    rw [Real.rpow_def_of_pos (by norm_num), ← Real.exp_add]
    congr 1
    ring

/-- A nonnegative real leaves a sum of arbitrary values factor by factor. -/
theorem sum_mul_coe {n : ℕ} (f : Fin n → EReal) {c : ℝ} (hc : 0 ≤ c) :
    (∑ i, f i) * (c : EReal) = ∑ i, f i * (c : EReal) := by
  induction n with
  | zero => simp
  | succ n ih =>
    rw [Fin.sum_univ_succ, Fin.sum_univ_succ,
      EReal.right_distrib_of_nonneg_of_ne_top (EReal.coe_nonneg.2 hc) (EReal.coe_ne_top c), ih]

/-- The weighted sum of the values over the weights' sum, the kernel's way and the reference's. -/
theorem soft {n k : ℕ} (x : Fin n → EReal) (y : Fin k → EReal) (s m m' : EReal)
    (vk vr : Fin n → EReal) (u : Fin k → EReal)
    (hx : ∀ j, x j ≠ ⊤) (hy : ∀ j, y j ≠ ⊤) (hs : Fin' s) (hm : Fin' m) (hm' : Fin' m')
    (hv : ∀ j, x j ≠ ⊥ → vk j = vr j) :
    (∑ j, vk j * Ideal.exp2 (x j - m) + ∑ j, u j * Ideal.exp2 (y j - m))
        * Ideal.div 1 (∑ j, Ideal.exp2 (x j - m) + ∑ j, Ideal.exp2 (y j - m) + Ideal.exp2 (s * log2e - m))
      = ∑ j, vr j * Ideal.div (Ideal.exp (x j * ln2 - m'))
            (∑ j, Ideal.exp (x j * ln2 - m') + ∑ j, Ideal.exp (y j * ln2 - m') + Ideal.exp (s - m'))
        + ∑ j, u j * Ideal.div (Ideal.exp (y j * ln2 - m'))
            (∑ j, Ideal.exp (x j * ln2 - m') + ∑ j, Ideal.exp (y j * ln2 - m') + Ideal.exp (s - m')) := by
  obtain ⟨c, hc, hsh⟩ := shift hm hm'
  have hse : Ideal.exp (s - m') = (c : EReal) * Ideal.exp2 (s * log2e - m) := by
    rw [← hsh _ (hs.mul (fin_iff.2 ⟨_, rfl⟩)).1, mul_assoc, ← EReal.coe_mul,
      inv_mul_cancel₀ log2_pos.ne', EReal.coe_one, mul_one]
  choose w hw hwe using fun j => exp2_real (hx j) hm
  choose z hz hze using fun j => exp2_real (hy j) hm
  have hsp : ∃ q : ℝ, 0 < q ∧ Ideal.exp2 (s * log2e - m) = (q : EReal) := by
    obtain ⟨a, rfl⟩ := fin_iff.1 hs
    obtain ⟨b, rfl⟩ := fin_iff.1 hm
    refine ⟨Real.rpow 2 (a * (Real.log 2)⁻¹ - b), Real.rpow_pos_of_pos (by norm_num) _, ?_⟩
    rw [← EReal.coe_mul, ← EReal.coe_sub, Ideal.exp2_coe]
  obtain ⟨q, hq, hqe⟩ := hsp
  have hD : 0 < ∑ j, w j + ∑ j, z j + q :=
    add_pos_of_nonneg_of_pos (add_nonneg (Finset.sum_nonneg fun j _ => hw j) (Finset.sum_nonneg fun j _ => hz j)) hq
  rw [hse]
  simp only [hsh _ (hx _), hsh _ (hy _), hwe, hze, hqe, ← EReal.coe_mul, ← coe_sum', ← EReal.coe_add]
  rw [← Finset.mul_sum, ← Finset.mul_sum, ← mul_add, ← mul_add]
  generalize hDe : ∑ j, w j + ∑ j, z j + q = D at hD
  have hdk : Ideal.div 1 (D : EReal) = ((D⁻¹ : ℝ) : EReal) := by
    rw [← EReal.coe_one, Ideal.div_coe hD.ne']
    simp
  have hdr : ∀ a : ℝ, Ideal.div ((c * a : ℝ) : EReal) ((c * D : ℝ) : EReal) = ((a * D⁻¹ : ℝ) : EReal) := by
    intro a
    rw [Ideal.div_coe (mul_pos hc hD).ne', ← EReal.coe_mul]
    congr 1
    field_simp
  rw [hdk]
  simp only [hdr]
  rw [EReal.right_distrib_of_nonneg_of_ne_top (EReal.coe_nonneg.2 (inv_pos.2 hD).le) (EReal.coe_ne_top _),
    sum_mul_coe _ (inv_pos.2 hD).le, sum_mul_coe _ (inv_pos.2 hD).le]
  refine congrArg₂ (· + ·) (Finset.sum_congr rfl fun j _ => ?_) (Finset.sum_congr rfl fun j _ => ?_)
  · rw [EReal.coe_mul, mul_assoc]
    by_cases h : x j = ⊥
    · have h0 : w j = 0 := by
        have := hwe j
        rw [h] at this
        obtain ⟨b, hb⟩ := fin_iff.1 hm
        rw [hb, EReal.bot_sub, Ideal.exp2_bot] at this
        exact_mod_cast this.symm
      rw [h0]
      simp
    · rw [hv j h]
  · rw [EReal.coe_mul, mul_assoc]

end Cert.Soft
-- ==== Proof.AttAt.lean ====
/- The reference's attention at an index. -/
module

public import proofs.«01_k».proof.Proof.AttRef
public import proofs.«01_k».proof.Proof.Soft
public import Idealize.ShloMosaic.Lib.Tactic.WordOmega

@[expose] public section

set_option maxRecDepth 16384

noncomputable section

namespace Cert.AttentionIdeal.Ref

open Idealize.ShloMosaic Idealize.ShloMosaic.TcCoe Idealize.SL.Sem Idealize.ShloMosaic.StableHlo
open Cert.AttentionIdeal Cert.AttentionIdeal.Gen

/-- The word the logits' maximum starts from reads as `⊥`. -/
theorem neg_inf : Ideal.ofBits .f32 4286578688#32 = ⊥ := by
  simp [Ideal.ofBits, Ideal.ieee]

/-- The word of two reads as two. -/
theorem two_val : Ideal.ofBits .f32 1073741824#32 = ((2 : ℝ) : EReal) := by
  simp [Ideal.ofBits, Ideal.ieee, -EReal.coe_mul]; norm_num

/-- The factor of a logit is ln 2. -/
theorem ln2_val : Ideal.log (Ideal.ofBits .f32 1073741824#32) = Soft.ln2 := by
  rw [two_val, Soft.ln2]
  change (if (2 : ℝ) ≤ 0 then (⊥ : EReal) else ((Real.log 2 : ℝ) : EReal)) = _
  rw [if_neg (by norm_num)]

/-- A choice by a bit is the choice by what the bit says. -/
theorem choose_ite {c : BitVec 1} {p : Prop} [Decidable p] (a b : EReal) (h1 : p → c = 1#1) (h0 : c = 1#1 → p) :
    Scalar.select c a b = if p then a else b := by
  have h' : ∀ c : BitVec 1, c ≠ 1#1 → c = 0#1 := by decide
  by_cases h : p
  · rw [if_pos h, h1 h]; rfl
  · rw [if_neg h, h' c (fun e => h (h0 e))]; rfl

/-- A query, read at an index. -/
theorem Q_at (x1 : FVec Ideal S1280x4096 .bf16) (b : Fin 32) (r : Fin 128) (h g : Fin 4) (d : Fin 64) :
    Q x1 (ix5 b r h g d) = x1 (ix2 ⟨h.val * 256 + g.val * 64 + d.val, by omega⟩ ⟨b.val * 128 + r.val, by omega⟩) := by
  pointwise [Q]

/-- A key of the rows that begin with the lead block. -/
def gkey (x2 : FVec Ideal S4096x256 .bf16) (x3 : FVec Ideal S128x256 .bf16) (p : Fin 4224) (e : Fin 256) : EReal :=
  if h : p.val < 128 then x3 (ix2 ⟨p.val, h⟩ e) else x2 (ix2 ⟨p.val - 128, by omega⟩ e)

/-- A value of the columns that begin with the lead block. -/
def gval (x1 : FVec Ideal S1280x4096 .bf16) (x4 : FVec Ideal S1280x128 .bf16) (e : Fin 256) (p : Fin 4224) : EReal :=
  if h : p.val < 128 then x4 (ix2 ⟨1024 + e.val, by omega⟩ ⟨p.val, h⟩) else x1 (ix2 ⟨1024 + e.val, by omega⟩ ⟨p.val - 128, by omega⟩)

/-- A key, read at an index. -/
theorem K_at (x2 : FVec Ideal S4096x256 .bf16) (x3 : FVec Ideal S128x256 .bf16) (b : Fin 33) (r : Fin 128) (h : Fin 4) (d : Fin 64) :
    K x2 x3 (ix4 b r h d) = gkey x2 x3 ⟨b.val * 128 + r.val, by omega⟩ ⟨h.val * 64 + d.val, by omega⟩ := by
  pointwise [K]
  rfl

/-- A value, read at an index. -/
theorem V_at (x1 : FVec Ideal S1280x4096 .bf16) (x4 : FVec Ideal S1280x128 .bf16) (b : Fin 33) (r : Fin 128) (h : Fin 4) (d : Fin 64) :
    V x1 x4 (ix4 b r h d) = gval x1 x4 ⟨h.val * 64 + d.val, by omega⟩ ⟨b.val * 128 + r.val, by omega⟩ := by
  pointwise [V]
  simp only [gval, Nat.add_assoc]

/-- A row of a block's band. -/
theorem BAND_at (k : FVec Ideal S33x128x4x64 .f32) (b : Fin 32) (x : Fin 256) (h : Fin 4) (d : Fin 64) :
    BAND k (ix4 b x h d) = if hx : x.val < 128 then k (ix4 ⟨b.val, by omega⟩ ⟨x.val, hx⟩ h d) else k (ix4 ⟨1 + b.val, by omega⟩ ⟨x.val - 128, by omega⟩ h d) := by
  pointwise [BAND]

/-- A meta row. -/
theorem META_at (k : FVec Ideal S33x128x4x64 .f32) (s : Fin 16) (h : Fin 4) (d : Fin 64) :
    META k (ix3 s h d) = k (ix4 0 ⟨112 + s.val, by omega⟩ h d) := by
  pointwise [META]

/-- The band's logits at an index. -/
theorem SB_at (q : FVec Ideal S32x128x4x4x64 .f32) (kb : FVec Ideal S32x256x4x64 .f32) (x5 : FVec Ideal S4x256x512 .f32) (b : Fin 32) (h g : Fin 4) (r : Fin 128) (j : Fin 256) :
    SB q kb x5 (ix5 b h g r j) = ((∑ e, kb (ix4 b j h e) * q (ix5 b r h g e)) + x5 (ix3 h j ⟨g.val * 128 + r.val, by omega⟩)) * Ideal.log (Ideal.ofBits .f32 1073741824#32) := by
  pointwise [SB]

/-- The meta rows' logits at an index. -/
theorem SM_at (q : FVec Ideal S32x128x4x4x64 .f32) (km : FVec Ideal S16x4x64 .f32) (x6 : FVec Ideal S32x4x16x512 .f32) (b : Fin 32) (h g : Fin 4) (r : Fin 128) (j : Fin 16) :
    SM q km x6 (ix5 b h g r j) = ((∑ e, km (ix3 j h e) * q (ix5 b r h g e)) + x6 (ix4 b h j ⟨g.val * 128 + r.val, by omega⟩)) * Ideal.log (Ideal.ofBits .f32 1073741824#32) := by
  pointwise [SM]

/-- The logits of the band with the mask. -/
theorem L_lo (sb : FVec Ideal S32x4x4x128x256 .f32) (sm : FVec Ideal S32x4x4x128x16 .f32)  (b : Fin 32) (h g : Fin 4) (r : Fin 128) (j : Fin 256) :
    L sb sm (ix5 b h g r ⟨j.val, by omega⟩) = if j.val ≤ r.val + 128 ∧ r.val < j.val ∧ (128 ≤ j.val ∨ 1 ≤ b.val) then sb (ix5 b h g r j) else ⊥ := by
  pointwise [L, MB]
  rw [neg_inf]
  refine choose_ite _ _ (fun h => ?_) (fun hc => ?_)
  · obtain ⟨h1, h2, h3⟩ := h
    simp only [IntOp.subi, IntOp.addi, IntOp.muli]
    word_omega
  · simp only [IntOp.subi, IntOp.addi, IntOp.muli] at hc
    refine ⟨?_, ?_, ?_⟩ <;> word_omega

/-- The logits of the meta rows: the mask keeps them all. -/
theorem L_hi (sb : FVec Ideal S32x4x4x128x256 .f32) (sm : FVec Ideal S32x4x4x128x16 .f32)  (b : Fin 32) (h g : Fin 4) (r : Fin 128) (j : Fin 16) :
    L sb sm (ix5 b h g r ⟨256 + j.val, by omega⟩) = sm (ix5 b h g r j) := by
  pointwise [L, MM]
  refine (choose_ite (p := True) _ _ (fun _ => ?_) (fun h => trivial)).trans (if_pos trivial)
  simp only [IntOp.subi, IntOp.addi, IntOp.muli]
  word_omega

/-- The sink at an index. -/
theorem SINK_at (x0 : FVec Ideal S16 .f32) (b : Fin 32) (h g : Fin 4) (r : Fin 128) : SINK x0 (ix5 b h g r 0) = x0 (ix1 ⟨h.val * 4 + g.val, by omega⟩) := by
  pointwise [SINK]

/-- A maximum over an axis of elements below `⊤` is below `⊤`. -/
theorem red_ne_top {s t u : Shape} {axes : List (Fin s.rank)} (x : s.Idx → EReal) (init : u.Idx → EReal) (h : s.ReducesTo axes t) (hu : 0 < u.numel) (j : t.Idx)
    (hi : init (Shape.Idx.first hu) ≠ ⊤) (hx : ∀ i, x i ≠ ⊤) : Host.reduce (FloatOps.maximumf (F := Ideal) (φ := .f32)) x init h hu j ≠ ⊤ := by
  rw [Host.reduce_eq_foldl]
  generalize (List.filter _ _ : List s.Idx) = L
  revert hi
  generalize init (Shape.Idx.first hu) = a
  induction L generalizing a with
  | nil => exact fun h => h
  | cons i L ih => exact fun h => ih _ (Soft.max_ne_top h (hx i))

/-- A broadcast of elements below `⊤` is below `⊤`. -/
theorem bc_ne_top {s t : Shape} (dims : Fin s.rank → Fin t.rank) (h : s.BroadcastsInDim t dims) (v : s.Idx → EReal) (hv : ∀ j, v j ≠ ⊤) (i : t.Idx) :
    broadcastInDim t dims h v i ≠ ⊤ := hv _

/-- The maximum of two arrays at an index. -/
theorem max_at {s : Shape} (x y : FVec Ideal s .f32) (i : s.Idx) : maximumf x y i = max (x i) (y i) := rfl

/-- A constant array starts a maximum below `⊤`. -/
theorem start_ne_top {s : Shape} (i : s.Idx) : (constant s .f32 0xFF800000#32 : FVec Ideal s .f32) i ≠ ⊤ := by
  change Ideal.ofBits .f32 4286578688#32 ≠ ⊤
  rw [neg_inf]
  exact bot_ne_top

/-- The row maxima are below `⊤`. -/
theorem rows_ne_top (l : FVec Ideal S32x4x4x128x272 .f32) (hl : ∀ i, l i ≠ ⊤) (j : S32x4x4x128.Idx) :
    Host.reduce FloatOps.maximumf l (constant S_ .f32 0xFF800000#32) reducesTo_S32x4x4x128x272_S32x4x4x128_d4 h_S_ j ≠ ⊤ :=
  red_ne_top l _ _ _ j (start_ne_top _) hl

/-- The maximum is finite: a logit is below `⊤` and the sink is finite. -/
theorem M_fin (l : FVec Ideal S32x4x4x128x272 .f32) (s : FVec Ideal S32x4x4x128x1 .f32) (b : Fin 32) (h g : Fin 4) (r : Fin 128)
    (hl : ∀ i, l i ≠ ⊤) (hs : Soft.Fin' (s (ix5 b h g r 0))) : Soft.Fin' (M l s (ix5 b h g r 0)) := by
  unfold M
  rw [max_at]
  exact Soft.fin_max (bc_ne_top _ _ _ (rows_ne_top l hl) _) hs

/-- A weight before it is normalised, at an index. -/
theorem P_at (l : FVec Ideal S32x4x4x128x272 .f32) (mx : FVec Ideal S32x4x4x128x1 .f32) (b : Fin 32) (h g : Fin 4) (r : Fin 128) (j : Fin 272) :
    P l mx (ix5 b h g r j) = Ideal.exp (l (ix5 b h g r j) - mx (ix5 b h g r 0)) := by
  pointwise [P]

/-- The normaliser at an index. -/
theorem D_at (p : FVec Ideal S32x4x4x128x272 .f32) (s mx : FVec Ideal S32x4x4x128x1 .f32) (b : Fin 32) (h g : Fin 4) (r : Fin 128) :
    D p s mx (ix5 b h g r 0) = (∑ j, p (ix5 b h g r j)) + Ideal.exp (s (ix5 b h g r 0) - mx (ix5 b h g r 0)) := by
  pointwise [D]

/-- A weight at an index. -/
theorem W_at (p : FVec Ideal S32x4x4x128x272 .f32) (d : FVec Ideal S32x4x4x128x1 .f32) (b : Fin 32) (h g : Fin 4) (r : Fin 128) (j : Fin 272) :
    W p d (ix5 b h g r j) = Ideal.div (p (ix5 b h g r j)) (d (ix5 b h g r 0)) := by
  pointwise [W]

/-- The result at an index. -/
theorem O_at (w : FVec Ideal S32x4x4x128x272 .f32) (vb : FVec Ideal S32x256x4x64 .f32) (vm : FVec Ideal S16x4x64 .f32) (b : Fin 32) (h g : Fin 4) (d : Fin 64) (r : Fin 128)
    (row : Fin 1024) (col : Fin 4096) (hr : row.val = h.val * 256 + g.val * 64 + d.val) (hc : col.val = b.val * 128 + r.val) :
    O w vb vm (ix2 row col) = (∑ x : Fin 256, vb (ix4 b x h d) * w (ix5 b h g r ⟨x.val, by omega⟩)) + ∑ x : Fin 16, vm (ix3 x h d) * w (ix5 b h g r ⟨256 + x.val, by omega⟩) := by
  have e1 : (⟨col.val / 128, by omega⟩ : Fin 32) = b := Fin.ext (by simp only; omega)
  have e2 : (⟨row.val / 256, by omega⟩ : Fin 4) = h := Fin.ext (by simp only; omega)
  have e3 : (⟨row.val / 64 % 4, by omega⟩ : Fin 4) = g := Fin.ext (by simp only; omega)
  have e4 : (⟨row.val % 64, by omega⟩ : Fin 64) = d := Fin.ext (by simp only; omega)
  have e5 : (⟨col.val % 128, by omega⟩ : Fin 128) = r := Fin.ext (by simp only; omega)
  pointwise [O]
  simp only [e1, e2, e3, e4, e5]

/-- The attention at an index, from the logits of the index's row. -/
theorem ATT_at (l : FVec Ideal S32x4x4x128x272 .f32) (s : FVec Ideal S32x4x4x128x1 .f32) (v : FVec Ideal S33x128x4x64 .f32) (hl : ∀ i, l i ≠ ⊤)
    (b : Fin 32) (h g : Fin 4) (d : Fin 64) (r : Fin 128) (row : Fin 1024) (col : Fin 4096)
    (hr : row.val = h.val * 256 + g.val * 64 + d.val) (hc : col.val = b.val * 128 + r.val) (sk : EReal) (hsk : s (ix5 b h g r 0) = sk) (hs : Soft.Fin' sk)
    (X : Fin 256 → EReal) (Y : Fin 16 → EReal)
    (hX : ∀ j : Fin 256, l (ix5 b h g r ⟨j.val, by omega⟩) = X j) (hY : ∀ j : Fin 16, l (ix5 b h g r ⟨256 + j.val, by omega⟩) = Y j) :
    ∃ m', Soft.Fin' m' ∧ ATT l s v (ix2 row col) =
      (∑ j, BAND v (ix4 b j h d) * Ideal.div (Ideal.exp (X j - m')) ((∑ j, Ideal.exp (X j - m')) + (∑ j, Ideal.exp (Y j - m')) + Ideal.exp (sk - m')))
      + ∑ j, META v (ix3 j h d) * Ideal.div (Ideal.exp (Y j - m')) ((∑ j, Ideal.exp (X j - m')) + (∑ j, Ideal.exp (Y j - m')) + Ideal.exp (sk - m')) := by
  refine ⟨M l s (ix5 b h g r 0), M_fin l s b h g r hl (hsk ▸ hs), ?_⟩
  rw [ATT, O_at _ _ _ b h g d r row col hr hc]
  have hD : D (P l (M l s)) s (M l s) (ix5 b h g r 0) = (∑ j, Ideal.exp (X j - M l s (ix5 b h g r 0))) + (∑ j, Ideal.exp (Y j - M l s (ix5 b h g r 0))) + Ideal.exp (sk - M l s (ix5 b h g r 0)) := by
    rw [D_at, hsk]
    refine congrArg (· + _) ?_
    refine (Fin.sum_univ_add (a := 256) (b := 16) fun j => P l (M l s) (ix5 b h g r j)).trans ?_
    refine congrArg₂ (· + ·) (Finset.sum_congr rfl fun j _ => ?_) (Finset.sum_congr rfl fun j _ => ?_)
    · rw [P_at, ← hX j]; rfl
    · rw [P_at, ← hY j]; rfl
  refine congrArg₂ (· + ·) (Finset.sum_congr rfl fun j _ => ?_) (Finset.sum_congr rfl fun j _ => ?_)
  · rw [W_at, hD, P_at, hX j]
  · rw [W_at, hD, P_at, hY j]

end Cert.AttentionIdeal.Ref
-- ==== Proof.Core.lean ====
module

public import proofs.«01_k».proof.Proof.Gen.MixerIdeal.Skeleton
public import Idealize.ShloMosaic.Lib.Pointwise
public import Idealize.ShloMosaic.Lib.Pipeline.ValueKit

@[expose] public section

/-! One head of the attention as the kernel computes it on one block of queries, from the tiles it loads: the masked
scores, their weights in powers of two, and the weighted values over the sum of the weights. -/

set_option maxRecDepth 16384

noncomputable section

namespace Cert.MixerIdeal.Att

open Cert.MixerIdeal Cert.MixerIdeal.Gen
open Idealize.ShloMosaic Idealize.ShloMosaic.TcCoe Idealize.SL.Sem

/-- Which keys of the band a query sees, at the block of queries whose number is `n`. -/
def bok (n : BitVec 32) : IVec S256x128 1 :=
  let w : IVec S256x128 32 := subi (addi (iota .tc S256x128 32 [1] iota_S256x128_d1_w32) (broadcast S256x128 128#32)) (iota .tc S256x128 32 [0] iota_S256x128_d0_w32)
  andi (andi (cmpi .sge w (broadcast S256x128 0#32)) (cmpi .slt w (broadcast S256x128 128#32)))
    (ori (cmpi .sge (iota .tc S256x128 32 [0] iota_S256x128_d0_w32) (broadcast S256x128 128#32)) (broadcast S256x128 (Scalar.cmpi .sge n 1#32)))

/-- Which leading keys a query sees. -/
def mok (n : BitVec 32) : IVec S16x128 1 :=
  cmpi .sge (addi (broadcast S16x128 (Scalar.muli (Scalar.addi n 1#32) 128#32)) (iota .tc S16x128 32 [1] iota_S16x128_d1_w32))
    (addi (broadcast S16x128 112#32) (iota .tc S16x128 32 [0] iota_S16x128_d0_w32))

/-- The keys of the block before, of the block, and the leading ones. -/
def kall (kp kc : FVec Ideal S128x256 .bf16) (km : FVec Ideal S16x256 .bf16) : FVec Ideal S272x256 .bf16 :=
  concatenate S272x256 0 [⟨S128x256, kp⟩, ⟨S128x256, kc⟩, ⟨S16x256, km⟩] concatenates_S128x256_S128x256_S16x256_S272x256_d0

/-- The queries of the four groups of one head. -/
def qall (q0 q1 q2 q3 : FVec Ideal S64x128 .bf16) : FVec Ideal S64x512 .bf16 :=
  concatenate S64x512 1 [⟨S64x128, q0⟩, ⟨S64x128, q1⟩, ⟨S64x128, q2⟩, ⟨S64x128, q3⟩] concatenates_S64x128_S64x128_S64x128_S64x128_S64x512_d1

/-- The scores of head 0, before their bias. -/
def st0 (ka : FVec Ideal S272x256 .bf16) (q : FVec Ideal S64x512 .bf16) : FVec Ideal S272x512 .f32 :=
  matmul dot_S272x128_S128x512_S272x512_1_0_0_1_n_n none (extractStridedSlice S272x128 ![0, 0] ka slices_S272x256_o0_0_S272x128)
    (concatenate S128x512 0 [⟨S64x512, q⟩, ⟨S64x512, broadcast S64x512 (Scalar.ofBits (F := Ideal) .bf16 0x0000#16)⟩] concatenates_S64x512_S64x512_S128x512_d0) (constant S272x512 .f32 0x00000000#32)

/-- The scores of head 1, before their bias. -/
def st1 (ka : FVec Ideal S272x256 .bf16) (q : FVec Ideal S64x512 .bf16) : FVec Ideal S272x512 .f32 :=
  matmul dot_S272x128_S128x512_S272x512_1_0_0_1_n_n none (extractStridedSlice S272x128 ![0, 0] ka slices_S272x256_o0_0_S272x128)
    (concatenate S128x512 0 [⟨S64x512, broadcast S64x512 (Scalar.ofBits (F := Ideal) .bf16 0x0000#16)⟩, ⟨S64x512, q⟩] concatenates_S64x512_S64x512_S128x512_d0) (constant S272x512 .f32 0x00000000#32)

/-- The scores of head 2, before their bias. -/
def st2 (ka : FVec Ideal S272x256 .bf16) (q : FVec Ideal S64x512 .bf16) : FVec Ideal S272x512 .f32 :=
  matmul dot_S272x128_S128x512_S272x512_1_0_0_1_n_n none (extractStridedSlice S272x128 ![0, 128] ka slices_S272x256_o0_128_S272x128)
    (concatenate S128x512 0 [⟨S64x512, q⟩, ⟨S64x512, broadcast S64x512 (Scalar.ofBits (F := Ideal) .bf16 0x0000#16)⟩] concatenates_S64x512_S64x512_S128x512_d0) (constant S272x512 .f32 0x00000000#32)

/-- The scores of head 3, before their bias. -/
def st3 (ka : FVec Ideal S272x256 .bf16) (q : FVec Ideal S64x512 .bf16) : FVec Ideal S272x512 .f32 :=
  matmul dot_S272x128_S128x512_S272x512_1_0_0_1_n_n none (extractStridedSlice S272x128 ![0, 128] ka slices_S272x256_o0_128_S272x128)
    (concatenate S128x512 0 [⟨S64x512, broadcast S64x512 (Scalar.ofBits (F := Ideal) .bf16 0x0000#16)⟩, ⟨S64x512, q⟩] concatenates_S64x512_S64x512_S128x512_d0) (constant S272x512 .f32 0x00000000#32)

/-- The sink's score in powers of two. -/
def sk (s : Ideal .f32) : FVec Ideal S1x128 .f32 :=
  mulf (broadcast S1x128 s) (broadcast S1x128 (Named.named κ "log2e" 0x3FB8AA3B#32 : Ideal .f32))

/-- The masked band scores of a group. -/
def lb (bo : IVec S256x128 1) (sl : FVec Ideal S272x128 .f32) (bb : FVec Ideal S1x256x128 .f32) : FVec Ideal S256x128 .f32 :=
  select bo (addf (extractStridedSlice S256x128 ![0, 0] sl slices_S272x128_o0_0_S256x128) (shapeCast S256x128 bb shapeCasts_S1x256x128_S256x128))
    (broadcast S256x128 (Named.named κ "mask" 0xF191ACCB#32 : Ideal .f32))

/-- The masked leading scores of a group. -/
def lm (mo : IVec S16x128 1) (sl : FVec Ideal S272x128 .f32) (bm : FVec Ideal S1x1x16x128 .f32) : FVec Ideal S16x128 .f32 :=
  select mo (addf (extractStridedSlice S16x128 ![256, 0] sl slices_S272x128_o256_0_S16x128) (shapeCast S16x128 bm shapeCasts_S1x1x16x128_S16x128))
    (broadcast S16x128 (Named.named κ "mask" 0xF191ACCB#32 : Ideal .f32))

/-- The greatest score of each query. -/
def mx (b : FVec Ideal S256x128 .f32) (l : FVec Ideal S16x128 .f32) (s : FVec Ideal S1x128 .f32) : FVec Ideal S1x128 .f32 :=
  maximumf (maximumf (shapeCast S1x128 (multiReduction .maximumf [0] S128 b 0xFF800000#32 reduces_S256x128_S128 (.inl rfl) rfl) shapeCasts_S128_S1x128)
    (shapeCast S1x128 (multiReduction .maximumf [0] S128 l 0xFF800000#32 reduces_S16x128_S128 (.inl rfl) rfl) shapeCasts_S128_S1x128)) s

/-- The weights of the band. -/
def pb (b : FVec Ideal S256x128 .f32) (mm : FVec Ideal S1x128 .f32) : FVec Ideal S256x128 .bf16 :=
  truncf .bf16 (exp2 (subf b (broadcastTo S256x128 mm broadcasts_S1x128_S256x128))) bitsLt_bf16_f32

/-- The weights of the leading keys, under 112 rows of zeros. -/
def pl (l : FVec Ideal S16x128 .f32) (mm : FVec Ideal S1x128 .f32) : FVec Ideal S128x128 .bf16 :=
  concatenate S128x128 0 [⟨S112x128, broadcast S112x128 (Scalar.ofBits (F := Ideal) .bf16 0x0000#16)⟩,
    ⟨S16x128, truncf .bf16 (exp2 (subf l (broadcastTo S16x128 mm broadcasts_S1x128_S16x128))) bitsLt_bf16_f32⟩] concatenates_S112x128_S16x128_S128x128_d0

/-- The sink's weight. -/
def sp (s mm : FVec Ideal S1x128 .f32) : FVec Ideal S1x128 .f32 := exp2 (subf s mm)

/-- The values of the band over a row of ones. -/
def vb (vp vc : FVec Ideal S64x128 .bf16) : FVec Ideal S80x256 .bf16 :=
  concatenate S80x256 0 [⟨S64x256, concatenate S64x256 1 [⟨S64x128, vp⟩, ⟨S64x128, vc⟩] concatenates_S64x128_S64x128_S64x256_d1⟩,
    ⟨S16x256, truncf .bf16 (select (cmpi .eq (iota .tc S16x256 32 [0] iota_S16x256_d0_w32) (broadcast S16x256 0#32))
      (broadcast S16x256 (Scalar.ofBits (F := Ideal) .f32 0x3F800000#32)) (broadcast S16x256 (Scalar.ofBits (F := Ideal) .f32 0x00000000#32))) bitsLt_bf16_f32⟩] concatenates_S64x256_S16x256_S80x256_d0

/-- The leading values over a row of ones. -/
def vl (v : FVec Ideal S64x128 .bf16) : FVec Ideal S80x128 .bf16 :=
  concatenate S80x128 0 [⟨S64x128, v⟩,
    ⟨S16x128, truncf .bf16 (select (cmpi .eq (iota .tc S16x128 32 [0] iota_S16x128_d0_w32) (broadcast S16x128 0#32))
      (broadcast S16x128 (Scalar.ofBits (F := Ideal) .f32 0x3F800000#32)) (broadcast S16x128 (Scalar.ofBits (F := Ideal) .f32 0x00000000#32))) bitsLt_bf16_f32⟩] concatenates_S64x128_S16x128_S80x128_d0

/-- The weighted values of the four groups, and in row 64 the sums of their weights. -/
def ot (b : FVec Ideal S80x256 .bf16) (l : FVec Ideal S80x128 .bf16) (p0 p1 p2 p3 : FVec Ideal S256x128 .bf16) (l0 l1 l2 l3 : FVec Ideal S128x128 .bf16) : FVec Ideal S80x512 .f32 :=
  addf (matmul dot_S80x256_S256x512_S80x512_1_0_0_1_n_n none b
      (concatenate S256x512 1 [⟨S256x128, p0⟩, ⟨S256x128, p1⟩, ⟨S256x128, p2⟩, ⟨S256x128, p3⟩] concatenates_S256x128_S256x128_S256x128_S256x128_S256x512_d1) (constant S80x512 .f32 0x00000000#32))
    (matmul dot_S80x128_S128x512_S80x512_1_0_0_1_n_n none l
      (concatenate S128x512 1 [⟨S128x128, l0⟩, ⟨S128x128, l1⟩, ⟨S128x128, l2⟩, ⟨S128x128, l3⟩] concatenates_S128x128_S128x128_S128x128_S128x128_S128x512_d1) (constant S80x512 .f32 0x00000000#32))

/-- What group 0 stores. -/
def out0 (w : FVec Ideal S80x512 .f32) (s : FVec Ideal S1x128 .f32) : FVec Ideal S64x128 .bf16 :=
  truncf .bf16 (mulf (extractStridedSlice S64x128 ![0, 0] w slices_S80x512_o0_0_S64x128)
    (broadcastTo S64x128 (divf (broadcast S1x128 (Scalar.ofBits (F := Ideal) .f32 0x3F800000#32)) (addf (extractStridedSlice S1x128 ![64, 0] w slices_S80x512_o64_0_S1x128) s)) broadcasts_S1x128_S64x128)) bitsLt_bf16_f32

/-- The scores of group 0. -/
def sl0 (s : FVec Ideal S272x512 .f32) : FVec Ideal S272x128 .f32 := extractStridedSlice S272x128 ![0, 0] s slices_S272x512_o0_0_S272x128

/-- What group 1 stores. -/
def out1 (w : FVec Ideal S80x512 .f32) (s : FVec Ideal S1x128 .f32) : FVec Ideal S64x128 .bf16 :=
  truncf .bf16 (mulf (extractStridedSlice S64x128 ![0, 128] w slices_S80x512_o0_128_S64x128)
    (broadcastTo S64x128 (divf (broadcast S1x128 (Scalar.ofBits (F := Ideal) .f32 0x3F800000#32)) (addf (extractStridedSlice S1x128 ![64, 128] w slices_S80x512_o64_128_S1x128) s)) broadcasts_S1x128_S64x128)) bitsLt_bf16_f32

/-- The scores of group 1. -/
def sl1 (s : FVec Ideal S272x512 .f32) : FVec Ideal S272x128 .f32 := extractStridedSlice S272x128 ![0, 128] s slices_S272x512_o0_128_S272x128

/-- What group 2 stores. -/
def out2 (w : FVec Ideal S80x512 .f32) (s : FVec Ideal S1x128 .f32) : FVec Ideal S64x128 .bf16 :=
  truncf .bf16 (mulf (extractStridedSlice S64x128 ![0, 256] w slices_S80x512_o0_256_S64x128)
    (broadcastTo S64x128 (divf (broadcast S1x128 (Scalar.ofBits (F := Ideal) .f32 0x3F800000#32)) (addf (extractStridedSlice S1x128 ![64, 256] w slices_S80x512_o64_256_S1x128) s)) broadcasts_S1x128_S64x128)) bitsLt_bf16_f32

/-- The scores of group 2. -/
def sl2 (s : FVec Ideal S272x512 .f32) : FVec Ideal S272x128 .f32 := extractStridedSlice S272x128 ![0, 256] s slices_S272x512_o0_256_S272x128

/-- What group 3 stores. -/
def out3 (w : FVec Ideal S80x512 .f32) (s : FVec Ideal S1x128 .f32) : FVec Ideal S64x128 .bf16 :=
  truncf .bf16 (mulf (extractStridedSlice S64x128 ![0, 384] w slices_S80x512_o0_384_S64x128)
    (broadcastTo S64x128 (divf (broadcast S1x128 (Scalar.ofBits (F := Ideal) .f32 0x3F800000#32)) (addf (extractStridedSlice S1x128 ![64, 384] w slices_S80x512_o64_384_S1x128) s)) broadcasts_S1x128_S64x128)) bitsLt_bf16_f32

/-- The scores of group 3. -/
def sl3 (s : FVec Ideal S272x512 .f32) : FVec Ideal S272x128 .f32 := extractStridedSlice S272x128 ![0, 384] s slices_S272x512_o0_384_S272x128

/-- All four groups' weighted values from the scores and the tiles. -/
def tot (bo : IVec S256x128 1) (mo : IVec S16x128 1) (s : FVec Ideal S272x512 .f32) (s0 s1 s2 s3 : Ideal .f32)
    (b0 b1 b2 b3 : FVec Ideal S1x256x128 .f32) (m0 m1 m2 m3 : FVec Ideal S1x1x16x128 .f32) (vp vc v : FVec Ideal S64x128 .bf16) : FVec Ideal S80x512 .f32 :=
  ot (vb vp vc) (vl v) (pb (lb bo (sl0 s) b0) (mx (lb bo (sl0 s) b0) (lm mo (sl0 s) m0) (sk s0))) (pb (lb bo (sl1 s) b1) (mx (lb bo (sl1 s) b1) (lm mo (sl1 s) m1) (sk s1))) (pb (lb bo (sl2 s) b2) (mx (lb bo (sl2 s) b2) (lm mo (sl2 s) m2) (sk s2))) (pb (lb bo (sl3 s) b3) (mx (lb bo (sl3 s) b3) (lm mo (sl3 s) m3) (sk s3)))
    (pl (lm mo (sl0 s) m0) (mx (lb bo (sl0 s) b0) (lm mo (sl0 s) m0) (sk s0))) (pl (lm mo (sl1 s) m1) (mx (lb bo (sl1 s) b1) (lm mo (sl1 s) m1) (sk s1))) (pl (lm mo (sl2 s) m2) (mx (lb bo (sl2 s) b2) (lm mo (sl2 s) m2) (sk s2))) (pl (lm mo (sl3 s) m3) (mx (lb bo (sl3 s) b3) (lm mo (sl3 s) m3) (sk s3)))

/-- The stored block of group 0 from the scores and the tiles. -/
def fin0 (bo : IVec S256x128 1) (mo : IVec S16x128 1) (s : FVec Ideal S272x512 .f32) (s0 s1 s2 s3 : Ideal .f32)
    (b0 b1 b2 b3 : FVec Ideal S1x256x128 .f32) (m0 m1 m2 m3 : FVec Ideal S1x1x16x128 .f32) (vp vc v : FVec Ideal S64x128 .bf16) : FVec Ideal S64x128 .bf16 :=
  out0 (tot bo mo s s0 s1 s2 s3 b0 b1 b2 b3 m0 m1 m2 m3 vp vc v) (sp (sk s0) (mx (lb bo (sl0 s) b0) (lm mo (sl0 s) m0) (sk s0)))

/-- The stored block of group 1 from the scores and the tiles. -/
def fin1 (bo : IVec S256x128 1) (mo : IVec S16x128 1) (s : FVec Ideal S272x512 .f32) (s0 s1 s2 s3 : Ideal .f32)
    (b0 b1 b2 b3 : FVec Ideal S1x256x128 .f32) (m0 m1 m2 m3 : FVec Ideal S1x1x16x128 .f32) (vp vc v : FVec Ideal S64x128 .bf16) : FVec Ideal S64x128 .bf16 :=
  out1 (tot bo mo s s0 s1 s2 s3 b0 b1 b2 b3 m0 m1 m2 m3 vp vc v) (sp (sk s1) (mx (lb bo (sl1 s) b1) (lm mo (sl1 s) m1) (sk s1)))

/-- The stored block of group 2 from the scores and the tiles. -/
def fin2 (bo : IVec S256x128 1) (mo : IVec S16x128 1) (s : FVec Ideal S272x512 .f32) (s0 s1 s2 s3 : Ideal .f32)
    (b0 b1 b2 b3 : FVec Ideal S1x256x128 .f32) (m0 m1 m2 m3 : FVec Ideal S1x1x16x128 .f32) (vp vc v : FVec Ideal S64x128 .bf16) : FVec Ideal S64x128 .bf16 :=
  out2 (tot bo mo s s0 s1 s2 s3 b0 b1 b2 b3 m0 m1 m2 m3 vp vc v) (sp (sk s2) (mx (lb bo (sl2 s) b2) (lm mo (sl2 s) m2) (sk s2)))

/-- The stored block of group 3 from the scores and the tiles. -/
def fin3 (bo : IVec S256x128 1) (mo : IVec S16x128 1) (s : FVec Ideal S272x512 .f32) (s0 s1 s2 s3 : Ideal .f32)
    (b0 b1 b2 b3 : FVec Ideal S1x256x128 .f32) (m0 m1 m2 m3 : FVec Ideal S1x1x16x128 .f32) (vp vc v : FVec Ideal S64x128 .bf16) : FVec Ideal S64x128 .bf16 :=
  out3 (tot bo mo s s0 s1 s2 s3 b0 b1 b2 b3 m0 m1 m2 m3 vp vc v) (sp (sk s3) (mx (lb bo (sl3 s) b3) (lm mo (sl3 s) m3) (sk s3)))

end Cert.MixerIdeal.Att
-- ==== Proof.CoreAt.lean ====
module

public import proofs.«01_k».proof.Proof.Core
public import proofs.«01_k».proof.Proof.Soft
public import Idealize.ShloMosaic.Lib.Tactic.WordOmega
public import Idealize.ShloMosaic.PureOps.IdealRules

@[expose] public section

/-! The values, at an index, of one head of the attention as the kernel computes it. -/

set_option maxRecDepth 16384

noncomputable section

namespace Cert.MixerIdeal.Att

open Cert.MixerIdeal Cert.MixerIdeal.Gen
open Idealize.ShloMosaic Idealize.ShloMosaic.TcCoe Idealize.SL.Sem

/-- A maximum over a finite family, from below every number. -/
abbrev top {n : ℕ} (X : Fin n → EReal) : EReal := Finset.fold max (Ideal.ofBits .f32 4286578688#32) X Finset.univ

/-- Weighted values over the sum of the weights, which are powers of two of the scores `X` and `Y` and of the sink's
score `S` below the greatest of them all. -/
def wavg (X : Fin 256 → EReal) (Y : Fin 16 → EReal) (S : EReal) (v : Fin 256 → EReal) (u : Fin 16 → EReal) : EReal :=
  (∑ j, v j * Ideal.exp2 (X j - max (max (top X) (top Y)) S) + ∑ s, u s * Ideal.exp2 (Y s - max (max (top X) (top Y)) S)) *
    Ideal.div 1 (∑ j, Ideal.exp2 (X j - max (max (top X) (top Y)) S) + ∑ s, Ideal.exp2 (Y s - max (max (top X) (top Y)) S)
      + Ideal.exp2 (S - max (max (top X) (top Y)) S))

/-- A choice by a bit is the choice by what the bit says. -/
theorem sel_ite {c : BitVec 1} {p : Prop} [Decidable p] (a b : EReal) (h1 : p → c = 1#1) (h0 : ¬p → c = 0#1) :
    Scalar.select c a b = if p then a else b := by
  by_cases h : p
  · rw [if_pos h, h1 h]; rfl
  · rw [if_neg h, h0 h]; rfl

/-- The mask's name reads as the least number. -/
theorem mask_val : (Named.named κ "mask" 0xF191ACCB#32 : Ideal .f32) = ⊥ := IdealRules.named_const.ideal_named_scalar _ _ _ _ rfl

/-- The name of log2 e reads as the inverse of ln 2. -/
theorem log2e_val : (Named.named κ "log2e" 0x3FB8AA3B#32 : Ideal .f32) = Soft.log2e := IdealRules.named_const.ideal_named_scalar _ _ _ _ rfl

/-- Which keys of its band row `r` of block `N` sees. -/
abbrev sees (N : ℕ) (x : Fin 256) (r : Fin 128) : Prop := x.val ≤ r.val + 128 ∧ r.val < x.val ∧ (128 ≤ x.val ∨ 1 ≤ N)

/-- The masked band scores at an index. -/
theorem lb_at (N : ℕ) (hN : N < 32) (sl : FVec Ideal S272x128 .f32) (bb : FVec Ideal S1x256x128 .f32) (x : Fin 256) (r : Fin 128) :
    lb (bok (BitVec.ofNat 32 N)) sl bb (ix2 x r) = if sees N x r then sl (ix2 ⟨x.val, by omega⟩ r) + bb (ix3 0 x r) else ⊥ := by
  pointwise [lb, bok]
  rw [mask_val]
  refine sel_ite _ _ (fun h => ?_) (fun h => ?_)
  · obtain ⟨h1, h2, h3⟩ := h
    simp only [IntOp.subi, IntOp.addi, Scalar.cmpi]
    word_omega
  · have h' : ∀ c : BitVec 1, c ≠ 1#1 → c = 0#1 := by decide
    refine h' _ fun hc => h ?_
    simp only [IntOp.subi, IntOp.addi, Scalar.cmpi] at hc
    refine ⟨?_, ?_, ?_⟩ <;> word_omega

/-- The leading scores at an index: every query sees every leading key. -/
theorem lm_at (N : ℕ) (hN : N < 32) (sl : FVec Ideal S272x128 .f32) (bm : FVec Ideal S1x1x16x128 .f32) (x : Fin 16) (r : Fin 128) :
    lm (mok (BitVec.ofNat 32 N)) sl bm (ix2 x r) = sl (ix2 ⟨256 + x.val, by omega⟩ r) + bm (ix4 0 0 x r) := by
  pointwise [lm, mok]
  refine (sel_ite (p := True) _ _ (fun _ => ?_) (fun h => absurd trivial h)).trans (if_pos trivial)
  simp only [Scalar.muli, Scalar.addi, IntOp.muli, IntOp.addi]
  word_omega

/-- The greatest score at an index. -/
theorem mx_at (b : FVec Ideal S256x128 .f32) (l : FVec Ideal S16x128 .f32) (s : FVec Ideal S1x128 .f32) (r : Fin 128) :
    mx b l s (ix2 0 r) = max (max (top fun x => b (ix2 x r)) (top fun x => l (ix2 x r))) (s (ix2 0 r)) := by
  pointwise [mx]

/-- The weights of the band at an index. -/
theorem pb_at (b : FVec Ideal S256x128 .f32) (mm : FVec Ideal S1x128 .f32) (x : Fin 256) (r : Fin 128) :
    pb b mm (ix2 x r) = Ideal.exp2 (b (ix2 x r) - mm (ix2 0 r)) := by
  pointwise [pb]
  rfl

/-- Zeros above leave a weighted sum with the leading keys' weights alone. -/
theorem pl_sum (f : Fin 128 → EReal) (l : FVec Ideal S16x128 .f32) (mm : FVec Ideal S1x128 .f32) (r : Fin 128) :
    ∑ x, f x * pl l mm (ix2 x r) = ∑ x : Fin 16, f ⟨112 + x.val, by omega⟩ * Ideal.exp2 (l (ix2 x r) - mm (ix2 0 r)) := by
  have h : ∀ x : Fin 128, pl l mm (ix2 x r) = if h : x.val < 112 then 0 else Ideal.exp2 (l (ix2 ⟨x.val - 112, by omega⟩ r) - mm (ix2 0 r)) := by
    intro x
    pointwise [pl]
    rfl
  simp only [h]
  rw [show (∑ x : Fin 128, f x * (if h : x.val < 112 then 0 else Ideal.exp2 (l (ix2 ⟨x.val - 112, by omega⟩ r) - mm (ix2 0 r))) : EReal)
    = _ from Fin.sum_univ_add (a := 112) (b := 16) _]
  rw [Finset.sum_eq_zero, zero_add]
  · refine Finset.sum_congr rfl fun x _ => ?_
    have hx : ¬(Fin.natAdd 112 x).val < 112 := by simp
    rw [dif_neg hx]
    have e : (⟨(Fin.natAdd 112 x).val - 112, by simp⟩ : Fin 16) = x := Fin.ext (by simp)
    rw [e]
    rfl
  · intro x _
    have hx : (Fin.castAdd 16 x).val < 112 := x.isLt
    rw [dif_pos hx, mul_zero]

/-- The band's values over ones, at an index. -/
theorem vb_lo (vp vc : FVec Ideal S64x128 .bf16) (d : Fin 64) (x : Fin 256) :
    vb vp vc (ix2 ⟨d.val, by omega⟩ x) = if h : x.val < 128 then vp (ix2 d ⟨x.val, h⟩) else vc (ix2 d ⟨x.val - 128, by omega⟩) := by
  pointwise [vb]
  try rw [dif_pos d.isLt]

/-- The row of ones under the band's values. -/
theorem vb_one (vp vc : FVec Ideal S64x128 .bf16) (x : Fin 256) : vb vp vc (ix2 ⟨64, by omega⟩ x) = 1 := by
  pointwise [vb]

/-- The leading values over ones, at an index. -/
theorem vl_lo (v : FVec Ideal S64x128 .bf16) (d : Fin 64) (x : Fin 128) : vl v (ix2 ⟨d.val, by omega⟩ x) = v (ix2 d x) := by
  pointwise [vl]
  try rw [dif_pos d.isLt]

/-- The row of ones under the leading values. -/
theorem vl_one (v : FVec Ideal S64x128 .bf16) (x : Fin 128) : vl v (ix2 ⟨64, by omega⟩ x) = 1 := by
  pointwise [vl]

/-- The sink's score at an index. -/
theorem sk_at (s : Ideal .f32) (r : Fin 128) : sk s (ix2 0 r) = s * Soft.log2e := by
  pointwise [sk]
  rw [log2e_val]

/-- The sink's weight at an index. -/
theorem sp_at (s mm : FVec Ideal S1x128 .f32) (r : Fin 128) : sp s mm (ix2 0 r) = Ideal.exp2 (s (ix2 0 r) - mm (ix2 0 r)) := by
  pointwise [sp]
  rfl

/-- The keys at an index. -/
abbrev key (kp kc : FVec Ideal S128x256 .bf16) (x : Fin 256) (e : Fin 256) : EReal :=
  if h : x.val < 128 then kp (ix2 ⟨x.val, h⟩ e) else kc (ix2 ⟨x.val - 128, by omega⟩ e)

theorem kall_lo (kp kc : FVec Ideal S128x256 .bf16) (km : FVec Ideal S16x256 .bf16) (x : Fin 256) (e : Fin 256) :
    kall kp kc km (ix2 ⟨x.val, by omega⟩ e) = key kp kc x e := by
  pointwise [kall]
  by_cases h : x.val < 128
  · simp only [dif_pos h]
  · simp only [dif_neg h]
    try rw [dif_pos (by omega)]

theorem kall_hi (kp kc : FVec Ideal S128x256 .bf16) (km : FVec Ideal S16x256 .bf16) (x : Fin 16) (e : Fin 256) :
    kall kp kc km (ix2 ⟨256 + x.val, by omega⟩ e) = km (ix2 x e) := by
  pointwise [kall]
  try rw [dif_neg (by omega), dif_neg (by omega)]
  try exact congrArg (fun z => km (ix2 z e)) (Fin.ext (by simp; omega))

/-- The scores of head 0 at an index. -/
theorem st0_at (ka : FVec Ideal S272x256 .bf16) (q : FVec Ideal S64x512 .bf16) (x : Fin 272) (r : Fin 512) :
    st0 ka q (ix2 x r) = ∑ e : Fin 64, ka (ix2 x ⟨0 + e.val, by omega⟩) * q (ix2 e r) := by
  pointwise [st0]
  simp only [mul_zero, Finset.sum_const_zero, add_zero]
  try first
    | rfl
    | exact Finset.sum_congr rfl fun e _ => congrArg (fun z => ka (ix2 x z) * q (ix2 e r)) (Fin.ext (by simp; try omega))

/-- The scores of head 1 at an index. -/
theorem st1_at (ka : FVec Ideal S272x256 .bf16) (q : FVec Ideal S64x512 .bf16) (x : Fin 272) (r : Fin 512) :
    st1 ka q (ix2 x r) = ∑ e : Fin 64, ka (ix2 x ⟨64 + e.val, by omega⟩) * q (ix2 e r) := by
  pointwise [st1]
  simp only [mul_zero, Finset.sum_const_zero, zero_add]
  try first
    | rfl
    | exact Finset.sum_congr rfl fun e _ => congrArg (fun z => ka (ix2 x z) * q (ix2 e r)) (Fin.ext (by simp; try omega))

/-- The scores of head 2 at an index. -/
theorem st2_at (ka : FVec Ideal S272x256 .bf16) (q : FVec Ideal S64x512 .bf16) (x : Fin 272) (r : Fin 512) :
    st2 ka q (ix2 x r) = ∑ e : Fin 64, ka (ix2 x ⟨128 + e.val, by omega⟩) * q (ix2 e r) := by
  pointwise [st2]
  simp only [mul_zero, Finset.sum_const_zero, add_zero]
  try first
    | rfl
    | exact Finset.sum_congr rfl fun e _ => congrArg (fun z => ka (ix2 x z) * q (ix2 e r)) (Fin.ext (by simp; try omega))

/-- The scores of head 3 at an index. -/
theorem st3_at (ka : FVec Ideal S272x256 .bf16) (q : FVec Ideal S64x512 .bf16) (x : Fin 272) (r : Fin 512) :
    st3 ka q (ix2 x r) = ∑ e : Fin 64, ka (ix2 x ⟨192 + e.val, by omega⟩) * q (ix2 e r) := by
  pointwise [st3]
  simp only [mul_zero, Finset.sum_const_zero, zero_add]
  try first
    | rfl
    | exact Finset.sum_congr rfl fun e _ => congrArg (fun z => ka (ix2 x z) * q (ix2 e r)) (Fin.ext (by simp; try omega))

/-- The queries of group 0. -/
theorem qall_0 (q0 q1 q2 q3 : FVec Ideal S64x128 .bf16) (e : Fin 64) (r : Fin 128) : qall q0 q1 q2 q3 (ix2 e ⟨r.val, by omega⟩) = q0 (ix2 e r) := by
  pointwise [qall]

/-- The scores of group 0. -/
theorem sl0_at (s : FVec Ideal S272x512 .f32) (x : Fin 272) (r : Fin 128) : sl0 s (ix2 x r) = s (ix2 x ⟨r.val, by omega⟩) := by
  pointwise [sl0]

/-- The weighted sums of group 0. -/
theorem ot_0 (b : FVec Ideal S80x256 .bf16) (l : FVec Ideal S80x128 .bf16) (p0 p1 p2 p3 : FVec Ideal S256x128 .bf16) (l0 l1 l2 l3 : FVec Ideal S128x128 .bf16) (i : Fin 80) (r : Fin 128) :
    ot b l p0 p1 p2 p3 l0 l1 l2 l3 (ix2 i ⟨r.val, by omega⟩) = ∑ x, b (ix2 i x) * p0 (ix2 x r) + ∑ x, l (ix2 i x) * l0 (ix2 x r) := by
  pointwise [ot]

/-- What group 0 stores, from its sums. -/
theorem out0_at (w : FVec Ideal S80x512 .f32) (s : FVec Ideal S1x128 .f32) (d : Fin 64) (r : Fin 128) :
    out0 w s (ix2 d r) = w (ix2 ⟨d.val, by omega⟩ ⟨r.val, by omega⟩) * Ideal.div 1 (w (ix2 ⟨64, by omega⟩ ⟨r.val, by omega⟩) + s (ix2 0 r)) := by
  pointwise [out0]
  try rfl

/-- What group 0 stores, at an index. -/
theorem fin0_at (bo : IVec S256x128 1) (mo : IVec S16x128 1) (s : FVec Ideal S272x512 .f32) (s0 s1 s2 s3 : Ideal .f32)
    (b0 b1 b2 b3 : FVec Ideal S1x256x128 .f32) (m0 m1 m2 m3 : FVec Ideal S1x1x16x128 .f32) (vp vc v : FVec Ideal S64x128 .bf16) (d : Fin 64) (r : Fin 128) :
    fin0 bo mo s s0 s1 s2 s3 b0 b1 b2 b3 m0 m1 m2 m3 vp vc v (ix2 d r)
      = wavg (fun x => lb bo (sl0 s) b0 (ix2 x r)) (fun x => lm mo (sl0 s) m0 (ix2 x r)) (s0 * Soft.log2e)
          (fun x => if h : x.val < 128 then vp (ix2 d ⟨x.val, h⟩) else vc (ix2 d ⟨x.val - 128, by omega⟩)) (fun x => v (ix2 d ⟨112 + x.val, by omega⟩)) := by
  unfold fin0 tot
  rw [out0_at, ot_0, ot_0, pl_sum, pl_sum]
  simp only [vb_lo, vb_one, vl_lo, vl_one, pb_at, mx_at, sk_at, sp_at, one_mul]
  try rfl

/-- The queries of group 1. -/
theorem qall_1 (q0 q1 q2 q3 : FVec Ideal S64x128 .bf16) (e : Fin 64) (r : Fin 128) : qall q0 q1 q2 q3 (ix2 e ⟨128 + r.val, by omega⟩) = q1 (ix2 e r) := by
  pointwise [qall]

/-- The scores of group 1. -/
theorem sl1_at (s : FVec Ideal S272x512 .f32) (x : Fin 272) (r : Fin 128) : sl1 s (ix2 x r) = s (ix2 x ⟨128 + r.val, by omega⟩) := by
  pointwise [sl1]

/-- The weighted sums of group 1. -/
theorem ot_1 (b : FVec Ideal S80x256 .bf16) (l : FVec Ideal S80x128 .bf16) (p0 p1 p2 p3 : FVec Ideal S256x128 .bf16) (l0 l1 l2 l3 : FVec Ideal S128x128 .bf16) (i : Fin 80) (r : Fin 128) :
    ot b l p0 p1 p2 p3 l0 l1 l2 l3 (ix2 i ⟨128 + r.val, by omega⟩) = ∑ x, b (ix2 i x) * p1 (ix2 x r) + ∑ x, l (ix2 i x) * l1 (ix2 x r) := by
  pointwise [ot]

/-- What group 1 stores, from its sums. -/
theorem out1_at (w : FVec Ideal S80x512 .f32) (s : FVec Ideal S1x128 .f32) (d : Fin 64) (r : Fin 128) :
    out1 w s (ix2 d r) = w (ix2 ⟨d.val, by omega⟩ ⟨128 + r.val, by omega⟩) * Ideal.div 1 (w (ix2 ⟨64, by omega⟩ ⟨128 + r.val, by omega⟩) + s (ix2 0 r)) := by
  pointwise [out1]
  try rfl

/-- What group 1 stores, at an index. -/
theorem fin1_at (bo : IVec S256x128 1) (mo : IVec S16x128 1) (s : FVec Ideal S272x512 .f32) (s0 s1 s2 s3 : Ideal .f32)
    (b0 b1 b2 b3 : FVec Ideal S1x256x128 .f32) (m0 m1 m2 m3 : FVec Ideal S1x1x16x128 .f32) (vp vc v : FVec Ideal S64x128 .bf16) (d : Fin 64) (r : Fin 128) :
    fin1 bo mo s s0 s1 s2 s3 b0 b1 b2 b3 m0 m1 m2 m3 vp vc v (ix2 d r)
      = wavg (fun x => lb bo (sl1 s) b1 (ix2 x r)) (fun x => lm mo (sl1 s) m1 (ix2 x r)) (s1 * Soft.log2e)
          (fun x => if h : x.val < 128 then vp (ix2 d ⟨x.val, h⟩) else vc (ix2 d ⟨x.val - 128, by omega⟩)) (fun x => v (ix2 d ⟨112 + x.val, by omega⟩)) := by
  unfold fin1 tot
  rw [out1_at, ot_1, ot_1, pl_sum, pl_sum]
  simp only [vb_lo, vb_one, vl_lo, vl_one, pb_at, mx_at, sk_at, sp_at, one_mul]
  try rfl

/-- The queries of group 2. -/
theorem qall_2 (q0 q1 q2 q3 : FVec Ideal S64x128 .bf16) (e : Fin 64) (r : Fin 128) : qall q0 q1 q2 q3 (ix2 e ⟨256 + r.val, by omega⟩) = q2 (ix2 e r) := by
  pointwise [qall]
  have hr : (⟨256 + r.val - 128 - 128, by omega⟩ : Fin 128) = r := Fin.ext (by simp; try omega)
  simp only [dif_neg (show ¬(256 + r.val < 128) by omega), dif_neg (show ¬(256 + r.val - 128 < 128) by omega), dif_pos (show 256 + r.val - 128 - 128 < 128 by omega), hr]

/-- The scores of group 2. -/
theorem sl2_at (s : FVec Ideal S272x512 .f32) (x : Fin 272) (r : Fin 128) : sl2 s (ix2 x r) = s (ix2 x ⟨256 + r.val, by omega⟩) := by
  pointwise [sl2]

/-- The weighted sums of group 2. -/
theorem ot_2 (b : FVec Ideal S80x256 .bf16) (l : FVec Ideal S80x128 .bf16) (p0 p1 p2 p3 : FVec Ideal S256x128 .bf16) (l0 l1 l2 l3 : FVec Ideal S128x128 .bf16) (i : Fin 80) (r : Fin 128) :
    ot b l p0 p1 p2 p3 l0 l1 l2 l3 (ix2 i ⟨256 + r.val, by omega⟩) = ∑ x, b (ix2 i x) * p2 (ix2 x r) + ∑ x, l (ix2 i x) * l2 (ix2 x r) := by
  pointwise [ot]
  have hr : (⟨256 + r.val - 128 - 128, by omega⟩ : Fin 128) = r := Fin.ext (by simp; try omega)
  simp only [dif_neg (show ¬(256 + r.val < 128) by omega), dif_neg (show ¬(256 + r.val - 128 < 128) by omega), dif_pos (show 256 + r.val - 128 - 128 < 128 by omega), hr]

/-- What group 2 stores, from its sums. -/
theorem out2_at (w : FVec Ideal S80x512 .f32) (s : FVec Ideal S1x128 .f32) (d : Fin 64) (r : Fin 128) :
    out2 w s (ix2 d r) = w (ix2 ⟨d.val, by omega⟩ ⟨256 + r.val, by omega⟩) * Ideal.div 1 (w (ix2 ⟨64, by omega⟩ ⟨256 + r.val, by omega⟩) + s (ix2 0 r)) := by
  pointwise [out2]
  try rfl

/-- What group 2 stores, at an index. -/
theorem fin2_at (bo : IVec S256x128 1) (mo : IVec S16x128 1) (s : FVec Ideal S272x512 .f32) (s0 s1 s2 s3 : Ideal .f32)
    (b0 b1 b2 b3 : FVec Ideal S1x256x128 .f32) (m0 m1 m2 m3 : FVec Ideal S1x1x16x128 .f32) (vp vc v : FVec Ideal S64x128 .bf16) (d : Fin 64) (r : Fin 128) :
    fin2 bo mo s s0 s1 s2 s3 b0 b1 b2 b3 m0 m1 m2 m3 vp vc v (ix2 d r)
      = wavg (fun x => lb bo (sl2 s) b2 (ix2 x r)) (fun x => lm mo (sl2 s) m2 (ix2 x r)) (s2 * Soft.log2e)
          (fun x => if h : x.val < 128 then vp (ix2 d ⟨x.val, h⟩) else vc (ix2 d ⟨x.val - 128, by omega⟩)) (fun x => v (ix2 d ⟨112 + x.val, by omega⟩)) := by
  unfold fin2 tot
  rw [out2_at, ot_2, ot_2, pl_sum, pl_sum]
  simp only [vb_lo, vb_one, vl_lo, vl_one, pb_at, mx_at, sk_at, sp_at, one_mul]
  try rfl

/-- The queries of group 3. -/
theorem qall_3 (q0 q1 q2 q3 : FVec Ideal S64x128 .bf16) (e : Fin 64) (r : Fin 128) : qall q0 q1 q2 q3 (ix2 e ⟨384 + r.val, by omega⟩) = q3 (ix2 e r) := by
  pointwise [qall]
  have hr : (⟨384 + r.val - 128 - 128 - 128, by omega⟩ : Fin 128) = r := Fin.ext (by simp; try omega)
  simp only [dif_neg (show ¬(384 + r.val < 128) by omega), dif_neg (show ¬(384 + r.val - 128 < 128) by omega), dif_neg (show ¬(384 + r.val - 128 - 128 < 128) by omega), hr]

/-- The scores of group 3. -/
theorem sl3_at (s : FVec Ideal S272x512 .f32) (x : Fin 272) (r : Fin 128) : sl3 s (ix2 x r) = s (ix2 x ⟨384 + r.val, by omega⟩) := by
  pointwise [sl3]

/-- The weighted sums of group 3. -/
theorem ot_3 (b : FVec Ideal S80x256 .bf16) (l : FVec Ideal S80x128 .bf16) (p0 p1 p2 p3 : FVec Ideal S256x128 .bf16) (l0 l1 l2 l3 : FVec Ideal S128x128 .bf16) (i : Fin 80) (r : Fin 128) :
    ot b l p0 p1 p2 p3 l0 l1 l2 l3 (ix2 i ⟨384 + r.val, by omega⟩) = ∑ x, b (ix2 i x) * p3 (ix2 x r) + ∑ x, l (ix2 i x) * l3 (ix2 x r) := by
  pointwise [ot]
  have hr : (⟨384 + r.val - 128 - 128 - 128, by omega⟩ : Fin 128) = r := Fin.ext (by simp; try omega)
  simp only [dif_neg (show ¬(384 + r.val < 128) by omega), dif_neg (show ¬(384 + r.val - 128 < 128) by omega), dif_neg (show ¬(384 + r.val - 128 - 128 < 128) by omega), hr]

/-- What group 3 stores, from its sums. -/
theorem out3_at (w : FVec Ideal S80x512 .f32) (s : FVec Ideal S1x128 .f32) (d : Fin 64) (r : Fin 128) :
    out3 w s (ix2 d r) = w (ix2 ⟨d.val, by omega⟩ ⟨384 + r.val, by omega⟩) * Ideal.div 1 (w (ix2 ⟨64, by omega⟩ ⟨384 + r.val, by omega⟩) + s (ix2 0 r)) := by
  pointwise [out3]
  try rfl

/-- What group 3 stores, at an index. -/
theorem fin3_at (bo : IVec S256x128 1) (mo : IVec S16x128 1) (s : FVec Ideal S272x512 .f32) (s0 s1 s2 s3 : Ideal .f32)
    (b0 b1 b2 b3 : FVec Ideal S1x256x128 .f32) (m0 m1 m2 m3 : FVec Ideal S1x1x16x128 .f32) (vp vc v : FVec Ideal S64x128 .bf16) (d : Fin 64) (r : Fin 128) :
    fin3 bo mo s s0 s1 s2 s3 b0 b1 b2 b3 m0 m1 m2 m3 vp vc v (ix2 d r)
      = wavg (fun x => lb bo (sl3 s) b3 (ix2 x r)) (fun x => lm mo (sl3 s) m3 (ix2 x r)) (s3 * Soft.log2e)
          (fun x => if h : x.val < 128 then vp (ix2 d ⟨x.val, h⟩) else vc (ix2 d ⟨x.val - 128, by omega⟩)) (fun x => v (ix2 d ⟨112 + x.val, by omega⟩)) := by
  unfold fin3 tot
  rw [out3_at, ot_3, ot_3, pl_sum, pl_sum]
  simp only [vb_lo, vb_one, vl_lo, vl_one, pb_at, mx_at, sk_at, sp_at, one_mul]
  try rfl

/-- What head 0 stores for its group 0, at an index, from the tiles it loads. -/
theorem head0_0 (N : ℕ) (hN : N < 32) (kp kc : FVec Ideal S128x256 .bf16) (km : FVec Ideal S16x256 .bf16) (q0 q1 q2 q3 : FVec Ideal S64x128 .bf16) (s0 s1 s2 s3 : Ideal .f32)
    (b0 b1 b2 b3 : FVec Ideal S1x256x128 .f32) (m0 m1 m2 m3 : FVec Ideal S1x1x16x128 .f32) (vp vc v : FVec Ideal S64x128 .bf16) (d : Fin 64) (r : Fin 128) :
    fin0 (bok (BitVec.ofNat 32 N)) (mok (BitVec.ofNat 32 N)) (st0 (kall kp kc km) (qall q0 q1 q2 q3)) s0 s1 s2 s3 b0 b1 b2 b3 m0 m1 m2 m3 vp vc v (ix2 d r)
      = wavg (fun x => if sees N x r then (∑ e : Fin 64, key kp kc x ⟨0 + e.val, by omega⟩ * q0 (ix2 e r)) + b0 (ix3 0 x r) else ⊥)
          (fun x => (∑ e : Fin 64, km (ix2 x ⟨0 + e.val, by omega⟩) * q0 (ix2 e r)) + m0 (ix4 0 0 x r)) (s0 * Soft.log2e)
          (fun x => if h : x.val < 128 then vp (ix2 d ⟨x.val, h⟩) else vc (ix2 d ⟨x.val - 128, by omega⟩)) (fun x => v (ix2 d ⟨112 + x.val, by omega⟩)) := by
  rw [fin0_at]
  simp only [lb_at N hN, lm_at N hN, sl0_at, st0_at, qall_0, kall_lo, kall_hi]

/-- What head 0 stores for its group 1, at an index, from the tiles it loads. -/
theorem head0_1 (N : ℕ) (hN : N < 32) (kp kc : FVec Ideal S128x256 .bf16) (km : FVec Ideal S16x256 .bf16) (q0 q1 q2 q3 : FVec Ideal S64x128 .bf16) (s0 s1 s2 s3 : Ideal .f32)
    (b0 b1 b2 b3 : FVec Ideal S1x256x128 .f32) (m0 m1 m2 m3 : FVec Ideal S1x1x16x128 .f32) (vp vc v : FVec Ideal S64x128 .bf16) (d : Fin 64) (r : Fin 128) :
    fin1 (bok (BitVec.ofNat 32 N)) (mok (BitVec.ofNat 32 N)) (st0 (kall kp kc km) (qall q0 q1 q2 q3)) s0 s1 s2 s3 b0 b1 b2 b3 m0 m1 m2 m3 vp vc v (ix2 d r)
      = wavg (fun x => if sees N x r then (∑ e : Fin 64, key kp kc x ⟨0 + e.val, by omega⟩ * q1 (ix2 e r)) + b1 (ix3 0 x r) else ⊥)
          (fun x => (∑ e : Fin 64, km (ix2 x ⟨0 + e.val, by omega⟩) * q1 (ix2 e r)) + m1 (ix4 0 0 x r)) (s1 * Soft.log2e)
          (fun x => if h : x.val < 128 then vp (ix2 d ⟨x.val, h⟩) else vc (ix2 d ⟨x.val - 128, by omega⟩)) (fun x => v (ix2 d ⟨112 + x.val, by omega⟩)) := by
  rw [fin1_at]
  simp only [lb_at N hN, lm_at N hN, sl1_at, st0_at, qall_1, kall_lo, kall_hi]

/-- What head 0 stores for its group 2, at an index, from the tiles it loads. -/
theorem head0_2 (N : ℕ) (hN : N < 32) (kp kc : FVec Ideal S128x256 .bf16) (km : FVec Ideal S16x256 .bf16) (q0 q1 q2 q3 : FVec Ideal S64x128 .bf16) (s0 s1 s2 s3 : Ideal .f32)
    (b0 b1 b2 b3 : FVec Ideal S1x256x128 .f32) (m0 m1 m2 m3 : FVec Ideal S1x1x16x128 .f32) (vp vc v : FVec Ideal S64x128 .bf16) (d : Fin 64) (r : Fin 128) :
    fin2 (bok (BitVec.ofNat 32 N)) (mok (BitVec.ofNat 32 N)) (st0 (kall kp kc km) (qall q0 q1 q2 q3)) s0 s1 s2 s3 b0 b1 b2 b3 m0 m1 m2 m3 vp vc v (ix2 d r)
      = wavg (fun x => if sees N x r then (∑ e : Fin 64, key kp kc x ⟨0 + e.val, by omega⟩ * q2 (ix2 e r)) + b2 (ix3 0 x r) else ⊥)
          (fun x => (∑ e : Fin 64, km (ix2 x ⟨0 + e.val, by omega⟩) * q2 (ix2 e r)) + m2 (ix4 0 0 x r)) (s2 * Soft.log2e)
          (fun x => if h : x.val < 128 then vp (ix2 d ⟨x.val, h⟩) else vc (ix2 d ⟨x.val - 128, by omega⟩)) (fun x => v (ix2 d ⟨112 + x.val, by omega⟩)) := by
  rw [fin2_at]
  simp only [lb_at N hN, lm_at N hN, sl2_at, st0_at, qall_2, kall_lo, kall_hi]

/-- What head 0 stores for its group 3, at an index, from the tiles it loads. -/
theorem head0_3 (N : ℕ) (hN : N < 32) (kp kc : FVec Ideal S128x256 .bf16) (km : FVec Ideal S16x256 .bf16) (q0 q1 q2 q3 : FVec Ideal S64x128 .bf16) (s0 s1 s2 s3 : Ideal .f32)
    (b0 b1 b2 b3 : FVec Ideal S1x256x128 .f32) (m0 m1 m2 m3 : FVec Ideal S1x1x16x128 .f32) (vp vc v : FVec Ideal S64x128 .bf16) (d : Fin 64) (r : Fin 128) :
    fin3 (bok (BitVec.ofNat 32 N)) (mok (BitVec.ofNat 32 N)) (st0 (kall kp kc km) (qall q0 q1 q2 q3)) s0 s1 s2 s3 b0 b1 b2 b3 m0 m1 m2 m3 vp vc v (ix2 d r)
      = wavg (fun x => if sees N x r then (∑ e : Fin 64, key kp kc x ⟨0 + e.val, by omega⟩ * q3 (ix2 e r)) + b3 (ix3 0 x r) else ⊥)
          (fun x => (∑ e : Fin 64, km (ix2 x ⟨0 + e.val, by omega⟩) * q3 (ix2 e r)) + m3 (ix4 0 0 x r)) (s3 * Soft.log2e)
          (fun x => if h : x.val < 128 then vp (ix2 d ⟨x.val, h⟩) else vc (ix2 d ⟨x.val - 128, by omega⟩)) (fun x => v (ix2 d ⟨112 + x.val, by omega⟩)) := by
  rw [fin3_at]
  simp only [lb_at N hN, lm_at N hN, sl3_at, st0_at, qall_3, kall_lo, kall_hi]

/-- What head 1 stores for its group 0, at an index, from the tiles it loads. -/
theorem head1_0 (N : ℕ) (hN : N < 32) (kp kc : FVec Ideal S128x256 .bf16) (km : FVec Ideal S16x256 .bf16) (q0 q1 q2 q3 : FVec Ideal S64x128 .bf16) (s0 s1 s2 s3 : Ideal .f32)
    (b0 b1 b2 b3 : FVec Ideal S1x256x128 .f32) (m0 m1 m2 m3 : FVec Ideal S1x1x16x128 .f32) (vp vc v : FVec Ideal S64x128 .bf16) (d : Fin 64) (r : Fin 128) :
    fin0 (bok (BitVec.ofNat 32 N)) (mok (BitVec.ofNat 32 N)) (st1 (kall kp kc km) (qall q0 q1 q2 q3)) s0 s1 s2 s3 b0 b1 b2 b3 m0 m1 m2 m3 vp vc v (ix2 d r)
      = wavg (fun x => if sees N x r then (∑ e : Fin 64, key kp kc x ⟨64 + e.val, by omega⟩ * q0 (ix2 e r)) + b0 (ix3 0 x r) else ⊥)
          (fun x => (∑ e : Fin 64, km (ix2 x ⟨64 + e.val, by omega⟩) * q0 (ix2 e r)) + m0 (ix4 0 0 x r)) (s0 * Soft.log2e)
          (fun x => if h : x.val < 128 then vp (ix2 d ⟨x.val, h⟩) else vc (ix2 d ⟨x.val - 128, by omega⟩)) (fun x => v (ix2 d ⟨112 + x.val, by omega⟩)) := by
  rw [fin0_at]
  simp only [lb_at N hN, lm_at N hN, sl0_at, st1_at, qall_0, kall_lo, kall_hi]

/-- What head 1 stores for its group 1, at an index, from the tiles it loads. -/
theorem head1_1 (N : ℕ) (hN : N < 32) (kp kc : FVec Ideal S128x256 .bf16) (km : FVec Ideal S16x256 .bf16) (q0 q1 q2 q3 : FVec Ideal S64x128 .bf16) (s0 s1 s2 s3 : Ideal .f32)
    (b0 b1 b2 b3 : FVec Ideal S1x256x128 .f32) (m0 m1 m2 m3 : FVec Ideal S1x1x16x128 .f32) (vp vc v : FVec Ideal S64x128 .bf16) (d : Fin 64) (r : Fin 128) :
    fin1 (bok (BitVec.ofNat 32 N)) (mok (BitVec.ofNat 32 N)) (st1 (kall kp kc km) (qall q0 q1 q2 q3)) s0 s1 s2 s3 b0 b1 b2 b3 m0 m1 m2 m3 vp vc v (ix2 d r)
      = wavg (fun x => if sees N x r then (∑ e : Fin 64, key kp kc x ⟨64 + e.val, by omega⟩ * q1 (ix2 e r)) + b1 (ix3 0 x r) else ⊥)
          (fun x => (∑ e : Fin 64, km (ix2 x ⟨64 + e.val, by omega⟩) * q1 (ix2 e r)) + m1 (ix4 0 0 x r)) (s1 * Soft.log2e)
          (fun x => if h : x.val < 128 then vp (ix2 d ⟨x.val, h⟩) else vc (ix2 d ⟨x.val - 128, by omega⟩)) (fun x => v (ix2 d ⟨112 + x.val, by omega⟩)) := by
  rw [fin1_at]
  simp only [lb_at N hN, lm_at N hN, sl1_at, st1_at, qall_1, kall_lo, kall_hi]

/-- What head 1 stores for its group 2, at an index, from the tiles it loads. -/
theorem head1_2 (N : ℕ) (hN : N < 32) (kp kc : FVec Ideal S128x256 .bf16) (km : FVec Ideal S16x256 .bf16) (q0 q1 q2 q3 : FVec Ideal S64x128 .bf16) (s0 s1 s2 s3 : Ideal .f32)
    (b0 b1 b2 b3 : FVec Ideal S1x256x128 .f32) (m0 m1 m2 m3 : FVec Ideal S1x1x16x128 .f32) (vp vc v : FVec Ideal S64x128 .bf16) (d : Fin 64) (r : Fin 128) :
    fin2 (bok (BitVec.ofNat 32 N)) (mok (BitVec.ofNat 32 N)) (st1 (kall kp kc km) (qall q0 q1 q2 q3)) s0 s1 s2 s3 b0 b1 b2 b3 m0 m1 m2 m3 vp vc v (ix2 d r)
      = wavg (fun x => if sees N x r then (∑ e : Fin 64, key kp kc x ⟨64 + e.val, by omega⟩ * q2 (ix2 e r)) + b2 (ix3 0 x r) else ⊥)
          (fun x => (∑ e : Fin 64, km (ix2 x ⟨64 + e.val, by omega⟩) * q2 (ix2 e r)) + m2 (ix4 0 0 x r)) (s2 * Soft.log2e)
          (fun x => if h : x.val < 128 then vp (ix2 d ⟨x.val, h⟩) else vc (ix2 d ⟨x.val - 128, by omega⟩)) (fun x => v (ix2 d ⟨112 + x.val, by omega⟩)) := by
  rw [fin2_at]
  simp only [lb_at N hN, lm_at N hN, sl2_at, st1_at, qall_2, kall_lo, kall_hi]

/-- What head 1 stores for its group 3, at an index, from the tiles it loads. -/
theorem head1_3 (N : ℕ) (hN : N < 32) (kp kc : FVec Ideal S128x256 .bf16) (km : FVec Ideal S16x256 .bf16) (q0 q1 q2 q3 : FVec Ideal S64x128 .bf16) (s0 s1 s2 s3 : Ideal .f32)
    (b0 b1 b2 b3 : FVec Ideal S1x256x128 .f32) (m0 m1 m2 m3 : FVec Ideal S1x1x16x128 .f32) (vp vc v : FVec Ideal S64x128 .bf16) (d : Fin 64) (r : Fin 128) :
    fin3 (bok (BitVec.ofNat 32 N)) (mok (BitVec.ofNat 32 N)) (st1 (kall kp kc km) (qall q0 q1 q2 q3)) s0 s1 s2 s3 b0 b1 b2 b3 m0 m1 m2 m3 vp vc v (ix2 d r)
      = wavg (fun x => if sees N x r then (∑ e : Fin 64, key kp kc x ⟨64 + e.val, by omega⟩ * q3 (ix2 e r)) + b3 (ix3 0 x r) else ⊥)
          (fun x => (∑ e : Fin 64, km (ix2 x ⟨64 + e.val, by omega⟩) * q3 (ix2 e r)) + m3 (ix4 0 0 x r)) (s3 * Soft.log2e)
          (fun x => if h : x.val < 128 then vp (ix2 d ⟨x.val, h⟩) else vc (ix2 d ⟨x.val - 128, by omega⟩)) (fun x => v (ix2 d ⟨112 + x.val, by omega⟩)) := by
  rw [fin3_at]
  simp only [lb_at N hN, lm_at N hN, sl3_at, st1_at, qall_3, kall_lo, kall_hi]

/-- What head 2 stores for its group 0, at an index, from the tiles it loads. -/
theorem head2_0 (N : ℕ) (hN : N < 32) (kp kc : FVec Ideal S128x256 .bf16) (km : FVec Ideal S16x256 .bf16) (q0 q1 q2 q3 : FVec Ideal S64x128 .bf16) (s0 s1 s2 s3 : Ideal .f32)
    (b0 b1 b2 b3 : FVec Ideal S1x256x128 .f32) (m0 m1 m2 m3 : FVec Ideal S1x1x16x128 .f32) (vp vc v : FVec Ideal S64x128 .bf16) (d : Fin 64) (r : Fin 128) :
    fin0 (bok (BitVec.ofNat 32 N)) (mok (BitVec.ofNat 32 N)) (st2 (kall kp kc km) (qall q0 q1 q2 q3)) s0 s1 s2 s3 b0 b1 b2 b3 m0 m1 m2 m3 vp vc v (ix2 d r)
      = wavg (fun x => if sees N x r then (∑ e : Fin 64, key kp kc x ⟨128 + e.val, by omega⟩ * q0 (ix2 e r)) + b0 (ix3 0 x r) else ⊥)
          (fun x => (∑ e : Fin 64, km (ix2 x ⟨128 + e.val, by omega⟩) * q0 (ix2 e r)) + m0 (ix4 0 0 x r)) (s0 * Soft.log2e)
          (fun x => if h : x.val < 128 then vp (ix2 d ⟨x.val, h⟩) else vc (ix2 d ⟨x.val - 128, by omega⟩)) (fun x => v (ix2 d ⟨112 + x.val, by omega⟩)) := by
  rw [fin0_at]
  simp only [lb_at N hN, lm_at N hN, sl0_at, st2_at, qall_0, kall_lo, kall_hi]

/-- What head 2 stores for its group 1, at an index, from the tiles it loads. -/
theorem head2_1 (N : ℕ) (hN : N < 32) (kp kc : FVec Ideal S128x256 .bf16) (km : FVec Ideal S16x256 .bf16) (q0 q1 q2 q3 : FVec Ideal S64x128 .bf16) (s0 s1 s2 s3 : Ideal .f32)
    (b0 b1 b2 b3 : FVec Ideal S1x256x128 .f32) (m0 m1 m2 m3 : FVec Ideal S1x1x16x128 .f32) (vp vc v : FVec Ideal S64x128 .bf16) (d : Fin 64) (r : Fin 128) :
    fin1 (bok (BitVec.ofNat 32 N)) (mok (BitVec.ofNat 32 N)) (st2 (kall kp kc km) (qall q0 q1 q2 q3)) s0 s1 s2 s3 b0 b1 b2 b3 m0 m1 m2 m3 vp vc v (ix2 d r)
      = wavg (fun x => if sees N x r then (∑ e : Fin 64, key kp kc x ⟨128 + e.val, by omega⟩ * q1 (ix2 e r)) + b1 (ix3 0 x r) else ⊥)
          (fun x => (∑ e : Fin 64, km (ix2 x ⟨128 + e.val, by omega⟩) * q1 (ix2 e r)) + m1 (ix4 0 0 x r)) (s1 * Soft.log2e)
          (fun x => if h : x.val < 128 then vp (ix2 d ⟨x.val, h⟩) else vc (ix2 d ⟨x.val - 128, by omega⟩)) (fun x => v (ix2 d ⟨112 + x.val, by omega⟩)) := by
  rw [fin1_at]
  simp only [lb_at N hN, lm_at N hN, sl1_at, st2_at, qall_1, kall_lo, kall_hi]

/-- What head 2 stores for its group 2, at an index, from the tiles it loads. -/
theorem head2_2 (N : ℕ) (hN : N < 32) (kp kc : FVec Ideal S128x256 .bf16) (km : FVec Ideal S16x256 .bf16) (q0 q1 q2 q3 : FVec Ideal S64x128 .bf16) (s0 s1 s2 s3 : Ideal .f32)
    (b0 b1 b2 b3 : FVec Ideal S1x256x128 .f32) (m0 m1 m2 m3 : FVec Ideal S1x1x16x128 .f32) (vp vc v : FVec Ideal S64x128 .bf16) (d : Fin 64) (r : Fin 128) :
    fin2 (bok (BitVec.ofNat 32 N)) (mok (BitVec.ofNat 32 N)) (st2 (kall kp kc km) (qall q0 q1 q2 q3)) s0 s1 s2 s3 b0 b1 b2 b3 m0 m1 m2 m3 vp vc v (ix2 d r)
      = wavg (fun x => if sees N x r then (∑ e : Fin 64, key kp kc x ⟨128 + e.val, by omega⟩ * q2 (ix2 e r)) + b2 (ix3 0 x r) else ⊥)
          (fun x => (∑ e : Fin 64, km (ix2 x ⟨128 + e.val, by omega⟩) * q2 (ix2 e r)) + m2 (ix4 0 0 x r)) (s2 * Soft.log2e)
          (fun x => if h : x.val < 128 then vp (ix2 d ⟨x.val, h⟩) else vc (ix2 d ⟨x.val - 128, by omega⟩)) (fun x => v (ix2 d ⟨112 + x.val, by omega⟩)) := by
  rw [fin2_at]
  simp only [lb_at N hN, lm_at N hN, sl2_at, st2_at, qall_2, kall_lo, kall_hi]

/-- What head 2 stores for its group 3, at an index, from the tiles it loads. -/
theorem head2_3 (N : ℕ) (hN : N < 32) (kp kc : FVec Ideal S128x256 .bf16) (km : FVec Ideal S16x256 .bf16) (q0 q1 q2 q3 : FVec Ideal S64x128 .bf16) (s0 s1 s2 s3 : Ideal .f32)
    (b0 b1 b2 b3 : FVec Ideal S1x256x128 .f32) (m0 m1 m2 m3 : FVec Ideal S1x1x16x128 .f32) (vp vc v : FVec Ideal S64x128 .bf16) (d : Fin 64) (r : Fin 128) :
    fin3 (bok (BitVec.ofNat 32 N)) (mok (BitVec.ofNat 32 N)) (st2 (kall kp kc km) (qall q0 q1 q2 q3)) s0 s1 s2 s3 b0 b1 b2 b3 m0 m1 m2 m3 vp vc v (ix2 d r)
      = wavg (fun x => if sees N x r then (∑ e : Fin 64, key kp kc x ⟨128 + e.val, by omega⟩ * q3 (ix2 e r)) + b3 (ix3 0 x r) else ⊥)
          (fun x => (∑ e : Fin 64, km (ix2 x ⟨128 + e.val, by omega⟩) * q3 (ix2 e r)) + m3 (ix4 0 0 x r)) (s3 * Soft.log2e)
          (fun x => if h : x.val < 128 then vp (ix2 d ⟨x.val, h⟩) else vc (ix2 d ⟨x.val - 128, by omega⟩)) (fun x => v (ix2 d ⟨112 + x.val, by omega⟩)) := by
  rw [fin3_at]
  simp only [lb_at N hN, lm_at N hN, sl3_at, st2_at, qall_3, kall_lo, kall_hi]

/-- What head 3 stores for its group 0, at an index, from the tiles it loads. -/
theorem head3_0 (N : ℕ) (hN : N < 32) (kp kc : FVec Ideal S128x256 .bf16) (km : FVec Ideal S16x256 .bf16) (q0 q1 q2 q3 : FVec Ideal S64x128 .bf16) (s0 s1 s2 s3 : Ideal .f32)
    (b0 b1 b2 b3 : FVec Ideal S1x256x128 .f32) (m0 m1 m2 m3 : FVec Ideal S1x1x16x128 .f32) (vp vc v : FVec Ideal S64x128 .bf16) (d : Fin 64) (r : Fin 128) :
    fin0 (bok (BitVec.ofNat 32 N)) (mok (BitVec.ofNat 32 N)) (st3 (kall kp kc km) (qall q0 q1 q2 q3)) s0 s1 s2 s3 b0 b1 b2 b3 m0 m1 m2 m3 vp vc v (ix2 d r)
      = wavg (fun x => if sees N x r then (∑ e : Fin 64, key kp kc x ⟨192 + e.val, by omega⟩ * q0 (ix2 e r)) + b0 (ix3 0 x r) else ⊥)
          (fun x => (∑ e : Fin 64, km (ix2 x ⟨192 + e.val, by omega⟩) * q0 (ix2 e r)) + m0 (ix4 0 0 x r)) (s0 * Soft.log2e)
          (fun x => if h : x.val < 128 then vp (ix2 d ⟨x.val, h⟩) else vc (ix2 d ⟨x.val - 128, by omega⟩)) (fun x => v (ix2 d ⟨112 + x.val, by omega⟩)) := by
  rw [fin0_at]
  simp only [lb_at N hN, lm_at N hN, sl0_at, st3_at, qall_0, kall_lo, kall_hi]

/-- What head 3 stores for its group 1, at an index, from the tiles it loads. -/
theorem head3_1 (N : ℕ) (hN : N < 32) (kp kc : FVec Ideal S128x256 .bf16) (km : FVec Ideal S16x256 .bf16) (q0 q1 q2 q3 : FVec Ideal S64x128 .bf16) (s0 s1 s2 s3 : Ideal .f32)
    (b0 b1 b2 b3 : FVec Ideal S1x256x128 .f32) (m0 m1 m2 m3 : FVec Ideal S1x1x16x128 .f32) (vp vc v : FVec Ideal S64x128 .bf16) (d : Fin 64) (r : Fin 128) :
    fin1 (bok (BitVec.ofNat 32 N)) (mok (BitVec.ofNat 32 N)) (st3 (kall kp kc km) (qall q0 q1 q2 q3)) s0 s1 s2 s3 b0 b1 b2 b3 m0 m1 m2 m3 vp vc v (ix2 d r)
      = wavg (fun x => if sees N x r then (∑ e : Fin 64, key kp kc x ⟨192 + e.val, by omega⟩ * q1 (ix2 e r)) + b1 (ix3 0 x r) else ⊥)
          (fun x => (∑ e : Fin 64, km (ix2 x ⟨192 + e.val, by omega⟩) * q1 (ix2 e r)) + m1 (ix4 0 0 x r)) (s1 * Soft.log2e)
          (fun x => if h : x.val < 128 then vp (ix2 d ⟨x.val, h⟩) else vc (ix2 d ⟨x.val - 128, by omega⟩)) (fun x => v (ix2 d ⟨112 + x.val, by omega⟩)) := by
  rw [fin1_at]
  simp only [lb_at N hN, lm_at N hN, sl1_at, st3_at, qall_1, kall_lo, kall_hi]

/-- What head 3 stores for its group 2, at an index, from the tiles it loads. -/
theorem head3_2 (N : ℕ) (hN : N < 32) (kp kc : FVec Ideal S128x256 .bf16) (km : FVec Ideal S16x256 .bf16) (q0 q1 q2 q3 : FVec Ideal S64x128 .bf16) (s0 s1 s2 s3 : Ideal .f32)
    (b0 b1 b2 b3 : FVec Ideal S1x256x128 .f32) (m0 m1 m2 m3 : FVec Ideal S1x1x16x128 .f32) (vp vc v : FVec Ideal S64x128 .bf16) (d : Fin 64) (r : Fin 128) :
    fin2 (bok (BitVec.ofNat 32 N)) (mok (BitVec.ofNat 32 N)) (st3 (kall kp kc km) (qall q0 q1 q2 q3)) s0 s1 s2 s3 b0 b1 b2 b3 m0 m1 m2 m3 vp vc v (ix2 d r)
      = wavg (fun x => if sees N x r then (∑ e : Fin 64, key kp kc x ⟨192 + e.val, by omega⟩ * q2 (ix2 e r)) + b2 (ix3 0 x r) else ⊥)
          (fun x => (∑ e : Fin 64, km (ix2 x ⟨192 + e.val, by omega⟩) * q2 (ix2 e r)) + m2 (ix4 0 0 x r)) (s2 * Soft.log2e)
          (fun x => if h : x.val < 128 then vp (ix2 d ⟨x.val, h⟩) else vc (ix2 d ⟨x.val - 128, by omega⟩)) (fun x => v (ix2 d ⟨112 + x.val, by omega⟩)) := by
  rw [fin2_at]
  simp only [lb_at N hN, lm_at N hN, sl2_at, st3_at, qall_2, kall_lo, kall_hi]

/-- What head 3 stores for its group 3, at an index, from the tiles it loads. -/
theorem head3_3 (N : ℕ) (hN : N < 32) (kp kc : FVec Ideal S128x256 .bf16) (km : FVec Ideal S16x256 .bf16) (q0 q1 q2 q3 : FVec Ideal S64x128 .bf16) (s0 s1 s2 s3 : Ideal .f32)
    (b0 b1 b2 b3 : FVec Ideal S1x256x128 .f32) (m0 m1 m2 m3 : FVec Ideal S1x1x16x128 .f32) (vp vc v : FVec Ideal S64x128 .bf16) (d : Fin 64) (r : Fin 128) :
    fin3 (bok (BitVec.ofNat 32 N)) (mok (BitVec.ofNat 32 N)) (st3 (kall kp kc km) (qall q0 q1 q2 q3)) s0 s1 s2 s3 b0 b1 b2 b3 m0 m1 m2 m3 vp vc v (ix2 d r)
      = wavg (fun x => if sees N x r then (∑ e : Fin 64, key kp kc x ⟨192 + e.val, by omega⟩ * q3 (ix2 e r)) + b3 (ix3 0 x r) else ⊥)
          (fun x => (∑ e : Fin 64, km (ix2 x ⟨192 + e.val, by omega⟩) * q3 (ix2 e r)) + m3 (ix4 0 0 x r)) (s3 * Soft.log2e)
          (fun x => if h : x.val < 128 then vp (ix2 d ⟨x.val, h⟩) else vc (ix2 d ⟨x.val - 128, by omega⟩)) (fun x => v (ix2 d ⟨112 + x.val, by omega⟩)) := by
  rw [fin3_at]
  simp only [lb_at N hN, lm_at N hN, sl3_at, st3_at, qall_3, kall_lo, kall_hi]

end Cert.MixerIdeal.Att
-- ==== Proof.Tile.lean ====
module

public import proofs.«01_k».proof.Proof.CoreAt

@[expose] public section

/-! The attention of one query and lane, from the blocks a grid point holds, and that each head of the kernel stores it. -/

set_option maxRecDepth 16384

noncomputable section

namespace Cert.MixerIdeal.Att

open Cert.MixerIdeal Cert.MixerIdeal.Gen
open Idealize.ShloMosaic Idealize.ShloMosaic.TcCoe Idealize.SL.Sem

/-- The keys a grid point holds: the block before its two, then the two. -/
def keyp (x2 : FVec Ideal S256x256 .bf16) (x3 : FVec Ideal S128x256 .bf16) (p : Fin 384) (e : Fin 256) : EReal :=
  if h : p.val < 128 then x3 (ix2 ⟨p.val, h⟩ e) else x2 (ix2 ⟨p.val - 128, by omega⟩ e)

/-- The values a grid point holds: the block before its two, then the two. -/
def valp (x5 : FVec Ideal S256x256 .bf16) (x6 : FVec Ideal S256x128 .bf16) (e : Fin 256) (p : Fin 384) : EReal :=
  if h : p.val < 128 then x6 (ix2 e ⟨p.val, h⟩) else x5 (ix2 e ⟨p.val - 128, by omega⟩)

/-- The attention of row `r` of the point's block `k` (the block `N` of all), at lane `d` of group `g` of head `h`. -/
def attn (N : ℕ) (x0 : FVec Ideal S16 .f32) (x1 : FVec Ideal S1024x256 .bf16) (x2 : FVec Ideal S256x256 .bf16) (x3 : FVec Ideal S128x256 .bf16)
    (x4 : FVec Ideal S16x256 .bf16) (x5 : FVec Ideal S256x256 .bf16) (x6 x7 : FVec Ideal S256x128 .bf16) (x8 : FVec Ideal S4x256x512 .f32)
    (x9 : FVec Ideal S2x4x16x512 .f32) (h g : Fin 4) (d : Fin 64) (k : Fin 2) (r : Fin 128) : EReal :=
  wavg (fun x => if sees N x r then (∑ e : Fin 64, keyp x2 x3 ⟨k.val * 128 + x.val, by omega⟩ ⟨h.val * 64 + e.val, by omega⟩ *
        x1 (ix2 ⟨h.val * 256 + g.val * 64 + e.val, by omega⟩ ⟨k.val * 128 + r.val, by omega⟩)) + x8 (ix3 h x ⟨g.val * 128 + r.val, by omega⟩) else ⊥)
    (fun x => (∑ e : Fin 64, x4 (ix2 x ⟨h.val * 64 + e.val, by omega⟩) *
        x1 (ix2 ⟨h.val * 256 + g.val * 64 + e.val, by omega⟩ ⟨k.val * 128 + r.val, by omega⟩)) + x9 (ix4 k h x ⟨g.val * 128 + r.val, by omega⟩))
    (x0 (ix1 ⟨h.val * 4 + g.val, by omega⟩) * Soft.log2e)
    (fun x => valp x5 x6 ⟨h.val * 64 + d.val, by omega⟩ ⟨k.val * 128 + x.val, by omega⟩)
    (fun x => x7 (ix2 ⟨h.val * 64 + d.val, by omega⟩ ⟨112 + x.val, by omega⟩))

/-- Head 0 stores for its group 0 the attention, where its tiles are those of the blocks. -/
theorem tile0_0 (n : BitVec 32) (N : ℕ) (hn : n = BitVec.ofNat 32 N) (hN : N < 32) (kp kc : FVec Ideal S128x256 .bf16) (km : FVec Ideal S16x256 .bf16) (q0 q1 q2 q3 : FVec Ideal S64x128 .bf16) (s0 s1 s2 s3 : Ideal .f32)
    (b0 b1 b2 b3 : FVec Ideal S1x256x128 .f32) (m0 m1 m2 m3 : FVec Ideal S1x1x16x128 .f32) (vp vc v : FVec Ideal S64x128 .bf16)
    (x0 : FVec Ideal S16 .f32) (x1 : FVec Ideal S1024x256 .bf16) (x2 : FVec Ideal S256x256 .bf16) (x3 : FVec Ideal S128x256 .bf16)
    (x4 : FVec Ideal S16x256 .bf16) (x5 : FVec Ideal S256x256 .bf16) (x6 x7 : FVec Ideal S256x128 .bf16) (x8 : FVec Ideal S4x256x512 .f32)
    (x9 : FVec Ideal S2x4x16x512 .f32) (d : Fin 64) (k : Fin 2) (r : Fin 128)
    (hkp : ∀ (x : Fin 128) (e : Fin 256), kp (ix2 x e) = keyp x2 x3 ⟨k.val * 128 + x.val, by omega⟩ e)
    (hkc : ∀ (x : Fin 128) (e : Fin 256), kc (ix2 x e) = keyp x2 x3 ⟨k.val * 128 + (128 + x.val), by omega⟩ e)
    (hkm : ∀ (x : Fin 16) (e : Fin 256), km (ix2 x e) = x4 (ix2 x e))
    (hq : ∀ (e : Fin 64) (r : Fin 128), q0 (ix2 e r) = x1 (ix2 ⟨0 + e.val, by omega⟩ ⟨k.val * 128 + r.val, by omega⟩))
    (hs : s0 = x0 (ix1 ⟨0, by omega⟩))
    (hb : ∀ (x : Fin 256) (r : Fin 128), b0 (ix3 0 x r) = x8 (ix3 0 x ⟨0 + r.val, by omega⟩))
    (hm : ∀ (x : Fin 16) (r : Fin 128), m0 (ix4 0 0 x r) = x9 (ix4 k 0 x ⟨0 + r.val, by omega⟩))
    (hvp : ∀ (d : Fin 64) (x : Fin 128), vp (ix2 d x) = valp x5 x6 ⟨0 + d.val, by omega⟩ ⟨k.val * 128 + x.val, by omega⟩)
    (hvc : ∀ (d : Fin 64) (x : Fin 128), vc (ix2 d x) = valp x5 x6 ⟨0 + d.val, by omega⟩ ⟨k.val * 128 + (128 + x.val), by omega⟩)
    (hvl : ∀ (d : Fin 64) (x : Fin 128), v (ix2 d x) = x7 (ix2 ⟨0 + d.val, by omega⟩ x)) :
    fin0 (bok n) (mok n) (st0 (kall kp kc km) (qall q0 q1 q2 q3)) s0 s1 s2 s3 b0 b1 b2 b3 m0 m1 m2 m3 vp vc v (ix2 d r)
      = attn N x0 x1 x2 x3 x4 x5 x6 x7 x8 x9 0 0 d k r := by
  subst hn
  rw [head0_0 N hN]
  have hkey : ∀ (x e : Fin 256), key kp kc x e = keyp x2 x3 ⟨k.val * 128 + x.val, by omega⟩ e := fun x e => by
    unfold key
    by_cases hx : x.val < 128
    · rw [dif_pos hx, hkp]
    · rw [dif_neg hx, hkc]
      exact congrArg (fun z => keyp x2 x3 z e) (Fin.ext (by simp; omega))
  have hval : ∀ x : Fin 256, (if h : x.val < 128 then vp (ix2 d ⟨x.val, h⟩) else vc (ix2 d ⟨x.val - 128, by omega⟩)) = valp x5 x6 ⟨0 + d.val, by omega⟩ ⟨k.val * 128 + x.val, by omega⟩ := fun x => by
    by_cases hx : x.val < 128
    · rw [dif_pos hx, hvp]
    · rw [dif_neg hx, hvc]
      exact congrArg (fun z => valp x5 x6 _ z) (Fin.ext (by simp; omega))
  simp only [hkey, hval, hkm, hq, hs, hb, hm, hvl]
  unfold attn
  rfl

/-- Head 0 stores for its group 1 the attention, where its tiles are those of the blocks. -/
theorem tile0_1 (n : BitVec 32) (N : ℕ) (hn : n = BitVec.ofNat 32 N) (hN : N < 32) (kp kc : FVec Ideal S128x256 .bf16) (km : FVec Ideal S16x256 .bf16) (q0 q1 q2 q3 : FVec Ideal S64x128 .bf16) (s0 s1 s2 s3 : Ideal .f32)
    (b0 b1 b2 b3 : FVec Ideal S1x256x128 .f32) (m0 m1 m2 m3 : FVec Ideal S1x1x16x128 .f32) (vp vc v : FVec Ideal S64x128 .bf16)
    (x0 : FVec Ideal S16 .f32) (x1 : FVec Ideal S1024x256 .bf16) (x2 : FVec Ideal S256x256 .bf16) (x3 : FVec Ideal S128x256 .bf16)
    (x4 : FVec Ideal S16x256 .bf16) (x5 : FVec Ideal S256x256 .bf16) (x6 x7 : FVec Ideal S256x128 .bf16) (x8 : FVec Ideal S4x256x512 .f32)
    (x9 : FVec Ideal S2x4x16x512 .f32) (d : Fin 64) (k : Fin 2) (r : Fin 128)
    (hkp : ∀ (x : Fin 128) (e : Fin 256), kp (ix2 x e) = keyp x2 x3 ⟨k.val * 128 + x.val, by omega⟩ e)
    (hkc : ∀ (x : Fin 128) (e : Fin 256), kc (ix2 x e) = keyp x2 x3 ⟨k.val * 128 + (128 + x.val), by omega⟩ e)
    (hkm : ∀ (x : Fin 16) (e : Fin 256), km (ix2 x e) = x4 (ix2 x e))
    (hq : ∀ (e : Fin 64) (r : Fin 128), q1 (ix2 e r) = x1 (ix2 ⟨64 + e.val, by omega⟩ ⟨k.val * 128 + r.val, by omega⟩))
    (hs : s1 = x0 (ix1 ⟨1, by omega⟩))
    (hb : ∀ (x : Fin 256) (r : Fin 128), b1 (ix3 0 x r) = x8 (ix3 0 x ⟨128 + r.val, by omega⟩))
    (hm : ∀ (x : Fin 16) (r : Fin 128), m1 (ix4 0 0 x r) = x9 (ix4 k 0 x ⟨128 + r.val, by omega⟩))
    (hvp : ∀ (d : Fin 64) (x : Fin 128), vp (ix2 d x) = valp x5 x6 ⟨0 + d.val, by omega⟩ ⟨k.val * 128 + x.val, by omega⟩)
    (hvc : ∀ (d : Fin 64) (x : Fin 128), vc (ix2 d x) = valp x5 x6 ⟨0 + d.val, by omega⟩ ⟨k.val * 128 + (128 + x.val), by omega⟩)
    (hvl : ∀ (d : Fin 64) (x : Fin 128), v (ix2 d x) = x7 (ix2 ⟨0 + d.val, by omega⟩ x)) :
    fin1 (bok n) (mok n) (st0 (kall kp kc km) (qall q0 q1 q2 q3)) s0 s1 s2 s3 b0 b1 b2 b3 m0 m1 m2 m3 vp vc v (ix2 d r)
      = attn N x0 x1 x2 x3 x4 x5 x6 x7 x8 x9 0 1 d k r := by
  subst hn
  rw [head0_1 N hN]
  have hkey : ∀ (x e : Fin 256), key kp kc x e = keyp x2 x3 ⟨k.val * 128 + x.val, by omega⟩ e := fun x e => by
    unfold key
    by_cases hx : x.val < 128
    · rw [dif_pos hx, hkp]
    · rw [dif_neg hx, hkc]
      exact congrArg (fun z => keyp x2 x3 z e) (Fin.ext (by simp; omega))
  have hval : ∀ x : Fin 256, (if h : x.val < 128 then vp (ix2 d ⟨x.val, h⟩) else vc (ix2 d ⟨x.val - 128, by omega⟩)) = valp x5 x6 ⟨0 + d.val, by omega⟩ ⟨k.val * 128 + x.val, by omega⟩ := fun x => by
    by_cases hx : x.val < 128
    · rw [dif_pos hx, hvp]
    · rw [dif_neg hx, hvc]
      exact congrArg (fun z => valp x5 x6 _ z) (Fin.ext (by simp; omega))
  simp only [hkey, hval, hkm, hq, hs, hb, hm, hvl]
  unfold attn
  rfl

/-- Head 0 stores for its group 2 the attention, where its tiles are those of the blocks. -/
theorem tile0_2 (n : BitVec 32) (N : ℕ) (hn : n = BitVec.ofNat 32 N) (hN : N < 32) (kp kc : FVec Ideal S128x256 .bf16) (km : FVec Ideal S16x256 .bf16) (q0 q1 q2 q3 : FVec Ideal S64x128 .bf16) (s0 s1 s2 s3 : Ideal .f32)
    (b0 b1 b2 b3 : FVec Ideal S1x256x128 .f32) (m0 m1 m2 m3 : FVec Ideal S1x1x16x128 .f32) (vp vc v : FVec Ideal S64x128 .bf16)
    (x0 : FVec Ideal S16 .f32) (x1 : FVec Ideal S1024x256 .bf16) (x2 : FVec Ideal S256x256 .bf16) (x3 : FVec Ideal S128x256 .bf16)
    (x4 : FVec Ideal S16x256 .bf16) (x5 : FVec Ideal S256x256 .bf16) (x6 x7 : FVec Ideal S256x128 .bf16) (x8 : FVec Ideal S4x256x512 .f32)
    (x9 : FVec Ideal S2x4x16x512 .f32) (d : Fin 64) (k : Fin 2) (r : Fin 128)
    (hkp : ∀ (x : Fin 128) (e : Fin 256), kp (ix2 x e) = keyp x2 x3 ⟨k.val * 128 + x.val, by omega⟩ e)
    (hkc : ∀ (x : Fin 128) (e : Fin 256), kc (ix2 x e) = keyp x2 x3 ⟨k.val * 128 + (128 + x.val), by omega⟩ e)
    (hkm : ∀ (x : Fin 16) (e : Fin 256), km (ix2 x e) = x4 (ix2 x e))
    (hq : ∀ (e : Fin 64) (r : Fin 128), q2 (ix2 e r) = x1 (ix2 ⟨128 + e.val, by omega⟩ ⟨k.val * 128 + r.val, by omega⟩))
    (hs : s2 = x0 (ix1 ⟨2, by omega⟩))
    (hb : ∀ (x : Fin 256) (r : Fin 128), b2 (ix3 0 x r) = x8 (ix3 0 x ⟨256 + r.val, by omega⟩))
    (hm : ∀ (x : Fin 16) (r : Fin 128), m2 (ix4 0 0 x r) = x9 (ix4 k 0 x ⟨256 + r.val, by omega⟩))
    (hvp : ∀ (d : Fin 64) (x : Fin 128), vp (ix2 d x) = valp x5 x6 ⟨0 + d.val, by omega⟩ ⟨k.val * 128 + x.val, by omega⟩)
    (hvc : ∀ (d : Fin 64) (x : Fin 128), vc (ix2 d x) = valp x5 x6 ⟨0 + d.val, by omega⟩ ⟨k.val * 128 + (128 + x.val), by omega⟩)
    (hvl : ∀ (d : Fin 64) (x : Fin 128), v (ix2 d x) = x7 (ix2 ⟨0 + d.val, by omega⟩ x)) :
    fin2 (bok n) (mok n) (st0 (kall kp kc km) (qall q0 q1 q2 q3)) s0 s1 s2 s3 b0 b1 b2 b3 m0 m1 m2 m3 vp vc v (ix2 d r)
      = attn N x0 x1 x2 x3 x4 x5 x6 x7 x8 x9 0 2 d k r := by
  subst hn
  rw [head0_2 N hN]
  have hkey : ∀ (x e : Fin 256), key kp kc x e = keyp x2 x3 ⟨k.val * 128 + x.val, by omega⟩ e := fun x e => by
    unfold key
    by_cases hx : x.val < 128
    · rw [dif_pos hx, hkp]
    · rw [dif_neg hx, hkc]
      exact congrArg (fun z => keyp x2 x3 z e) (Fin.ext (by simp; omega))
  have hval : ∀ x : Fin 256, (if h : x.val < 128 then vp (ix2 d ⟨x.val, h⟩) else vc (ix2 d ⟨x.val - 128, by omega⟩)) = valp x5 x6 ⟨0 + d.val, by omega⟩ ⟨k.val * 128 + x.val, by omega⟩ := fun x => by
    by_cases hx : x.val < 128
    · rw [dif_pos hx, hvp]
    · rw [dif_neg hx, hvc]
      exact congrArg (fun z => valp x5 x6 _ z) (Fin.ext (by simp; omega))
  simp only [hkey, hval, hkm, hq, hs, hb, hm, hvl]
  unfold attn
  rfl

/-- Head 0 stores for its group 3 the attention, where its tiles are those of the blocks. -/
theorem tile0_3 (n : BitVec 32) (N : ℕ) (hn : n = BitVec.ofNat 32 N) (hN : N < 32) (kp kc : FVec Ideal S128x256 .bf16) (km : FVec Ideal S16x256 .bf16) (q0 q1 q2 q3 : FVec Ideal S64x128 .bf16) (s0 s1 s2 s3 : Ideal .f32)
    (b0 b1 b2 b3 : FVec Ideal S1x256x128 .f32) (m0 m1 m2 m3 : FVec Ideal S1x1x16x128 .f32) (vp vc v : FVec Ideal S64x128 .bf16)
    (x0 : FVec Ideal S16 .f32) (x1 : FVec Ideal S1024x256 .bf16) (x2 : FVec Ideal S256x256 .bf16) (x3 : FVec Ideal S128x256 .bf16)
    (x4 : FVec Ideal S16x256 .bf16) (x5 : FVec Ideal S256x256 .bf16) (x6 x7 : FVec Ideal S256x128 .bf16) (x8 : FVec Ideal S4x256x512 .f32)
    (x9 : FVec Ideal S2x4x16x512 .f32) (d : Fin 64) (k : Fin 2) (r : Fin 128)
    (hkp : ∀ (x : Fin 128) (e : Fin 256), kp (ix2 x e) = keyp x2 x3 ⟨k.val * 128 + x.val, by omega⟩ e)
    (hkc : ∀ (x : Fin 128) (e : Fin 256), kc (ix2 x e) = keyp x2 x3 ⟨k.val * 128 + (128 + x.val), by omega⟩ e)
    (hkm : ∀ (x : Fin 16) (e : Fin 256), km (ix2 x e) = x4 (ix2 x e))
    (hq : ∀ (e : Fin 64) (r : Fin 128), q3 (ix2 e r) = x1 (ix2 ⟨192 + e.val, by omega⟩ ⟨k.val * 128 + r.val, by omega⟩))
    (hs : s3 = x0 (ix1 ⟨3, by omega⟩))
    (hb : ∀ (x : Fin 256) (r : Fin 128), b3 (ix3 0 x r) = x8 (ix3 0 x ⟨384 + r.val, by omega⟩))
    (hm : ∀ (x : Fin 16) (r : Fin 128), m3 (ix4 0 0 x r) = x9 (ix4 k 0 x ⟨384 + r.val, by omega⟩))
    (hvp : ∀ (d : Fin 64) (x : Fin 128), vp (ix2 d x) = valp x5 x6 ⟨0 + d.val, by omega⟩ ⟨k.val * 128 + x.val, by omega⟩)
    (hvc : ∀ (d : Fin 64) (x : Fin 128), vc (ix2 d x) = valp x5 x6 ⟨0 + d.val, by omega⟩ ⟨k.val * 128 + (128 + x.val), by omega⟩)
    (hvl : ∀ (d : Fin 64) (x : Fin 128), v (ix2 d x) = x7 (ix2 ⟨0 + d.val, by omega⟩ x)) :
    fin3 (bok n) (mok n) (st0 (kall kp kc km) (qall q0 q1 q2 q3)) s0 s1 s2 s3 b0 b1 b2 b3 m0 m1 m2 m3 vp vc v (ix2 d r)
      = attn N x0 x1 x2 x3 x4 x5 x6 x7 x8 x9 0 3 d k r := by
  subst hn
  rw [head0_3 N hN]
  have hkey : ∀ (x e : Fin 256), key kp kc x e = keyp x2 x3 ⟨k.val * 128 + x.val, by omega⟩ e := fun x e => by
    unfold key
    by_cases hx : x.val < 128
    · rw [dif_pos hx, hkp]
    · rw [dif_neg hx, hkc]
      exact congrArg (fun z => keyp x2 x3 z e) (Fin.ext (by simp; omega))
  have hval : ∀ x : Fin 256, (if h : x.val < 128 then vp (ix2 d ⟨x.val, h⟩) else vc (ix2 d ⟨x.val - 128, by omega⟩)) = valp x5 x6 ⟨0 + d.val, by omega⟩ ⟨k.val * 128 + x.val, by omega⟩ := fun x => by
    by_cases hx : x.val < 128
    · rw [dif_pos hx, hvp]
    · rw [dif_neg hx, hvc]
      exact congrArg (fun z => valp x5 x6 _ z) (Fin.ext (by simp; omega))
  simp only [hkey, hval, hkm, hq, hs, hb, hm, hvl]
  unfold attn
  rfl

/-- Head 1 stores for its group 0 the attention, where its tiles are those of the blocks. -/
theorem tile1_0 (n : BitVec 32) (N : ℕ) (hn : n = BitVec.ofNat 32 N) (hN : N < 32) (kp kc : FVec Ideal S128x256 .bf16) (km : FVec Ideal S16x256 .bf16) (q0 q1 q2 q3 : FVec Ideal S64x128 .bf16) (s0 s1 s2 s3 : Ideal .f32)
    (b0 b1 b2 b3 : FVec Ideal S1x256x128 .f32) (m0 m1 m2 m3 : FVec Ideal S1x1x16x128 .f32) (vp vc v : FVec Ideal S64x128 .bf16)
    (x0 : FVec Ideal S16 .f32) (x1 : FVec Ideal S1024x256 .bf16) (x2 : FVec Ideal S256x256 .bf16) (x3 : FVec Ideal S128x256 .bf16)
    (x4 : FVec Ideal S16x256 .bf16) (x5 : FVec Ideal S256x256 .bf16) (x6 x7 : FVec Ideal S256x128 .bf16) (x8 : FVec Ideal S4x256x512 .f32)
    (x9 : FVec Ideal S2x4x16x512 .f32) (d : Fin 64) (k : Fin 2) (r : Fin 128)
    (hkp : ∀ (x : Fin 128) (e : Fin 256), kp (ix2 x e) = keyp x2 x3 ⟨k.val * 128 + x.val, by omega⟩ e)
    (hkc : ∀ (x : Fin 128) (e : Fin 256), kc (ix2 x e) = keyp x2 x3 ⟨k.val * 128 + (128 + x.val), by omega⟩ e)
    (hkm : ∀ (x : Fin 16) (e : Fin 256), km (ix2 x e) = x4 (ix2 x e))
    (hq : ∀ (e : Fin 64) (r : Fin 128), q0 (ix2 e r) = x1 (ix2 ⟨256 + e.val, by omega⟩ ⟨k.val * 128 + r.val, by omega⟩))
    (hs : s0 = x0 (ix1 ⟨4, by omega⟩))
    (hb : ∀ (x : Fin 256) (r : Fin 128), b0 (ix3 0 x r) = x8 (ix3 1 x ⟨0 + r.val, by omega⟩))
    (hm : ∀ (x : Fin 16) (r : Fin 128), m0 (ix4 0 0 x r) = x9 (ix4 k 1 x ⟨0 + r.val, by omega⟩))
    (hvp : ∀ (d : Fin 64) (x : Fin 128), vp (ix2 d x) = valp x5 x6 ⟨64 + d.val, by omega⟩ ⟨k.val * 128 + x.val, by omega⟩)
    (hvc : ∀ (d : Fin 64) (x : Fin 128), vc (ix2 d x) = valp x5 x6 ⟨64 + d.val, by omega⟩ ⟨k.val * 128 + (128 + x.val), by omega⟩)
    (hvl : ∀ (d : Fin 64) (x : Fin 128), v (ix2 d x) = x7 (ix2 ⟨64 + d.val, by omega⟩ x)) :
    fin0 (bok n) (mok n) (st1 (kall kp kc km) (qall q0 q1 q2 q3)) s0 s1 s2 s3 b0 b1 b2 b3 m0 m1 m2 m3 vp vc v (ix2 d r)
      = attn N x0 x1 x2 x3 x4 x5 x6 x7 x8 x9 1 0 d k r := by
  subst hn
  rw [head1_0 N hN]
  have hkey : ∀ (x e : Fin 256), key kp kc x e = keyp x2 x3 ⟨k.val * 128 + x.val, by omega⟩ e := fun x e => by
    unfold key
    by_cases hx : x.val < 128
    · rw [dif_pos hx, hkp]
    · rw [dif_neg hx, hkc]
      exact congrArg (fun z => keyp x2 x3 z e) (Fin.ext (by simp; omega))
  have hval : ∀ x : Fin 256, (if h : x.val < 128 then vp (ix2 d ⟨x.val, h⟩) else vc (ix2 d ⟨x.val - 128, by omega⟩)) = valp x5 x6 ⟨64 + d.val, by omega⟩ ⟨k.val * 128 + x.val, by omega⟩ := fun x => by
    by_cases hx : x.val < 128
    · rw [dif_pos hx, hvp]
    · rw [dif_neg hx, hvc]
      exact congrArg (fun z => valp x5 x6 _ z) (Fin.ext (by simp; omega))
  simp only [hkey, hval, hkm, hq, hs, hb, hm, hvl]
  unfold attn
  rfl

/-- Head 1 stores for its group 1 the attention, where its tiles are those of the blocks. -/
theorem tile1_1 (n : BitVec 32) (N : ℕ) (hn : n = BitVec.ofNat 32 N) (hN : N < 32) (kp kc : FVec Ideal S128x256 .bf16) (km : FVec Ideal S16x256 .bf16) (q0 q1 q2 q3 : FVec Ideal S64x128 .bf16) (s0 s1 s2 s3 : Ideal .f32)
    (b0 b1 b2 b3 : FVec Ideal S1x256x128 .f32) (m0 m1 m2 m3 : FVec Ideal S1x1x16x128 .f32) (vp vc v : FVec Ideal S64x128 .bf16)
    (x0 : FVec Ideal S16 .f32) (x1 : FVec Ideal S1024x256 .bf16) (x2 : FVec Ideal S256x256 .bf16) (x3 : FVec Ideal S128x256 .bf16)
    (x4 : FVec Ideal S16x256 .bf16) (x5 : FVec Ideal S256x256 .bf16) (x6 x7 : FVec Ideal S256x128 .bf16) (x8 : FVec Ideal S4x256x512 .f32)
    (x9 : FVec Ideal S2x4x16x512 .f32) (d : Fin 64) (k : Fin 2) (r : Fin 128)
    (hkp : ∀ (x : Fin 128) (e : Fin 256), kp (ix2 x e) = keyp x2 x3 ⟨k.val * 128 + x.val, by omega⟩ e)
    (hkc : ∀ (x : Fin 128) (e : Fin 256), kc (ix2 x e) = keyp x2 x3 ⟨k.val * 128 + (128 + x.val), by omega⟩ e)
    (hkm : ∀ (x : Fin 16) (e : Fin 256), km (ix2 x e) = x4 (ix2 x e))
    (hq : ∀ (e : Fin 64) (r : Fin 128), q1 (ix2 e r) = x1 (ix2 ⟨320 + e.val, by omega⟩ ⟨k.val * 128 + r.val, by omega⟩))
    (hs : s1 = x0 (ix1 ⟨5, by omega⟩))
    (hb : ∀ (x : Fin 256) (r : Fin 128), b1 (ix3 0 x r) = x8 (ix3 1 x ⟨128 + r.val, by omega⟩))
    (hm : ∀ (x : Fin 16) (r : Fin 128), m1 (ix4 0 0 x r) = x9 (ix4 k 1 x ⟨128 + r.val, by omega⟩))
    (hvp : ∀ (d : Fin 64) (x : Fin 128), vp (ix2 d x) = valp x5 x6 ⟨64 + d.val, by omega⟩ ⟨k.val * 128 + x.val, by omega⟩)
    (hvc : ∀ (d : Fin 64) (x : Fin 128), vc (ix2 d x) = valp x5 x6 ⟨64 + d.val, by omega⟩ ⟨k.val * 128 + (128 + x.val), by omega⟩)
    (hvl : ∀ (d : Fin 64) (x : Fin 128), v (ix2 d x) = x7 (ix2 ⟨64 + d.val, by omega⟩ x)) :
    fin1 (bok n) (mok n) (st1 (kall kp kc km) (qall q0 q1 q2 q3)) s0 s1 s2 s3 b0 b1 b2 b3 m0 m1 m2 m3 vp vc v (ix2 d r)
      = attn N x0 x1 x2 x3 x4 x5 x6 x7 x8 x9 1 1 d k r := by
  subst hn
  rw [head1_1 N hN]
  have hkey : ∀ (x e : Fin 256), key kp kc x e = keyp x2 x3 ⟨k.val * 128 + x.val, by omega⟩ e := fun x e => by
    unfold key
    by_cases hx : x.val < 128
    · rw [dif_pos hx, hkp]
    · rw [dif_neg hx, hkc]
      exact congrArg (fun z => keyp x2 x3 z e) (Fin.ext (by simp; omega))
  have hval : ∀ x : Fin 256, (if h : x.val < 128 then vp (ix2 d ⟨x.val, h⟩) else vc (ix2 d ⟨x.val - 128, by omega⟩)) = valp x5 x6 ⟨64 + d.val, by omega⟩ ⟨k.val * 128 + x.val, by omega⟩ := fun x => by
    by_cases hx : x.val < 128
    · rw [dif_pos hx, hvp]
    · rw [dif_neg hx, hvc]
      exact congrArg (fun z => valp x5 x6 _ z) (Fin.ext (by simp; omega))
  simp only [hkey, hval, hkm, hq, hs, hb, hm, hvl]
  unfold attn
  rfl

/-- Head 1 stores for its group 2 the attention, where its tiles are those of the blocks. -/
theorem tile1_2 (n : BitVec 32) (N : ℕ) (hn : n = BitVec.ofNat 32 N) (hN : N < 32) (kp kc : FVec Ideal S128x256 .bf16) (km : FVec Ideal S16x256 .bf16) (q0 q1 q2 q3 : FVec Ideal S64x128 .bf16) (s0 s1 s2 s3 : Ideal .f32)
    (b0 b1 b2 b3 : FVec Ideal S1x256x128 .f32) (m0 m1 m2 m3 : FVec Ideal S1x1x16x128 .f32) (vp vc v : FVec Ideal S64x128 .bf16)
    (x0 : FVec Ideal S16 .f32) (x1 : FVec Ideal S1024x256 .bf16) (x2 : FVec Ideal S256x256 .bf16) (x3 : FVec Ideal S128x256 .bf16)
    (x4 : FVec Ideal S16x256 .bf16) (x5 : FVec Ideal S256x256 .bf16) (x6 x7 : FVec Ideal S256x128 .bf16) (x8 : FVec Ideal S4x256x512 .f32)
    (x9 : FVec Ideal S2x4x16x512 .f32) (d : Fin 64) (k : Fin 2) (r : Fin 128)
    (hkp : ∀ (x : Fin 128) (e : Fin 256), kp (ix2 x e) = keyp x2 x3 ⟨k.val * 128 + x.val, by omega⟩ e)
    (hkc : ∀ (x : Fin 128) (e : Fin 256), kc (ix2 x e) = keyp x2 x3 ⟨k.val * 128 + (128 + x.val), by omega⟩ e)
    (hkm : ∀ (x : Fin 16) (e : Fin 256), km (ix2 x e) = x4 (ix2 x e))
    (hq : ∀ (e : Fin 64) (r : Fin 128), q2 (ix2 e r) = x1 (ix2 ⟨384 + e.val, by omega⟩ ⟨k.val * 128 + r.val, by omega⟩))
    (hs : s2 = x0 (ix1 ⟨6, by omega⟩))
    (hb : ∀ (x : Fin 256) (r : Fin 128), b2 (ix3 0 x r) = x8 (ix3 1 x ⟨256 + r.val, by omega⟩))
    (hm : ∀ (x : Fin 16) (r : Fin 128), m2 (ix4 0 0 x r) = x9 (ix4 k 1 x ⟨256 + r.val, by omega⟩))
    (hvp : ∀ (d : Fin 64) (x : Fin 128), vp (ix2 d x) = valp x5 x6 ⟨64 + d.val, by omega⟩ ⟨k.val * 128 + x.val, by omega⟩)
    (hvc : ∀ (d : Fin 64) (x : Fin 128), vc (ix2 d x) = valp x5 x6 ⟨64 + d.val, by omega⟩ ⟨k.val * 128 + (128 + x.val), by omega⟩)
    (hvl : ∀ (d : Fin 64) (x : Fin 128), v (ix2 d x) = x7 (ix2 ⟨64 + d.val, by omega⟩ x)) :
    fin2 (bok n) (mok n) (st1 (kall kp kc km) (qall q0 q1 q2 q3)) s0 s1 s2 s3 b0 b1 b2 b3 m0 m1 m2 m3 vp vc v (ix2 d r)
      = attn N x0 x1 x2 x3 x4 x5 x6 x7 x8 x9 1 2 d k r := by
  subst hn
  rw [head1_2 N hN]
  have hkey : ∀ (x e : Fin 256), key kp kc x e = keyp x2 x3 ⟨k.val * 128 + x.val, by omega⟩ e := fun x e => by
    unfold key
    by_cases hx : x.val < 128
    · rw [dif_pos hx, hkp]
    · rw [dif_neg hx, hkc]
      exact congrArg (fun z => keyp x2 x3 z e) (Fin.ext (by simp; omega))
  have hval : ∀ x : Fin 256, (if h : x.val < 128 then vp (ix2 d ⟨x.val, h⟩) else vc (ix2 d ⟨x.val - 128, by omega⟩)) = valp x5 x6 ⟨64 + d.val, by omega⟩ ⟨k.val * 128 + x.val, by omega⟩ := fun x => by
    by_cases hx : x.val < 128
    · rw [dif_pos hx, hvp]
    · rw [dif_neg hx, hvc]
      exact congrArg (fun z => valp x5 x6 _ z) (Fin.ext (by simp; omega))
  simp only [hkey, hval, hkm, hq, hs, hb, hm, hvl]
  unfold attn
  rfl

/-- Head 1 stores for its group 3 the attention, where its tiles are those of the blocks. -/
theorem tile1_3 (n : BitVec 32) (N : ℕ) (hn : n = BitVec.ofNat 32 N) (hN : N < 32) (kp kc : FVec Ideal S128x256 .bf16) (km : FVec Ideal S16x256 .bf16) (q0 q1 q2 q3 : FVec Ideal S64x128 .bf16) (s0 s1 s2 s3 : Ideal .f32)
    (b0 b1 b2 b3 : FVec Ideal S1x256x128 .f32) (m0 m1 m2 m3 : FVec Ideal S1x1x16x128 .f32) (vp vc v : FVec Ideal S64x128 .bf16)
    (x0 : FVec Ideal S16 .f32) (x1 : FVec Ideal S1024x256 .bf16) (x2 : FVec Ideal S256x256 .bf16) (x3 : FVec Ideal S128x256 .bf16)
    (x4 : FVec Ideal S16x256 .bf16) (x5 : FVec Ideal S256x256 .bf16) (x6 x7 : FVec Ideal S256x128 .bf16) (x8 : FVec Ideal S4x256x512 .f32)
    (x9 : FVec Ideal S2x4x16x512 .f32) (d : Fin 64) (k : Fin 2) (r : Fin 128)
    (hkp : ∀ (x : Fin 128) (e : Fin 256), kp (ix2 x e) = keyp x2 x3 ⟨k.val * 128 + x.val, by omega⟩ e)
    (hkc : ∀ (x : Fin 128) (e : Fin 256), kc (ix2 x e) = keyp x2 x3 ⟨k.val * 128 + (128 + x.val), by omega⟩ e)
    (hkm : ∀ (x : Fin 16) (e : Fin 256), km (ix2 x e) = x4 (ix2 x e))
    (hq : ∀ (e : Fin 64) (r : Fin 128), q3 (ix2 e r) = x1 (ix2 ⟨448 + e.val, by omega⟩ ⟨k.val * 128 + r.val, by omega⟩))
    (hs : s3 = x0 (ix1 ⟨7, by omega⟩))
    (hb : ∀ (x : Fin 256) (r : Fin 128), b3 (ix3 0 x r) = x8 (ix3 1 x ⟨384 + r.val, by omega⟩))
    (hm : ∀ (x : Fin 16) (r : Fin 128), m3 (ix4 0 0 x r) = x9 (ix4 k 1 x ⟨384 + r.val, by omega⟩))
    (hvp : ∀ (d : Fin 64) (x : Fin 128), vp (ix2 d x) = valp x5 x6 ⟨64 + d.val, by omega⟩ ⟨k.val * 128 + x.val, by omega⟩)
    (hvc : ∀ (d : Fin 64) (x : Fin 128), vc (ix2 d x) = valp x5 x6 ⟨64 + d.val, by omega⟩ ⟨k.val * 128 + (128 + x.val), by omega⟩)
    (hvl : ∀ (d : Fin 64) (x : Fin 128), v (ix2 d x) = x7 (ix2 ⟨64 + d.val, by omega⟩ x)) :
    fin3 (bok n) (mok n) (st1 (kall kp kc km) (qall q0 q1 q2 q3)) s0 s1 s2 s3 b0 b1 b2 b3 m0 m1 m2 m3 vp vc v (ix2 d r)
      = attn N x0 x1 x2 x3 x4 x5 x6 x7 x8 x9 1 3 d k r := by
  subst hn
  rw [head1_3 N hN]
  have hkey : ∀ (x e : Fin 256), key kp kc x e = keyp x2 x3 ⟨k.val * 128 + x.val, by omega⟩ e := fun x e => by
    unfold key
    by_cases hx : x.val < 128
    · rw [dif_pos hx, hkp]
    · rw [dif_neg hx, hkc]
      exact congrArg (fun z => keyp x2 x3 z e) (Fin.ext (by simp; omega))
  have hval : ∀ x : Fin 256, (if h : x.val < 128 then vp (ix2 d ⟨x.val, h⟩) else vc (ix2 d ⟨x.val - 128, by omega⟩)) = valp x5 x6 ⟨64 + d.val, by omega⟩ ⟨k.val * 128 + x.val, by omega⟩ := fun x => by
    by_cases hx : x.val < 128
    · rw [dif_pos hx, hvp]
    · rw [dif_neg hx, hvc]
      exact congrArg (fun z => valp x5 x6 _ z) (Fin.ext (by simp; omega))
  simp only [hkey, hval, hkm, hq, hs, hb, hm, hvl]
  unfold attn
  rfl

/-- Head 2 stores for its group 0 the attention, where its tiles are those of the blocks. -/
theorem tile2_0 (n : BitVec 32) (N : ℕ) (hn : n = BitVec.ofNat 32 N) (hN : N < 32) (kp kc : FVec Ideal S128x256 .bf16) (km : FVec Ideal S16x256 .bf16) (q0 q1 q2 q3 : FVec Ideal S64x128 .bf16) (s0 s1 s2 s3 : Ideal .f32)
    (b0 b1 b2 b3 : FVec Ideal S1x256x128 .f32) (m0 m1 m2 m3 : FVec Ideal S1x1x16x128 .f32) (vp vc v : FVec Ideal S64x128 .bf16)
    (x0 : FVec Ideal S16 .f32) (x1 : FVec Ideal S1024x256 .bf16) (x2 : FVec Ideal S256x256 .bf16) (x3 : FVec Ideal S128x256 .bf16)
    (x4 : FVec Ideal S16x256 .bf16) (x5 : FVec Ideal S256x256 .bf16) (x6 x7 : FVec Ideal S256x128 .bf16) (x8 : FVec Ideal S4x256x512 .f32)
    (x9 : FVec Ideal S2x4x16x512 .f32) (d : Fin 64) (k : Fin 2) (r : Fin 128)
    (hkp : ∀ (x : Fin 128) (e : Fin 256), kp (ix2 x e) = keyp x2 x3 ⟨k.val * 128 + x.val, by omega⟩ e)
    (hkc : ∀ (x : Fin 128) (e : Fin 256), kc (ix2 x e) = keyp x2 x3 ⟨k.val * 128 + (128 + x.val), by omega⟩ e)
    (hkm : ∀ (x : Fin 16) (e : Fin 256), km (ix2 x e) = x4 (ix2 x e))
    (hq : ∀ (e : Fin 64) (r : Fin 128), q0 (ix2 e r) = x1 (ix2 ⟨512 + e.val, by omega⟩ ⟨k.val * 128 + r.val, by omega⟩))
    (hs : s0 = x0 (ix1 ⟨8, by omega⟩))
    (hb : ∀ (x : Fin 256) (r : Fin 128), b0 (ix3 0 x r) = x8 (ix3 2 x ⟨0 + r.val, by omega⟩))
    (hm : ∀ (x : Fin 16) (r : Fin 128), m0 (ix4 0 0 x r) = x9 (ix4 k 2 x ⟨0 + r.val, by omega⟩))
    (hvp : ∀ (d : Fin 64) (x : Fin 128), vp (ix2 d x) = valp x5 x6 ⟨128 + d.val, by omega⟩ ⟨k.val * 128 + x.val, by omega⟩)
    (hvc : ∀ (d : Fin 64) (x : Fin 128), vc (ix2 d x) = valp x5 x6 ⟨128 + d.val, by omega⟩ ⟨k.val * 128 + (128 + x.val), by omega⟩)
    (hvl : ∀ (d : Fin 64) (x : Fin 128), v (ix2 d x) = x7 (ix2 ⟨128 + d.val, by omega⟩ x)) :
    fin0 (bok n) (mok n) (st2 (kall kp kc km) (qall q0 q1 q2 q3)) s0 s1 s2 s3 b0 b1 b2 b3 m0 m1 m2 m3 vp vc v (ix2 d r)
      = attn N x0 x1 x2 x3 x4 x5 x6 x7 x8 x9 2 0 d k r := by
  subst hn
  rw [head2_0 N hN]
  have hkey : ∀ (x e : Fin 256), key kp kc x e = keyp x2 x3 ⟨k.val * 128 + x.val, by omega⟩ e := fun x e => by
    unfold key
    by_cases hx : x.val < 128
    · rw [dif_pos hx, hkp]
    · rw [dif_neg hx, hkc]
      exact congrArg (fun z => keyp x2 x3 z e) (Fin.ext (by simp; omega))
  have hval : ∀ x : Fin 256, (if h : x.val < 128 then vp (ix2 d ⟨x.val, h⟩) else vc (ix2 d ⟨x.val - 128, by omega⟩)) = valp x5 x6 ⟨128 + d.val, by omega⟩ ⟨k.val * 128 + x.val, by omega⟩ := fun x => by
    by_cases hx : x.val < 128
    · rw [dif_pos hx, hvp]
    · rw [dif_neg hx, hvc]
      exact congrArg (fun z => valp x5 x6 _ z) (Fin.ext (by simp; omega))
  simp only [hkey, hval, hkm, hq, hs, hb, hm, hvl]
  unfold attn
  rfl

/-- Head 2 stores for its group 1 the attention, where its tiles are those of the blocks. -/
theorem tile2_1 (n : BitVec 32) (N : ℕ) (hn : n = BitVec.ofNat 32 N) (hN : N < 32) (kp kc : FVec Ideal S128x256 .bf16) (km : FVec Ideal S16x256 .bf16) (q0 q1 q2 q3 : FVec Ideal S64x128 .bf16) (s0 s1 s2 s3 : Ideal .f32)
    (b0 b1 b2 b3 : FVec Ideal S1x256x128 .f32) (m0 m1 m2 m3 : FVec Ideal S1x1x16x128 .f32) (vp vc v : FVec Ideal S64x128 .bf16)
    (x0 : FVec Ideal S16 .f32) (x1 : FVec Ideal S1024x256 .bf16) (x2 : FVec Ideal S256x256 .bf16) (x3 : FVec Ideal S128x256 .bf16)
    (x4 : FVec Ideal S16x256 .bf16) (x5 : FVec Ideal S256x256 .bf16) (x6 x7 : FVec Ideal S256x128 .bf16) (x8 : FVec Ideal S4x256x512 .f32)
    (x9 : FVec Ideal S2x4x16x512 .f32) (d : Fin 64) (k : Fin 2) (r : Fin 128)
    (hkp : ∀ (x : Fin 128) (e : Fin 256), kp (ix2 x e) = keyp x2 x3 ⟨k.val * 128 + x.val, by omega⟩ e)
    (hkc : ∀ (x : Fin 128) (e : Fin 256), kc (ix2 x e) = keyp x2 x3 ⟨k.val * 128 + (128 + x.val), by omega⟩ e)
    (hkm : ∀ (x : Fin 16) (e : Fin 256), km (ix2 x e) = x4 (ix2 x e))
    (hq : ∀ (e : Fin 64) (r : Fin 128), q1 (ix2 e r) = x1 (ix2 ⟨576 + e.val, by omega⟩ ⟨k.val * 128 + r.val, by omega⟩))
    (hs : s1 = x0 (ix1 ⟨9, by omega⟩))
    (hb : ∀ (x : Fin 256) (r : Fin 128), b1 (ix3 0 x r) = x8 (ix3 2 x ⟨128 + r.val, by omega⟩))
    (hm : ∀ (x : Fin 16) (r : Fin 128), m1 (ix4 0 0 x r) = x9 (ix4 k 2 x ⟨128 + r.val, by omega⟩))
    (hvp : ∀ (d : Fin 64) (x : Fin 128), vp (ix2 d x) = valp x5 x6 ⟨128 + d.val, by omega⟩ ⟨k.val * 128 + x.val, by omega⟩)
    (hvc : ∀ (d : Fin 64) (x : Fin 128), vc (ix2 d x) = valp x5 x6 ⟨128 + d.val, by omega⟩ ⟨k.val * 128 + (128 + x.val), by omega⟩)
    (hvl : ∀ (d : Fin 64) (x : Fin 128), v (ix2 d x) = x7 (ix2 ⟨128 + d.val, by omega⟩ x)) :
    fin1 (bok n) (mok n) (st2 (kall kp kc km) (qall q0 q1 q2 q3)) s0 s1 s2 s3 b0 b1 b2 b3 m0 m1 m2 m3 vp vc v (ix2 d r)
      = attn N x0 x1 x2 x3 x4 x5 x6 x7 x8 x9 2 1 d k r := by
  subst hn
  rw [head2_1 N hN]
  have hkey : ∀ (x e : Fin 256), key kp kc x e = keyp x2 x3 ⟨k.val * 128 + x.val, by omega⟩ e := fun x e => by
    unfold key
    by_cases hx : x.val < 128
    · rw [dif_pos hx, hkp]
    · rw [dif_neg hx, hkc]
      exact congrArg (fun z => keyp x2 x3 z e) (Fin.ext (by simp; omega))
  have hval : ∀ x : Fin 256, (if h : x.val < 128 then vp (ix2 d ⟨x.val, h⟩) else vc (ix2 d ⟨x.val - 128, by omega⟩)) = valp x5 x6 ⟨128 + d.val, by omega⟩ ⟨k.val * 128 + x.val, by omega⟩ := fun x => by
    by_cases hx : x.val < 128
    · rw [dif_pos hx, hvp]
    · rw [dif_neg hx, hvc]
      exact congrArg (fun z => valp x5 x6 _ z) (Fin.ext (by simp; omega))
  simp only [hkey, hval, hkm, hq, hs, hb, hm, hvl]
  unfold attn
  rfl

/-- Head 2 stores for its group 2 the attention, where its tiles are those of the blocks. -/
theorem tile2_2 (n : BitVec 32) (N : ℕ) (hn : n = BitVec.ofNat 32 N) (hN : N < 32) (kp kc : FVec Ideal S128x256 .bf16) (km : FVec Ideal S16x256 .bf16) (q0 q1 q2 q3 : FVec Ideal S64x128 .bf16) (s0 s1 s2 s3 : Ideal .f32)
    (b0 b1 b2 b3 : FVec Ideal S1x256x128 .f32) (m0 m1 m2 m3 : FVec Ideal S1x1x16x128 .f32) (vp vc v : FVec Ideal S64x128 .bf16)
    (x0 : FVec Ideal S16 .f32) (x1 : FVec Ideal S1024x256 .bf16) (x2 : FVec Ideal S256x256 .bf16) (x3 : FVec Ideal S128x256 .bf16)
    (x4 : FVec Ideal S16x256 .bf16) (x5 : FVec Ideal S256x256 .bf16) (x6 x7 : FVec Ideal S256x128 .bf16) (x8 : FVec Ideal S4x256x512 .f32)
    (x9 : FVec Ideal S2x4x16x512 .f32) (d : Fin 64) (k : Fin 2) (r : Fin 128)
    (hkp : ∀ (x : Fin 128) (e : Fin 256), kp (ix2 x e) = keyp x2 x3 ⟨k.val * 128 + x.val, by omega⟩ e)
    (hkc : ∀ (x : Fin 128) (e : Fin 256), kc (ix2 x e) = keyp x2 x3 ⟨k.val * 128 + (128 + x.val), by omega⟩ e)
    (hkm : ∀ (x : Fin 16) (e : Fin 256), km (ix2 x e) = x4 (ix2 x e))
    (hq : ∀ (e : Fin 64) (r : Fin 128), q2 (ix2 e r) = x1 (ix2 ⟨640 + e.val, by omega⟩ ⟨k.val * 128 + r.val, by omega⟩))
    (hs : s2 = x0 (ix1 ⟨10, by omega⟩))
    (hb : ∀ (x : Fin 256) (r : Fin 128), b2 (ix3 0 x r) = x8 (ix3 2 x ⟨256 + r.val, by omega⟩))
    (hm : ∀ (x : Fin 16) (r : Fin 128), m2 (ix4 0 0 x r) = x9 (ix4 k 2 x ⟨256 + r.val, by omega⟩))
    (hvp : ∀ (d : Fin 64) (x : Fin 128), vp (ix2 d x) = valp x5 x6 ⟨128 + d.val, by omega⟩ ⟨k.val * 128 + x.val, by omega⟩)
    (hvc : ∀ (d : Fin 64) (x : Fin 128), vc (ix2 d x) = valp x5 x6 ⟨128 + d.val, by omega⟩ ⟨k.val * 128 + (128 + x.val), by omega⟩)
    (hvl : ∀ (d : Fin 64) (x : Fin 128), v (ix2 d x) = x7 (ix2 ⟨128 + d.val, by omega⟩ x)) :
    fin2 (bok n) (mok n) (st2 (kall kp kc km) (qall q0 q1 q2 q3)) s0 s1 s2 s3 b0 b1 b2 b3 m0 m1 m2 m3 vp vc v (ix2 d r)
      = attn N x0 x1 x2 x3 x4 x5 x6 x7 x8 x9 2 2 d k r := by
  subst hn
  rw [head2_2 N hN]
  have hkey : ∀ (x e : Fin 256), key kp kc x e = keyp x2 x3 ⟨k.val * 128 + x.val, by omega⟩ e := fun x e => by
    unfold key
    by_cases hx : x.val < 128
    · rw [dif_pos hx, hkp]
    · rw [dif_neg hx, hkc]
      exact congrArg (fun z => keyp x2 x3 z e) (Fin.ext (by simp; omega))
  have hval : ∀ x : Fin 256, (if h : x.val < 128 then vp (ix2 d ⟨x.val, h⟩) else vc (ix2 d ⟨x.val - 128, by omega⟩)) = valp x5 x6 ⟨128 + d.val, by omega⟩ ⟨k.val * 128 + x.val, by omega⟩ := fun x => by
    by_cases hx : x.val < 128
    · rw [dif_pos hx, hvp]
    · rw [dif_neg hx, hvc]
      exact congrArg (fun z => valp x5 x6 _ z) (Fin.ext (by simp; omega))
  simp only [hkey, hval, hkm, hq, hs, hb, hm, hvl]
  unfold attn
  rfl

/-- Head 2 stores for its group 3 the attention, where its tiles are those of the blocks. -/
theorem tile2_3 (n : BitVec 32) (N : ℕ) (hn : n = BitVec.ofNat 32 N) (hN : N < 32) (kp kc : FVec Ideal S128x256 .bf16) (km : FVec Ideal S16x256 .bf16) (q0 q1 q2 q3 : FVec Ideal S64x128 .bf16) (s0 s1 s2 s3 : Ideal .f32)
    (b0 b1 b2 b3 : FVec Ideal S1x256x128 .f32) (m0 m1 m2 m3 : FVec Ideal S1x1x16x128 .f32) (vp vc v : FVec Ideal S64x128 .bf16)
    (x0 : FVec Ideal S16 .f32) (x1 : FVec Ideal S1024x256 .bf16) (x2 : FVec Ideal S256x256 .bf16) (x3 : FVec Ideal S128x256 .bf16)
    (x4 : FVec Ideal S16x256 .bf16) (x5 : FVec Ideal S256x256 .bf16) (x6 x7 : FVec Ideal S256x128 .bf16) (x8 : FVec Ideal S4x256x512 .f32)
    (x9 : FVec Ideal S2x4x16x512 .f32) (d : Fin 64) (k : Fin 2) (r : Fin 128)
    (hkp : ∀ (x : Fin 128) (e : Fin 256), kp (ix2 x e) = keyp x2 x3 ⟨k.val * 128 + x.val, by omega⟩ e)
    (hkc : ∀ (x : Fin 128) (e : Fin 256), kc (ix2 x e) = keyp x2 x3 ⟨k.val * 128 + (128 + x.val), by omega⟩ e)
    (hkm : ∀ (x : Fin 16) (e : Fin 256), km (ix2 x e) = x4 (ix2 x e))
    (hq : ∀ (e : Fin 64) (r : Fin 128), q3 (ix2 e r) = x1 (ix2 ⟨704 + e.val, by omega⟩ ⟨k.val * 128 + r.val, by omega⟩))
    (hs : s3 = x0 (ix1 ⟨11, by omega⟩))
    (hb : ∀ (x : Fin 256) (r : Fin 128), b3 (ix3 0 x r) = x8 (ix3 2 x ⟨384 + r.val, by omega⟩))
    (hm : ∀ (x : Fin 16) (r : Fin 128), m3 (ix4 0 0 x r) = x9 (ix4 k 2 x ⟨384 + r.val, by omega⟩))
    (hvp : ∀ (d : Fin 64) (x : Fin 128), vp (ix2 d x) = valp x5 x6 ⟨128 + d.val, by omega⟩ ⟨k.val * 128 + x.val, by omega⟩)
    (hvc : ∀ (d : Fin 64) (x : Fin 128), vc (ix2 d x) = valp x5 x6 ⟨128 + d.val, by omega⟩ ⟨k.val * 128 + (128 + x.val), by omega⟩)
    (hvl : ∀ (d : Fin 64) (x : Fin 128), v (ix2 d x) = x7 (ix2 ⟨128 + d.val, by omega⟩ x)) :
    fin3 (bok n) (mok n) (st2 (kall kp kc km) (qall q0 q1 q2 q3)) s0 s1 s2 s3 b0 b1 b2 b3 m0 m1 m2 m3 vp vc v (ix2 d r)
      = attn N x0 x1 x2 x3 x4 x5 x6 x7 x8 x9 2 3 d k r := by
  subst hn
  rw [head2_3 N hN]
  have hkey : ∀ (x e : Fin 256), key kp kc x e = keyp x2 x3 ⟨k.val * 128 + x.val, by omega⟩ e := fun x e => by
    unfold key
    by_cases hx : x.val < 128
    · rw [dif_pos hx, hkp]
    · rw [dif_neg hx, hkc]
      exact congrArg (fun z => keyp x2 x3 z e) (Fin.ext (by simp; omega))
  have hval : ∀ x : Fin 256, (if h : x.val < 128 then vp (ix2 d ⟨x.val, h⟩) else vc (ix2 d ⟨x.val - 128, by omega⟩)) = valp x5 x6 ⟨128 + d.val, by omega⟩ ⟨k.val * 128 + x.val, by omega⟩ := fun x => by
    by_cases hx : x.val < 128
    · rw [dif_pos hx, hvp]
    · rw [dif_neg hx, hvc]
      exact congrArg (fun z => valp x5 x6 _ z) (Fin.ext (by simp; omega))
  simp only [hkey, hval, hkm, hq, hs, hb, hm, hvl]
  unfold attn
  rfl

/-- Head 3 stores for its group 0 the attention, where its tiles are those of the blocks. -/
theorem tile3_0 (n : BitVec 32) (N : ℕ) (hn : n = BitVec.ofNat 32 N) (hN : N < 32) (kp kc : FVec Ideal S128x256 .bf16) (km : FVec Ideal S16x256 .bf16) (q0 q1 q2 q3 : FVec Ideal S64x128 .bf16) (s0 s1 s2 s3 : Ideal .f32)
    (b0 b1 b2 b3 : FVec Ideal S1x256x128 .f32) (m0 m1 m2 m3 : FVec Ideal S1x1x16x128 .f32) (vp vc v : FVec Ideal S64x128 .bf16)
    (x0 : FVec Ideal S16 .f32) (x1 : FVec Ideal S1024x256 .bf16) (x2 : FVec Ideal S256x256 .bf16) (x3 : FVec Ideal S128x256 .bf16)
    (x4 : FVec Ideal S16x256 .bf16) (x5 : FVec Ideal S256x256 .bf16) (x6 x7 : FVec Ideal S256x128 .bf16) (x8 : FVec Ideal S4x256x512 .f32)
    (x9 : FVec Ideal S2x4x16x512 .f32) (d : Fin 64) (k : Fin 2) (r : Fin 128)
    (hkp : ∀ (x : Fin 128) (e : Fin 256), kp (ix2 x e) = keyp x2 x3 ⟨k.val * 128 + x.val, by omega⟩ e)
    (hkc : ∀ (x : Fin 128) (e : Fin 256), kc (ix2 x e) = keyp x2 x3 ⟨k.val * 128 + (128 + x.val), by omega⟩ e)
    (hkm : ∀ (x : Fin 16) (e : Fin 256), km (ix2 x e) = x4 (ix2 x e))
    (hq : ∀ (e : Fin 64) (r : Fin 128), q0 (ix2 e r) = x1 (ix2 ⟨768 + e.val, by omega⟩ ⟨k.val * 128 + r.val, by omega⟩))
    (hs : s0 = x0 (ix1 ⟨12, by omega⟩))
    (hb : ∀ (x : Fin 256) (r : Fin 128), b0 (ix3 0 x r) = x8 (ix3 3 x ⟨0 + r.val, by omega⟩))
    (hm : ∀ (x : Fin 16) (r : Fin 128), m0 (ix4 0 0 x r) = x9 (ix4 k 3 x ⟨0 + r.val, by omega⟩))
    (hvp : ∀ (d : Fin 64) (x : Fin 128), vp (ix2 d x) = valp x5 x6 ⟨192 + d.val, by omega⟩ ⟨k.val * 128 + x.val, by omega⟩)
    (hvc : ∀ (d : Fin 64) (x : Fin 128), vc (ix2 d x) = valp x5 x6 ⟨192 + d.val, by omega⟩ ⟨k.val * 128 + (128 + x.val), by omega⟩)
    (hvl : ∀ (d : Fin 64) (x : Fin 128), v (ix2 d x) = x7 (ix2 ⟨192 + d.val, by omega⟩ x)) :
    fin0 (bok n) (mok n) (st3 (kall kp kc km) (qall q0 q1 q2 q3)) s0 s1 s2 s3 b0 b1 b2 b3 m0 m1 m2 m3 vp vc v (ix2 d r)
      = attn N x0 x1 x2 x3 x4 x5 x6 x7 x8 x9 3 0 d k r := by
  subst hn
  rw [head3_0 N hN]
  have hkey : ∀ (x e : Fin 256), key kp kc x e = keyp x2 x3 ⟨k.val * 128 + x.val, by omega⟩ e := fun x e => by
    unfold key
    by_cases hx : x.val < 128
    · rw [dif_pos hx, hkp]
    · rw [dif_neg hx, hkc]
      exact congrArg (fun z => keyp x2 x3 z e) (Fin.ext (by simp; omega))
  have hval : ∀ x : Fin 256, (if h : x.val < 128 then vp (ix2 d ⟨x.val, h⟩) else vc (ix2 d ⟨x.val - 128, by omega⟩)) = valp x5 x6 ⟨192 + d.val, by omega⟩ ⟨k.val * 128 + x.val, by omega⟩ := fun x => by
    by_cases hx : x.val < 128
    · rw [dif_pos hx, hvp]
    · rw [dif_neg hx, hvc]
      exact congrArg (fun z => valp x5 x6 _ z) (Fin.ext (by simp; omega))
  simp only [hkey, hval, hkm, hq, hs, hb, hm, hvl]
  unfold attn
  rfl

/-- Head 3 stores for its group 1 the attention, where its tiles are those of the blocks. -/
theorem tile3_1 (n : BitVec 32) (N : ℕ) (hn : n = BitVec.ofNat 32 N) (hN : N < 32) (kp kc : FVec Ideal S128x256 .bf16) (km : FVec Ideal S16x256 .bf16) (q0 q1 q2 q3 : FVec Ideal S64x128 .bf16) (s0 s1 s2 s3 : Ideal .f32)
    (b0 b1 b2 b3 : FVec Ideal S1x256x128 .f32) (m0 m1 m2 m3 : FVec Ideal S1x1x16x128 .f32) (vp vc v : FVec Ideal S64x128 .bf16)
    (x0 : FVec Ideal S16 .f32) (x1 : FVec Ideal S1024x256 .bf16) (x2 : FVec Ideal S256x256 .bf16) (x3 : FVec Ideal S128x256 .bf16)
    (x4 : FVec Ideal S16x256 .bf16) (x5 : FVec Ideal S256x256 .bf16) (x6 x7 : FVec Ideal S256x128 .bf16) (x8 : FVec Ideal S4x256x512 .f32)
    (x9 : FVec Ideal S2x4x16x512 .f32) (d : Fin 64) (k : Fin 2) (r : Fin 128)
    (hkp : ∀ (x : Fin 128) (e : Fin 256), kp (ix2 x e) = keyp x2 x3 ⟨k.val * 128 + x.val, by omega⟩ e)
    (hkc : ∀ (x : Fin 128) (e : Fin 256), kc (ix2 x e) = keyp x2 x3 ⟨k.val * 128 + (128 + x.val), by omega⟩ e)
    (hkm : ∀ (x : Fin 16) (e : Fin 256), km (ix2 x e) = x4 (ix2 x e))
    (hq : ∀ (e : Fin 64) (r : Fin 128), q1 (ix2 e r) = x1 (ix2 ⟨832 + e.val, by omega⟩ ⟨k.val * 128 + r.val, by omega⟩))
    (hs : s1 = x0 (ix1 ⟨13, by omega⟩))
    (hb : ∀ (x : Fin 256) (r : Fin 128), b1 (ix3 0 x r) = x8 (ix3 3 x ⟨128 + r.val, by omega⟩))
    (hm : ∀ (x : Fin 16) (r : Fin 128), m1 (ix4 0 0 x r) = x9 (ix4 k 3 x ⟨128 + r.val, by omega⟩))
    (hvp : ∀ (d : Fin 64) (x : Fin 128), vp (ix2 d x) = valp x5 x6 ⟨192 + d.val, by omega⟩ ⟨k.val * 128 + x.val, by omega⟩)
    (hvc : ∀ (d : Fin 64) (x : Fin 128), vc (ix2 d x) = valp x5 x6 ⟨192 + d.val, by omega⟩ ⟨k.val * 128 + (128 + x.val), by omega⟩)
    (hvl : ∀ (d : Fin 64) (x : Fin 128), v (ix2 d x) = x7 (ix2 ⟨192 + d.val, by omega⟩ x)) :
    fin1 (bok n) (mok n) (st3 (kall kp kc km) (qall q0 q1 q2 q3)) s0 s1 s2 s3 b0 b1 b2 b3 m0 m1 m2 m3 vp vc v (ix2 d r)
      = attn N x0 x1 x2 x3 x4 x5 x6 x7 x8 x9 3 1 d k r := by
  subst hn
  rw [head3_1 N hN]
  have hkey : ∀ (x e : Fin 256), key kp kc x e = keyp x2 x3 ⟨k.val * 128 + x.val, by omega⟩ e := fun x e => by
    unfold key
    by_cases hx : x.val < 128
    · rw [dif_pos hx, hkp]
    · rw [dif_neg hx, hkc]
      exact congrArg (fun z => keyp x2 x3 z e) (Fin.ext (by simp; omega))
  have hval : ∀ x : Fin 256, (if h : x.val < 128 then vp (ix2 d ⟨x.val, h⟩) else vc (ix2 d ⟨x.val - 128, by omega⟩)) = valp x5 x6 ⟨192 + d.val, by omega⟩ ⟨k.val * 128 + x.val, by omega⟩ := fun x => by
    by_cases hx : x.val < 128
    · rw [dif_pos hx, hvp]
    · rw [dif_neg hx, hvc]
      exact congrArg (fun z => valp x5 x6 _ z) (Fin.ext (by simp; omega))
  simp only [hkey, hval, hkm, hq, hs, hb, hm, hvl]
  unfold attn
  rfl

/-- Head 3 stores for its group 2 the attention, where its tiles are those of the blocks. -/
theorem tile3_2 (n : BitVec 32) (N : ℕ) (hn : n = BitVec.ofNat 32 N) (hN : N < 32) (kp kc : FVec Ideal S128x256 .bf16) (km : FVec Ideal S16x256 .bf16) (q0 q1 q2 q3 : FVec Ideal S64x128 .bf16) (s0 s1 s2 s3 : Ideal .f32)
    (b0 b1 b2 b3 : FVec Ideal S1x256x128 .f32) (m0 m1 m2 m3 : FVec Ideal S1x1x16x128 .f32) (vp vc v : FVec Ideal S64x128 .bf16)
    (x0 : FVec Ideal S16 .f32) (x1 : FVec Ideal S1024x256 .bf16) (x2 : FVec Ideal S256x256 .bf16) (x3 : FVec Ideal S128x256 .bf16)
    (x4 : FVec Ideal S16x256 .bf16) (x5 : FVec Ideal S256x256 .bf16) (x6 x7 : FVec Ideal S256x128 .bf16) (x8 : FVec Ideal S4x256x512 .f32)
    (x9 : FVec Ideal S2x4x16x512 .f32) (d : Fin 64) (k : Fin 2) (r : Fin 128)
    (hkp : ∀ (x : Fin 128) (e : Fin 256), kp (ix2 x e) = keyp x2 x3 ⟨k.val * 128 + x.val, by omega⟩ e)
    (hkc : ∀ (x : Fin 128) (e : Fin 256), kc (ix2 x e) = keyp x2 x3 ⟨k.val * 128 + (128 + x.val), by omega⟩ e)
    (hkm : ∀ (x : Fin 16) (e : Fin 256), km (ix2 x e) = x4 (ix2 x e))
    (hq : ∀ (e : Fin 64) (r : Fin 128), q2 (ix2 e r) = x1 (ix2 ⟨896 + e.val, by omega⟩ ⟨k.val * 128 + r.val, by omega⟩))
    (hs : s2 = x0 (ix1 ⟨14, by omega⟩))
    (hb : ∀ (x : Fin 256) (r : Fin 128), b2 (ix3 0 x r) = x8 (ix3 3 x ⟨256 + r.val, by omega⟩))
    (hm : ∀ (x : Fin 16) (r : Fin 128), m2 (ix4 0 0 x r) = x9 (ix4 k 3 x ⟨256 + r.val, by omega⟩))
    (hvp : ∀ (d : Fin 64) (x : Fin 128), vp (ix2 d x) = valp x5 x6 ⟨192 + d.val, by omega⟩ ⟨k.val * 128 + x.val, by omega⟩)
    (hvc : ∀ (d : Fin 64) (x : Fin 128), vc (ix2 d x) = valp x5 x6 ⟨192 + d.val, by omega⟩ ⟨k.val * 128 + (128 + x.val), by omega⟩)
    (hvl : ∀ (d : Fin 64) (x : Fin 128), v (ix2 d x) = x7 (ix2 ⟨192 + d.val, by omega⟩ x)) :
    fin2 (bok n) (mok n) (st3 (kall kp kc km) (qall q0 q1 q2 q3)) s0 s1 s2 s3 b0 b1 b2 b3 m0 m1 m2 m3 vp vc v (ix2 d r)
      = attn N x0 x1 x2 x3 x4 x5 x6 x7 x8 x9 3 2 d k r := by
  subst hn
  rw [head3_2 N hN]
  have hkey : ∀ (x e : Fin 256), key kp kc x e = keyp x2 x3 ⟨k.val * 128 + x.val, by omega⟩ e := fun x e => by
    unfold key
    by_cases hx : x.val < 128
    · rw [dif_pos hx, hkp]
    · rw [dif_neg hx, hkc]
      exact congrArg (fun z => keyp x2 x3 z e) (Fin.ext (by simp; omega))
  have hval : ∀ x : Fin 256, (if h : x.val < 128 then vp (ix2 d ⟨x.val, h⟩) else vc (ix2 d ⟨x.val - 128, by omega⟩)) = valp x5 x6 ⟨192 + d.val, by omega⟩ ⟨k.val * 128 + x.val, by omega⟩ := fun x => by
    by_cases hx : x.val < 128
    · rw [dif_pos hx, hvp]
    · rw [dif_neg hx, hvc]
      exact congrArg (fun z => valp x5 x6 _ z) (Fin.ext (by simp; omega))
  simp only [hkey, hval, hkm, hq, hs, hb, hm, hvl]
  unfold attn
  rfl

/-- Head 3 stores for its group 3 the attention, where its tiles are those of the blocks. -/
theorem tile3_3 (n : BitVec 32) (N : ℕ) (hn : n = BitVec.ofNat 32 N) (hN : N < 32) (kp kc : FVec Ideal S128x256 .bf16) (km : FVec Ideal S16x256 .bf16) (q0 q1 q2 q3 : FVec Ideal S64x128 .bf16) (s0 s1 s2 s3 : Ideal .f32)
    (b0 b1 b2 b3 : FVec Ideal S1x256x128 .f32) (m0 m1 m2 m3 : FVec Ideal S1x1x16x128 .f32) (vp vc v : FVec Ideal S64x128 .bf16)
    (x0 : FVec Ideal S16 .f32) (x1 : FVec Ideal S1024x256 .bf16) (x2 : FVec Ideal S256x256 .bf16) (x3 : FVec Ideal S128x256 .bf16)
    (x4 : FVec Ideal S16x256 .bf16) (x5 : FVec Ideal S256x256 .bf16) (x6 x7 : FVec Ideal S256x128 .bf16) (x8 : FVec Ideal S4x256x512 .f32)
    (x9 : FVec Ideal S2x4x16x512 .f32) (d : Fin 64) (k : Fin 2) (r : Fin 128)
    (hkp : ∀ (x : Fin 128) (e : Fin 256), kp (ix2 x e) = keyp x2 x3 ⟨k.val * 128 + x.val, by omega⟩ e)
    (hkc : ∀ (x : Fin 128) (e : Fin 256), kc (ix2 x e) = keyp x2 x3 ⟨k.val * 128 + (128 + x.val), by omega⟩ e)
    (hkm : ∀ (x : Fin 16) (e : Fin 256), km (ix2 x e) = x4 (ix2 x e))
    (hq : ∀ (e : Fin 64) (r : Fin 128), q3 (ix2 e r) = x1 (ix2 ⟨960 + e.val, by omega⟩ ⟨k.val * 128 + r.val, by omega⟩))
    (hs : s3 = x0 (ix1 ⟨15, by omega⟩))
    (hb : ∀ (x : Fin 256) (r : Fin 128), b3 (ix3 0 x r) = x8 (ix3 3 x ⟨384 + r.val, by omega⟩))
    (hm : ∀ (x : Fin 16) (r : Fin 128), m3 (ix4 0 0 x r) = x9 (ix4 k 3 x ⟨384 + r.val, by omega⟩))
    (hvp : ∀ (d : Fin 64) (x : Fin 128), vp (ix2 d x) = valp x5 x6 ⟨192 + d.val, by omega⟩ ⟨k.val * 128 + x.val, by omega⟩)
    (hvc : ∀ (d : Fin 64) (x : Fin 128), vc (ix2 d x) = valp x5 x6 ⟨192 + d.val, by omega⟩ ⟨k.val * 128 + (128 + x.val), by omega⟩)
    (hvl : ∀ (d : Fin 64) (x : Fin 128), v (ix2 d x) = x7 (ix2 ⟨192 + d.val, by omega⟩ x)) :
    fin3 (bok n) (mok n) (st3 (kall kp kc km) (qall q0 q1 q2 q3)) s0 s1 s2 s3 b0 b1 b2 b3 m0 m1 m2 m3 vp vc v (ix2 d r)
      = attn N x0 x1 x2 x3 x4 x5 x6 x7 x8 x9 3 3 d k r := by
  subst hn
  rw [head3_3 N hN]
  have hkey : ∀ (x e : Fin 256), key kp kc x e = keyp x2 x3 ⟨k.val * 128 + x.val, by omega⟩ e := fun x e => by
    unfold key
    by_cases hx : x.val < 128
    · rw [dif_pos hx, hkp]
    · rw [dif_neg hx, hkc]
      exact congrArg (fun z => keyp x2 x3 z e) (Fin.ext (by simp; omega))
  have hval : ∀ x : Fin 256, (if h : x.val < 128 then vp (ix2 d ⟨x.val, h⟩) else vc (ix2 d ⟨x.val - 128, by omega⟩)) = valp x5 x6 ⟨192 + d.val, by omega⟩ ⟨k.val * 128 + x.val, by omega⟩ := fun x => by
    by_cases hx : x.val < 128
    · rw [dif_pos hx, hvp]
    · rw [dif_neg hx, hvc]
      exact congrArg (fun z => valp x5 x6 _ z) (Fin.ext (by simp; omega))
  simp only [hkey, hval, hkm, hq, hs, hb, hm, hvl]
  unfold attn
  rfl

end Cert.MixerIdeal.Att
-- ==== Proof.AttEq.lean ====
/- The kernel's attention of a grid point against the reference's, where the point's blocks are those of the arrays. -/
module

public import proofs.«01_k».proof.Proof.AttAt
public import proofs.«01_k».proof.Proof.Tile

@[expose] public section

set_option maxRecDepth 16384

noncomputable section

namespace Cert.AttentionIdeal.Ref

open Idealize.ShloMosaic Idealize.ShloMosaic.TcCoe
open Cert.AttentionIdeal Cert.AttentionIdeal.Gen

variable (x0 : FVec Ideal S16 .f32) (x1 : FVec Ideal S1280x4096 .bf16) (x2 : FVec Ideal S4096x256 .bf16) (x3 : FVec Ideal S128x256 .bf16)
  (x4 : FVec Ideal S1280x128 .bf16) (x5 : FVec Ideal S4x256x512 .f32) (x6 : FVec Ideal S32x4x16x512 .f32)

/-- The arrays the logits are made of are finite where they are read. -/
structure Finite : Prop where
  sink : ∀ i, Soft.Fin' (x0 (ix1 i))
  query : ∀ (i : Fin 1024) (j : Fin 4096), Soft.Fin' (x1 (ix2 ⟨i.val, by omega⟩ j))
  key : ∀ (i : Fin 4096) (j : Fin 256), Soft.Fin' (x2 (ix2 i j))
  mkey : ∀ (i : Fin 16) (j : Fin 256), Soft.Fin' (x3 (ix2 ⟨112 + i.val, by omega⟩ j))
  band : ∀ (h : Fin 4) (x : Fin 256) (y : Fin 512), Soft.Fin' (x5 (ix3 h x y))
  lead : ∀ (b : Fin 32) (h : Fin 4) (x : Fin 16) (y : Fin 512), Soft.Fin' (x6 (ix4 b h x y))

/-- Key `j` of the band of block `b`. -/
theorem BK_at (b : Fin 32) (j : Fin 256) (h : Fin 4) (e : Fin 64) :
    BAND (K x2 x3) (ix4 b j h e) = gkey x2 x3 ⟨b.val * 128 + j.val, by omega⟩ ⟨h.val * 64 + e.val, by omega⟩ := by
  rw [BAND_at]
  split
  · rw [K_at]
  · rw [K_at]
    exact congrArg (gkey x2 x3 · _) (Fin.ext (by simp only; omega))

/-- Value `j` of the band of block `b`. -/
theorem BV_at (b : Fin 32) (j : Fin 256) (h : Fin 4) (e : Fin 64) :
    BAND (V x1 x4) (ix4 b j h e) = gval x1 x4 ⟨h.val * 64 + e.val, by omega⟩ ⟨b.val * 128 + j.val, by omega⟩ := by
  rw [BAND_at]
  split
  · rw [V_at]
  · rw [V_at]
    exact congrArg (gval x1 x4 _ ·) (Fin.ext (by simp only; omega))

/-- Meta key `s`. -/
theorem MK_at (s : Fin 16) (h : Fin 4) (e : Fin 64) : META (K x2 x3) (ix3 s h e) = x3 (ix2 ⟨112 + s.val, by omega⟩ ⟨h.val * 64 + e.val, by omega⟩) := by
  rw [META_at, K_at, gkey, dif_pos (by simp only [Fin.val_zero]; omega)]
  exact congrArg (fun p => x3 (ix2 p _)) (Fin.ext (by simp only [Fin.val_zero]; omega))

/-- Meta value `s`. -/
theorem MV_at (s : Fin 16) (h : Fin 4) (e : Fin 64) :
    META (V x1 x4) (ix3 s h e) = x4 (ix2 ⟨1024 + (h.val * 64 + e.val), by omega⟩ ⟨112 + s.val, by omega⟩) := by
  rw [META_at, V_at, gval, dif_pos (by simp only [Fin.val_zero]; omega)]
  exact congrArg (fun p => x4 (ix2 _ p)) (Fin.ext (by simp only [Fin.val_zero]; omega))

/-- The band's scores: the logits over ln 2. -/
def RX (b : Fin 32) (h g : Fin 4) (r : Fin 128) (j : Fin 256) : EReal :=
  if j.val ≤ r.val + 128 ∧ r.val < j.val ∧ (128 ≤ j.val ∨ 1 ≤ b.val) then
    (∑ e : Fin 64, gkey x2 x3 ⟨b.val * 128 + j.val, by omega⟩ ⟨h.val * 64 + e.val, by omega⟩ * x1 (ix2 ⟨h.val * 256 + g.val * 64 + e.val, by omega⟩ ⟨b.val * 128 + r.val, by omega⟩))
      + x5 (ix3 h j ⟨g.val * 128 + r.val, by omega⟩) else ⊥

/-- The meta rows' scores: the logits over ln 2. -/
def RY (b : Fin 32) (h g : Fin 4) (r : Fin 128) (j : Fin 16) : EReal :=
  (∑ e : Fin 64, x3 (ix2 ⟨112 + j.val, by omega⟩ ⟨h.val * 64 + e.val, by omega⟩) * x1 (ix2 ⟨h.val * 256 + g.val * 64 + e.val, by omega⟩ ⟨b.val * 128 + r.val, by omega⟩))
      + x6 (ix4 b h j ⟨g.val * 128 + r.val, by omega⟩)

/-- The band's logits are its scores times ln 2. -/
theorem LX (b : Fin 32) (h g : Fin 4) (r : Fin 128) (j : Fin 256) :
    LL x1 x2 x3 x5 x6 (ix5 b h g r ⟨j.val, by omega⟩) = RX x1 x2 x3 x5 b h g r j * Soft.ln2 := by
  rw [LL, L_lo, RX]
  split
  · rw [SB_at, ln2_val]
    simp only [BK_at, Q_at]
  · exact (EReal.bot_mul_coe_of_pos Soft.log2_pos).symm

/-- The meta rows' logits are their scores times ln 2. -/
theorem LY (b : Fin 32) (h g : Fin 4) (r : Fin 128) (j : Fin 16) :
    LL x1 x2 x3 x5 x6 (ix5 b h g r ⟨256 + j.val, by omega⟩) = RY x1 x3 x6 b h g r j * Soft.ln2 := by
  rw [LL, L_hi, RY, SM_at, ln2_val]
  simp only [MK_at, Q_at]

variable {x0 x1 x2 x3 x4 x5 x6}

/-- The band's scores are below `⊤`. -/
theorem RX_ne_top (F : Finite x0 x1 x2 x3 x5 x6) (b : Fin 32) (h g : Fin 4) (r : Fin 128) (j : Fin 256) : RX x1 x2 x3 x5 b h g r j ≠ ⊤ := by
  unfold RX
  split
  · rename_i hh
    refine ((Soft.Fin'.sum fun e => Soft.Fin'.mul ?_ (F.query ⟨h.val * 256 + g.val * 64 + e.val, by omega⟩ _)).add (F.band _ _ _)).1
    unfold gkey
    rw [dif_neg (by simp only; omega)]
    exact F.key _ _
  · exact bot_ne_top

/-- The meta rows' scores are finite. -/
theorem RY_fin (F : Finite x0 x1 x2 x3 x5 x6) (b : Fin 32) (h g : Fin 4) (r : Fin 128) (j : Fin 16) : Soft.Fin' (RY x1 x3 x6 b h g r j) :=
  (Soft.Fin'.sum fun e => Soft.Fin'.mul (F.mkey _ _) (F.query ⟨h.val * 256 + g.val * 64 + e.val, by omega⟩ _)).add (F.lead _ _ _ _)

/-- A score below `⊤` times ln 2 is below `⊤`. -/
theorem mul_ln2_ne_top {x : EReal} (hx : x ≠ ⊤) : x * Soft.ln2 ≠ ⊤ := by
  induction x with
  | bot => rw [EReal.bot_mul_coe_of_pos Soft.log2_pos]; exact bot_ne_top
  | coe x => exact ((Soft.fin_iff.2 ⟨x, rfl⟩ : Soft.Fin' (x : EReal)).mul (Soft.fin_iff.2 ⟨_, rfl⟩)).1
  | top => exact absurd rfl hx

/-- Every logit is below `⊤`. -/
theorem LL_ne_top (F : Finite x0 x1 x2 x3 x5 x6) (i) : LL x1 x2 x3 x5 x6 i ≠ ⊤ := by
  idx_vars i
  rcases Nat.lt_or_ge i4.val 256 with h | h
  · rw [show i4 = ⟨(⟨i4.val, h⟩ : Fin 256).val, by omega⟩ from rfl, LX]
    exact mul_ln2_ne_top (RX_ne_top F _ _ _ _ _)
  · rw [show i4 = ⟨256 + (⟨i4.val - 256, by omega⟩ : Fin 16).val, by omega⟩ from Fin.ext (by simp only; omega), LY]
    exact mul_ln2_ne_top (RY_fin F _ _ _ _ _).1

end Cert.AttentionIdeal.Ref

namespace Cert.MixerIdeal.Att

open Cert.MixerIdeal Cert.MixerIdeal.Gen
open Idealize.ShloMosaic Idealize.ShloMosaic.TcCoe
open Cert.AttentionIdeal (Ref.ATT Ref.LL Ref.SINK Ref.V Ref.Finite)

/-- The attention of a grid point is the reference's. -/
theorem attn_eq (t : ℕ) (ht : t < 16) (a0 : FVec Ideal S16 .f32) (a1 : FVec Ideal S1280x4096 .bf16) (a2 : FVec Ideal S4096x256 .bf16) (a3 : FVec Ideal S128x256 .bf16)
    (a4 : FVec Ideal S1280x128 .bf16) (a5 : FVec Ideal S4x256x512 .f32) (a6 : FVec Ideal S32x4x16x512 .f32) (F : AttentionIdeal.Ref.Finite a0 a1 a2 a3 a5 a6)
    (x0 : FVec Ideal S16 .f32) (x1 : FVec Ideal S1024x256 .bf16) (x2 : FVec Ideal S256x256 .bf16) (x3 : FVec Ideal S128x256 .bf16)
    (x4 : FVec Ideal S16x256 .bf16) (x5 : FVec Ideal S256x256 .bf16) (x6 x7 : FVec Ideal S256x128 .bf16) (x8 : FVec Ideal S4x256x512 .f32)
    (x9 : FVec Ideal S2x4x16x512 .f32)
    (e0 : ∀ i, x0 (ix1 i) = a0 (ix1 i))
    (e1 : ∀ (i : Fin 1024) (j : Fin 256), x1 (ix2 i j) = a1 (ix2 ⟨i.val, by omega⟩ ⟨t * 256 + j.val, by omega⟩))
    (e2 : ∀ (i j : Fin 256), x2 (ix2 i j) = a2 (ix2 ⟨t * 256 + i.val, by omega⟩ j))
    (e3 : ∀ (i : Fin 128) (j : Fin 256), x3 (ix2 i j) = a2 (ix2 ⟨(2 * t - 1) * 128 + i.val, by omega⟩ j))
    (e4 : ∀ (i : Fin 16) (j : Fin 256), x4 (ix2 i j) = a3 (ix2 ⟨112 + i.val, by omega⟩ j))
    (e5 : ∀ (i j : Fin 256), x5 (ix2 i j) = a1 (ix2 ⟨1024 + i.val, by omega⟩ ⟨t * 256 + j.val, by omega⟩))
    (e6 : ∀ (i : Fin 256) (j : Fin 128), x6 (ix2 i j) = a1 (ix2 ⟨1024 + i.val, by omega⟩ ⟨(2 * t - 1) * 128 + j.val, by omega⟩))
    (e7 : ∀ (i : Fin 256) (j : Fin 128), x7 (ix2 i j) = a4 (ix2 ⟨1024 + i.val, by omega⟩ j))
    (e8 : ∀ (h : Fin 4) (x : Fin 256) (y : Fin 512), x8 (ix3 h x y) = a5 (ix3 h x y))
    (e9 : ∀ (k : Fin 2) (h : Fin 4) (x : Fin 16) (y : Fin 512), x9 (ix4 k h x y) = a6 (ix4 ⟨2 * t + k.val, by omega⟩ h x y))
    (h g : Fin 4) (d : Fin 64) (k : Fin 2) (r : Fin 128) (row : Fin 1024) (col : Fin 4096)
    (hr : row.val = h.val * 256 + g.val * 64 + d.val) (hc : col.val = (2 * t + k.val) * 128 + r.val) :
    attn (2 * t + k.val) x0 x1 x2 x3 x4 x5 x6 x7 x8 x9 h g d k r =
      AttentionIdeal.Ref.ATT (AttentionIdeal.Ref.LL a1 a2 a3 a5 a6) (AttentionIdeal.Ref.SINK a0) (AttentionIdeal.Ref.V a1 a4) (ix2 row col) := by
  have hb : 2 * t + k.val < 32 := by omega
  have hX : (fun x : Fin 256 => if sees (2 * t + k.val) x r then (∑ e : Fin 64, keyp x2 x3 ⟨k.val * 128 + x.val, by omega⟩ ⟨h.val * 64 + e.val, by omega⟩ *
        x1 (ix2 ⟨h.val * 256 + g.val * 64 + e.val, by omega⟩ ⟨k.val * 128 + r.val, by omega⟩)) + x8 (ix3 h x ⟨g.val * 128 + r.val, by omega⟩) else ⊥)
      = AttentionIdeal.Ref.RX a1 a2 a3 a5 ⟨2 * t + k.val, hb⟩ h g r := by
    funext x
    unfold AttentionIdeal.Ref.RX
    by_cases hs : sees (2 * t + k.val) x r
    · rw [if_pos hs, if_pos hs, e8]
      refine congrArg (· + _) (Finset.sum_congr rfl fun e _ => ?_)
      rw [e1]
      refine congrArg₂ (· * ·) ?_ (congrArg (fun p => a1 (ix2 _ p)) (Fin.ext (by simp only; omega)))
      obtain ⟨h1, h2, h3⟩ := hs
      unfold keyp AttentionIdeal.Ref.gkey
      rw [dif_neg (show ¬(2 * t + k.val) * 128 + x.val < 128 by omega)]
      split
      · rename_i hp
        change k.val * 128 + x.val < 128 at hp
        rw [e3]
        exact congrArg (fun p => a2 (ix2 p _)) (Fin.ext (by change (2 * t - 1) * 128 + (k.val * 128 + x.val) = (2 * t + k.val) * 128 + x.val - 128; omega))
      · rename_i hp
        change ¬k.val * 128 + x.val < 128 at hp
        rw [e2]
        exact congrArg (fun p => a2 (ix2 p _)) (Fin.ext (by change t * 256 + (k.val * 128 + x.val - 128) = (2 * t + k.val) * 128 + x.val - 128; omega))
    · rw [if_neg hs, if_neg hs]
  have hY : (fun x : Fin 16 => (∑ e : Fin 64, x4 (ix2 x ⟨h.val * 64 + e.val, by omega⟩) *
        x1 (ix2 ⟨h.val * 256 + g.val * 64 + e.val, by omega⟩ ⟨k.val * 128 + r.val, by omega⟩)) + x9 (ix4 k h x ⟨g.val * 128 + r.val, by omega⟩))
      = AttentionIdeal.Ref.RY a1 a3 a6 ⟨2 * t + k.val, hb⟩ h g r := by
    funext x
    unfold AttentionIdeal.Ref.RY
    rw [e9]
    refine congrArg (· + _) (Finset.sum_congr rfl fun e _ => ?_)
    rw [e4, e1]
    exact congrArg (_ * ·) (congrArg (fun p => a1 (ix2 _ p)) (Fin.ext (by simp only; omega)))
  unfold attn
  rw [hX, hY, e0]
  obtain ⟨m', hm', e⟩ := AttentionIdeal.Ref.ATT_at (AttentionIdeal.Ref.LL a1 a2 a3 a5 a6) (AttentionIdeal.Ref.SINK a0) (AttentionIdeal.Ref.V a1 a4)
    (AttentionIdeal.Ref.LL_ne_top F) ⟨2 * t + k.val, hb⟩ h g d r row col hr hc _ (AttentionIdeal.Ref.SINK_at a0 _ h g r) (F.sink _) _ _
    (AttentionIdeal.Ref.LX a1 a2 a3 a5 a6 ⟨2 * t + k.val, hb⟩ h g r) (AttentionIdeal.Ref.LY a1 a2 a3 a5 a6 ⟨2 * t + k.val, hb⟩ h g r)
  rw [e]
  simp only [AttentionIdeal.Ref.BV_at, AttentionIdeal.Ref.MV_at, e7]
  unfold wavg
  refine Soft.soft _ _ _ _ m' _ _ _ (AttentionIdeal.Ref.RX_ne_top F _ _ _ _) (fun j => (AttentionIdeal.Ref.RY_fin F _ _ _ _ j).1) (F.sink _) ?_ hm' (fun x hx => ?_)
  · refine Soft.fin_max (Soft.max_ne_top ?_ ?_) ((F.sink _).mul (Soft.fin_iff.2 ⟨_, rfl⟩))
    · unfold top; rw [AttentionIdeal.Ref.neg_inf]; exact Soft.fold_ne_top (AttentionIdeal.Ref.RX_ne_top F _ _ _ _)
    · unfold top; rw [AttentionIdeal.Ref.neg_inf]; exact Soft.fold_ne_top fun j => (AttentionIdeal.Ref.RY_fin F _ _ _ _ j).1
  · unfold AttentionIdeal.Ref.RX at hx
    split at hx
    · rename_i hs
      obtain ⟨h1, h2, h3⟩ := hs
      simp only at h3
      unfold valp AttentionIdeal.Ref.gval
      rw [dif_neg (show ¬(2 * t + k.val) * 128 + x.val < 128 by omega)]
      split
      · rename_i hp
        change k.val * 128 + x.val < 128 at hp
        rw [e6]
        exact congrArg (fun p => a1 (ix2 _ p)) (Fin.ext (by change (2 * t - 1) * 128 + (k.val * 128 + x.val) = (2 * t + k.val) * 128 + x.val - 128; omega))
      · rename_i hp
        change ¬k.val * 128 + x.val < 128 at hp
        rw [e5]
        exact congrArg (fun p => a1 (ix2 _ p)) (Fin.ext (by change t * 256 + (k.val * 128 + x.val - 128) = (2 * t + k.val) * 128 + x.val - 128; omega))
    · exact absurd rfl hx

end Cert.MixerIdeal.Att
-- ==== Proof.Store.lean ====
module

public import proofs.«01_k».proof.Proof.MixFrameIdeal
public import proofs.«01_k».proof.Proof.Tile
public import Idealize.ShloMosaic.Lib.WholeRead

@[expose] public section

/-! What the attention's window holds after a grid point, as a function of the point's blocks. -/

set_option maxRecDepth 16384

noncomputable section

namespace Cert.MixerIdeal.Att

open Cert.MixerIdeal Cert.MixerIdeal.Gen
open Idealize.ShloMosaic Idealize.ShloMosaic.TcCoe Idealize.SL.Sem

variable (m : (ℓ : Loc nD τ sig) → Buf (Elt Ideal) ℓ)

/-- The attention of a row and lane of grid point `t`, from the point's blocks. -/
def attp (c : Dev nD) (t : Fin cfg0.N) (h g : Fin 4) (d : Fin 64) (k : Fin 2) (r : Fin 128) : EReal :=
  attn (2 * t.val + k.val) (iblk m c 0 t) (X0_1 m c t) (iblk m c 2 t) (iblk m c 3 t) (iblk m c 4 t) (iblk m c 5 t) (iblk m c 6 t) (iblk m c 7 t) (iblk m c 8 t) (iblk m c 9 t) h g d k r

/-- What the attention's window holds after grid point `t`. -/
def S (c : Dev nD) (t : Fin cfg0.N) : Vec Ideal S1024x256 .bf16 := fun y =>
  attp m c t ⟨(y 0).val / 256, by have : (y 0).val < 1024 := (y 0).isLt; omega⟩ ⟨(y 0).val / 64 % 4, by omega⟩ ⟨(y 0).val % 64, by omega⟩
    ⟨(y 1).val / 128, by have : (y 1).val < 256 := (y 1).isLt; omega⟩ ⟨(y 1).val % 128, by omega⟩

/-- The window at a row and column given by head, group and lane, and by block and row. -/
theorem S_at (c : Dev nD) (t : Fin cfg0.N) (y : S1024x256.Idx) (h g : Fin 4) (d : Fin 64) (k : Fin 2) (r : Fin 128)
    (h0 : (y 0).val = h.val * 256 + g.val * 64 + d.val) (h1 : (y 1).val = k.val * 128 + r.val) : S m c t y = attp m c t h g d k r := by
  unfold S
  have e1 : (⟨(y 0).val / 256, by have : (y 0).val < 1024 := (y 0).isLt; omega⟩ : Fin 4) = h := Fin.ext (by simp only; omega)
  have e2 : (⟨(y 0).val / 64 % 4, by omega⟩ : Fin 4) = g := Fin.ext (by simp only; omega)
  have e3 : (⟨(y 0).val % 64, by omega⟩ : Fin 64) = d := Fin.ext (by simp only; omega)
  have e4 : (⟨(y 1).val / 128, by have : (y 1).val < 256 := (y 1).isLt; omega⟩ : Fin 2) = k := Fin.ext (by simp only; omega)
  have e5 : (⟨(y 1).val % 128, by omega⟩ : Fin 128) = r := Fin.ext (by simp only; omega)
  rw [e1, e2, e3, e4, e5]

/-- The number of the first block of grid point `t`, as the kernel's words compute it. -/
abbrev blk0 (t : Fin grid0.N) : BitVec 32 := Scalar.subi (Scalar.addi (Scalar.addi (Scalar.muli 2#32 (BitVec.ofNat 32 ((grid0.coords t) 0).val)) 1#32) 0#32) 1#32
/-- The number of the second block. -/
abbrev blk1 (t : Fin grid0.N) : BitVec 32 := Scalar.subi (Scalar.addi (Scalar.addi (Scalar.muli 2#32 (BitVec.ofNat 32 ((grid0.coords t) 0).val)) 1#32) 1#32) 1#32

theorem blk0_eq : ∀ t : Fin grid0.N, blk0 t = BitVec.ofNat 32 (2 * t.val + 0) := by decide +kernel
theorem blk1_eq : ∀ t : Fin grid0.N, blk1 t = BitVec.ofNat 32 (2 * t.val + 1) := by decide +kernel

/-- A unit rectangle starts at its offsets. -/
theorem unit_off {s : Shape} (off size : Fin s.rank → ℕ) (h) (a : Fin s.rank) : (Rect.unit (s := s) off size h).off a = off a := rfl
/-- A unit rectangle steps by one. -/
theorem unit_stride {s : Shape} (off size : Fin s.rank → ℕ) (h) (a : Fin s.rank) : (Rect.unit (s := s) off size h).stride a = 1 := rfl

/-- There are sixteen grid points. -/
theorem lt16 (t : Fin cfg0.N) : t.val < 16 := t.isLt

end Cert.MixerIdeal.Att
-- ==== Proof.AttVal.lean ====
/- The attention's array after the run is the reference's. -/
module

public import proofs.«01_k».proof.Proof.AttEq
public import proofs.«01_k».proof.Proof.Store
public import Idealize.ShloMosaic.Lib.Pipeline.ValueKit

@[expose] public section

set_option maxRecDepth 16384

noncomputable section

namespace Cert.MixerIdeal.Att

open Cert.MixerIdeal Cert.MixerIdeal.Gen
open Idealize.ShloMosaic Idealize.ShloMosaic.TcCoe Idealize.SL.Sem

variable (m : (ℓ : Loc nD τ sig) → Buf (Elt Ideal) ℓ)

/-- Where each window sits at each grid point. -/
theorem idx : ∀ t : Fin cfg0.N, win0_0.index t = ![0] ∧ win0_1.index t = ![0, t.val] ∧
    win0_2.index t = ![t.val, 0] ∧ win0_3.index t = ![2 * t.val - 1, 0] ∧ win0_4.index t = ![7, 0] ∧
    win0_5.index t = ![4, t.val] ∧ win0_6.index t = ![4, 2 * t.val - 1] ∧ win0_7.index t = ![4, 0] ∧
    win0_8.index t = ![0, 0, 0] ∧ win0_9.index t = ![t.val, 0, 0, 0] ∧ win0_23.index t = ![0, t.val] :=
  (by decide +kernel : ∀ t : Fin grid0.N, _)

/-- The sinks at a grid point. -/
theorem b0 (c : Dev nD) (t : Fin cfg0.N) (i : Fin 16) : iblk m c 0 t (ix1 i) = m ((c : Thread nD τ).loc main_arg0) (ix1 i) := by
  blk_point [iblk, V, idx t]

/-- The queries at a grid point. -/
theorem b1 (c : Dev nD) (t : Fin cfg0.N) (i : Fin 1024) (j : Fin 256) :
    X0_1 m c t (ix2 i j) = m ((c : Thread nD τ).loc main_arg1) (ix2 ⟨i.val, by omega⟩ ⟨t.val * 256 + j.val, by have := lt16 t; omega⟩) := by
  unfold X0_1 Pipeline.Window.fill
  rw [dif_pos (moved0_1 t _)]
  blk_point [iblk, V, idx t]

/-- The keys at a grid point. -/
theorem b2 (c : Dev nD) (t : Fin cfg0.N) (i j : Fin 256) :
    iblk m c 2 t (ix2 i j) = m ((c : Thread nD τ).loc main_arg2) (ix2 ⟨t.val * 256 + i.val, by have := lt16 t; omega⟩ j) := by
  blk_point [iblk, V, idx t]

/-- The keys of the block before a grid point. -/
theorem b3 (c : Dev nD) (t : Fin cfg0.N) (i : Fin 128) (j : Fin 256) :
    iblk m c 3 t (ix2 i j) = m ((c : Thread nD τ).loc main_arg2) (ix2 ⟨(2 * t.val - 1) * 128 + i.val, by have := lt16 t; omega⟩ j) := by
  blk_point [iblk, V, idx t]

/-- The meta keys at a grid point. -/
theorem b4 (c : Dev nD) (t : Fin cfg0.N) (i : Fin 16) (j : Fin 256) :
    iblk m c 4 t (ix2 i j) = m ((c : Thread nD τ).loc main_arg3) (ix2 ⟨112 + i.val, by omega⟩ j) := by
  blk_point [iblk, V, idx t]

/-- The values at a grid point. -/
theorem b5 (c : Dev nD) (t : Fin cfg0.N) (i j : Fin 256) :
    iblk m c 5 t (ix2 i j) = m ((c : Thread nD τ).loc main_arg1) (ix2 ⟨1024 + i.val, by omega⟩ ⟨t.val * 256 + j.val, by have := lt16 t; omega⟩) := by
  blk_point [iblk, V, idx t]

/-- The values of the block before a grid point. -/
theorem b6 (c : Dev nD) (t : Fin cfg0.N) (i : Fin 256) (j : Fin 128) :
    iblk m c 6 t (ix2 i j) = m ((c : Thread nD τ).loc main_arg1) (ix2 ⟨1024 + i.val, by omega⟩ ⟨(2 * t.val - 1) * 128 + j.val, by have := lt16 t; omega⟩) := by
  blk_point [iblk, V, idx t]

/-- The lead block's values at a grid point. -/
theorem b7 (c : Dev nD) (t : Fin cfg0.N) (i : Fin 256) (j : Fin 128) :
    iblk m c 7 t (ix2 i j) = m ((c : Thread nD τ).loc main_arg4) (ix2 ⟨1024 + i.val, by omega⟩ j) := by
  blk_point [iblk, V, idx t]

/-- The band's bias at a grid point. -/
theorem b8 (c : Dev nD) (t : Fin cfg0.N) (h : Fin 4) (x : Fin 256) (y : Fin 512) :
    iblk m c 8 t (ix3 h x y) = m ((c : Thread nD τ).loc main_arg5) (ix3 h x y) := by
  blk_point [iblk, V, idx t]

/-- The meta keys' bias at a grid point. -/
theorem b9 (c : Dev nD) (t : Fin cfg0.N) (k : Fin 2) (h : Fin 4) (x : Fin 16) (y : Fin 512) :
    iblk m c 9 t (ix4 k h x y) = m ((c : Thread nD τ).loc main_arg6) (ix4 ⟨2 * t.val + k.val, by have := lt16 t; omega⟩ h x y) := by
  blk_point [iblk, V, idx t]

/-- The reference's attention on the arguments of the kernel. -/
abbrev AR (c : Dev nD) : FVec Ideal S1024x4096 .bf16 :=
  AttentionIdeal.Ref.ATT
    (AttentionIdeal.Ref.LL (m ((c : Thread nD τ).loc main_arg1)) (m ((c : Thread nD τ).loc main_arg2)) (m ((c : Thread nD τ).loc main_arg3))
      (m ((c : Thread nD τ).loc main_arg5)) (m ((c : Thread nD τ).loc main_arg6)))
    (AttentionIdeal.Ref.SINK (m ((c : Thread nD τ).loc main_arg0)))
    (AttentionIdeal.Ref.V (m ((c : Thread nD τ).loc main_arg1)) (m ((c : Thread nD τ).loc main_arg4)))

/-- After the run the attention's array is the reference's. -/
theorem final23 (c : Dev nD)
    (F : AttentionIdeal.Ref.Finite (m ((c : Thread nD τ).loc main_arg0)) (m ((c : Thread nD τ).loc main_arg1)) (m ((c : Thread nD τ).loc main_arg2))
      (m ((c : Thread nD τ).loc main_arg3)) (m ((c : Thread nD τ).loc main_arg5)) (m ((c : Thread nD τ).loc main_arg6))) :
    (dats m (S m) 0 c).arrAt 23 cfg0.N = AR m c := by
  refine (dats m (S m) 0 c).arrAt_eq_of_covers 23 _ (by decide +kernel) fun t _ y => ?_
  idx_vars y
  have ht := lt16 t
  rw [show ((cfg0.win 23).blk t).view.emb (ix2 y0 y1) = ix2 y0 ⟨t.val * 256 + y1.val, by omega⟩ by blk_ext [idx t]]
  blk_simp
  rw [after_23, S_at m c t (ix2 y0 y1) ⟨y0.val / 256, by omega⟩ ⟨y0.val / 64 % 4, by omega⟩ ⟨y0.val % 64, by omega⟩ ⟨y1.val / 128, by omega⟩ ⟨y1.val % 128, by omega⟩
    (by change y0.val = _; simp only; omega) (by change y1.val = _; simp only; omega)]
  exact attn_eq t.val ht _ _ _ _ _ _ _ F _ _ _ _ _ _ _ _ _ _ (b0 m c t) (b1 m c t) (b2 m c t) (b3 m c t) (b4 m c t) (b5 m c t) (b6 m c t) (b7 m c t)
    (b8 m c t) (b9 m c t) _ _ _ _ _ _ _ (by simp only; omega) (by simp only; omega)

end Cert.MixerIdeal.Att
-- ==== Proof.StoresA.lean ====
module

public import proofs.«01_k».proof.Proof.Store

@[expose] public section

/-! The stores of the attention's window in case A leave the attention of the grid point's rows. -/

set_option maxRecDepth 16384

noncomputable section

namespace Cert.MixerIdeal.Att

open Cert.MixerIdeal Cert.MixerIdeal.Gen
open Idealize.ShloMosaic Idealize.ShloMosaic.TcCoe Idealize.SL.Sem

variable (m : (ℓ : Loc nD τ sig) → Buf (Elt Ideal) ℓ)

set_option maxHeartbeats 2000000 in
/-- What the window holds after a grid point of case A. -/
theorem sA (c : Dev nD) (t : Fin cfg0.N) (h0 : t.val % 16 = 0) (y : S1024x256.Idx) :
    VO0_23.read (Elt Ideal) (VO0_23.writes (Elt Ideal) VO0_23.junk (LA m c t h0)) y = S m c t y := by
  rw [View.read_writes_junk_eq_canon]
  unfold LA
  unfold kernelRun0_A
  dsimp only
  canon_tiles x h
  case piece0 =>
    idx_vars x
    rw [S_at m c t y 3 3 x0 1 x1 (by first | exact h0 | (simp; omega)) (by first | exact h1 | (simp; omega))]
    unfold attp
    change fin3 (bok (blk1 t)) (mok (blk1 t)) (st3 (kall _ _ _) (qall _ _ _ _)) _ _ _ _ _ _ _ _ _ _ _ _ _ _ _ (ix2 x0 x1) = _
    refine tile3_3 _ _ (blk1_eq t) (by have := lt16 t; omega) _ _ _ _ _ _ _ _ _ _ _ _ _ _ _ _ _ _ _ _ _ _ _ _ _ _ _ _ _ _ _ _ x0 1 x1 ?_ ?_ ?_ ?_ ?_ ?_ ?_ ?_ ?_ ?_
    · intro x e
      refine Eq.trans ?_ (dif_neg (show ¬(1 * 128 + x.val < 128) by omega)).symm
      refine (Memref.IsWhole.readAt_unread (hs0_2 t) _ _ _).trans ?_
      blk_ext [Rect.idx_withinL, LoadRect.idx_apply, unit_off, unit_stride]
    · intro x e
      refine Eq.trans ?_ (dif_neg (show ¬(1 * 128 + (128 + x.val) < 128) by omega)).symm
      refine (Memref.IsWhole.readAt_unread (hs0_2 t) _ _ _).trans ?_
      blk_ext [Rect.idx_withinL, LoadRect.idx_apply, unit_off, unit_stride]
    · intro x e
      refine (Memref.IsWhole.readAt_unread (hs0_4 t) _ _ _).trans ?_
      blk_ext [Rect.idx_withinL, LoadRect.idx_apply, unit_off, unit_stride]
    · intro e r
      refine (Memref.IsWhole.readAt_unread (hs0_1 t) _ _ _).trans ?_
      blk_ext [Rect.idx_withinL, LoadRect.idx_apply, unit_off, unit_stride]
    · refine (Memref.IsWhole.readAt_unread (hs0_0 t) _ _ _).trans ?_
      blk_ext [Rect.idx_withinL, LoadRect.idx_apply, unit_off, unit_stride]
    · intro x r
      refine (Memref.IsWhole.readAt_unread (hs0_8 t) _ _ _).trans ?_
      blk_ext [Rect.idx_withinL, LoadRect.idx_apply, unit_off, unit_stride]
    · intro x r
      refine (Memref.IsWhole.readAt_unread (hs0_9 t) _ _ _).trans ?_
      blk_ext [Rect.idx_withinL, LoadRect.idx_apply, unit_off, unit_stride]
    · intro d x
      refine Eq.trans ?_ (dif_neg (show ¬(1 * 128 + x.val < 128) by omega)).symm
      refine (Memref.IsWhole.readAt_unread (hs0_5 t) _ _ _).trans ?_
      blk_ext [Rect.idx_withinL, LoadRect.idx_apply, unit_off, unit_stride]
    · intro d x
      refine Eq.trans ?_ (dif_neg (show ¬(1 * 128 + (128 + x.val) < 128) by omega)).symm
      refine (Memref.IsWhole.readAt_unread (hs0_5 t) _ _ _).trans ?_
      blk_ext [Rect.idx_withinL, LoadRect.idx_apply, unit_off, unit_stride]
    · intro d x
      refine (Memref.IsWhole.readAt_unread (hs0_7 t) _ _ _).trans ?_
      blk_ext [Rect.idx_withinL, LoadRect.idx_apply, unit_off, unit_stride]
  case piece1 =>
    idx_vars x
    rw [S_at m c t y 3 2 x0 1 x1 (by first | exact h0 | (simp; omega)) (by first | exact h1 | (simp; omega))]
    unfold attp
    change fin2 (bok (blk1 t)) (mok (blk1 t)) (st3 (kall _ _ _) (qall _ _ _ _)) _ _ _ _ _ _ _ _ _ _ _ _ _ _ _ (ix2 x0 x1) = _
    refine tile3_2 _ _ (blk1_eq t) (by have := lt16 t; omega) _ _ _ _ _ _ _ _ _ _ _ _ _ _ _ _ _ _ _ _ _ _ _ _ _ _ _ _ _ _ _ _ x0 1 x1 ?_ ?_ ?_ ?_ ?_ ?_ ?_ ?_ ?_ ?_
    · intro x e
      refine Eq.trans ?_ (dif_neg (show ¬(1 * 128 + x.val < 128) by omega)).symm
      refine (Memref.IsWhole.readAt_unread (hs0_2 t) _ _ _).trans ?_
      blk_ext [Rect.idx_withinL, LoadRect.idx_apply, unit_off, unit_stride]
    · intro x e
      refine Eq.trans ?_ (dif_neg (show ¬(1 * 128 + (128 + x.val) < 128) by omega)).symm
      refine (Memref.IsWhole.readAt_unread (hs0_2 t) _ _ _).trans ?_
      blk_ext [Rect.idx_withinL, LoadRect.idx_apply, unit_off, unit_stride]
    · intro x e
      refine (Memref.IsWhole.readAt_unread (hs0_4 t) _ _ _).trans ?_
      blk_ext [Rect.idx_withinL, LoadRect.idx_apply, unit_off, unit_stride]
    · intro e r
      refine (Memref.IsWhole.readAt_unread (hs0_1 t) _ _ _).trans ?_
      blk_ext [Rect.idx_withinL, LoadRect.idx_apply, unit_off, unit_stride]
    · refine (Memref.IsWhole.readAt_unread (hs0_0 t) _ _ _).trans ?_
      blk_ext [Rect.idx_withinL, LoadRect.idx_apply, unit_off, unit_stride]
    · intro x r
      refine (Memref.IsWhole.readAt_unread (hs0_8 t) _ _ _).trans ?_
      blk_ext [Rect.idx_withinL, LoadRect.idx_apply, unit_off, unit_stride]
    · intro x r
      refine (Memref.IsWhole.readAt_unread (hs0_9 t) _ _ _).trans ?_
      blk_ext [Rect.idx_withinL, LoadRect.idx_apply, unit_off, unit_stride]
    · intro d x
      refine Eq.trans ?_ (dif_neg (show ¬(1 * 128 + x.val < 128) by omega)).symm
      refine (Memref.IsWhole.readAt_unread (hs0_5 t) _ _ _).trans ?_
      blk_ext [Rect.idx_withinL, LoadRect.idx_apply, unit_off, unit_stride]
    · intro d x
      refine Eq.trans ?_ (dif_neg (show ¬(1 * 128 + (128 + x.val) < 128) by omega)).symm
      refine (Memref.IsWhole.readAt_unread (hs0_5 t) _ _ _).trans ?_
      blk_ext [Rect.idx_withinL, LoadRect.idx_apply, unit_off, unit_stride]
    · intro d x
      refine (Memref.IsWhole.readAt_unread (hs0_7 t) _ _ _).trans ?_
      blk_ext [Rect.idx_withinL, LoadRect.idx_apply, unit_off, unit_stride]
  case piece2 =>
    idx_vars x
    rw [S_at m c t y 3 1 x0 1 x1 (by first | exact h0 | (simp; omega)) (by first | exact h1 | (simp; omega))]
    unfold attp
    change fin1 (bok (blk1 t)) (mok (blk1 t)) (st3 (kall _ _ _) (qall _ _ _ _)) _ _ _ _ _ _ _ _ _ _ _ _ _ _ _ (ix2 x0 x1) = _
    refine tile3_1 _ _ (blk1_eq t) (by have := lt16 t; omega) _ _ _ _ _ _ _ _ _ _ _ _ _ _ _ _ _ _ _ _ _ _ _ _ _ _ _ _ _ _ _ _ x0 1 x1 ?_ ?_ ?_ ?_ ?_ ?_ ?_ ?_ ?_ ?_
    · intro x e
      refine Eq.trans ?_ (dif_neg (show ¬(1 * 128 + x.val < 128) by omega)).symm
      refine (Memref.IsWhole.readAt_unread (hs0_2 t) _ _ _).trans ?_
      blk_ext [Rect.idx_withinL, LoadRect.idx_apply, unit_off, unit_stride]
    · intro x e
      refine Eq.trans ?_ (dif_neg (show ¬(1 * 128 + (128 + x.val) < 128) by omega)).symm
      refine (Memref.IsWhole.readAt_unread (hs0_2 t) _ _ _).trans ?_
      blk_ext [Rect.idx_withinL, LoadRect.idx_apply, unit_off, unit_stride]
    · intro x e
      refine (Memref.IsWhole.readAt_unread (hs0_4 t) _ _ _).trans ?_
      blk_ext [Rect.idx_withinL, LoadRect.idx_apply, unit_off, unit_stride]
    · intro e r
      refine (Memref.IsWhole.readAt_unread (hs0_1 t) _ _ _).trans ?_
      blk_ext [Rect.idx_withinL, LoadRect.idx_apply, unit_off, unit_stride]
    · refine (Memref.IsWhole.readAt_unread (hs0_0 t) _ _ _).trans ?_
      blk_ext [Rect.idx_withinL, LoadRect.idx_apply, unit_off, unit_stride]
    · intro x r
      refine (Memref.IsWhole.readAt_unread (hs0_8 t) _ _ _).trans ?_
      blk_ext [Rect.idx_withinL, LoadRect.idx_apply, unit_off, unit_stride]
    · intro x r
      refine (Memref.IsWhole.readAt_unread (hs0_9 t) _ _ _).trans ?_
      blk_ext [Rect.idx_withinL, LoadRect.idx_apply, unit_off, unit_stride]
    · intro d x
      refine Eq.trans ?_ (dif_neg (show ¬(1 * 128 + x.val < 128) by omega)).symm
      refine (Memref.IsWhole.readAt_unread (hs0_5 t) _ _ _).trans ?_
      blk_ext [Rect.idx_withinL, LoadRect.idx_apply, unit_off, unit_stride]
    · intro d x
      refine Eq.trans ?_ (dif_neg (show ¬(1 * 128 + (128 + x.val) < 128) by omega)).symm
      refine (Memref.IsWhole.readAt_unread (hs0_5 t) _ _ _).trans ?_
      blk_ext [Rect.idx_withinL, LoadRect.idx_apply, unit_off, unit_stride]
    · intro d x
      refine (Memref.IsWhole.readAt_unread (hs0_7 t) _ _ _).trans ?_
      blk_ext [Rect.idx_withinL, LoadRect.idx_apply, unit_off, unit_stride]
  case piece3 =>
    idx_vars x
    rw [S_at m c t y 3 0 x0 1 x1 (by first | exact h0 | (simp; omega)) (by first | exact h1 | (simp; omega))]
    unfold attp
    change fin0 (bok (blk1 t)) (mok (blk1 t)) (st3 (kall _ _ _) (qall _ _ _ _)) _ _ _ _ _ _ _ _ _ _ _ _ _ _ _ (ix2 x0 x1) = _
    refine tile3_0 _ _ (blk1_eq t) (by have := lt16 t; omega) _ _ _ _ _ _ _ _ _ _ _ _ _ _ _ _ _ _ _ _ _ _ _ _ _ _ _ _ _ _ _ _ x0 1 x1 ?_ ?_ ?_ ?_ ?_ ?_ ?_ ?_ ?_ ?_
    · intro x e
      refine Eq.trans ?_ (dif_neg (show ¬(1 * 128 + x.val < 128) by omega)).symm
      refine (Memref.IsWhole.readAt_unread (hs0_2 t) _ _ _).trans ?_
      blk_ext [Rect.idx_withinL, LoadRect.idx_apply, unit_off, unit_stride]
    · intro x e
      refine Eq.trans ?_ (dif_neg (show ¬(1 * 128 + (128 + x.val) < 128) by omega)).symm
      refine (Memref.IsWhole.readAt_unread (hs0_2 t) _ _ _).trans ?_
      blk_ext [Rect.idx_withinL, LoadRect.idx_apply, unit_off, unit_stride]
    · intro x e
      refine (Memref.IsWhole.readAt_unread (hs0_4 t) _ _ _).trans ?_
      blk_ext [Rect.idx_withinL, LoadRect.idx_apply, unit_off, unit_stride]
    · intro e r
      refine (Memref.IsWhole.readAt_unread (hs0_1 t) _ _ _).trans ?_
      blk_ext [Rect.idx_withinL, LoadRect.idx_apply, unit_off, unit_stride]
    · refine (Memref.IsWhole.readAt_unread (hs0_0 t) _ _ _).trans ?_
      blk_ext [Rect.idx_withinL, LoadRect.idx_apply, unit_off, unit_stride]
    · intro x r
      refine (Memref.IsWhole.readAt_unread (hs0_8 t) _ _ _).trans ?_
      blk_ext [Rect.idx_withinL, LoadRect.idx_apply, unit_off, unit_stride]
    · intro x r
      refine (Memref.IsWhole.readAt_unread (hs0_9 t) _ _ _).trans ?_
      blk_ext [Rect.idx_withinL, LoadRect.idx_apply, unit_off, unit_stride]
    · intro d x
      refine Eq.trans ?_ (dif_neg (show ¬(1 * 128 + x.val < 128) by omega)).symm
      refine (Memref.IsWhole.readAt_unread (hs0_5 t) _ _ _).trans ?_
      blk_ext [Rect.idx_withinL, LoadRect.idx_apply, unit_off, unit_stride]
    · intro d x
      refine Eq.trans ?_ (dif_neg (show ¬(1 * 128 + (128 + x.val) < 128) by omega)).symm
      refine (Memref.IsWhole.readAt_unread (hs0_5 t) _ _ _).trans ?_
      blk_ext [Rect.idx_withinL, LoadRect.idx_apply, unit_off, unit_stride]
    · intro d x
      refine (Memref.IsWhole.readAt_unread (hs0_7 t) _ _ _).trans ?_
      blk_ext [Rect.idx_withinL, LoadRect.idx_apply, unit_off, unit_stride]
  case piece4 =>
    idx_vars x
    rw [S_at m c t y 3 3 x0 0 x1 (by first | exact h0 | (simp; omega)) (by first | exact h1 | (simp; omega))]
    unfold attp
    change fin3 (bok (blk0 t)) (mok (blk0 t)) (st3 (kall _ _ _) (qall _ _ _ _)) _ _ _ _ _ _ _ _ _ _ _ _ _ _ _ (ix2 x0 x1) = _
    refine tile3_3 _ _ (blk0_eq t) (by have := lt16 t; omega) _ _ _ _ _ _ _ _ _ _ _ _ _ _ _ _ _ _ _ _ _ _ _ _ _ _ _ _ _ _ _ _ x0 0 x1 ?_ ?_ ?_ ?_ ?_ ?_ ?_ ?_ ?_ ?_
    · intro x e
      refine Eq.trans ?_ (dif_pos (show 0 * 128 + x.val < 128 by omega)).symm
      refine (Memref.IsWhole.readAt_unread (hs0_3 t) _ _ _).trans ?_
      blk_ext [Rect.idx_withinL, LoadRect.idx_apply, unit_off, unit_stride]
    · intro x e
      refine Eq.trans ?_ (dif_neg (show ¬(0 * 128 + (128 + x.val) < 128) by omega)).symm
      refine (Memref.IsWhole.readAt_unread (hs0_2 t) _ _ _).trans ?_
      blk_ext [Rect.idx_withinL, LoadRect.idx_apply, unit_off, unit_stride]
    · intro x e
      refine (Memref.IsWhole.readAt_unread (hs0_4 t) _ _ _).trans ?_
      blk_ext [Rect.idx_withinL, LoadRect.idx_apply, unit_off, unit_stride]
    · intro e r
      refine (Memref.IsWhole.readAt_unread (hs0_1 t) _ _ _).trans ?_
      blk_ext [Rect.idx_withinL, LoadRect.idx_apply, unit_off, unit_stride]
    · refine (Memref.IsWhole.readAt_unread (hs0_0 t) _ _ _).trans ?_
      blk_ext [Rect.idx_withinL, LoadRect.idx_apply, unit_off, unit_stride]
    · intro x r
      refine (Memref.IsWhole.readAt_unread (hs0_8 t) _ _ _).trans ?_
      blk_ext [Rect.idx_withinL, LoadRect.idx_apply, unit_off, unit_stride]
    · intro x r
      refine (Memref.IsWhole.readAt_unread (hs0_9 t) _ _ _).trans ?_
      blk_ext [Rect.idx_withinL, LoadRect.idx_apply, unit_off, unit_stride]
    · intro d x
      refine Eq.trans ?_ (dif_pos (show 0 * 128 + x.val < 128 by omega)).symm
      refine (Memref.IsWhole.readAt_unread (hs0_6 t) _ _ _).trans ?_
      blk_ext [Rect.idx_withinL, LoadRect.idx_apply, unit_off, unit_stride]
    · intro d x
      refine Eq.trans ?_ (dif_neg (show ¬(0 * 128 + (128 + x.val) < 128) by omega)).symm
      refine (Memref.IsWhole.readAt_unread (hs0_5 t) _ _ _).trans ?_
      blk_ext [Rect.idx_withinL, LoadRect.idx_apply, unit_off, unit_stride]
    · intro d x
      refine (Memref.IsWhole.readAt_unread (hs0_7 t) _ _ _).trans ?_
      blk_ext [Rect.idx_withinL, LoadRect.idx_apply, unit_off, unit_stride]
  case piece5 =>
    idx_vars x
    rw [S_at m c t y 3 2 x0 0 x1 (by first | exact h0 | (simp; omega)) (by first | exact h1 | (simp; omega))]
    unfold attp
    change fin2 (bok (blk0 t)) (mok (blk0 t)) (st3 (kall _ _ _) (qall _ _ _ _)) _ _ _ _ _ _ _ _ _ _ _ _ _ _ _ (ix2 x0 x1) = _
    refine tile3_2 _ _ (blk0_eq t) (by have := lt16 t; omega) _ _ _ _ _ _ _ _ _ _ _ _ _ _ _ _ _ _ _ _ _ _ _ _ _ _ _ _ _ _ _ _ x0 0 x1 ?_ ?_ ?_ ?_ ?_ ?_ ?_ ?_ ?_ ?_
    · intro x e
      refine Eq.trans ?_ (dif_pos (show 0 * 128 + x.val < 128 by omega)).symm
      refine (Memref.IsWhole.readAt_unread (hs0_3 t) _ _ _).trans ?_
      blk_ext [Rect.idx_withinL, LoadRect.idx_apply, unit_off, unit_stride]
    · intro x e
      refine Eq.trans ?_ (dif_neg (show ¬(0 * 128 + (128 + x.val) < 128) by omega)).symm
      refine (Memref.IsWhole.readAt_unread (hs0_2 t) _ _ _).trans ?_
      blk_ext [Rect.idx_withinL, LoadRect.idx_apply, unit_off, unit_stride]
    · intro x e
      refine (Memref.IsWhole.readAt_unread (hs0_4 t) _ _ _).trans ?_
      blk_ext [Rect.idx_withinL, LoadRect.idx_apply, unit_off, unit_stride]
    · intro e r
      refine (Memref.IsWhole.readAt_unread (hs0_1 t) _ _ _).trans ?_
      blk_ext [Rect.idx_withinL, LoadRect.idx_apply, unit_off, unit_stride]
    · refine (Memref.IsWhole.readAt_unread (hs0_0 t) _ _ _).trans ?_
      blk_ext [Rect.idx_withinL, LoadRect.idx_apply, unit_off, unit_stride]
    · intro x r
      refine (Memref.IsWhole.readAt_unread (hs0_8 t) _ _ _).trans ?_
      blk_ext [Rect.idx_withinL, LoadRect.idx_apply, unit_off, unit_stride]
    · intro x r
      refine (Memref.IsWhole.readAt_unread (hs0_9 t) _ _ _).trans ?_
      blk_ext [Rect.idx_withinL, LoadRect.idx_apply, unit_off, unit_stride]
    · intro d x
      refine Eq.trans ?_ (dif_pos (show 0 * 128 + x.val < 128 by omega)).symm
      refine (Memref.IsWhole.readAt_unread (hs0_6 t) _ _ _).trans ?_
      blk_ext [Rect.idx_withinL, LoadRect.idx_apply, unit_off, unit_stride]
    · intro d x
      refine Eq.trans ?_ (dif_neg (show ¬(0 * 128 + (128 + x.val) < 128) by omega)).symm
      refine (Memref.IsWhole.readAt_unread (hs0_5 t) _ _ _).trans ?_
      blk_ext [Rect.idx_withinL, LoadRect.idx_apply, unit_off, unit_stride]
    · intro d x
      refine (Memref.IsWhole.readAt_unread (hs0_7 t) _ _ _).trans ?_
      blk_ext [Rect.idx_withinL, LoadRect.idx_apply, unit_off, unit_stride]
  case piece6 =>
    idx_vars x
    rw [S_at m c t y 3 1 x0 0 x1 (by first | exact h0 | (simp; omega)) (by first | exact h1 | (simp; omega))]
    unfold attp
    change fin1 (bok (blk0 t)) (mok (blk0 t)) (st3 (kall _ _ _) (qall _ _ _ _)) _ _ _ _ _ _ _ _ _ _ _ _ _ _ _ (ix2 x0 x1) = _
    refine tile3_1 _ _ (blk0_eq t) (by have := lt16 t; omega) _ _ _ _ _ _ _ _ _ _ _ _ _ _ _ _ _ _ _ _ _ _ _ _ _ _ _ _ _ _ _ _ x0 0 x1 ?_ ?_ ?_ ?_ ?_ ?_ ?_ ?_ ?_ ?_
    · intro x e
      refine Eq.trans ?_ (dif_pos (show 0 * 128 + x.val < 128 by omega)).symm
      refine (Memref.IsWhole.readAt_unread (hs0_3 t) _ _ _).trans ?_
      blk_ext [Rect.idx_withinL, LoadRect.idx_apply, unit_off, unit_stride]
    · intro x e
      refine Eq.trans ?_ (dif_neg (show ¬(0 * 128 + (128 + x.val) < 128) by omega)).symm
      refine (Memref.IsWhole.readAt_unread (hs0_2 t) _ _ _).trans ?_
      blk_ext [Rect.idx_withinL, LoadRect.idx_apply, unit_off, unit_stride]
    · intro x e
      refine (Memref.IsWhole.readAt_unread (hs0_4 t) _ _ _).trans ?_
      blk_ext [Rect.idx_withinL, LoadRect.idx_apply, unit_off, unit_stride]
    · intro e r
      refine (Memref.IsWhole.readAt_unread (hs0_1 t) _ _ _).trans ?_
      blk_ext [Rect.idx_withinL, LoadRect.idx_apply, unit_off, unit_stride]
    · refine (Memref.IsWhole.readAt_unread (hs0_0 t) _ _ _).trans ?_
      blk_ext [Rect.idx_withinL, LoadRect.idx_apply, unit_off, unit_stride]
    · intro x r
      refine (Memref.IsWhole.readAt_unread (hs0_8 t) _ _ _).trans ?_
      blk_ext [Rect.idx_withinL, LoadRect.idx_apply, unit_off, unit_stride]
    · intro x r
      refine (Memref.IsWhole.readAt_unread (hs0_9 t) _ _ _).trans ?_
      blk_ext [Rect.idx_withinL, LoadRect.idx_apply, unit_off, unit_stride]
    · intro d x
      refine Eq.trans ?_ (dif_pos (show 0 * 128 + x.val < 128 by omega)).symm
      refine (Memref.IsWhole.readAt_unread (hs0_6 t) _ _ _).trans ?_
      blk_ext [Rect.idx_withinL, LoadRect.idx_apply, unit_off, unit_stride]
    · intro d x
      refine Eq.trans ?_ (dif_neg (show ¬(0 * 128 + (128 + x.val) < 128) by omega)).symm
      refine (Memref.IsWhole.readAt_unread (hs0_5 t) _ _ _).trans ?_
      blk_ext [Rect.idx_withinL, LoadRect.idx_apply, unit_off, unit_stride]
    · intro d x
      refine (Memref.IsWhole.readAt_unread (hs0_7 t) _ _ _).trans ?_
      blk_ext [Rect.idx_withinL, LoadRect.idx_apply, unit_off, unit_stride]
  case piece7 =>
    idx_vars x
    rw [S_at m c t y 3 0 x0 0 x1 (by first | exact h0 | (simp; omega)) (by first | exact h1 | (simp; omega))]
    unfold attp
    change fin0 (bok (blk0 t)) (mok (blk0 t)) (st3 (kall _ _ _) (qall _ _ _ _)) _ _ _ _ _ _ _ _ _ _ _ _ _ _ _ (ix2 x0 x1) = _
    refine tile3_0 _ _ (blk0_eq t) (by have := lt16 t; omega) _ _ _ _ _ _ _ _ _ _ _ _ _ _ _ _ _ _ _ _ _ _ _ _ _ _ _ _ _ _ _ _ x0 0 x1 ?_ ?_ ?_ ?_ ?_ ?_ ?_ ?_ ?_ ?_
    · intro x e
      refine Eq.trans ?_ (dif_pos (show 0 * 128 + x.val < 128 by omega)).symm
      refine (Memref.IsWhole.readAt_unread (hs0_3 t) _ _ _).trans ?_
      blk_ext [Rect.idx_withinL, LoadRect.idx_apply, unit_off, unit_stride]
    · intro x e
      refine Eq.trans ?_ (dif_neg (show ¬(0 * 128 + (128 + x.val) < 128) by omega)).symm
      refine (Memref.IsWhole.readAt_unread (hs0_2 t) _ _ _).trans ?_
      blk_ext [Rect.idx_withinL, LoadRect.idx_apply, unit_off, unit_stride]
    · intro x e
      refine (Memref.IsWhole.readAt_unread (hs0_4 t) _ _ _).trans ?_
      blk_ext [Rect.idx_withinL, LoadRect.idx_apply, unit_off, unit_stride]
    · intro e r
      refine (Memref.IsWhole.readAt_unread (hs0_1 t) _ _ _).trans ?_
      blk_ext [Rect.idx_withinL, LoadRect.idx_apply, unit_off, unit_stride]
    · refine (Memref.IsWhole.readAt_unread (hs0_0 t) _ _ _).trans ?_
      blk_ext [Rect.idx_withinL, LoadRect.idx_apply, unit_off, unit_stride]
    · intro x r
      refine (Memref.IsWhole.readAt_unread (hs0_8 t) _ _ _).trans ?_
      blk_ext [Rect.idx_withinL, LoadRect.idx_apply, unit_off, unit_stride]
    · intro x r
      refine (Memref.IsWhole.readAt_unread (hs0_9 t) _ _ _).trans ?_
      blk_ext [Rect.idx_withinL, LoadRect.idx_apply, unit_off, unit_stride]
    · intro d x
      refine Eq.trans ?_ (dif_pos (show 0 * 128 + x.val < 128 by omega)).symm
      refine (Memref.IsWhole.readAt_unread (hs0_6 t) _ _ _).trans ?_
      blk_ext [Rect.idx_withinL, LoadRect.idx_apply, unit_off, unit_stride]
    · intro d x
      refine Eq.trans ?_ (dif_neg (show ¬(0 * 128 + (128 + x.val) < 128) by omega)).symm
      refine (Memref.IsWhole.readAt_unread (hs0_5 t) _ _ _).trans ?_
      blk_ext [Rect.idx_withinL, LoadRect.idx_apply, unit_off, unit_stride]
    · intro d x
      refine (Memref.IsWhole.readAt_unread (hs0_7 t) _ _ _).trans ?_
      blk_ext [Rect.idx_withinL, LoadRect.idx_apply, unit_off, unit_stride]
  case piece8 =>
    idx_vars x
    rw [S_at m c t y 2 3 x0 1 x1 (by first | exact h0 | (simp; omega)) (by first | exact h1 | (simp; omega))]
    unfold attp
    change fin3 (bok (blk1 t)) (mok (blk1 t)) (st2 (kall _ _ _) (qall _ _ _ _)) _ _ _ _ _ _ _ _ _ _ _ _ _ _ _ (ix2 x0 x1) = _
    refine tile2_3 _ _ (blk1_eq t) (by have := lt16 t; omega) _ _ _ _ _ _ _ _ _ _ _ _ _ _ _ _ _ _ _ _ _ _ _ _ _ _ _ _ _ _ _ _ x0 1 x1 ?_ ?_ ?_ ?_ ?_ ?_ ?_ ?_ ?_ ?_
    · intro x e
      refine Eq.trans ?_ (dif_neg (show ¬(1 * 128 + x.val < 128) by omega)).symm
      refine (Memref.IsWhole.readAt_unread (hs0_2 t) _ _ _).trans ?_
      blk_ext [Rect.idx_withinL, LoadRect.idx_apply, unit_off, unit_stride]
    · intro x e
      refine Eq.trans ?_ (dif_neg (show ¬(1 * 128 + (128 + x.val) < 128) by omega)).symm
      refine (Memref.IsWhole.readAt_unread (hs0_2 t) _ _ _).trans ?_
      blk_ext [Rect.idx_withinL, LoadRect.idx_apply, unit_off, unit_stride]
    · intro x e
      refine (Memref.IsWhole.readAt_unread (hs0_4 t) _ _ _).trans ?_
      blk_ext [Rect.idx_withinL, LoadRect.idx_apply, unit_off, unit_stride]
    · intro e r
      refine (Memref.IsWhole.readAt_unread (hs0_1 t) _ _ _).trans ?_
      blk_ext [Rect.idx_withinL, LoadRect.idx_apply, unit_off, unit_stride]
    · refine (Memref.IsWhole.readAt_unread (hs0_0 t) _ _ _).trans ?_
      blk_ext [Rect.idx_withinL, LoadRect.idx_apply, unit_off, unit_stride]
    · intro x r
      refine (Memref.IsWhole.readAt_unread (hs0_8 t) _ _ _).trans ?_
      blk_ext [Rect.idx_withinL, LoadRect.idx_apply, unit_off, unit_stride]
    · intro x r
      refine (Memref.IsWhole.readAt_unread (hs0_9 t) _ _ _).trans ?_
      blk_ext [Rect.idx_withinL, LoadRect.idx_apply, unit_off, unit_stride]
    · intro d x
      refine Eq.trans ?_ (dif_neg (show ¬(1 * 128 + x.val < 128) by omega)).symm
      refine (Memref.IsWhole.readAt_unread (hs0_5 t) _ _ _).trans ?_
      blk_ext [Rect.idx_withinL, LoadRect.idx_apply, unit_off, unit_stride]
    · intro d x
      refine Eq.trans ?_ (dif_neg (show ¬(1 * 128 + (128 + x.val) < 128) by omega)).symm
      refine (Memref.IsWhole.readAt_unread (hs0_5 t) _ _ _).trans ?_
      blk_ext [Rect.idx_withinL, LoadRect.idx_apply, unit_off, unit_stride]
    · intro d x
      refine (Memref.IsWhole.readAt_unread (hs0_7 t) _ _ _).trans ?_
      blk_ext [Rect.idx_withinL, LoadRect.idx_apply, unit_off, unit_stride]
  case piece9 =>
    idx_vars x
    rw [S_at m c t y 2 2 x0 1 x1 (by first | exact h0 | (simp; omega)) (by first | exact h1 | (simp; omega))]
    unfold attp
    change fin2 (bok (blk1 t)) (mok (blk1 t)) (st2 (kall _ _ _) (qall _ _ _ _)) _ _ _ _ _ _ _ _ _ _ _ _ _ _ _ (ix2 x0 x1) = _
    refine tile2_2 _ _ (blk1_eq t) (by have := lt16 t; omega) _ _ _ _ _ _ _ _ _ _ _ _ _ _ _ _ _ _ _ _ _ _ _ _ _ _ _ _ _ _ _ _ x0 1 x1 ?_ ?_ ?_ ?_ ?_ ?_ ?_ ?_ ?_ ?_
    · intro x e
      refine Eq.trans ?_ (dif_neg (show ¬(1 * 128 + x.val < 128) by omega)).symm
      refine (Memref.IsWhole.readAt_unread (hs0_2 t) _ _ _).trans ?_
      blk_ext [Rect.idx_withinL, LoadRect.idx_apply, unit_off, unit_stride]
    · intro x e
      refine Eq.trans ?_ (dif_neg (show ¬(1 * 128 + (128 + x.val) < 128) by omega)).symm
      refine (Memref.IsWhole.readAt_unread (hs0_2 t) _ _ _).trans ?_
      blk_ext [Rect.idx_withinL, LoadRect.idx_apply, unit_off, unit_stride]
    · intro x e
      refine (Memref.IsWhole.readAt_unread (hs0_4 t) _ _ _).trans ?_
      blk_ext [Rect.idx_withinL, LoadRect.idx_apply, unit_off, unit_stride]
    · intro e r
      refine (Memref.IsWhole.readAt_unread (hs0_1 t) _ _ _).trans ?_
      blk_ext [Rect.idx_withinL, LoadRect.idx_apply, unit_off, unit_stride]
    · refine (Memref.IsWhole.readAt_unread (hs0_0 t) _ _ _).trans ?_
      blk_ext [Rect.idx_withinL, LoadRect.idx_apply, unit_off, unit_stride]
    · intro x r
      refine (Memref.IsWhole.readAt_unread (hs0_8 t) _ _ _).trans ?_
      blk_ext [Rect.idx_withinL, LoadRect.idx_apply, unit_off, unit_stride]
    · intro x r
      refine (Memref.IsWhole.readAt_unread (hs0_9 t) _ _ _).trans ?_
      blk_ext [Rect.idx_withinL, LoadRect.idx_apply, unit_off, unit_stride]
    · intro d x
      refine Eq.trans ?_ (dif_neg (show ¬(1 * 128 + x.val < 128) by omega)).symm
      refine (Memref.IsWhole.readAt_unread (hs0_5 t) _ _ _).trans ?_
      blk_ext [Rect.idx_withinL, LoadRect.idx_apply, unit_off, unit_stride]
    · intro d x
      refine Eq.trans ?_ (dif_neg (show ¬(1 * 128 + (128 + x.val) < 128) by omega)).symm
      refine (Memref.IsWhole.readAt_unread (hs0_5 t) _ _ _).trans ?_
      blk_ext [Rect.idx_withinL, LoadRect.idx_apply, unit_off, unit_stride]
    · intro d x
      refine (Memref.IsWhole.readAt_unread (hs0_7 t) _ _ _).trans ?_
      blk_ext [Rect.idx_withinL, LoadRect.idx_apply, unit_off, unit_stride]
  case piece10 =>
    idx_vars x
    rw [S_at m c t y 2 1 x0 1 x1 (by first | exact h0 | (simp; omega)) (by first | exact h1 | (simp; omega))]
    unfold attp
    change fin1 (bok (blk1 t)) (mok (blk1 t)) (st2 (kall _ _ _) (qall _ _ _ _)) _ _ _ _ _ _ _ _ _ _ _ _ _ _ _ (ix2 x0 x1) = _
    refine tile2_1 _ _ (blk1_eq t) (by have := lt16 t; omega) _ _ _ _ _ _ _ _ _ _ _ _ _ _ _ _ _ _ _ _ _ _ _ _ _ _ _ _ _ _ _ _ x0 1 x1 ?_ ?_ ?_ ?_ ?_ ?_ ?_ ?_ ?_ ?_
    · intro x e
      refine Eq.trans ?_ (dif_neg (show ¬(1 * 128 + x.val < 128) by omega)).symm
      refine (Memref.IsWhole.readAt_unread (hs0_2 t) _ _ _).trans ?_
      blk_ext [Rect.idx_withinL, LoadRect.idx_apply, unit_off, unit_stride]
    · intro x e
      refine Eq.trans ?_ (dif_neg (show ¬(1 * 128 + (128 + x.val) < 128) by omega)).symm
      refine (Memref.IsWhole.readAt_unread (hs0_2 t) _ _ _).trans ?_
      blk_ext [Rect.idx_withinL, LoadRect.idx_apply, unit_off, unit_stride]
    · intro x e
      refine (Memref.IsWhole.readAt_unread (hs0_4 t) _ _ _).trans ?_
      blk_ext [Rect.idx_withinL, LoadRect.idx_apply, unit_off, unit_stride]
    · intro e r
      refine (Memref.IsWhole.readAt_unread (hs0_1 t) _ _ _).trans ?_
      blk_ext [Rect.idx_withinL, LoadRect.idx_apply, unit_off, unit_stride]
    · refine (Memref.IsWhole.readAt_unread (hs0_0 t) _ _ _).trans ?_
      blk_ext [Rect.idx_withinL, LoadRect.idx_apply, unit_off, unit_stride]
    · intro x r
      refine (Memref.IsWhole.readAt_unread (hs0_8 t) _ _ _).trans ?_
      blk_ext [Rect.idx_withinL, LoadRect.idx_apply, unit_off, unit_stride]
    · intro x r
      refine (Memref.IsWhole.readAt_unread (hs0_9 t) _ _ _).trans ?_
      blk_ext [Rect.idx_withinL, LoadRect.idx_apply, unit_off, unit_stride]
    · intro d x
      refine Eq.trans ?_ (dif_neg (show ¬(1 * 128 + x.val < 128) by omega)).symm
      refine (Memref.IsWhole.readAt_unread (hs0_5 t) _ _ _).trans ?_
      blk_ext [Rect.idx_withinL, LoadRect.idx_apply, unit_off, unit_stride]
    · intro d x
      refine Eq.trans ?_ (dif_neg (show ¬(1 * 128 + (128 + x.val) < 128) by omega)).symm
      refine (Memref.IsWhole.readAt_unread (hs0_5 t) _ _ _).trans ?_
      blk_ext [Rect.idx_withinL, LoadRect.idx_apply, unit_off, unit_stride]
    · intro d x
      refine (Memref.IsWhole.readAt_unread (hs0_7 t) _ _ _).trans ?_
      blk_ext [Rect.idx_withinL, LoadRect.idx_apply, unit_off, unit_stride]
  case piece11 =>
    idx_vars x
    rw [S_at m c t y 2 0 x0 1 x1 (by first | exact h0 | (simp; omega)) (by first | exact h1 | (simp; omega))]
    unfold attp
    change fin0 (bok (blk1 t)) (mok (blk1 t)) (st2 (kall _ _ _) (qall _ _ _ _)) _ _ _ _ _ _ _ _ _ _ _ _ _ _ _ (ix2 x0 x1) = _
    refine tile2_0 _ _ (blk1_eq t) (by have := lt16 t; omega) _ _ _ _ _ _ _ _ _ _ _ _ _ _ _ _ _ _ _ _ _ _ _ _ _ _ _ _ _ _ _ _ x0 1 x1 ?_ ?_ ?_ ?_ ?_ ?_ ?_ ?_ ?_ ?_
    · intro x e
      refine Eq.trans ?_ (dif_neg (show ¬(1 * 128 + x.val < 128) by omega)).symm
      refine (Memref.IsWhole.readAt_unread (hs0_2 t) _ _ _).trans ?_
      blk_ext [Rect.idx_withinL, LoadRect.idx_apply, unit_off, unit_stride]
    · intro x e
      refine Eq.trans ?_ (dif_neg (show ¬(1 * 128 + (128 + x.val) < 128) by omega)).symm
      refine (Memref.IsWhole.readAt_unread (hs0_2 t) _ _ _).trans ?_
      blk_ext [Rect.idx_withinL, LoadRect.idx_apply, unit_off, unit_stride]
    · intro x e
      refine (Memref.IsWhole.readAt_unread (hs0_4 t) _ _ _).trans ?_
      blk_ext [Rect.idx_withinL, LoadRect.idx_apply, unit_off, unit_stride]
    · intro e r
      refine (Memref.IsWhole.readAt_unread (hs0_1 t) _ _ _).trans ?_
      blk_ext [Rect.idx_withinL, LoadRect.idx_apply, unit_off, unit_stride]
    · refine (Memref.IsWhole.readAt_unread (hs0_0 t) _ _ _).trans ?_
      blk_ext [Rect.idx_withinL, LoadRect.idx_apply, unit_off, unit_stride]
    · intro x r
      refine (Memref.IsWhole.readAt_unread (hs0_8 t) _ _ _).trans ?_
      blk_ext [Rect.idx_withinL, LoadRect.idx_apply, unit_off, unit_stride]
    · intro x r
      refine (Memref.IsWhole.readAt_unread (hs0_9 t) _ _ _).trans ?_
      blk_ext [Rect.idx_withinL, LoadRect.idx_apply, unit_off, unit_stride]
    · intro d x
      refine Eq.trans ?_ (dif_neg (show ¬(1 * 128 + x.val < 128) by omega)).symm
      refine (Memref.IsWhole.readAt_unread (hs0_5 t) _ _ _).trans ?_
      blk_ext [Rect.idx_withinL, LoadRect.idx_apply, unit_off, unit_stride]
    · intro d x
      refine Eq.trans ?_ (dif_neg (show ¬(1 * 128 + (128 + x.val) < 128) by omega)).symm
      refine (Memref.IsWhole.readAt_unread (hs0_5 t) _ _ _).trans ?_
      blk_ext [Rect.idx_withinL, LoadRect.idx_apply, unit_off, unit_stride]
    · intro d x
      refine (Memref.IsWhole.readAt_unread (hs0_7 t) _ _ _).trans ?_
      blk_ext [Rect.idx_withinL, LoadRect.idx_apply, unit_off, unit_stride]
  case piece12 =>
    idx_vars x
    rw [S_at m c t y 2 3 x0 0 x1 (by first | exact h0 | (simp; omega)) (by first | exact h1 | (simp; omega))]
    unfold attp
    change fin3 (bok (blk0 t)) (mok (blk0 t)) (st2 (kall _ _ _) (qall _ _ _ _)) _ _ _ _ _ _ _ _ _ _ _ _ _ _ _ (ix2 x0 x1) = _
    refine tile2_3 _ _ (blk0_eq t) (by have := lt16 t; omega) _ _ _ _ _ _ _ _ _ _ _ _ _ _ _ _ _ _ _ _ _ _ _ _ _ _ _ _ _ _ _ _ x0 0 x1 ?_ ?_ ?_ ?_ ?_ ?_ ?_ ?_ ?_ ?_
    · intro x e
      refine Eq.trans ?_ (dif_pos (show 0 * 128 + x.val < 128 by omega)).symm
      refine (Memref.IsWhole.readAt_unread (hs0_3 t) _ _ _).trans ?_
      blk_ext [Rect.idx_withinL, LoadRect.idx_apply, unit_off, unit_stride]
    · intro x e
      refine Eq.trans ?_ (dif_neg (show ¬(0 * 128 + (128 + x.val) < 128) by omega)).symm
      refine (Memref.IsWhole.readAt_unread (hs0_2 t) _ _ _).trans ?_
      blk_ext [Rect.idx_withinL, LoadRect.idx_apply, unit_off, unit_stride]
    · intro x e
      refine (Memref.IsWhole.readAt_unread (hs0_4 t) _ _ _).trans ?_
      blk_ext [Rect.idx_withinL, LoadRect.idx_apply, unit_off, unit_stride]
    · intro e r
      refine (Memref.IsWhole.readAt_unread (hs0_1 t) _ _ _).trans ?_
      blk_ext [Rect.idx_withinL, LoadRect.idx_apply, unit_off, unit_stride]
    · refine (Memref.IsWhole.readAt_unread (hs0_0 t) _ _ _).trans ?_
      blk_ext [Rect.idx_withinL, LoadRect.idx_apply, unit_off, unit_stride]
    · intro x r
      refine (Memref.IsWhole.readAt_unread (hs0_8 t) _ _ _).trans ?_
      blk_ext [Rect.idx_withinL, LoadRect.idx_apply, unit_off, unit_stride]
    · intro x r
      refine (Memref.IsWhole.readAt_unread (hs0_9 t) _ _ _).trans ?_
      blk_ext [Rect.idx_withinL, LoadRect.idx_apply, unit_off, unit_stride]
    · intro d x
      refine Eq.trans ?_ (dif_pos (show 0 * 128 + x.val < 128 by omega)).symm
      refine (Memref.IsWhole.readAt_unread (hs0_6 t) _ _ _).trans ?_
      blk_ext [Rect.idx_withinL, LoadRect.idx_apply, unit_off, unit_stride]
    · intro d x
      refine Eq.trans ?_ (dif_neg (show ¬(0 * 128 + (128 + x.val) < 128) by omega)).symm
      refine (Memref.IsWhole.readAt_unread (hs0_5 t) _ _ _).trans ?_
      blk_ext [Rect.idx_withinL, LoadRect.idx_apply, unit_off, unit_stride]
    · intro d x
      refine (Memref.IsWhole.readAt_unread (hs0_7 t) _ _ _).trans ?_
      blk_ext [Rect.idx_withinL, LoadRect.idx_apply, unit_off, unit_stride]
  case piece13 =>
    idx_vars x
    rw [S_at m c t y 2 2 x0 0 x1 (by first | exact h0 | (simp; omega)) (by first | exact h1 | (simp; omega))]
    unfold attp
    change fin2 (bok (blk0 t)) (mok (blk0 t)) (st2 (kall _ _ _) (qall _ _ _ _)) _ _ _ _ _ _ _ _ _ _ _ _ _ _ _ (ix2 x0 x1) = _
    refine tile2_2 _ _ (blk0_eq t) (by have := lt16 t; omega) _ _ _ _ _ _ _ _ _ _ _ _ _ _ _ _ _ _ _ _ _ _ _ _ _ _ _ _ _ _ _ _ x0 0 x1 ?_ ?_ ?_ ?_ ?_ ?_ ?_ ?_ ?_ ?_
    · intro x e
      refine Eq.trans ?_ (dif_pos (show 0 * 128 + x.val < 128 by omega)).symm
      refine (Memref.IsWhole.readAt_unread (hs0_3 t) _ _ _).trans ?_
      blk_ext [Rect.idx_withinL, LoadRect.idx_apply, unit_off, unit_stride]
    · intro x e
      refine Eq.trans ?_ (dif_neg (show ¬(0 * 128 + (128 + x.val) < 128) by omega)).symm
      refine (Memref.IsWhole.readAt_unread (hs0_2 t) _ _ _).trans ?_
      blk_ext [Rect.idx_withinL, LoadRect.idx_apply, unit_off, unit_stride]
    · intro x e
      refine (Memref.IsWhole.readAt_unread (hs0_4 t) _ _ _).trans ?_
      blk_ext [Rect.idx_withinL, LoadRect.idx_apply, unit_off, unit_stride]
    · intro e r
      refine (Memref.IsWhole.readAt_unread (hs0_1 t) _ _ _).trans ?_
      blk_ext [Rect.idx_withinL, LoadRect.idx_apply, unit_off, unit_stride]
    · refine (Memref.IsWhole.readAt_unread (hs0_0 t) _ _ _).trans ?_
      blk_ext [Rect.idx_withinL, LoadRect.idx_apply, unit_off, unit_stride]
    · intro x r
      refine (Memref.IsWhole.readAt_unread (hs0_8 t) _ _ _).trans ?_
      blk_ext [Rect.idx_withinL, LoadRect.idx_apply, unit_off, unit_stride]
    · intro x r
      refine (Memref.IsWhole.readAt_unread (hs0_9 t) _ _ _).trans ?_
      blk_ext [Rect.idx_withinL, LoadRect.idx_apply, unit_off, unit_stride]
    · intro d x
      refine Eq.trans ?_ (dif_pos (show 0 * 128 + x.val < 128 by omega)).symm
      refine (Memref.IsWhole.readAt_unread (hs0_6 t) _ _ _).trans ?_
      blk_ext [Rect.idx_withinL, LoadRect.idx_apply, unit_off, unit_stride]
    · intro d x
      refine Eq.trans ?_ (dif_neg (show ¬(0 * 128 + (128 + x.val) < 128) by omega)).symm
      refine (Memref.IsWhole.readAt_unread (hs0_5 t) _ _ _).trans ?_
      blk_ext [Rect.idx_withinL, LoadRect.idx_apply, unit_off, unit_stride]
    · intro d x
      refine (Memref.IsWhole.readAt_unread (hs0_7 t) _ _ _).trans ?_
      blk_ext [Rect.idx_withinL, LoadRect.idx_apply, unit_off, unit_stride]
  case piece14 =>
    idx_vars x
    rw [S_at m c t y 2 1 x0 0 x1 (by first | exact h0 | (simp; omega)) (by first | exact h1 | (simp; omega))]
    unfold attp
    change fin1 (bok (blk0 t)) (mok (blk0 t)) (st2 (kall _ _ _) (qall _ _ _ _)) _ _ _ _ _ _ _ _ _ _ _ _ _ _ _ (ix2 x0 x1) = _
    refine tile2_1 _ _ (blk0_eq t) (by have := lt16 t; omega) _ _ _ _ _ _ _ _ _ _ _ _ _ _ _ _ _ _ _ _ _ _ _ _ _ _ _ _ _ _ _ _ x0 0 x1 ?_ ?_ ?_ ?_ ?_ ?_ ?_ ?_ ?_ ?_
    · intro x e
      refine Eq.trans ?_ (dif_pos (show 0 * 128 + x.val < 128 by omega)).symm
      refine (Memref.IsWhole.readAt_unread (hs0_3 t) _ _ _).trans ?_
      blk_ext [Rect.idx_withinL, LoadRect.idx_apply, unit_off, unit_stride]
    · intro x e
      refine Eq.trans ?_ (dif_neg (show ¬(0 * 128 + (128 + x.val) < 128) by omega)).symm
      refine (Memref.IsWhole.readAt_unread (hs0_2 t) _ _ _).trans ?_
      blk_ext [Rect.idx_withinL, LoadRect.idx_apply, unit_off, unit_stride]
    · intro x e
      refine (Memref.IsWhole.readAt_unread (hs0_4 t) _ _ _).trans ?_
      blk_ext [Rect.idx_withinL, LoadRect.idx_apply, unit_off, unit_stride]
    · intro e r
      refine (Memref.IsWhole.readAt_unread (hs0_1 t) _ _ _).trans ?_
      blk_ext [Rect.idx_withinL, LoadRect.idx_apply, unit_off, unit_stride]
    · refine (Memref.IsWhole.readAt_unread (hs0_0 t) _ _ _).trans ?_
      blk_ext [Rect.idx_withinL, LoadRect.idx_apply, unit_off, unit_stride]
    · intro x r
      refine (Memref.IsWhole.readAt_unread (hs0_8 t) _ _ _).trans ?_
      blk_ext [Rect.idx_withinL, LoadRect.idx_apply, unit_off, unit_stride]
    · intro x r
      refine (Memref.IsWhole.readAt_unread (hs0_9 t) _ _ _).trans ?_
      blk_ext [Rect.idx_withinL, LoadRect.idx_apply, unit_off, unit_stride]
    · intro d x
      refine Eq.trans ?_ (dif_pos (show 0 * 128 + x.val < 128 by omega)).symm
      refine (Memref.IsWhole.readAt_unread (hs0_6 t) _ _ _).trans ?_
      blk_ext [Rect.idx_withinL, LoadRect.idx_apply, unit_off, unit_stride]
    · intro d x
      refine Eq.trans ?_ (dif_neg (show ¬(0 * 128 + (128 + x.val) < 128) by omega)).symm
      refine (Memref.IsWhole.readAt_unread (hs0_5 t) _ _ _).trans ?_
      blk_ext [Rect.idx_withinL, LoadRect.idx_apply, unit_off, unit_stride]
    · intro d x
      refine (Memref.IsWhole.readAt_unread (hs0_7 t) _ _ _).trans ?_
      blk_ext [Rect.idx_withinL, LoadRect.idx_apply, unit_off, unit_stride]
  case piece15 =>
    idx_vars x
    rw [S_at m c t y 2 0 x0 0 x1 (by first | exact h0 | (simp; omega)) (by first | exact h1 | (simp; omega))]
    unfold attp
    change fin0 (bok (blk0 t)) (mok (blk0 t)) (st2 (kall _ _ _) (qall _ _ _ _)) _ _ _ _ _ _ _ _ _ _ _ _ _ _ _ (ix2 x0 x1) = _
    refine tile2_0 _ _ (blk0_eq t) (by have := lt16 t; omega) _ _ _ _ _ _ _ _ _ _ _ _ _ _ _ _ _ _ _ _ _ _ _ _ _ _ _ _ _ _ _ _ x0 0 x1 ?_ ?_ ?_ ?_ ?_ ?_ ?_ ?_ ?_ ?_
    · intro x e
      refine Eq.trans ?_ (dif_pos (show 0 * 128 + x.val < 128 by omega)).symm
      refine (Memref.IsWhole.readAt_unread (hs0_3 t) _ _ _).trans ?_
      blk_ext [Rect.idx_withinL, LoadRect.idx_apply, unit_off, unit_stride]
    · intro x e
      refine Eq.trans ?_ (dif_neg (show ¬(0 * 128 + (128 + x.val) < 128) by omega)).symm
      refine (Memref.IsWhole.readAt_unread (hs0_2 t) _ _ _).trans ?_
      blk_ext [Rect.idx_withinL, LoadRect.idx_apply, unit_off, unit_stride]
    · intro x e
      refine (Memref.IsWhole.readAt_unread (hs0_4 t) _ _ _).trans ?_
      blk_ext [Rect.idx_withinL, LoadRect.idx_apply, unit_off, unit_stride]
    · intro e r
      refine (Memref.IsWhole.readAt_unread (hs0_1 t) _ _ _).trans ?_
      blk_ext [Rect.idx_withinL, LoadRect.idx_apply, unit_off, unit_stride]
    · refine (Memref.IsWhole.readAt_unread (hs0_0 t) _ _ _).trans ?_
      blk_ext [Rect.idx_withinL, LoadRect.idx_apply, unit_off, unit_stride]
    · intro x r
      refine (Memref.IsWhole.readAt_unread (hs0_8 t) _ _ _).trans ?_
      blk_ext [Rect.idx_withinL, LoadRect.idx_apply, unit_off, unit_stride]
    · intro x r
      refine (Memref.IsWhole.readAt_unread (hs0_9 t) _ _ _).trans ?_
      blk_ext [Rect.idx_withinL, LoadRect.idx_apply, unit_off, unit_stride]
    · intro d x
      refine Eq.trans ?_ (dif_pos (show 0 * 128 + x.val < 128 by omega)).symm
      refine (Memref.IsWhole.readAt_unread (hs0_6 t) _ _ _).trans ?_
      blk_ext [Rect.idx_withinL, LoadRect.idx_apply, unit_off, unit_stride]
    · intro d x
      refine Eq.trans ?_ (dif_neg (show ¬(0 * 128 + (128 + x.val) < 128) by omega)).symm
      refine (Memref.IsWhole.readAt_unread (hs0_5 t) _ _ _).trans ?_
      blk_ext [Rect.idx_withinL, LoadRect.idx_apply, unit_off, unit_stride]
    · intro d x
      refine (Memref.IsWhole.readAt_unread (hs0_7 t) _ _ _).trans ?_
      blk_ext [Rect.idx_withinL, LoadRect.idx_apply, unit_off, unit_stride]
  case piece16 =>
    idx_vars x
    rw [S_at m c t y 1 3 x0 1 x1 (by first | exact h0 | (simp; omega)) (by first | exact h1 | (simp; omega))]
    unfold attp
    change fin3 (bok (blk1 t)) (mok (blk1 t)) (st1 (kall _ _ _) (qall _ _ _ _)) _ _ _ _ _ _ _ _ _ _ _ _ _ _ _ (ix2 x0 x1) = _
    refine tile1_3 _ _ (blk1_eq t) (by have := lt16 t; omega) _ _ _ _ _ _ _ _ _ _ _ _ _ _ _ _ _ _ _ _ _ _ _ _ _ _ _ _ _ _ _ _ x0 1 x1 ?_ ?_ ?_ ?_ ?_ ?_ ?_ ?_ ?_ ?_
    · intro x e
      refine Eq.trans ?_ (dif_neg (show ¬(1 * 128 + x.val < 128) by omega)).symm
      refine (Memref.IsWhole.readAt_unread (hs0_2 t) _ _ _).trans ?_
      blk_ext [Rect.idx_withinL, LoadRect.idx_apply, unit_off, unit_stride]
    · intro x e
      refine Eq.trans ?_ (dif_neg (show ¬(1 * 128 + (128 + x.val) < 128) by omega)).symm
      refine (Memref.IsWhole.readAt_unread (hs0_2 t) _ _ _).trans ?_
      blk_ext [Rect.idx_withinL, LoadRect.idx_apply, unit_off, unit_stride]
    · intro x e
      refine (Memref.IsWhole.readAt_unread (hs0_4 t) _ _ _).trans ?_
      blk_ext [Rect.idx_withinL, LoadRect.idx_apply, unit_off, unit_stride]
    · intro e r
      refine (Memref.IsWhole.readAt_unread (hs0_1 t) _ _ _).trans ?_
      blk_ext [Rect.idx_withinL, LoadRect.idx_apply, unit_off, unit_stride]
    · refine (Memref.IsWhole.readAt_unread (hs0_0 t) _ _ _).trans ?_
      blk_ext [Rect.idx_withinL, LoadRect.idx_apply, unit_off, unit_stride]
    · intro x r
      refine (Memref.IsWhole.readAt_unread (hs0_8 t) _ _ _).trans ?_
      blk_ext [Rect.idx_withinL, LoadRect.idx_apply, unit_off, unit_stride]
    · intro x r
      refine (Memref.IsWhole.readAt_unread (hs0_9 t) _ _ _).trans ?_
      blk_ext [Rect.idx_withinL, LoadRect.idx_apply, unit_off, unit_stride]
    · intro d x
      refine Eq.trans ?_ (dif_neg (show ¬(1 * 128 + x.val < 128) by omega)).symm
      refine (Memref.IsWhole.readAt_unread (hs0_5 t) _ _ _).trans ?_
      blk_ext [Rect.idx_withinL, LoadRect.idx_apply, unit_off, unit_stride]
    · intro d x
      refine Eq.trans ?_ (dif_neg (show ¬(1 * 128 + (128 + x.val) < 128) by omega)).symm
      refine (Memref.IsWhole.readAt_unread (hs0_5 t) _ _ _).trans ?_
      blk_ext [Rect.idx_withinL, LoadRect.idx_apply, unit_off, unit_stride]
    · intro d x
      refine (Memref.IsWhole.readAt_unread (hs0_7 t) _ _ _).trans ?_
      blk_ext [Rect.idx_withinL, LoadRect.idx_apply, unit_off, unit_stride]
  case piece17 =>
    idx_vars x
    rw [S_at m c t y 1 2 x0 1 x1 (by first | exact h0 | (simp; omega)) (by first | exact h1 | (simp; omega))]
    unfold attp
    change fin2 (bok (blk1 t)) (mok (blk1 t)) (st1 (kall _ _ _) (qall _ _ _ _)) _ _ _ _ _ _ _ _ _ _ _ _ _ _ _ (ix2 x0 x1) = _
    refine tile1_2 _ _ (blk1_eq t) (by have := lt16 t; omega) _ _ _ _ _ _ _ _ _ _ _ _ _ _ _ _ _ _ _ _ _ _ _ _ _ _ _ _ _ _ _ _ x0 1 x1 ?_ ?_ ?_ ?_ ?_ ?_ ?_ ?_ ?_ ?_
    · intro x e
      refine Eq.trans ?_ (dif_neg (show ¬(1 * 128 + x.val < 128) by omega)).symm
      refine (Memref.IsWhole.readAt_unread (hs0_2 t) _ _ _).trans ?_
      blk_ext [Rect.idx_withinL, LoadRect.idx_apply, unit_off, unit_stride]
    · intro x e
      refine Eq.trans ?_ (dif_neg (show ¬(1 * 128 + (128 + x.val) < 128) by omega)).symm
      refine (Memref.IsWhole.readAt_unread (hs0_2 t) _ _ _).trans ?_
      blk_ext [Rect.idx_withinL, LoadRect.idx_apply, unit_off, unit_stride]
    · intro x e
      refine (Memref.IsWhole.readAt_unread (hs0_4 t) _ _ _).trans ?_
      blk_ext [Rect.idx_withinL, LoadRect.idx_apply, unit_off, unit_stride]
    · intro e r
      refine (Memref.IsWhole.readAt_unread (hs0_1 t) _ _ _).trans ?_
      blk_ext [Rect.idx_withinL, LoadRect.idx_apply, unit_off, unit_stride]
    · refine (Memref.IsWhole.readAt_unread (hs0_0 t) _ _ _).trans ?_
      blk_ext [Rect.idx_withinL, LoadRect.idx_apply, unit_off, unit_stride]
    · intro x r
      refine (Memref.IsWhole.readAt_unread (hs0_8 t) _ _ _).trans ?_
      blk_ext [Rect.idx_withinL, LoadRect.idx_apply, unit_off, unit_stride]
    · intro x r
      refine (Memref.IsWhole.readAt_unread (hs0_9 t) _ _ _).trans ?_
      blk_ext [Rect.idx_withinL, LoadRect.idx_apply, unit_off, unit_stride]
    · intro d x
      refine Eq.trans ?_ (dif_neg (show ¬(1 * 128 + x.val < 128) by omega)).symm
      refine (Memref.IsWhole.readAt_unread (hs0_5 t) _ _ _).trans ?_
      blk_ext [Rect.idx_withinL, LoadRect.idx_apply, unit_off, unit_stride]
    · intro d x
      refine Eq.trans ?_ (dif_neg (show ¬(1 * 128 + (128 + x.val) < 128) by omega)).symm
      refine (Memref.IsWhole.readAt_unread (hs0_5 t) _ _ _).trans ?_
      blk_ext [Rect.idx_withinL, LoadRect.idx_apply, unit_off, unit_stride]
    · intro d x
      refine (Memref.IsWhole.readAt_unread (hs0_7 t) _ _ _).trans ?_
      blk_ext [Rect.idx_withinL, LoadRect.idx_apply, unit_off, unit_stride]
  case piece18 =>
    idx_vars x
    rw [S_at m c t y 1 1 x0 1 x1 (by first | exact h0 | (simp; omega)) (by first | exact h1 | (simp; omega))]
    unfold attp
    change fin1 (bok (blk1 t)) (mok (blk1 t)) (st1 (kall _ _ _) (qall _ _ _ _)) _ _ _ _ _ _ _ _ _ _ _ _ _ _ _ (ix2 x0 x1) = _
    refine tile1_1 _ _ (blk1_eq t) (by have := lt16 t; omega) _ _ _ _ _ _ _ _ _ _ _ _ _ _ _ _ _ _ _ _ _ _ _ _ _ _ _ _ _ _ _ _ x0 1 x1 ?_ ?_ ?_ ?_ ?_ ?_ ?_ ?_ ?_ ?_
    · intro x e
      refine Eq.trans ?_ (dif_neg (show ¬(1 * 128 + x.val < 128) by omega)).symm
      refine (Memref.IsWhole.readAt_unread (hs0_2 t) _ _ _).trans ?_
      blk_ext [Rect.idx_withinL, LoadRect.idx_apply, unit_off, unit_stride]
    · intro x e
      refine Eq.trans ?_ (dif_neg (show ¬(1 * 128 + (128 + x.val) < 128) by omega)).symm
      refine (Memref.IsWhole.readAt_unread (hs0_2 t) _ _ _).trans ?_
      blk_ext [Rect.idx_withinL, LoadRect.idx_apply, unit_off, unit_stride]
    · intro x e
      refine (Memref.IsWhole.readAt_unread (hs0_4 t) _ _ _).trans ?_
      blk_ext [Rect.idx_withinL, LoadRect.idx_apply, unit_off, unit_stride]
    · intro e r
      refine (Memref.IsWhole.readAt_unread (hs0_1 t) _ _ _).trans ?_
      blk_ext [Rect.idx_withinL, LoadRect.idx_apply, unit_off, unit_stride]
    · refine (Memref.IsWhole.readAt_unread (hs0_0 t) _ _ _).trans ?_
      blk_ext [Rect.idx_withinL, LoadRect.idx_apply, unit_off, unit_stride]
    · intro x r
      refine (Memref.IsWhole.readAt_unread (hs0_8 t) _ _ _).trans ?_
      blk_ext [Rect.idx_withinL, LoadRect.idx_apply, unit_off, unit_stride]
    · intro x r
      refine (Memref.IsWhole.readAt_unread (hs0_9 t) _ _ _).trans ?_
      blk_ext [Rect.idx_withinL, LoadRect.idx_apply, unit_off, unit_stride]
    · intro d x
      refine Eq.trans ?_ (dif_neg (show ¬(1 * 128 + x.val < 128) by omega)).symm
      refine (Memref.IsWhole.readAt_unread (hs0_5 t) _ _ _).trans ?_
      blk_ext [Rect.idx_withinL, LoadRect.idx_apply, unit_off, unit_stride]
    · intro d x
      refine Eq.trans ?_ (dif_neg (show ¬(1 * 128 + (128 + x.val) < 128) by omega)).symm
      refine (Memref.IsWhole.readAt_unread (hs0_5 t) _ _ _).trans ?_
      blk_ext [Rect.idx_withinL, LoadRect.idx_apply, unit_off, unit_stride]
    · intro d x
      refine (Memref.IsWhole.readAt_unread (hs0_7 t) _ _ _).trans ?_
      blk_ext [Rect.idx_withinL, LoadRect.idx_apply, unit_off, unit_stride]
  case piece19 =>
    idx_vars x
    rw [S_at m c t y 1 0 x0 1 x1 (by first | exact h0 | (simp; omega)) (by first | exact h1 | (simp; omega))]
    unfold attp
    change fin0 (bok (blk1 t)) (mok (blk1 t)) (st1 (kall _ _ _) (qall _ _ _ _)) _ _ _ _ _ _ _ _ _ _ _ _ _ _ _ (ix2 x0 x1) = _
    refine tile1_0 _ _ (blk1_eq t) (by have := lt16 t; omega) _ _ _ _ _ _ _ _ _ _ _ _ _ _ _ _ _ _ _ _ _ _ _ _ _ _ _ _ _ _ _ _ x0 1 x1 ?_ ?_ ?_ ?_ ?_ ?_ ?_ ?_ ?_ ?_
    · intro x e
      refine Eq.trans ?_ (dif_neg (show ¬(1 * 128 + x.val < 128) by omega)).symm
      refine (Memref.IsWhole.readAt_unread (hs0_2 t) _ _ _).trans ?_
      blk_ext [Rect.idx_withinL, LoadRect.idx_apply, unit_off, unit_stride]
    · intro x e
      refine Eq.trans ?_ (dif_neg (show ¬(1 * 128 + (128 + x.val) < 128) by omega)).symm
      refine (Memref.IsWhole.readAt_unread (hs0_2 t) _ _ _).trans ?_
      blk_ext [Rect.idx_withinL, LoadRect.idx_apply, unit_off, unit_stride]
    · intro x e
      refine (Memref.IsWhole.readAt_unread (hs0_4 t) _ _ _).trans ?_
      blk_ext [Rect.idx_withinL, LoadRect.idx_apply, unit_off, unit_stride]
    · intro e r
      refine (Memref.IsWhole.readAt_unread (hs0_1 t) _ _ _).trans ?_
      blk_ext [Rect.idx_withinL, LoadRect.idx_apply, unit_off, unit_stride]
    · refine (Memref.IsWhole.readAt_unread (hs0_0 t) _ _ _).trans ?_
      blk_ext [Rect.idx_withinL, LoadRect.idx_apply, unit_off, unit_stride]
    · intro x r
      refine (Memref.IsWhole.readAt_unread (hs0_8 t) _ _ _).trans ?_
      blk_ext [Rect.idx_withinL, LoadRect.idx_apply, unit_off, unit_stride]
    · intro x r
      refine (Memref.IsWhole.readAt_unread (hs0_9 t) _ _ _).trans ?_
      blk_ext [Rect.idx_withinL, LoadRect.idx_apply, unit_off, unit_stride]
    · intro d x
      refine Eq.trans ?_ (dif_neg (show ¬(1 * 128 + x.val < 128) by omega)).symm
      refine (Memref.IsWhole.readAt_unread (hs0_5 t) _ _ _).trans ?_
      blk_ext [Rect.idx_withinL, LoadRect.idx_apply, unit_off, unit_stride]
    · intro d x
      refine Eq.trans ?_ (dif_neg (show ¬(1 * 128 + (128 + x.val) < 128) by omega)).symm
      refine (Memref.IsWhole.readAt_unread (hs0_5 t) _ _ _).trans ?_
      blk_ext [Rect.idx_withinL, LoadRect.idx_apply, unit_off, unit_stride]
    · intro d x
      refine (Memref.IsWhole.readAt_unread (hs0_7 t) _ _ _).trans ?_
      blk_ext [Rect.idx_withinL, LoadRect.idx_apply, unit_off, unit_stride]
  case piece20 =>
    idx_vars x
    rw [S_at m c t y 1 3 x0 0 x1 (by first | exact h0 | (simp; omega)) (by first | exact h1 | (simp; omega))]
    unfold attp
    change fin3 (bok (blk0 t)) (mok (blk0 t)) (st1 (kall _ _ _) (qall _ _ _ _)) _ _ _ _ _ _ _ _ _ _ _ _ _ _ _ (ix2 x0 x1) = _
    refine tile1_3 _ _ (blk0_eq t) (by have := lt16 t; omega) _ _ _ _ _ _ _ _ _ _ _ _ _ _ _ _ _ _ _ _ _ _ _ _ _ _ _ _ _ _ _ _ x0 0 x1 ?_ ?_ ?_ ?_ ?_ ?_ ?_ ?_ ?_ ?_
    · intro x e
      refine Eq.trans ?_ (dif_pos (show 0 * 128 + x.val < 128 by omega)).symm
      refine (Memref.IsWhole.readAt_unread (hs0_3 t) _ _ _).trans ?_
      blk_ext [Rect.idx_withinL, LoadRect.idx_apply, unit_off, unit_stride]
    · intro x e
      refine Eq.trans ?_ (dif_neg (show ¬(0 * 128 + (128 + x.val) < 128) by omega)).symm
      refine (Memref.IsWhole.readAt_unread (hs0_2 t) _ _ _).trans ?_
      blk_ext [Rect.idx_withinL, LoadRect.idx_apply, unit_off, unit_stride]
    · intro x e
      refine (Memref.IsWhole.readAt_unread (hs0_4 t) _ _ _).trans ?_
      blk_ext [Rect.idx_withinL, LoadRect.idx_apply, unit_off, unit_stride]
    · intro e r
      refine (Memref.IsWhole.readAt_unread (hs0_1 t) _ _ _).trans ?_
      blk_ext [Rect.idx_withinL, LoadRect.idx_apply, unit_off, unit_stride]
    · refine (Memref.IsWhole.readAt_unread (hs0_0 t) _ _ _).trans ?_
      blk_ext [Rect.idx_withinL, LoadRect.idx_apply, unit_off, unit_stride]
    · intro x r
      refine (Memref.IsWhole.readAt_unread (hs0_8 t) _ _ _).trans ?_
      blk_ext [Rect.idx_withinL, LoadRect.idx_apply, unit_off, unit_stride]
    · intro x r
      refine (Memref.IsWhole.readAt_unread (hs0_9 t) _ _ _).trans ?_
      blk_ext [Rect.idx_withinL, LoadRect.idx_apply, unit_off, unit_stride]
    · intro d x
      refine Eq.trans ?_ (dif_pos (show 0 * 128 + x.val < 128 by omega)).symm
      refine (Memref.IsWhole.readAt_unread (hs0_6 t) _ _ _).trans ?_
      blk_ext [Rect.idx_withinL, LoadRect.idx_apply, unit_off, unit_stride]
    · intro d x
      refine Eq.trans ?_ (dif_neg (show ¬(0 * 128 + (128 + x.val) < 128) by omega)).symm
      refine (Memref.IsWhole.readAt_unread (hs0_5 t) _ _ _).trans ?_
      blk_ext [Rect.idx_withinL, LoadRect.idx_apply, unit_off, unit_stride]
    · intro d x
      refine (Memref.IsWhole.readAt_unread (hs0_7 t) _ _ _).trans ?_
      blk_ext [Rect.idx_withinL, LoadRect.idx_apply, unit_off, unit_stride]
  case piece21 =>
    idx_vars x
    rw [S_at m c t y 1 2 x0 0 x1 (by first | exact h0 | (simp; omega)) (by first | exact h1 | (simp; omega))]
    unfold attp
    change fin2 (bok (blk0 t)) (mok (blk0 t)) (st1 (kall _ _ _) (qall _ _ _ _)) _ _ _ _ _ _ _ _ _ _ _ _ _ _ _ (ix2 x0 x1) = _
    refine tile1_2 _ _ (blk0_eq t) (by have := lt16 t; omega) _ _ _ _ _ _ _ _ _ _ _ _ _ _ _ _ _ _ _ _ _ _ _ _ _ _ _ _ _ _ _ _ x0 0 x1 ?_ ?_ ?_ ?_ ?_ ?_ ?_ ?_ ?_ ?_
    · intro x e
      refine Eq.trans ?_ (dif_pos (show 0 * 128 + x.val < 128 by omega)).symm
      refine (Memref.IsWhole.readAt_unread (hs0_3 t) _ _ _).trans ?_
      blk_ext [Rect.idx_withinL, LoadRect.idx_apply, unit_off, unit_stride]
    · intro x e
      refine Eq.trans ?_ (dif_neg (show ¬(0 * 128 + (128 + x.val) < 128) by omega)).symm
      refine (Memref.IsWhole.readAt_unread (hs0_2 t) _ _ _).trans ?_
      blk_ext [Rect.idx_withinL, LoadRect.idx_apply, unit_off, unit_stride]
    · intro x e
      refine (Memref.IsWhole.readAt_unread (hs0_4 t) _ _ _).trans ?_
      blk_ext [Rect.idx_withinL, LoadRect.idx_apply, unit_off, unit_stride]
    · intro e r
      refine (Memref.IsWhole.readAt_unread (hs0_1 t) _ _ _).trans ?_
      blk_ext [Rect.idx_withinL, LoadRect.idx_apply, unit_off, unit_stride]
    · refine (Memref.IsWhole.readAt_unread (hs0_0 t) _ _ _).trans ?_
      blk_ext [Rect.idx_withinL, LoadRect.idx_apply, unit_off, unit_stride]
    · intro x r
      refine (Memref.IsWhole.readAt_unread (hs0_8 t) _ _ _).trans ?_
      blk_ext [Rect.idx_withinL, LoadRect.idx_apply, unit_off, unit_stride]
    · intro x r
      refine (Memref.IsWhole.readAt_unread (hs0_9 t) _ _ _).trans ?_
      blk_ext [Rect.idx_withinL, LoadRect.idx_apply, unit_off, unit_stride]
    · intro d x
      refine Eq.trans ?_ (dif_pos (show 0 * 128 + x.val < 128 by omega)).symm
      refine (Memref.IsWhole.readAt_unread (hs0_6 t) _ _ _).trans ?_
      blk_ext [Rect.idx_withinL, LoadRect.idx_apply, unit_off, unit_stride]
    · intro d x
      refine Eq.trans ?_ (dif_neg (show ¬(0 * 128 + (128 + x.val) < 128) by omega)).symm
      refine (Memref.IsWhole.readAt_unread (hs0_5 t) _ _ _).trans ?_
      blk_ext [Rect.idx_withinL, LoadRect.idx_apply, unit_off, unit_stride]
    · intro d x
      refine (Memref.IsWhole.readAt_unread (hs0_7 t) _ _ _).trans ?_
      blk_ext [Rect.idx_withinL, LoadRect.idx_apply, unit_off, unit_stride]
  case piece22 =>
    idx_vars x
    rw [S_at m c t y 1 1 x0 0 x1 (by first | exact h0 | (simp; omega)) (by first | exact h1 | (simp; omega))]
    unfold attp
    change fin1 (bok (blk0 t)) (mok (blk0 t)) (st1 (kall _ _ _) (qall _ _ _ _)) _ _ _ _ _ _ _ _ _ _ _ _ _ _ _ (ix2 x0 x1) = _
    refine tile1_1 _ _ (blk0_eq t) (by have := lt16 t; omega) _ _ _ _ _ _ _ _ _ _ _ _ _ _ _ _ _ _ _ _ _ _ _ _ _ _ _ _ _ _ _ _ x0 0 x1 ?_ ?_ ?_ ?_ ?_ ?_ ?_ ?_ ?_ ?_
    · intro x e
      refine Eq.trans ?_ (dif_pos (show 0 * 128 + x.val < 128 by omega)).symm
      refine (Memref.IsWhole.readAt_unread (hs0_3 t) _ _ _).trans ?_
      blk_ext [Rect.idx_withinL, LoadRect.idx_apply, unit_off, unit_stride]
    · intro x e
      refine Eq.trans ?_ (dif_neg (show ¬(0 * 128 + (128 + x.val) < 128) by omega)).symm
      refine (Memref.IsWhole.readAt_unread (hs0_2 t) _ _ _).trans ?_
      blk_ext [Rect.idx_withinL, LoadRect.idx_apply, unit_off, unit_stride]
    · intro x e
      refine (Memref.IsWhole.readAt_unread (hs0_4 t) _ _ _).trans ?_
      blk_ext [Rect.idx_withinL, LoadRect.idx_apply, unit_off, unit_stride]
    · intro e r
      refine (Memref.IsWhole.readAt_unread (hs0_1 t) _ _ _).trans ?_
      blk_ext [Rect.idx_withinL, LoadRect.idx_apply, unit_off, unit_stride]
    · refine (Memref.IsWhole.readAt_unread (hs0_0 t) _ _ _).trans ?_
      blk_ext [Rect.idx_withinL, LoadRect.idx_apply, unit_off, unit_stride]
    · intro x r
      refine (Memref.IsWhole.readAt_unread (hs0_8 t) _ _ _).trans ?_
      blk_ext [Rect.idx_withinL, LoadRect.idx_apply, unit_off, unit_stride]
    · intro x r
      refine (Memref.IsWhole.readAt_unread (hs0_9 t) _ _ _).trans ?_
      blk_ext [Rect.idx_withinL, LoadRect.idx_apply, unit_off, unit_stride]
    · intro d x
      refine Eq.trans ?_ (dif_pos (show 0 * 128 + x.val < 128 by omega)).symm
      refine (Memref.IsWhole.readAt_unread (hs0_6 t) _ _ _).trans ?_
      blk_ext [Rect.idx_withinL, LoadRect.idx_apply, unit_off, unit_stride]
    · intro d x
      refine Eq.trans ?_ (dif_neg (show ¬(0 * 128 + (128 + x.val) < 128) by omega)).symm
      refine (Memref.IsWhole.readAt_unread (hs0_5 t) _ _ _).trans ?_
      blk_ext [Rect.idx_withinL, LoadRect.idx_apply, unit_off, unit_stride]
    · intro d x
      refine (Memref.IsWhole.readAt_unread (hs0_7 t) _ _ _).trans ?_
      blk_ext [Rect.idx_withinL, LoadRect.idx_apply, unit_off, unit_stride]
  case piece23 =>
    idx_vars x
    rw [S_at m c t y 1 0 x0 0 x1 (by first | exact h0 | (simp; omega)) (by first | exact h1 | (simp; omega))]
    unfold attp
    change fin0 (bok (blk0 t)) (mok (blk0 t)) (st1 (kall _ _ _) (qall _ _ _ _)) _ _ _ _ _ _ _ _ _ _ _ _ _ _ _ (ix2 x0 x1) = _
    refine tile1_0 _ _ (blk0_eq t) (by have := lt16 t; omega) _ _ _ _ _ _ _ _ _ _ _ _ _ _ _ _ _ _ _ _ _ _ _ _ _ _ _ _ _ _ _ _ x0 0 x1 ?_ ?_ ?_ ?_ ?_ ?_ ?_ ?_ ?_ ?_
    · intro x e
      refine Eq.trans ?_ (dif_pos (show 0 * 128 + x.val < 128 by omega)).symm
      refine (Memref.IsWhole.readAt_unread (hs0_3 t) _ _ _).trans ?_
      blk_ext [Rect.idx_withinL, LoadRect.idx_apply, unit_off, unit_stride]
    · intro x e
      refine Eq.trans ?_ (dif_neg (show ¬(0 * 128 + (128 + x.val) < 128) by omega)).symm
      refine (Memref.IsWhole.readAt_unread (hs0_2 t) _ _ _).trans ?_
      blk_ext [Rect.idx_withinL, LoadRect.idx_apply, unit_off, unit_stride]
    · intro x e
      refine (Memref.IsWhole.readAt_unread (hs0_4 t) _ _ _).trans ?_
      blk_ext [Rect.idx_withinL, LoadRect.idx_apply, unit_off, unit_stride]
    · intro e r
      refine (Memref.IsWhole.readAt_unread (hs0_1 t) _ _ _).trans ?_
      blk_ext [Rect.idx_withinL, LoadRect.idx_apply, unit_off, unit_stride]
    · refine (Memref.IsWhole.readAt_unread (hs0_0 t) _ _ _).trans ?_
      blk_ext [Rect.idx_withinL, LoadRect.idx_apply, unit_off, unit_stride]
    · intro x r
      refine (Memref.IsWhole.readAt_unread (hs0_8 t) _ _ _).trans ?_
      blk_ext [Rect.idx_withinL, LoadRect.idx_apply, unit_off, unit_stride]
    · intro x r
      refine (Memref.IsWhole.readAt_unread (hs0_9 t) _ _ _).trans ?_
      blk_ext [Rect.idx_withinL, LoadRect.idx_apply, unit_off, unit_stride]
    · intro d x
      refine Eq.trans ?_ (dif_pos (show 0 * 128 + x.val < 128 by omega)).symm
      refine (Memref.IsWhole.readAt_unread (hs0_6 t) _ _ _).trans ?_
      blk_ext [Rect.idx_withinL, LoadRect.idx_apply, unit_off, unit_stride]
    · intro d x
      refine Eq.trans ?_ (dif_neg (show ¬(0 * 128 + (128 + x.val) < 128) by omega)).symm
      refine (Memref.IsWhole.readAt_unread (hs0_5 t) _ _ _).trans ?_
      blk_ext [Rect.idx_withinL, LoadRect.idx_apply, unit_off, unit_stride]
    · intro d x
      refine (Memref.IsWhole.readAt_unread (hs0_7 t) _ _ _).trans ?_
      blk_ext [Rect.idx_withinL, LoadRect.idx_apply, unit_off, unit_stride]
  case piece24 =>
    idx_vars x
    rw [S_at m c t y 0 3 x0 1 x1 (by first | exact h0 | (simp; omega)) (by first | exact h1 | (simp; omega))]
    unfold attp
    change fin3 (bok (blk1 t)) (mok (blk1 t)) (st0 (kall _ _ _) (qall _ _ _ _)) _ _ _ _ _ _ _ _ _ _ _ _ _ _ _ (ix2 x0 x1) = _
    refine tile0_3 _ _ (blk1_eq t) (by have := lt16 t; omega) _ _ _ _ _ _ _ _ _ _ _ _ _ _ _ _ _ _ _ _ _ _ _ _ _ _ _ _ _ _ _ _ x0 1 x1 ?_ ?_ ?_ ?_ ?_ ?_ ?_ ?_ ?_ ?_
    · intro x e
      refine Eq.trans ?_ (dif_neg (show ¬(1 * 128 + x.val < 128) by omega)).symm
      refine (Memref.IsWhole.readAt_unread (hs0_2 t) _ _ _).trans ?_
      blk_ext [Rect.idx_withinL, LoadRect.idx_apply, unit_off, unit_stride]
    · intro x e
      refine Eq.trans ?_ (dif_neg (show ¬(1 * 128 + (128 + x.val) < 128) by omega)).symm
      refine (Memref.IsWhole.readAt_unread (hs0_2 t) _ _ _).trans ?_
      blk_ext [Rect.idx_withinL, LoadRect.idx_apply, unit_off, unit_stride]
    · intro x e
      refine (Memref.IsWhole.readAt_unread (hs0_4 t) _ _ _).trans ?_
      blk_ext [Rect.idx_withinL, LoadRect.idx_apply, unit_off, unit_stride]
    · intro e r
      refine (Memref.IsWhole.readAt_unread (hs0_1 t) _ _ _).trans ?_
      blk_ext [Rect.idx_withinL, LoadRect.idx_apply, unit_off, unit_stride]
    · refine (Memref.IsWhole.readAt_unread (hs0_0 t) _ _ _).trans ?_
      blk_ext [Rect.idx_withinL, LoadRect.idx_apply, unit_off, unit_stride]
    · intro x r
      refine (Memref.IsWhole.readAt_unread (hs0_8 t) _ _ _).trans ?_
      blk_ext [Rect.idx_withinL, LoadRect.idx_apply, unit_off, unit_stride]
    · intro x r
      refine (Memref.IsWhole.readAt_unread (hs0_9 t) _ _ _).trans ?_
      blk_ext [Rect.idx_withinL, LoadRect.idx_apply, unit_off, unit_stride]
    · intro d x
      refine Eq.trans ?_ (dif_neg (show ¬(1 * 128 + x.val < 128) by omega)).symm
      refine (Memref.IsWhole.readAt_unread (hs0_5 t) _ _ _).trans ?_
      blk_ext [Rect.idx_withinL, LoadRect.idx_apply, unit_off, unit_stride]
    · intro d x
      refine Eq.trans ?_ (dif_neg (show ¬(1 * 128 + (128 + x.val) < 128) by omega)).symm
      refine (Memref.IsWhole.readAt_unread (hs0_5 t) _ _ _).trans ?_
      blk_ext [Rect.idx_withinL, LoadRect.idx_apply, unit_off, unit_stride]
    · intro d x
      refine (Memref.IsWhole.readAt_unread (hs0_7 t) _ _ _).trans ?_
      blk_ext [Rect.idx_withinL, LoadRect.idx_apply, unit_off, unit_stride]
  case piece25 =>
    idx_vars x
    rw [S_at m c t y 0 2 x0 1 x1 (by first | exact h0 | (simp; omega)) (by first | exact h1 | (simp; omega))]
    unfold attp
    change fin2 (bok (blk1 t)) (mok (blk1 t)) (st0 (kall _ _ _) (qall _ _ _ _)) _ _ _ _ _ _ _ _ _ _ _ _ _ _ _ (ix2 x0 x1) = _
    refine tile0_2 _ _ (blk1_eq t) (by have := lt16 t; omega) _ _ _ _ _ _ _ _ _ _ _ _ _ _ _ _ _ _ _ _ _ _ _ _ _ _ _ _ _ _ _ _ x0 1 x1 ?_ ?_ ?_ ?_ ?_ ?_ ?_ ?_ ?_ ?_
    · intro x e
      refine Eq.trans ?_ (dif_neg (show ¬(1 * 128 + x.val < 128) by omega)).symm
      refine (Memref.IsWhole.readAt_unread (hs0_2 t) _ _ _).trans ?_
      blk_ext [Rect.idx_withinL, LoadRect.idx_apply, unit_off, unit_stride]
    · intro x e
      refine Eq.trans ?_ (dif_neg (show ¬(1 * 128 + (128 + x.val) < 128) by omega)).symm
      refine (Memref.IsWhole.readAt_unread (hs0_2 t) _ _ _).trans ?_
      blk_ext [Rect.idx_withinL, LoadRect.idx_apply, unit_off, unit_stride]
    · intro x e
      refine (Memref.IsWhole.readAt_unread (hs0_4 t) _ _ _).trans ?_
      blk_ext [Rect.idx_withinL, LoadRect.idx_apply, unit_off, unit_stride]
    · intro e r
      refine (Memref.IsWhole.readAt_unread (hs0_1 t) _ _ _).trans ?_
      blk_ext [Rect.idx_withinL, LoadRect.idx_apply, unit_off, unit_stride]
    · refine (Memref.IsWhole.readAt_unread (hs0_0 t) _ _ _).trans ?_
      blk_ext [Rect.idx_withinL, LoadRect.idx_apply, unit_off, unit_stride]
    · intro x r
      refine (Memref.IsWhole.readAt_unread (hs0_8 t) _ _ _).trans ?_
      blk_ext [Rect.idx_withinL, LoadRect.idx_apply, unit_off, unit_stride]
    · intro x r
      refine (Memref.IsWhole.readAt_unread (hs0_9 t) _ _ _).trans ?_
      blk_ext [Rect.idx_withinL, LoadRect.idx_apply, unit_off, unit_stride]
    · intro d x
      refine Eq.trans ?_ (dif_neg (show ¬(1 * 128 + x.val < 128) by omega)).symm
      refine (Memref.IsWhole.readAt_unread (hs0_5 t) _ _ _).trans ?_
      blk_ext [Rect.idx_withinL, LoadRect.idx_apply, unit_off, unit_stride]
    · intro d x
      refine Eq.trans ?_ (dif_neg (show ¬(1 * 128 + (128 + x.val) < 128) by omega)).symm
      refine (Memref.IsWhole.readAt_unread (hs0_5 t) _ _ _).trans ?_
      blk_ext [Rect.idx_withinL, LoadRect.idx_apply, unit_off, unit_stride]
    · intro d x
      refine (Memref.IsWhole.readAt_unread (hs0_7 t) _ _ _).trans ?_
      blk_ext [Rect.idx_withinL, LoadRect.idx_apply, unit_off, unit_stride]
  case piece26 =>
    idx_vars x
    rw [S_at m c t y 0 1 x0 1 x1 (by first | exact h0 | (simp; omega)) (by first | exact h1 | (simp; omega))]
    unfold attp
    change fin1 (bok (blk1 t)) (mok (blk1 t)) (st0 (kall _ _ _) (qall _ _ _ _)) _ _ _ _ _ _ _ _ _ _ _ _ _ _ _ (ix2 x0 x1) = _
    refine tile0_1 _ _ (blk1_eq t) (by have := lt16 t; omega) _ _ _ _ _ _ _ _ _ _ _ _ _ _ _ _ _ _ _ _ _ _ _ _ _ _ _ _ _ _ _ _ x0 1 x1 ?_ ?_ ?_ ?_ ?_ ?_ ?_ ?_ ?_ ?_
    · intro x e
      refine Eq.trans ?_ (dif_neg (show ¬(1 * 128 + x.val < 128) by omega)).symm
      refine (Memref.IsWhole.readAt_unread (hs0_2 t) _ _ _).trans ?_
      blk_ext [Rect.idx_withinL, LoadRect.idx_apply, unit_off, unit_stride]
    · intro x e
      refine Eq.trans ?_ (dif_neg (show ¬(1 * 128 + (128 + x.val) < 128) by omega)).symm
      refine (Memref.IsWhole.readAt_unread (hs0_2 t) _ _ _).trans ?_
      blk_ext [Rect.idx_withinL, LoadRect.idx_apply, unit_off, unit_stride]
    · intro x e
      refine (Memref.IsWhole.readAt_unread (hs0_4 t) _ _ _).trans ?_
      blk_ext [Rect.idx_withinL, LoadRect.idx_apply, unit_off, unit_stride]
    · intro e r
      refine (Memref.IsWhole.readAt_unread (hs0_1 t) _ _ _).trans ?_
      blk_ext [Rect.idx_withinL, LoadRect.idx_apply, unit_off, unit_stride]
    · refine (Memref.IsWhole.readAt_unread (hs0_0 t) _ _ _).trans ?_
      blk_ext [Rect.idx_withinL, LoadRect.idx_apply, unit_off, unit_stride]
    · intro x r
      refine (Memref.IsWhole.readAt_unread (hs0_8 t) _ _ _).trans ?_
      blk_ext [Rect.idx_withinL, LoadRect.idx_apply, unit_off, unit_stride]
    · intro x r
      refine (Memref.IsWhole.readAt_unread (hs0_9 t) _ _ _).trans ?_
      blk_ext [Rect.idx_withinL, LoadRect.idx_apply, unit_off, unit_stride]
    · intro d x
      refine Eq.trans ?_ (dif_neg (show ¬(1 * 128 + x.val < 128) by omega)).symm
      refine (Memref.IsWhole.readAt_unread (hs0_5 t) _ _ _).trans ?_
      blk_ext [Rect.idx_withinL, LoadRect.idx_apply, unit_off, unit_stride]
    · intro d x
      refine Eq.trans ?_ (dif_neg (show ¬(1 * 128 + (128 + x.val) < 128) by omega)).symm
      refine (Memref.IsWhole.readAt_unread (hs0_5 t) _ _ _).trans ?_
      blk_ext [Rect.idx_withinL, LoadRect.idx_apply, unit_off, unit_stride]
    · intro d x
      refine (Memref.IsWhole.readAt_unread (hs0_7 t) _ _ _).trans ?_
      blk_ext [Rect.idx_withinL, LoadRect.idx_apply, unit_off, unit_stride]
  case piece27 =>
    idx_vars x
    rw [S_at m c t y 0 0 x0 1 x1 (by first | exact h0 | (simp; omega)) (by first | exact h1 | (simp; omega))]
    unfold attp
    change fin0 (bok (blk1 t)) (mok (blk1 t)) (st0 (kall _ _ _) (qall _ _ _ _)) _ _ _ _ _ _ _ _ _ _ _ _ _ _ _ (ix2 x0 x1) = _
    refine tile0_0 _ _ (blk1_eq t) (by have := lt16 t; omega) _ _ _ _ _ _ _ _ _ _ _ _ _ _ _ _ _ _ _ _ _ _ _ _ _ _ _ _ _ _ _ _ x0 1 x1 ?_ ?_ ?_ ?_ ?_ ?_ ?_ ?_ ?_ ?_
    · intro x e
      refine Eq.trans ?_ (dif_neg (show ¬(1 * 128 + x.val < 128) by omega)).symm
      refine (Memref.IsWhole.readAt_unread (hs0_2 t) _ _ _).trans ?_
      blk_ext [Rect.idx_withinL, LoadRect.idx_apply, unit_off, unit_stride]
    · intro x e
      refine Eq.trans ?_ (dif_neg (show ¬(1 * 128 + (128 + x.val) < 128) by omega)).symm
      refine (Memref.IsWhole.readAt_unread (hs0_2 t) _ _ _).trans ?_
      blk_ext [Rect.idx_withinL, LoadRect.idx_apply, unit_off, unit_stride]
    · intro x e
      refine (Memref.IsWhole.readAt_unread (hs0_4 t) _ _ _).trans ?_
      blk_ext [Rect.idx_withinL, LoadRect.idx_apply, unit_off, unit_stride]
    · intro e r
      refine (Memref.IsWhole.readAt_unread (hs0_1 t) _ _ _).trans ?_
      blk_ext [Rect.idx_withinL, LoadRect.idx_apply, unit_off, unit_stride]
    · refine (Memref.IsWhole.readAt_unread (hs0_0 t) _ _ _).trans ?_
      blk_ext [Rect.idx_withinL, LoadRect.idx_apply, unit_off, unit_stride]
    · intro x r
      refine (Memref.IsWhole.readAt_unread (hs0_8 t) _ _ _).trans ?_
      blk_ext [Rect.idx_withinL, LoadRect.idx_apply, unit_off, unit_stride]
    · intro x r
      refine (Memref.IsWhole.readAt_unread (hs0_9 t) _ _ _).trans ?_
      blk_ext [Rect.idx_withinL, LoadRect.idx_apply, unit_off, unit_stride]
    · intro d x
      refine Eq.trans ?_ (dif_neg (show ¬(1 * 128 + x.val < 128) by omega)).symm
      refine (Memref.IsWhole.readAt_unread (hs0_5 t) _ _ _).trans ?_
      blk_ext [Rect.idx_withinL, LoadRect.idx_apply, unit_off, unit_stride]
    · intro d x
      refine Eq.trans ?_ (dif_neg (show ¬(1 * 128 + (128 + x.val) < 128) by omega)).symm
      refine (Memref.IsWhole.readAt_unread (hs0_5 t) _ _ _).trans ?_
      blk_ext [Rect.idx_withinL, LoadRect.idx_apply, unit_off, unit_stride]
    · intro d x
      refine (Memref.IsWhole.readAt_unread (hs0_7 t) _ _ _).trans ?_
      blk_ext [Rect.idx_withinL, LoadRect.idx_apply, unit_off, unit_stride]
  case piece28 =>
    idx_vars x
    rw [S_at m c t y 0 3 x0 0 x1 (by first | exact h0 | (simp; omega)) (by first | exact h1 | (simp; omega))]
    unfold attp
    change fin3 (bok (blk0 t)) (mok (blk0 t)) (st0 (kall _ _ _) (qall _ _ _ _)) _ _ _ _ _ _ _ _ _ _ _ _ _ _ _ (ix2 x0 x1) = _
    refine tile0_3 _ _ (blk0_eq t) (by have := lt16 t; omega) _ _ _ _ _ _ _ _ _ _ _ _ _ _ _ _ _ _ _ _ _ _ _ _ _ _ _ _ _ _ _ _ x0 0 x1 ?_ ?_ ?_ ?_ ?_ ?_ ?_ ?_ ?_ ?_
    · intro x e
      refine Eq.trans ?_ (dif_pos (show 0 * 128 + x.val < 128 by omega)).symm
      refine (Memref.IsWhole.readAt_unread (hs0_3 t) _ _ _).trans ?_
      blk_ext [Rect.idx_withinL, LoadRect.idx_apply, unit_off, unit_stride]
    · intro x e
      refine Eq.trans ?_ (dif_neg (show ¬(0 * 128 + (128 + x.val) < 128) by omega)).symm
      refine (Memref.IsWhole.readAt_unread (hs0_2 t) _ _ _).trans ?_
      blk_ext [Rect.idx_withinL, LoadRect.idx_apply, unit_off, unit_stride]
    · intro x e
      refine (Memref.IsWhole.readAt_unread (hs0_4 t) _ _ _).trans ?_
      blk_ext [Rect.idx_withinL, LoadRect.idx_apply, unit_off, unit_stride]
    · intro e r
      refine (Memref.IsWhole.readAt_unread (hs0_1 t) _ _ _).trans ?_
      blk_ext [Rect.idx_withinL, LoadRect.idx_apply, unit_off, unit_stride]
    · refine (Memref.IsWhole.readAt_unread (hs0_0 t) _ _ _).trans ?_
      blk_ext [Rect.idx_withinL, LoadRect.idx_apply, unit_off, unit_stride]
    · intro x r
      refine (Memref.IsWhole.readAt_unread (hs0_8 t) _ _ _).trans ?_
      blk_ext [Rect.idx_withinL, LoadRect.idx_apply, unit_off, unit_stride]
    · intro x r
      refine (Memref.IsWhole.readAt_unread (hs0_9 t) _ _ _).trans ?_
      blk_ext [Rect.idx_withinL, LoadRect.idx_apply, unit_off, unit_stride]
    · intro d x
      refine Eq.trans ?_ (dif_pos (show 0 * 128 + x.val < 128 by omega)).symm
      refine (Memref.IsWhole.readAt_unread (hs0_6 t) _ _ _).trans ?_
      blk_ext [Rect.idx_withinL, LoadRect.idx_apply, unit_off, unit_stride]
    · intro d x
      refine Eq.trans ?_ (dif_neg (show ¬(0 * 128 + (128 + x.val) < 128) by omega)).symm
      refine (Memref.IsWhole.readAt_unread (hs0_5 t) _ _ _).trans ?_
      blk_ext [Rect.idx_withinL, LoadRect.idx_apply, unit_off, unit_stride]
    · intro d x
      refine (Memref.IsWhole.readAt_unread (hs0_7 t) _ _ _).trans ?_
      blk_ext [Rect.idx_withinL, LoadRect.idx_apply, unit_off, unit_stride]
  case piece29 =>
    idx_vars x
    rw [S_at m c t y 0 2 x0 0 x1 (by first | exact h0 | (simp; omega)) (by first | exact h1 | (simp; omega))]
    unfold attp
    change fin2 (bok (blk0 t)) (mok (blk0 t)) (st0 (kall _ _ _) (qall _ _ _ _)) _ _ _ _ _ _ _ _ _ _ _ _ _ _ _ (ix2 x0 x1) = _
    refine tile0_2 _ _ (blk0_eq t) (by have := lt16 t; omega) _ _ _ _ _ _ _ _ _ _ _ _ _ _ _ _ _ _ _ _ _ _ _ _ _ _ _ _ _ _ _ _ x0 0 x1 ?_ ?_ ?_ ?_ ?_ ?_ ?_ ?_ ?_ ?_
    · intro x e
      refine Eq.trans ?_ (dif_pos (show 0 * 128 + x.val < 128 by omega)).symm
      refine (Memref.IsWhole.readAt_unread (hs0_3 t) _ _ _).trans ?_
      blk_ext [Rect.idx_withinL, LoadRect.idx_apply, unit_off, unit_stride]
    · intro x e
      refine Eq.trans ?_ (dif_neg (show ¬(0 * 128 + (128 + x.val) < 128) by omega)).symm
      refine (Memref.IsWhole.readAt_unread (hs0_2 t) _ _ _).trans ?_
      blk_ext [Rect.idx_withinL, LoadRect.idx_apply, unit_off, unit_stride]
    · intro x e
      refine (Memref.IsWhole.readAt_unread (hs0_4 t) _ _ _).trans ?_
      blk_ext [Rect.idx_withinL, LoadRect.idx_apply, unit_off, unit_stride]
    · intro e r
      refine (Memref.IsWhole.readAt_unread (hs0_1 t) _ _ _).trans ?_
      blk_ext [Rect.idx_withinL, LoadRect.idx_apply, unit_off, unit_stride]
    · refine (Memref.IsWhole.readAt_unread (hs0_0 t) _ _ _).trans ?_
      blk_ext [Rect.idx_withinL, LoadRect.idx_apply, unit_off, unit_stride]
    · intro x r
      refine (Memref.IsWhole.readAt_unread (hs0_8 t) _ _ _).trans ?_
      blk_ext [Rect.idx_withinL, LoadRect.idx_apply, unit_off, unit_stride]
    · intro x r
      refine (Memref.IsWhole.readAt_unread (hs0_9 t) _ _ _).trans ?_
      blk_ext [Rect.idx_withinL, LoadRect.idx_apply, unit_off, unit_stride]
    · intro d x
      refine Eq.trans ?_ (dif_pos (show 0 * 128 + x.val < 128 by omega)).symm
      refine (Memref.IsWhole.readAt_unread (hs0_6 t) _ _ _).trans ?_
      blk_ext [Rect.idx_withinL, LoadRect.idx_apply, unit_off, unit_stride]
    · intro d x
      refine Eq.trans ?_ (dif_neg (show ¬(0 * 128 + (128 + x.val) < 128) by omega)).symm
      refine (Memref.IsWhole.readAt_unread (hs0_5 t) _ _ _).trans ?_
      blk_ext [Rect.idx_withinL, LoadRect.idx_apply, unit_off, unit_stride]
    · intro d x
      refine (Memref.IsWhole.readAt_unread (hs0_7 t) _ _ _).trans ?_
      blk_ext [Rect.idx_withinL, LoadRect.idx_apply, unit_off, unit_stride]
  case piece30 =>
    idx_vars x
    rw [S_at m c t y 0 1 x0 0 x1 (by first | exact h0 | (simp; omega)) (by first | exact h1 | (simp; omega))]
    unfold attp
    change fin1 (bok (blk0 t)) (mok (blk0 t)) (st0 (kall _ _ _) (qall _ _ _ _)) _ _ _ _ _ _ _ _ _ _ _ _ _ _ _ (ix2 x0 x1) = _
    refine tile0_1 _ _ (blk0_eq t) (by have := lt16 t; omega) _ _ _ _ _ _ _ _ _ _ _ _ _ _ _ _ _ _ _ _ _ _ _ _ _ _ _ _ _ _ _ _ x0 0 x1 ?_ ?_ ?_ ?_ ?_ ?_ ?_ ?_ ?_ ?_
    · intro x e
      refine Eq.trans ?_ (dif_pos (show 0 * 128 + x.val < 128 by omega)).symm
      refine (Memref.IsWhole.readAt_unread (hs0_3 t) _ _ _).trans ?_
      blk_ext [Rect.idx_withinL, LoadRect.idx_apply, unit_off, unit_stride]
    · intro x e
      refine Eq.trans ?_ (dif_neg (show ¬(0 * 128 + (128 + x.val) < 128) by omega)).symm
      refine (Memref.IsWhole.readAt_unread (hs0_2 t) _ _ _).trans ?_
      blk_ext [Rect.idx_withinL, LoadRect.idx_apply, unit_off, unit_stride]
    · intro x e
      refine (Memref.IsWhole.readAt_unread (hs0_4 t) _ _ _).trans ?_
      blk_ext [Rect.idx_withinL, LoadRect.idx_apply, unit_off, unit_stride]
    · intro e r
      refine (Memref.IsWhole.readAt_unread (hs0_1 t) _ _ _).trans ?_
      blk_ext [Rect.idx_withinL, LoadRect.idx_apply, unit_off, unit_stride]
    · refine (Memref.IsWhole.readAt_unread (hs0_0 t) _ _ _).trans ?_
      blk_ext [Rect.idx_withinL, LoadRect.idx_apply, unit_off, unit_stride]
    · intro x r
      refine (Memref.IsWhole.readAt_unread (hs0_8 t) _ _ _).trans ?_
      blk_ext [Rect.idx_withinL, LoadRect.idx_apply, unit_off, unit_stride]
    · intro x r
      refine (Memref.IsWhole.readAt_unread (hs0_9 t) _ _ _).trans ?_
      blk_ext [Rect.idx_withinL, LoadRect.idx_apply, unit_off, unit_stride]
    · intro d x
      refine Eq.trans ?_ (dif_pos (show 0 * 128 + x.val < 128 by omega)).symm
      refine (Memref.IsWhole.readAt_unread (hs0_6 t) _ _ _).trans ?_
      blk_ext [Rect.idx_withinL, LoadRect.idx_apply, unit_off, unit_stride]
    · intro d x
      refine Eq.trans ?_ (dif_neg (show ¬(0 * 128 + (128 + x.val) < 128) by omega)).symm
      refine (Memref.IsWhole.readAt_unread (hs0_5 t) _ _ _).trans ?_
      blk_ext [Rect.idx_withinL, LoadRect.idx_apply, unit_off, unit_stride]
    · intro d x
      refine (Memref.IsWhole.readAt_unread (hs0_7 t) _ _ _).trans ?_
      blk_ext [Rect.idx_withinL, LoadRect.idx_apply, unit_off, unit_stride]
  case piece31 =>
    idx_vars x
    rw [S_at m c t y 0 0 x0 0 x1 (by first | exact h0 | (simp; omega)) (by first | exact h1 | (simp; omega))]
    unfold attp
    change fin0 (bok (blk0 t)) (mok (blk0 t)) (st0 (kall _ _ _) (qall _ _ _ _)) _ _ _ _ _ _ _ _ _ _ _ _ _ _ _ (ix2 x0 x1) = _
    refine tile0_0 _ _ (blk0_eq t) (by have := lt16 t; omega) _ _ _ _ _ _ _ _ _ _ _ _ _ _ _ _ _ _ _ _ _ _ _ _ _ _ _ _ _ _ _ _ x0 0 x1 ?_ ?_ ?_ ?_ ?_ ?_ ?_ ?_ ?_ ?_
    · intro x e
      refine Eq.trans ?_ (dif_pos (show 0 * 128 + x.val < 128 by omega)).symm
      refine (Memref.IsWhole.readAt_unread (hs0_3 t) _ _ _).trans ?_
      blk_ext [Rect.idx_withinL, LoadRect.idx_apply, unit_off, unit_stride]
    · intro x e
      refine Eq.trans ?_ (dif_neg (show ¬(0 * 128 + (128 + x.val) < 128) by omega)).symm
      refine (Memref.IsWhole.readAt_unread (hs0_2 t) _ _ _).trans ?_
      blk_ext [Rect.idx_withinL, LoadRect.idx_apply, unit_off, unit_stride]
    · intro x e
      refine (Memref.IsWhole.readAt_unread (hs0_4 t) _ _ _).trans ?_
      blk_ext [Rect.idx_withinL, LoadRect.idx_apply, unit_off, unit_stride]
    · intro e r
      refine (Memref.IsWhole.readAt_unread (hs0_1 t) _ _ _).trans ?_
      blk_ext [Rect.idx_withinL, LoadRect.idx_apply, unit_off, unit_stride]
    · refine (Memref.IsWhole.readAt_unread (hs0_0 t) _ _ _).trans ?_
      blk_ext [Rect.idx_withinL, LoadRect.idx_apply, unit_off, unit_stride]
    · intro x r
      refine (Memref.IsWhole.readAt_unread (hs0_8 t) _ _ _).trans ?_
      blk_ext [Rect.idx_withinL, LoadRect.idx_apply, unit_off, unit_stride]
    · intro x r
      refine (Memref.IsWhole.readAt_unread (hs0_9 t) _ _ _).trans ?_
      blk_ext [Rect.idx_withinL, LoadRect.idx_apply, unit_off, unit_stride]
    · intro d x
      refine Eq.trans ?_ (dif_pos (show 0 * 128 + x.val < 128 by omega)).symm
      refine (Memref.IsWhole.readAt_unread (hs0_6 t) _ _ _).trans ?_
      blk_ext [Rect.idx_withinL, LoadRect.idx_apply, unit_off, unit_stride]
    · intro d x
      refine Eq.trans ?_ (dif_neg (show ¬(0 * 128 + (128 + x.val) < 128) by omega)).symm
      refine (Memref.IsWhole.readAt_unread (hs0_5 t) _ _ _).trans ?_
      blk_ext [Rect.idx_withinL, LoadRect.idx_apply, unit_off, unit_stride]
    · intro d x
      refine (Memref.IsWhole.readAt_unread (hs0_7 t) _ _ _).trans ?_
      blk_ext [Rect.idx_withinL, LoadRect.idx_apply, unit_off, unit_stride]

end Cert.MixerIdeal.Att
-- ==== Proof.StoresB.lean ====
module

public import proofs.«01_k».proof.Proof.Store

@[expose] public section

/-! The stores of the attention's window in case B leave the attention of the grid point's rows. -/

set_option maxRecDepth 16384

noncomputable section

namespace Cert.MixerIdeal.Att

open Cert.MixerIdeal Cert.MixerIdeal.Gen
open Idealize.ShloMosaic Idealize.ShloMosaic.TcCoe Idealize.SL.Sem

variable (m : (ℓ : Loc nD τ sig) → Buf (Elt Ideal) ℓ)

set_option maxHeartbeats 2000000 in
/-- What the window holds after a grid point of case B. -/
theorem sB (c : Dev nD) (t : Fin cfg0.N) (h0 : ¬t.val % 16 = 0) xs0 xs1 xs2 xs3 (y : S1024x256.Idx) :
    VO0_23.read (Elt Ideal) (VO0_23.writes (Elt Ideal) VO0_23.junk (LB m c t h0 xs0 xs1 xs2 xs3)) y = S m c t y := by
  rw [View.read_writes_junk_eq_canon]
  unfold LB
  unfold kernelRun0_B
  dsimp only
  canon_tiles x h
  case piece0 =>
    idx_vars x
    rw [S_at m c t y 3 3 x0 1 x1 (by first | exact h0 | (simp; omega)) (by first | exact h1 | (simp; omega))]
    unfold attp
    change fin3 (bok (blk1 t)) (mok (blk1 t)) (st3 (kall _ _ _) (qall _ _ _ _)) _ _ _ _ _ _ _ _ _ _ _ _ _ _ _ (ix2 x0 x1) = _
    refine tile3_3 _ _ (blk1_eq t) (by have := lt16 t; omega) _ _ _ _ _ _ _ _ _ _ _ _ _ _ _ _ _ _ _ _ _ _ _ _ _ _ _ _ _ _ _ _ x0 1 x1 ?_ ?_ ?_ ?_ ?_ ?_ ?_ ?_ ?_ ?_
    · intro x e
      refine Eq.trans ?_ (dif_neg (show ¬(1 * 128 + x.val < 128) by omega)).symm
      refine (Memref.IsWhole.readAt_unread (hs0_2 t) _ _ _).trans ?_
      blk_ext [Rect.idx_withinL, LoadRect.idx_apply, unit_off, unit_stride]
    · intro x e
      refine Eq.trans ?_ (dif_neg (show ¬(1 * 128 + (128 + x.val) < 128) by omega)).symm
      refine (Memref.IsWhole.readAt_unread (hs0_2 t) _ _ _).trans ?_
      blk_ext [Rect.idx_withinL, LoadRect.idx_apply, unit_off, unit_stride]
    · intro x e
      refine (Memref.IsWhole.readAt_unread (hs0_4 t) _ _ _).trans ?_
      blk_ext [Rect.idx_withinL, LoadRect.idx_apply, unit_off, unit_stride]
    · intro e r
      refine (Memref.IsWhole.readAt_unread (hs0_1 t) _ _ _).trans ?_
      blk_ext [Rect.idx_withinL, LoadRect.idx_apply, unit_off, unit_stride]
    · refine (Memref.IsWhole.readAt_unread (hs0_0 t) _ _ _).trans ?_
      blk_ext [Rect.idx_withinL, LoadRect.idx_apply, unit_off, unit_stride]
    · intro x r
      refine (Memref.IsWhole.readAt_unread (hs0_8 t) _ _ _).trans ?_
      blk_ext [Rect.idx_withinL, LoadRect.idx_apply, unit_off, unit_stride]
    · intro x r
      refine (Memref.IsWhole.readAt_unread (hs0_9 t) _ _ _).trans ?_
      blk_ext [Rect.idx_withinL, LoadRect.idx_apply, unit_off, unit_stride]
    · intro d x
      refine Eq.trans ?_ (dif_neg (show ¬(1 * 128 + x.val < 128) by omega)).symm
      refine (Memref.IsWhole.readAt_unread (hs0_5 t) _ _ _).trans ?_
      blk_ext [Rect.idx_withinL, LoadRect.idx_apply, unit_off, unit_stride]
    · intro d x
      refine Eq.trans ?_ (dif_neg (show ¬(1 * 128 + (128 + x.val) < 128) by omega)).symm
      refine (Memref.IsWhole.readAt_unread (hs0_5 t) _ _ _).trans ?_
      blk_ext [Rect.idx_withinL, LoadRect.idx_apply, unit_off, unit_stride]
    · intro d x
      refine (Memref.IsWhole.readAt_unread (hs0_7 t) _ _ _).trans ?_
      blk_ext [Rect.idx_withinL, LoadRect.idx_apply, unit_off, unit_stride]
  case piece1 =>
    idx_vars x
    rw [S_at m c t y 3 2 x0 1 x1 (by first | exact h0 | (simp; omega)) (by first | exact h1 | (simp; omega))]
    unfold attp
    change fin2 (bok (blk1 t)) (mok (blk1 t)) (st3 (kall _ _ _) (qall _ _ _ _)) _ _ _ _ _ _ _ _ _ _ _ _ _ _ _ (ix2 x0 x1) = _
    refine tile3_2 _ _ (blk1_eq t) (by have := lt16 t; omega) _ _ _ _ _ _ _ _ _ _ _ _ _ _ _ _ _ _ _ _ _ _ _ _ _ _ _ _ _ _ _ _ x0 1 x1 ?_ ?_ ?_ ?_ ?_ ?_ ?_ ?_ ?_ ?_
    · intro x e
      refine Eq.trans ?_ (dif_neg (show ¬(1 * 128 + x.val < 128) by omega)).symm
      refine (Memref.IsWhole.readAt_unread (hs0_2 t) _ _ _).trans ?_
      blk_ext [Rect.idx_withinL, LoadRect.idx_apply, unit_off, unit_stride]
    · intro x e
      refine Eq.trans ?_ (dif_neg (show ¬(1 * 128 + (128 + x.val) < 128) by omega)).symm
      refine (Memref.IsWhole.readAt_unread (hs0_2 t) _ _ _).trans ?_
      blk_ext [Rect.idx_withinL, LoadRect.idx_apply, unit_off, unit_stride]
    · intro x e
      refine (Memref.IsWhole.readAt_unread (hs0_4 t) _ _ _).trans ?_
      blk_ext [Rect.idx_withinL, LoadRect.idx_apply, unit_off, unit_stride]
    · intro e r
      refine (Memref.IsWhole.readAt_unread (hs0_1 t) _ _ _).trans ?_
      blk_ext [Rect.idx_withinL, LoadRect.idx_apply, unit_off, unit_stride]
    · refine (Memref.IsWhole.readAt_unread (hs0_0 t) _ _ _).trans ?_
      blk_ext [Rect.idx_withinL, LoadRect.idx_apply, unit_off, unit_stride]
    · intro x r
      refine (Memref.IsWhole.readAt_unread (hs0_8 t) _ _ _).trans ?_
      blk_ext [Rect.idx_withinL, LoadRect.idx_apply, unit_off, unit_stride]
    · intro x r
      refine (Memref.IsWhole.readAt_unread (hs0_9 t) _ _ _).trans ?_
      blk_ext [Rect.idx_withinL, LoadRect.idx_apply, unit_off, unit_stride]
    · intro d x
      refine Eq.trans ?_ (dif_neg (show ¬(1 * 128 + x.val < 128) by omega)).symm
      refine (Memref.IsWhole.readAt_unread (hs0_5 t) _ _ _).trans ?_
      blk_ext [Rect.idx_withinL, LoadRect.idx_apply, unit_off, unit_stride]
    · intro d x
      refine Eq.trans ?_ (dif_neg (show ¬(1 * 128 + (128 + x.val) < 128) by omega)).symm
      refine (Memref.IsWhole.readAt_unread (hs0_5 t) _ _ _).trans ?_
      blk_ext [Rect.idx_withinL, LoadRect.idx_apply, unit_off, unit_stride]
    · intro d x
      refine (Memref.IsWhole.readAt_unread (hs0_7 t) _ _ _).trans ?_
      blk_ext [Rect.idx_withinL, LoadRect.idx_apply, unit_off, unit_stride]
  case piece2 =>
    idx_vars x
    rw [S_at m c t y 3 1 x0 1 x1 (by first | exact h0 | (simp; omega)) (by first | exact h1 | (simp; omega))]
    unfold attp
    change fin1 (bok (blk1 t)) (mok (blk1 t)) (st3 (kall _ _ _) (qall _ _ _ _)) _ _ _ _ _ _ _ _ _ _ _ _ _ _ _ (ix2 x0 x1) = _
    refine tile3_1 _ _ (blk1_eq t) (by have := lt16 t; omega) _ _ _ _ _ _ _ _ _ _ _ _ _ _ _ _ _ _ _ _ _ _ _ _ _ _ _ _ _ _ _ _ x0 1 x1 ?_ ?_ ?_ ?_ ?_ ?_ ?_ ?_ ?_ ?_
    · intro x e
      refine Eq.trans ?_ (dif_neg (show ¬(1 * 128 + x.val < 128) by omega)).symm
      refine (Memref.IsWhole.readAt_unread (hs0_2 t) _ _ _).trans ?_
      blk_ext [Rect.idx_withinL, LoadRect.idx_apply, unit_off, unit_stride]
    · intro x e
      refine Eq.trans ?_ (dif_neg (show ¬(1 * 128 + (128 + x.val) < 128) by omega)).symm
      refine (Memref.IsWhole.readAt_unread (hs0_2 t) _ _ _).trans ?_
      blk_ext [Rect.idx_withinL, LoadRect.idx_apply, unit_off, unit_stride]
    · intro x e
      refine (Memref.IsWhole.readAt_unread (hs0_4 t) _ _ _).trans ?_
      blk_ext [Rect.idx_withinL, LoadRect.idx_apply, unit_off, unit_stride]
    · intro e r
      refine (Memref.IsWhole.readAt_unread (hs0_1 t) _ _ _).trans ?_
      blk_ext [Rect.idx_withinL, LoadRect.idx_apply, unit_off, unit_stride]
    · refine (Memref.IsWhole.readAt_unread (hs0_0 t) _ _ _).trans ?_
      blk_ext [Rect.idx_withinL, LoadRect.idx_apply, unit_off, unit_stride]
    · intro x r
      refine (Memref.IsWhole.readAt_unread (hs0_8 t) _ _ _).trans ?_
      blk_ext [Rect.idx_withinL, LoadRect.idx_apply, unit_off, unit_stride]
    · intro x r
      refine (Memref.IsWhole.readAt_unread (hs0_9 t) _ _ _).trans ?_
      blk_ext [Rect.idx_withinL, LoadRect.idx_apply, unit_off, unit_stride]
    · intro d x
      refine Eq.trans ?_ (dif_neg (show ¬(1 * 128 + x.val < 128) by omega)).symm
      refine (Memref.IsWhole.readAt_unread (hs0_5 t) _ _ _).trans ?_
      blk_ext [Rect.idx_withinL, LoadRect.idx_apply, unit_off, unit_stride]
    · intro d x
      refine Eq.trans ?_ (dif_neg (show ¬(1 * 128 + (128 + x.val) < 128) by omega)).symm
      refine (Memref.IsWhole.readAt_unread (hs0_5 t) _ _ _).trans ?_
      blk_ext [Rect.idx_withinL, LoadRect.idx_apply, unit_off, unit_stride]
    · intro d x
      refine (Memref.IsWhole.readAt_unread (hs0_7 t) _ _ _).trans ?_
      blk_ext [Rect.idx_withinL, LoadRect.idx_apply, unit_off, unit_stride]
  case piece3 =>
    idx_vars x
    rw [S_at m c t y 3 0 x0 1 x1 (by first | exact h0 | (simp; omega)) (by first | exact h1 | (simp; omega))]
    unfold attp
    change fin0 (bok (blk1 t)) (mok (blk1 t)) (st3 (kall _ _ _) (qall _ _ _ _)) _ _ _ _ _ _ _ _ _ _ _ _ _ _ _ (ix2 x0 x1) = _
    refine tile3_0 _ _ (blk1_eq t) (by have := lt16 t; omega) _ _ _ _ _ _ _ _ _ _ _ _ _ _ _ _ _ _ _ _ _ _ _ _ _ _ _ _ _ _ _ _ x0 1 x1 ?_ ?_ ?_ ?_ ?_ ?_ ?_ ?_ ?_ ?_
    · intro x e
      refine Eq.trans ?_ (dif_neg (show ¬(1 * 128 + x.val < 128) by omega)).symm
      refine (Memref.IsWhole.readAt_unread (hs0_2 t) _ _ _).trans ?_
      blk_ext [Rect.idx_withinL, LoadRect.idx_apply, unit_off, unit_stride]
    · intro x e
      refine Eq.trans ?_ (dif_neg (show ¬(1 * 128 + (128 + x.val) < 128) by omega)).symm
      refine (Memref.IsWhole.readAt_unread (hs0_2 t) _ _ _).trans ?_
      blk_ext [Rect.idx_withinL, LoadRect.idx_apply, unit_off, unit_stride]
    · intro x e
      refine (Memref.IsWhole.readAt_unread (hs0_4 t) _ _ _).trans ?_
      blk_ext [Rect.idx_withinL, LoadRect.idx_apply, unit_off, unit_stride]
    · intro e r
      refine (Memref.IsWhole.readAt_unread (hs0_1 t) _ _ _).trans ?_
      blk_ext [Rect.idx_withinL, LoadRect.idx_apply, unit_off, unit_stride]
    · refine (Memref.IsWhole.readAt_unread (hs0_0 t) _ _ _).trans ?_
      blk_ext [Rect.idx_withinL, LoadRect.idx_apply, unit_off, unit_stride]
    · intro x r
      refine (Memref.IsWhole.readAt_unread (hs0_8 t) _ _ _).trans ?_
      blk_ext [Rect.idx_withinL, LoadRect.idx_apply, unit_off, unit_stride]
    · intro x r
      refine (Memref.IsWhole.readAt_unread (hs0_9 t) _ _ _).trans ?_
      blk_ext [Rect.idx_withinL, LoadRect.idx_apply, unit_off, unit_stride]
    · intro d x
      refine Eq.trans ?_ (dif_neg (show ¬(1 * 128 + x.val < 128) by omega)).symm
      refine (Memref.IsWhole.readAt_unread (hs0_5 t) _ _ _).trans ?_
      blk_ext [Rect.idx_withinL, LoadRect.idx_apply, unit_off, unit_stride]
    · intro d x
      refine Eq.trans ?_ (dif_neg (show ¬(1 * 128 + (128 + x.val) < 128) by omega)).symm
      refine (Memref.IsWhole.readAt_unread (hs0_5 t) _ _ _).trans ?_
      blk_ext [Rect.idx_withinL, LoadRect.idx_apply, unit_off, unit_stride]
    · intro d x
      refine (Memref.IsWhole.readAt_unread (hs0_7 t) _ _ _).trans ?_
      blk_ext [Rect.idx_withinL, LoadRect.idx_apply, unit_off, unit_stride]
  case piece4 =>
    idx_vars x
    rw [S_at m c t y 3 3 x0 0 x1 (by first | exact h0 | (simp; omega)) (by first | exact h1 | (simp; omega))]
    unfold attp
    change fin3 (bok (blk0 t)) (mok (blk0 t)) (st3 (kall _ _ _) (qall _ _ _ _)) _ _ _ _ _ _ _ _ _ _ _ _ _ _ _ (ix2 x0 x1) = _
    refine tile3_3 _ _ (blk0_eq t) (by have := lt16 t; omega) _ _ _ _ _ _ _ _ _ _ _ _ _ _ _ _ _ _ _ _ _ _ _ _ _ _ _ _ _ _ _ _ x0 0 x1 ?_ ?_ ?_ ?_ ?_ ?_ ?_ ?_ ?_ ?_
    · intro x e
      refine Eq.trans ?_ (dif_pos (show 0 * 128 + x.val < 128 by omega)).symm
      refine (Memref.IsWhole.readAt_unread (hs0_3 t) _ _ _).trans ?_
      blk_ext [Rect.idx_withinL, LoadRect.idx_apply, unit_off, unit_stride]
    · intro x e
      refine Eq.trans ?_ (dif_neg (show ¬(0 * 128 + (128 + x.val) < 128) by omega)).symm
      refine (Memref.IsWhole.readAt_unread (hs0_2 t) _ _ _).trans ?_
      blk_ext [Rect.idx_withinL, LoadRect.idx_apply, unit_off, unit_stride]
    · intro x e
      refine (Memref.IsWhole.readAt_unread (hs0_4 t) _ _ _).trans ?_
      blk_ext [Rect.idx_withinL, LoadRect.idx_apply, unit_off, unit_stride]
    · intro e r
      refine (Memref.IsWhole.readAt_unread (hs0_1 t) _ _ _).trans ?_
      blk_ext [Rect.idx_withinL, LoadRect.idx_apply, unit_off, unit_stride]
    · refine (Memref.IsWhole.readAt_unread (hs0_0 t) _ _ _).trans ?_
      blk_ext [Rect.idx_withinL, LoadRect.idx_apply, unit_off, unit_stride]
    · intro x r
      refine (Memref.IsWhole.readAt_unread (hs0_8 t) _ _ _).trans ?_
      blk_ext [Rect.idx_withinL, LoadRect.idx_apply, unit_off, unit_stride]
    · intro x r
      refine (Memref.IsWhole.readAt_unread (hs0_9 t) _ _ _).trans ?_
      blk_ext [Rect.idx_withinL, LoadRect.idx_apply, unit_off, unit_stride]
    · intro d x
      refine Eq.trans ?_ (dif_pos (show 0 * 128 + x.val < 128 by omega)).symm
      refine (Memref.IsWhole.readAt_unread (hs0_6 t) _ _ _).trans ?_
      blk_ext [Rect.idx_withinL, LoadRect.idx_apply, unit_off, unit_stride]
    · intro d x
      refine Eq.trans ?_ (dif_neg (show ¬(0 * 128 + (128 + x.val) < 128) by omega)).symm
      refine (Memref.IsWhole.readAt_unread (hs0_5 t) _ _ _).trans ?_
      blk_ext [Rect.idx_withinL, LoadRect.idx_apply, unit_off, unit_stride]
    · intro d x
      refine (Memref.IsWhole.readAt_unread (hs0_7 t) _ _ _).trans ?_
      blk_ext [Rect.idx_withinL, LoadRect.idx_apply, unit_off, unit_stride]
  case piece5 =>
    idx_vars x
    rw [S_at m c t y 3 2 x0 0 x1 (by first | exact h0 | (simp; omega)) (by first | exact h1 | (simp; omega))]
    unfold attp
    change fin2 (bok (blk0 t)) (mok (blk0 t)) (st3 (kall _ _ _) (qall _ _ _ _)) _ _ _ _ _ _ _ _ _ _ _ _ _ _ _ (ix2 x0 x1) = _
    refine tile3_2 _ _ (blk0_eq t) (by have := lt16 t; omega) _ _ _ _ _ _ _ _ _ _ _ _ _ _ _ _ _ _ _ _ _ _ _ _ _ _ _ _ _ _ _ _ x0 0 x1 ?_ ?_ ?_ ?_ ?_ ?_ ?_ ?_ ?_ ?_
    · intro x e
      refine Eq.trans ?_ (dif_pos (show 0 * 128 + x.val < 128 by omega)).symm
      refine (Memref.IsWhole.readAt_unread (hs0_3 t) _ _ _).trans ?_
      blk_ext [Rect.idx_withinL, LoadRect.idx_apply, unit_off, unit_stride]
    · intro x e
      refine Eq.trans ?_ (dif_neg (show ¬(0 * 128 + (128 + x.val) < 128) by omega)).symm
      refine (Memref.IsWhole.readAt_unread (hs0_2 t) _ _ _).trans ?_
      blk_ext [Rect.idx_withinL, LoadRect.idx_apply, unit_off, unit_stride]
    · intro x e
      refine (Memref.IsWhole.readAt_unread (hs0_4 t) _ _ _).trans ?_
      blk_ext [Rect.idx_withinL, LoadRect.idx_apply, unit_off, unit_stride]
    · intro e r
      refine (Memref.IsWhole.readAt_unread (hs0_1 t) _ _ _).trans ?_
      blk_ext [Rect.idx_withinL, LoadRect.idx_apply, unit_off, unit_stride]
    · refine (Memref.IsWhole.readAt_unread (hs0_0 t) _ _ _).trans ?_
      blk_ext [Rect.idx_withinL, LoadRect.idx_apply, unit_off, unit_stride]
    · intro x r
      refine (Memref.IsWhole.readAt_unread (hs0_8 t) _ _ _).trans ?_
      blk_ext [Rect.idx_withinL, LoadRect.idx_apply, unit_off, unit_stride]
    · intro x r
      refine (Memref.IsWhole.readAt_unread (hs0_9 t) _ _ _).trans ?_
      blk_ext [Rect.idx_withinL, LoadRect.idx_apply, unit_off, unit_stride]
    · intro d x
      refine Eq.trans ?_ (dif_pos (show 0 * 128 + x.val < 128 by omega)).symm
      refine (Memref.IsWhole.readAt_unread (hs0_6 t) _ _ _).trans ?_
      blk_ext [Rect.idx_withinL, LoadRect.idx_apply, unit_off, unit_stride]
    · intro d x
      refine Eq.trans ?_ (dif_neg (show ¬(0 * 128 + (128 + x.val) < 128) by omega)).symm
      refine (Memref.IsWhole.readAt_unread (hs0_5 t) _ _ _).trans ?_
      blk_ext [Rect.idx_withinL, LoadRect.idx_apply, unit_off, unit_stride]
    · intro d x
      refine (Memref.IsWhole.readAt_unread (hs0_7 t) _ _ _).trans ?_
      blk_ext [Rect.idx_withinL, LoadRect.idx_apply, unit_off, unit_stride]
  case piece6 =>
    idx_vars x
    rw [S_at m c t y 3 1 x0 0 x1 (by first | exact h0 | (simp; omega)) (by first | exact h1 | (simp; omega))]
    unfold attp
    change fin1 (bok (blk0 t)) (mok (blk0 t)) (st3 (kall _ _ _) (qall _ _ _ _)) _ _ _ _ _ _ _ _ _ _ _ _ _ _ _ (ix2 x0 x1) = _
    refine tile3_1 _ _ (blk0_eq t) (by have := lt16 t; omega) _ _ _ _ _ _ _ _ _ _ _ _ _ _ _ _ _ _ _ _ _ _ _ _ _ _ _ _ _ _ _ _ x0 0 x1 ?_ ?_ ?_ ?_ ?_ ?_ ?_ ?_ ?_ ?_
    · intro x e
      refine Eq.trans ?_ (dif_pos (show 0 * 128 + x.val < 128 by omega)).symm
      refine (Memref.IsWhole.readAt_unread (hs0_3 t) _ _ _).trans ?_
      blk_ext [Rect.idx_withinL, LoadRect.idx_apply, unit_off, unit_stride]
    · intro x e
      refine Eq.trans ?_ (dif_neg (show ¬(0 * 128 + (128 + x.val) < 128) by omega)).symm
      refine (Memref.IsWhole.readAt_unread (hs0_2 t) _ _ _).trans ?_
      blk_ext [Rect.idx_withinL, LoadRect.idx_apply, unit_off, unit_stride]
    · intro x e
      refine (Memref.IsWhole.readAt_unread (hs0_4 t) _ _ _).trans ?_
      blk_ext [Rect.idx_withinL, LoadRect.idx_apply, unit_off, unit_stride]
    · intro e r
      refine (Memref.IsWhole.readAt_unread (hs0_1 t) _ _ _).trans ?_
      blk_ext [Rect.idx_withinL, LoadRect.idx_apply, unit_off, unit_stride]
    · refine (Memref.IsWhole.readAt_unread (hs0_0 t) _ _ _).trans ?_
      blk_ext [Rect.idx_withinL, LoadRect.idx_apply, unit_off, unit_stride]
    · intro x r
      refine (Memref.IsWhole.readAt_unread (hs0_8 t) _ _ _).trans ?_
      blk_ext [Rect.idx_withinL, LoadRect.idx_apply, unit_off, unit_stride]
    · intro x r
      refine (Memref.IsWhole.readAt_unread (hs0_9 t) _ _ _).trans ?_
      blk_ext [Rect.idx_withinL, LoadRect.idx_apply, unit_off, unit_stride]
    · intro d x
      refine Eq.trans ?_ (dif_pos (show 0 * 128 + x.val < 128 by omega)).symm
      refine (Memref.IsWhole.readAt_unread (hs0_6 t) _ _ _).trans ?_
      blk_ext [Rect.idx_withinL, LoadRect.idx_apply, unit_off, unit_stride]
    · intro d x
      refine Eq.trans ?_ (dif_neg (show ¬(0 * 128 + (128 + x.val) < 128) by omega)).symm
      refine (Memref.IsWhole.readAt_unread (hs0_5 t) _ _ _).trans ?_
      blk_ext [Rect.idx_withinL, LoadRect.idx_apply, unit_off, unit_stride]
    · intro d x
      refine (Memref.IsWhole.readAt_unread (hs0_7 t) _ _ _).trans ?_
      blk_ext [Rect.idx_withinL, LoadRect.idx_apply, unit_off, unit_stride]
  case piece7 =>
    idx_vars x
    rw [S_at m c t y 3 0 x0 0 x1 (by first | exact h0 | (simp; omega)) (by first | exact h1 | (simp; omega))]
    unfold attp
    change fin0 (bok (blk0 t)) (mok (blk0 t)) (st3 (kall _ _ _) (qall _ _ _ _)) _ _ _ _ _ _ _ _ _ _ _ _ _ _ _ (ix2 x0 x1) = _
    refine tile3_0 _ _ (blk0_eq t) (by have := lt16 t; omega) _ _ _ _ _ _ _ _ _ _ _ _ _ _ _ _ _ _ _ _ _ _ _ _ _ _ _ _ _ _ _ _ x0 0 x1 ?_ ?_ ?_ ?_ ?_ ?_ ?_ ?_ ?_ ?_
    · intro x e
      refine Eq.trans ?_ (dif_pos (show 0 * 128 + x.val < 128 by omega)).symm
      refine (Memref.IsWhole.readAt_unread (hs0_3 t) _ _ _).trans ?_
      blk_ext [Rect.idx_withinL, LoadRect.idx_apply, unit_off, unit_stride]
    · intro x e
      refine Eq.trans ?_ (dif_neg (show ¬(0 * 128 + (128 + x.val) < 128) by omega)).symm
      refine (Memref.IsWhole.readAt_unread (hs0_2 t) _ _ _).trans ?_
      blk_ext [Rect.idx_withinL, LoadRect.idx_apply, unit_off, unit_stride]
    · intro x e
      refine (Memref.IsWhole.readAt_unread (hs0_4 t) _ _ _).trans ?_
      blk_ext [Rect.idx_withinL, LoadRect.idx_apply, unit_off, unit_stride]
    · intro e r
      refine (Memref.IsWhole.readAt_unread (hs0_1 t) _ _ _).trans ?_
      blk_ext [Rect.idx_withinL, LoadRect.idx_apply, unit_off, unit_stride]
    · refine (Memref.IsWhole.readAt_unread (hs0_0 t) _ _ _).trans ?_
      blk_ext [Rect.idx_withinL, LoadRect.idx_apply, unit_off, unit_stride]
    · intro x r
      refine (Memref.IsWhole.readAt_unread (hs0_8 t) _ _ _).trans ?_
      blk_ext [Rect.idx_withinL, LoadRect.idx_apply, unit_off, unit_stride]
    · intro x r
      refine (Memref.IsWhole.readAt_unread (hs0_9 t) _ _ _).trans ?_
      blk_ext [Rect.idx_withinL, LoadRect.idx_apply, unit_off, unit_stride]
    · intro d x
      refine Eq.trans ?_ (dif_pos (show 0 * 128 + x.val < 128 by omega)).symm
      refine (Memref.IsWhole.readAt_unread (hs0_6 t) _ _ _).trans ?_
      blk_ext [Rect.idx_withinL, LoadRect.idx_apply, unit_off, unit_stride]
    · intro d x
      refine Eq.trans ?_ (dif_neg (show ¬(0 * 128 + (128 + x.val) < 128) by omega)).symm
      refine (Memref.IsWhole.readAt_unread (hs0_5 t) _ _ _).trans ?_
      blk_ext [Rect.idx_withinL, LoadRect.idx_apply, unit_off, unit_stride]
    · intro d x
      refine (Memref.IsWhole.readAt_unread (hs0_7 t) _ _ _).trans ?_
      blk_ext [Rect.idx_withinL, LoadRect.idx_apply, unit_off, unit_stride]
  case piece8 =>
    idx_vars x
    rw [S_at m c t y 2 3 x0 1 x1 (by first | exact h0 | (simp; omega)) (by first | exact h1 | (simp; omega))]
    unfold attp
    change fin3 (bok (blk1 t)) (mok (blk1 t)) (st2 (kall _ _ _) (qall _ _ _ _)) _ _ _ _ _ _ _ _ _ _ _ _ _ _ _ (ix2 x0 x1) = _
    refine tile2_3 _ _ (blk1_eq t) (by have := lt16 t; omega) _ _ _ _ _ _ _ _ _ _ _ _ _ _ _ _ _ _ _ _ _ _ _ _ _ _ _ _ _ _ _ _ x0 1 x1 ?_ ?_ ?_ ?_ ?_ ?_ ?_ ?_ ?_ ?_
    · intro x e
      refine Eq.trans ?_ (dif_neg (show ¬(1 * 128 + x.val < 128) by omega)).symm
      refine (Memref.IsWhole.readAt_unread (hs0_2 t) _ _ _).trans ?_
      blk_ext [Rect.idx_withinL, LoadRect.idx_apply, unit_off, unit_stride]
    · intro x e
      refine Eq.trans ?_ (dif_neg (show ¬(1 * 128 + (128 + x.val) < 128) by omega)).symm
      refine (Memref.IsWhole.readAt_unread (hs0_2 t) _ _ _).trans ?_
      blk_ext [Rect.idx_withinL, LoadRect.idx_apply, unit_off, unit_stride]
    · intro x e
      refine (Memref.IsWhole.readAt_unread (hs0_4 t) _ _ _).trans ?_
      blk_ext [Rect.idx_withinL, LoadRect.idx_apply, unit_off, unit_stride]
    · intro e r
      refine (Memref.IsWhole.readAt_unread (hs0_1 t) _ _ _).trans ?_
      blk_ext [Rect.idx_withinL, LoadRect.idx_apply, unit_off, unit_stride]
    · refine (Memref.IsWhole.readAt_unread (hs0_0 t) _ _ _).trans ?_
      blk_ext [Rect.idx_withinL, LoadRect.idx_apply, unit_off, unit_stride]
    · intro x r
      refine (Memref.IsWhole.readAt_unread (hs0_8 t) _ _ _).trans ?_
      blk_ext [Rect.idx_withinL, LoadRect.idx_apply, unit_off, unit_stride]
    · intro x r
      refine (Memref.IsWhole.readAt_unread (hs0_9 t) _ _ _).trans ?_
      blk_ext [Rect.idx_withinL, LoadRect.idx_apply, unit_off, unit_stride]
    · intro d x
      refine Eq.trans ?_ (dif_neg (show ¬(1 * 128 + x.val < 128) by omega)).symm
      refine (Memref.IsWhole.readAt_unread (hs0_5 t) _ _ _).trans ?_
      blk_ext [Rect.idx_withinL, LoadRect.idx_apply, unit_off, unit_stride]
    · intro d x
      refine Eq.trans ?_ (dif_neg (show ¬(1 * 128 + (128 + x.val) < 128) by omega)).symm
      refine (Memref.IsWhole.readAt_unread (hs0_5 t) _ _ _).trans ?_
      blk_ext [Rect.idx_withinL, LoadRect.idx_apply, unit_off, unit_stride]
    · intro d x
      refine (Memref.IsWhole.readAt_unread (hs0_7 t) _ _ _).trans ?_
      blk_ext [Rect.idx_withinL, LoadRect.idx_apply, unit_off, unit_stride]
  case piece9 =>
    idx_vars x
    rw [S_at m c t y 2 2 x0 1 x1 (by first | exact h0 | (simp; omega)) (by first | exact h1 | (simp; omega))]
    unfold attp
    change fin2 (bok (blk1 t)) (mok (blk1 t)) (st2 (kall _ _ _) (qall _ _ _ _)) _ _ _ _ _ _ _ _ _ _ _ _ _ _ _ (ix2 x0 x1) = _
    refine tile2_2 _ _ (blk1_eq t) (by have := lt16 t; omega) _ _ _ _ _ _ _ _ _ _ _ _ _ _ _ _ _ _ _ _ _ _ _ _ _ _ _ _ _ _ _ _ x0 1 x1 ?_ ?_ ?_ ?_ ?_ ?_ ?_ ?_ ?_ ?_
    · intro x e
      refine Eq.trans ?_ (dif_neg (show ¬(1 * 128 + x.val < 128) by omega)).symm
      refine (Memref.IsWhole.readAt_unread (hs0_2 t) _ _ _).trans ?_
      blk_ext [Rect.idx_withinL, LoadRect.idx_apply, unit_off, unit_stride]
    · intro x e
      refine Eq.trans ?_ (dif_neg (show ¬(1 * 128 + (128 + x.val) < 128) by omega)).symm
      refine (Memref.IsWhole.readAt_unread (hs0_2 t) _ _ _).trans ?_
      blk_ext [Rect.idx_withinL, LoadRect.idx_apply, unit_off, unit_stride]
    · intro x e
      refine (Memref.IsWhole.readAt_unread (hs0_4 t) _ _ _).trans ?_
      blk_ext [Rect.idx_withinL, LoadRect.idx_apply, unit_off, unit_stride]
    · intro e r
      refine (Memref.IsWhole.readAt_unread (hs0_1 t) _ _ _).trans ?_
      blk_ext [Rect.idx_withinL, LoadRect.idx_apply, unit_off, unit_stride]
    · refine (Memref.IsWhole.readAt_unread (hs0_0 t) _ _ _).trans ?_
      blk_ext [Rect.idx_withinL, LoadRect.idx_apply, unit_off, unit_stride]
    · intro x r
      refine (Memref.IsWhole.readAt_unread (hs0_8 t) _ _ _).trans ?_
      blk_ext [Rect.idx_withinL, LoadRect.idx_apply, unit_off, unit_stride]
    · intro x r
      refine (Memref.IsWhole.readAt_unread (hs0_9 t) _ _ _).trans ?_
      blk_ext [Rect.idx_withinL, LoadRect.idx_apply, unit_off, unit_stride]
    · intro d x
      refine Eq.trans ?_ (dif_neg (show ¬(1 * 128 + x.val < 128) by omega)).symm
      refine (Memref.IsWhole.readAt_unread (hs0_5 t) _ _ _).trans ?_
      blk_ext [Rect.idx_withinL, LoadRect.idx_apply, unit_off, unit_stride]
    · intro d x
      refine Eq.trans ?_ (dif_neg (show ¬(1 * 128 + (128 + x.val) < 128) by omega)).symm
      refine (Memref.IsWhole.readAt_unread (hs0_5 t) _ _ _).trans ?_
      blk_ext [Rect.idx_withinL, LoadRect.idx_apply, unit_off, unit_stride]
    · intro d x
      refine (Memref.IsWhole.readAt_unread (hs0_7 t) _ _ _).trans ?_
      blk_ext [Rect.idx_withinL, LoadRect.idx_apply, unit_off, unit_stride]
  case piece10 =>
    idx_vars x
    rw [S_at m c t y 2 1 x0 1 x1 (by first | exact h0 | (simp; omega)) (by first | exact h1 | (simp; omega))]
    unfold attp
    change fin1 (bok (blk1 t)) (mok (blk1 t)) (st2 (kall _ _ _) (qall _ _ _ _)) _ _ _ _ _ _ _ _ _ _ _ _ _ _ _ (ix2 x0 x1) = _
    refine tile2_1 _ _ (blk1_eq t) (by have := lt16 t; omega) _ _ _ _ _ _ _ _ _ _ _ _ _ _ _ _ _ _ _ _ _ _ _ _ _ _ _ _ _ _ _ _ x0 1 x1 ?_ ?_ ?_ ?_ ?_ ?_ ?_ ?_ ?_ ?_
    · intro x e
      refine Eq.trans ?_ (dif_neg (show ¬(1 * 128 + x.val < 128) by omega)).symm
      refine (Memref.IsWhole.readAt_unread (hs0_2 t) _ _ _).trans ?_
      blk_ext [Rect.idx_withinL, LoadRect.idx_apply, unit_off, unit_stride]
    · intro x e
      refine Eq.trans ?_ (dif_neg (show ¬(1 * 128 + (128 + x.val) < 128) by omega)).symm
      refine (Memref.IsWhole.readAt_unread (hs0_2 t) _ _ _).trans ?_
      blk_ext [Rect.idx_withinL, LoadRect.idx_apply, unit_off, unit_stride]
    · intro x e
      refine (Memref.IsWhole.readAt_unread (hs0_4 t) _ _ _).trans ?_
      blk_ext [Rect.idx_withinL, LoadRect.idx_apply, unit_off, unit_stride]
    · intro e r
      refine (Memref.IsWhole.readAt_unread (hs0_1 t) _ _ _).trans ?_
      blk_ext [Rect.idx_withinL, LoadRect.idx_apply, unit_off, unit_stride]
    · refine (Memref.IsWhole.readAt_unread (hs0_0 t) _ _ _).trans ?_
      blk_ext [Rect.idx_withinL, LoadRect.idx_apply, unit_off, unit_stride]
    · intro x r
      refine (Memref.IsWhole.readAt_unread (hs0_8 t) _ _ _).trans ?_
      blk_ext [Rect.idx_withinL, LoadRect.idx_apply, unit_off, unit_stride]
    · intro x r
      refine (Memref.IsWhole.readAt_unread (hs0_9 t) _ _ _).trans ?_
      blk_ext [Rect.idx_withinL, LoadRect.idx_apply, unit_off, unit_stride]
    · intro d x
      refine Eq.trans ?_ (dif_neg (show ¬(1 * 128 + x.val < 128) by omega)).symm
      refine (Memref.IsWhole.readAt_unread (hs0_5 t) _ _ _).trans ?_
      blk_ext [Rect.idx_withinL, LoadRect.idx_apply, unit_off, unit_stride]
    · intro d x
      refine Eq.trans ?_ (dif_neg (show ¬(1 * 128 + (128 + x.val) < 128) by omega)).symm
      refine (Memref.IsWhole.readAt_unread (hs0_5 t) _ _ _).trans ?_
      blk_ext [Rect.idx_withinL, LoadRect.idx_apply, unit_off, unit_stride]
    · intro d x
      refine (Memref.IsWhole.readAt_unread (hs0_7 t) _ _ _).trans ?_
      blk_ext [Rect.idx_withinL, LoadRect.idx_apply, unit_off, unit_stride]
  case piece11 =>
    idx_vars x
    rw [S_at m c t y 2 0 x0 1 x1 (by first | exact h0 | (simp; omega)) (by first | exact h1 | (simp; omega))]
    unfold attp
    change fin0 (bok (blk1 t)) (mok (blk1 t)) (st2 (kall _ _ _) (qall _ _ _ _)) _ _ _ _ _ _ _ _ _ _ _ _ _ _ _ (ix2 x0 x1) = _
    refine tile2_0 _ _ (blk1_eq t) (by have := lt16 t; omega) _ _ _ _ _ _ _ _ _ _ _ _ _ _ _ _ _ _ _ _ _ _ _ _ _ _ _ _ _ _ _ _ x0 1 x1 ?_ ?_ ?_ ?_ ?_ ?_ ?_ ?_ ?_ ?_
    · intro x e
      refine Eq.trans ?_ (dif_neg (show ¬(1 * 128 + x.val < 128) by omega)).symm
      refine (Memref.IsWhole.readAt_unread (hs0_2 t) _ _ _).trans ?_
      blk_ext [Rect.idx_withinL, LoadRect.idx_apply, unit_off, unit_stride]
    · intro x e
      refine Eq.trans ?_ (dif_neg (show ¬(1 * 128 + (128 + x.val) < 128) by omega)).symm
      refine (Memref.IsWhole.readAt_unread (hs0_2 t) _ _ _).trans ?_
      blk_ext [Rect.idx_withinL, LoadRect.idx_apply, unit_off, unit_stride]
    · intro x e
      refine (Memref.IsWhole.readAt_unread (hs0_4 t) _ _ _).trans ?_
      blk_ext [Rect.idx_withinL, LoadRect.idx_apply, unit_off, unit_stride]
    · intro e r
      refine (Memref.IsWhole.readAt_unread (hs0_1 t) _ _ _).trans ?_
      blk_ext [Rect.idx_withinL, LoadRect.idx_apply, unit_off, unit_stride]
    · refine (Memref.IsWhole.readAt_unread (hs0_0 t) _ _ _).trans ?_
      blk_ext [Rect.idx_withinL, LoadRect.idx_apply, unit_off, unit_stride]
    · intro x r
      refine (Memref.IsWhole.readAt_unread (hs0_8 t) _ _ _).trans ?_
      blk_ext [Rect.idx_withinL, LoadRect.idx_apply, unit_off, unit_stride]
    · intro x r
      refine (Memref.IsWhole.readAt_unread (hs0_9 t) _ _ _).trans ?_
      blk_ext [Rect.idx_withinL, LoadRect.idx_apply, unit_off, unit_stride]
    · intro d x
      refine Eq.trans ?_ (dif_neg (show ¬(1 * 128 + x.val < 128) by omega)).symm
      refine (Memref.IsWhole.readAt_unread (hs0_5 t) _ _ _).trans ?_
      blk_ext [Rect.idx_withinL, LoadRect.idx_apply, unit_off, unit_stride]
    · intro d x
      refine Eq.trans ?_ (dif_neg (show ¬(1 * 128 + (128 + x.val) < 128) by omega)).symm
      refine (Memref.IsWhole.readAt_unread (hs0_5 t) _ _ _).trans ?_
      blk_ext [Rect.idx_withinL, LoadRect.idx_apply, unit_off, unit_stride]
    · intro d x
      refine (Memref.IsWhole.readAt_unread (hs0_7 t) _ _ _).trans ?_
      blk_ext [Rect.idx_withinL, LoadRect.idx_apply, unit_off, unit_stride]
  case piece12 =>
    idx_vars x
    rw [S_at m c t y 2 3 x0 0 x1 (by first | exact h0 | (simp; omega)) (by first | exact h1 | (simp; omega))]
    unfold attp
    change fin3 (bok (blk0 t)) (mok (blk0 t)) (st2 (kall _ _ _) (qall _ _ _ _)) _ _ _ _ _ _ _ _ _ _ _ _ _ _ _ (ix2 x0 x1) = _
    refine tile2_3 _ _ (blk0_eq t) (by have := lt16 t; omega) _ _ _ _ _ _ _ _ _ _ _ _ _ _ _ _ _ _ _ _ _ _ _ _ _ _ _ _ _ _ _ _ x0 0 x1 ?_ ?_ ?_ ?_ ?_ ?_ ?_ ?_ ?_ ?_
    · intro x e
      refine Eq.trans ?_ (dif_pos (show 0 * 128 + x.val < 128 by omega)).symm
      refine (Memref.IsWhole.readAt_unread (hs0_3 t) _ _ _).trans ?_
      blk_ext [Rect.idx_withinL, LoadRect.idx_apply, unit_off, unit_stride]
    · intro x e
      refine Eq.trans ?_ (dif_neg (show ¬(0 * 128 + (128 + x.val) < 128) by omega)).symm
      refine (Memref.IsWhole.readAt_unread (hs0_2 t) _ _ _).trans ?_
      blk_ext [Rect.idx_withinL, LoadRect.idx_apply, unit_off, unit_stride]
    · intro x e
      refine (Memref.IsWhole.readAt_unread (hs0_4 t) _ _ _).trans ?_
      blk_ext [Rect.idx_withinL, LoadRect.idx_apply, unit_off, unit_stride]
    · intro e r
      refine (Memref.IsWhole.readAt_unread (hs0_1 t) _ _ _).trans ?_
      blk_ext [Rect.idx_withinL, LoadRect.idx_apply, unit_off, unit_stride]
    · refine (Memref.IsWhole.readAt_unread (hs0_0 t) _ _ _).trans ?_
      blk_ext [Rect.idx_withinL, LoadRect.idx_apply, unit_off, unit_stride]
    · intro x r
      refine (Memref.IsWhole.readAt_unread (hs0_8 t) _ _ _).trans ?_
      blk_ext [Rect.idx_withinL, LoadRect.idx_apply, unit_off, unit_stride]
    · intro x r
      refine (Memref.IsWhole.readAt_unread (hs0_9 t) _ _ _).trans ?_
      blk_ext [Rect.idx_withinL, LoadRect.idx_apply, unit_off, unit_stride]
    · intro d x
      refine Eq.trans ?_ (dif_pos (show 0 * 128 + x.val < 128 by omega)).symm
      refine (Memref.IsWhole.readAt_unread (hs0_6 t) _ _ _).trans ?_
      blk_ext [Rect.idx_withinL, LoadRect.idx_apply, unit_off, unit_stride]
    · intro d x
      refine Eq.trans ?_ (dif_neg (show ¬(0 * 128 + (128 + x.val) < 128) by omega)).symm
      refine (Memref.IsWhole.readAt_unread (hs0_5 t) _ _ _).trans ?_
      blk_ext [Rect.idx_withinL, LoadRect.idx_apply, unit_off, unit_stride]
    · intro d x
      refine (Memref.IsWhole.readAt_unread (hs0_7 t) _ _ _).trans ?_
      blk_ext [Rect.idx_withinL, LoadRect.idx_apply, unit_off, unit_stride]
  case piece13 =>
    idx_vars x
    rw [S_at m c t y 2 2 x0 0 x1 (by first | exact h0 | (simp; omega)) (by first | exact h1 | (simp; omega))]
    unfold attp
    change fin2 (bok (blk0 t)) (mok (blk0 t)) (st2 (kall _ _ _) (qall _ _ _ _)) _ _ _ _ _ _ _ _ _ _ _ _ _ _ _ (ix2 x0 x1) = _
    refine tile2_2 _ _ (blk0_eq t) (by have := lt16 t; omega) _ _ _ _ _ _ _ _ _ _ _ _ _ _ _ _ _ _ _ _ _ _ _ _ _ _ _ _ _ _ _ _ x0 0 x1 ?_ ?_ ?_ ?_ ?_ ?_ ?_ ?_ ?_ ?_
    · intro x e
      refine Eq.trans ?_ (dif_pos (show 0 * 128 + x.val < 128 by omega)).symm
      refine (Memref.IsWhole.readAt_unread (hs0_3 t) _ _ _).trans ?_
      blk_ext [Rect.idx_withinL, LoadRect.idx_apply, unit_off, unit_stride]
    · intro x e
      refine Eq.trans ?_ (dif_neg (show ¬(0 * 128 + (128 + x.val) < 128) by omega)).symm
      refine (Memref.IsWhole.readAt_unread (hs0_2 t) _ _ _).trans ?_
      blk_ext [Rect.idx_withinL, LoadRect.idx_apply, unit_off, unit_stride]
    · intro x e
      refine (Memref.IsWhole.readAt_unread (hs0_4 t) _ _ _).trans ?_
      blk_ext [Rect.idx_withinL, LoadRect.idx_apply, unit_off, unit_stride]
    · intro e r
      refine (Memref.IsWhole.readAt_unread (hs0_1 t) _ _ _).trans ?_
      blk_ext [Rect.idx_withinL, LoadRect.idx_apply, unit_off, unit_stride]
    · refine (Memref.IsWhole.readAt_unread (hs0_0 t) _ _ _).trans ?_
      blk_ext [Rect.idx_withinL, LoadRect.idx_apply, unit_off, unit_stride]
    · intro x r
      refine (Memref.IsWhole.readAt_unread (hs0_8 t) _ _ _).trans ?_
      blk_ext [Rect.idx_withinL, LoadRect.idx_apply, unit_off, unit_stride]
    · intro x r
      refine (Memref.IsWhole.readAt_unread (hs0_9 t) _ _ _).trans ?_
      blk_ext [Rect.idx_withinL, LoadRect.idx_apply, unit_off, unit_stride]
    · intro d x
      refine Eq.trans ?_ (dif_pos (show 0 * 128 + x.val < 128 by omega)).symm
      refine (Memref.IsWhole.readAt_unread (hs0_6 t) _ _ _).trans ?_
      blk_ext [Rect.idx_withinL, LoadRect.idx_apply, unit_off, unit_stride]
    · intro d x
      refine Eq.trans ?_ (dif_neg (show ¬(0 * 128 + (128 + x.val) < 128) by omega)).symm
      refine (Memref.IsWhole.readAt_unread (hs0_5 t) _ _ _).trans ?_
      blk_ext [Rect.idx_withinL, LoadRect.idx_apply, unit_off, unit_stride]
    · intro d x
      refine (Memref.IsWhole.readAt_unread (hs0_7 t) _ _ _).trans ?_
      blk_ext [Rect.idx_withinL, LoadRect.idx_apply, unit_off, unit_stride]
  case piece14 =>
    idx_vars x
    rw [S_at m c t y 2 1 x0 0 x1 (by first | exact h0 | (simp; omega)) (by first | exact h1 | (simp; omega))]
    unfold attp
    change fin1 (bok (blk0 t)) (mok (blk0 t)) (st2 (kall _ _ _) (qall _ _ _ _)) _ _ _ _ _ _ _ _ _ _ _ _ _ _ _ (ix2 x0 x1) = _
    refine tile2_1 _ _ (blk0_eq t) (by have := lt16 t; omega) _ _ _ _ _ _ _ _ _ _ _ _ _ _ _ _ _ _ _ _ _ _ _ _ _ _ _ _ _ _ _ _ x0 0 x1 ?_ ?_ ?_ ?_ ?_ ?_ ?_ ?_ ?_ ?_
    · intro x e
      refine Eq.trans ?_ (dif_pos (show 0 * 128 + x.val < 128 by omega)).symm
      refine (Memref.IsWhole.readAt_unread (hs0_3 t) _ _ _).trans ?_
      blk_ext [Rect.idx_withinL, LoadRect.idx_apply, unit_off, unit_stride]
    · intro x e
      refine Eq.trans ?_ (dif_neg (show ¬(0 * 128 + (128 + x.val) < 128) by omega)).symm
      refine (Memref.IsWhole.readAt_unread (hs0_2 t) _ _ _).trans ?_
      blk_ext [Rect.idx_withinL, LoadRect.idx_apply, unit_off, unit_stride]
    · intro x e
      refine (Memref.IsWhole.readAt_unread (hs0_4 t) _ _ _).trans ?_
      blk_ext [Rect.idx_withinL, LoadRect.idx_apply, unit_off, unit_stride]
    · intro e r
      refine (Memref.IsWhole.readAt_unread (hs0_1 t) _ _ _).trans ?_
      blk_ext [Rect.idx_withinL, LoadRect.idx_apply, unit_off, unit_stride]
    · refine (Memref.IsWhole.readAt_unread (hs0_0 t) _ _ _).trans ?_
      blk_ext [Rect.idx_withinL, LoadRect.idx_apply, unit_off, unit_stride]
    · intro x r
      refine (Memref.IsWhole.readAt_unread (hs0_8 t) _ _ _).trans ?_
      blk_ext [Rect.idx_withinL, LoadRect.idx_apply, unit_off, unit_stride]
    · intro x r
      refine (Memref.IsWhole.readAt_unread (hs0_9 t) _ _ _).trans ?_
      blk_ext [Rect.idx_withinL, LoadRect.idx_apply, unit_off, unit_stride]
    · intro d x
      refine Eq.trans ?_ (dif_pos (show 0 * 128 + x.val < 128 by omega)).symm
      refine (Memref.IsWhole.readAt_unread (hs0_6 t) _ _ _).trans ?_
      blk_ext [Rect.idx_withinL, LoadRect.idx_apply, unit_off, unit_stride]
    · intro d x
      refine Eq.trans ?_ (dif_neg (show ¬(0 * 128 + (128 + x.val) < 128) by omega)).symm
      refine (Memref.IsWhole.readAt_unread (hs0_5 t) _ _ _).trans ?_
      blk_ext [Rect.idx_withinL, LoadRect.idx_apply, unit_off, unit_stride]
    · intro d x
      refine (Memref.IsWhole.readAt_unread (hs0_7 t) _ _ _).trans ?_
      blk_ext [Rect.idx_withinL, LoadRect.idx_apply, unit_off, unit_stride]
  case piece15 =>
    idx_vars x
    rw [S_at m c t y 2 0 x0 0 x1 (by first | exact h0 | (simp; omega)) (by first | exact h1 | (simp; omega))]
    unfold attp
    change fin0 (bok (blk0 t)) (mok (blk0 t)) (st2 (kall _ _ _) (qall _ _ _ _)) _ _ _ _ _ _ _ _ _ _ _ _ _ _ _ (ix2 x0 x1) = _
    refine tile2_0 _ _ (blk0_eq t) (by have := lt16 t; omega) _ _ _ _ _ _ _ _ _ _ _ _ _ _ _ _ _ _ _ _ _ _ _ _ _ _ _ _ _ _ _ _ x0 0 x1 ?_ ?_ ?_ ?_ ?_ ?_ ?_ ?_ ?_ ?_
    · intro x e
      refine Eq.trans ?_ (dif_pos (show 0 * 128 + x.val < 128 by omega)).symm
      refine (Memref.IsWhole.readAt_unread (hs0_3 t) _ _ _).trans ?_
      blk_ext [Rect.idx_withinL, LoadRect.idx_apply, unit_off, unit_stride]
    · intro x e
      refine Eq.trans ?_ (dif_neg (show ¬(0 * 128 + (128 + x.val) < 128) by omega)).symm
      refine (Memref.IsWhole.readAt_unread (hs0_2 t) _ _ _).trans ?_
      blk_ext [Rect.idx_withinL, LoadRect.idx_apply, unit_off, unit_stride]
    · intro x e
      refine (Memref.IsWhole.readAt_unread (hs0_4 t) _ _ _).trans ?_
      blk_ext [Rect.idx_withinL, LoadRect.idx_apply, unit_off, unit_stride]
    · intro e r
      refine (Memref.IsWhole.readAt_unread (hs0_1 t) _ _ _).trans ?_
      blk_ext [Rect.idx_withinL, LoadRect.idx_apply, unit_off, unit_stride]
    · refine (Memref.IsWhole.readAt_unread (hs0_0 t) _ _ _).trans ?_
      blk_ext [Rect.idx_withinL, LoadRect.idx_apply, unit_off, unit_stride]
    · intro x r
      refine (Memref.IsWhole.readAt_unread (hs0_8 t) _ _ _).trans ?_
      blk_ext [Rect.idx_withinL, LoadRect.idx_apply, unit_off, unit_stride]
    · intro x r
      refine (Memref.IsWhole.readAt_unread (hs0_9 t) _ _ _).trans ?_
      blk_ext [Rect.idx_withinL, LoadRect.idx_apply, unit_off, unit_stride]
    · intro d x
      refine Eq.trans ?_ (dif_pos (show 0 * 128 + x.val < 128 by omega)).symm
      refine (Memref.IsWhole.readAt_unread (hs0_6 t) _ _ _).trans ?_
      blk_ext [Rect.idx_withinL, LoadRect.idx_apply, unit_off, unit_stride]
    · intro d x
      refine Eq.trans ?_ (dif_neg (show ¬(0 * 128 + (128 + x.val) < 128) by omega)).symm
      refine (Memref.IsWhole.readAt_unread (hs0_5 t) _ _ _).trans ?_
      blk_ext [Rect.idx_withinL, LoadRect.idx_apply, unit_off, unit_stride]
    · intro d x
      refine (Memref.IsWhole.readAt_unread (hs0_7 t) _ _ _).trans ?_
      blk_ext [Rect.idx_withinL, LoadRect.idx_apply, unit_off, unit_stride]
  case piece16 =>
    idx_vars x
    rw [S_at m c t y 1 3 x0 1 x1 (by first | exact h0 | (simp; omega)) (by first | exact h1 | (simp; omega))]
    unfold attp
    change fin3 (bok (blk1 t)) (mok (blk1 t)) (st1 (kall _ _ _) (qall _ _ _ _)) _ _ _ _ _ _ _ _ _ _ _ _ _ _ _ (ix2 x0 x1) = _
    refine tile1_3 _ _ (blk1_eq t) (by have := lt16 t; omega) _ _ _ _ _ _ _ _ _ _ _ _ _ _ _ _ _ _ _ _ _ _ _ _ _ _ _ _ _ _ _ _ x0 1 x1 ?_ ?_ ?_ ?_ ?_ ?_ ?_ ?_ ?_ ?_
    · intro x e
      refine Eq.trans ?_ (dif_neg (show ¬(1 * 128 + x.val < 128) by omega)).symm
      refine (Memref.IsWhole.readAt_unread (hs0_2 t) _ _ _).trans ?_
      blk_ext [Rect.idx_withinL, LoadRect.idx_apply, unit_off, unit_stride]
    · intro x e
      refine Eq.trans ?_ (dif_neg (show ¬(1 * 128 + (128 + x.val) < 128) by omega)).symm
      refine (Memref.IsWhole.readAt_unread (hs0_2 t) _ _ _).trans ?_
      blk_ext [Rect.idx_withinL, LoadRect.idx_apply, unit_off, unit_stride]
    · intro x e
      refine (Memref.IsWhole.readAt_unread (hs0_4 t) _ _ _).trans ?_
      blk_ext [Rect.idx_withinL, LoadRect.idx_apply, unit_off, unit_stride]
    · intro e r
      refine (Memref.IsWhole.readAt_unread (hs0_1 t) _ _ _).trans ?_
      blk_ext [Rect.idx_withinL, LoadRect.idx_apply, unit_off, unit_stride]
    · refine (Memref.IsWhole.readAt_unread (hs0_0 t) _ _ _).trans ?_
      blk_ext [Rect.idx_withinL, LoadRect.idx_apply, unit_off, unit_stride]
    · intro x r
      refine (Memref.IsWhole.readAt_unread (hs0_8 t) _ _ _).trans ?_
      blk_ext [Rect.idx_withinL, LoadRect.idx_apply, unit_off, unit_stride]
    · intro x r
      refine (Memref.IsWhole.readAt_unread (hs0_9 t) _ _ _).trans ?_
      blk_ext [Rect.idx_withinL, LoadRect.idx_apply, unit_off, unit_stride]
    · intro d x
      refine Eq.trans ?_ (dif_neg (show ¬(1 * 128 + x.val < 128) by omega)).symm
      refine (Memref.IsWhole.readAt_unread (hs0_5 t) _ _ _).trans ?_
      blk_ext [Rect.idx_withinL, LoadRect.idx_apply, unit_off, unit_stride]
    · intro d x
      refine Eq.trans ?_ (dif_neg (show ¬(1 * 128 + (128 + x.val) < 128) by omega)).symm
      refine (Memref.IsWhole.readAt_unread (hs0_5 t) _ _ _).trans ?_
      blk_ext [Rect.idx_withinL, LoadRect.idx_apply, unit_off, unit_stride]
    · intro d x
      refine (Memref.IsWhole.readAt_unread (hs0_7 t) _ _ _).trans ?_
      blk_ext [Rect.idx_withinL, LoadRect.idx_apply, unit_off, unit_stride]
  case piece17 =>
    idx_vars x
    rw [S_at m c t y 1 2 x0 1 x1 (by first | exact h0 | (simp; omega)) (by first | exact h1 | (simp; omega))]
    unfold attp
    change fin2 (bok (blk1 t)) (mok (blk1 t)) (st1 (kall _ _ _) (qall _ _ _ _)) _ _ _ _ _ _ _ _ _ _ _ _ _ _ _ (ix2 x0 x1) = _
    refine tile1_2 _ _ (blk1_eq t) (by have := lt16 t; omega) _ _ _ _ _ _ _ _ _ _ _ _ _ _ _ _ _ _ _ _ _ _ _ _ _ _ _ _ _ _ _ _ x0 1 x1 ?_ ?_ ?_ ?_ ?_ ?_ ?_ ?_ ?_ ?_
    · intro x e
      refine Eq.trans ?_ (dif_neg (show ¬(1 * 128 + x.val < 128) by omega)).symm
      refine (Memref.IsWhole.readAt_unread (hs0_2 t) _ _ _).trans ?_
      blk_ext [Rect.idx_withinL, LoadRect.idx_apply, unit_off, unit_stride]
    · intro x e
      refine Eq.trans ?_ (dif_neg (show ¬(1 * 128 + (128 + x.val) < 128) by omega)).symm
      refine (Memref.IsWhole.readAt_unread (hs0_2 t) _ _ _).trans ?_
      blk_ext [Rect.idx_withinL, LoadRect.idx_apply, unit_off, unit_stride]
    · intro x e
      refine (Memref.IsWhole.readAt_unread (hs0_4 t) _ _ _).trans ?_
      blk_ext [Rect.idx_withinL, LoadRect.idx_apply, unit_off, unit_stride]
    · intro e r
      refine (Memref.IsWhole.readAt_unread (hs0_1 t) _ _ _).trans ?_
      blk_ext [Rect.idx_withinL, LoadRect.idx_apply, unit_off, unit_stride]
    · refine (Memref.IsWhole.readAt_unread (hs0_0 t) _ _ _).trans ?_
      blk_ext [Rect.idx_withinL, LoadRect.idx_apply, unit_off, unit_stride]
    · intro x r
      refine (Memref.IsWhole.readAt_unread (hs0_8 t) _ _ _).trans ?_
      blk_ext [Rect.idx_withinL, LoadRect.idx_apply, unit_off, unit_stride]
    · intro x r
      refine (Memref.IsWhole.readAt_unread (hs0_9 t) _ _ _).trans ?_
      blk_ext [Rect.idx_withinL, LoadRect.idx_apply, unit_off, unit_stride]
    · intro d x
      refine Eq.trans ?_ (dif_neg (show ¬(1 * 128 + x.val < 128) by omega)).symm
      refine (Memref.IsWhole.readAt_unread (hs0_5 t) _ _ _).trans ?_
      blk_ext [Rect.idx_withinL, LoadRect.idx_apply, unit_off, unit_stride]
    · intro d x
      refine Eq.trans ?_ (dif_neg (show ¬(1 * 128 + (128 + x.val) < 128) by omega)).symm
      refine (Memref.IsWhole.readAt_unread (hs0_5 t) _ _ _).trans ?_
      blk_ext [Rect.idx_withinL, LoadRect.idx_apply, unit_off, unit_stride]
    · intro d x
      refine (Memref.IsWhole.readAt_unread (hs0_7 t) _ _ _).trans ?_
      blk_ext [Rect.idx_withinL, LoadRect.idx_apply, unit_off, unit_stride]
  case piece18 =>
    idx_vars x
    rw [S_at m c t y 1 1 x0 1 x1 (by first | exact h0 | (simp; omega)) (by first | exact h1 | (simp; omega))]
    unfold attp
    change fin1 (bok (blk1 t)) (mok (blk1 t)) (st1 (kall _ _ _) (qall _ _ _ _)) _ _ _ _ _ _ _ _ _ _ _ _ _ _ _ (ix2 x0 x1) = _
    refine tile1_1 _ _ (blk1_eq t) (by have := lt16 t; omega) _ _ _ _ _ _ _ _ _ _ _ _ _ _ _ _ _ _ _ _ _ _ _ _ _ _ _ _ _ _ _ _ x0 1 x1 ?_ ?_ ?_ ?_ ?_ ?_ ?_ ?_ ?_ ?_
    · intro x e
      refine Eq.trans ?_ (dif_neg (show ¬(1 * 128 + x.val < 128) by omega)).symm
      refine (Memref.IsWhole.readAt_unread (hs0_2 t) _ _ _).trans ?_
      blk_ext [Rect.idx_withinL, LoadRect.idx_apply, unit_off, unit_stride]
    · intro x e
      refine Eq.trans ?_ (dif_neg (show ¬(1 * 128 + (128 + x.val) < 128) by omega)).symm
      refine (Memref.IsWhole.readAt_unread (hs0_2 t) _ _ _).trans ?_
      blk_ext [Rect.idx_withinL, LoadRect.idx_apply, unit_off, unit_stride]
    · intro x e
      refine (Memref.IsWhole.readAt_unread (hs0_4 t) _ _ _).trans ?_
      blk_ext [Rect.idx_withinL, LoadRect.idx_apply, unit_off, unit_stride]
    · intro e r
      refine (Memref.IsWhole.readAt_unread (hs0_1 t) _ _ _).trans ?_
      blk_ext [Rect.idx_withinL, LoadRect.idx_apply, unit_off, unit_stride]
    · refine (Memref.IsWhole.readAt_unread (hs0_0 t) _ _ _).trans ?_
      blk_ext [Rect.idx_withinL, LoadRect.idx_apply, unit_off, unit_stride]
    · intro x r
      refine (Memref.IsWhole.readAt_unread (hs0_8 t) _ _ _).trans ?_
      blk_ext [Rect.idx_withinL, LoadRect.idx_apply, unit_off, unit_stride]
    · intro x r
      refine (Memref.IsWhole.readAt_unread (hs0_9 t) _ _ _).trans ?_
      blk_ext [Rect.idx_withinL, LoadRect.idx_apply, unit_off, unit_stride]
    · intro d x
      refine Eq.trans ?_ (dif_neg (show ¬(1 * 128 + x.val < 128) by omega)).symm
      refine (Memref.IsWhole.readAt_unread (hs0_5 t) _ _ _).trans ?_
      blk_ext [Rect.idx_withinL, LoadRect.idx_apply, unit_off, unit_stride]
    · intro d x
      refine Eq.trans ?_ (dif_neg (show ¬(1 * 128 + (128 + x.val) < 128) by omega)).symm
      refine (Memref.IsWhole.readAt_unread (hs0_5 t) _ _ _).trans ?_
      blk_ext [Rect.idx_withinL, LoadRect.idx_apply, unit_off, unit_stride]
    · intro d x
      refine (Memref.IsWhole.readAt_unread (hs0_7 t) _ _ _).trans ?_
      blk_ext [Rect.idx_withinL, LoadRect.idx_apply, unit_off, unit_stride]
  case piece19 =>
    idx_vars x
    rw [S_at m c t y 1 0 x0 1 x1 (by first | exact h0 | (simp; omega)) (by first | exact h1 | (simp; omega))]
    unfold attp
    change fin0 (bok (blk1 t)) (mok (blk1 t)) (st1 (kall _ _ _) (qall _ _ _ _)) _ _ _ _ _ _ _ _ _ _ _ _ _ _ _ (ix2 x0 x1) = _
    refine tile1_0 _ _ (blk1_eq t) (by have := lt16 t; omega) _ _ _ _ _ _ _ _ _ _ _ _ _ _ _ _ _ _ _ _ _ _ _ _ _ _ _ _ _ _ _ _ x0 1 x1 ?_ ?_ ?_ ?_ ?_ ?_ ?_ ?_ ?_ ?_
    · intro x e
      refine Eq.trans ?_ (dif_neg (show ¬(1 * 128 + x.val < 128) by omega)).symm
      refine (Memref.IsWhole.readAt_unread (hs0_2 t) _ _ _).trans ?_
      blk_ext [Rect.idx_withinL, LoadRect.idx_apply, unit_off, unit_stride]
    · intro x e
      refine Eq.trans ?_ (dif_neg (show ¬(1 * 128 + (128 + x.val) < 128) by omega)).symm
      refine (Memref.IsWhole.readAt_unread (hs0_2 t) _ _ _).trans ?_
      blk_ext [Rect.idx_withinL, LoadRect.idx_apply, unit_off, unit_stride]
    · intro x e
      refine (Memref.IsWhole.readAt_unread (hs0_4 t) _ _ _).trans ?_
      blk_ext [Rect.idx_withinL, LoadRect.idx_apply, unit_off, unit_stride]
    · intro e r
      refine (Memref.IsWhole.readAt_unread (hs0_1 t) _ _ _).trans ?_
      blk_ext [Rect.idx_withinL, LoadRect.idx_apply, unit_off, unit_stride]
    · refine (Memref.IsWhole.readAt_unread (hs0_0 t) _ _ _).trans ?_
      blk_ext [Rect.idx_withinL, LoadRect.idx_apply, unit_off, unit_stride]
    · intro x r
      refine (Memref.IsWhole.readAt_unread (hs0_8 t) _ _ _).trans ?_
      blk_ext [Rect.idx_withinL, LoadRect.idx_apply, unit_off, unit_stride]
    · intro x r
      refine (Memref.IsWhole.readAt_unread (hs0_9 t) _ _ _).trans ?_
      blk_ext [Rect.idx_withinL, LoadRect.idx_apply, unit_off, unit_stride]
    · intro d x
      refine Eq.trans ?_ (dif_neg (show ¬(1 * 128 + x.val < 128) by omega)).symm
      refine (Memref.IsWhole.readAt_unread (hs0_5 t) _ _ _).trans ?_
      blk_ext [Rect.idx_withinL, LoadRect.idx_apply, unit_off, unit_stride]
    · intro d x
      refine Eq.trans ?_ (dif_neg (show ¬(1 * 128 + (128 + x.val) < 128) by omega)).symm
      refine (Memref.IsWhole.readAt_unread (hs0_5 t) _ _ _).trans ?_
      blk_ext [Rect.idx_withinL, LoadRect.idx_apply, unit_off, unit_stride]
    · intro d x
      refine (Memref.IsWhole.readAt_unread (hs0_7 t) _ _ _).trans ?_
      blk_ext [Rect.idx_withinL, LoadRect.idx_apply, unit_off, unit_stride]
  case piece20 =>
    idx_vars x
    rw [S_at m c t y 1 3 x0 0 x1 (by first | exact h0 | (simp; omega)) (by first | exact h1 | (simp; omega))]
    unfold attp
    change fin3 (bok (blk0 t)) (mok (blk0 t)) (st1 (kall _ _ _) (qall _ _ _ _)) _ _ _ _ _ _ _ _ _ _ _ _ _ _ _ (ix2 x0 x1) = _
    refine tile1_3 _ _ (blk0_eq t) (by have := lt16 t; omega) _ _ _ _ _ _ _ _ _ _ _ _ _ _ _ _ _ _ _ _ _ _ _ _ _ _ _ _ _ _ _ _ x0 0 x1 ?_ ?_ ?_ ?_ ?_ ?_ ?_ ?_ ?_ ?_
    · intro x e
      refine Eq.trans ?_ (dif_pos (show 0 * 128 + x.val < 128 by omega)).symm
      refine (Memref.IsWhole.readAt_unread (hs0_3 t) _ _ _).trans ?_
      blk_ext [Rect.idx_withinL, LoadRect.idx_apply, unit_off, unit_stride]
    · intro x e
      refine Eq.trans ?_ (dif_neg (show ¬(0 * 128 + (128 + x.val) < 128) by omega)).symm
      refine (Memref.IsWhole.readAt_unread (hs0_2 t) _ _ _).trans ?_
      blk_ext [Rect.idx_withinL, LoadRect.idx_apply, unit_off, unit_stride]
    · intro x e
      refine (Memref.IsWhole.readAt_unread (hs0_4 t) _ _ _).trans ?_
      blk_ext [Rect.idx_withinL, LoadRect.idx_apply, unit_off, unit_stride]
    · intro e r
      refine (Memref.IsWhole.readAt_unread (hs0_1 t) _ _ _).trans ?_
      blk_ext [Rect.idx_withinL, LoadRect.idx_apply, unit_off, unit_stride]
    · refine (Memref.IsWhole.readAt_unread (hs0_0 t) _ _ _).trans ?_
      blk_ext [Rect.idx_withinL, LoadRect.idx_apply, unit_off, unit_stride]
    · intro x r
      refine (Memref.IsWhole.readAt_unread (hs0_8 t) _ _ _).trans ?_
      blk_ext [Rect.idx_withinL, LoadRect.idx_apply, unit_off, unit_stride]
    · intro x r
      refine (Memref.IsWhole.readAt_unread (hs0_9 t) _ _ _).trans ?_
      blk_ext [Rect.idx_withinL, LoadRect.idx_apply, unit_off, unit_stride]
    · intro d x
      refine Eq.trans ?_ (dif_pos (show 0 * 128 + x.val < 128 by omega)).symm
      refine (Memref.IsWhole.readAt_unread (hs0_6 t) _ _ _).trans ?_
      blk_ext [Rect.idx_withinL, LoadRect.idx_apply, unit_off, unit_stride]
    · intro d x
      refine Eq.trans ?_ (dif_neg (show ¬(0 * 128 + (128 + x.val) < 128) by omega)).symm
      refine (Memref.IsWhole.readAt_unread (hs0_5 t) _ _ _).trans ?_
      blk_ext [Rect.idx_withinL, LoadRect.idx_apply, unit_off, unit_stride]
    · intro d x
      refine (Memref.IsWhole.readAt_unread (hs0_7 t) _ _ _).trans ?_
      blk_ext [Rect.idx_withinL, LoadRect.idx_apply, unit_off, unit_stride]
  case piece21 =>
    idx_vars x
    rw [S_at m c t y 1 2 x0 0 x1 (by first | exact h0 | (simp; omega)) (by first | exact h1 | (simp; omega))]
    unfold attp
    change fin2 (bok (blk0 t)) (mok (blk0 t)) (st1 (kall _ _ _) (qall _ _ _ _)) _ _ _ _ _ _ _ _ _ _ _ _ _ _ _ (ix2 x0 x1) = _
    refine tile1_2 _ _ (blk0_eq t) (by have := lt16 t; omega) _ _ _ _ _ _ _ _ _ _ _ _ _ _ _ _ _ _ _ _ _ _ _ _ _ _ _ _ _ _ _ _ x0 0 x1 ?_ ?_ ?_ ?_ ?_ ?_ ?_ ?_ ?_ ?_
    · intro x e
      refine Eq.trans ?_ (dif_pos (show 0 * 128 + x.val < 128 by omega)).symm
      refine (Memref.IsWhole.readAt_unread (hs0_3 t) _ _ _).trans ?_
      blk_ext [Rect.idx_withinL, LoadRect.idx_apply, unit_off, unit_stride]
    · intro x e
      refine Eq.trans ?_ (dif_neg (show ¬(0 * 128 + (128 + x.val) < 128) by omega)).symm
      refine (Memref.IsWhole.readAt_unread (hs0_2 t) _ _ _).trans ?_
      blk_ext [Rect.idx_withinL, LoadRect.idx_apply, unit_off, unit_stride]
    · intro x e
      refine (Memref.IsWhole.readAt_unread (hs0_4 t) _ _ _).trans ?_
      blk_ext [Rect.idx_withinL, LoadRect.idx_apply, unit_off, unit_stride]
    · intro e r
      refine (Memref.IsWhole.readAt_unread (hs0_1 t) _ _ _).trans ?_
      blk_ext [Rect.idx_withinL, LoadRect.idx_apply, unit_off, unit_stride]
    · refine (Memref.IsWhole.readAt_unread (hs0_0 t) _ _ _).trans ?_
      blk_ext [Rect.idx_withinL, LoadRect.idx_apply, unit_off, unit_stride]
    · intro x r
      refine (Memref.IsWhole.readAt_unread (hs0_8 t) _ _ _).trans ?_
      blk_ext [Rect.idx_withinL, LoadRect.idx_apply, unit_off, unit_stride]
    · intro x r
      refine (Memref.IsWhole.readAt_unread (hs0_9 t) _ _ _).trans ?_
      blk_ext [Rect.idx_withinL, LoadRect.idx_apply, unit_off, unit_stride]
    · intro d x
      refine Eq.trans ?_ (dif_pos (show 0 * 128 + x.val < 128 by omega)).symm
      refine (Memref.IsWhole.readAt_unread (hs0_6 t) _ _ _).trans ?_
      blk_ext [Rect.idx_withinL, LoadRect.idx_apply, unit_off, unit_stride]
    · intro d x
      refine Eq.trans ?_ (dif_neg (show ¬(0 * 128 + (128 + x.val) < 128) by omega)).symm
      refine (Memref.IsWhole.readAt_unread (hs0_5 t) _ _ _).trans ?_
      blk_ext [Rect.idx_withinL, LoadRect.idx_apply, unit_off, unit_stride]
    · intro d x
      refine (Memref.IsWhole.readAt_unread (hs0_7 t) _ _ _).trans ?_
      blk_ext [Rect.idx_withinL, LoadRect.idx_apply, unit_off, unit_stride]
  case piece22 =>
    idx_vars x
    rw [S_at m c t y 1 1 x0 0 x1 (by first | exact h0 | (simp; omega)) (by first | exact h1 | (simp; omega))]
    unfold attp
    change fin1 (bok (blk0 t)) (mok (blk0 t)) (st1 (kall _ _ _) (qall _ _ _ _)) _ _ _ _ _ _ _ _ _ _ _ _ _ _ _ (ix2 x0 x1) = _
    refine tile1_1 _ _ (blk0_eq t) (by have := lt16 t; omega) _ _ _ _ _ _ _ _ _ _ _ _ _ _ _ _ _ _ _ _ _ _ _ _ _ _ _ _ _ _ _ _ x0 0 x1 ?_ ?_ ?_ ?_ ?_ ?_ ?_ ?_ ?_ ?_
    · intro x e
      refine Eq.trans ?_ (dif_pos (show 0 * 128 + x.val < 128 by omega)).symm
      refine (Memref.IsWhole.readAt_unread (hs0_3 t) _ _ _).trans ?_
      blk_ext [Rect.idx_withinL, LoadRect.idx_apply, unit_off, unit_stride]
    · intro x e
      refine Eq.trans ?_ (dif_neg (show ¬(0 * 128 + (128 + x.val) < 128) by omega)).symm
      refine (Memref.IsWhole.readAt_unread (hs0_2 t) _ _ _).trans ?_
      blk_ext [Rect.idx_withinL, LoadRect.idx_apply, unit_off, unit_stride]
    · intro x e
      refine (Memref.IsWhole.readAt_unread (hs0_4 t) _ _ _).trans ?_
      blk_ext [Rect.idx_withinL, LoadRect.idx_apply, unit_off, unit_stride]
    · intro e r
      refine (Memref.IsWhole.readAt_unread (hs0_1 t) _ _ _).trans ?_
      blk_ext [Rect.idx_withinL, LoadRect.idx_apply, unit_off, unit_stride]
    · refine (Memref.IsWhole.readAt_unread (hs0_0 t) _ _ _).trans ?_
      blk_ext [Rect.idx_withinL, LoadRect.idx_apply, unit_off, unit_stride]
    · intro x r
      refine (Memref.IsWhole.readAt_unread (hs0_8 t) _ _ _).trans ?_
      blk_ext [Rect.idx_withinL, LoadRect.idx_apply, unit_off, unit_stride]
    · intro x r
      refine (Memref.IsWhole.readAt_unread (hs0_9 t) _ _ _).trans ?_
      blk_ext [Rect.idx_withinL, LoadRect.idx_apply, unit_off, unit_stride]
    · intro d x
      refine Eq.trans ?_ (dif_pos (show 0 * 128 + x.val < 128 by omega)).symm
      refine (Memref.IsWhole.readAt_unread (hs0_6 t) _ _ _).trans ?_
      blk_ext [Rect.idx_withinL, LoadRect.idx_apply, unit_off, unit_stride]
    · intro d x
      refine Eq.trans ?_ (dif_neg (show ¬(0 * 128 + (128 + x.val) < 128) by omega)).symm
      refine (Memref.IsWhole.readAt_unread (hs0_5 t) _ _ _).trans ?_
      blk_ext [Rect.idx_withinL, LoadRect.idx_apply, unit_off, unit_stride]
    · intro d x
      refine (Memref.IsWhole.readAt_unread (hs0_7 t) _ _ _).trans ?_
      blk_ext [Rect.idx_withinL, LoadRect.idx_apply, unit_off, unit_stride]
  case piece23 =>
    idx_vars x
    rw [S_at m c t y 1 0 x0 0 x1 (by first | exact h0 | (simp; omega)) (by first | exact h1 | (simp; omega))]
    unfold attp
    change fin0 (bok (blk0 t)) (mok (blk0 t)) (st1 (kall _ _ _) (qall _ _ _ _)) _ _ _ _ _ _ _ _ _ _ _ _ _ _ _ (ix2 x0 x1) = _
    refine tile1_0 _ _ (blk0_eq t) (by have := lt16 t; omega) _ _ _ _ _ _ _ _ _ _ _ _ _ _ _ _ _ _ _ _ _ _ _ _ _ _ _ _ _ _ _ _ x0 0 x1 ?_ ?_ ?_ ?_ ?_ ?_ ?_ ?_ ?_ ?_
    · intro x e
      refine Eq.trans ?_ (dif_pos (show 0 * 128 + x.val < 128 by omega)).symm
      refine (Memref.IsWhole.readAt_unread (hs0_3 t) _ _ _).trans ?_
      blk_ext [Rect.idx_withinL, LoadRect.idx_apply, unit_off, unit_stride]
    · intro x e
      refine Eq.trans ?_ (dif_neg (show ¬(0 * 128 + (128 + x.val) < 128) by omega)).symm
      refine (Memref.IsWhole.readAt_unread (hs0_2 t) _ _ _).trans ?_
      blk_ext [Rect.idx_withinL, LoadRect.idx_apply, unit_off, unit_stride]
    · intro x e
      refine (Memref.IsWhole.readAt_unread (hs0_4 t) _ _ _).trans ?_
      blk_ext [Rect.idx_withinL, LoadRect.idx_apply, unit_off, unit_stride]
    · intro e r
      refine (Memref.IsWhole.readAt_unread (hs0_1 t) _ _ _).trans ?_
      blk_ext [Rect.idx_withinL, LoadRect.idx_apply, unit_off, unit_stride]
    · refine (Memref.IsWhole.readAt_unread (hs0_0 t) _ _ _).trans ?_
      blk_ext [Rect.idx_withinL, LoadRect.idx_apply, unit_off, unit_stride]
    · intro x r
      refine (Memref.IsWhole.readAt_unread (hs0_8 t) _ _ _).trans ?_
      blk_ext [Rect.idx_withinL, LoadRect.idx_apply, unit_off, unit_stride]
    · intro x r
      refine (Memref.IsWhole.readAt_unread (hs0_9 t) _ _ _).trans ?_
      blk_ext [Rect.idx_withinL, LoadRect.idx_apply, unit_off, unit_stride]
    · intro d x
      refine Eq.trans ?_ (dif_pos (show 0 * 128 + x.val < 128 by omega)).symm
      refine (Memref.IsWhole.readAt_unread (hs0_6 t) _ _ _).trans ?_
      blk_ext [Rect.idx_withinL, LoadRect.idx_apply, unit_off, unit_stride]
    · intro d x
      refine Eq.trans ?_ (dif_neg (show ¬(0 * 128 + (128 + x.val) < 128) by omega)).symm
      refine (Memref.IsWhole.readAt_unread (hs0_5 t) _ _ _).trans ?_
      blk_ext [Rect.idx_withinL, LoadRect.idx_apply, unit_off, unit_stride]
    · intro d x
      refine (Memref.IsWhole.readAt_unread (hs0_7 t) _ _ _).trans ?_
      blk_ext [Rect.idx_withinL, LoadRect.idx_apply, unit_off, unit_stride]
  case piece24 =>
    idx_vars x
    rw [S_at m c t y 0 3 x0 1 x1 (by first | exact h0 | (simp; omega)) (by first | exact h1 | (simp; omega))]
    unfold attp
    change fin3 (bok (blk1 t)) (mok (blk1 t)) (st0 (kall _ _ _) (qall _ _ _ _)) _ _ _ _ _ _ _ _ _ _ _ _ _ _ _ (ix2 x0 x1) = _
    refine tile0_3 _ _ (blk1_eq t) (by have := lt16 t; omega) _ _ _ _ _ _ _ _ _ _ _ _ _ _ _ _ _ _ _ _ _ _ _ _ _ _ _ _ _ _ _ _ x0 1 x1 ?_ ?_ ?_ ?_ ?_ ?_ ?_ ?_ ?_ ?_
    · intro x e
      refine Eq.trans ?_ (dif_neg (show ¬(1 * 128 + x.val < 128) by omega)).symm
      refine (Memref.IsWhole.readAt_unread (hs0_2 t) _ _ _).trans ?_
      blk_ext [Rect.idx_withinL, LoadRect.idx_apply, unit_off, unit_stride]
    · intro x e
      refine Eq.trans ?_ (dif_neg (show ¬(1 * 128 + (128 + x.val) < 128) by omega)).symm
      refine (Memref.IsWhole.readAt_unread (hs0_2 t) _ _ _).trans ?_
      blk_ext [Rect.idx_withinL, LoadRect.idx_apply, unit_off, unit_stride]
    · intro x e
      refine (Memref.IsWhole.readAt_unread (hs0_4 t) _ _ _).trans ?_
      blk_ext [Rect.idx_withinL, LoadRect.idx_apply, unit_off, unit_stride]
    · intro e r
      refine (Memref.IsWhole.readAt_unread (hs0_1 t) _ _ _).trans ?_
      blk_ext [Rect.idx_withinL, LoadRect.idx_apply, unit_off, unit_stride]
    · refine (Memref.IsWhole.readAt_unread (hs0_0 t) _ _ _).trans ?_
      blk_ext [Rect.idx_withinL, LoadRect.idx_apply, unit_off, unit_stride]
    · intro x r
      refine (Memref.IsWhole.readAt_unread (hs0_8 t) _ _ _).trans ?_
      blk_ext [Rect.idx_withinL, LoadRect.idx_apply, unit_off, unit_stride]
    · intro x r
      refine (Memref.IsWhole.readAt_unread (hs0_9 t) _ _ _).trans ?_
      blk_ext [Rect.idx_withinL, LoadRect.idx_apply, unit_off, unit_stride]
    · intro d x
      refine Eq.trans ?_ (dif_neg (show ¬(1 * 128 + x.val < 128) by omega)).symm
      refine (Memref.IsWhole.readAt_unread (hs0_5 t) _ _ _).trans ?_
      blk_ext [Rect.idx_withinL, LoadRect.idx_apply, unit_off, unit_stride]
    · intro d x
      refine Eq.trans ?_ (dif_neg (show ¬(1 * 128 + (128 + x.val) < 128) by omega)).symm
      refine (Memref.IsWhole.readAt_unread (hs0_5 t) _ _ _).trans ?_
      blk_ext [Rect.idx_withinL, LoadRect.idx_apply, unit_off, unit_stride]
    · intro d x
      refine (Memref.IsWhole.readAt_unread (hs0_7 t) _ _ _).trans ?_
      blk_ext [Rect.idx_withinL, LoadRect.idx_apply, unit_off, unit_stride]
  case piece25 =>
    idx_vars x
    rw [S_at m c t y 0 2 x0 1 x1 (by first | exact h0 | (simp; omega)) (by first | exact h1 | (simp; omega))]
    unfold attp
    change fin2 (bok (blk1 t)) (mok (blk1 t)) (st0 (kall _ _ _) (qall _ _ _ _)) _ _ _ _ _ _ _ _ _ _ _ _ _ _ _ (ix2 x0 x1) = _
    refine tile0_2 _ _ (blk1_eq t) (by have := lt16 t; omega) _ _ _ _ _ _ _ _ _ _ _ _ _ _ _ _ _ _ _ _ _ _ _ _ _ _ _ _ _ _ _ _ x0 1 x1 ?_ ?_ ?_ ?_ ?_ ?_ ?_ ?_ ?_ ?_
    · intro x e
      refine Eq.trans ?_ (dif_neg (show ¬(1 * 128 + x.val < 128) by omega)).symm
      refine (Memref.IsWhole.readAt_unread (hs0_2 t) _ _ _).trans ?_
      blk_ext [Rect.idx_withinL, LoadRect.idx_apply, unit_off, unit_stride]
    · intro x e
      refine Eq.trans ?_ (dif_neg (show ¬(1 * 128 + (128 + x.val) < 128) by omega)).symm
      refine (Memref.IsWhole.readAt_unread (hs0_2 t) _ _ _).trans ?_
      blk_ext [Rect.idx_withinL, LoadRect.idx_apply, unit_off, unit_stride]
    · intro x e
      refine (Memref.IsWhole.readAt_unread (hs0_4 t) _ _ _).trans ?_
      blk_ext [Rect.idx_withinL, LoadRect.idx_apply, unit_off, unit_stride]
    · intro e r
      refine (Memref.IsWhole.readAt_unread (hs0_1 t) _ _ _).trans ?_
      blk_ext [Rect.idx_withinL, LoadRect.idx_apply, unit_off, unit_stride]
    · refine (Memref.IsWhole.readAt_unread (hs0_0 t) _ _ _).trans ?_
      blk_ext [Rect.idx_withinL, LoadRect.idx_apply, unit_off, unit_stride]
    · intro x r
      refine (Memref.IsWhole.readAt_unread (hs0_8 t) _ _ _).trans ?_
      blk_ext [Rect.idx_withinL, LoadRect.idx_apply, unit_off, unit_stride]
    · intro x r
      refine (Memref.IsWhole.readAt_unread (hs0_9 t) _ _ _).trans ?_
      blk_ext [Rect.idx_withinL, LoadRect.idx_apply, unit_off, unit_stride]
    · intro d x
      refine Eq.trans ?_ (dif_neg (show ¬(1 * 128 + x.val < 128) by omega)).symm
      refine (Memref.IsWhole.readAt_unread (hs0_5 t) _ _ _).trans ?_
      blk_ext [Rect.idx_withinL, LoadRect.idx_apply, unit_off, unit_stride]
    · intro d x
      refine Eq.trans ?_ (dif_neg (show ¬(1 * 128 + (128 + x.val) < 128) by omega)).symm
      refine (Memref.IsWhole.readAt_unread (hs0_5 t) _ _ _).trans ?_
      blk_ext [Rect.idx_withinL, LoadRect.idx_apply, unit_off, unit_stride]
    · intro d x
      refine (Memref.IsWhole.readAt_unread (hs0_7 t) _ _ _).trans ?_
      blk_ext [Rect.idx_withinL, LoadRect.idx_apply, unit_off, unit_stride]
  case piece26 =>
    idx_vars x
    rw [S_at m c t y 0 1 x0 1 x1 (by first | exact h0 | (simp; omega)) (by first | exact h1 | (simp; omega))]
    unfold attp
    change fin1 (bok (blk1 t)) (mok (blk1 t)) (st0 (kall _ _ _) (qall _ _ _ _)) _ _ _ _ _ _ _ _ _ _ _ _ _ _ _ (ix2 x0 x1) = _
    refine tile0_1 _ _ (blk1_eq t) (by have := lt16 t; omega) _ _ _ _ _ _ _ _ _ _ _ _ _ _ _ _ _ _ _ _ _ _ _ _ _ _ _ _ _ _ _ _ x0 1 x1 ?_ ?_ ?_ ?_ ?_ ?_ ?_ ?_ ?_ ?_
    · intro x e
      refine Eq.trans ?_ (dif_neg (show ¬(1 * 128 + x.val < 128) by omega)).symm
      refine (Memref.IsWhole.readAt_unread (hs0_2 t) _ _ _).trans ?_
      blk_ext [Rect.idx_withinL, LoadRect.idx_apply, unit_off, unit_stride]
    · intro x e
      refine Eq.trans ?_ (dif_neg (show ¬(1 * 128 + (128 + x.val) < 128) by omega)).symm
      refine (Memref.IsWhole.readAt_unread (hs0_2 t) _ _ _).trans ?_
      blk_ext [Rect.idx_withinL, LoadRect.idx_apply, unit_off, unit_stride]
    · intro x e
      refine (Memref.IsWhole.readAt_unread (hs0_4 t) _ _ _).trans ?_
      blk_ext [Rect.idx_withinL, LoadRect.idx_apply, unit_off, unit_stride]
    · intro e r
      refine (Memref.IsWhole.readAt_unread (hs0_1 t) _ _ _).trans ?_
      blk_ext [Rect.idx_withinL, LoadRect.idx_apply, unit_off, unit_stride]
    · refine (Memref.IsWhole.readAt_unread (hs0_0 t) _ _ _).trans ?_
      blk_ext [Rect.idx_withinL, LoadRect.idx_apply, unit_off, unit_stride]
    · intro x r
      refine (Memref.IsWhole.readAt_unread (hs0_8 t) _ _ _).trans ?_
      blk_ext [Rect.idx_withinL, LoadRect.idx_apply, unit_off, unit_stride]
    · intro x r
      refine (Memref.IsWhole.readAt_unread (hs0_9 t) _ _ _).trans ?_
      blk_ext [Rect.idx_withinL, LoadRect.idx_apply, unit_off, unit_stride]
    · intro d x
      refine Eq.trans ?_ (dif_neg (show ¬(1 * 128 + x.val < 128) by omega)).symm
      refine (Memref.IsWhole.readAt_unread (hs0_5 t) _ _ _).trans ?_
      blk_ext [Rect.idx_withinL, LoadRect.idx_apply, unit_off, unit_stride]
    · intro d x
      refine Eq.trans ?_ (dif_neg (show ¬(1 * 128 + (128 + x.val) < 128) by omega)).symm
      refine (Memref.IsWhole.readAt_unread (hs0_5 t) _ _ _).trans ?_
      blk_ext [Rect.idx_withinL, LoadRect.idx_apply, unit_off, unit_stride]
    · intro d x
      refine (Memref.IsWhole.readAt_unread (hs0_7 t) _ _ _).trans ?_
      blk_ext [Rect.idx_withinL, LoadRect.idx_apply, unit_off, unit_stride]
  case piece27 =>
    idx_vars x
    rw [S_at m c t y 0 0 x0 1 x1 (by first | exact h0 | (simp; omega)) (by first | exact h1 | (simp; omega))]
    unfold attp
    change fin0 (bok (blk1 t)) (mok (blk1 t)) (st0 (kall _ _ _) (qall _ _ _ _)) _ _ _ _ _ _ _ _ _ _ _ _ _ _ _ (ix2 x0 x1) = _
    refine tile0_0 _ _ (blk1_eq t) (by have := lt16 t; omega) _ _ _ _ _ _ _ _ _ _ _ _ _ _ _ _ _ _ _ _ _ _ _ _ _ _ _ _ _ _ _ _ x0 1 x1 ?_ ?_ ?_ ?_ ?_ ?_ ?_ ?_ ?_ ?_
    · intro x e
      refine Eq.trans ?_ (dif_neg (show ¬(1 * 128 + x.val < 128) by omega)).symm
      refine (Memref.IsWhole.readAt_unread (hs0_2 t) _ _ _).trans ?_
      blk_ext [Rect.idx_withinL, LoadRect.idx_apply, unit_off, unit_stride]
    · intro x e
      refine Eq.trans ?_ (dif_neg (show ¬(1 * 128 + (128 + x.val) < 128) by omega)).symm
      refine (Memref.IsWhole.readAt_unread (hs0_2 t) _ _ _).trans ?_
      blk_ext [Rect.idx_withinL, LoadRect.idx_apply, unit_off, unit_stride]
    · intro x e
      refine (Memref.IsWhole.readAt_unread (hs0_4 t) _ _ _).trans ?_
      blk_ext [Rect.idx_withinL, LoadRect.idx_apply, unit_off, unit_stride]
    · intro e r
      refine (Memref.IsWhole.readAt_unread (hs0_1 t) _ _ _).trans ?_
      blk_ext [Rect.idx_withinL, LoadRect.idx_apply, unit_off, unit_stride]
    · refine (Memref.IsWhole.readAt_unread (hs0_0 t) _ _ _).trans ?_
      blk_ext [Rect.idx_withinL, LoadRect.idx_apply, unit_off, unit_stride]
    · intro x r
      refine (Memref.IsWhole.readAt_unread (hs0_8 t) _ _ _).trans ?_
      blk_ext [Rect.idx_withinL, LoadRect.idx_apply, unit_off, unit_stride]
    · intro x r
      refine (Memref.IsWhole.readAt_unread (hs0_9 t) _ _ _).trans ?_
      blk_ext [Rect.idx_withinL, LoadRect.idx_apply, unit_off, unit_stride]
    · intro d x
      refine Eq.trans ?_ (dif_neg (show ¬(1 * 128 + x.val < 128) by omega)).symm
      refine (Memref.IsWhole.readAt_unread (hs0_5 t) _ _ _).trans ?_
      blk_ext [Rect.idx_withinL, LoadRect.idx_apply, unit_off, unit_stride]
    · intro d x
      refine Eq.trans ?_ (dif_neg (show ¬(1 * 128 + (128 + x.val) < 128) by omega)).symm
      refine (Memref.IsWhole.readAt_unread (hs0_5 t) _ _ _).trans ?_
      blk_ext [Rect.idx_withinL, LoadRect.idx_apply, unit_off, unit_stride]
    · intro d x
      refine (Memref.IsWhole.readAt_unread (hs0_7 t) _ _ _).trans ?_
      blk_ext [Rect.idx_withinL, LoadRect.idx_apply, unit_off, unit_stride]
  case piece28 =>
    idx_vars x
    rw [S_at m c t y 0 3 x0 0 x1 (by first | exact h0 | (simp; omega)) (by first | exact h1 | (simp; omega))]
    unfold attp
    change fin3 (bok (blk0 t)) (mok (blk0 t)) (st0 (kall _ _ _) (qall _ _ _ _)) _ _ _ _ _ _ _ _ _ _ _ _ _ _ _ (ix2 x0 x1) = _
    refine tile0_3 _ _ (blk0_eq t) (by have := lt16 t; omega) _ _ _ _ _ _ _ _ _ _ _ _ _ _ _ _ _ _ _ _ _ _ _ _ _ _ _ _ _ _ _ _ x0 0 x1 ?_ ?_ ?_ ?_ ?_ ?_ ?_ ?_ ?_ ?_
    · intro x e
      refine Eq.trans ?_ (dif_pos (show 0 * 128 + x.val < 128 by omega)).symm
      refine (Memref.IsWhole.readAt_unread (hs0_3 t) _ _ _).trans ?_
      blk_ext [Rect.idx_withinL, LoadRect.idx_apply, unit_off, unit_stride]
    · intro x e
      refine Eq.trans ?_ (dif_neg (show ¬(0 * 128 + (128 + x.val) < 128) by omega)).symm
      refine (Memref.IsWhole.readAt_unread (hs0_2 t) _ _ _).trans ?_
      blk_ext [Rect.idx_withinL, LoadRect.idx_apply, unit_off, unit_stride]
    · intro x e
      refine (Memref.IsWhole.readAt_unread (hs0_4 t) _ _ _).trans ?_
      blk_ext [Rect.idx_withinL, LoadRect.idx_apply, unit_off, unit_stride]
    · intro e r
      refine (Memref.IsWhole.readAt_unread (hs0_1 t) _ _ _).trans ?_
      blk_ext [Rect.idx_withinL, LoadRect.idx_apply, unit_off, unit_stride]
    · refine (Memref.IsWhole.readAt_unread (hs0_0 t) _ _ _).trans ?_
      blk_ext [Rect.idx_withinL, LoadRect.idx_apply, unit_off, unit_stride]
    · intro x r
      refine (Memref.IsWhole.readAt_unread (hs0_8 t) _ _ _).trans ?_
      blk_ext [Rect.idx_withinL, LoadRect.idx_apply, unit_off, unit_stride]
    · intro x r
      refine (Memref.IsWhole.readAt_unread (hs0_9 t) _ _ _).trans ?_
      blk_ext [Rect.idx_withinL, LoadRect.idx_apply, unit_off, unit_stride]
    · intro d x
      refine Eq.trans ?_ (dif_pos (show 0 * 128 + x.val < 128 by omega)).symm
      refine (Memref.IsWhole.readAt_unread (hs0_6 t) _ _ _).trans ?_
      blk_ext [Rect.idx_withinL, LoadRect.idx_apply, unit_off, unit_stride]
    · intro d x
      refine Eq.trans ?_ (dif_neg (show ¬(0 * 128 + (128 + x.val) < 128) by omega)).symm
      refine (Memref.IsWhole.readAt_unread (hs0_5 t) _ _ _).trans ?_
      blk_ext [Rect.idx_withinL, LoadRect.idx_apply, unit_off, unit_stride]
    · intro d x
      refine (Memref.IsWhole.readAt_unread (hs0_7 t) _ _ _).trans ?_
      blk_ext [Rect.idx_withinL, LoadRect.idx_apply, unit_off, unit_stride]
  case piece29 =>
    idx_vars x
    rw [S_at m c t y 0 2 x0 0 x1 (by first | exact h0 | (simp; omega)) (by first | exact h1 | (simp; omega))]
    unfold attp
    change fin2 (bok (blk0 t)) (mok (blk0 t)) (st0 (kall _ _ _) (qall _ _ _ _)) _ _ _ _ _ _ _ _ _ _ _ _ _ _ _ (ix2 x0 x1) = _
    refine tile0_2 _ _ (blk0_eq t) (by have := lt16 t; omega) _ _ _ _ _ _ _ _ _ _ _ _ _ _ _ _ _ _ _ _ _ _ _ _ _ _ _ _ _ _ _ _ x0 0 x1 ?_ ?_ ?_ ?_ ?_ ?_ ?_ ?_ ?_ ?_
    · intro x e
      refine Eq.trans ?_ (dif_pos (show 0 * 128 + x.val < 128 by omega)).symm
      refine (Memref.IsWhole.readAt_unread (hs0_3 t) _ _ _).trans ?_
      blk_ext [Rect.idx_withinL, LoadRect.idx_apply, unit_off, unit_stride]
    · intro x e
      refine Eq.trans ?_ (dif_neg (show ¬(0 * 128 + (128 + x.val) < 128) by omega)).symm
      refine (Memref.IsWhole.readAt_unread (hs0_2 t) _ _ _).trans ?_
      blk_ext [Rect.idx_withinL, LoadRect.idx_apply, unit_off, unit_stride]
    · intro x e
      refine (Memref.IsWhole.readAt_unread (hs0_4 t) _ _ _).trans ?_
      blk_ext [Rect.idx_withinL, LoadRect.idx_apply, unit_off, unit_stride]
    · intro e r
      refine (Memref.IsWhole.readAt_unread (hs0_1 t) _ _ _).trans ?_
      blk_ext [Rect.idx_withinL, LoadRect.idx_apply, unit_off, unit_stride]
    · refine (Memref.IsWhole.readAt_unread (hs0_0 t) _ _ _).trans ?_
      blk_ext [Rect.idx_withinL, LoadRect.idx_apply, unit_off, unit_stride]
    · intro x r
      refine (Memref.IsWhole.readAt_unread (hs0_8 t) _ _ _).trans ?_
      blk_ext [Rect.idx_withinL, LoadRect.idx_apply, unit_off, unit_stride]
    · intro x r
      refine (Memref.IsWhole.readAt_unread (hs0_9 t) _ _ _).trans ?_
      blk_ext [Rect.idx_withinL, LoadRect.idx_apply, unit_off, unit_stride]
    · intro d x
      refine Eq.trans ?_ (dif_pos (show 0 * 128 + x.val < 128 by omega)).symm
      refine (Memref.IsWhole.readAt_unread (hs0_6 t) _ _ _).trans ?_
      blk_ext [Rect.idx_withinL, LoadRect.idx_apply, unit_off, unit_stride]
    · intro d x
      refine Eq.trans ?_ (dif_neg (show ¬(0 * 128 + (128 + x.val) < 128) by omega)).symm
      refine (Memref.IsWhole.readAt_unread (hs0_5 t) _ _ _).trans ?_
      blk_ext [Rect.idx_withinL, LoadRect.idx_apply, unit_off, unit_stride]
    · intro d x
      refine (Memref.IsWhole.readAt_unread (hs0_7 t) _ _ _).trans ?_
      blk_ext [Rect.idx_withinL, LoadRect.idx_apply, unit_off, unit_stride]
  case piece30 =>
    idx_vars x
    rw [S_at m c t y 0 1 x0 0 x1 (by first | exact h0 | (simp; omega)) (by first | exact h1 | (simp; omega))]
    unfold attp
    change fin1 (bok (blk0 t)) (mok (blk0 t)) (st0 (kall _ _ _) (qall _ _ _ _)) _ _ _ _ _ _ _ _ _ _ _ _ _ _ _ (ix2 x0 x1) = _
    refine tile0_1 _ _ (blk0_eq t) (by have := lt16 t; omega) _ _ _ _ _ _ _ _ _ _ _ _ _ _ _ _ _ _ _ _ _ _ _ _ _ _ _ _ _ _ _ _ x0 0 x1 ?_ ?_ ?_ ?_ ?_ ?_ ?_ ?_ ?_ ?_
    · intro x e
      refine Eq.trans ?_ (dif_pos (show 0 * 128 + x.val < 128 by omega)).symm
      refine (Memref.IsWhole.readAt_unread (hs0_3 t) _ _ _).trans ?_
      blk_ext [Rect.idx_withinL, LoadRect.idx_apply, unit_off, unit_stride]
    · intro x e
      refine Eq.trans ?_ (dif_neg (show ¬(0 * 128 + (128 + x.val) < 128) by omega)).symm
      refine (Memref.IsWhole.readAt_unread (hs0_2 t) _ _ _).trans ?_
      blk_ext [Rect.idx_withinL, LoadRect.idx_apply, unit_off, unit_stride]
    · intro x e
      refine (Memref.IsWhole.readAt_unread (hs0_4 t) _ _ _).trans ?_
      blk_ext [Rect.idx_withinL, LoadRect.idx_apply, unit_off, unit_stride]
    · intro e r
      refine (Memref.IsWhole.readAt_unread (hs0_1 t) _ _ _).trans ?_
      blk_ext [Rect.idx_withinL, LoadRect.idx_apply, unit_off, unit_stride]
    · refine (Memref.IsWhole.readAt_unread (hs0_0 t) _ _ _).trans ?_
      blk_ext [Rect.idx_withinL, LoadRect.idx_apply, unit_off, unit_stride]
    · intro x r
      refine (Memref.IsWhole.readAt_unread (hs0_8 t) _ _ _).trans ?_
      blk_ext [Rect.idx_withinL, LoadRect.idx_apply, unit_off, unit_stride]
    · intro x r
      refine (Memref.IsWhole.readAt_unread (hs0_9 t) _ _ _).trans ?_
      blk_ext [Rect.idx_withinL, LoadRect.idx_apply, unit_off, unit_stride]
    · intro d x
      refine Eq.trans ?_ (dif_pos (show 0 * 128 + x.val < 128 by omega)).symm
      refine (Memref.IsWhole.readAt_unread (hs0_6 t) _ _ _).trans ?_
      blk_ext [Rect.idx_withinL, LoadRect.idx_apply, unit_off, unit_stride]
    · intro d x
      refine Eq.trans ?_ (dif_neg (show ¬(0 * 128 + (128 + x.val) < 128) by omega)).symm
      refine (Memref.IsWhole.readAt_unread (hs0_5 t) _ _ _).trans ?_
      blk_ext [Rect.idx_withinL, LoadRect.idx_apply, unit_off, unit_stride]
    · intro d x
      refine (Memref.IsWhole.readAt_unread (hs0_7 t) _ _ _).trans ?_
      blk_ext [Rect.idx_withinL, LoadRect.idx_apply, unit_off, unit_stride]
  case piece31 =>
    idx_vars x
    rw [S_at m c t y 0 0 x0 0 x1 (by first | exact h0 | (simp; omega)) (by first | exact h1 | (simp; omega))]
    unfold attp
    change fin0 (bok (blk0 t)) (mok (blk0 t)) (st0 (kall _ _ _) (qall _ _ _ _)) _ _ _ _ _ _ _ _ _ _ _ _ _ _ _ (ix2 x0 x1) = _
    refine tile0_0 _ _ (blk0_eq t) (by have := lt16 t; omega) _ _ _ _ _ _ _ _ _ _ _ _ _ _ _ _ _ _ _ _ _ _ _ _ _ _ _ _ _ _ _ _ x0 0 x1 ?_ ?_ ?_ ?_ ?_ ?_ ?_ ?_ ?_ ?_
    · intro x e
      refine Eq.trans ?_ (dif_pos (show 0 * 128 + x.val < 128 by omega)).symm
      refine (Memref.IsWhole.readAt_unread (hs0_3 t) _ _ _).trans ?_
      blk_ext [Rect.idx_withinL, LoadRect.idx_apply, unit_off, unit_stride]
    · intro x e
      refine Eq.trans ?_ (dif_neg (show ¬(0 * 128 + (128 + x.val) < 128) by omega)).symm
      refine (Memref.IsWhole.readAt_unread (hs0_2 t) _ _ _).trans ?_
      blk_ext [Rect.idx_withinL, LoadRect.idx_apply, unit_off, unit_stride]
    · intro x e
      refine (Memref.IsWhole.readAt_unread (hs0_4 t) _ _ _).trans ?_
      blk_ext [Rect.idx_withinL, LoadRect.idx_apply, unit_off, unit_stride]
    · intro e r
      refine (Memref.IsWhole.readAt_unread (hs0_1 t) _ _ _).trans ?_
      blk_ext [Rect.idx_withinL, LoadRect.idx_apply, unit_off, unit_stride]
    · refine (Memref.IsWhole.readAt_unread (hs0_0 t) _ _ _).trans ?_
      blk_ext [Rect.idx_withinL, LoadRect.idx_apply, unit_off, unit_stride]
    · intro x r
      refine (Memref.IsWhole.readAt_unread (hs0_8 t) _ _ _).trans ?_
      blk_ext [Rect.idx_withinL, LoadRect.idx_apply, unit_off, unit_stride]
    · intro x r
      refine (Memref.IsWhole.readAt_unread (hs0_9 t) _ _ _).trans ?_
      blk_ext [Rect.idx_withinL, LoadRect.idx_apply, unit_off, unit_stride]
    · intro d x
      refine Eq.trans ?_ (dif_pos (show 0 * 128 + x.val < 128 by omega)).symm
      refine (Memref.IsWhole.readAt_unread (hs0_6 t) _ _ _).trans ?_
      blk_ext [Rect.idx_withinL, LoadRect.idx_apply, unit_off, unit_stride]
    · intro d x
      refine Eq.trans ?_ (dif_neg (show ¬(0 * 128 + (128 + x.val) < 128) by omega)).symm
      refine (Memref.IsWhole.readAt_unread (hs0_5 t) _ _ _).trans ?_
      blk_ext [Rect.idx_withinL, LoadRect.idx_apply, unit_off, unit_stride]
    · intro d x
      refine (Memref.IsWhole.readAt_unread (hs0_7 t) _ _ _).trans ?_
      blk_ext [Rect.idx_withinL, LoadRect.idx_apply, unit_off, unit_stride]

end Cert.MixerIdeal.Att
-- ==== Proof.AttClaim.lean ====
/- The attention's claim: its kernel's result is its reference's. -/
module

public import proofs.«01_k».proof.Defs
public import proofs.«01_k».proof.Proof.Gen.MixerIdeal
public import proofs.«01_k».proof.Proof.Gen.AttentionIdeal
public import proofs.«01_k».proof.Proof.Gen.Pre_attention_pre
public import proofs.«01_k».proof.Proof.AttVal
public import proofs.«01_k».proof.Proof.StoresA
public import proofs.«01_k».proof.Proof.StoresB
public import Idealize.ShloMosaic.Lib.ReduceAll
public import Idealize.ShloMosaic.Lib.Affine
public import Idealize.ShloMosaic.Lib.Quiescent

@[expose] public section

set_option maxRecDepth 16384

noncomputable section

namespace Cert.Pre_attention_pre

open Idealize.ShloMosaic Idealize.ShloMosaic.TcCoe

/-- A value whose magnitude compares below infinity is finite. -/
theorem fin_of_lt (x : EReal) (h : (FloatOps.cmpf .olt (FloatOps.hostAbsf (F := Ideal) (φ := .f32) x) (FloatOps.ofBits (F := Ideal) .f32 0x7F800000#32) : BitVec 1) = 1#1) :
    Soft.Fin' x := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  unfold Ideal.cmp at h
  refine ⟨?_, ?_⟩ <;> rintro rfl <;> simp at h

instance : Subsingleton S_.Idx := ⟨fun a b => funext fun i => i.elim0⟩

/-- Where all magnitudes of an array compare below infinity, each of its elements is finite. -/
theorem all_fin {s : Shape} {axes : List (Fin s.rank)} (x : FVec Ideal s .f32) (hb : S_.BroadcastsInDim s (![] : Fin 0 → Fin s.rank)) (h : s.ReducesTo axes S_)
    (hu : 0 < S_.numel) (j : S_.Idx)
    (e : Host.reduce IntOp.andi (cmpf .olt (Host.absf x) (broadcastInDim s ![] hb (constant S_ .f32 0x7F800000#32))) (constantI S_ 1 1#1) h hu j = 1#1) (i : s.Idx) :
    Soft.Fin' (x i) := fin_of_lt _ (Host.reduce_andi_all _ _ h hu j e i)

/-- The precondition says that the sinks, queries, keys and biases are finite. -/
theorem finite [Facts] {a0 : FVec Ideal S16 .f32} {a1 : FVec Ideal S1280x4096 .bf16} {a2 : FVec Ideal S4096x256 .bf16} {a3 : FVec Ideal S128x256 .bf16} {a4 : FVec Ideal S1280x128 .bf16} {a5 : FVec Ideal S4x256x512 .f32} {a6 : FVec Ideal S32x4x16x512 .f32} {a7 : FVec Ideal S4096x3072 .bf16} {a8 : FVec Ideal S4096x128 .f32} {a9 : FVec Ideal S1x128 .f32} {a10 : FVec Ideal S512x256 .bf16} {a11 : FVec Ideal S4x1024 .f32} {a12 : FVec Ideal S1x1024 .f32} {a13 : FVec Ideal S1x1024 .f32} {a14 : FVec Ideal S4x128x256 .f32} {a15 : FVec Ideal S4x8x128 .f32} {a16 : FVec Ideal S4x8x128 .f32} {a17 : FVec Ideal S128x1024 .bf16} {a18 : FVec Ideal S2048x2048 .f32} {a19 : FVec Ideal S8192x2048 .f32} (h : fn (F := Ideal) a0 a1 a2 a3 a4 a5 a6 a7 a8 a9 a10 a11 a12 a13 a14 a15 a16 a17 a18 a19 = fun _ => 1#1) : AttentionIdeal.Ref.Finite a0 a1 a2 a3 a5 a6 := by
  have e := congrFun h (fun i => i.elim0)
  dsimp only [fn, fn_part1] at e
  obtain ⟨e, e6⟩ := IntOp.andi_eq_one.1 e
  obtain ⟨e, e5⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  refine ⟨fun i => all_fin _ _ _ _ _ e0 _, fun i j => ?_, fun i j => all_fin _ _ _ _ _ e2 _, fun i j => ?_, fun i j k => all_fin _ _ _ _ _ e5 _, fun i j k l => all_fin _ _ _ _ _ e6 _⟩
  · have := all_fin _ _ _ _ _ e1 (ix2 i j)
    rwa [show extf (F := Ideal) .f32 (extractStridedSlice S1024x4096 ![0, 0] a1 Facts.slices_S1280x4096_S1024x4096_0_0) Facts.bitsLt_bf16_f32 (ix2 i j) = a1 (ix2 ⟨i.val, by omega⟩ j) by pointwise] at this
  · have := all_fin _ _ _ _ _ e3 (ix2 i j)
    rwa [show extf (F := Ideal) .f32 (extractStridedSlice S16x256 ![112, 0] a3 Facts.slices_S128x256_S16x256_112_0) Facts.bitsLt_bf16_f32 (ix2 i j) = a3 (ix2 ⟨112 + i.val, by omega⟩ j) by pointwise] at this

end Cert.Pre_attention_pre

namespace Cert.MixerIdeal.Att

open Cert.MixerIdeal Cert.MixerIdeal.Gen
open Idealize.ShloMosaic Idealize.ShloMosaic.TcCoe Idealize.SL.Sem

variable (m : (ℓ : Loc nD τ sig) → Buf (Elt Ideal) ℓ) (ρ : Dev nD → PrngReg)

/-- At the first point the window holds the point's attention. -/
theorem hA (c : Dev nD) (t : Fin cfg0.N) (h0) : VO0_23.read (Elt Ideal) (VO0_23.writes (Elt Ideal) VO0_23.junk (LA m c t h0)) = S m c t :=
  funext (sA m c t h0)

/-- At the other points the window holds the point's attention. -/
theorem hB (c : Dev nD) (t : Fin cfg0.N) (h0) (xs0 xs1 xs2 xs3) :
    VO0_23.read (Elt Ideal) (VO0_23.writes (Elt Ideal) VO0_23.junk (LB m c t h0 xs0 xs1 xs2 xs3)) = S m c t :=
  funext (sB m c t h0 xs0 xs1 xs2 xs3)

/-- After the run the attention's array is what the points wrote, and the arguments are unchanged. -/
theorem run_att : θ_run defs (onTc (τ := τ) (main (F := Ideal))) ⟨m, fun _ => 0, ρ⟩ (fun r => ∀ c : Dev nD,
      r.2.mem ((c.tc : Thread nD τ).loc main_v0_0) = (dats m (S m) 0 c).arrAt 23 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c => ⟨att m (S m) h.1 c,
      (Pipeline.RDat.FramePost.arr_in h.1 c 0 rfl).trans (V_main_arg0 m c),
      (Pipeline.RDat.FramePost.arr_in h.1 c 6 rfl).trans (V_main_arg1 m c),
      (Pipeline.RDat.FramePost.arr_in h.1 c 3 rfl).trans (V_main_arg2 m c),
      (Pipeline.RDat.FramePost.arr_in h.1 c 4 rfl).trans (V_main_arg3 m c),
      (Pipeline.RDat.FramePost.arr_in h.1 c 7 rfl).trans (V_main_arg4 m c),
      (Pipeline.RDat.FramePost.arr_in h.1 c 8 rfl).trans (V_main_arg5 m c),
      (Pipeline.RDat.FramePost.arr_in h.1 c 9 rfl).trans (V_main_arg6 m c),
      (Pipeline.RDat.FramePost.arr_in h.1 c 10 rfl).trans (V_main_arg7 m c),
      (Pipeline.RDat.FramePost.arr_in h.1 c 11 rfl).trans (V_main_arg8 m c),
      (Pipeline.RDat.FramePost.arr_in h.1 c 12 rfl).trans (V_main_arg9 m c),
      (Pipeline.RDat.FramePost.arr_in h.1 c 13 rfl).trans (V_main_arg10 m c),
      (Pipeline.RDat.FramePost.arr_in h.1 c 14 rfl).trans (V_main_arg11 m c),
      (Pipeline.RDat.FramePost.arr_in h.1 c 15 rfl).trans (V_main_arg12 m c),
      (Pipeline.RDat.FramePost.arr_in h.1 c 16 rfl).trans (V_main_arg13 m c),
      (Pipeline.RDat.FramePost.arr_in h.1 c 17 rfl).trans (V_main_arg14 m c),
      (Pipeline.RDat.FramePost.arr_in h.1 c 18 rfl).trans (V_main_arg15 m c),
      (Pipeline.RDat.FramePost.arr_in h.1 c 19 rfl).trans (V_main_arg16 m c),
      (Pipeline.RDat.FramePost.arr_in h.1 c 20 rfl).trans (V_main_arg17 m c),
      (Pipeline.RDat.FramePost.arr_in h.1 c 21 rfl).trans (V_main_arg18 m c),
      (Pipeline.RDat.FramePost.arr_in h.1 c 22 rfl).trans (V_main_arg19 m c)⟩) (run m ρ (S m) (hA m) (hB m))

end Cert.MixerIdeal.Att

namespace Cert.Proof

open Idealize.ShloMosaic Idealize.SL.Sem

/-- The attention kernel computes the reference's attention. -/
theorem algebraic_attention : Cert.algebraic_MixerIdeal_AttentionIdeal_pre_attention_pre (hMixerIdeal := Cert.MixerIdeal.Gen.facts)
    (hAttentionIdeal := Cert.AttentionIdeal.Gen.facts) (hPre_attention_pre := Cert.Pre_attention_pre.Gen.facts) := by
  intro m ρ m' ρ' hpre hagree
  refine ⟨_, Cert.MixerIdeal.Att.run_att m ρ, ?_⟩
  refine (θ_run Cert.AttentionIdeal.defs _ _).mono (fun _ h c => ⟨(h c).1.trans ?_, (h c).2⟩) (Cert.AttentionIdeal.Value.run (F := Ideal) m' ρ')
  have F := Cert.Pre_attention_pre.finite (hpre c)
  rw [Cert.MixerIdeal.Att.final23 m c F]
  refine (Cert.AttentionIdeal.Ref.res_eq m' c).trans ?_
  obtain ⟨h0, h1, h2, h3, h4, h5, h6, -⟩ := hagree c
  rw [h0, h1, h2, h3, h4, h5, h6]

end Cert.Proof
-- ==== Proof.OutVal.lean ====
module

public import proofs.«01_k».proof.Proof.Gen.OutprojIdeal.Value
public import proofs.«01_k».proof.Proof.Gen.OutprojReferenceIdeal.Run
public import Idealize.ShloMosaic.Lib.Pointwise
public import Idealize.ShloMosaic.Lib.Pipeline.ValueKit

@[expose] public section

/-! The output projection: what each grid point stores is the reference's row block, so the two results are the
reference's. -/

set_option maxRecDepth 16384

noncomputable section

namespace Cert.OutprojReferenceIdeal.Ref

open Cert.OutprojReferenceIdeal Cert.OutprojReferenceIdeal.Gen
open Idealize.ShloMosaic Idealize.ShloMosaic.TcCoe Idealize.SL.Sem

/-- The residual stream after both mixers, from their outputs. -/
def H (a0 a1 : FVec Ideal S1024x4096 .bf16) (h0 h1 : FVec Ideal S4096x1024 .bf16) (x : FVec Ideal S8192x2048 .f32)
    (w : FVec Ideal S2048x2048 .bf16) : FVec Ideal S8192x2048 .f32 :=
  addf x (Host.dotGeneral dot_S8192x2048_S2048x2048_S8192x2048_1_0_0_1_n_n none (concatenate S8192x2048 1 [⟨S8192x1024, (concatenate S8192x1024 0 [⟨S4096x1024, (transpose S4096x1024 [1, 0] (extf .f32 a0 bitsLt_bf16_f32) transposes_S1024x4096_S4096x1024_1_0)⟩, ⟨S4096x1024, (transpose S4096x1024 [1, 0] (extf .f32 a1 bitsLt_bf16_f32) transposes_S1024x4096_S4096x1024_1_0)⟩] concatenates_S4096x1024_S4096x1024_S8192x1024_d0)⟩, ⟨S8192x1024, (concatenate S8192x1024 0 [⟨S4096x1024, (extf .f32 h0 bitsLt_bf16_f32)⟩, ⟨S4096x1024, (extf .f32 h1 bitsLt_bf16_f32)⟩] concatenates_S4096x1024_S4096x1024_S8192x1024_d0)⟩] concatenates_S8192x1024_S8192x1024_S8192x2048_d1) (extf .f32 w bitsLt_bf16_f32))

/-- A row over its root mean square, times the gain. -/
def U (H : FVec Ideal S8192x2048 .f32) (g : FVec Ideal S1x2048 .f32) : FVec Ideal S8192x2048 .bf16 :=
  truncf .bf16 (mulf (mulf H (broadcastInDim S8192x2048 ![0, 1] bcast_S8192x1_S8192x2048_0_1 (Host.rsqrt (addf (Host.divf (broadcastInDim S8192x1 ![0] bcast_S8192_S8192x1_0 (Host.reduceAdd (mulf H H) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 g)) bitsLt_bf16_f32

/-- In the first half of the rows the stream is read off the first half of the heads. -/
theorem H_lo (a0 a1 : FVec Ideal S1024x4096 .bf16) (h0 h1 : FVec Ideal S4096x1024 .bf16) (x : FVec Ideal S8192x2048 .f32)
    (w : FVec Ideal S2048x2048 .bf16) (i : Fin 8192) (j : Fin 2048) (hi : i.val < 4096) :
    H a0 a1 h0 h1 x w (ix2 i j) = x (ix2 i j) + ((∑ k : Fin 1024, a0 (ix2 k ⟨i.val, hi⟩) * w (ix2 ⟨k.val, by omega⟩ j))
      + ∑ k : Fin 1024, h0 (ix2 ⟨i.val, hi⟩ k) * w (ix2 ⟨1024 + k.val, by omega⟩ j)) := by
  pointwise [H]
  simp only [dif_pos hi]

/-- In the second half of the rows the stream is read off the second half of the heads. -/
theorem H_hi (a0 a1 : FVec Ideal S1024x4096 .bf16) (h0 h1 : FVec Ideal S4096x1024 .bf16) (x : FVec Ideal S8192x2048 .f32)
    (w : FVec Ideal S2048x2048 .bf16) (i : Fin 8192) (j : Fin 2048) (hi : ¬i.val < 4096) :
    H a0 a1 h0 h1 x w (ix2 i j) = x (ix2 i j) + ((∑ k : Fin 1024, a1 (ix2 k ⟨i.val - 4096, by omega⟩) * w (ix2 ⟨k.val, by omega⟩ j))
      + ∑ k : Fin 1024, h1 (ix2 ⟨i.val - 4096, by omega⟩ k) * w (ix2 ⟨1024 + k.val, by omega⟩ j)) := by
  pointwise [H]
  simp only [dif_neg hi]

/-- A row over its root mean square, at an index. -/
theorem U_at (H : FVec Ideal S8192x2048 .f32) (g : FVec Ideal S1x2048 .f32) (i : Fin 8192) (j : Fin 2048) :
    U H g (ix2 i j) = H (ix2 i j) * Ideal.rsqrt (Ideal.div (∑ x, H (ix2 i x) * H (ix2 i x)) (Ideal.ofBits .f32 1157627904#32) + Ideal.ofBits .f32 897988541#32) * g (ix2 0 j) := by
  pointwise [U]

end Cert.OutprojReferenceIdeal.Ref

namespace Cert.OutprojIdeal.Val

open Cert.OutprojIdeal Cert.OutprojIdeal.Gen Cert.OutprojIdeal.Value
open Idealize.ShloMosaic Idealize.ShloMosaic.TcCoe Idealize.SL.Sem

variable (m : (ℓ : Loc nD τ sig) → Buf (Elt Ideal) ℓ)

/-- Where each window sits at each grid point. -/
theorem idx : ∀ t : Fin cfg0.N, win0_0.index t = ![0, min t.val 7] ∧ win0_1.index t = ![0, t.val - 8] ∧
    win0_2.index t = ![min t.val 7, 0] ∧ win0_3.index t = ![t.val - 8, 0] ∧ win0_4.index t = ![t.val, 0] ∧
    win0_5.index t = ![0, 0] ∧ win0_6.index t = ![1, 0] ∧ win0_7.index t = ![0, 0] ∧
    win0_8.index t = ![t.val, 0] ∧ win0_9.index t = ![t.val, 0] :=
  (by decide +kernel : ∀ t : Fin grid0.N, _)

/-- The row of the arrays that row `i` of a point's block is. -/
def row (t : Fin cfg0.N) (i : Fin 512) : Fin 8192 := ⟨t.val * 512 + i.val, by have := t.isLt; have : cfg0.N = 16 := rfl; omega⟩

/-- The reference's residual stream on the arguments of the kernel. -/
abbrev HR (c : Dev nD) : FVec Ideal S8192x2048 .f32 :=
  OutprojReferenceIdeal.Ref.H (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- A point of the first half computes the reference's rows. -/
theorem pointA (c : Dev nD) (t : Fin cfg0.N) (ht : t.val < 8) (i : Fin 512) (j : Fin 2048) :
    k0_pay1 (F := Ideal) (iblk m c 4 t) (iblk m c 0 t) (iblk m c 5 t) (iblk m c 2 t) (iblk m c 6 t) (ix2 i j) = HR m c (ix2 (row t i) j) := by
  unfold HR
  rw [OutprojReferenceIdeal.Ref.H_lo _ _ _ _ _ _ _ _ (show (row t i).val < 4096 by simp only [row]; omega), ← add_assoc]
  pointwise [k0_pay1]
  blk_point [iblk, V, idx t, row]

/-- A point of the second half computes the reference's rows. -/
theorem pointB (c : Dev nD) (t : Fin cfg0.N) (ht : 8 ≤ t.val) (i : Fin 512) (j : Fin 2048) :
    k0_pay3 (F := Ideal) (iblk m c 4 t) (iblk m c 1 t) (iblk m c 5 t) (iblk m c 3 t) (iblk m c 6 t) (ix2 i j) = HR m c (ix2 (row t i) j) := by
  unfold HR
  rw [OutprojReferenceIdeal.Ref.H_hi _ _ _ _ _ _ _ _ (show ¬(row t i).val < 4096 by simp only [row]; omega), ← add_assoc]
  pointwise [k0_pay3]
  blk_point [iblk, V, idx t, row]

/-- A point of the first half norms the reference's rows. -/
theorem normA (c : Dev nD) (t : Fin cfg0.N) (ht : t.val < 8) (i : Fin 512) (j : Fin 2048) :
    k0_pay2 (F := Ideal) (iblk m c 4 t) (iblk m c 0 t) (iblk m c 5 t) (iblk m c 2 t) (iblk m c 6 t) (iblk m c 7 t) (ix2 i j)
    = OutprojReferenceIdeal.Ref.U (HR m c) (m ((c : Thread nD τ).loc main_arg6)) (ix2 (row t i) j) := by
  rw [OutprojReferenceIdeal.Ref.U_at]
  unfold k0_pay2
  pointwise
  simp only [pointA m c t ht]
  blk_point [iblk, V, idx t]

/-- A point of the second half norms the reference's rows. -/
theorem normB (c : Dev nD) (t : Fin cfg0.N) (ht : 8 ≤ t.val) (i : Fin 512) (j : Fin 2048) :
    k0_pay4 (F := Ideal) (iblk m c 4 t) (iblk m c 1 t) (iblk m c 5 t) (iblk m c 3 t) (iblk m c 6 t) (iblk m c 7 t) (ix2 i j)
    = OutprojReferenceIdeal.Ref.U (HR m c) (m ((c : Thread nD τ).loc main_arg6)) (ix2 (row t i) j) := by
  rw [OutprojReferenceIdeal.Ref.U_at]
  unfold k0_pay4
  pointwise
  simp only [pointB m c t ht]
  blk_point [iblk, V, idx t]

/-- After the run the first result is the reference's residual stream. -/
theorem final8 (c : Dev nD) : (dats m 0 c).arrAt 8 cfg0.N = HR m c := by
  refine (dats m 0 c).arrAt_eq_of_covers 8 _ (by decide +kernel) fun t _ y => ?_
  idx_vars y
  rw [show ((cfg0.win 8).blk t).view.emb (ix2 y0 y1) = ix2 (row t y0) y1 by blk_ext [idx t, row]]
  blk_simp
  rw [after0_8]
  by_cases ht : t.val < 8
  · rw [outsAt0_A m c t ht (by omega)]
    frame_out
    exact pointA m c t ht y0 y1
  · rw [outsAt0_B m c t ht (by omega)]
    frame_out
    exact pointB m c t (by omega) y0 y1

/-- After the run the second result is the reference's normed stream. -/
theorem final9 (c : Dev nD) : (dats m 0 c).arrAt 9 cfg0.N = OutprojReferenceIdeal.Ref.U (HR m c) (m ((c : Thread nD τ).loc main_arg6)) := by
  refine (dats m 0 c).arrAt_eq_of_covers 9 _ (by decide +kernel) fun t _ y => ?_
  idx_vars y
  rw [show ((cfg0.win 9).blk t).view.emb (ix2 y0 y1) = ix2 (row t y0) y1 by blk_ext [idx t, row]]
  blk_simp
  rw [after0_9]
  by_cases ht : t.val < 8
  · rw [outsAt0_A m c t ht (by omega)]
    frame_out
    exact normA m c t ht y0 y1
  · rw [outsAt0_B m c t ht (by omega)]
    frame_out
    exact normB m c t (by omega) y0 y1

end Cert.OutprojIdeal.Val
-- ==== Proof.OutClaim.lean ====
/- The output projection's claim: its kernel's results are its reference's. -/
module

public import proofs.«01_k».proof.Defs
public import proofs.«01_k».proof.Proof.Gen.OutprojIdeal
public import proofs.«01_k».proof.Proof.Gen.OutprojReferenceIdeal
public import proofs.«01_k».proof.Proof.OutVal
public import Idealize.ShloMosaic.Lib.Quiescent

@[expose] public section

set_option maxRecDepth 16384

noncomputable section

namespace Cert.Proof

open Idealize.ShloMosaic Idealize.SL.Sem

/-- The output projection's kernel computes the reference's residual stream and its norm. -/
theorem algebraic_outproj : Cert.algebraic_OutprojIdeal_OutprojReferenceIdeal (hOutprojIdeal := Cert.OutprojIdeal.Gen.facts)
    (hOutprojReferenceIdeal := Cert.OutprojReferenceIdeal.Gen.facts) := by
  intro m ρ m' ρ' _ hagree
  refine ⟨_, _, Cert.OutprojIdeal.Value.run_blocks m ρ, ?_⟩
  refine (θ_run Cert.OutprojReferenceIdeal.defs _ _).mono (fun _ h c => ⟨(h c).1.trans ?_, (h c).2.1.trans ?_, (h c).2.2⟩)
    (Cert.OutprojReferenceIdeal.Value.run (F := Ideal) m' ρ')
  · rw [Cert.OutprojIdeal.Val.final8 m c]
    obtain ⟨h0, h1, h2, h3, h4, h5, h6⟩ := hagree c
    rw [h0, h1, h2, h3, h4, h5]
    rfl
  · rw [Cert.OutprojIdeal.Val.final9 m c]
    obtain ⟨h0, h1, h2, h3, h4, h5, h6⟩ := hagree c
    rw [h0, h1, h2, h3, h4, h5, h6]
    rfl

end Cert.Proof
-- ==== Proof.InRun.lean ====
module

public import proofs.«01_k».proof.Proof.Gen.InprojIdeal.Frame
public import proofs.«01_k».proof.Proof.Gen.InprojIdeal.Skeleton
public import Idealize.ShloMosaic.Lib.Pipeline.Routed

@[expose] public section

/-! The input projection's body. Only the normed tokens and the four projections of the tokens are followed; every other
buffer the body writes (the lead's normed rows and projections, the bias tables) is held at contents left unsaid, so each
stretch of the body that touches only those is passed by one rule. -/

set_option maxRecDepth 65536

noncomputable section

namespace Cert.InprojIdeal.Proj

open Cert.InprojIdeal Cert.InprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The buffers the body is given. -/
structure Bufs where
  a2 : Memref sig .tc .vmem S1024x2048 .f32
  h2 : a2.IsWhole
  a3 : Memref sig .tc .vmem S16x2048 .f32
  h3 : a3.IsWhole
  a4 : Memref sig .tc .vmem S1x2048 .f32
  h4 : a4.IsWhole
  a5 : Memref sig .tc .vmem S1024x2048 .bf16
  h5 : a5.IsWhole
  a6 : Memref sig .tc .vmem S1792x2048 .bf16
  h6 : a6.IsWhole
  a7 : Memref sig .tc .smem S32x16 .f32
  h7 : a7.IsWhole
  a8 : Memref sig .tc .vmem S16x128 .i32
  h8 : a8.IsWhole
  a9 : Memref sig .tc .vmem S2x16x128 .i32
  h9 : a9.IsWhole
  a10 : Memref sig .tc .vmem S1024x1024 .bf16
  h10 : a10.IsWhole
  a11 : Memref sig .tc .vmem S1024x256 .bf16
  h11 : a11.IsWhole
  a12 : Memref sig .tc .vmem S1280x1024 .bf16
  h12 : a12.IsWhole
  a13 : Memref sig .tc .vmem S1024x128 .f32
  h13 : a13.IsWhole
  a14 : Memref sig .tc .vmem S128x1024 .bf16
  h14 : a14.IsWhole
  a15 : Memref sig .tc .vmem S128x256 .bf16
  h15 : a15.IsWhole
  a16 : Memref sig .tc .vmem S1280x128 .bf16
  h16 : a16.IsWhole
  a17 : Memref sig .tc .vmem S128x128 .f32
  h17 : a17.IsWhole
  a18 : Memref sig .tc .vmem S4x16x512 .f32
  h18 : a18.IsWhole
  a19 : Memref sig .tc .vmem S2x4x16x512 .f32
  h19 : a19.IsWhole
  a20 : Memref sig .tc .vmem S1024x2048 .bf16
  h20 : a20.IsWhole
  a21 : Memref sig .tc .vmem S128x2048 .bf16
  h21 : a21.IsWhole
  a22 : Memref sig .tc .vmem S512x8x128 .f32
  h22 : a22.IsWhole

/-- What is known of the buffers between two steps: the inputs' contents, the normed tokens, and the stores made so far
into the four projections of the tokens over what was there before. -/
structure Held (F : FTy → Type) [FloatOps F] where
  x2 : Vec F S1024x2048 .f32
  x3 : Vec F S16x2048 .f32
  x4 : Vec F S1x2048 .f32
  x5 : Vec F S1024x2048 .bf16
  x6 : Vec F S1792x2048 .bf16
  x7 : Vec F S32x16 .f32
  x8 : Vec F S16x128 .i32
  x9 : Vec F S2x16x128 .i32
  u : Vec F S1024x2048 .bf16
  d10 : Vec F S1024x1024 .bf16
  l10 : List (View.Piece (Elt F) S1024x1024 .bf16)
  d11 : Vec F S1024x256 .bf16
  l11 : List (View.Piece (Elt F) S1024x256 .bf16)
  d12 : Vec F S1280x1024 .bf16
  l12 : List (View.Piece (Elt F) S1280x1024 .bf16)
  d13 : Vec F S1024x128 .f32
  l13 : List (View.Piece (Elt F) S1024x128 .f32)

/-- The points-to of a buffer whole at some contents. -/
abbrev some' (c : Dev nD) {sp : Space} {s : Shape} {e : EltTy} (m : Memref sig .tc sp s e) : sProp 𝕄 :=
  iprop(∃ f, m.view.loc (c : Thread nD τ) ↦[m.view.set]{fullShare} f)

/-- A buffer found at `d`, with the stores `L` made into it since. -/
abbrev over (c : Dev nD) {sp : Space} {s : Shape} {e : EltTy} (m : Memref sig .tc sp s e) (d : s.Idx → Elt F e) (L : List (View.Piece (Elt F) s e)) : sProp 𝕄 :=
  iprop(∃ f, ⌜m.view.read (Elt F) f = d⌝ ∗ (m.view.loc (c : Thread nD τ) ↦[m.view.set]{fullShare} m.view.writes (Elt F) f L))

/-- The buffers held between two steps. -/
def Inv (c : Dev nD) (b : Bufs) (σ : Held F) : sProp 𝕄 :=
  iprop(owns (c : Thread nD τ) b.a2 fullShare σ.x2
    ∗ owns (c : Thread nD τ) b.a3 fullShare σ.x3
    ∗ owns (c : Thread nD τ) b.a4 fullShare σ.x4
    ∗ owns (c : Thread nD τ) b.a5 fullShare σ.x5
    ∗ owns (c : Thread nD τ) b.a6 fullShare σ.x6
    ∗ owns (c : Thread nD τ) b.a7 fullShare σ.x7
    ∗ owns (c : Thread nD τ) b.a8 fullShare σ.x8
    ∗ owns (c : Thread nD τ) b.a9 fullShare σ.x9
    ∗ owns (c : Thread nD τ) b.a20 fullShare σ.u
    ∗ over c b.a10 σ.d10 σ.l10
    ∗ over c b.a11 σ.d11 σ.l11
    ∗ over c b.a12 σ.d12 σ.l12
    ∗ over c b.a13 σ.d13 σ.l13
    ∗ some' c b.a14
    ∗ some' c b.a15
    ∗ some' c b.a16
    ∗ some' c b.a17
    ∗ some' c b.a18
    ∗ some' c b.a19
    ∗ some' c b.a21
    ∗ some' c b.a22)

variable (c : Dev nD) (b : Bufs)

local notation "WP" => wp frame (wpE (defs₀ (F := F)) Variants.none (c : Thread nD τ) none) Set.univ

/-- A program that leaves what is known as it is. -/
structure Keep {α : Type} (p : Prog (TpuEff nD τ sig (Elt F) Λ₀ .tc) α) : Prop where
  go : ∀ (σ : Held F) (K : α → sProp 𝕄), iprop(Inv c b σ ∗ (∀ r, Inv c b σ -∗ K r)) ⊢ WP p K

/-- A program that takes what is known from `σ` to `σ'`. -/
structure Run (σ : Held F) (p : Prog (TpuEff nD τ sig (Elt F) Λ₀ .tc) PUnit) (σ' : Held F) : Prop where
  go : ∀ K : PUnit → sProp 𝕄, iprop(Inv c b σ ∗ (Inv c b σ' -∗ K ⟨⟩)) ⊢ WP p K

variable {c b}

/-- A buffer that can be taken out of what is held and put back at other contents `g`. -/
def Has {sp : Space} {s : Shape} {e : EltTy} (σ σ' : Held F) (c : Dev nD) (b : Bufs) (m : Memref sig .tc sp s e) (P Q : Buf (Elt F) (m.view.loc (c : Thread nD τ)) → Prop) : Prop :=
  Inv c b σ ⊢ iprop(∃ f, ⌜P f⌝ ∗ (m.view.loc (c : Thread nD τ) ↦[m.view.set]{fullShare} f)
    ∗ (∀ g, ⌜Q g⌝ -∗ (m.view.loc (c : Thread nD τ) ↦[m.view.set]{fullShare} g) -∗ Inv c b σ'))

theorem wp_load_of {cs : CoreSpace} {s : Shape} {e : EltTy} {m : Memref sig .tc cs s e} {σ : Held F} {P Q : Buf (Elt F) (m.view.loc (c : Thread nD τ)) → Prop}
    (h : Has σ σ c b m P Q) (hPQ : ∀ f, P f → Q f) (r : LoadRect s) (hl : m.view.LoadsAt r) (K : (r.shape.Idx → Elt F e) → sProp 𝕄) :
    iprop(Inv c b σ ∗ (∀ f, ⌜P f⌝ -∗ Inv c b σ -∗ K (m.view.readAt (Elt F) r f))) ⊢ WP (Prog.lift (.load m r hl)) K := by
  iintro ⟨Hi, Hk⟩
  ihave H := (show _ ⊢ _ from h) $$ Hi
  icases H with ⟨%f, %hf, Hf, Hr⟩
  iapply (wp_load Variants.none (c : Thread nD τ) none Set.univ (m := m) (r := r) (hl := hl) (S := m.view.set) (View.setOn_subset_set _ _)) $$ Hf
  iintro Hf
  iapply (le_wp_ret frame _ Set.univ _ K)
  ispecialize Hk $$ %f %hf
  iapply Hk
  ispecialize Hr $$ %f %(hPQ f hf)
  iapply Hr
  iexact Hf

theorem wp_store_of {cs : CoreSpace} {s : Shape} {e : EltTy} {m : Memref sig .tc cs s e} {σ σ' : Held F} {P Q : Buf (Elt F) (m.view.loc (c : Thread nD τ)) → Prop}
    (h : Has σ σ' c b m P Q) (r : Rect s) (v : r.shape.Idx → Elt F e) (hx : (m.access r).Stores Finset.univ) (hm : Finset.univ = (Finset.univ : Finset r.shape.Idx) ∨ ∀ a, r.stride a = 1)
    (hPQ : ∀ f, P f → Q ((m.access r).write (Elt F) f v Finset.univ)) (K : PUnit → sProp 𝕄) :
    iprop(Inv c b σ ∗ (Inv c b σ' -∗ K ⟨⟩)) ⊢ WP (Prog.lift (.store m r v Finset.univ hx hm)) K := by
  iintro ⟨Hi, Hk⟩
  ihave H := (show _ ⊢ _ from h) $$ Hi
  icases H with ⟨%f, %hf, Hf, Hr⟩
  iapply (wp_store Variants.none (c : Thread nD τ) none Set.univ (m := m) (r := r) (hx := hx) (hm := hm) (S := m.view.set) ((View.setOn_subset_set _ _).trans (View.set_slice_subset _ _))) $$ Hf
  iintro Hf
  iapply (le_wp_ret frame _ Set.univ _ K)
  iapply Hk
  ispecialize Hr $$ %_ %(hPQ f hf)
  iapply Hr
  iexact Hf
theorem has2 (σ : Held F) : Has σ σ c b b.a2 (fun f => b.a2.view.read (Elt F) f = σ.x2) (fun f => b.a2.view.read (Elt F) f = σ.x2) := by
  unfold Has Inv owns
  iintro ⟨H2, H3, H4, H5, H6, H7, H8, H9, H20, H10, H11, H12, H13, H14, H15, H16, H17, H18, H19, H21, H22⟩
  icases H2 with ⟨%f, %hf, H2⟩
  iexists f; isplitr; · ipureintro; exact hf
  isplitl [H2]; · iexact H2
  iintro %g %hg H2
  isplitl [H2]
  · iexists g; isplitr; · ipureintro; exact hg
    iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H20]; · iexact H20
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H21]; · iexact H21
  · iexact H22
theorem has3 (σ : Held F) : Has σ σ c b b.a3 (fun f => b.a3.view.read (Elt F) f = σ.x3) (fun f => b.a3.view.read (Elt F) f = σ.x3) := by
  unfold Has Inv owns
  iintro ⟨H2, H3, H4, H5, H6, H7, H8, H9, H20, H10, H11, H12, H13, H14, H15, H16, H17, H18, H19, H21, H22⟩
  icases H3 with ⟨%f, %hf, H3⟩
  iexists f; isplitr; · ipureintro; exact hf
  isplitl [H3]; · iexact H3
  iintro %g %hg H3
  isplitl [H2]; · iexact H2
  isplitl [H3]
  · iexists g; isplitr; · ipureintro; exact hg
    iexact H3
  isplitl [H4]; · iexact H4
  isplitl [H5]; · iexact H5
  isplitl [H6]; · iexact H6
  isplitl [H7]; · iexact H7
  isplitl [H8]; · iexact H8
  isplitl [H9]; · iexact H9
  isplitl [H20]; · iexact H20
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H21]; · iexact H21
  · iexact H22
theorem has4 (σ : Held F) : Has σ σ c b b.a4 (fun f => b.a4.view.read (Elt F) f = σ.x4) (fun f => b.a4.view.read (Elt F) f = σ.x4) := by
  unfold Has Inv owns
  iintro ⟨H2, H3, H4, H5, H6, H7, H8, H9, H20, H10, H11, H12, H13, H14, H15, H16, H17, H18, H19, H21, H22⟩
  icases H4 with ⟨%f, %hf, H4⟩
  iexists f; isplitr; · ipureintro; exact hf
  isplitl [H4]; · iexact H4
  iintro %g %hg H4
  isplitl [H2]; · iexact H2
  isplitl [H3]; · iexact H3
  isplitl [H4]
  · iexists g; isplitr; · ipureintro; exact hg
    iexact H4
  isplitl [H5]; · iexact H5
  isplitl [H6]; · iexact H6
  isplitl [H7]; · iexact H7
  isplitl [H8]; · iexact H8
  isplitl [H9]; · iexact H9
  isplitl [H20]; · iexact H20
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H21]; · iexact H21
  · iexact H22
theorem has5 (σ : Held F) : Has σ σ c b b.a5 (fun f => b.a5.view.read (Elt F) f = σ.x5) (fun f => b.a5.view.read (Elt F) f = σ.x5) := by
  unfold Has Inv owns
  iintro ⟨H2, H3, H4, H5, H6, H7, H8, H9, H20, H10, H11, H12, H13, H14, H15, H16, H17, H18, H19, H21, H22⟩
  icases H5 with ⟨%f, %hf, H5⟩
  iexists f; isplitr; · ipureintro; exact hf
  isplitl [H5]; · iexact H5
  iintro %g %hg H5
  isplitl [H2]; · iexact H2
  isplitl [H3]; · iexact H3
  isplitl [H4]; · iexact H4
  isplitl [H5]
  · iexists g; isplitr; · ipureintro; exact hg
    iexact H5
  isplitl [H6]; · iexact H6
  isplitl [H7]; · iexact H7
  isplitl [H8]; · iexact H8
  isplitl [H9]; · iexact H9
  isplitl [H20]; · iexact H20
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H21]; · iexact H21
  · iexact H22
theorem has6 (σ : Held F) : Has σ σ c b b.a6 (fun f => b.a6.view.read (Elt F) f = σ.x6) (fun f => b.a6.view.read (Elt F) f = σ.x6) := by
  unfold Has Inv owns
  iintro ⟨H2, H3, H4, H5, H6, H7, H8, H9, H20, H10, H11, H12, H13, H14, H15, H16, H17, H18, H19, H21, H22⟩
  icases H6 with ⟨%f, %hf, H6⟩
  iexists f; isplitr; · ipureintro; exact hf
  isplitl [H6]; · iexact H6
  iintro %g %hg H6
  isplitl [H2]; · iexact H2
  isplitl [H3]; · iexact H3
  isplitl [H4]; · iexact H4
  isplitl [H5]; · iexact H5
  isplitl [H6]
  · iexists g; isplitr; · ipureintro; exact hg
    iexact H6
  isplitl [H7]; · iexact H7
  isplitl [H8]; · iexact H8
  isplitl [H9]; · iexact H9
  isplitl [H20]; · iexact H20
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H21]; · iexact H21
  · iexact H22
theorem has7 (σ : Held F) : Has σ σ c b b.a7 (fun f => b.a7.view.read (Elt F) f = σ.x7) (fun f => b.a7.view.read (Elt F) f = σ.x7) := by
  unfold Has Inv owns
  iintro ⟨H2, H3, H4, H5, H6, H7, H8, H9, H20, H10, H11, H12, H13, H14, H15, H16, H17, H18, H19, H21, H22⟩
  icases H7 with ⟨%f, %hf, H7⟩
  iexists f; isplitr; · ipureintro; exact hf
  isplitl [H7]; · iexact H7
  iintro %g %hg H7
  isplitl [H2]; · iexact H2
  isplitl [H3]; · iexact H3
  isplitl [H4]; · iexact H4
  isplitl [H5]; · iexact H5
  isplitl [H6]; · iexact H6
  isplitl [H7]
  · iexists g; isplitr; · ipureintro; exact hg
    iexact H7
  isplitl [H8]; · iexact H8
  isplitl [H9]; · iexact H9
  isplitl [H20]; · iexact H20
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H21]; · iexact H21
  · iexact H22
theorem has8 (σ : Held F) : Has σ σ c b b.a8 (fun f => b.a8.view.read (Elt F) f = σ.x8) (fun f => b.a8.view.read (Elt F) f = σ.x8) := by
  unfold Has Inv owns
  iintro ⟨H2, H3, H4, H5, H6, H7, H8, H9, H20, H10, H11, H12, H13, H14, H15, H16, H17, H18, H19, H21, H22⟩
  icases H8 with ⟨%f, %hf, H8⟩
  iexists f; isplitr; · ipureintro; exact hf
  isplitl [H8]; · iexact H8
  iintro %g %hg H8
  isplitl [H2]; · iexact H2
  isplitl [H3]; · iexact H3
  isplitl [H4]; · iexact H4
  isplitl [H5]; · iexact H5
  isplitl [H6]; · iexact H6
  isplitl [H7]; · iexact H7
  isplitl [H8]
  · iexists g; isplitr; · ipureintro; exact hg
    iexact H8
  isplitl [H9]; · iexact H9
  isplitl [H20]; · iexact H20
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H21]; · iexact H21
  · iexact H22
theorem has9 (σ : Held F) : Has σ σ c b b.a9 (fun f => b.a9.view.read (Elt F) f = σ.x9) (fun f => b.a9.view.read (Elt F) f = σ.x9) := by
  unfold Has Inv owns
  iintro ⟨H2, H3, H4, H5, H6, H7, H8, H9, H20, H10, H11, H12, H13, H14, H15, H16, H17, H18, H19, H21, H22⟩
  icases H9 with ⟨%f, %hf, H9⟩
  iexists f; isplitr; · ipureintro; exact hf
  isplitl [H9]; · iexact H9
  iintro %g %hg H9
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iexists g; isplitr; · ipureintro; exact hg
    iexact H9
  isplitl [H20]; · iexact H20
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H21]; · iexact H21
  · iexact H22
theorem has20 (σ : Held F) : Has σ σ c b b.a20 (fun f => b.a20.view.read (Elt F) f = σ.u) (fun f => b.a20.view.read (Elt F) f = σ.u) := by
  unfold Has Inv owns
  iintro ⟨H2, H3, H4, H5, H6, H7, H8, H9, H20, H10, H11, H12, H13, H14, H15, H16, H17, H18, H19, H21, H22⟩
  icases H20 with ⟨%f, %hf, H20⟩
  iexists f; isplitr; · ipureintro; exact hf
  isplitl [H20]; · iexact H20
  iintro %g %hg H20
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H20]
  · iexists g; isplitr; · ipureintro; exact hg
    iexact H20
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H21]; · iexact H21
  · iexact H22
theorem has20_put (σ : Held F) (v : Vec F S1024x2048 .bf16) : Has σ { σ with u := v } c b b.a20 (fun _ => True) (fun f => b.a20.view.read (Elt F) f = v) := by
  unfold Has Inv owns
  iintro ⟨H2, H3, H4, H5, H6, H7, H8, H9, H20, H10, H11, H12, H13, H14, H15, H16, H17, H18, H19, H21, H22⟩
  icases H20 with ⟨%f, %hf, H20⟩
  iexists f; isplitr; · ipureintro; trivial
  isplitl [H20]; · iexact H20
  iintro %g %hg H20
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H20]
  · iexists g; isplitr; · ipureintro; exact hg
    iexact H20
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H21]; · iexact H21
  · iexact H22
theorem has10 (σ : Held F) (L : List (View.Piece (Elt F) S1024x1024 .bf16)) : Has σ { σ with l10 := L } c b b.a10 (fun f => ∃ g, b.a10.view.read (Elt F) g = σ.d10 ∧ f = b.a10.view.writes (Elt F) g σ.l10) (fun f => ∃ g, b.a10.view.read (Elt F) g = σ.d10 ∧ f = b.a10.view.writes (Elt F) g L) := by
  unfold Has Inv owns
  iintro ⟨H2, H3, H4, H5, H6, H7, H8, H9, H20, H10, H11, H12, H13, H14, H15, H16, H17, H18, H19, H21, H22⟩
  icases H10 with ⟨%f0, %hf, H10⟩
  iexists _; isplitr; · ipureintro; exact ⟨f0, hf, rfl⟩
  isplitl [H10]; · iexact H10
  iintro %g %hg H10
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H20]; · iexact H20
  isplitl [H10]
  · obtain ⟨g0, h0, rfl⟩ := hg
    iexists g0; isplitr; · ipureintro; exact h0
    iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H21]; · iexact H21
  · iexact H22
theorem has11 (σ : Held F) (L : List (View.Piece (Elt F) S1024x256 .bf16)) : Has σ { σ with l11 := L } c b b.a11 (fun f => ∃ g, b.a11.view.read (Elt F) g = σ.d11 ∧ f = b.a11.view.writes (Elt F) g σ.l11) (fun f => ∃ g, b.a11.view.read (Elt F) g = σ.d11 ∧ f = b.a11.view.writes (Elt F) g L) := by
  unfold Has Inv owns
  iintro ⟨H2, H3, H4, H5, H6, H7, H8, H9, H20, H10, H11, H12, H13, H14, H15, H16, H17, H18, H19, H21, H22⟩
  icases H11 with ⟨%f0, %hf, H11⟩
  iexists _; isplitr; · ipureintro; exact ⟨f0, hf, rfl⟩
  isplitl [H11]; · iexact H11
  iintro %g %hg H11
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H20]; · iexact H20
  isplitl [H10]; · iexact H10
  isplitl [H11]
  · obtain ⟨g0, h0, rfl⟩ := hg
    iexists g0; isplitr; · ipureintro; exact h0
    iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H21]; · iexact H21
  · iexact H22
theorem has12 (σ : Held F) (L : List (View.Piece (Elt F) S1280x1024 .bf16)) : Has σ { σ with l12 := L } c b b.a12 (fun f => ∃ g, b.a12.view.read (Elt F) g = σ.d12 ∧ f = b.a12.view.writes (Elt F) g σ.l12) (fun f => ∃ g, b.a12.view.read (Elt F) g = σ.d12 ∧ f = b.a12.view.writes (Elt F) g L) := by
  unfold Has Inv owns
  iintro ⟨H2, H3, H4, H5, H6, H7, H8, H9, H20, H10, H11, H12, H13, H14, H15, H16, H17, H18, H19, H21, H22⟩
  icases H12 with ⟨%f0, %hf, H12⟩
  iexists _; isplitr; · ipureintro; exact ⟨f0, hf, rfl⟩
  isplitl [H12]; · iexact H12
  iintro %g %hg H12
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H20]; · iexact H20
  isplitl [H10]; · iexact H10
  isplitl [H11]; · iexact H11
  isplitl [H12]
  · obtain ⟨g0, h0, rfl⟩ := hg
    iexists g0; isplitr; · ipureintro; exact h0
    iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H21]; · iexact H21
  · iexact H22
theorem has13 (σ : Held F) (L : List (View.Piece (Elt F) S1024x128 .f32)) : Has σ { σ with l13 := L } c b b.a13 (fun f => ∃ g, b.a13.view.read (Elt F) g = σ.d13 ∧ f = b.a13.view.writes (Elt F) g σ.l13) (fun f => ∃ g, b.a13.view.read (Elt F) g = σ.d13 ∧ f = b.a13.view.writes (Elt F) g L) := by
  unfold Has Inv owns
  iintro ⟨H2, H3, H4, H5, H6, H7, H8, H9, H20, H10, H11, H12, H13, H14, H15, H16, H17, H18, H19, H21, H22⟩
  icases H13 with ⟨%f0, %hf, H13⟩
  iexists _; isplitr; · ipureintro; exact ⟨f0, hf, rfl⟩
  isplitl [H13]; · iexact H13
  iintro %g %hg H13
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H20]; · iexact H20
  isplitl [H10]; · iexact H10
  isplitl [H11]; · iexact H11
  isplitl [H12]; · iexact H12
  isplitl [H13]
  · obtain ⟨g0, h0, rfl⟩ := hg
    iexists g0; isplitr; · ipureintro; exact h0
    iexact H13
  isplitl [H14]; · iexact H14
  isplitl [H15]; · iexact H15
  isplitl [H16]; · iexact H16
  isplitl [H17]; · iexact H17
  isplitl [H18]; · iexact H18
  isplitl [H19]; · iexact H19
  isplitl [H21]; · iexact H21
  · iexact H22
theorem has14 (σ : Held F) : Has σ σ c b b.a14 (fun _ => True) (fun _ => True) := by
  unfold Has Inv owns
  iintro ⟨H2, H3, H4, H5, H6, H7, H8, H9, H20, H10, H11, H12, H13, H14, H15, H16, H17, H18, H19, H21, H22⟩
  icases H14 with ⟨%f, H14⟩
  iexists f; isplitr; · ipureintro; trivial
  isplitl [H14]; · iexact H14
  iintro %g %hg H14
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H20]; · iexact H20
  isplitl [H10]; · iexact H10
  isplitl [H11]; · iexact H11
  isplitl [H12]; · iexact H12
  isplitl [H13]; · iexact H13
  isplitl [H14]
  · iexists g; iexact H14
  isplitl [H15]; · iexact H15
  isplitl [H16]; · iexact H16
  isplitl [H17]; · iexact H17
  isplitl [H18]; · iexact H18
  isplitl [H19]; · iexact H19
  isplitl [H21]; · iexact H21
  · iexact H22
theorem has15 (σ : Held F) : Has σ σ c b b.a15 (fun _ => True) (fun _ => True) := by
  unfold Has Inv owns
  iintro ⟨H2, H3, H4, H5, H6, H7, H8, H9, H20, H10, H11, H12, H13, H14, H15, H16, H17, H18, H19, H21, H22⟩
  icases H15 with ⟨%f, H15⟩
  iexists f; isplitr; · ipureintro; trivial
  isplitl [H15]; · iexact H15
  iintro %g %hg H15
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H20]; · iexact H20
  isplitl [H10]; · iexact H10
  isplitl [H11]; · iexact H11
  isplitl [H12]; · iexact H12
  isplitl [H13]; · iexact H13
  isplitl [H14]; · iexact H14
  isplitl [H15]
  · iexists g; iexact H15
  isplitl [H16]; · iexact H16
  isplitl [H17]; · iexact H17
  isplitl [H18]; · iexact H18
  isplitl [H19]; · iexact H19
  isplitl [H21]; · iexact H21
  · iexact H22
theorem has16 (σ : Held F) : Has σ σ c b b.a16 (fun _ => True) (fun _ => True) := by
  unfold Has Inv owns
  iintro ⟨H2, H3, H4, H5, H6, H7, H8, H9, H20, H10, H11, H12, H13, H14, H15, H16, H17, H18, H19, H21, H22⟩
  icases H16 with ⟨%f, H16⟩
  iexists f; isplitr; · ipureintro; trivial
  isplitl [H16]; · iexact H16
  iintro %g %hg H16
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H20]; · iexact H20
  isplitl [H10]; · iexact H10
  isplitl [H11]; · iexact H11
  isplitl [H12]; · iexact H12
  isplitl [H13]; · iexact H13
  isplitl [H14]; · iexact H14
  isplitl [H15]; · iexact H15
  isplitl [H16]
  · iexists g; iexact H16
  isplitl [H17]; · iexact H17
  isplitl [H18]; · iexact H18
  isplitl [H19]; · iexact H19
  isplitl [H21]; · iexact H21
  · iexact H22
theorem has17 (σ : Held F) : Has σ σ c b b.a17 (fun _ => True) (fun _ => True) := by
  unfold Has Inv owns
  iintro ⟨H2, H3, H4, H5, H6, H7, H8, H9, H20, H10, H11, H12, H13, H14, H15, H16, H17, H18, H19, H21, H22⟩
  icases H17 with ⟨%f, H17⟩
  iexists f; isplitr; · ipureintro; trivial
  isplitl [H17]; · iexact H17
  iintro %g %hg H17
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H20]; · iexact H20
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]
  · iexists g; iexact H17
  isplitl [H18]; · iexact H18
  isplitl [H19]; · iexact H19
  isplitl [H21]; · iexact H21
  · iexact H22
theorem has18 (σ : Held F) : Has σ σ c b b.a18 (fun _ => True) (fun _ => True) := by
  unfold Has Inv owns
  iintro ⟨H2, H3, H4, H5, H6, H7, H8, H9, H20, H10, H11, H12, H13, H14, H15, H16, H17, H18, H19, H21, H22⟩
  icases H18 with ⟨%f, H18⟩
  iexists f; isplitr; · ipureintro; trivial
  isplitl [H18]; · iexact H18
  iintro %g %hg H18
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H20]; · iexact H20
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]
  · iexists g; iexact H18
  isplitl [H19]; · iexact H19
  isplitl [H21]; · iexact H21
  · iexact H22
theorem has19 (σ : Held F) : Has σ σ c b b.a19 (fun _ => True) (fun _ => True) := by
  unfold Has Inv owns
  iintro ⟨H2, H3, H4, H5, H6, H7, H8, H9, H20, H10, H11, H12, H13, H14, H15, H16, H17, H18, H19, H21, H22⟩
  icases H19 with ⟨%f, H19⟩
  iexists f; isplitr; · ipureintro; trivial
  isplitl [H19]; · iexact H19
  iintro %g %hg H19
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H20]; · iexact H20
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]
  · iexists g; iexact H19
  isplitl [H21]; · iexact H21
  · iexact H22
theorem has21 (σ : Held F) : Has σ σ c b b.a21 (fun _ => True) (fun _ => True) := by
  unfold Has Inv owns
  iintro ⟨H2, H3, H4, H5, H6, H7, H8, H9, H20, H10, H11, H12, H13, H14, H15, H16, H17, H18, H19, H21, H22⟩
  icases H21 with ⟨%f, H21⟩
  iexists f; isplitr; · ipureintro; trivial
  isplitl [H21]; · iexact H21
  iintro %g %hg H21
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H20]; · iexact H20
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H21]
  · iexists g; iexact H21
  · iexact H22
theorem has22 (σ : Held F) : Has σ σ c b b.a22 (fun _ => True) (fun _ => True) := by
  unfold Has Inv owns
  iintro ⟨H2, H3, H4, H5, H6, H7, H8, H9, H20, H10, H11, H12, H13, H14, H15, H16, H17, H18, H19, H21, H22⟩
  icases H22 with ⟨%f, H22⟩
  iexists f; isplitr; · ipureintro; trivial
  isplitl [H22]; · iexact H22
  iintro %g %hg H22
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H20]; · iexact H20
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H21]; · iexact H21
  · iexists g; iexact H22

/-! ## Passing what need not be followed -/

theorem Keep.pure {α : Type} (a : α) : Keep (F := F) c b (Pure.pure a) := by
  refine ⟨fun σ K => ?_⟩
  iintro ⟨Hi, Hk⟩
  iapply (le_wp_ret frame _ Set.univ a K)
  iapply Hk; iexact Hi

theorem Keep.bind {α β : Type} {p : Prog (TpuEff nD τ sig (Elt F) Λ₀ .tc) α} {f : α → Prog (TpuEff nD τ sig (Elt F) Λ₀ .tc) β}
    (hp : Keep c b p) (hf : ∀ r, Keep c b (f r)) : Keep c b (p >>= f) := by
  refine ⟨fun σ K => ?_⟩
  rw [wp_bind]
  refine BIBase.Entails.trans ?_ (hp.go σ _)
  iintro ⟨Hi, Hk⟩
  isplitl [Hi]; · iexact Hi
  iintro %r Hi
  iapply (show _ ⊢ _ from (hf r).go σ K)
  isplitl [Hi]; · iexact Hi
  iexact Hk

theorem Keep.dite {α : Type} {C : Prop} [Decidable C] {p : C → Prog (TpuEff nD τ sig (Elt F) Λ₀ .tc) α} {q : ¬C → Prog (TpuEff nD τ sig (Elt F) Λ₀ .tc) α}
    (hp : ∀ h, Keep c b (p h)) (hq : ∀ h, Keep c b (q h)) : Keep c b (if h : C then p h else q h) := by
  by_cases h : C
  · rw [dif_pos h]; exact hp h
  · rw [dif_neg h]; exact hq h

theorem Keep.for {w : ℕ} (l : Scf.Loop w) (hok : l.OK) {σ : Type} (init : σ) (body : Fin l.trips → σ → Prog (TpuEff nD τ sig (Elt F) Λ₀ .tc) σ)
    (h : ∀ k a, Keep c b (body k a)) : Keep c b (Scf.Loop.for l hok init body) := by
  rw [Scf.Loop.for, Scf.for_eq]
  generalize List.finRange _ = L
  induction L generalizing init with
  | nil => exact Keep.pure init
  | cons k L ih => exact Keep.bind (h k init) fun a => ih a

theorem Keep.load {cs : CoreSpace} {s : Shape} {e : EltTy} {m : Memref sig .tc cs s e} {P : Held F → Buf (Elt F) (m.view.loc (c : Thread nD τ)) → Prop}
    (h : ∀ σ : Held F, Has σ σ c b m (P σ) (P σ)) (r : LoadRect s) (hl : m.view.LoadsAt r) : Keep (F := F) c b (Prog.lift (.load m r hl)) := by
  refine ⟨fun σ K => ?_⟩
  refine BIBase.Entails.trans ?_ (wp_load_of (h σ) (fun _ hf => hf) r hl K)
  iintro ⟨Hi, Hk⟩
  isplitl [Hi]; · iexact Hi
  iintro %f %hf Hi
  iapply Hk; iexact Hi

theorem Keep.word {s : Shape} {e : EltTy} {m : Memref sig .tc .smem s e} {P : Held F → Buf (Elt F) (m.view.loc (c : Thread nD τ)) → Prop}
    (h : ∀ σ : Held F, Has σ σ c b m (P σ) (P σ)) (r : Rect s) (h1 : r.shape.numel = 1) (hp : e.packing = 1) :
    Keep (F := F) c b (smemLoad m r h1 hp) :=
  Keep.bind (Keep.load h _ _) fun _ => Keep.pure _

theorem Keep.store {cs : CoreSpace} {s : Shape} {e : EltTy} {m : Memref sig .tc cs s e}
    (h : ∀ σ : Held F, Has σ σ c b m (fun _ => True) (fun _ => True)) (r : Rect s) (v : r.shape.Idx → Elt F e) (hx : (m.access r).Stores Finset.univ)
    (hm : Finset.univ = (Finset.univ : Finset r.shape.Idx) ∨ ∀ a, r.stride a = 1) : Keep c b (Prog.lift (.store m r v Finset.univ hx hm)) := by
  refine ⟨fun σ K => ?_⟩
  refine BIBase.Entails.trans ?_ (wp_store_of (h σ) r v hx hm (fun _ h => h) K)
  iintro ⟨Hi, Hk⟩
  isplitl [Hi]; · iexact Hi
  iintro Hi
  iapply Hk; iexact Hi

/-! ## Following the rest -/

/-- A stretch reached by several ways is run once. -/
theorem Run.share {R p : Prog (TpuEff nD τ sig (Elt F) Λ₀ .tc) PUnit} {f : Held F → Held F} {σ σ' : Held F}
    (hr : ∀ σ₁, Run c b σ₁ R (f σ₁)) (hp : (∀ σ₁, Run c b σ₁ R (f σ₁)) → Run c b σ p σ') : Run c b σ p σ' := hp hr

theorem Run.done (σ : Held F) : Run c b σ (pure ⟨⟩) σ := by
  refine ⟨fun K => ?_⟩
  iintro ⟨Hi, Hk⟩
  iapply (le_wp_ret frame _ Set.univ _ K)
  iapply Hk; iexact Hi

theorem Run.assoc {α β : Type} {p : Prog (TpuEff nD τ sig (Elt F) Λ₀ .tc) α} {f : α → Prog (TpuEff nD τ sig (Elt F) Λ₀ .tc) β} {k : β → Prog (TpuEff nD τ sig (Elt F) Λ₀ .tc) PUnit} {σ σ' : Held F}
    (h : Run c b σ (p >>= fun a => f a >>= k) σ') : Run c b σ ((p >>= f) >>= k) σ' := by
  rw [Prog.bind_assoc]; exact h

theorem Run.pure {α : Type} {a : α} {k : α → Prog (TpuEff nD τ sig (Elt F) Λ₀ .tc) PUnit} {σ σ' : Held F}
    (h : Run c b σ (k a) σ') : Run c b σ (Pure.pure a >>= k) σ' := h

theorem Run.keep {α : Type} {p : Prog (TpuEff nD τ sig (Elt F) Λ₀ .tc) α} {k : α → Prog (TpuEff nD τ sig (Elt F) Λ₀ .tc) PUnit} {σ σ' : Held F}
    (hp : Keep c b p) (hk : ∀ r, Run c b σ (k r) σ') : Run c b σ (p >>= k) σ' := by
  refine ⟨fun K => ?_⟩
  rw [wp_bind]
  refine BIBase.Entails.trans ?_ (hp.go σ _)
  iintro ⟨Hi, Hk⟩
  isplitl [Hi]; · iexact Hi
  iintro %r Hi
  iapply (show _ ⊢ _ from (hk r).go K)
  isplitl [Hi]; · iexact Hi
  iexact Hk

theorem Run.load {cs : CoreSpace} {s : Shape} {e : EltTy} {m : Memref sig .tc cs s e} {σ σ' : Held F} {X : s.Idx → Elt F e}
    (h : Has σ σ c b m (fun f => m.view.read (Elt F) f = X) (fun f => m.view.read (Elt F) f = X)) {r : LoadRect s} {hl : m.view.LoadsAt r}
    {k : (r.shape.Idx → Elt F e) → Prog (TpuEff nD τ sig (Elt F) Λ₀ .tc) PUnit} (hk : Run c b σ (k fun j => X (r.idx j)) σ') :
    Run c b σ (Prog.lift (.load m r hl) >>= k) σ' := by
  refine ⟨fun K => ?_⟩
  rw [wp_bind]
  refine BIBase.Entails.trans ?_ (wp_load_of h (fun _ h => h) r hl _)
  iintro ⟨Hi, Hk⟩
  isplitl [Hi]; · iexact Hi
  iintro %f %hf Hi
  obtain rfl := hf
  iapply (show _ ⊢ _ from hk.go K)
  isplitl [Hi]; · iexact Hi
  iexact Hk

theorem Run.store {cs : CoreSpace} {s : Shape} {e : EltTy} {m : Memref sig .tc cs s e} {σ σ₁ σ' : Held F} {P Q : Buf (Elt F) (m.view.loc (c : Thread nD τ)) → Prop}
    {r : Rect s} {v : r.shape.Idx → Elt F e} {hx : (m.access r).Stores Finset.univ} {hm : Finset.univ = (Finset.univ : Finset r.shape.Idx) ∨ ∀ a, r.stride a = 1}
    (h : Has σ σ₁ c b m P Q) (hPQ : ∀ f, P f → Q ((m.access r).write (Elt F) f v Finset.univ))
    {k : PUnit → Prog (TpuEff nD τ sig (Elt F) Λ₀ .tc) PUnit} (hk : Run c b σ₁ (k ⟨⟩) σ') :
    Run c b σ (Prog.lift (.store m r v Finset.univ hx hm) >>= k) σ' := by
  refine ⟨fun K => ?_⟩
  rw [wp_bind]
  refine BIBase.Entails.trans ?_ (wp_store_of h r v hx hm hPQ _)
  iintro ⟨Hi, Hk⟩
  isplitl [Hi]; · iexact Hi
  iintro Hi
  iapply (show _ ⊢ _ from hk.go K)
  isplitl [Hi]; · iexact Hi
  iexact Hk

theorem Run.store10 {σ σ' : Held F} {r : Rect S1024x1024} {v : r.shape.Idx → Elt F .bf16} {hx : (b.a10.access r).Stores Finset.univ}
    {hm : Finset.univ = (Finset.univ : Finset r.shape.Idx) ∨ ∀ a, r.stride a = 1} {k : PUnit → Prog (TpuEff nD τ sig (Elt F) Λ₀ .tc) PUnit}
    (hk : Run c b { σ with l10 := ⟨r, v⟩ :: σ.l10 } (k ⟨⟩) σ') : Run c b σ (Prog.lift (.store b.a10 r v Finset.univ hx hm) >>= k) σ' :=
  Run.store (c := c) (b := b) (m := b.a10) (r := r) (v := v) (has10 (c := c) (b := b) σ (⟨r, v⟩ :: σ.l10)) (fun _ ⟨g, hg, hf⟩ => ⟨g, hg, by rw [hf]; rfl⟩) hk

theorem Run.store11 {σ σ' : Held F} {r : Rect S1024x256} {v : r.shape.Idx → Elt F .bf16} {hx : (b.a11.access r).Stores Finset.univ}
    {hm : Finset.univ = (Finset.univ : Finset r.shape.Idx) ∨ ∀ a, r.stride a = 1} {k : PUnit → Prog (TpuEff nD τ sig (Elt F) Λ₀ .tc) PUnit}
    (hk : Run c b { σ with l11 := ⟨r, v⟩ :: σ.l11 } (k ⟨⟩) σ') : Run c b σ (Prog.lift (.store b.a11 r v Finset.univ hx hm) >>= k) σ' :=
  Run.store (c := c) (b := b) (m := b.a11) (r := r) (v := v) (has11 (c := c) (b := b) σ (⟨r, v⟩ :: σ.l11)) (fun _ ⟨g, hg, hf⟩ => ⟨g, hg, by rw [hf]; rfl⟩) hk

theorem Run.store12 {σ σ' : Held F} {r : Rect S1280x1024} {v : r.shape.Idx → Elt F .bf16} {hx : (b.a12.access r).Stores Finset.univ}
    {hm : Finset.univ = (Finset.univ : Finset r.shape.Idx) ∨ ∀ a, r.stride a = 1} {k : PUnit → Prog (TpuEff nD τ sig (Elt F) Λ₀ .tc) PUnit}
    (hk : Run c b { σ with l12 := ⟨r, v⟩ :: σ.l12 } (k ⟨⟩) σ') : Run c b σ (Prog.lift (.store b.a12 r v Finset.univ hx hm) >>= k) σ' :=
  Run.store (c := c) (b := b) (m := b.a12) (r := r) (v := v) (has12 (c := c) (b := b) σ (⟨r, v⟩ :: σ.l12)) (fun _ ⟨g, hg, hf⟩ => ⟨g, hg, by rw [hf]; rfl⟩) hk

theorem Run.store13 {σ σ' : Held F} {r : Rect S1024x128} {v : r.shape.Idx → Elt F .f32} {hx : (b.a13.access r).Stores Finset.univ}
    {hm : Finset.univ = (Finset.univ : Finset r.shape.Idx) ∨ ∀ a, r.stride a = 1} {k : PUnit → Prog (TpuEff nD τ sig (Elt F) Λ₀ .tc) PUnit}
    (hk : Run c b { σ with l13 := ⟨r, v⟩ :: σ.l13 } (k ⟨⟩) σ') : Run c b σ (Prog.lift (.store b.a13 r v Finset.univ hx hm) >>= k) σ' :=
  Run.store (c := c) (b := b) (m := b.a13) (r := r) (v := v) (has13 (c := c) (b := b) σ (⟨r, v⟩ :: σ.l13)) (fun _ ⟨g, hg, hf⟩ => ⟨g, hg, by rw [hf]; rfl⟩) hk

theorem Run.store20 {σ σ' : Held F} {r : Rect S1024x2048} {v : r.shape.Idx → Elt F .bf16} {hx : (b.a20.access r).Stores Finset.univ}
    {hm : Finset.univ = (Finset.univ : Finset r.shape.Idx) ∨ ∀ a, r.stride a = 1} {k : PUnit → Prog (TpuEff nD τ sig (Elt F) Λ₀ .tc) PUnit}
    (w : Vec F S1024x2048 .bf16) (hw : ∀ f, b.a20.view.read (Elt F) ((b.a20.access r).write (Elt F) f v Finset.univ) = w)
    (hk : Run c b { σ with u := w } (k ⟨⟩) σ') : Run c b σ (Prog.lift (.store b.a20 r v Finset.univ hx hm) >>= k) σ' :=
  Run.store (c := c) (b := b) (m := b.a20) (r := r) (v := v) (has20_put (c := c) (b := b) σ w) (fun f _ => hw f) hk

end Cert.InprojIdeal.Proj

end
-- ==== Proof.InBody.lean ====
module

public import proofs.«01_k».proof.Proof.InRun
public import Idealize.ShloMosaic.Lib.Pipeline.ValueKit.Basic

@[expose] public section

/-! The input projection's body, run. -/

set_option maxRecDepth 65536

noncomputable section

namespace Cert.InprojIdeal.Proj

open Cert.InprojIdeal Cert.InprojIdeal.Gen
open Idealize.ShloMosaic Idealize.ShloMosaic.TcCoe Idealize.ShloMosaic.Tactic
open Idealize.SL Idealize.SL.RA Idealize.SL.BI
open Idealize.SL.Sem

variable {F : FTy → Type} [FloatOps F]
variable {c : Dev nD} {b : Bufs}

/-- The body on the buffers `b`. -/
abbrev body (i : grid0.Coords) (b : Bufs) : Prog (TpuEff nD τ sig (Elt F) Λ₀ .tc) PUnit :=
  cc0_inproj i b.a2 b.h2 b.a3 b.h3 b.a4 b.h4 b.a5 b.h5 b.a6 b.h6 b.a7 b.h7 b.a8 b.h8 b.a9 b.h9 b.a10 b.h10 b.a11 b.h11 b.a12 b.h12 b.a13 b.h13 b.a14 b.h14 b.a15 b.h15 b.a16 b.h16 b.a17 b.h17 b.a18 b.h18 b.a19 b.h19 b.a20 b.h20 b.a21 b.h21 b.a22 b.h22

/-- A row block's first point, as the body tests it. -/
abbrev isFirst (i : grid0.Coords) : Prop := Scalar.cmpi .ne (Scalar.extui (Scalar.cmpi .eq (BitVec.ofNat 32 (i 1).val) 0#32) : BitVec 32) 0#32 = 1#1

/-- What is known once the tokens of a row block are normed, which its first point does. -/
def start (i : grid0.Coords) (σ : Held F) : Held F :=
  if isFirst i then { σ with u := k0_pay1 σ.x2 σ.x4 } else σ

/-- The normed tokens, loaded. -/
abbrev tok (σ : Held F) : Vec F S1024x2048 .bf16 :=
  fun j => σ.u ((Rect.unit (s := S1024x2048) ![0, 0] S1024x2048.size inb_S1024x2048_S1024x2048_0_0).toLoadRect.idx j)

/-- Rows of the first weight, loaded. -/
abbrev rows5 (σ : Held F) (r : ℕ) (h : ∀ a, (![r, 0] : Fin 2 → ℕ) a + S256x2048.size a ≤ S1024x2048.size a) : Vec F S256x2048 .bf16 :=
  fun j => σ.x5 ((Rect.unit (s := S1024x2048) ![r, 0] S256x2048.size h).toLoadRect.idx j)

/-- Rows of the second weight, loaded. -/
abbrev rows6 (σ : Held F) (r : ℕ) (h : ∀ a, (![r, 0] : Fin 2 → ℕ) a + S256x2048.size a ≤ S1792x2048.size a) : Vec F S256x2048 .bf16 :=
  fun j => σ.x6 ((Rect.unit (s := S1792x2048) ![r, 0] S256x2048.size h).toLoadRect.idx j)

/-- A point's stores into the first projection, newest first. -/
def natL (σ : Held F) : List (View.Piece (Elt F) S1024x1024 .bf16) :=
  ⟨Rect.unit (s := S1024x1024) ![0, 768] S1024x256.size inb_S1024x1024_S1024x256_0_768, k0_pay1344 (tok σ) (rows5 σ 768 inb_S1024x2048_S256x2048_768_0)⟩ ::
  ⟨Rect.unit (s := S1024x1024) ![0, 512] S1024x256.size inb_S1024x1024_S1024x256_0_512, k0_pay905 (tok σ) (rows5 σ 512 inb_S1024x2048_S256x2048_512_0)⟩ ::
  ⟨Rect.unit (s := S1024x1024) ![0, 256] S1024x256.size inb_S1024x1024_S1024x256_0_256, k0_pay460 (k0_pay459 (tok σ) (rows5 σ 256 inb_S1024x2048_S256x2048_256_0))⟩ ::
  ⟨Rect.unit (s := S1024x1024) ![0, 0] S1024x256.size inb_S1024x1024_S1024x256_0_0, k0_pay32 (tok σ) (rows5 σ 0 inb_S1024x2048_S256x2048_0_0)⟩ :: σ.l10

/-- A last point's stores into the second projection. -/
def keyL (σ : Held F) : List (View.Piece (Elt F) S1024x256 .bf16) :=
  ⟨Rect.unit (s := S1024x256) ![0, 0] S1024x256.size inb_S1024x256_S1024x256_0_0, k0_pay3528 (tok σ) (rows6 σ 1280 inb_S1792x2048_S256x2048_1280_0)⟩ :: σ.l11

/-- A last point's stores into the third projection, newest first. -/
def trL (σ : Held F) : List (View.Piece (Elt F) S1280x1024 .bf16) :=
  ⟨Rect.unit (s := S1280x1024) ![1024, 0] S256x1024.size inb_S1280x1024_S256x1024_1024_0, k0_pay3511 (tok σ) (rows6 σ 1024 inb_S1792x2048_S256x2048_1024_0)⟩ ::
  ⟨Rect.unit (s := S1280x1024) ![768, 0] S256x1024.size inb_S1280x1024_S256x1024_768_0, k0_pay3089 (tok σ) (rows6 σ 768 inb_S1792x2048_S256x2048_768_0)⟩ ::
  ⟨Rect.unit (s := S1280x1024) ![512, 0] S256x1024.size inb_S1280x1024_S256x1024_512_0, k0_pay2650 (tok σ) (rows6 σ 512 inb_S1792x2048_S256x2048_512_0)⟩ ::
  ⟨Rect.unit (s := S1280x1024) ![256, 0] S256x1024.size inb_S1280x1024_S256x1024_256_0, k0_pay2205 (k0_pay2204 (tok σ) (rows6 σ 256 inb_S1792x2048_S256x2048_256_0))⟩ ::
  ⟨Rect.unit (s := S1280x1024) ![0, 0] S256x1024.size inb_S1280x1024_S256x1024_0_0, k0_pay1777 (tok σ) (rows6 σ 0 inb_S1792x2048_S256x2048_0_0)⟩ :: σ.l12

/-- A last point's stores into the fourth projection. -/
def gateL (σ : Held F) : List (View.Piece (Elt F) S1024x128 .f32) :=
  ⟨Rect.unit (s := S1024x128) ![0, 0] S1024x128.size inb_S1024x128_S1024x128_0_0,
    k0_pay3529 (tok σ) fun j => σ.x6 ((Rect.unit (s := S1792x2048) ![1536, 0] S128x2048.size inb_S1792x2048_S128x2048_1536_0).toLoadRect.idx j)⟩ :: σ.l13

theorem zero2 : ∀ a : Fin 2, (![0, 0] : Fin 2 → ℕ) a = 0 := by intro a; fin_cases a <;> rfl

theorem put20 (b : Bufs) (σ : Held F) (f : b.a20.view.ty.Contents (Elt F)) :
    b.a20.view.read (Elt F) ((b.a20.access (Rect.unit (s := S1024x2048) ![0, 0] S1024x2048.size inb_S1024x2048_S1024x2048_0_0)).write (Elt F) f
      (k0_pay1 (fun j => σ.x2 ((Rect.unit (s := S1024x2048) ![0, 0] S1024x2048.size inb_S1024x2048_S1024x2048_0_0).toLoadRect.idx j))
        (fun j => σ.x4 ((Rect.unit (s := S1x2048) ![0, 0] S1x2048.size inb_S1x2048_S1x2048_0_0).toLoadRect.idx j))) Finset.univ) = k0_pay1 σ.x2 σ.x4 := by
  rw [show k0_pay1 (fun j => σ.x2 ((Rect.unit (s := S1024x2048) ![0, 0] S1024x2048.size inb_S1024x2048_S1024x2048_0_0).toLoadRect.idx j))
      (fun j => σ.x4 ((Rect.unit (s := S1x2048) ![0, 0] S1x2048.size inb_S1x2048_S1x2048_0_0).toLoadRect.idx j)) = k0_pay1 σ.x2 σ.x4 from
    congrArg₂ k0_pay1 (View.ld_unit_lit (S := S1024x2048) inb_S1024x2048_S1024x2048_0_0 σ.x2 zero2) (View.ld_unit_lit (S := S1x2048) inb_S1x2048_S1x2048_0_0 σ.x4 zero2)]
  have h := View.read_writes_of_cover b.a20.view f b.a20.view b.a20.view.junk
    [(⟨Rect.unit (s := S1024x2048) ![0, 0] S1024x2048.size inb_S1024x2048_S1024x2048_0_0, k0_pay1 σ.x2 σ.x4⟩ : View.Piece (Elt F) S1024x2048 .bf16)]
    (View.cover_of_tiledL _ S1024x2048.size (by sl_kernel_rfl))
  rw [View.read_writes_junk_eq_canon, View.canon_cons_unit_zero (S := S1024x2048) (View.eq_zero_of_forall zero2)] at h
  exact h

end Cert.InprojIdeal.Proj

end
-- ==== Proof.InNat.lean ====
module

public import proofs.«01_k».proof.Proof.InBody

@[expose] public section

/-! The input projection's body, run. -/

set_option maxRecDepth 65536

noncomputable section

namespace Cert.InprojIdeal.Proj

open Cert.InprojIdeal Cert.InprojIdeal.Gen
open Idealize.ShloMosaic Idealize.ShloMosaic.TcCoe Idealize.ShloMosaic.Tactic
open Idealize.SL Idealize.SL.RA Idealize.SL.BI
open Idealize.SL.Sem

variable {F : FTy → Type} [FloatOps F]
variable {c : Dev nD} {b : Bufs}

/-- What is known after a point that stores the first projection. -/
def withNat (σ : Held F) : Held F := { σ with l10 := natL σ }

set_option maxHeartbeats 0 in
theorem nat_run (i : grid0.Coords) (h3 : k0_cond3 i = 1#1) (h4 : ¬k0_cond4 i = 1#1) (σ : Held F) :
    Run c b σ (body i b) (withNat (start i σ)) := by
  unfold body; rw [cc0_inproj_eq_skeleton]; unfold cc0_inproj_skel
  dsimp only
  rw [dif_pos h3]
  apply Run.share (f := withNat)
  case hp =>
    intro hrest
    apply Run.share (f := withNat)
    case hp =>
      intro hmid
      unfold start
      by_cases h1 : isFirst i
      · rw [dif_pos h1, if_pos h1]
        exact Run.load (has2 _) (Run.load (has4 _) (Run.keep (Keep.load has20 _ _) fun _ => Run.store20 _ (put20 b σ) (hmid _)))
      · rw [dif_neg h1, if_neg h1]
        exact hmid σ
    case hr =>
      intro σ₁
      by_cases h2 : k0_cond2 i = 1#1
      · rw [dif_pos h2]
        refine Run.keep (Keep.load has3 _ _) fun _ => Run.keep (Keep.load has4 _ _) fun _ => Run.keep (Keep.load has21 _ _) fun _ =>
          Run.keep (Keep.store has21 _ _ _ _) fun _ => Run.keep (Keep.for _ _ _ _ ?_) fun _ => hrest σ₁
        repeat' (first
          | intro _
          | exact Keep.pure _
          | exact Keep.load has22 _ _
          | exact Keep.load has9 _ _
          | exact Keep.load has8 _ _
          | exact Keep.load has19 _ _
          | exact Keep.load has18 _ _
          | exact Keep.load has20 _ _
          | exact Keep.load has21 _ _
          | exact Keep.load has5 _ _
          | exact Keep.load has6 _ _
          | exact Keep.load has2 _ _
          | exact Keep.load has3 _ _
          | exact Keep.load has4 _ _
          | exact Keep.load has14 _ _
          | exact Keep.load has15 _ _
          | exact Keep.load has16 _ _
          | exact Keep.load has17 _ _
          | exact Keep.store has22 _ _ _ _
          | exact Keep.store has19 _ _ _ _
          | exact Keep.store has18 _ _ _ _
          | exact Keep.store has21 _ _ _ _
          | exact Keep.store has14 _ _ _ _
          | exact Keep.store has15 _ _ _ _
          | exact Keep.store has16 _ _ _ _
          | exact Keep.store has17 _ _ _ _
          | exact Keep.word has7 _ _ _
          | refine Keep.bind ?_ ?_)
      · rw [dif_neg h2]
        exact hrest σ₁
  case hr =>
    intro σ₁
    rw [k0_part202_eq_skeleton, k0_part203_eq_skeleton, k0_part204_eq_skeleton]
    delta k0_part202_skel k0_part203_skel k0_part204_skel
    rw [k0_part5_eq_skeleton, k0_part52_eq_skeleton, k0_part53_eq_skeleton, k0_part102_eq_skeleton, k0_part152_eq_skeleton]
    delta k0_part5_skel k0_part52_skel k0_part53_skel k0_part102_skel k0_part152_skel
    repeat (first
      | with_reducible refine Run.assoc ?_
      | with_reducible refine Run.pure ?_
      | with_reducible refine Run.load (has20 _) ?_
      | with_reducible refine Run.load (has5 _) ?_
      | with_reducible refine Run.store10 ?_
      | with_reducible refine Run.keep (Keep.load (fun σ => has10 σ σ.l10) _ _) fun _ => ?_
      | refine Run.keep (by
          repeat' (first
            | intro _
            | exact Keep.pure _
            | exact Keep.load has22 _ _
            | exact Keep.load has9 _ _
            | exact Keep.load has8 _ _
            | exact Keep.load has19 _ _
            | exact Keep.load has18 _ _
            | exact Keep.load has20 _ _
            | exact Keep.load has21 _ _
            | exact Keep.load has5 _ _
            | exact Keep.load has6 _ _
            | exact Keep.load has2 _ _
            | exact Keep.load has3 _ _
            | exact Keep.load has4 _ _
            | exact Keep.load has14 _ _
            | exact Keep.load has15 _ _
            | exact Keep.load has16 _ _
            | exact Keep.load has17 _ _
            | exact Keep.store has22 _ _ _ _
            | exact Keep.store has19 _ _ _ _
            | exact Keep.store has18 _ _ _ _
            | exact Keep.store has21 _ _ _ _
            | exact Keep.store has14 _ _ _ _
            | exact Keep.store has15 _ _ _ _
            | exact Keep.store has16 _ _ _ _
            | exact Keep.store has17 _ _ _ _
            | exact Keep.word has7 _ _ _
            | refine Keep.bind ?_ ?_)) fun _ => ?_)
    rw [dif_neg h4]
    by_cases h5 : k0_cond5 i = 1#1 <;> [rw [dif_pos h5]; rw [dif_neg h5]]
    all_goals repeat (refine Run.keep (by
          repeat' (first
            | intro _
            | exact Keep.pure _
            | exact Keep.load has22 _ _
            | exact Keep.load has9 _ _
            | exact Keep.load has8 _ _
            | exact Keep.load has19 _ _
            | exact Keep.load has18 _ _
            | exact Keep.load has20 _ _
            | exact Keep.load has21 _ _
            | exact Keep.load has5 _ _
            | exact Keep.load has6 _ _
            | exact Keep.load has2 _ _
            | exact Keep.load has3 _ _
            | exact Keep.load has4 _ _
            | exact Keep.load has14 _ _
            | exact Keep.load has15 _ _
            | exact Keep.load has16 _ _
            | exact Keep.load has17 _ _
            | exact Keep.store has22 _ _ _ _
            | exact Keep.store has19 _ _ _ _
            | exact Keep.store has18 _ _ _ _
            | exact Keep.store has21 _ _ _ _
            | exact Keep.store has14 _ _ _ _
            | exact Keep.store has15 _ _ _ _
            | exact Keep.store has16 _ _ _ _
            | exact Keep.store has17 _ _ _ _
            | exact Keep.word has7 _ _ _
            | refine Keep.bind ?_ ?_)) fun _ => ?_)
    all_goals by_cases h6 : k0_cond6 i = 1#1 <;> [rw [dif_pos h6]; rw [dif_neg h6]]
    all_goals repeat (refine Run.keep (by
          repeat' (first
            | intro _
            | exact Keep.pure _
            | exact Keep.load has22 _ _
            | exact Keep.load has9 _ _
            | exact Keep.load has8 _ _
            | exact Keep.load has19 _ _
            | exact Keep.load has18 _ _
            | exact Keep.load has20 _ _
            | exact Keep.load has21 _ _
            | exact Keep.load has5 _ _
            | exact Keep.load has6 _ _
            | exact Keep.load has2 _ _
            | exact Keep.load has3 _ _
            | exact Keep.load has4 _ _
            | exact Keep.load has14 _ _
            | exact Keep.load has15 _ _
            | exact Keep.load has16 _ _
            | exact Keep.load has17 _ _
            | exact Keep.store has22 _ _ _ _
            | exact Keep.store has19 _ _ _ _
            | exact Keep.store has18 _ _ _ _
            | exact Keep.store has21 _ _ _ _
            | exact Keep.store has14 _ _ _ _
            | exact Keep.store has15 _ _ _ _
            | exact Keep.store has16 _ _ _ _
            | exact Keep.store has17 _ _ _ _
            | exact Keep.word has7 _ _ _
            | refine Keep.bind ?_ ?_)) fun _ => ?_)
    all_goals exact Run.done _

end Cert.InprojIdeal.Proj

end
-- ==== Proof.InEnd.lean ====
module

public import proofs.«01_k».proof.Proof.InBody

@[expose] public section

/-! The input projection's body, run at a row block's last point. -/

set_option maxRecDepth 65536

noncomputable section

namespace Cert.InprojIdeal.Proj

open Cert.InprojIdeal Cert.InprojIdeal.Gen
open Idealize.ShloMosaic Idealize.ShloMosaic.TcCoe Idealize.ShloMosaic.Tactic
open Idealize.SL Idealize.SL.RA Idealize.SL.BI
open Idealize.SL.Sem

variable {F : FTy → Type} [FloatOps F]
variable {c : Dev nD} {b : Bufs}

variable {x2 : Vec F S1024x2048 .f32} {x3 : Vec F S16x2048 .f32} {x4 : Vec F S1x2048 .f32} {x5 : Vec F S1024x2048 .bf16} {x6 : Vec F S1792x2048 .bf16}
  {x7 : Vec F S32x16 .f32} {x8 : Vec F S16x128 .i32} {x9 : Vec F S2x16x128 .i32} {u : Vec F S1024x2048 .bf16} {d10 : Vec F S1024x1024 .bf16}
  {l10 : List (View.Piece (Elt F) S1024x1024 .bf16)} {d11 : Vec F S1024x256 .bf16} {l11 : List (View.Piece (Elt F) S1024x256 .bf16)}
  {d12 : Vec F S1280x1024 .bf16} {l12 : List (View.Piece (Elt F) S1280x1024 .bf16)} {d13 : Vec F S1024x128 .f32}
  {l13 : List (View.Piece (Elt F) S1024x128 .f32)} {σ' : Held F}

theorem ld20 {r : LoadRect S1024x2048} {hl : b.a20.view.LoadsAt r} {k : (r.shape.Idx → Elt F .bf16) → Prog (TpuEff nD τ sig (Elt F) Λ₀ .tc) PUnit}
    (hk : Run c b ⟨x2, x3, x4, x5, x6, x7, x8, x9, u, d10, l10, d11, l11, d12, l12, d13, l13⟩ (k fun j => u (r.idx j)) σ') : Run c b ⟨x2, x3, x4, x5, x6, x7, x8, x9, u, d10, l10, d11, l11, d12, l12, d13, l13⟩ (Prog.lift (.load b.a20 r hl) >>= k) σ' :=
  Run.load (has20 ⟨x2, x3, x4, x5, x6, x7, x8, x9, u, d10, l10, d11, l11, d12, l12, d13, l13⟩) hk
theorem ld6 {r : LoadRect S1792x2048} {hl : b.a6.view.LoadsAt r} {k : (r.shape.Idx → Elt F .bf16) → Prog (TpuEff nD τ sig (Elt F) Λ₀ .tc) PUnit}
    (hk : Run c b ⟨x2, x3, x4, x5, x6, x7, x8, x9, u, d10, l10, d11, l11, d12, l12, d13, l13⟩ (k fun j => x6 (r.idx j)) σ') : Run c b ⟨x2, x3, x4, x5, x6, x7, x8, x9, u, d10, l10, d11, l11, d12, l12, d13, l13⟩ (Prog.lift (.load b.a6 r hl) >>= k) σ' :=
  Run.load (has6 ⟨x2, x3, x4, x5, x6, x7, x8, x9, u, d10, l10, d11, l11, d12, l12, d13, l13⟩) hk
theorem st11 {r : Rect S1024x256} {v : r.shape.Idx → Elt F .bf16} {hx : (b.a11.access r).Stores Finset.univ}
    {hm : Finset.univ = (Finset.univ : Finset r.shape.Idx) ∨ ∀ a, r.stride a = 1} {k : PUnit → Prog (TpuEff nD τ sig (Elt F) Λ₀ .tc) PUnit}
    (hk : Run c b ⟨x2, x3, x4, x5, x6, x7, x8, x9, u, d10, l10, d11, ⟨r, v⟩ :: l11, d12, l12, d13, l13⟩ (k ⟨⟩) σ') : Run c b ⟨x2, x3, x4, x5, x6, x7, x8, x9, u, d10, l10, d11, l11, d12, l12, d13, l13⟩ (Prog.lift (.store b.a11 r v Finset.univ hx hm) >>= k) σ' :=
  Run.store11 hk
theorem st12 {r : Rect S1280x1024} {v : r.shape.Idx → Elt F .bf16} {hx : (b.a12.access r).Stores Finset.univ}
    {hm : Finset.univ = (Finset.univ : Finset r.shape.Idx) ∨ ∀ a, r.stride a = 1} {k : PUnit → Prog (TpuEff nD τ sig (Elt F) Λ₀ .tc) PUnit}
    (hk : Run c b ⟨x2, x3, x4, x5, x6, x7, x8, x9, u, d10, l10, d11, l11, d12, ⟨r, v⟩ :: l12, d13, l13⟩ (k ⟨⟩) σ') : Run c b ⟨x2, x3, x4, x5, x6, x7, x8, x9, u, d10, l10, d11, l11, d12, l12, d13, l13⟩ (Prog.lift (.store b.a12 r v Finset.univ hx hm) >>= k) σ' :=
  Run.store12 hk
theorem st13 {r : Rect S1024x128} {v : r.shape.Idx → Elt F .f32} {hx : (b.a13.access r).Stores Finset.univ}
    {hm : Finset.univ = (Finset.univ : Finset r.shape.Idx) ∨ ∀ a, r.stride a = 1} {k : PUnit → Prog (TpuEff nD τ sig (Elt F) Λ₀ .tc) PUnit}
    (hk : Run c b ⟨x2, x3, x4, x5, x6, x7, x8, x9, u, d10, l10, d11, l11, d12, l12, d13, ⟨r, v⟩ :: l13⟩ (k ⟨⟩) σ') : Run c b ⟨x2, x3, x4, x5, x6, x7, x8, x9, u, d10, l10, d11, l11, d12, l12, d13, l13⟩ (Prog.lift (.store b.a13 r v Finset.univ hx hm) >>= k) σ' :=
  Run.store13 hk

/-- What is known after a row block's last point. -/
def withLast (σ : Held F) : Held F := { σ with l11 := keyL σ, l12 := trL σ, l13 := gateL σ }

set_option maxHeartbeats 0 in
theorem last_run (i : grid0.Coords) (h3 : ¬k0_cond3 i = 1#1) (h4 : k0_cond4 i = 1#1) (σ : Held F) :
    Run c b σ (body i b) (withLast (start i σ)) := by
  unfold body; rw [cc0_inproj_eq_skeleton]; unfold cc0_inproj_skel
  dsimp only
  rw [dif_neg h3, dif_pos h4]
  apply Run.share (f := withLast)
  case hp =>
    intro hrest
    apply Run.share (f := withLast)
    case hp =>
      intro hmid
      unfold start
      by_cases h1 : isFirst i
      · rw [dif_pos h1, if_pos h1]
        exact Run.load (has2 _) (Run.load (has4 _) (Run.keep (Keep.load has20 _ _) fun _ => Run.store20 _ (put20 b σ) (hmid _)))
      · rw [dif_neg h1, if_neg h1]
        exact hmid σ
    case hr =>
      intro σ₁
      by_cases h2 : k0_cond2 i = 1#1
      · rw [dif_pos h2]
        refine Run.keep (Keep.load has3 _ _) fun _ => Run.keep (Keep.load has4 _ _) fun _ => Run.keep (Keep.load has21 _ _) fun _ =>
          Run.keep (Keep.store has21 _ _ _ _) fun _ => Run.keep (Keep.for _ _ _ _ ?_) fun _ => hrest σ₁
        repeat' (first
          | intro _
          | exact Keep.pure _
          | exact Keep.load has22 _ _
          | exact Keep.load has9 _ _
          | exact Keep.load has8 _ _
          | exact Keep.load has19 _ _
          | exact Keep.load has18 _ _
          | exact Keep.load has20 _ _
          | exact Keep.load has21 _ _
          | exact Keep.load has5 _ _
          | exact Keep.load has6 _ _
          | exact Keep.load has2 _ _
          | exact Keep.load has3 _ _
          | exact Keep.load has4 _ _
          | exact Keep.load has14 _ _
          | exact Keep.load has15 _ _
          | exact Keep.load has16 _ _
          | exact Keep.load has17 _ _
          | exact Keep.store has22 _ _ _ _
          | exact Keep.store has19 _ _ _ _
          | exact Keep.store has18 _ _ _ _
          | exact Keep.store has21 _ _ _ _
          | exact Keep.store has14 _ _ _ _
          | exact Keep.store has15 _ _ _ _
          | exact Keep.store has16 _ _ _ _
          | exact Keep.store has17 _ _ _ _
          | exact Keep.word has7 _ _ _
          | refine Keep.bind ?_ ?_)
      · rw [dif_neg h2]
        exact hrest σ₁
  case hr =>
    rintro ⟨x2, x3, x4, x5, x6, x7, x8, x9, u, d10, l10, d11, l11, d12, l12, d13, l13⟩
    rw [k0_part403_eq_skeleton, k0_part404_eq_skeleton, k0_part405_eq_skeleton]
    delta k0_part403_skel k0_part404_skel k0_part405_skel
    rw [k0_part205_eq_skeleton, k0_part252_eq_skeleton, k0_part253_eq_skeleton, k0_part302_eq_skeleton, k0_part352_eq_skeleton, k0_part400_eq_skeleton, k0_part402_eq_skeleton]
    delta k0_part205_skel k0_part252_skel k0_part253_skel k0_part302_skel k0_part352_skel k0_part400_skel k0_part402_skel
    repeat (first
      | with_reducible refine Run.assoc ?_
      | with_reducible refine Run.pure ?_
      | with_reducible refine ld20 ?_
      | with_reducible refine ld6 ?_
      | with_reducible refine st11 ?_
      | with_reducible refine st12 ?_
      | with_reducible refine st13 ?_
      | with_reducible refine Run.keep (Keep.load (fun σ => has11 σ σ.l11) _ _) fun _ => ?_
      | with_reducible refine Run.keep (Keep.load (fun σ => has12 σ σ.l12) _ _) fun _ => ?_
      | with_reducible refine Run.keep (Keep.load (fun σ => has13 σ σ.l13) _ _) fun _ => ?_
      | refine Run.keep (by
          repeat' (first
            | intro _
            | exact Keep.pure _
            | exact Keep.load has22 _ _
            | exact Keep.load has9 _ _
            | exact Keep.load has8 _ _
            | exact Keep.load has19 _ _
            | exact Keep.load has18 _ _
            | exact Keep.load has20 _ _
            | exact Keep.load has21 _ _
            | exact Keep.load has5 _ _
            | exact Keep.load has6 _ _
            | exact Keep.load has2 _ _
            | exact Keep.load has3 _ _
            | exact Keep.load has4 _ _
            | exact Keep.load has14 _ _
            | exact Keep.load has15 _ _
            | exact Keep.load has16 _ _
            | exact Keep.load has17 _ _
            | exact Keep.store has22 _ _ _ _
            | exact Keep.store has19 _ _ _ _
            | exact Keep.store has18 _ _ _ _
            | exact Keep.store has21 _ _ _ _
            | exact Keep.store has14 _ _ _ _
            | exact Keep.store has15 _ _ _ _
            | exact Keep.store has16 _ _ _ _
            | exact Keep.store has17 _ _ _ _
            | exact Keep.word has7 _ _ _
            | refine Keep.bind ?_ ?_)) fun _ => ?_)
    by_cases h5 : k0_cond5 i = 1#1 <;> by_cases h6 : k0_cond6 i = 1#1
    all_goals repeat (first
      | rw [dif_pos h5] | rw [dif_neg h5] | rw [dif_pos h6] | rw [dif_neg h6]
      | refine Run.keep (by
          repeat' (first
            | intro _
            | exact Keep.pure _
            | exact Keep.load has22 _ _
            | exact Keep.load has9 _ _
            | exact Keep.load has8 _ _
            | exact Keep.load has19 _ _
            | exact Keep.load has18 _ _
            | exact Keep.load has20 _ _
            | exact Keep.load has21 _ _
            | exact Keep.load has5 _ _
            | exact Keep.load has6 _ _
            | exact Keep.load has2 _ _
            | exact Keep.load has3 _ _
            | exact Keep.load has4 _ _
            | exact Keep.load has14 _ _
            | exact Keep.load has15 _ _
            | exact Keep.load has16 _ _
            | exact Keep.load has17 _ _
            | exact Keep.store has22 _ _ _ _
            | exact Keep.store has19 _ _ _ _
            | exact Keep.store has18 _ _ _ _
            | exact Keep.store has21 _ _ _ _
            | exact Keep.store has14 _ _ _ _
            | exact Keep.store has15 _ _ _ _
            | exact Keep.store has16 _ _ _ _
            | exact Keep.store has17 _ _ _ _
            | exact Keep.word has7 _ _ _
            | refine Keep.bind ?_ ?_)) fun _ => ?_)
    all_goals exact Run.done _

end Cert.InprojIdeal.Proj

end
-- ==== Proof.InFrame.lean ====
module

public import proofs.«01_k».proof.Proof.InNat
public import proofs.«01_k».proof.Proof.InEnd
public import Idealize.ShloMosaic.Lib.Pipeline.ValueKit

@[expose] public section

/-! The input projection's run: the four projections of the tokens are followed through the points, of the lead's
projections and the bias tables nothing is said. -/

set_option maxRecDepth 65536

noncomputable section

namespace Cert.InprojIdeal.Proj

open Cert.InprojIdeal Cert.InprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
local notation:max "own% " c:max => owns (c : Thread nD τ)

variable (m : (ℓ : Loc nD τ sig) → Buf (Elt F) ℓ) (ρ : Dev nD → PrngReg)

/-- The point before. -/
abbrev prev (t : Fin cfg0.N) : Fin cfg0.N := ⟨t.val - 1, Nat.lt_of_le_of_lt (Nat.sub_le _ _) t.isLt⟩

/-! ## Which kind of point a point is -/

theorem first_iff : ∀ t : Fin cfg0.N, isFirst (grid0.coords t) ↔ t.val % 4 = 0 :=
  (by decide +kernel : ∀ t : Fin grid0.N, _)
theorem nat_iff : ∀ t : Fin cfg0.N, k0_cond3 (grid0.coords t) = 1#1 ↔ t.val % 4 ≠ 3 :=
  (by decide +kernel : ∀ t : Fin grid0.N, _)
theorem last_iff : ∀ t : Fin cfg0.N, k0_cond4 (grid0.coords t) = 1#1 ↔ t.val % 4 = 3 :=
  (by decide +kernel : ∀ t : Fin grid0.N, _)
theorem flush_8 : ∀ t : Fin cfg0.N, t.val % 4 = 3 → (cfg0.win 8).flush t = true ∧ (cfg0.win 8).flush (prev t) = false :=
  (by decide +kernel : ∀ t : Fin grid0.N, t.val % 4 = 3 → win0_8.flush t = true ∧ win0_8.flush ⟨t.val - 1, Nat.lt_of_le_of_lt (Nat.sub_le _ _) t.isLt⟩ = false)
theorem same_0 : ∀ t : Fin cfg0.N, t.val % 4 ≠ 0 → (cfg0.win 0).index t = (cfg0.win 0).index (prev t) :=
  (by decide +kernel : ∀ t : Fin grid0.N, t.val % 4 ≠ 0 → win0_0.index t = win0_0.index ⟨t.val - 1, Nat.lt_of_le_of_lt (Nat.sub_le _ _) t.isLt⟩)
theorem same_3 : ∀ t : Fin cfg0.N, t.val % 4 = 3 → (cfg0.win 3).index t = (cfg0.win 3).index (prev t) :=
  (by decide +kernel : ∀ t : Fin grid0.N, t.val % 4 = 3 → win0_3.index t = win0_3.index ⟨t.val - 1, Nat.lt_of_le_of_lt (Nat.sub_le _ _) t.isLt⟩)

/-! ## What the buffers hold -/

/-- Input 0's block. -/
def in0 (c : Dev nD) (t : Fin cfg0.N) : Vec F S1024x2048 .f32 := iblk m c 0 t
/-- Input 1's block. -/
def in1 (c : Dev nD) (t : Fin cfg0.N) : Vec F S16x2048 .f32 := iblk m c 1 t
/-- Input 2's block. -/
def in2 (c : Dev nD) (t : Fin cfg0.N) : Vec F S1x2048 .f32 := iblk m c 2 t
/-- Input 3's block. -/
def in3 (c : Dev nD) (t : Fin cfg0.N) : Vec F S1024x2048 .bf16 := iblk m c 3 t
/-- Input 4's block. -/
def in4 (c : Dev nD) (t : Fin cfg0.N) : Vec F S1792x2048 .bf16 := iblk m c 4 t
/-- Input 5's block. -/
def in5 (c : Dev nD) (t : Fin cfg0.N) : Vec F S32x16 .f32 := iblk m c 5 t
/-- Input 6's block. -/
def in6 (c : Dev nD) (t : Fin cfg0.N) : Vec F S16x128 .i32 := iblk m c 6 t
/-- Input 7's block. -/
def in7 (c : Dev nD) (t : Fin cfg0.N) : Vec F S2x16x128 .i32 := iblk m c 7 t
/-- The normed rows of the point's row block. -/
def u0 (c : Dev nD) (t : Fin cfg0.N) : Vec F S1024x2048 .bf16 := k0_pay1 (in0 m c t) (in2 m c t)

/-- What is held at a point before its stores. -/
abbrev held (c : Dev nD) (t : Fin cfg0.N) (u : Vec F S1024x2048 .bf16) (d10 : Vec F S1024x1024 .bf16) (d11 : Vec F S1024x256 .bf16)
    (d12 : Vec F S1280x1024 .bf16) (d13 : Vec F S1024x128 .f32) : Held F :=
  ⟨in0 m c t, in1 m c t, in2 m c t, in3 m c t, in4 m c t, in5 m c t, in6 m c t, in7 m c t, u, d10, [], d11, [], d12, [], d13, []⟩

/-- The same at the row block's normed rows, the four outputs at anything. -/
abbrev held0 (c : Dev nD) (t : Fin cfg0.N) : Held F :=
  held m c t (u0 m c t) (View.canon []) (View.canon []) (View.canon []) (View.canon [])

/-- The first projection's block. -/
def natB (c : Dev nD) (t : Fin cfg0.N) : Vec F S1024x1024 .bf16 := View.canon (natL (held0 m c t))
/-- The second projection's block. -/
def keyB (c : Dev nD) (t : Fin cfg0.N) : Vec F S1024x256 .bf16 := View.canon (keyL (held0 m c t))
/-- The third projection's block. -/
def trB (c : Dev nD) (t : Fin cfg0.N) : Vec F S1280x1024 .bf16 := View.canon (trL (held0 m c t))
/-- The fourth projection's block. -/
def gateB (c : Dev nD) (t : Fin cfg0.N) : Vec F S1024x128 .f32 := View.canon (gateL (held0 m c t))

theorem natC (σ : Held F) (y : S1024x1024.Idx) : ∃ pc ∈ natL { σ with l10 := [] }, y ∈ pc.1.set :=
  View.cover_of_tiledL (natL { σ with l10 := [] }) S1024x256.size (by sl_kernel_rfl) y
theorem keyC (σ : Held F) (y : S1024x256.Idx) : ∃ pc ∈ keyL { σ with l11 := [] }, y ∈ pc.1.set :=
  View.cover_of_tiledL (keyL { σ with l11 := [] }) S1024x256.size (by sl_kernel_rfl) y
theorem trC (σ : Held F) (y : S1280x1024.Idx) : ∃ pc ∈ trL { σ with l12 := [] }, y ∈ pc.1.set :=
  View.cover_of_tiledL (trL { σ with l12 := [] }) S256x1024.size (by sl_kernel_rfl) y
theorem gateC (σ : Held F) (y : S1024x128.Idx) : ∃ pc ∈ gateL { σ with l13 := [] }, y ∈ pc.1.set :=
  View.cover_of_tiledL (gateL { σ with l13 := [] }) S1024x128.size (by sl_kernel_rfl) y

theorem natL_congr (σ σ' : Held F) (hu : σ.u = σ'.u) (h5 : σ.x5 = σ'.x5) (hl : σ.l10 = σ'.l10) : natL σ = natL σ' := by
  unfold natL tok rows5; rw [hu, h5, hl]

/-- A buffer stored into all over holds what the stores make. -/
theorem settle (c : Dev nD) {sp : Space} {s : Shape} {e : EltTy} (M : Memref sig .tc sp s e) (d : s.Idx → Elt F e) (L : List (View.Piece (Elt F) s e))
    (hc : ∀ y, ∃ pc ∈ L, y ∈ pc.1.set) : (over c M d L : sProp 𝕄) ⊢ own% c M fullShare (View.canon L) := by
  unfold owns
  iintro ⟨%f, %hf, H⟩
  iexists _; isplitr
  · ipureintro; exact (View.read_writes_of_cover M.view f M.view M.view.junk L hc).trans (View.read_writes_junk_eq_canon M.view L)
  iexact H
/-- A buffer not stored into holds what it held. -/
theorem still (c : Dev nD) {sp : Space} {s : Shape} {e : EltTy} (M : Memref sig .tc sp s e) (d : s.Idx → Elt F e) :
    (over c M d [] : sProp 𝕄) ⊢ own% c M fullShare d := by
  unfold owns
  iintro ⟨%f, %hf, H⟩
  iexists f; isplitr
  · ipureintro; exact hf
  iexact H
theorem found (c : Dev nD) {sp : Space} {s : Shape} {e : EltTy} (M : Memref sig .tc sp s e) (d : s.Idx → Elt F e) :
    (own% c M fullShare d : sProp 𝕄) ⊢ over c M d [] := by
  unfold owns
  iintro ⟨%f, %hf, H⟩
  iexists f; isplitr
  · ipureintro; exact hf
  iexact H
theorem forgetIt (c : Dev nD) {sp : Space} {s : Shape} {e : EltTy} (M : Memref sig .tc sp s e) (d : s.Idx → Elt F e) :
    (own% c M fullShare d : sProp 𝕄) ⊢ some' c M := by
  unfold owns
  iintro ⟨%f, %hf, H⟩
  iexists f
  iexact H
theorem atSome (c : Dev nD) {sp : Space} {s : Shape} {e : EltTy} (M : Memref sig .tc sp s e) :
    (some' c M : sProp 𝕄) ⊢ iprop(∃ d, own% c M fullShare d) := by
  unfold owns
  iintro ⟨%f, H⟩
  iexists _; iexists f; isplitr
  · ipureintro; rfl
  iexact H

/-- The windows of which nothing is said. -/
def fgt : Fin 18 → Bool := fun w => decide (12 ≤ w.val)

/-- The pipeline's data on a core: every input's buffer holds its block after the body, the four projections hold the stated
    blocks, and between the points of a row block the scratch holds its normed rows. -/
def dats (_ : Fin 1) (c : Dev nD) : Dat τ (Elt F) Unit ℕ (UR sig nD τ) ℕ cfg0 c where
  A w := V m c (Pipeline.arrRef spec0 w)
  after w t := match w with
    | ⟨0, _⟩ => in0 m c t
    | ⟨1, _⟩ => in1 m c t
    | ⟨2, _⟩ => in2 m c t
    | ⟨3, _⟩ => in3 m c t
    | ⟨4, _⟩ => in4 m c t
    | ⟨5, _⟩ => in5 m c t
    | ⟨6, _⟩ => in6 m c t
    | ⟨7, _⟩ => in7 m c t
    | ⟨8, _⟩ => natB m c t
    | ⟨9, _⟩ => keyB m c t
    | ⟨10, _⟩ => trB m c t
    | ⟨11, _⟩ => gateB m c t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨17, h⟩ => Pipeline.Dat.unnamed (cfg := cfg0) ⟨17, h⟩ t
    | ⟨_ + 18, h⟩ => absurd h (Nat.not_lt.2 (Nat.le_add_left _ _))
  Φ t := iprop((∃ u, ⌜∀ h : 0 < t.val, u = u0 m c ⟨t.val - 1, by have := t.isLt; omega⟩⌝ ∗ own% c (Memref.whole cc0_scratch0) fullShare u)
    ∗ (∃ d, own% c (Memref.whole cc0_scratch1) fullShare d) ∗ (∃ d, own% c (Memref.whole cc0_scratch2) fullShare d) ∗ ∃ r, prngReg c r)
  q w := Pipeline.shareOf spec0 w
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = in0 m c t := by dsimp only [dats]
theorem after_1 (c : Dev nD) (t : Fin cfg0.N) : (dats m 0 c).after 1 t = in1 m c t := by dsimp only [dats]
theorem after_2 (c : Dev nD) (t : Fin cfg0.N) : (dats m 0 c).after 2 t = in2 m c t := by dsimp only [dats]
theorem after_3 (c : Dev nD) (t : Fin cfg0.N) : (dats m 0 c).after 3 t = in3 m c t := by dsimp only [dats]
theorem after_4 (c : Dev nD) (t : Fin cfg0.N) : (dats m 0 c).after 4 t = in4 m c t := by dsimp only [dats]
theorem after_5 (c : Dev nD) (t : Fin cfg0.N) : (dats m 0 c).after 5 t = in5 m c t := by dsimp only [dats]
theorem after_6 (c : Dev nD) (t : Fin cfg0.N) : (dats m 0 c).after 6 t = in6 m c t := by dsimp only [dats]
theorem after_7 (c : Dev nD) (t : Fin cfg0.N) : (dats m 0 c).after 7 t = in7 m c t := by dsimp only [dats]
theorem after_8 (c : Dev nD) (t : Fin cfg0.N) : (dats m 0 c).after 8 t = natB m c t := by dsimp only [dats]
theorem after_9 (c : Dev nD) (t : Fin cfg0.N) : (dats m 0 c).after 9 t = keyB m c t := by dsimp only [dats]
theorem after_10 (c : Dev nD) (t : Fin cfg0.N) : (dats m 0 c).after 10 t = trB m c t := by dsimp only [dats]
theorem after_11 (c : Dev nD) (t : Fin cfg0.N) : (dats m 0 c).after 11 t = gateB m c t := by dsimp only [dats]
theorem before_0 (c : Dev nD) (t : Fin cfg0.N) (d) : (dats m 0 c).before 0 t d = in0 m c t :=
  before0_0_of m (dats m 0 c) (A_eq m c 0) (after_0 m c) t d
theorem before_1 (c : Dev nD) (t : Fin cfg0.N) (d) : (dats m 0 c).before 1 t d = in1 m c t :=
  before0_1_of m (dats m 0 c) (A_eq m c 1) (after_1 m c) t d
theorem before_2 (c : Dev nD) (t : Fin cfg0.N) (d) : (dats m 0 c).before 2 t d = in2 m c t :=
  before0_2_of m (dats m 0 c) (A_eq m c 2) (after_2 m c) t d
theorem before_3 (c : Dev nD) (t : Fin cfg0.N) (d) : (dats m 0 c).before 3 t d = in3 m c t :=
  before0_3_of m (dats m 0 c) (A_eq m c 3) (after_3 m c) t d
theorem before_4 (c : Dev nD) (t : Fin cfg0.N) (d) : (dats m 0 c).before 4 t d = in4 m c t :=
  before0_4_of m (dats m 0 c) (A_eq m c 4) (after_4 m c) t d
theorem before_5 (c : Dev nD) (t : Fin cfg0.N) (d) : (dats m 0 c).before 5 t d = in5 m c t :=
  before0_5_of m (dats m 0 c) (A_eq m c 5) (after_5 m c) t d
theorem before_6 (c : Dev nD) (t : Fin cfg0.N) (d) : (dats m 0 c).before 6 t d = in6 m c t :=
  before0_6_of m (dats m 0 c) (A_eq m c 6) (after_6 m c) t d
theorem before_7 (c : Dev nD) (t : Fin cfg0.N) (d) : (dats m 0 c).before 7 t d = in7 m c t :=
  before0_7_of m (dats m 0 c) (A_eq m c 7) (after_7 m c) t d

theorem idle_8 (t : Fin cfg0.N) (h : t.val % 4 ≠ 3) : cfg0.idle 8 (cfg0.grid.coords t) = false := by
  show (!(k0_cond3 (grid0.coords t) == 1#1)) = false
  rw [(nat_iff t).2 h]; rfl
theorem idle_8' (t : Fin cfg0.N) (h : t.val % 4 = 3) : cfg0.idle 8 (cfg0.grid.coords t) = true := by
  show (!(k0_cond3 (grid0.coords t) == 1#1)) = true
  have : ¬k0_cond3 (grid0.coords t) = 1#1 := fun e => (nat_iff t).1 e h
  simpa using this
theorem idle_9 (t : Fin cfg0.N) (h : t.val % 4 = 3) : cfg0.idle 9 (cfg0.grid.coords t) = false := by
  show (!(k0_cond4 (grid0.coords t) == 1#1)) = false
  rw [(last_iff t).2 h]; rfl
theorem idle_9' (t : Fin cfg0.N) (h : t.val % 4 ≠ 3) : cfg0.idle 9 (cfg0.grid.coords t) = true := by
  show (!(k0_cond4 (grid0.coords t) == 1#1)) = true
  have : ¬k0_cond4 (grid0.coords t) = 1#1 := fun e => h ((last_iff t).1 e)
  simpa using this
theorem leaves_9 (c : Dev nD) (t : Fin cfg0.N) (h : t.val % 4 = 3) : (dats m 0 c).leavesExact 9 t = own% c (st0_9 t) fullShare (keyB m c t) := by
  unfold Dat.leavesExact; rw [idle_9 t h, after_9]
theorem leaves_9' (c : Dev nD) (t : Fin cfg0.N) (h : t.val % 4 ≠ 3) :
    (dats m 0 c).leavesExact 9 t = iprop(∃ d, own% c (st0_9 t) fullShare ((dats m 0 c).before 9 t d)) :=
  Dat.leavesExact_idle _ 9 t (idle_9' t h) (Bool.eq_false_iff.2 fun e => h ((flush0_9 t).1 e))
theorem idle_10 (t : Fin cfg0.N) (h : t.val % 4 = 3) : cfg0.idle 10 (cfg0.grid.coords t) = false := by
  show (!(k0_cond4 (grid0.coords t) == 1#1)) = false
  rw [(last_iff t).2 h]; rfl
theorem idle_10' (t : Fin cfg0.N) (h : t.val % 4 ≠ 3) : cfg0.idle 10 (cfg0.grid.coords t) = true := by
  show (!(k0_cond4 (grid0.coords t) == 1#1)) = true
  have : ¬k0_cond4 (grid0.coords t) = 1#1 := fun e => h ((last_iff t).1 e)
  simpa using this
theorem leaves_10 (c : Dev nD) (t : Fin cfg0.N) (h : t.val % 4 = 3) : (dats m 0 c).leavesExact 10 t = own% c (st0_10 t) fullShare (trB m c t) := by
  unfold Dat.leavesExact; rw [idle_10 t h, after_10]
theorem leaves_10' (c : Dev nD) (t : Fin cfg0.N) (h : t.val % 4 ≠ 3) :
    (dats m 0 c).leavesExact 10 t = iprop(∃ d, own% c (st0_10 t) fullShare ((dats m 0 c).before 10 t d)) :=
  Dat.leavesExact_idle _ 10 t (idle_10' t h) (Bool.eq_false_iff.2 fun e => h ((flush0_10 t).1 e))
theorem idle_11 (t : Fin cfg0.N) (h : t.val % 4 = 3) : cfg0.idle 11 (cfg0.grid.coords t) = false := by
  show (!(k0_cond4 (grid0.coords t) == 1#1)) = false
  rw [(last_iff t).2 h]; rfl
theorem idle_11' (t : Fin cfg0.N) (h : t.val % 4 ≠ 3) : cfg0.idle 11 (cfg0.grid.coords t) = true := by
  show (!(k0_cond4 (grid0.coords t) == 1#1)) = true
  have : ¬k0_cond4 (grid0.coords t) = 1#1 := fun e => h ((last_iff t).1 e)
  simpa using this
theorem leaves_11 (c : Dev nD) (t : Fin cfg0.N) (h : t.val % 4 = 3) : (dats m 0 c).leavesExact 11 t = own% c (st0_11 t) fullShare (gateB m c t) := by
  unfold Dat.leavesExact; rw [idle_11 t h, after_11]
theorem leaves_11' (c : Dev nD) (t : Fin cfg0.N) (h : t.val % 4 ≠ 3) :
    (dats m 0 c).leavesExact 11 t = iprop(∃ d, own% c (st0_11 t) fullShare ((dats m 0 c).before 11 t d)) :=
  Dat.leavesExact_idle _ 11 t (idle_11' t h) (Bool.eq_false_iff.2 fun e => h ((flush0_11 t).1 e))
theorem leaves_0 (c : Dev nD) (t : Fin cfg0.N) : (dats m 0 c).leavesExact 0 t = own% c (st0_0 t) fullShare (in0 m c t) := by
  unfold Dat.leavesExact; rw [show cfg0.idle 0 (cfg0.grid.coords t) = false from rfl, after_0]
theorem leaves_1 (c : Dev nD) (t : Fin cfg0.N) : (dats m 0 c).leavesExact 1 t = own% c (st0_1 t) fullShare (in1 m c t) := by
  unfold Dat.leavesExact; rw [show cfg0.idle 1 (cfg0.grid.coords t) = false from rfl, after_1]
theorem leaves_2 (c : Dev nD) (t : Fin cfg0.N) : (dats m 0 c).leavesExact 2 t = own% c (st0_2 t) fullShare (in2 m c t) := by
  unfold Dat.leavesExact; rw [show cfg0.idle 2 (cfg0.grid.coords t) = false from rfl, after_2]
theorem leaves_3 (c : Dev nD) (t : Fin cfg0.N) : (dats m 0 c).leavesExact 3 t = own% c (st0_3 t) fullShare (in3 m c t) := by
  unfold Dat.leavesExact; rw [show cfg0.idle 3 (cfg0.grid.coords t) = false from rfl, after_3]
theorem leaves_4 (c : Dev nD) (t : Fin cfg0.N) : (dats m 0 c).leavesExact 4 t = own% c (st0_4 t) fullShare (in4 m c t) := by
  unfold Dat.leavesExact; rw [show cfg0.idle 4 (cfg0.grid.coords t) = false from rfl, after_4]
theorem leaves_5 (c : Dev nD) (t : Fin cfg0.N) : (dats m 0 c).leavesExact 5 t = own% c (st0_5 t) fullShare (in5 m c t) := by
  unfold Dat.leavesExact; rw [show cfg0.idle 5 (cfg0.grid.coords t) = false from rfl, after_5]
theorem leaves_6 (c : Dev nD) (t : Fin cfg0.N) : (dats m 0 c).leavesExact 6 t = own% c (st0_6 t) fullShare (in6 m c t) := by
  unfold Dat.leavesExact; rw [show cfg0.idle 6 (cfg0.grid.coords t) = false from rfl, after_6]
theorem leaves_7 (c : Dev nD) (t : Fin cfg0.N) : (dats m 0 c).leavesExact 7 t = own% c (st0_7 t) fullShare (in7 m c t) := by
  unfold Dat.leavesExact; rw [show cfg0.idle 7 (cfg0.grid.coords t) = false from rfl, after_7]
theorem leaves_8 (c : Dev nD) (t : Fin cfg0.N) : (dats m 0 c).leavesExact 8 t = own% c (st0_8 t) fullShare (natB m c t) := by
  unfold Dat.leavesExact
  by_cases h : t.val % 4 = 3
  · rw [idle_8' t h, (flush_8 t h).1, after_8]
  · rw [idle_8 t h, after_8]

/-! ## The row block's normed rows and the last block of the first projection stay from one point to the next -/

theorem fetched_is (c : Dev nD) (w : Fin cfg0.W) (hw : w = 0 ∨ w = 2 ∨ w = 3) (t : Fin cfg0.N) (d) : HEq ((dats m 0 c).fetched w t d) (iblk m c w t) := by
  rcases hw with rfl | rfl | rfl <;> (apply heq_of_eq; unfold Dat.fetched Dat.blockOf iblk; rw [A_eq]; try rfl)

theorem blk_0 (c : Dev nD) (t : Fin cfg0.N) (h : t.val % 4 ≠ 0) : iblk m c 0 t = iblk m c 0 (prev t) :=
  ((eq_of_heq (fetched_is m c 0 (.inl rfl) t (View.canon []))).symm.trans ((dats m 0 c).fetched_congr 0 (same_0 t h) rfl _)).trans (eq_of_heq (fetched_is m c 0 (.inl rfl) (prev t) _))
theorem blk_2 (c : Dev nD) (t t' : Fin cfg0.N) : iblk m c 2 t = iblk m c 2 t' :=
  ((eq_of_heq (fetched_is m c 2 (.inr (.inl rfl)) t (View.canon []))).symm.trans ((dats m 0 c).fetched_congr 2 (t := t) (t' := t') rfl rfl _)).trans (eq_of_heq (fetched_is m c 2 (.inr (.inl rfl)) t' _))
theorem blk_3 (c : Dev nD) (t : Fin cfg0.N) (h : t.val % 4 = 3) : iblk m c 3 t = iblk m c 3 (prev t) :=
  ((eq_of_heq (fetched_is m c 3 (.inr (.inr rfl)) t (View.canon []))).symm.trans ((dats m 0 c).fetched_congr 3 (same_3 t h) rfl _)).trans (eq_of_heq (fetched_is m c 3 (.inr (.inr rfl)) (prev t) _))

theorem u0_prev (c : Dev nD) (t : Fin cfg0.N) (h : t.val % 4 ≠ 0) : u0 m c t = u0 m c (prev t) := by
  unfold u0
  rw [show in0 m c t = in0 m c (prev t) from blk_0 m c t h, show in2 m c t = in2 m c (prev t) from blk_2 m c t (prev t)]

theorem natB_prev (c : Dev nD) (t : Fin cfg0.N) (h : t.val % 4 = 3) : natB m c (prev t) = natB m c t := by
  have hne : t.val % 4 ≠ 0 := by rw [h]; decide
  have hu : u0 m c (prev t) = u0 m c t := (u0_prev m c t hne).symm
  have h5 : in3 m c (prev t) = in3 m c t := (blk_3 m c t h).symm
  unfold natB held0 held
  exact congrArg View.canon (natL_congr _ _ hu h5 rfl)

theorem before_8 (c : Dev nD) (t : Fin cfg0.N) (h : t.val % 4 = 3) (d) : (dats m 0 c).before 8 t d = natB m c t := by
  rw [(dats m 0 c).before_of_pos 8 t (by omega) ((cfg0.win 8).fetch_out rfl t), (flush_8 t h).2, if_neg Bool.false_ne_true]
  unfold Dat.left
  rw [idle_8 (prev t) (by show (t.val - 1) % 4 ≠ 3; omega)]
  unfold Dat.kept
  rw [Pipeline.fill_of_clip_none 8 _ (fun _ => rfl) d ((dats m 0 c).after 8 _), Window.fill_cut, after_8]
  exact natB_prev m c t h

theorem start_mk (i : grid0.Coords) (x2 : Vec F S1024x2048 .f32) (x3 : Vec F S16x2048 .f32) (x4 : Vec F S1x2048 .f32) (x5 : Vec F S1024x2048 .bf16) (x6 : Vec F S1792x2048 .bf16) (x7 : Vec F S32x16 .f32) (x8 : Vec F S16x128 .i32) (x9 : Vec F S2x16x128 .i32)
    (u v : Vec F S1024x2048 .bf16) (d10 : Vec F S1024x1024 .bf16) (d11 : Vec F S1024x256 .bf16) (d12 : Vec F S1280x1024 .bf16) (d13 : Vec F S1024x128 .f32)
    (h1 : isFirst i → v = k0_pay1 x2 x4) (h2 : ¬isFirst i → u = v) : start i (F := F) ⟨x2, x3, x4, x5, x6, x7, x8, x9, u, d10, [], d11, [], d12, [], d13, []⟩ = ⟨x2, x3, x4, x5, x6, x7, x8, x9, v, d10, [], d11, [], d12, [], d13, []⟩ := by
  unfold start
  by_cases h : isFirst i
  · rw [if_pos h, h1 h]
  · rw [if_neg h, h2 h]

/-- After the first point's norming the held rows are the row block's. -/
theorem started (c : Dev nD) (t : Fin cfg0.N) (u : Vec F S1024x2048 .bf16) (hu : ∀ h : 0 < t.val, u = u0 m c (prev t)) (d10 : Vec F S1024x1024 .bf16) (d11 : Vec F S1024x256 .bf16) (d12 : Vec F S1280x1024 .bf16) (d13 : Vec F S1024x128 .f32) :
    start (grid0.coords t) (held m c t u d10 d11 d12 d13) = held m c t (u0 m c t) d10 d11 d12 d13 := by
  have e1 : u0 m c t = k0_pay1 (in0 m c t) (in2 m c t) := by unfold u0; with_reducible rfl
  have e2 : ¬isFirst (grid0.coords t) → u = u0 m c t := fun e => by
    have h : t.val % 4 ≠ 0 := fun h => e ((first_iff t).2 h)
    rw [hu (Nat.pos_of_ne_zero fun z => h (by rw [z])), ← u0_prev m c t h]
  exact start_mk (grid0.coords t) _ _ _ _ _ _ _ _ _ _ _ _ _ _ (fun _ => e1) e2

/-! ## The body at a point -/

/-- The buffers at a point. -/
abbrev bufs (t : Fin cfg0.N) : Bufs :=
  ⟨(win0_0.stage (cfg0.slots t 0)), (hstage0_0 ((cfg0.slots t 0).cast nbuf0_0)), (win0_1.stage (cfg0.slots t 1)), (hstage0_1 ((cfg0.slots t 1).cast nbuf0_1)), (win0_2.stage (cfg0.slots t 2)), (hstage0_2 ((cfg0.slots t 2).cast nbuf0_2)), (win0_3.stage (cfg0.slots t 3)), (hstage0_3 ((cfg0.slots t 3).cast nbuf0_3)), (win0_4.stage (cfg0.slots t 4)), (hstage0_4 ((cfg0.slots t 4).cast nbuf0_4)), (win0_5.stage (cfg0.slots t 5)), (hstage0_5 ((cfg0.slots t 5).cast nbuf0_5)), (win0_6.stage (cfg0.slots t 6)), (hstage0_6 ((cfg0.slots t 6).cast nbuf0_6)), (win0_7.stage (cfg0.slots t 7)), (hstage0_7 ((cfg0.slots t 7).cast nbuf0_7)), (win0_8.stage (cfg0.slots t 8)), (hstage0_8 ((cfg0.slots t 8).cast nbuf0_8)), (win0_9.stage (cfg0.slots t 9)), (hstage0_9 ((cfg0.slots t 9).cast nbuf0_9)), (win0_10.stage (cfg0.slots t 10)), (hstage0_10 ((cfg0.slots t 10).cast nbuf0_10)), (win0_11.stage (cfg0.slots t 11)), (hstage0_11 ((cfg0.slots t 11).cast nbuf0_11)), (win0_12.stage (cfg0.slots t 12)), (hstage0_12 ((cfg0.slots t 12).cast nbuf0_12)), (win0_13.stage (cfg0.slots t 13)), (hstage0_13 ((cfg0.slots t 13).cast nbuf0_13)), (win0_14.stage (cfg0.slots t 14)), (hstage0_14 ((cfg0.slots t 14).cast nbuf0_14)), (win0_15.stage (cfg0.slots t 15)), (hstage0_15 ((cfg0.slots t 15).cast nbuf0_15)), (win0_16.stage (cfg0.slots t 16)), (hstage0_16 ((cfg0.slots t 16).cast nbuf0_16)), (win0_17.stage (cfg0.slots t 17)), (hstage0_17 ((cfg0.slots t 17).cast nbuf0_17)), (Memref.whole cc0_scratch0), (Memref.isWhole_whole _), (Memref.whole cc0_scratch1), (Memref.isWhole_whole _), (Memref.whole cc0_scratch2), (Memref.isWhole_whole _)⟩

/-- What the body starts from at a point. -/
def bodyPre (c : Dev nD) (t : Fin cfg0.N) : sProp 𝕄 :=
  iprop((dats m 0 c).Φ t.castSucc ∗ (dats m 0 c).owesAt () t.castSucc
    ∗ (∃ d, own% c (st0_0 t) fullShare ((dats m 0 c).before 0 t d))
    ∗ (∃ d, own% c (st0_1 t) fullShare ((dats m 0 c).before 1 t d))
    ∗ (∃ d, own% c (st0_2 t) fullShare ((dats m 0 c).before 2 t d))
    ∗ (∃ d, own% c (st0_3 t) fullShare ((dats m 0 c).before 3 t d))
    ∗ (∃ d, own% c (st0_4 t) fullShare ((dats m 0 c).before 4 t d))
    ∗ (∃ d, own% c (st0_5 t) fullShare ((dats m 0 c).before 5 t d))
    ∗ (∃ d, own% c (st0_6 t) fullShare ((dats m 0 c).before 6 t d))
    ∗ (∃ d, own% c (st0_7 t) fullShare ((dats m 0 c).before 7 t d))
    ∗ (∃ d, own% c (st0_8 t) fullShare ((dats m 0 c).before 8 t d))
    ∗ (∃ d, own% c (st0_9 t) fullShare ((dats m 0 c).before 9 t d))
    ∗ (∃ d, own% c (st0_10 t) fullShare ((dats m 0 c).before 10 t d))
    ∗ (∃ d, own% c (st0_11 t) fullShare ((dats m 0 c).before 11 t d))
    ∗ (∃ d, own% c (st0_12 t) fullShare d)
    ∗ (∃ d, own% c (st0_13 t) fullShare d)
    ∗ (∃ d, own% c (st0_14 t) fullShare d)
    ∗ (∃ d, own% c (st0_15 t) fullShare d)
    ∗ (∃ d, own% c (st0_16 t) fullShare d)
    ∗ (∃ d, own% c (st0_17 t) fullShare d))

/-- What it leaves. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (∃ d, own% c (st0_12 t) fullShare d)
    ∗ (∃ d, own% c (st0_13 t) fullShare d)
    ∗ (∃ d, own% c (st0_14 t) fullShare d)
    ∗ (∃ d, own% c (st0_15 t) fullShare d)
    ∗ (∃ d, own% c (st0_16 t) fullShare d)
    ∗ (∃ d, own% c (st0_17 t) fullShare d))

/-- The body table's row at point `t`'s slots is the body. -/
theorem row (t : Fin cfg0.N) : defs₀ (F := F) .tc cfg0.body (cfg0.bodyArgs t (cfg0.slots t)) = bodyAt0 t := by
  unfold defs₀; rw [Defs.onTc_tc]

set_option maxHeartbeats 2000000 in
theorem point_nat (c : Dev nD) (b : Bufs) (i : grid0.Coords) (h3 : k0_cond3 i = 1#1) (h4 : ¬k0_cond4 i = 1#1) {α0 α1 α2 α3 α4 α5 α6 α7 α8 α9 α10 α11 : Type} (x2 : Vec F S1024x2048 .f32) (x3 : Vec F S16x2048 .f32) (x4 : Vec F S1x2048 .f32) (x5 : Vec F S1024x2048 .bf16) (x6 : Vec F S1792x2048 .bf16) (x7 : Vec F S32x16 .f32) (x8 : Vec F S16x128 .i32) (x9 : Vec F S2x16x128 .i32)
    (P P' : Vec F S1024x2048 .bf16 → Prop) (v : Vec F S1024x2048 .bf16) (G O : sProp 𝕄) (N10 : Vec F S1024x1024 .bf16) (B11 : α9 → Vec F S1024x256 .bf16) (B12 : α10 → Vec F S1280x1024 .bf16) (B13 : α11 → Vec F S1024x128 .f32) (B10 : α8 → Vec F S1024x1024 .bf16)
    (hs : ∀ u d10 d11 d12 d13, P u → start i ⟨x2, x3, x4, x5, x6, x7, x8, x9, u, d10, [], d11, [], d12, [], d13, []⟩ = ⟨x2, x3, x4, x5, x6, x7, x8, x9, v, d10, [], d11, [], d12, [], d13, []⟩) (hP : P' v)
    (hN10 : ∀ d10 d11 d12 d13, View.canon (natL ⟨x2, x3, x4, x5, x6, x7, x8, x9, v, d10, [], d11, [], d12, [], d13, []⟩) = N10) :
    iprop(((∃ u, ⌜P u⌝ ∗ own% c b.a20 fullShare u) ∗ (∃ d, own% c b.a21 fullShare d) ∗ (∃ d, own% c b.a22 fullShare d) ∗ G) ∗ O
      ∗ (∃ d : α0, own% c b.a2 fullShare x2)
      ∗ (∃ d : α1, own% c b.a3 fullShare x3)
      ∗ (∃ d : α2, own% c b.a4 fullShare x4)
      ∗ (∃ d : α3, own% c b.a5 fullShare x5)
      ∗ (∃ d : α4, own% c b.a6 fullShare x6)
      ∗ (∃ d : α5, own% c b.a7 fullShare x7)
      ∗ (∃ d : α6, own% c b.a8 fullShare x8)
      ∗ (∃ d : α7, own% c b.a9 fullShare x9)
      ∗ (∃ d : α8, own% c b.a10 fullShare (B10 d))
      ∗ (∃ d : α9, own% c b.a11 fullShare (B11 d))
      ∗ (∃ d : α10, own% c b.a12 fullShare (B12 d))
      ∗ (∃ d : α11, own% c b.a13 fullShare (B13 d))
      ∗ (∃ d, own% c b.a14 fullShare d)
      ∗ (∃ d, own% c b.a15 fullShare d)
      ∗ (∃ d, own% c b.a16 fullShare d)
      ∗ (∃ d, own% c b.a17 fullShare d)
      ∗ (∃ d, own% c b.a18 fullShare d)
      ∗ (∃ d, own% c b.a19 fullShare d))
    ⊢ wp frame (wpE (defs₀ (F := F)) Variants.none (c : Thread nD τ) none) Set.univ (body i b) (fun _ =>
      iprop(((∃ u, ⌜P' u⌝ ∗ own% c b.a20 fullShare u) ∗ (∃ d, own% c b.a21 fullShare d) ∗ (∃ d, own% c b.a22 fullShare d) ∗ G) ∗ O
      ∗ own% c b.a2 fullShare x2
      ∗ own% c b.a3 fullShare x3
      ∗ own% c b.a4 fullShare x4
      ∗ own% c b.a5 fullShare x5
      ∗ own% c b.a6 fullShare x6
      ∗ own% c b.a7 fullShare x7
      ∗ own% c b.a8 fullShare x8
      ∗ own% c b.a9 fullShare x9
      ∗ own% c b.a10 fullShare N10
      ∗ (∃ d : α9, own% c b.a11 fullShare (B11 d))
      ∗ (∃ d : α10, own% c b.a12 fullShare (B12 d))
      ∗ (∃ d : α11, own% c b.a13 fullShare (B13 d))
      ∗ (∃ d, own% c b.a14 fullShare d)
      ∗ (∃ d, own% c b.a15 fullShare d)
      ∗ (∃ d, own% c b.a16 fullShare d)
      ∗ (∃ d, own% c b.a17 fullShare d)
      ∗ (∃ d, own% c b.a18 fullShare d)
      ∗ (∃ d, own% c b.a19 fullShare d))) := by
  iintro ⟨⟨⟨%u, %hu, HU⟩, ⟨%s1, HS1⟩, ⟨%s2, HS2⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩, ⟨%e12, H12⟩, ⟨%e13, H13⟩, ⟨%e14, H14⟩, ⟨%e15, H15⟩, ⟨%e16, H16⟩, ⟨%e17, H17⟩⟩
  have key := (nat_run (c := c) (b := b) i h3 h4 ⟨x2, x3, x4, x5, x6, x7, x8, x9, u, (B10 e8), [], (B11 e9), [], (B12 e10), [], (B13 e11), []⟩).go
  rw [hs u (B10 e8) (B11 e9) (B12 e10) (B13 e11) hu] at key
  iapply (key _)
  isplitr [Hg Ho]
  · unfold Inv
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HU]; · iexact HU
    isplitl [H8]; · iapply (found c b.a10 _); iexact H8
    isplitl [H9]; · iapply (found c b.a11 _); iexact H9
    isplitl [H10]; · iapply (found c b.a12 _); iexact H10
    isplitl [H11]; · iapply (found c b.a13 _); iexact H11
    isplitl [H12]; · iapply (forgetIt c b.a14 _); iexact H12
    isplitl [H13]; · iapply (forgetIt c b.a15 _); iexact H13
    isplitl [H14]; · iapply (forgetIt c b.a16 _); iexact H14
    isplitl [H15]; · iapply (forgetIt c b.a17 _); iexact H15
    isplitl [H16]; · iapply (forgetIt c b.a18 _); iexact H16
    isplitl [H17]; · iapply (forgetIt c b.a19 _); iexact H17
    isplitl [HS1]; · iapply (forgetIt c b.a21 _); iexact HS1
    iapply (forgetIt c b.a22 _); iexact HS2
  unfold Inv
  iintro ⟨H0, H1, H2, H3, H4, H5, H6, H7, HU, H8, H9, H10, H11, H12, H13, H14, H15, H16, H17, HS1, HS2⟩
  isplitl [HU HS1 HS2 Hg]
  · isplitl [HU]
    · iexists v; isplitr
      · ipureintro; exact hP
      iexact HU
    isplitl [HS1]; · iapply (atSome c b.a21); iexact HS1
    isplitl [HS2]; · iapply (atSome c b.a22); iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · rw [← hN10 (B10 e8) (B11 e9) (B12 e10) (B13 e11)]; iapply (settle c b.a10 _ (natL (⟨x2, x3, x4, x5, x6, x7, x8, x9, v, (B10 e8), [], (B11 e9), [], (B12 e10), [], (B13 e11), []⟩ : Held F)) (natC (⟨x2, x3, x4, x5, x6, x7, x8, x9, v, (B10 e8), [], (B11 e9), [], (B12 e10), [], (B13 e11), []⟩ : Held F))); iexact H8
  isplitl [H9]; · iexists e9; iapply (still c b.a11 _); iexact H9
  isplitl [H10]; · iexists e10; iapply (still c b.a12 _); iexact H10
  isplitl [H11]; · iexists e11; iapply (still c b.a13 _); iexact H11
  isplitl [H12]; · iapply (atSome c b.a14); iexact H12
  isplitl [H13]; · iapply (atSome c b.a15); iexact H13
  isplitl [H14]; · iapply (atSome c b.a16); iexact H14
  isplitl [H15]; · iapply (atSome c b.a17); iexact H15
  isplitl [H16]; · iapply (atSome c b.a18); iexact H16
  iapply (atSome c b.a19); iexact H17

set_option maxHeartbeats 2000000 in
theorem point_last (c : Dev nD) (b : Bufs) (i : grid0.Coords) (h3 : ¬k0_cond3 i = 1#1) (h4 : k0_cond4 i = 1#1) {α0 α1 α2 α3 α4 α5 α6 α7 α8 α9 α10 α11 : Type} (x2 : Vec F S1024x2048 .f32) (x3 : Vec F S16x2048 .f32) (x4 : Vec F S1x2048 .f32) (x5 : Vec F S1024x2048 .bf16) (x6 : Vec F S1792x2048 .bf16) (x7 : Vec F S32x16 .f32) (x8 : Vec F S16x128 .i32) (x9 : Vec F S2x16x128 .i32)
    (P P' : Vec F S1024x2048 .bf16 → Prop) (v : Vec F S1024x2048 .bf16) (G O : sProp 𝕄) (N10 : Vec F S1024x1024 .bf16) (N11 : Vec F S1024x256 .bf16) (N12 : Vec F S1280x1024 .bf16) (N13 : Vec F S1024x128 .f32) (B11 : α9 → Vec F S1024x256 .bf16) (B12 : α10 → Vec F S1280x1024 .bf16) (B13 : α11 → Vec F S1024x128 .f32)
    (hs : ∀ u d10 d11 d12 d13, P u → start i ⟨x2, x3, x4, x5, x6, x7, x8, x9, u, d10, [], d11, [], d12, [], d13, []⟩ = ⟨x2, x3, x4, x5, x6, x7, x8, x9, v, d10, [], d11, [], d12, [], d13, []⟩) (hP : P' v)
    (hN11 : ∀ d10 d11 d12 d13, View.canon (keyL ⟨x2, x3, x4, x5, x6, x7, x8, x9, v, d10, [], d11, [], d12, [], d13, []⟩) = N11)
    (hN12 : ∀ d10 d11 d12 d13, View.canon (trL ⟨x2, x3, x4, x5, x6, x7, x8, x9, v, d10, [], d11, [], d12, [], d13, []⟩) = N12)
    (hN13 : ∀ d10 d11 d12 d13, View.canon (gateL ⟨x2, x3, x4, x5, x6, x7, x8, x9, v, d10, [], d11, [], d12, [], d13, []⟩) = N13) :
    iprop(((∃ u, ⌜P u⌝ ∗ own% c b.a20 fullShare u) ∗ (∃ d, own% c b.a21 fullShare d) ∗ (∃ d, own% c b.a22 fullShare d) ∗ G) ∗ O
      ∗ (∃ d : α0, own% c b.a2 fullShare x2)
      ∗ (∃ d : α1, own% c b.a3 fullShare x3)
      ∗ (∃ d : α2, own% c b.a4 fullShare x4)
      ∗ (∃ d : α3, own% c b.a5 fullShare x5)
      ∗ (∃ d : α4, own% c b.a6 fullShare x6)
      ∗ (∃ d : α5, own% c b.a7 fullShare x7)
      ∗ (∃ d : α6, own% c b.a8 fullShare x8)
      ∗ (∃ d : α7, own% c b.a9 fullShare x9)
      ∗ (∃ d : α8, own% c b.a10 fullShare N10)
      ∗ (∃ d : α9, own% c b.a11 fullShare (B11 d))
      ∗ (∃ d : α10, own% c b.a12 fullShare (B12 d))
      ∗ (∃ d : α11, own% c b.a13 fullShare (B13 d))
      ∗ (∃ d, own% c b.a14 fullShare d)
      ∗ (∃ d, own% c b.a15 fullShare d)
      ∗ (∃ d, own% c b.a16 fullShare d)
      ∗ (∃ d, own% c b.a17 fullShare d)
      ∗ (∃ d, own% c b.a18 fullShare d)
      ∗ (∃ d, own% c b.a19 fullShare d))
    ⊢ wp frame (wpE (defs₀ (F := F)) Variants.none (c : Thread nD τ) none) Set.univ (body i b) (fun _ =>
      iprop(((∃ u, ⌜P' u⌝ ∗ own% c b.a20 fullShare u) ∗ (∃ d, own% c b.a21 fullShare d) ∗ (∃ d, own% c b.a22 fullShare d) ∗ G) ∗ O
      ∗ own% c b.a2 fullShare x2
      ∗ own% c b.a3 fullShare x3
      ∗ own% c b.a4 fullShare x4
      ∗ own% c b.a5 fullShare x5
      ∗ own% c b.a6 fullShare x6
      ∗ own% c b.a7 fullShare x7
      ∗ own% c b.a8 fullShare x8
      ∗ own% c b.a9 fullShare x9
      ∗ own% c b.a10 fullShare N10
      ∗ own% c b.a11 fullShare N11
      ∗ own% c b.a12 fullShare N12
      ∗ own% c b.a13 fullShare N13
      ∗ (∃ d, own% c b.a14 fullShare d)
      ∗ (∃ d, own% c b.a15 fullShare d)
      ∗ (∃ d, own% c b.a16 fullShare d)
      ∗ (∃ d, own% c b.a17 fullShare d)
      ∗ (∃ d, own% c b.a18 fullShare d)
      ∗ (∃ d, own% c b.a19 fullShare d))) := by
  iintro ⟨⟨⟨%u, %hu, HU⟩, ⟨%s1, HS1⟩, ⟨%s2, HS2⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩, ⟨%e12, H12⟩, ⟨%e13, H13⟩, ⟨%e14, H14⟩, ⟨%e15, H15⟩, ⟨%e16, H16⟩, ⟨%e17, H17⟩⟩
  have key := (last_run (c := c) (b := b) i h3 h4 ⟨x2, x3, x4, x5, x6, x7, x8, x9, u, N10, [], (B11 e9), [], (B12 e10), [], (B13 e11), []⟩).go
  rw [hs u N10 (B11 e9) (B12 e10) (B13 e11) hu] at key
  iapply (key _)
  isplitr [Hg Ho]
  · unfold Inv
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HU]; · iexact HU
    isplitl [H8]; · iapply (found c b.a10 _); iexact H8
    isplitl [H9]; · iapply (found c b.a11 _); iexact H9
    isplitl [H10]; · iapply (found c b.a12 _); iexact H10
    isplitl [H11]; · iapply (found c b.a13 _); iexact H11
    isplitl [H12]; · iapply (forgetIt c b.a14 _); iexact H12
    isplitl [H13]; · iapply (forgetIt c b.a15 _); iexact H13
    isplitl [H14]; · iapply (forgetIt c b.a16 _); iexact H14
    isplitl [H15]; · iapply (forgetIt c b.a17 _); iexact H15
    isplitl [H16]; · iapply (forgetIt c b.a18 _); iexact H16
    isplitl [H17]; · iapply (forgetIt c b.a19 _); iexact H17
    isplitl [HS1]; · iapply (forgetIt c b.a21 _); iexact HS1
    iapply (forgetIt c b.a22 _); iexact HS2
  unfold Inv
  iintro ⟨H0, H1, H2, H3, H4, H5, H6, H7, HU, H8, H9, H10, H11, H12, H13, H14, H15, H16, H17, HS1, HS2⟩
  isplitl [HU HS1 HS2 Hg]
  · isplitl [HU]
    · iexists v; isplitr
      · ipureintro; exact hP
      iexact HU
    isplitl [HS1]; · iapply (atSome c b.a21); iexact HS1
    isplitl [HS2]; · iapply (atSome c b.a22); iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply (still c b.a10 _); iexact H8
  isplitl [H9]; · rw [← hN11 N10 (B11 e9) (B12 e10) (B13 e11)]; iapply (settle c b.a11 _ (keyL (⟨x2, x3, x4, x5, x6, x7, x8, x9, v, N10, [], (B11 e9), [], (B12 e10), [], (B13 e11), []⟩ : Held F)) (keyC (⟨x2, x3, x4, x5, x6, x7, x8, x9, v, N10, [], (B11 e9), [], (B12 e10), [], (B13 e11), []⟩ : Held F))); iexact H9
  isplitl [H10]; · rw [← hN12 N10 (B11 e9) (B12 e10) (B13 e11)]; iapply (settle c b.a12 _ (trL (⟨x2, x3, x4, x5, x6, x7, x8, x9, v, N10, [], (B11 e9), [], (B12 e10), [], (B13 e11), []⟩ : Held F)) (trC (⟨x2, x3, x4, x5, x6, x7, x8, x9, v, N10, [], (B11 e9), [], (B12 e10), [], (B13 e11), []⟩ : Held F))); iexact H10
  isplitl [H11]; · rw [← hN13 N10 (B11 e9) (B12 e10) (B13 e11)]; iapply (settle c b.a13 _ (gateL (⟨x2, x3, x4, x5, x6, x7, x8, x9, v, N10, [], (B11 e9), [], (B12 e10), [], (B13 e11), []⟩ : Held F)) (gateC (⟨x2, x3, x4, x5, x6, x7, x8, x9, v, N10, [], (B11 e9), [], (B12 e10), [], (B13 e11), []⟩ : Held F))); iexact H11
  isplitl [H12]; · iapply (atSome c b.a14); iexact H12
  isplitl [H13]; · iapply (atSome c b.a15); iexact H13
  isplitl [H14]; · iapply (atSome c b.a16); iexact H14
  isplitl [H15]; · iapply (atSome c b.a17); iexact H15
  isplitl [H16]; · iapply (atSome c b.a18); iexact H16
  iapply (atSome c b.a19); iexact H17

set_option maxHeartbeats 4000000 in
theorem sound_nat (c : Dev nD) (t : Fin cfg0.N) (h : t.val % 4 ≠ 3) :
    bodyPre m c t ⊢ wp frame (wpE (defs₀ (F := F)) Variants.none c none) Set.univ (bodyAt0 t) (fun _ => bodyPost m c t) := by
  unfold bodyPre bodyPost
  rw [show (dats m 0 c).owesAt () t.succ = (dats m 0 c).owesAt () t.castSucc from rfl]
  rw [leaves_0, leaves_1, leaves_2, leaves_3, leaves_4, leaves_5, leaves_6, leaves_7, leaves_8, leaves_9' m c t h, leaves_10' m c t h, leaves_11' m c t h]
  simp only [before_0, before_1, before_2, before_3, before_4, before_5, before_6, before_7]
  exact point_nat c (bufs t) (grid0.coords t) ((nat_iff t).2 h) (fun e => h ((last_iff t).1 e))
    (in0 m c t) (in1 m c t) (in2 m c t) (in3 m c t) (in4 m c t) (in5 m c t) (in6 m c t) (in7 m c t) (fun u => ∀ h : 0 < t.val, u = u0 m c (prev t)) (fun u => ∀ h : 0 < t.val + 1, u = u0 m c ⟨t.val + 1 - 1, by have := t.isLt; omega⟩) (u0 m c t)
    iprop(∃ r, prngReg c r) ((dats m 0 c).owesAt () t.castSucc) (natB m c t) ((dats m 0 c).before 9 t) ((dats m 0 c).before 10 t) ((dats m 0 c).before 11 t) ((dats m 0 c).before 8 t)
    (fun u d10 d11 d12 d13 hu => started m c t u hu d10 d11 d12 d13) (fun _ => rfl) (fun _ _ _ _ => rfl)

set_option maxHeartbeats 4000000 in
theorem sound_last (c : Dev nD) (t : Fin cfg0.N) (h : t.val % 4 = 3) :
    bodyPre m c t ⊢ wp frame (wpE (defs₀ (F := F)) Variants.none c none) Set.univ (bodyAt0 t) (fun _ => bodyPost m c t) := by
  unfold bodyPre bodyPost
  rw [show (dats m 0 c).owesAt () t.succ = (dats m 0 c).owesAt () t.castSucc from rfl]
  rw [leaves_0, leaves_1, leaves_2, leaves_3, leaves_4, leaves_5, leaves_6, leaves_7, leaves_8, leaves_9 m c t h, leaves_10 m c t h, leaves_11 m c t h]
  simp only [before_0, before_1, before_2, before_3, before_4, before_5, before_6, before_7, before_8 m c t h]
  exact point_last c (bufs t) (grid0.coords t) (fun e => (nat_iff t).1 e h) ((last_iff t).2 h)
    (in0 m c t) (in1 m c t) (in2 m c t) (in3 m c t) (in4 m c t) (in5 m c t) (in6 m c t) (in7 m c t) (fun u => ∀ h : 0 < t.val, u = u0 m c (prev t)) (fun u => ∀ h : 0 < t.val + 1, u = u0 m c ⟨t.val + 1 - 1, by have := t.isLt; omega⟩) (u0 m c t)
    iprop(∃ r, prngReg c r) ((dats m 0 c).owesAt () t.castSucc) (natB m c t) (keyB m c t) (trB m c t) (gateB m c t) ((dats m 0 c).before 9 t) ((dats m 0 c).before 10 t) ((dats m 0 c).before 11 t)
    (fun u d10 d11 d12 d13 hu => started m c t u hu d10 d11 d12 d13) (fun _ => rfl) (fun _ _ _ _ => rfl) (fun _ _ _ _ => rfl) (fun _ _ _ _ => rfl)

theorem obligation (c : Dev nD) : BodyObligation (dats (F := F) m 0 c) (defs₀ (F := F)) Variants.none () Set.univ fgt := fun t => by
  rw [bigSep_W0, bigSep_W0, row]
  refine triple_restated (?_ : bodyPre m c t ⊢ wp frame (wpE (defs₀ (F := F)) Variants.none c none) Set.univ (bodyAt0 t) (fun _ => bodyPost m c t)) rfl .rfl fun _ => .rfl
  by_cases h : t.val % 4 = 3
  · exact sound_last m c t h
  · exact sound_nat m c t h

theorem first (c : Dev nD) : Pipeline.ΦA spec0 c ⊢ (dats m 0 c).Φ 0 := by
  unfold Pipeline.ΦA; rw [scopedRest0_eq]
  dsimp only [dats]; simp only [owns_whole]
  iintro ⟨⟨⟨%a, H0⟩, H1, H2⟩, Hg⟩
  isplitl [H0]
  · iexists a; isplitr
    · ipureintro; intro h; exact absurd h (Nat.lt_irrefl 0)
    iexact H0
  isplitl [H1]; · iexact H1
  isplitl [H2]; · iexact H2
  iexact Hg

theorem last (c : Dev nD) : (dats m 0 c).Φ (Fin.last cfg0.N) ⊢ Pipeline.ΦA spec0 c := by
  unfold Pipeline.ΦA; rw [scopedRest0_eq]
  dsimp only [dats]; simp only [owns_whole]
  iintro ⟨⟨%u, %hu, H0⟩, H1, H2, Hg⟩
  isplitr [Hg]
  · isplitl [H0]; · iexists u; iexact H0
    isplitl [H1]; · iexact H1
    iexact H2
  iexact Hg

set_option backward.isDefEq.respectTransparency.types false in
/-- The whole run: the arrays end as the data say, and every counter ends at zero. -/
theorem run : θ_run defs (onTc (τ := τ) (main (F := F))) (s₀ m ρ)
    (fun r => (Pipeline.RDat.FramePost (cfgs 0) (fun c => (dats m 0 c).toRForget fgt) (V m)) r ∧ r.2.sem = fun _ => 0) :=
  Pipeline.θ_run_frame_track_forget_shared (Q' := _) cfgs (dats m) (0 : Fin 1) launch0.to₀ defs₀ Variants.none fgt m ρ main
    (hbody := fun c => (obligation m c).loose) (hq := fun _ _ _ => rfl)
    (howed := fun _ _ => rfl) (V := V m) (hmain := hmain m Variants.none) (hA := A_eq m)
    (hin := first m) (hout := last m)

/-- An output that is followed ends at the array its stated blocks make. -/
theorem ends {r : PUnit × MemSt nD τ sig (Elt F)} (h : Pipeline.RDat.FramePost (cfgs 0) (fun c => (dats m 0 c).toRForget fgt) (V m) r) (c : Dev nD) :
    r.2.mem ((c : Thread nD τ).loc main_v62_0) = (dats m 0 c).arrAt 8 cfg0.N
    ∧ r.2.mem ((c : Thread nD τ).loc main_v62_1) = (dats m 0 c).arrAt 9 cfg0.N
    ∧ r.2.mem ((c : Thread nD τ).loc main_v62_2) = (dats m 0 c).arrAt 10 cfg0.N
    ∧ r.2.mem ((c : Thread nD τ).loc main_v62_3) = (dats m 0 c).arrAt 11 cfg0.N :=
  ⟨((dats m 0 c).toRForget_arrAt_iff (fgt := fgt) (w := 8) (by decide) _ _).1 ((h c).1 8),
   ((dats m 0 c).toRForget_arrAt_iff (fgt := fgt) (w := 9) (by decide) _ _).1 ((h c).1 9),
   ((dats m 0 c).toRForget_arrAt_iff (fgt := fgt) (w := 10) (by decide) _ _).1 ((h c).1 10),
   ((dats m 0 c).toRForget_arrAt_iff (fgt := fgt) (w := 11) (by decide) _ _).1 ((h c).1 11)⟩

set_option maxHeartbeats 2000000 in
/-- THE FRAME: every argument array ends unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(Pipeline.RDat.FramePost.arr_in h.1 c 0 rfl).trans (V_main_arg0 m c),
      (Pipeline.RDat.FramePost.arr_in h.1 c 1 rfl).trans (V_main_arg1 m c),
      (Pipeline.RDat.FramePost.arr_in h.1 c 2 rfl).trans (V_main_arg2 m c),
      (Pipeline.RDat.FramePost.arr_in h.1 c 3 rfl).trans (V_main_arg3 m c),
      (Pipeline.RDat.FramePost.arr_in h.1 c 4 rfl).trans (V_main_arg4 m c),
      (Pipeline.RDat.FramePost.arr_in h.1 c 5 rfl).trans (V_main_arg5 m c)⟩, h.2⟩) (run m ρ)

end Cert.InprojIdeal.Proj

end
-- ==== Proof.InBit.lean ====
module

public import proofs.«01_k».proof.Proof.Gen.Inproj
public import proofs.«01_k».proof.Proof.InFrame

@[expose] public section

/-! The input projection's frame: nothing in the call changes under idealization, so the idealized kernel's frame is its. -/

set_option maxRecDepth 65536

noncomputable section

namespace Cert.InprojIdeal.Proj

open Cert.InprojIdeal Cert.InprojIdeal.Gen
open Idealize.ShloMosaic Idealize.ShloMosaic.TcCoe Idealize.SL.Sem

/-- Every argument array ends unchanged, and every counter at zero. -/
def Framed (F : FTy → Type) [FloatOps F] : Prop := ∀ (m : (ℓ : Loc nD τ sig) → Buf (Elt F) ℓ) (ρ : Dev nD → PrngReg),
  θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0)

end Cert.InprojIdeal.Proj

namespace Cert.Inproj.Proj

open Cert.Inproj Cert.Inproj.Gen
open Idealize.ShloMosaic Idealize.ShloMosaic.TcCoe Idealize.SL.Sem

/-- Every argument array ends unchanged, and every counter at zero. -/
def Framed (F : FTy → Type) [FloatOps F] : Prop := ∀ (m : (ℓ : Loc nD τ sig) → Buf (Elt F) ℓ) (ρ : Dev nD → PrngReg),
  θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0)

open Idealize.ShloMosaic.Tactic

variable {F : FTy → Type} [FloatOps F]

/-- The two calls are the same, so what their frames say is. -/
theorem same : @Cert.InprojIdeal.Proj.Framed F _ = @Framed F _ := by
  sl_kernel_rfl

/-- THE FRAME: every argument array ends unchanged, and every counter at zero. -/
theorem frame : Framed F := same (F := F) ▸ (fun m ρ => Cert.InprojIdeal.Proj.frame m ρ : Cert.InprojIdeal.Proj.Framed F)

end Cert.Inproj.Proj

end
-- ==== Proof.InVal.lean ====
module

public import proofs.«01_k».proof.Proof.InFrame
public import proofs.«01_k».proof.Proof.Gen.InprojReferenceIdeal.Run
public import Idealize.ShloMosaic.Lib.Pointwise
public import Idealize.ShloMosaic.Lib.Pipeline.ValueKit

@[expose] public section

/-! The input projection: what each grid point stores is the reference's block, so the four projections are the
reference's. -/

set_option maxRecDepth 16384

noncomputable section

namespace Cert.InRef

open Cert.InprojReferenceIdeal Cert.InprojReferenceIdeal.Gen
open Idealize.ShloMosaic Idealize.ShloMosaic.TcCoe Idealize.SL.Sem

/-- The normed tokens. -/
def U (x : FVec Ideal S8192x2048 .f32) (g : FVec Ideal S1x2048 .f32) : FVec Ideal S4096x2048 .f32 :=
  (mulf (mulf (extractStridedSlice S4096x2048 ![0, 0] x slices_S8192x2048_S4096x2048_0_0) (broadcastInDim S4096x2048 ![0, 1] bcast_S4096x1_S4096x2048_0_1 (Host.rsqrt (addf (Host.divf (broadcastInDim S4096x1 ![0] bcast_S4096_S4096x1_0 (Host.reduceAdd (mulf (extractStridedSlice S4096x2048 ![0, 0] x slices_S8192x2048_S4096x2048_0_0) (extractStridedSlice S4096x2048 ![0, 0] x slices_S8192x2048_S4096x2048_0_0)) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (broadcastInDim S4096x2048 ![0, 1] bcast_S1x2048_S4096x2048_0_1 g))

/-- The first projection. -/
def nat (x : FVec Ideal S8192x2048 .f32) (g : FVec Ideal S1x2048 .f32) (w : FVec Ideal S3072x2048 .bf16) : FVec Ideal S4096x3072 .bf16 :=
  truncf .bf16 (Host.dotGeneral dot_S4096x2048_S2048x3072_S4096x3072_1_0_0_1_n_n none (U x g) (transpose S2048x3072 [1, 0] (extf .f32 w bitsLt_bf16_f32) transposes_S3072x2048_S2048x3072_1_0)) bitsLt_bf16_f32
/-- The keys. -/
def keys (x : FVec Ideal S8192x2048 .f32) (g : FVec Ideal S1x2048 .f32) (w : FVec Ideal S1792x2048 .bf16) : FVec Ideal S4096x256 .bf16 :=
  truncf .bf16 (Host.dotGeneral dot_S4096x2048_S2048x256_S4096x256_1_0_0_1_n_n none (U x g) (transpose S2048x256 [1, 0] (extractStridedSlice S256x2048 ![1280, 0] (extf .f32 w bitsLt_bf16_f32) slices_S1792x2048_S256x2048_1280_0) transposes_S256x2048_S2048x256_1_0)) bitsLt_bf16_f32
/-- The queries and values, transposed. -/
def trs (x : FVec Ideal S8192x2048 .f32) (g : FVec Ideal S1x2048 .f32) (w : FVec Ideal S1792x2048 .bf16) : FVec Ideal S1280x4096 .bf16 :=
  truncf .bf16 (transpose S1280x4096 [1, 0] (Host.dotGeneral dot_S4096x2048_S2048x1280_S4096x1280_1_0_0_1_n_n none (U x g) (transpose S2048x1280 [1, 0] (extractStridedSlice S1280x2048 ![0, 0] (extf .f32 w bitsLt_bf16_f32) slices_S1792x2048_S1280x2048_0_0) transposes_S1280x2048_S2048x1280_1_0)) transposes_S4096x1280_S1280x4096_1_0) bitsLt_bf16_f32
/-- The gates. -/
def gates (x : FVec Ideal S8192x2048 .f32) (g : FVec Ideal S1x2048 .f32) (w : FVec Ideal S1792x2048 .bf16) : FVec Ideal S4096x128 .f32 :=
  Host.dotGeneral dot_S4096x2048_S2048x128_S4096x128_1_0_0_1_n_n none (U x g) (transpose S2048x128 [1, 0] (extractStridedSlice S128x2048 ![1536, 0] (extf .f32 w bitsLt_bf16_f32) slices_S1792x2048_S128x2048_1536_0) transposes_S128x2048_S2048x128_1_0)

variable (x : FVec Ideal S8192x2048 .f32) (g : FVec Ideal S1x2048 .f32)

theorem U_at (i : Fin 4096) (j : Fin 2048) (n : ℕ) (hn : n < 8192) (e : n = i.val) :
    U x g (ix2 i j) = x (ix2 ⟨n, hn⟩ j) * Ideal.rsqrt (Ideal.div (∑ k : Fin 2048, x (ix2 ⟨n, hn⟩ k) * x (ix2 ⟨n, hn⟩ k)) (Ideal.ofBits .f32 1157627904#32) + Ideal.ofBits .f32 897988541#32) * g (ix2 0 j) := by
  subst e
  pointwise [U]

theorem nat_at (w : FVec Ideal S3072x2048 .bf16) (i : Fin 4096) (j : Fin 3072) : nat x g w (ix2 i j) = ∑ k : Fin 2048, U x g (ix2 i k) * w (ix2 j k) := by
  unfold nat; generalize U x g = u; pointwise
theorem keys_at (w : FVec Ideal S1792x2048 .bf16) (i : Fin 4096) (j : Fin 256) : keys x g w (ix2 i j) = ∑ k : Fin 2048, U x g (ix2 i k) * w (ix2 ⟨1280 + j.val, by omega⟩ k) := by
  unfold keys; generalize U x g = u; pointwise
theorem trs_at (w : FVec Ideal S1792x2048 .bf16) (i : Fin 1280) (j : Fin 4096) : trs x g w (ix2 i j) = ∑ k : Fin 2048, U x g (ix2 j k) * w (ix2 ⟨i.val, by omega⟩ k) := by
  unfold trs; generalize U x g = u; pointwise
theorem gates_at (w : FVec Ideal S1792x2048 .bf16) (i : Fin 4096) (j : Fin 128) : gates x g w (ix2 i j) = ∑ k : Fin 2048, U x g (ix2 i k) * w (ix2 ⟨1536 + j.val, by omega⟩ k) := by
  unfold gates; generalize U x g = u; pointwise

end Cert.InRef

namespace Cert.InprojIdeal.Proj

open Cert.InprojIdeal Cert.InprojIdeal.Gen
open Idealize.ShloMosaic Idealize.ShloMosaic.TcCoe Idealize.SL.Sem

variable (m : (ℓ : Loc nD τ sig) → Buf (Elt Ideal) ℓ)

/-- Where each window sits at each grid point. -/
theorem idx : ∀ t : Fin cfg0.N, win0_0.index t = ![t.val / 4, 0] ∧ win0_2.index t = ![0, 0] ∧ win0_3.index t = ![min (t.val % 4) 2, 0] ∧
    win0_4.index t = ![0, 0] ∧ win0_8.index t = ![t.val / 4, min (t.val % 4) 2] ∧ win0_9.index t = ![t.val / 4, 0] ∧
    win0_10.index t = ![0, t.val / 4] ∧ win0_11.index t = ![t.val / 4, 0] :=
  (by decide +kernel : ∀ t : Fin grid0.N, _)

/-- The row of the arrays that row `i` of a point's block is. -/
def rowOf (t : Fin cfg0.N) (i : Fin 1024) : Fin 4096 := ⟨t.val / 4 * 1024 + i.val, by have := t.isLt; have : cfg0.N = 16 := rfl; omega⟩
/-- The column of the first projection that column `j` of a point's block is. -/
def colOf (t : Fin cfg0.N) (j : Fin 1024) : Fin 3072 := ⟨min (t.val % 4) 2 * 1024 + j.val, by omega⟩

theorem unit_off {s : Shape} (off size : Fin s.rank → ℕ) (h) (a : Fin s.rank) : (Rect.unit (s := s) off size h).off a = off a := rfl
theorem unit_stride {s : Shape} (off size : Fin s.rank → ℕ) (h) (a : Fin s.rank) : (Rect.unit (s := s) off size h).stride a = 1 := rfl

theorem tok_at (σ : Held Ideal) (i : Fin 1024) (k : Fin 2048) : tok σ (ix2 i k) = σ.u (ix2 i k) := by
  show σ.u _ = _
  blk_ext [Rect.idx_withinL, LoadRect.idx_apply, unit_off, unit_stride]
theorem rows5_at (σ : Held Ideal) (r : ℕ) (h) (hr : r + 256 ≤ 1024) (j : Fin 256) (k : Fin 2048) : rows5 σ r h (ix2 j k) = σ.x5 (ix2 ⟨r + j.val, by omega⟩ k) := by
  show σ.x5 _ = _
  blk_ext [Rect.idx_withinL, LoadRect.idx_apply, unit_off, unit_stride]
theorem rows6_at (σ : Held Ideal) (r : ℕ) (h) (hr : r + 256 ≤ 1792) (j : Fin 256) (k : Fin 2048) : rows6 σ r h (ix2 j k) = σ.x6 (ix2 ⟨r + j.val, by omega⟩ k) := by
  show σ.x6 _ = _
  blk_ext [Rect.idx_withinL, LoadRect.idx_apply, unit_off, unit_stride]

theorem pay_cols (a : Vec Ideal S1024x2048 .bf16) (b : Vec Ideal S256x2048 .bf16) (i : Fin 1024) (j : Fin 256) :
    k0_pay32 a b (ix2 i j) = ∑ k : Fin 2048, a (ix2 i k) * b (ix2 j k) := by
  pointwise [k0_pay32]
theorem pay_rows (a : Vec Ideal S1024x2048 .bf16) (b : Vec Ideal S256x2048 .bf16) (i : Fin 256) (j : Fin 1024) :
    k0_pay1777 a b (ix2 i j) = ∑ k : Fin 2048, b (ix2 i k) * a (ix2 j k) := by
  pointwise [k0_pay1777]
theorem pay_gate (a : Vec Ideal S1024x2048 .bf16) (b : Vec Ideal S128x2048 .bf16) (i : Fin 1024) (j : Fin 128) :
    k0_pay3529 a b (ix2 i j) = ∑ k : Fin 2048, a (ix2 i k) * b (ix2 j k) := by
  pointwise [k0_pay3529]

/-- A chunk of 256 columns. -/
theorem cols5 (σ : Held Ideal) (i j : Fin 1024) (x0 : Fin 1024) (x1 : Fin 256) (r : ℕ) (h) (hr : r + 256 ≤ 1024) (h0 : i.val = x0.val) (h1 : j.val = r + x1.val) :
    k0_pay32 (tok σ) (rows5 σ r h) (ix2 x0 x1) = ∑ k : Fin 2048, σ.u (ix2 i k) * σ.x5 (ix2 j k) := by
  rw [pay_cols, show i = x0 from Fin.ext h0, show j = ⟨r + x1.val, by omega⟩ from Fin.ext h1]
  exact Finset.sum_congr rfl fun k _ => by rw [tok_at, rows5_at σ r h hr]
/-- A chunk of 256 rows. -/
theorem rows (σ : Held Ideal) (i : Fin 1280) (j : Fin 1024) (x0 : Fin 256) (x1 : Fin 1024) (r : ℕ) (h) (hr : r + 256 ≤ 1280) (h0 : i.val = r + x0.val) (h1 : j.val = x1.val) :
    k0_pay1777 (tok σ) (rows6 σ r h) (ix2 x0 x1) = ∑ k : Fin 2048, σ.u (ix2 j k) * σ.x6 (ix2 ⟨i.val, by omega⟩ k) := by
  rw [pay_rows, show j = x1 from Fin.ext h1]
  refine Finset.sum_congr rfl fun k _ => ?_
  rw [tok_at, rows6_at σ r h (by omega), mul_comm]
  simp only [h0]

theorem natL_at (σ : Held Ideal) (hl : σ.l10 = []) (i j : Fin 1024) : View.canon (natL σ) (ix2 i j) = ∑ k : Fin 2048, σ.u (ix2 i k) * σ.x5 (ix2 j k) := by
  unfold natL; rw [hl]
  canon_tiles x h
  case piece0 => idx_vars x; exact cols5 σ i j x0 x1 768 _ (by omega) (by omega) (by omega)
  case piece1 => idx_vars x; exact cols5 σ i j x0 x1 512 _ (by omega) (by omega) (by omega)
  case piece2 => idx_vars x; exact cols5 σ i j x0 x1 256 _ (by omega) (by omega) (by omega)
  case piece3 => idx_vars x; exact cols5 σ i j x0 x1 0 _ (by omega) (by omega) (by omega)

theorem trL_at (σ : Held Ideal) (hl : σ.l12 = []) (i : Fin 1280) (j : Fin 1024) : View.canon (trL σ) (ix2 i j) = ∑ k : Fin 2048, σ.u (ix2 j k) * σ.x6 (ix2 ⟨i.val, by omega⟩ k) := by
  unfold trL; rw [hl]
  canon_tiles x h
  case piece0 => idx_vars x; exact rows σ i j x0 x1 1024 _ (by omega) (by omega) (by omega)
  case piece1 => idx_vars x; exact rows σ i j x0 x1 768 _ (by omega) (by omega) (by omega)
  case piece2 => idx_vars x; exact rows σ i j x0 x1 512 _ (by omega) (by omega) (by omega)
  case piece3 => idx_vars x; exact rows σ i j x0 x1 256 _ (by omega) (by omega) (by omega)
  case piece4 => idx_vars x; exact rows σ i j x0 x1 0 _ (by omega) (by omega) (by omega)

theorem keyL_at (σ : Held Ideal) (i : Fin 1024) (j : Fin 256) : View.canon (keyL σ) (ix2 i j) = ∑ k : Fin 2048, σ.u (ix2 i k) * σ.x6 (ix2 ⟨1280 + j.val, by omega⟩ k) := by
  unfold keyL
  rw [View.canon_cons_unit_zero (S := S1024x256) (View.eq_zero_of_forall zero2)]
  refine (pay_cols (tok σ) (rows6 σ 1280 _) i j).trans (Finset.sum_congr rfl fun k _ => ?_)
  rw [tok_at, rows6_at σ 1280 _ (by omega)]

theorem gateL_at (σ : Held Ideal) (i : Fin 1024) (j : Fin 128) : View.canon (gateL σ) (ix2 i j) = ∑ k : Fin 2048, σ.u (ix2 i k) * σ.x6 (ix2 ⟨1536 + j.val, by omega⟩ k) := by
  unfold gateL
  rw [View.canon_cons_unit_zero (S := S1024x128) (View.eq_zero_of_forall zero2), pay_gate]
  refine Finset.sum_congr rfl fun k _ => ?_
  rw [tok_at]
  refine congrArg (σ.u (ix2 i k) * ·) ?_
  show σ.x6 _ = _
  blk_ext [Rect.idx_withinL, LoadRect.idx_apply, unit_off, unit_stride]

/-! ## The points' blocks -/

theorem in0_at (c : Dev nD) (t : Fin cfg0.N) (i : Fin 1024) (k : Fin 2048) :
    in0 m c t (ix2 i k) = m ((c : Thread nD τ).loc main_arg0) (ix2 ⟨(rowOf t i).val, by omega⟩ k) := by
  unfold in0 iblk
  rw [show V m c (Pipeline.arrRef spec0 0) = m ((c : Thread nD τ).loc main_arg0) from V_main_arg0 m c]
  blk_point [idx t, rowOf]
theorem in2_at (c : Dev nD) (t : Fin cfg0.N) (k : Fin 2048) : in2 m c t (ix2 0 k) = m ((c : Thread nD τ).loc main_arg2) (ix2 0 k) := by
  unfold in2 iblk
  rw [show V m c (Pipeline.arrRef spec0 2) = m ((c : Thread nD τ).loc main_arg2) from V_main_arg2 m c]
  blk_point [idx t]
theorem in3_at (c : Dev nD) (t : Fin cfg0.N) (j : Fin 1024) (k : Fin 2048) : in3 m c t (ix2 j k) = m ((c : Thread nD τ).loc main_arg3) (ix2 (colOf t j) k) := by
  unfold in3 iblk
  rw [show V m c (Pipeline.arrRef spec0 3) = m ((c : Thread nD τ).loc main_arg3) from V_main_arg3 m c]
  blk_point [idx t, colOf]
theorem in4_at (c : Dev nD) (t : Fin cfg0.N) (j : Fin 1792) (k : Fin 2048) : in4 m c t (ix2 j k) = m ((c : Thread nD τ).loc main_arg4) (ix2 j k) := by
  unfold in4 iblk
  rw [show V m c (Pipeline.arrRef spec0 4) = m ((c : Thread nD τ).loc main_arg4) from V_main_arg4 m c]
  blk_point [idx t]

/-- The reference's normed tokens on the arguments of the kernel. -/
abbrev UR' (c : Dev nD) : FVec Ideal InprojReferenceIdeal.S4096x2048 .f32 :=
  InRef.U (m ((c : Thread nD τ).loc main_arg0)) (m ((c : Thread nD τ).loc main_arg2))

/-- A point norms the reference's rows. -/
theorem u0_at (c : Dev nD) (t : Fin cfg0.N) (i : Fin 1024) (k : Fin 2048) : u0 m c t (ix2 i k) = UR' m c (ix2 (rowOf t i) k) := by
  show _ = InRef.U _ _ _
  rw [InRef.U_at _ _ _ _ (rowOf t i).val (by omega) rfl, ← in2_at m c t k]
  simp only [← in0_at m c t]
  unfold u0
  generalize in0 m c t = a
  generalize in2 m c t = b
  pointwise [k0_pay1]

/-- What a point stores here is the reference's. -/
theorem natB_at (c : Dev nD) (t : Fin cfg0.N) (y0 y1 : Fin 1024) : natB m c t (ix2 y0 y1)
    = InRef.nat (m ((c : Thread nD τ).loc main_arg0)) (m ((c : Thread nD τ).loc main_arg2)) (m ((c : Thread nD τ).loc main_arg3)) (ix2 (rowOf t y0) (colOf t y1)) := by
  rw [InRef.nat_at]
  refine (natL_at (held0 m c t) rfl y0 y1).trans (Finset.sum_congr rfl fun k _ => ?_)
  exact congrArg₂ (· * ·) (u0_at m c t y0 k) (in3_at m c t y1 k)

/-- After the run this result is the reference's. -/
theorem final8 (c : Dev nD) : (dats m 0 c).arrAt 8 cfg0.N
    = InRef.nat (m ((c : Thread nD τ).loc main_arg0)) (m ((c : Thread nD τ).loc main_arg2)) (m ((c : Thread nD τ).loc main_arg3)) := by
  refine (dats m 0 c).arrAt_eq_of_covers 8 _ (by decide +kernel) fun t _ y => ?_
  idx_vars y
  rw [show ((cfg0.win 8).blk t).view.emb (ix2 y0 y1) = ix2 (rowOf t y0) (colOf t y1) by blk_ext [idx t, rowOf, colOf]]
  blk_simp
  exact (congrFun (after_8 m c t) (ix2 y0 y1)).trans (natB_at m c t y0 y1)

/-- What a point stores here is the reference's. -/
theorem keyB_at (c : Dev nD) (t : Fin cfg0.N) (y0 : Fin 1024) (y1 : Fin 256) : keyB m c t (ix2 y0 y1)
    = InRef.keys (m ((c : Thread nD τ).loc main_arg0)) (m ((c : Thread nD τ).loc main_arg2)) (m ((c : Thread nD τ).loc main_arg4)) (ix2 (rowOf t y0) y1) := by
  rw [InRef.keys_at]
  refine (keyL_at (held0 m c t) y0 y1).trans (Finset.sum_congr rfl fun k _ => ?_)
  exact congrArg₂ (· * ·) (u0_at m c t y0 k) (in4_at m c t ⟨1280 + y1.val, by omega⟩ k)

/-- After the run this result is the reference's. -/
theorem final9 (c : Dev nD) : (dats m 0 c).arrAt 9 cfg0.N
    = InRef.keys (m ((c : Thread nD τ).loc main_arg0)) (m ((c : Thread nD τ).loc main_arg2)) (m ((c : Thread nD τ).loc main_arg4)) := by
  refine (dats m 0 c).arrAt_eq_of_covers 9 _ (by decide +kernel) fun t _ y => ?_
  idx_vars y
  rw [show ((cfg0.win 9).blk t).view.emb (ix2 y0 y1) = ix2 (rowOf t y0) y1 by blk_ext [idx t, rowOf, colOf]]
  blk_simp
  exact (congrFun (after_9 m c t) (ix2 y0 y1)).trans (keyB_at m c t y0 y1)

/-- What a point stores here is the reference's. -/
theorem trB_at (c : Dev nD) (t : Fin cfg0.N) (y0 : Fin 1280) (y1 : Fin 1024) : trB m c t (ix2 y0 y1)
    = InRef.trs (m ((c : Thread nD τ).loc main_arg0)) (m ((c : Thread nD τ).loc main_arg2)) (m ((c : Thread nD τ).loc main_arg4)) (ix2 y0 (rowOf t y1)) := by
  rw [InRef.trs_at]
  refine (trL_at (held0 m c t) rfl y0 y1).trans (Finset.sum_congr rfl fun k _ => ?_)
  exact congrArg₂ (· * ·) (u0_at m c t y1 k) (in4_at m c t ⟨y0.val, by omega⟩ k)

/-- After the run this result is the reference's. -/
theorem final10 (c : Dev nD) : (dats m 0 c).arrAt 10 cfg0.N
    = InRef.trs (m ((c : Thread nD τ).loc main_arg0)) (m ((c : Thread nD τ).loc main_arg2)) (m ((c : Thread nD τ).loc main_arg4)) := by
  refine (dats m 0 c).arrAt_eq_of_covers 10 _ (by decide +kernel) fun t _ y => ?_
  idx_vars y
  rw [show ((cfg0.win 10).blk t).view.emb (ix2 y0 y1) = ix2 y0 (rowOf t y1) by blk_ext [idx t, rowOf, colOf]]
  blk_simp
  exact (congrFun (after_10 m c t) (ix2 y0 y1)).trans (trB_at m c t y0 y1)

/-- What a point stores here is the reference's. -/
theorem gateB_at (c : Dev nD) (t : Fin cfg0.N) (y0 : Fin 1024) (y1 : Fin 128) : gateB m c t (ix2 y0 y1)
    = InRef.gates (m ((c : Thread nD τ).loc main_arg0)) (m ((c : Thread nD τ).loc main_arg2)) (m ((c : Thread nD τ).loc main_arg4)) (ix2 (rowOf t y0) y1) := by
  rw [InRef.gates_at]
  refine (gateL_at (held0 m c t) y0 y1).trans (Finset.sum_congr rfl fun k _ => ?_)
  exact congrArg₂ (· * ·) (u0_at m c t y0 k) (in4_at m c t ⟨1536 + y1.val, by omega⟩ k)

/-- After the run this result is the reference's. -/
theorem final11 (c : Dev nD) : (dats m 0 c).arrAt 11 cfg0.N
    = InRef.gates (m ((c : Thread nD τ).loc main_arg0)) (m ((c : Thread nD τ).loc main_arg2)) (m ((c : Thread nD τ).loc main_arg4)) := by
  refine (dats m 0 c).arrAt_eq_of_covers 11 _ (by decide +kernel) fun t _ y => ?_
  idx_vars y
  rw [show ((cfg0.win 11).blk t).view.emb (ix2 y0 y1) = ix2 (rowOf t y0) y1 by blk_ext [idx t, rowOf, colOf]]
  blk_simp
  exact (congrFun (after_11 m c t) (ix2 y0 y1)).trans (gateB_at m c t y0 y1)

end Cert.InprojIdeal.Proj

end
-- ==== Proof.InClaim.lean ====
/- The input projection's claim: its kernel's four projections are its reference's. -/
module

public import proofs.«01_k».proof.Defs
public import proofs.«01_k».proof.Proof.Gen.InprojIdeal
public import proofs.«01_k».proof.Proof.Gen.InprojReferenceIdeal
public import proofs.«01_k».proof.Proof.InVal
public import Idealize.ShloMosaic.Lib.Quiescent

@[expose] public section

set_option maxRecDepth 16384

noncomputable section

namespace Cert.InprojIdeal.Proj

open Cert.InprojIdeal Cert.InprojIdeal.Gen
open Idealize.ShloMosaic Idealize.ShloMosaic.TcCoe Idealize.SL.Sem

variable (m : (ℓ : Loc nD τ sig) → Buf (Elt Ideal) ℓ) (ρ : Dev nD → PrngReg)

set_option maxHeartbeats 2000000 in
/-- The kernel's run, with what it leaves in its results. -/
theorem kernelRun : θ_run defs (onTc (τ := τ) (main (F := Ideal))) ⟨m, fun _ => 0, ρ⟩ (fun r => ∀ c : Dev nD,
      r.2.mem ((c.tc : Thread nD τ).loc main_v62_0) = (dats m 0 c).arrAt 8 cfg0.N
      ∧ r.2.mem ((c.tc : Thread nD τ).loc main_v62_1) = (dats m 0 c).arrAt 9 cfg0.N
      ∧ r.2.mem ((c.tc : Thread nD τ).loc main_v62_2) = (dats m 0 c).arrAt 10 cfg0.N
      ∧ r.2.mem ((c.tc : Thread nD τ).loc main_v62_3) = (dats m 0 c).arrAt 11 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h => fun c => ⟨(ends m h.1 c).1, (ends m h.1 c).2.1, (ends m h.1 c).2.2.1, (ends m h.1 c).2.2.2,
      (Pipeline.RDat.FramePost.arr_in h.1 c 0 rfl).trans (V_main_arg0 m c),
      (Pipeline.RDat.FramePost.arr_in h.1 c 1 rfl).trans (V_main_arg1 m c),
      (Pipeline.RDat.FramePost.arr_in h.1 c 2 rfl).trans (V_main_arg2 m c),
      (Pipeline.RDat.FramePost.arr_in h.1 c 3 rfl).trans (V_main_arg3 m c),
      (Pipeline.RDat.FramePost.arr_in h.1 c 4 rfl).trans (V_main_arg4 m c),
      (Pipeline.RDat.FramePost.arr_in h.1 c 5 rfl).trans (V_main_arg5 m c)⟩) (run m ρ)

end Cert.InprojIdeal.Proj

namespace Cert.Proof

open Idealize.ShloMosaic Idealize.SL.Sem

set_option maxHeartbeats 2000000 in
/-- The input projection's kernel computes the reference's four projections of the normed tokens. -/
theorem algebraic_inproj : Cert.algebraic_InprojIdeal_InprojReferenceIdeal (hInprojIdeal := Cert.InprojIdeal.Gen.facts)
    (hInprojReferenceIdeal := Cert.InprojReferenceIdeal.Gen.facts) := by
  intro m ρ m' ρ' _ hagree
  refine ⟨_, _, _, _, Cert.InprojIdeal.Proj.kernelRun m ρ, ?_⟩
  refine (θ_run Cert.InprojReferenceIdeal.defs _ _).mono (fun _ h c => ⟨(h c).1.trans ?_, (h c).2.1.trans ?_, (h c).2.2.1.trans ?_,
      (h c).2.2.2.1.trans ?_, (h c).2.2.2.2⟩)
    (Cert.InprojReferenceIdeal.Value.run (F := Ideal) m' ρ')
  · rw [Cert.InprojIdeal.Proj.final8 m c]
    obtain ⟨h0, h1, h2, h3, h4, h5⟩ := hagree c
    rw [h0, h2, h3]
    rfl
  · rw [Cert.InprojIdeal.Proj.final9 m c]
    obtain ⟨h0, h1, h2, h3, h4, h5⟩ := hagree c
    rw [h0, h2, h4]
    rfl
  · rw [Cert.InprojIdeal.Proj.final10 m c]
    obtain ⟨h0, h1, h2, h3, h4, h5⟩ := hagree c
    rw [h0, h2, h4]
    rfl
  · rw [Cert.InprojIdeal.Proj.final11 m c]
    obtain ⟨h0, h1, h2, h3, h4, h5⟩ := hagree c
    rw [h0, h2, h4]
    rfl

end Cert.Proof

end
-- ==== Proof.MlpRunIdeal.lean ====
module

public import proofs.«01_k».proof.Proof.Gen.MlpIdeal.Frame
public import proofs.«01_k».proof.Proof.Gen.MlpIdeal.Skeleton
public import Idealize.ShloMosaic.Lib.Pipeline.Routed
public import Idealize.ShloMosaic.Lib.Transfers

@[expose] public section

/-! The feed-forward kernel's body, run once for each kind of point: the first of a row block (it starts the copy of the
residual rows), a middle one, and the last (it waits for the copy and normalises). -/

set_option maxRecDepth 16384

noncomputable section

namespace Cert.MlpIdeal.Ffn

open Cert.MlpIdeal Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UC sig nD τ) ℕ

/-- The residual array, left in high-bandwidth memory. -/
abbrev hM : Memref sig .tc .hbm S8192x2048 .f32 := Memref.whole main_arg1
/-- The scratch buffer its rows are copied into. -/
abbrev bufM : Memref sig .tc .vmem S1024x2048 .f32 := Memref.whole cc0_scratch0
/-- The scratch buffer of the row sums of squares. -/
abbrev ssqM : Memref sig .tc .vmem S1024x128 .f32 := Memref.whole cc0_scratch1

/-- The rows of the residual array that the first point of a row block copies. -/
abbrev rowsA (i : grid0.Coords) (h : k0_cond1 i = 1#1) : Memref sig .tc .hbm S1024x2048 .f32 :=
  hM.slice (Rect.unit (s := S8192x2048) (k0_off1 i) S1024x2048.size (k0_off1_inb i h)) (fun _ => rfl)

/-- The rows of the residual array that the last point of a row block waits for. -/
abbrev rowsC (i : grid0.Coords) (h : k0_cond3 i = 1#1) : Memref sig .tc .hbm S1024x2048 .f32 :=
  hM.slice (Rect.unit (s := S8192x2048) (k0_off2 i) S1024x2048.size (k0_off2_inb i h)) (fun _ => rfl)

/-- The copy under way, of the rows `M` of the residual array at contents `x` into the scratch buffer found at `d`. -/
abbrev flying (c : Dev nD) (M : Memref sig .tc .hbm S1024x2048 .f32) (x : Buf (Elt F) (M.view.loc (c : Thread nD τ)))
    (d : Buf (Elt F) (bufM.view.loc (c : Thread nD τ))) : sProp 𝕄 :=
  Transfers.Flight (countersEmb (U := Pipeline.UC sig nD τ)) (c : Thread nD τ) (.dma cc0_scratch2.sem) () (bufM.view.amount (SemLoc.dma (sig := sig) cc0_scratch2.sem))
    iprop((bufM.view.loc (c : Thread nD τ) ↦[bufM.view.set]{fullShare} bufM.view.writes (Elt F) d [⟨Rect.whole S1024x2048, ReadAs.same.apply (M.view.read (Elt F) x)⟩])
      ∗ (M.view.loc (c : Thread nD τ) ↦[M.view.set]{fullShare} x))

set_option maxHeartbeats 1600000 in
/-- The first point of a row block. -/
def runA (c : Dev nD) (i : grid0.Coords) (arg2 : Memref sig .tc .vmem S1024x2048 .bf16) (harg2 : arg2.IsWhole) (arg4 : Memref sig .tc .vmem S2048x1024 .bf16) (harg4 : arg4.IsWhole)
    (arg5 : Memref sig .tc .vmem S1024x2048 .bf16) (harg5 : arg5.IsWhole) (arg6 : Memref sig .tc .vmem S1x2048 .f32) (harg6 : arg6.IsWhole) (arg7 : Memref sig .tc .vmem S1024x2048 .f32) (harg7 : arg7.IsWhole)
    (h1 : k0_cond1 i = 1#1) (h2 : ¬k0_cond2 i = 1#1) (h3 : ¬k0_cond3 i = 1#1)
    (x0 : Vec F S1024x2048 .bf16) (x1 : Vec F S2048x1024 .bf16) (x2 : Vec F S1024x2048 .bf16) :
    { L : List (View.Piece (Elt F) S1024x2048 .f32) //
      ∀ (K : PUnit → sProp 𝕄) (x : Buf (Elt F) ((rowsA i h1).view.loc (c : Thread nD τ))) (d : Buf (Elt F) (bufM.view.loc (c : Thread nD τ))),
        iprop(owns (c : Thread nD τ) arg2 fullShare x0 ∗ owns (c : Thread nD τ) arg4 fullShare x1 ∗ owns (c : Thread nD τ) arg5 fullShare x2
            ∗ (∃ d, owns (c : Thread nD τ) arg7 fullShare d)
            ∗ ((rowsA i h1).view.loc (c : Thread nD τ) ↦[(rowsA i h1).view.set]{fullShare} x)
            ∗ (bufM.view.loc (c : Thread nD τ) ↦[bufM.view.set]{fullShare} d)
            ∗ semVal ((c : Thread nD τ), SemLoc.dma cc0_scratch2.sem) 0
            ∗ (iprop(owns (c : Thread nD τ) arg2 fullShare x0 ∗ owns (c : Thread nD τ) arg4 fullShare x1 ∗ owns (c : Thread nD τ) arg5 fullShare x2
                ∗ (∃ f, arg7.view.loc (c : Thread nD τ) ↦[arg7.view.set]{fullShare} arg7.view.writes (Elt F) f L)
                ∗ flying c (rowsA i h1) x d) -∗ K ⟨⟩))
          ⊢ wp frame (wpE (defs₀ (F := F)) Variants.none c none) Set.univ
              (cc0_mlp i arg2 harg2 hM (Memref.isWhole_whole _) arg4 harg4 arg5 harg5 arg6 harg6 arg7 harg7 bufM (Memref.isWhole_whole _) ssqM (Memref.isWhole_whole _) cc0_scratch2) K } := by
  refine ⟨?_, fun K x d => ?run⟩
  case run =>
    rw [cc0_mlp_eq_skeleton]; unfold cc0_mlp_skel
    rw [k0_part1_eq_skeleton, k0_part2_eq_skeleton]; unfold k0_part1_skel k0_part2_skel
    unfold owns
    iintro ⟨⟨%f0, %hf0, H0⟩, ⟨%f1, %hf1, H1⟩, ⟨%f2, %hf2, H2⟩, ⟨%d4, %f4, -, H4⟩, Hx, Hd, Hs, Hk⟩
    obtain rfl := harg2.eq_unread hf0; obtain rfl := harg4.eq_unread hf1; obtain rfl := harg5.eq_unread hf2
    sl_exec (disch := first | sl_exact h1 | sl_exact h2 | sl_exact h3)
    sl_step
    iapply Hk
    isplitl [H0]
    · iexists _; isplitr; · ipureintro; exact harg2.read_unread _
      iexact H0
    isplitl [H1]
    · iexists _; isplitr; · ipureintro; exact harg4.read_unread _
      iexact H1
    isplitl [H2]
    · iexists _; isplitr; · ipureintro; exact harg5.read_unread _
      iexact H2
    isplitl [H4]; · iexists _; iexact H4
    iexact Hs

set_option maxHeartbeats 1600000 in
/-- A middle point of a row block: the output's buffer is found at `x4`. -/
def runB (c : Dev nD) (i : grid0.Coords) (arg2 : Memref sig .tc .vmem S1024x2048 .bf16) (harg2 : arg2.IsWhole) (arg4 : Memref sig .tc .vmem S2048x1024 .bf16) (harg4 : arg4.IsWhole)
    (arg5 : Memref sig .tc .vmem S1024x2048 .bf16) (harg5 : arg5.IsWhole) (arg6 : Memref sig .tc .vmem S1x2048 .f32) (harg6 : arg6.IsWhole) (arg7 : Memref sig .tc .vmem S1024x2048 .f32) (harg7 : arg7.IsWhole)
    (h1 : ¬k0_cond1 i = 1#1) (h2 : k0_cond2 i = 1#1) (h3 : ¬k0_cond3 i = 1#1)
    (x0 : Vec F S1024x2048 .bf16) (x1 : Vec F S2048x1024 .bf16) (x2 : Vec F S1024x2048 .bf16) (x4 : Vec F S1024x2048 .f32) :
    { L : List (View.Piece (Elt F) S1024x2048 .f32) //
      ∀ (K : PUnit → sProp 𝕄),
        iprop(owns (c : Thread nD τ) arg2 fullShare x0 ∗ owns (c : Thread nD τ) arg4 fullShare x1 ∗ owns (c : Thread nD τ) arg5 fullShare x2
            ∗ owns (c : Thread nD τ) arg7 fullShare x4
            ∗ (iprop(owns (c : Thread nD τ) arg2 fullShare x0 ∗ owns (c : Thread nD τ) arg4 fullShare x1 ∗ owns (c : Thread nD τ) arg5 fullShare x2
                ∗ (∃ f, arg7.view.loc (c : Thread nD τ) ↦[arg7.view.set]{fullShare} arg7.view.writes (Elt F) f L)) -∗ K ⟨⟩))
          ⊢ wp frame (wpE (defs₀ (F := F)) Variants.none c none) Set.univ
              (cc0_mlp i arg2 harg2 hM (Memref.isWhole_whole _) arg4 harg4 arg5 harg5 arg6 harg6 arg7 harg7 bufM (Memref.isWhole_whole _) ssqM (Memref.isWhole_whole _) cc0_scratch2) K } := by
  refine ⟨?_, fun K => ?run⟩
  case run =>
    rw [cc0_mlp_eq_skeleton]; unfold cc0_mlp_skel
    rw [k0_part3_eq_skeleton, k0_part4_eq_skeleton]; unfold k0_part3_skel k0_part4_skel
    unfold owns
    iintro ⟨⟨%f0, %hf0, H0⟩, ⟨%f1, %hf1, H1⟩, ⟨%f2, %hf2, H2⟩, ⟨%f4, %hf4, H4⟩, Hk⟩
    obtain rfl := harg2.eq_unread hf0; obtain rfl := harg4.eq_unread hf1; obtain rfl := harg5.eq_unread hf2; obtain rfl := harg7.eq_unread hf4
    sl_exec (disch := first | sl_exact h1 | sl_exact h2 | sl_exact h3)
    sl_step
    iapply Hk
    isplitl [H0]
    · iexists _; isplitr; · ipureintro; exact harg2.read_unread _
      iexact H0
    isplitl [H1]
    · iexists _; isplitr; · ipureintro; exact harg4.read_unread _
      iexact H1
    isplitl [H2]
    · iexists _; isplitr; · ipureintro; exact harg5.read_unread _
      iexact H2
    iexists _; iexact H4

set_option maxHeartbeats 3200000 in
/-- The last point of a row block: the output's buffer is found at `x4`, the rows of the residual array arrive. -/
def runC (c : Dev nD) (i : grid0.Coords) (arg2 : Memref sig .tc .vmem S1024x2048 .bf16) (harg2 : arg2.IsWhole) (arg4 : Memref sig .tc .vmem S2048x1024 .bf16) (harg4 : arg4.IsWhole)
    (arg5 : Memref sig .tc .vmem S1024x2048 .bf16) (harg5 : arg5.IsWhole) (arg6 : Memref sig .tc .vmem S1x2048 .f32) (harg6 : arg6.IsWhole) (arg7 : Memref sig .tc .vmem S1024x2048 .f32) (harg7 : arg7.IsWhole)
    (h1 : ¬k0_cond1 i = 1#1) (h2 : ¬k0_cond2 i = 1#1) (h3 : k0_cond3 i = 1#1)
    (x0 : Vec F S1024x2048 .bf16) (x1 : Vec F S2048x1024 .bf16) (x2 : Vec F S1024x2048 .bf16) (x3 : Vec F S1x2048 .f32) (x4 : Vec F S1024x2048 .f32)
    (x : Buf (Elt F) ((rowsC i h3).view.loc (c : Thread nD τ))) :
    { L : List (View.Piece (Elt F) S1024x2048 .f32) //
      ∀ (K : PUnit → sProp 𝕄) (d : Buf (Elt F) (bufM.view.loc (c : Thread nD τ))) (W : Waits sig Unit),
        iprop(owns (c : Thread nD τ) arg2 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ flying c (rowsC i h3) x d ∗ (∃ d, owns (c : Thread nD τ) ssqM fullShare d) ∗ owes (c : Thread nD τ) 0 W
            ∗ (iprop(owns (c : Thread nD τ) arg2 fullShare x0 ∗ owns (c : Thread nD τ) arg4 fullShare x1 ∗ owns (c : Thread nD τ) arg5 fullShare x2
                ∗ owns (c : Thread nD τ) arg6 fullShare x3
                ∗ (∃ f, arg7.view.loc (c : Thread nD τ) ↦[arg7.view.set]{fullShare} arg7.view.writes (Elt F) f L)
                ∗ ((rowsC i h3).view.loc (c : Thread nD τ) ↦[(rowsC i h3).view.set]{fullShare} x)
                ∗ (∃ f, bufM.view.loc (c : Thread nD τ) ↦[bufM.view.set]{fullShare} f)
                ∗ (∃ f, ssqM.view.loc (c : Thread nD τ) ↦[ssqM.view.set]{fullShare} f)
                ∗ semVal ((c : Thread nD τ), SemLoc.dma cc0_scratch2.sem) 0
                ∗ ∃ W, owes (c : Thread nD τ) 0 W) -∗ K ⟨⟩))
          ⊢ wp frame (wpE (defs₀ (F := F)) Variants.none c none) Set.univ
              (cc0_mlp i arg2 harg2 hM (Memref.isWhole_whole _) arg4 harg4 arg5 harg5 arg6 harg6 arg7 harg7 bufM (Memref.isWhole_whole _) ssqM (Memref.isWhole_whole _) cc0_scratch2) K } := by
  refine ⟨?_, fun K d W => ?run⟩
  case run =>
    rw [cc0_mlp_eq_skeleton]; unfold cc0_mlp_skel
    rw [k0_part5_eq_skeleton, k0_part6_eq_skeleton, k0_part7_eq_skeleton, k0_part8_eq_skeleton, k0_part9_eq_skeleton, k0_part10_eq_skeleton]
    unfold k0_part5_skel k0_part6_skel k0_part7_skel k0_part8_skel k0_part9_skel k0_part10_skel
    unfold owns
    iintro ⟨⟨%f0, %hf0, H0⟩, ⟨%f1, %hf1, H1⟩, ⟨%f2, %hf2, H2⟩, ⟨%f3, %hf3, H3⟩, ⟨%f4, %hf4, H4⟩, HF, ⟨%d9, %f9, -, H9⟩, HO, Hk⟩
    obtain rfl := harg2.eq_unread hf0; obtain rfl := harg4.eq_unread hf1; obtain rfl := harg5.eq_unread hf2; obtain rfl := harg6.eq_unread hf3; obtain rfl := harg7.eq_unread hf4
    sl_exec (disch := first | sl_exact h1 | sl_exact h2 | sl_exact h3)
    sl_step
    iapply Hk
    isplitl [H0]
    · iexists _; isplitr; · ipureintro; exact harg2.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HF_src]; · iexact HF_src
    isplitl [HF_dst]; · iexists _; iexact HF_dst
    isplitl [H9]; · iexists _; iexact H9
    isplitl [HF]; · iexact HF
    iexists _; iexact HO

end Cert.MlpIdeal.Ffn

end
-- ==== Proof.MlpFrameIdeal.lean ====
module

public import proofs.«01_k».proof.Proof.MlpRunIdeal

@[expose] public section

/-! The feed-forward kernel's run. Between the points of a row block the output's buffer holds what the point before left
and the copy of the residual rows is under way; before and after a row block the kernel holds everything itself. -/

set_option maxRecDepth 16384

noncomputable section

namespace Cert.MlpIdeal.Ffn

open Cert.MlpIdeal Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UC sig nD τ) ℕ

variable (m : (ℓ : Loc nD τ sig) → Buf (Elt F) ℓ) (ρ : Dev nD → PrngReg)

/-! ## Which kind of point a point is -/

/-- A row block's first point starts the copy. -/
theorem first_iff : ∀ t : Fin cfg0.N, k0_cond1 (grid0.coords t) = 1#1 ↔ t.val % 8 = 0 :=
  (by decide +kernel : ∀ t : Fin grid0.N, _)
/-- The points between the first and the last only add. -/
theorem middle_iff : ∀ t : Fin cfg0.N, k0_cond2 (grid0.coords t) = 1#1 ↔ (t.val % 8 ≠ 0 ∧ t.val % 8 ≠ 7) :=
  (by decide +kernel : ∀ t : Fin grid0.N, _)
/-- A row block's last point waits for the copy. -/
theorem last_iff : ∀ t : Fin cfg0.N, k0_cond3 (grid0.coords t) = 1#1 ↔ t.val % 8 = 7 :=
  (by decide +kernel : ∀ t : Fin grid0.N, _)

/-- Every point writes the output's buffer. -/
theorem never_idle : ∀ i : grid0.Coords, cfg0.idle 4 i = false := by
  intro i
  have key : ∀ j : Fin 8, ∀ i : grid0.Coords, i 1 = j → cfg0.idle 4 i = false := by
    intro j i h
    show (!(k0_cond1 i == 1#1) && !(k0_cond2 i == 1#1) && !(k0_cond3 i == 1#1)) = false
    unfold k0_cond1 k0_cond2 k0_cond3
    rw [h]; clear h i; revert j; decide +kernel
  exact key (i 1) i rfl

/-- Where row block `b` starts in the residual array. -/
def start (b : ℕ) : Fin 2 → ℕ := ![1024 * (b % 8), 0]

theorem start_inb (b : ℕ) : ∀ a, start b a + S1024x2048.size a ≤ S8192x2048.size a := by
  have : b % 8 < 8 := Nat.mod_lt _ (by omega)
  intro a
  match a with
  | 0 => show 1024 * (b % 8) + 1024 ≤ 8192; omega
  | 1 => show 0 + 2048 ≤ 2048; omega

theorem off1_eq : ∀ t : Fin cfg0.N, k0_off1 (grid0.coords t) = start (t.val / 8) :=
  (by decide +kernel : ∀ t : Fin grid0.N, _)
theorem off2_eq : ∀ t : Fin cfg0.N, k0_off2 (grid0.coords t) = start (t.val / 8) :=
  (by decide +kernel : ∀ t : Fin grid0.N, _)

/-! ## What the output's buffer holds after each point -/

theorem whole0 (t : Fin cfg0.N) : (st0_0 t).IsWhole := hstage0_0 ((cfg0.slots t 0).cast nbuf0_0)
theorem whole1 (t : Fin cfg0.N) : (st0_1 t).IsWhole := hstage0_1 ((cfg0.slots t 1).cast nbuf0_1)
theorem whole2 (t : Fin cfg0.N) : (st0_2 t).IsWhole := hstage0_2 ((cfg0.slots t 2).cast nbuf0_2)
theorem whole3 (t : Fin cfg0.N) : (st0_3 t).IsWhole := hstage0_3 ((cfg0.slots t 3).cast nbuf0_3)
theorem whole4 (t : Fin cfg0.N) : (st0_4 t).IsWhole := hstage0_4 ((cfg0.slots t 4).cast nbuf0_4)

/-- The run at a first point. -/
abbrev atA (c : Dev nD) (t : Fin cfg0.N) (h : t.val % 8 = 0) :=
  runA (F := F) c (grid0.coords t) (st0_0 t) (whole0 t) (st0_1 t) (whole1 t) (st0_2 t) (whole2 t) (st0_3 t) (whole3 t) (st0_4 t) (whole4 t)
    ((first_iff t).mpr h) (fun h' => ((middle_iff t).mp h').1 h) (fun h' => by have := (last_iff t).mp h'; omega)
    (iblk m c 0 t) (iblk m c 1 t) (iblk m c 2 t)

/-- The run at a middle point. -/
abbrev atB (c : Dev nD) (t : Fin cfg0.N) (h : t.val % 8 ≠ 0) (h7 : t.val % 8 ≠ 7) (x4 : Vec F S1024x2048 .f32) :=
  runB (F := F) c (grid0.coords t) (st0_0 t) (whole0 t) (st0_1 t) (whole1 t) (st0_2 t) (whole2 t) (st0_3 t) (whole3 t) (st0_4 t) (whole4 t)
    (fun h' => h ((first_iff t).mp h')) ((middle_iff t).mpr ⟨h, h7⟩) (fun h' => h7 ((last_iff t).mp h'))
    (iblk m c 0 t) (iblk m c 1 t) (iblk m c 2 t) x4

/-- The run at a last point. -/
abbrev atC (c : Dev nD) (t : Fin cfg0.N) (h7 : t.val % 8 = 7) (x4 : Vec F S1024x2048 .f32) :=
  runC (F := F) c (grid0.coords t) (st0_0 t) (whole0 t) (st0_1 t) (whole1 t) (st0_2 t) (whole2 t) (st0_3 t) (whole3 t) (st0_4 t) (whole4 t)
    (fun h' => by have := (first_iff t).mp h'; omega) (fun h' => ((middle_iff t).mp h').2 h7) ((last_iff t).mpr h7)
    (iblk m c 0 t) (iblk m c 1 t) (iblk m c 2 t) (iblk m c 3 t) x4 (V m c main_arg1)

/-- The stores of a first point cover the block. -/
theorem coverA (c : Dev nD) (t : Fin cfg0.N) (h : t.val % 8 = 0) : ∀ y : S1024x2048.Idx, ∃ p ∈ (atA m c t h).1, y ∈ p.1.set :=
  fun y => View.cover_of_tiledL (atA m c t h).1 S1024x256.size (by sl_kernel_rfl) y
theorem coverB (c : Dev nD) (t : Fin cfg0.N) (h : t.val % 8 ≠ 0) (h7 : t.val % 8 ≠ 7) (x4 : Vec F S1024x2048 .f32) :
    ∀ y : S1024x2048.Idx, ∃ p ∈ (atB m c t h h7 x4).1, y ∈ p.1.set :=
  fun y => View.cover_of_tiledL (atB m c t h h7 x4).1 S1024x256.size (by sl_kernel_rfl) y
theorem coverC (c : Dev nD) (t : Fin cfg0.N) (h7 : t.val % 8 = 7) (x4 : Vec F S1024x2048 .f32) :
    ∀ y : S1024x2048.Idx, ∃ p ∈ (atC m c t h7 x4).1, y ∈ p.1.set :=
  fun y => View.cover_of_tiledL (atC m c t h7 x4).1 S1024x256.size (by sl_kernel_rfl) y

/-- A whole buffer of the output's shape, to read stores back from. -/
abbrev outV : View sig .tc .vmem S1024x2048 .f32 := (Memref.whole cc0_scratch0 : Memref sig .tc .vmem S1024x2048 .f32).view

/-- What point `t` leaves in the output's buffer, found at `x4`. -/
def step (c : Dev nD) (t : Fin cfg0.N) (x4 : Vec F S1024x2048 .f32) : Vec F S1024x2048 .f32 :=
  if h : t.val % 8 = 0 then outV.read (Elt F) (outV.writes (Elt F) outV.junk (atA m c t h).1)
  else if h7 : t.val % 8 = 7 then outV.read (Elt F) (outV.writes (Elt F) outV.junk (atC m c t h7 x4).1)
  else outV.read (Elt F) (outV.writes (Elt F) outV.junk (atB m c t h h7 x4).1)

/-- What the points up to `n` leave in the output's buffer. -/
def left (c : Dev nD) : (n : ℕ) → n < cfg0.N → Vec F S1024x2048 .f32
  | 0, h => step m c ⟨0, h⟩ (outV.read (Elt F) outV.junk)
  | n + 1, h => step m c ⟨n + 1, h⟩ (left c n (Nat.lt_of_succ_lt h))

theorem step_A (c : Dev nD) (t : Fin cfg0.N) (x4 : Vec F S1024x2048 .f32) (h : t.val % 8 = 0) :
    step m c t x4 = outV.read (Elt F) (outV.writes (Elt F) outV.junk (atA m c t h).1) := by unfold step; rw [dif_pos h]
theorem step_C (c : Dev nD) (t : Fin cfg0.N) (x4 : Vec F S1024x2048 .f32) (h7 : t.val % 8 = 7) :
    step m c t x4 = outV.read (Elt F) (outV.writes (Elt F) outV.junk (atC m c t h7 x4).1) := by
  unfold step; rw [dif_neg (by omega), dif_pos h7]
theorem step_B (c : Dev nD) (t : Fin cfg0.N) (x4 : Vec F S1024x2048 .f32) (h : t.val % 8 ≠ 0) (h7 : t.val % 8 ≠ 7) :
    step m c t x4 = outV.read (Elt F) (outV.writes (Elt F) outV.junk (atB m c t h h7 x4).1) := by
  unfold step; rw [dif_neg h, dif_neg h7]

theorem left_first (c : Dev nD) (t : Fin cfg0.N) (h : t.val % 8 = 0) :
    left m c t.val t.isLt = outV.read (Elt F) (outV.writes (Elt F) outV.junk (atA m c t h).1) := by
  obtain ⟨n, hn⟩ := t
  cases n with
  | zero => exact step_A m c ⟨0, hn⟩ _ h
  | succ n => exact step_A m c ⟨n + 1, hn⟩ _ h

theorem left_later (c : Dev nD) (t : Fin cfg0.N) (h : t.val % 8 ≠ 0) :
    left m c t.val t.isLt = step m c t (left m c (t.val - 1) (Nat.lt_of_le_of_lt (Nat.sub_le _ _) t.isLt)) := by
  obtain ⟨n, hn⟩ := t
  cases n with
  | zero => exact absurd rfl h
  | succ n => rfl

/-! ## The invariant between points -/

/-- Rows of the residual array from `o`. -/
abbrev rowsO (o : Fin 2 → ℕ) (ho : ∀ a, o a + S1024x2048.size a ≤ S8192x2048.size a) : Memref sig .tc .hbm S1024x2048 .f32 :=
  hM.slice (Rect.unit (s := S8192x2048) o S1024x2048.size ho) (fun _ => rfl)

/-- While a copy of the rows from `o` is under way: the copy, the other rows, the second scratch buffer and the generator's register. -/
def during (c : Dev nD) (o : Fin 2 → ℕ) (ho : ∀ a, o a + S1024x2048.size a ≤ S8192x2048.size a) : sProp 𝕄 :=
  iprop((∃ d, flying c (rowsO o ho) (V m c main_arg1) d)
    ∗ (((c : Thread nD τ).loc main_arg1) ↦[Finset.univ \ (rowsO o ho).view.set]{fullShare} V m c main_arg1)
    ∗ (∃ f : Buf (Elt F) ((c : Thread nD τ).loc cc0_scratch1), ((c : Thread nD τ).loc cc0_scratch1) ↦{fullShare} f)
    ∗ ∃ r, prngReg c r)

theorem during_congr (c : Dev nD) (o o' : Fin 2 → ℕ) (h : o = o') (ho : ∀ a, o a + S1024x2048.size a ≤ S8192x2048.size a)
    (ho' : ∀ a, o' a + S1024x2048.size a ≤ S8192x2048.size a) : during m c o ho = during m c o' ho' := by subst h; rfl

/-- The kernel's own semaphore, on which the copy completes. -/
def osem : Unit → SemLoc sig := fun _ => .dma cc0_scratch2.sem

/-- Before and after a row block the kernel holds the residual array, its semaphore at zero and its scratch buffers. -/
theorem ends_eq (c : Dev nD) : (Pipeline.Ends spec0 osem {main_arg1} c (V m c) : sProp 𝕄)
    = iprop((((c : Thread nD τ).loc main_arg1) ↦{fullShare} V m c main_arg1)
      ∗ semVal ((c : Thread nD τ), SemLoc.dma cc0_scratch2.sem) 0
      ∗ ((∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f))
      ∗ ∃ r, prngReg c r) := by
  unfold Pipeline.Ends
  rw [Pipeline.routed_singleton, scopedRest0_eq, Pipeline.ownSems0_eq_of_list c osem [()] (by decide) (by decide)]
  rfl

/-- What the body holds before point `n`. -/
def between (c : Dev nD) (n : ℕ) : sProp 𝕄 :=
  if n % 8 = 0 then Pipeline.Ends spec0 osem {main_arg1} c (V m c) else during m c (start (n / 8)) (start_inb _)

theorem between_ends (c : Dev nD) (n : ℕ) (h : n % 8 = 0) : between m c n = Pipeline.Ends spec0 osem {main_arg1} c (V m c) := if_pos h

/-- The proof data. -/
def dats (p : Fin 1) (c : Dev nD) : Dat τ (Elt F) Unit ℕ (Pipeline.UC sig nD τ) ℕ (cfgs p) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => left m c t.val t.isLt
  Φ t := between m c t.val
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = left m c t.val t.isLt := by dsimp only [dats]

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
/-- Within a row block the output's buffer is found as the point before left it. -/
theorem before_4 (c : Dev nD) (t : Fin cfg0.N) (h : t.val % 8 ≠ 0) (d) :
    (dats m 0 c).before 4 t d = left m c (t.val - 1) (Nat.lt_of_le_of_lt (Nat.sub_le _ _) t.isLt) := by
  have hN : t.val < 64 := lt_of_lt_of_eq t.isLt (show cfg0.N = 64 from N_0)
  rw [(dats m 0 c).before_out_kept 4 rfl t (by omega) (by
    rw [Bool.eq_false_iff]; intro hf
    have := (flush0_4 _).mp hf
    dsimp only at this; omega) never_idle (fun _ _ => rfl), after_4]

/-- What the body is called with at point `t`, the windows one by one. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What the body leaves at point `t`. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_0 (c : Dev nD) (t : Fin cfg0.N) : (dats m 0 c).leavesExact 0 t = (owns (c : Thread nD τ) (st0_0 t) fullShare (iblk m c 0 t) : sProp 𝕄) := by
  unfold Dat.leavesExact; rw [show cfg0.idle 0 (grid0.coords t) = false from rfl, after_0]
theorem leaves_1 (c : Dev nD) (t : Fin cfg0.N) : (dats m 0 c).leavesExact 1 t = (owns (c : Thread nD τ) (st0_1 t) fullShare (iblk m c 1 t) : sProp 𝕄) := by
  unfold Dat.leavesExact; rw [show cfg0.idle 1 (grid0.coords t) = false from rfl, after_1]
theorem leaves_2 (c : Dev nD) (t : Fin cfg0.N) : (dats m 0 c).leavesExact 2 t = (owns (c : Thread nD τ) (st0_2 t) fullShare (iblk m c 2 t) : sProp 𝕄) := by
  unfold Dat.leavesExact; rw [show cfg0.idle 2 (grid0.coords t) = false from rfl, after_2]
theorem leaves_3 (c : Dev nD) (t : Fin cfg0.N) : (dats m 0 c).leavesExact 3 t = (owns (c : Thread nD τ) (st0_3 t) fullShare (iblk m c 3 t) : sProp 𝕄) := by
  unfold Dat.leavesExact; rw [show cfg0.idle 3 (grid0.coords t) = false from rfl, after_3]
theorem leaves_4 (c : Dev nD) (t : Fin cfg0.N) : (dats m 0 c).leavesExact 4 t = (owns (c : Thread nD τ) (st0_4 t) fullShare (left m c t.val t.isLt) : sProp 𝕄) := by
  unfold Dat.leavesExact; rw [show cfg0.idle 4 (grid0.coords t) = false from never_idle _, after_4]

theorem owes_eq (c : Dev nD) (t : Fin (cfg0.N + 1)) : (dats m 0 c).owesAt () t
    = (iprop(∃ W : Waits sig Unit, ⌜(↑W : Set _) ⊆ (dats m 0 c).bound () t⌝ ∗ owes (c : Thread nD τ) 0 W) : sProp 𝕄) := rfl

theorem bound_univ (c : Dev nD) (t : Fin (cfg0.N + 1)) (W : Waits sig Unit) : (↑W : Set (SemLoc sig × Unit)) ⊆ (dats m 0 c).bound () t :=
  fun _ _ => Or.inl trivial

set_option maxHeartbeats 1600000 in
/-- The body at a first point. -/
theorem sound_A (c : Dev nD) (t : Fin cfg0.N) (h : t.val % 8 = 0) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [leaves_0, leaves_1, leaves_2, leaves_3, leaves_4, left_first m c t h]
  rw [show (dats m 0 c).owesAt () t.succ = (dats m 0 c).owesAt () t.castSucc from rfl]
  rw [show (dats m 0 c).Φ t.castSucc = Pipeline.Ends spec0 osem {main_arg1} c (V m c) from if_pos h, ends_eq,
    show (dats m 0 c).Φ t.succ = during m c (k0_off1 (grid0.coords t)) (k0_off1_inb (grid0.coords t) ((first_iff t).mpr h)) from
      (if_neg (show ¬(t.val + 1) % 8 = 0 by omega)).trans (during_congr m c _ _ (by
        rw [off1_eq]; congr 1; show (t.val + 1) / 8 = t.val / 8; omega) _ _)]
  unfold during
  iintro ⟨⟨Hh, Hs, ⟨⟨%f0, Hb⟩, Hq⟩, Hg⟩, Ho, ⟨%d0, H0⟩, ⟨%d1, H1⟩, ⟨%d2, H2⟩, ⟨%d3, H3⟩, ⟨%d4, H4⟩⟩
  ihave Hh := (pointsTo_split_subset (Finset.subset_univ (rowsA (grid0.coords t) ((first_iff t).mpr h)).view.set)).1 $$ Hh
  icases Hh with ⟨Hx, Hr⟩
  iapply ((atA m c t h).2 _ (V m c main_arg1) f0)
  isplitl [H0]; · iexact H0
  isplitl [H1]; · iexact H1
  isplitl [H2]; · iexact H2
  isplitl [H4]; · iexists _; iexact H4
  isplitl [Hx]; · iexact Hx
  isplitl [Hb]; · iapply (show (((c : Thread nD τ).loc cc0_scratch0) ↦{fullShare} f0 : sProp 𝕄) ⊢ (bufM.view.loc (c : Thread nD τ) ↦[bufM.view.set]{fullShare} f0) from by rw [View.set_whole]); iexact Hb
  isplitl [Hs]; · iexact Hs
  iintro ⟨H0, H1, H2, ⟨%e4, H4⟩, HF⟩
  isplitl [HF Hr Hq Hg]
  · isplitl [HF]; · iexists _; iexact HF
    isplitl [Hr]; · iexact Hr
    isplitl [Hq]; · iexact Hq
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (coverA m c t h)

set_option maxHeartbeats 1600000 in
/-- The body at a middle point. -/
theorem sound_B (c : Dev nD) (t : Fin cfg0.N) (h : t.val % 8 ≠ 0) (h7 : t.val % 8 ≠ 7) :
    bodyPre m c t ⊢ wp frame (wpE (defs₀ (F := F)) Variants.none c none) Set.univ (bodyAt0 t) (fun _ => bodyPost m c t) := by
  unfold bodyPre bodyPost bodyAt0
  simp only [before_0, before_1, before_2, before_3, before_4 m c t h]
  rw [leaves_0, leaves_1, leaves_2, leaves_3, leaves_4, left_later m c t h, step_B m c t _ h h7]
  rw [show (dats m 0 c).owesAt () t.succ = (dats m 0 c).owesAt () t.castSucc from rfl]
  rw [show (dats m 0 c).Φ t.succ = (dats m 0 c).Φ t.castSucc from
      (if_neg (show ¬(t.val + 1) % 8 = 0 by omega)).trans ((during_congr m c _ _ (by
        congr 1; show (t.val + 1) / 8 = t.val / 8; omega) _ _).trans (if_neg (show ¬t.val % 8 = 0 from h)).symm)]
  iintro ⟨HP, Ho, ⟨%d0, H0⟩, ⟨%d1, H1⟩, ⟨%d2, H2⟩, ⟨%d3, H3⟩, ⟨%d4, H4⟩⟩
  iapply ((atB m c t h h7 _).2 _)
  isplitl [H0]; · iexact H0
  isplitl [H1]; · iexact H1
  isplitl [H2]; · iexact H2
  isplitl [H4]; · iexact H4
  iintro ⟨H0, H1, H2, ⟨%e4, H4⟩⟩
  isplitl [HP]; · iexact HP
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (coverB m c t h h7 _)

set_option maxHeartbeats 1600000 in
/-- The body at a last point. -/
theorem sound_C (c : Dev nD) (t : Fin cfg0.N) (h7 : t.val % 8 = 7) :
    bodyPre m c t ⊢ wp frame (wpE (defs₀ (F := F)) Variants.none c none) Set.univ (bodyAt0 t) (fun _ => bodyPost m c t) := by
  have h : t.val % 8 ≠ 0 := by omega
  unfold bodyPre bodyPost bodyAt0
  simp only [before_0, before_1, before_2, before_3, before_4 m c t h]
  rw [leaves_0, leaves_1, leaves_2, leaves_3, leaves_4, left_later m c t h, step_C m c t _ h7]
  rw [owes_eq, owes_eq]
  rw [show (dats m 0 c).Φ t.succ = Pipeline.Ends spec0 osem {main_arg1} c (V m c) from if_pos (show (t.val + 1) % 8 = 0 by omega), ends_eq,
    show (dats m 0 c).Φ t.castSucc = during m c (k0_off2 (grid0.coords t)) (k0_off2_inb (grid0.coords t) ((last_iff t).mpr h7)) from
      (if_neg (show ¬t.val % 8 = 0 from h)).trans (during_congr m c _ _ (off2_eq t).symm _ _)]
  unfold during
  iintro ⟨⟨⟨%d, HF⟩, Hr, ⟨%fq, Hq⟩, Hg⟩, ⟨%W, -, Ho⟩, ⟨%d0, H0⟩, ⟨%d1, H1⟩, ⟨%d2, H2⟩, ⟨%d3, H3⟩, ⟨%d4, H4⟩⟩
  iapply ((atC m c t h7 _).2 _ d W)
  isplitl [H0]; · iexact H0
  isplitl [H1]; · iexact H1
  isplitl [H2]; · iexact H2
  isplitl [H3]; · iexact H3
  isplitl [H4]; · iexact H4
  isplitl [HF]; · iexact HF
  isplitl [Hq]
  · iexists _; unfold owns; iexists fq; isplitr; swap
    · iapply (show (((c : Thread nD τ).loc cc0_scratch1) ↦{fullShare} fq : sProp 𝕄) ⊢ (ssqM.view.loc (c : Thread nD τ) ↦[ssqM.view.set]{fullShare} fq) from by rw [View.set_whole])
      iexact Hq
    ipureintro; rfl
  isplitl [Ho]; · iexact Ho
  iintro ⟨H0, H1, H2, H3, ⟨%e4, H4⟩, Hx, ⟨%fb, Hb⟩, ⟨%fs, Hq⟩, Hs, ⟨%W', Ho⟩⟩
  isplitl [Hx Hr Hb Hq Hs Hg]
  · isplitl [Hx Hr]
    · iapply (pointsTo_split_subset (Finset.subset_univ (rowsC (grid0.coords t) ((last_iff t).mpr h7)).view.set)).2
      isplitl [Hx]; · iexact Hx
      iexact Hr
    isplitl [Hs]; · iexact Hs
    isplitl [Hb Hq]
    · isplitl [Hb]
      · iexists fb
        iapply (show (bufM.view.loc (c : Thread nD τ) ↦[bufM.view.set]{fullShare} fb : sProp 𝕄) ⊢ (((c : Thread nD τ).loc cc0_scratch0) ↦{fullShare} fb) from by rw [View.set_whole])
        iexact Hb
      iexists fs
      iapply (show (ssqM.view.loc (c : Thread nD τ) ↦[ssqM.view.set]{fullShare} fs : sProp 𝕄) ⊢ (((c : Thread nD τ).loc cc0_scratch1) ↦{fullShare} fs) from by rw [View.set_whole])
      iexact Hq
    iexact Hg
  isplitl [Ho]
  · iexists W'; isplitr; · ipureintro; exact bound_univ m c _ W'
    iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (coverC m c t h7 _)

/-- The body at every point. -/
theorem sound_body (c : Dev nD) (t : Fin cfg0.N) :
    bodyPre m c t ⊢ wp frame (wpE (defs₀ (F := F)) Variants.none c none) Set.univ (bodyAt0 t) (fun _ => bodyPost m c t) := by
  by_cases h : t.val % 8 = 0
  · exact sound_A m c t h
  by_cases h7 : t.val % 8 = 7
  · exact sound_C m c t h7
  exact sound_B m c t h h7

/-- The body table's row at point `t`'s slots is the body. -/
theorem row (t : Fin cfg0.N) : defs₀ (F := F) .tc cfg0.body (cfg0.bodyArgs t (cfg0.slots t)) = bodyAt0 t := by
  unfold defs₀; rw [Defs.onTc_tc]

/-- The body obligation at every point. -/
theorem obligation (c : Dev nD) : BodyObligation (dats (F := F) m 0 c) (defs₀ (F := F)) Variants.none () Set.univ := fun t => by
  rw [bigSep_W0, bigSep_W0, row]
  exact triple_restated (sound_body m c t) rfl .rfl fun _ => .rfl

/-- The main function up to the launch is the launch alone. -/
theorem mainIs : Pipeline.HMain (Ix := Unit) (Name := ℕ) (U := Pipeline.UC sig nD τ) (Lvl := ℕ) cfgs 0 defs₀ Variants.none m (main (F := F)) (V m) :=
  Pipeline.hmain_region cfgs 0 defs₀ Variants.none m main fun c => (main_chain c).trans rfl

theorem ownFacts : Pipeline.OwnSemFacts spec0 osem := by decide

set_option backward.isDefEq.respectTransparency.types false in
/-- The whole run: the arrays end as the data say, the residual array as it was, and every counter at zero. -/
theorem run : θ_run defs (onTc (τ := τ) (main (F := F))) (s₀ m ρ)
    (fun r => Pipeline.RoutedPost cfgs (dats m) 0 {main_arg1} (V m) (V m) r ∧ r.2.sem = fun _ => 0) :=
  Pipeline.θ_run_frame_routed (Q' := _) cfgs (dats m) (0 : Fin 1) launch0 ownFacts defs₀ Variants.none m ρ main
    (hbody := fun c => (obligation m c).loose) (hshare := fun c w => by fin_cases w <;> rfl)
    (howed := fun _ _ => rfl) (V := V m) (hmain := mainIs m) (hA := A_eq m) (R := {main_arg1}) (hR := by decide) (Y := V m)
    (hin := fun c => Entails.of_eq (between_ends m c 0 rfl).symm) (hout := fun c => Entails.of_eq (between_ends m c grid0.N (by rw [N_0])))

/-- THE FRAME: every argument array ends unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).1 0).trans (((dats m 0 c).arrAt_in 0 rfl _).trans (A_eq m c 0)),
      (h.1 c).2.1 main_arg1 (Finset.mem_singleton_self _),
      ((h.1 c).1 1).trans (((dats m 0 c).arrAt_in 1 rfl _).trans (A_eq m c 1)),
      ((h.1 c).1 2).trans (((dats m 0 c).arrAt_in 2 rfl _).trans (A_eq m c 2)),
      ((h.1 c).1 3).trans (((dats m 0 c).arrAt_in 3 rfl _).trans (A_eq m c 3))⟩, h.2⟩) (run m ρ)

end Cert.MlpIdeal.Ffn

end
-- ==== Proof.MlpBit.lean ====
module

public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.MlpFrameIdeal

@[expose] public section

/-! The feed-forward kernel's frame: nothing in the call changes under idealization, so the idealized kernel's frame is its. -/

set_option maxRecDepth 65536

noncomputable section

namespace Cert.Mlp.Ffn

open Cert.Mlp Cert.Mlp.Gen
open Idealize.ShloMosaic Idealize.ShloMosaic.TcCoe Idealize.SL.Sem

variable {F : FTy → Type} [FloatOps F]
variable (m : (ℓ : Loc nD τ sig) → Buf (Elt F) ℓ) (ρ : Dev nD → PrngReg)

set_option maxHeartbeats 0 in
/-- The two calls' own definitions are the same. -/
theorem same_defs₀ : @Cert.MlpIdeal.defs₀ F _ _ = @defs₀ F _ _ := by
  refine congrArg (Defs.onTc (nD := nD) (τ := τ) (sig := sig) (Val := Elt F) (Λ := Λ₀)) (funext fun l => funext fun a => ?_)
  match l, a with
  | 0, (t, s) => with_unfolding_all rfl
  | ⟨_ + 1, h⟩, _ => exact absurd h (Nat.not_lt.2 (Nat.le_add_left _ _))

/-- The two calls' definitions are the same. -/
theorem same_defs : @Cert.MlpIdeal.defs F _ _ = @defs F _ _ := congrArg (Pipeline.defs (pcfgs (F := F))) same_defs₀

set_option maxHeartbeats 0 in
/-- THE FRAME: every argument array ends unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  have key : ∀ D, D = defs (F := F) → ∀ Q, θ_run D (onTc (τ := τ) (main (F := F))) ⟨m, fun _ => 0, ρ⟩ Q →
      θ_run defs (onTc (τ := τ) (main (F := F))) ⟨m, fun _ => 0, ρ⟩ Q := by
    rintro _ rfl Q h; exact h
  exact key _ same_defs _ (@Cert.MlpIdeal.Ffn.frame F _ m ρ)

end Cert.Mlp.Ffn

end
-- ==== Proof.MlpVal.lean ====
module

public import proofs.«01_k».proof.Proof.MlpFrameIdeal
public import Idealize.ShloMosaic.Lib.WholeRead
public import Idealize.ShloMosaic.Lib.Pointwise
public import Idealize.ShloMosaic.Lib.Pipeline.ValueKit

@[expose] public section

/-! What each point of the feed-forward kernel leaves in the output's buffer, as sums over the point's blocks. -/

set_option maxRecDepth 16384

noncomputable section

namespace Cert.MlpIdeal.Ffn

open Cert.MlpIdeal Cert.MlpIdeal.Gen
open Idealize.ShloMosaic Idealize.ShloMosaic.TcCoe Idealize.SL.Sem

variable (m : (ℓ : Loc nD τ sig) → Buf (Elt Ideal) ℓ)

/-- The square of the positive part. -/
def sq (s : EReal) : EReal := max s 0 * max s 0

/-- What a point adds at row `i` and column `j`: its hidden units, each times its row of the second weight. -/
def part (X0 : FVec Ideal S1024x2048 .bf16) (X1 : FVec Ideal S2048x1024 .bf16) (X2 : FVec Ideal S1024x2048 .bf16) (i : Fin 1024) (j : Fin 2048) : EReal :=
  ∑ k : Fin 1024, sq (∑ l : Fin 2048, X0 (ix2 i l) * X1 (ix2 l k)) * X2 (ix2 k j)

/-- The hidden units of a point, which the kernel computes 256 at a time. -/
theorem act_at (v0 : Vec Ideal S1024x2048 .bf16) (w0 : Vec Ideal S2048x256 .bf16) (v1 : Vec Ideal S1024x2048 .bf16) (w1 : Vec Ideal S2048x256 .bf16)
    (v2 : Vec Ideal S1024x2048 .bf16) (w2 : Vec Ideal S2048x256 .bf16) (v3 : Vec Ideal S1024x2048 .bf16) (w3 : Vec Ideal S2048x256 .bf16)
    (X0 : FVec Ideal S1024x2048 .bf16) (X1 : FVec Ideal S2048x1024 .bf16)
    (a0 : ∀ i l, v0 (ix2 i l) = X0 (ix2 i l)) (a1 : ∀ i l, v1 (ix2 i l) = X0 (ix2 i l)) (a2 : ∀ i l, v2 (ix2 i l) = X0 (ix2 i l)) (a3 : ∀ i l, v3 (ix2 i l) = X0 (ix2 i l))
    (b0 : ∀ (l : Fin 2048) (k : Fin 256), w0 (ix2 l k) = X1 (ix2 l ⟨0 + k.val, by omega⟩)) (b1 : ∀ (l : Fin 2048) (k : Fin 256), w1 (ix2 l k) = X1 (ix2 l ⟨256 + k.val, by omega⟩))
    (b2 : ∀ (l : Fin 2048) (k : Fin 256), w2 (ix2 l k) = X1 (ix2 l ⟨512 + k.val, by omega⟩)) (b3 : ∀ (l : Fin 2048) (k : Fin 256), w3 (ix2 l k) = X1 (ix2 l ⟨768 + k.val, by omega⟩))
    (i k : Fin 1024) :
    k0_pay5 (F := Ideal) v0 w0 v1 w1 v2 w2 v3 w3 (ix2 i k) = sq (∑ l : Fin 2048, X0 (ix2 i l) * X1 (ix2 l k)) := by
  pointwise [k0_pay5]
  simp only [a0, a1, a2, a3, b0, b1, b2, b3]
  have key : ∀ (n : ℕ) (hn : n < 1024), n = k.val →
      max (∑ x : Fin 2048, X0 (ix2 i x) * X1 (ix2 x ⟨n, hn⟩)) 0 * max (∑ x : Fin 2048, X0 (ix2 i x) * X1 (ix2 x ⟨n, hn⟩)) 0
        = sq (∑ l : Fin 2048, X0 (ix2 i l) * X1 (ix2 l k)) := by
    intro n hn e; subst e; rfl
  split_ifs <;> exact key _ _ (by omega)

/-- The hidden units times 256 columns of the second weight. -/
def mm (v : FVec Ideal S1024x1024 .bf16) (w : Vec Ideal S1024x256 .bf16) : FVec Ideal S1024x256 .f32 :=
  k0_pay1 v w

/-- The product added to what was there. -/
def mmAdd (v : FVec Ideal S1024x1024 .bf16) (w : Vec Ideal S1024x256 .bf16) (o : Vec Ideal S1024x256 .f32) : FVec Ideal S1024x256 .f32 :=
  k0_pay15 (mm v w) o

/-- The product and the residual rows added to what was there. -/
def mmRes (v : FVec Ideal S1024x1024 .bf16) (w : Vec Ideal S1024x256 .bf16) (o r : Vec Ideal S1024x256 .f32) : FVec Ideal S1024x256 .f32 :=
  addf (mmAdd v w o) r

theorem mm_at (v : FVec Ideal S1024x1024 .bf16) (w : Vec Ideal S1024x256 .bf16) (X0 : FVec Ideal S1024x2048 .bf16) (X1 : FVec Ideal S2048x1024 .bf16)
    (X2 : FVec Ideal S1024x2048 .bf16) (o : ℕ) (ho : o + 256 ≤ 2048)
    (hv : ∀ i k : Fin 1024, v (ix2 i k) = sq (∑ l : Fin 2048, X0 (ix2 i l) * X1 (ix2 l k)))
    (hw : ∀ (k : Fin 1024) (x : Fin 256), w (ix2 k x) = X2 (ix2 k ⟨o + x.val, by omega⟩)) (i : Fin 1024) (x : Fin 256) :
    mm v w (ix2 i x) = part X0 X1 X2 i ⟨o + x.val, by omega⟩ := by
  pointwise [mm, k0_pay1]
  simp only [hv, hw]
  rfl

theorem mmAdd_at (v : FVec Ideal S1024x1024 .bf16) (w : Vec Ideal S1024x256 .bf16) (r : Vec Ideal S1024x256 .f32) (i : Fin 1024) (x : Fin 256) :
    mmAdd v w r (ix2 i x) = r (ix2 i x) + mm v w (ix2 i x) := by
  unfold mmAdd k0_pay15
  generalize mm v w = q
  pointwise

theorem mmRes_at (v : FVec Ideal S1024x1024 .bf16) (w : Vec Ideal S1024x256 .bf16) (o r : Vec Ideal S1024x256 .f32) (i : Fin 1024) (x : Fin 256) :
    mmRes v w o r (ix2 i x) = mmAdd v w o (ix2 i x) + r (ix2 i x) := by
  unfold mmRes
  generalize mmAdd v w o = q
  pointwise

/-! ## Reading a buffer -/

theorem unit_off {s : Shape} (off size : Fin s.rank → ℕ) (h) (a : Fin s.rank) : (Rect.unit (s := s) off size h).off a = off a := rfl

theorem unit_stride {s : Shape} (off size : Fin s.rank → ℕ) (h) (a : Fin s.rank) : (Rect.unit (s := s) off size h).stride a = 1 := rfl

section Read
variable {M : Memref sig .tc .vmem S1024x2048 .bf16} {M1 : Memref sig .tc .vmem S2048x1024 .bf16} {M4 : Memref sig .tc .vmem S1024x2048 .f32}

theorem rd_whole (h : M.IsWhole) (X : FVec Ideal S1024x2048 .bf16) (inb) (i : Fin 1024) (l : Fin 2048) :
    View.readAt (Elt Ideal) M.view (Rect.unit (s := S1024x2048) ![0, 0] S1024x2048.size inb).toLoadRect (h.unread X) (ix2 i l) = X (ix2 i l) := by
  refine (h.readAt_unread _ _ _).trans ?_
  blk_ext [Rect.idx_withinL, LoadRect.idx_apply, unit_off, unit_stride]

theorem rd_cols1 (h : M1.IsWhole) (X : FVec Ideal S2048x1024 .bf16) (o : ℕ) (inb) (ho : o + 256 ≤ 1024) (i : Fin 2048) (l : Fin 256) :
    View.readAt (Elt Ideal) M1.view (Rect.unit (s := S2048x1024) ![0, o] S2048x256.size inb).toLoadRect (h.unread X) (ix2 i l) = X (ix2 i ⟨o + l.val, by omega⟩) := by
  refine (h.readAt_unread _ _ _).trans ?_
  blk_ext [Rect.idx_withinL, LoadRect.idx_apply, unit_off, unit_stride]

theorem rd_cols2 (h : M.IsWhole) (X : FVec Ideal S1024x2048 .bf16) (o : ℕ) (inb) (ho : o + 256 ≤ 2048) (i : Fin 1024) (l : Fin 256) :
    View.readAt (Elt Ideal) M.view (Rect.unit (s := S1024x2048) ![0, o] S1024x256.size inb).toLoadRect (h.unread X) (ix2 i l) = X (ix2 i ⟨o + l.val, by omega⟩) := by
  refine (h.readAt_unread _ _ _).trans ?_
  blk_ext [Rect.idx_withinL, LoadRect.idx_apply, unit_off, unit_stride]

theorem rd_cols4 (h : M4.IsWhole) (X : FVec Ideal S1024x2048 .f32) (o : ℕ) (inb) (ho : o + 256 ≤ 2048) (i : Fin 1024) (l : Fin 256) :
    View.readAt (Elt Ideal) M4.view (Rect.unit (s := S1024x2048) ![0, o] S1024x256.size inb).toLoadRect (h.unread X) (ix2 i l) = X (ix2 i ⟨o + l.val, by omega⟩) := by
  refine (h.readAt_unread _ _ _).trans ?_
  blk_ext [Rect.idx_withinL, LoadRect.idx_apply, unit_off, unit_stride]

end Read

/-- The kernel's four loads of each input give the hidden units of the point's blocks. -/
theorem act_loads {M : Memref sig .tc .vmem S1024x2048 .bf16} {M1 : Memref sig .tc .vmem S2048x1024 .bf16} (h : M.IsWhole) (h1 : M1.IsWhole)
    (X0 : FVec Ideal S1024x2048 .bf16) (X1 : FVec Ideal S2048x1024 .bf16) (inb i0 i1 i2 i3) (i k : Fin 1024) :
    k0_pay5 (F := Ideal)
      (View.readAt (Elt Ideal) M.view (Rect.unit (s := S1024x2048) ![0, 0] S1024x2048.size inb).toLoadRect (h.unread X0))
      (View.readAt (Elt Ideal) M1.view (Rect.unit (s := S2048x1024) ![0, 0] S2048x256.size i0).toLoadRect (h1.unread X1))
      (View.readAt (Elt Ideal) M.view (Rect.unit (s := S1024x2048) ![0, 0] S1024x2048.size inb).toLoadRect (h.unread X0))
      (View.readAt (Elt Ideal) M1.view (Rect.unit (s := S2048x1024) ![0, 256] S2048x256.size i1).toLoadRect (h1.unread X1))
      (View.readAt (Elt Ideal) M.view (Rect.unit (s := S1024x2048) ![0, 0] S1024x2048.size inb).toLoadRect (h.unread X0))
      (View.readAt (Elt Ideal) M1.view (Rect.unit (s := S2048x1024) ![0, 512] S2048x256.size i2).toLoadRect (h1.unread X1))
      (View.readAt (Elt Ideal) M.view (Rect.unit (s := S1024x2048) ![0, 0] S1024x2048.size inb).toLoadRect (h.unread X0))
      (View.readAt (Elt Ideal) M1.view (Rect.unit (s := S2048x1024) ![0, 768] S2048x256.size i3).toLoadRect (h1.unread X1)) (ix2 i k)
      = sq (∑ l : Fin 2048, X0 (ix2 i l) * X1 (ix2 l k)) :=
  act_at _ _ _ _ _ _ _ _ X0 X1 (rd_whole h X0 inb) (rd_whole h X0 inb) (rd_whole h X0 inb) (rd_whole h X0 inb)
    (rd_cols1 h1 X1 0 i0 (by omega)) (rd_cols1 h1 X1 256 i1 (by omega)) (rd_cols1 h1 X1 512 i2 (by omega)) (rd_cols1 h1 X1 768 i3 (by omega)) i k

/-- What point `t` adds. -/
abbrev P (c : Dev nD) (t : Fin cfg0.N) (i : Fin 1024) (j : Fin 2048) : EReal := part (iblk m c 0 t) (iblk m c 1 t) (iblk m c 2 t) i j

theorem at_of_coords {α : Type} (f : Fin 1024 → Fin 2048 → α) (i : Fin 1024) (j : Fin 2048) (i' : Fin 1024) (j' : Fin 2048) (hi : i.val = i'.val) (hj : j.val = j'.val) :
    f i j = f i' j' := by rw [Fin.ext hi, Fin.ext hj]

/-- One chunk of columns of a first point. -/
theorem chunkA (c : Dev nD) (t : Fin cfg0.N) (i : Fin 1024) (j : Fin 2048) (x0 : Fin 1024) (x1 : Fin 256) (o : ℕ) (inb i0 i1 i2 i3 i4) (ho : o + 256 ≤ 2048)
    (h0 : (i : ℕ) = x0.val) (h1 : (j : ℕ) = o + x1.val) :
    mm (k0_pay5 (F := Ideal)
      (View.readAt (Elt Ideal) (st0_0 t).view (Rect.unit (s := S1024x2048) ![0, 0] ![1024, 2048] inb).toLoadRect ((whole0 t).unread (iblk m c 0 t)))
      (View.readAt (Elt Ideal) (st0_1 t).view (Rect.unit (s := S2048x1024) ![0, 0] ![2048, 256] i0).toLoadRect ((whole1 t).unread (iblk m c 1 t)))
      (View.readAt (Elt Ideal) (st0_0 t).view (Rect.unit (s := S1024x2048) ![0, 0] ![1024, 2048] inb).toLoadRect ((whole0 t).unread (iblk m c 0 t)))
      (View.readAt (Elt Ideal) (st0_1 t).view (Rect.unit (s := S2048x1024) ![0, 256] ![2048, 256] i1).toLoadRect ((whole1 t).unread (iblk m c 1 t)))
      (View.readAt (Elt Ideal) (st0_0 t).view (Rect.unit (s := S1024x2048) ![0, 0] ![1024, 2048] inb).toLoadRect ((whole0 t).unread (iblk m c 0 t)))
      (View.readAt (Elt Ideal) (st0_1 t).view (Rect.unit (s := S2048x1024) ![0, 512] ![2048, 256] i2).toLoadRect ((whole1 t).unread (iblk m c 1 t)))
      (View.readAt (Elt Ideal) (st0_0 t).view (Rect.unit (s := S1024x2048) ![0, 0] ![1024, 2048] inb).toLoadRect ((whole0 t).unread (iblk m c 0 t)))
      (View.readAt (Elt Ideal) (st0_1 t).view (Rect.unit (s := S2048x1024) ![0, 768] ![2048, 256] i3).toLoadRect ((whole1 t).unread (iblk m c 1 t))))
      (View.readAt (Elt Ideal) (st0_2 t).view (Rect.unit (s := S1024x2048) ![0, o] ![1024, 256] i4).toLoadRect ((whole2 t).unread (iblk m c 2 t))) (ix2 x0 x1)
      = P m c t i j :=
  (mm_at _ _ (iblk m c 0 t) (iblk m c 1 t) (iblk m c 2 t) o ho (act_loads (whole0 t) (whole1 t) _ _ inb i0 i1 i2 i3) (rd_cols2 (whole2 t) _ o i4 ho) x0 x1).trans
    (at_of_coords (P m c t) _ _ _ _ h0.symm h1.symm)

set_option maxHeartbeats 1600000 in
/-- A first point leaves what it computes. -/
theorem left_A (c : Dev nD) (t : Fin cfg0.N) (g : t.val % 8 = 0) (i : Fin 1024) (j : Fin 2048) : left m c t.val t.isLt (ix2 i j) = P m c t i j := by
  rw [left_first m c t g, View.read_writes_junk_eq_canon]
  unfold atA runA
  dsimp only
  canon_tiles x h
  case piece0 => idx_vars x; exact chunkA m c t i j x0 x1 1792 _ _ _ _ _ _ (by omega) (by omega) (by omega)
  case piece1 => idx_vars x; exact chunkA m c t i j x0 x1 1536 _ _ _ _ _ _ (by omega) (by omega) (by omega)
  case piece2 => idx_vars x; exact chunkA m c t i j x0 x1 1280 _ _ _ _ _ _ (by omega) (by omega) (by omega)
  case piece3 => idx_vars x; exact chunkA m c t i j x0 x1 1024 _ _ _ _ _ _ (by omega) (by omega) (by omega)
  case piece4 => idx_vars x; exact chunkA m c t i j x0 x1 768 _ _ _ _ _ _ (by omega) (by omega) (by omega)
  case piece5 => idx_vars x; exact chunkA m c t i j x0 x1 512 _ _ _ _ _ _ (by omega) (by omega) (by omega)
  case piece6 => idx_vars x; exact chunkA m c t i j x0 x1 256 _ _ _ _ _ _ (by omega) (by omega) (by omega)
  case piece7 => idx_vars x; exact chunkA m c t i j x0 x1 0 _ _ _ _ _ _ (by omega) (by omega) (by omega)

/-- One chunk of columns of a middle point, with what was there before. -/
theorem chunkB (c : Dev nD) (t : Fin cfg0.N) (x4 : Vec Ideal S1024x2048 .f32) (i : Fin 1024) (j : Fin 2048) (x0 : Fin 1024) (x1 : Fin 256) (o : ℕ) (inb i0 i1 i2 i3 i4 i5) (ho : o + 256 ≤ 2048)
    (h0 : (i : ℕ) = x0.val) (h1 : (j : ℕ) = o + x1.val) :
    mmAdd (k0_pay5 (F := Ideal)
      (View.readAt (Elt Ideal) (st0_0 t).view (Rect.unit (s := S1024x2048) ![0, 0] ![1024, 2048] inb).toLoadRect ((whole0 t).unread (iblk m c 0 t)))
      (View.readAt (Elt Ideal) (st0_1 t).view (Rect.unit (s := S2048x1024) ![0, 0] ![2048, 256] i0).toLoadRect ((whole1 t).unread (iblk m c 1 t)))
      (View.readAt (Elt Ideal) (st0_0 t).view (Rect.unit (s := S1024x2048) ![0, 0] ![1024, 2048] inb).toLoadRect ((whole0 t).unread (iblk m c 0 t)))
      (View.readAt (Elt Ideal) (st0_1 t).view (Rect.unit (s := S2048x1024) ![0, 256] ![2048, 256] i1).toLoadRect ((whole1 t).unread (iblk m c 1 t)))
      (View.readAt (Elt Ideal) (st0_0 t).view (Rect.unit (s := S1024x2048) ![0, 0] ![1024, 2048] inb).toLoadRect ((whole0 t).unread (iblk m c 0 t)))
      (View.readAt (Elt Ideal) (st0_1 t).view (Rect.unit (s := S2048x1024) ![0, 512] ![2048, 256] i2).toLoadRect ((whole1 t).unread (iblk m c 1 t)))
      (View.readAt (Elt Ideal) (st0_0 t).view (Rect.unit (s := S1024x2048) ![0, 0] ![1024, 2048] inb).toLoadRect ((whole0 t).unread (iblk m c 0 t)))
      (View.readAt (Elt Ideal) (st0_1 t).view (Rect.unit (s := S2048x1024) ![0, 768] ![2048, 256] i3).toLoadRect ((whole1 t).unread (iblk m c 1 t))))
      (View.readAt (Elt Ideal) (st0_2 t).view (Rect.unit (s := S1024x2048) ![0, o] ![1024, 256] i4).toLoadRect ((whole2 t).unread (iblk m c 2 t)))
      (View.readAt (Elt Ideal) (st0_4 t).view (Rect.unit (s := S1024x2048) ![0, o] ![1024, 256] i5).toLoadRect ((whole4 t).unread x4)) (ix2 x0 x1)
      = x4 (ix2 i j) + P m c t i j := by
  rw [mmAdd_at, chunkA m c t i j x0 x1 o inb i0 i1 i2 i3 i4 ho h0 h1, rd_cols4 (whole4 t) x4 o i5 ho x0 x1,
    at_of_coords (fun i j => x4 (ix2 i j)) x0 ⟨o + x1.val, by omega⟩ i j h0.symm h1.symm]

set_option maxHeartbeats 1600000 in
/-- A middle point adds what it computes. -/
theorem step_B_at (c : Dev nD) (t : Fin cfg0.N) (x4 : Vec Ideal S1024x2048 .f32) (g : t.val % 8 ≠ 0) (g7 : t.val % 8 ≠ 7) (i : Fin 1024) (j : Fin 2048) :
    step m c t x4 (ix2 i j) = x4 (ix2 i j) + P m c t i j := by
  rw [step_B m c t x4 g g7, View.read_writes_junk_eq_canon]
  unfold atB runB
  dsimp only
  canon_tiles x h
  case piece0 => idx_vars x; exact chunkB m c t x4 i j x0 x1 1792 _ _ _ _ _ _ _ (by omega) (by omega) (by omega)
  case piece1 => idx_vars x; exact chunkB m c t x4 i j x0 x1 1536 _ _ _ _ _ _ _ (by omega) (by omega) (by omega)
  case piece2 => idx_vars x; exact chunkB m c t x4 i j x0 x1 1280 _ _ _ _ _ _ _ (by omega) (by omega) (by omega)
  case piece3 => idx_vars x; exact chunkB m c t x4 i j x0 x1 1024 _ _ _ _ _ _ _ (by omega) (by omega) (by omega)
  case piece4 => idx_vars x; exact chunkB m c t x4 i j x0 x1 768 _ _ _ _ _ _ _ (by omega) (by omega) (by omega)
  case piece5 => idx_vars x; exact chunkB m c t x4 i j x0 x1 512 _ _ _ _ _ _ _ (by omega) (by omega) (by omega)
  case piece6 => idx_vars x; exact chunkB m c t x4 i j x0 x1 256 _ _ _ _ _ _ _ (by omega) (by omega) (by omega)
  case piece7 => idx_vars x; exact chunkB m c t x4 i j x0 x1 0 _ _ _ _ _ _ _ (by omega) (by omega) (by omega)

/-- Reading columns of a buffer stored whole. -/
theorem rd_buf (H : FVec Ideal S1024x2048 .f32) (o : ℕ) (inb) (ho : o + 256 ≤ 2048) (i : Fin 1024) (l : Fin 256) :
    bufM.view.readCov (Val := Elt Ideal) [(⟨Rect.whole S1024x2048, H⟩ : View.Piece (Elt Ideal) S1024x2048 .f32)] (Rect.unit (s := S1024x2048) ![0, o] ![1024, 256] inb).toLoadRect (ix2 i l) = H (ix2 i ⟨o + l.val, by omega⟩) := by
  rw [View.readCov_eq_canon]
  · change View.canon _ _ = _
    rw [show (Rect.unit (s := S1024x2048) ![0, o] ![1024, 256] inb).toLoadRect.idx (ix2 i l) = (Rect.whole S1024x2048).emb (ix2 i ⟨o + l.val, by omega⟩) by
      rw [Rect.emb_whole_apply]
      blk_ext [Rect.idx_withinL, LoadRect.idx_apply, unit_off, unit_stride], View.canon_cons_emb]
  · exact fun y => ⟨_, List.mem_singleton_self _, by rw [Rect.set_whole]; exact Finset.mem_univ _⟩

/-- One chunk of columns of a last point, with what was there before and the residual. -/
theorem chunkC (c : Dev nD) (t : Fin cfg0.N) (H : FVec Ideal S1024x2048 .f32) (x4 : Vec Ideal S1024x2048 .f32) (i : Fin 1024) (j : Fin 2048) (x0 : Fin 1024) (x1 : Fin 256) (o : ℕ) (inb i0 i1 i2 i3 i4 i5 i6) (ho : o + 256 ≤ 2048)
    (h0 : (i : ℕ) = x0.val) (h1 : (j : ℕ) = o + x1.val) :
    mmRes (k0_pay5 (F := Ideal)
      (View.readAt (Elt Ideal) (st0_0 t).view (Rect.unit (s := S1024x2048) ![0, 0] ![1024, 2048] inb).toLoadRect ((whole0 t).unread (iblk m c 0 t)))
      (View.readAt (Elt Ideal) (st0_1 t).view (Rect.unit (s := S2048x1024) ![0, 0] ![2048, 256] i0).toLoadRect ((whole1 t).unread (iblk m c 1 t)))
      (View.readAt (Elt Ideal) (st0_0 t).view (Rect.unit (s := S1024x2048) ![0, 0] ![1024, 2048] inb).toLoadRect ((whole0 t).unread (iblk m c 0 t)))
      (View.readAt (Elt Ideal) (st0_1 t).view (Rect.unit (s := S2048x1024) ![0, 256] ![2048, 256] i1).toLoadRect ((whole1 t).unread (iblk m c 1 t)))
      (View.readAt (Elt Ideal) (st0_0 t).view (Rect.unit (s := S1024x2048) ![0, 0] ![1024, 2048] inb).toLoadRect ((whole0 t).unread (iblk m c 0 t)))
      (View.readAt (Elt Ideal) (st0_1 t).view (Rect.unit (s := S2048x1024) ![0, 512] ![2048, 256] i2).toLoadRect ((whole1 t).unread (iblk m c 1 t)))
      (View.readAt (Elt Ideal) (st0_0 t).view (Rect.unit (s := S1024x2048) ![0, 0] ![1024, 2048] inb).toLoadRect ((whole0 t).unread (iblk m c 0 t)))
      (View.readAt (Elt Ideal) (st0_1 t).view (Rect.unit (s := S2048x1024) ![0, 768] ![2048, 256] i3).toLoadRect ((whole1 t).unread (iblk m c 1 t))))
      (View.readAt (Elt Ideal) (st0_2 t).view (Rect.unit (s := S1024x2048) ![0, o] ![1024, 256] i4).toLoadRect ((whole2 t).unread (iblk m c 2 t)))
      (View.readAt (Elt Ideal) (st0_4 t).view (Rect.unit (s := S1024x2048) ![0, o] ![1024, 256] i5).toLoadRect ((whole4 t).unread x4))
      (bufM.view.readCov (Val := Elt Ideal) [(⟨Rect.whole S1024x2048, H⟩ : View.Piece (Elt Ideal) S1024x2048 .f32)] (Rect.unit (s := S1024x2048) ![0, o] ![1024, 256] i6).toLoadRect) (ix2 x0 x1)
      = x4 (ix2 i j) + P m c t i j + H (ix2 i j) := by
  rw [mmRes_at, chunkB m c t x4 i j x0 x1 o inb i0 i1 i2 i3 i4 i5 ho h0 h1, rd_buf H o i6 ho x0 x1,
    at_of_coords (fun i j => H (ix2 i j)) x0 ⟨o + x1.val, by omega⟩ i j h0.symm h1.symm]

/-- The squares a lane of a chunk of 256 columns gathers. -/
def lane (q : FVec Ideal S1024x256 .f32) (i : Fin 1024) (l : Fin 128) : EReal :=
  q (ix2 i ⟨l.val, by omega⟩) * q (ix2 i ⟨l.val, by omega⟩) + q (ix2 i ⟨128 + l.val, by omega⟩) * q (ix2 i ⟨128 + l.val, by omega⟩)

theorem pay22_at (v : FVec Ideal S1024x1024 .bf16) (w : Vec Ideal S1024x256 .bf16) (o r : Vec Ideal S1024x256 .f32) (i : Fin 1024) (l : Fin 128) :
    k0_pay22 v w (constant S1024x256 .f32 0x00000000#32) o r (ix2 i l) = lane (mmRes v w o r) i l := by
  unfold k0_pay22
  rw [show k0_pay21 v w (constant S1024x256 .f32 0x00000000#32) o r = mmRes v w o r from rfl]
  generalize mmRes v w o r = q
  pointwise [lane]

theorem pay24_at (v : FVec Ideal S1024x1024 .bf16) (w : Vec Ideal S1024x256 .bf16) (o r : Vec Ideal S1024x256 .f32) (s : Vec Ideal S1024x128 .f32) (i : Fin 1024) (l : Fin 128) :
    k0_pay24 v w o r s (ix2 i l) = s (ix2 i l) + lane (mmRes v w o r) i l := by
  unfold k0_pay24
  rw [show k0_pay23 v w o r = mmRes v w o r from rfl]
  generalize mmRes v w o r = q
  pointwise [lane]

theorem pay27_at (v : FVec Ideal S1024x1024 .bf16) (w : Vec Ideal S1024x256 .bf16) (o r : Vec Ideal S1024x256 .f32) (s : Vec Ideal S1024x128 .f32) (i : Fin 1024) (l : Fin 128) :
    k0_pay27 v w o r s (ix2 i l) = s (ix2 i l) + lane (mmRes v w o r) i l := by
  unfold k0_pay27
  rw [show k0_pay26 v w o r = mmRes v w o r from rfl]
  generalize mmRes v w o r = q
  pointwise [lane]

theorem pay33_at (v : FVec Ideal S1024x1024 .bf16) (w : Vec Ideal S1024x256 .bf16) (o r : Vec Ideal S1024x256 .f32) (s : Vec Ideal S1024x128 .f32) (i : Fin 1024) (l : Fin 128) :
    k0_pay33 v w o r s (ix2 i l) = s (ix2 i l) + lane (mmRes v w o r) i l := by
  unfold k0_pay33
  rw [show k0_pay32 v w o r = mmRes v w o r from rfl]
  generalize mmRes v w o r = q
  pointwise [lane]

theorem pay38_at (v : FVec Ideal S1024x1024 .bf16) (w : Vec Ideal S1024x256 .bf16) (o r : Vec Ideal S1024x256 .f32) (s : Vec Ideal S1024x128 .f32) (i : Fin 1024) (l : Fin 128) :
    k0_pay38 v w o r s (ix2 i l) = s (ix2 i l) + lane (mmRes v w o r) i l := by
  unfold k0_pay38
  rw [show k0_pay37 v w o r = mmRes v w o r from rfl]
  generalize mmRes v w o r = q
  pointwise [lane]

theorem pay40_at (v : FVec Ideal S1024x1024 .bf16) (w : Vec Ideal S1024x256 .bf16) (o r : Vec Ideal S1024x256 .f32) (s : Vec Ideal S1024x128 .f32) (i : Fin 1024) (l : Fin 128) :
    k0_pay40 v w o r s (ix2 i l) = s (ix2 i l) + lane (mmRes v w o r) i l := by
  unfold k0_pay40
  rw [show k0_pay39 v w o r = mmRes v w o r from rfl]
  generalize mmRes v w o r = q
  pointwise [lane]

theorem pay25_eq (s : FVec Ideal S1024x128 .f32) : k0_pay25 s = s := by
  funext y
  idx_vars y
  pointwise [k0_pay25]

theorem pay31_at (v : FVec Ideal S1024x1024 .bf16) (w : Vec Ideal S1024x256 .bf16) (o r : Vec Ideal S1024x256 .f32) (s : Vec Ideal S1024x128 .f32) (i : Fin 1024) (l : Fin 128) :
    k0_pay31 (k0_pay29 v w o r) (k0_pay30 v w o r) s (ix2 i l) = s (ix2 i l) + lane (mmRes v w o r) i l := by
  unfold k0_pay31 k0_pay30 k0_pay29
  rw [show k0_pay28 v w o r = mmRes v w o r from rfl]
  generalize mmRes v w o r = q
  pointwise [lane]

theorem pay36_at (v : FVec Ideal S1024x1024 .bf16) (w : Vec Ideal S1024x256 .bf16) (o r : Vec Ideal S1024x256 .f32) (s : Vec Ideal S1024x128 .f32) (i : Fin 1024) (l : Fin 128) :
    k0_pay36 (k0_pay34 v w o) r s (ix2 i l) = s (ix2 i l) + lane (mmRes v w o r) i l := by
  unfold k0_pay36
  rw [show k0_pay35 (k0_pay34 v w o) r = mmRes v w o r from rfl]
  generalize mmRes v w o r = q
  pointwise [lane]

theorem pay41_at (s : Vec Ideal S1024x128 .f32) (v : Vec Ideal S1024x2048 .f32) (g : Vec Ideal S1x2048 .f32) (i : Fin 1024) (j : Fin 2048) :
    k0_pay41 s v g (ix2 i j)
      = v (ix2 i j) * Ideal.rsqrt (Ideal.div (∑ l : Fin 128, s (ix2 i l)) (Ideal.ofBits .f32 0x45000000#32) + Ideal.ofBits .f32 0x358637BD#32) * g (ix2 (0 : Fin 1) j) := by
  pointwise [k0_pay41]

/-- The rows of the residual array a last point reads. -/
def resid (c : Dev nD) (t : Fin cfg0.N) (g7 : t.val % 8 = 7) : FVec Ideal S1024x2048 .f32 :=
  ReadAs.same.apply (View.read (Elt Ideal) (rowsC (grid0.coords t) ((last_iff t).mpr g7)).view (V m c main_arg1))

/-- What a last point holds before it normalizes. -/
def vv (c : Dev nD) (t : Fin cfg0.N) (x4 : Vec Ideal S1024x2048 .f32) (g7 : t.val % 8 = 7) (i : Fin 1024) (j : Fin 2048) : EReal :=
  x4 (ix2 i j) + P m c t i j + resid m c t g7 (ix2 i j)

/-- The squares of a row that one lane of a chunk gathers. -/
def two (f : Fin 2048 → EReal) (o : ℕ) (ho : o + 256 ≤ 2048) (l : Fin 128) : EReal :=
  f ⟨o + l.val, by omega⟩ * f ⟨o + l.val, by omega⟩ + f ⟨o + (128 + l.val), by omega⟩ * f ⟨o + (128 + l.val), by omega⟩

/-- The squares of a row that one lane gathers over all chunks. -/
def gather (f : Fin 2048 → EReal) (l : Fin 128) : EReal :=
  two f 0 (by omega) l + two f 256 (by omega) l + two f 512 (by omega) l + two f 768 (by omega) l + two f 1024 (by omega) l + two f 1280 (by omega) l
    + two f 1536 (by omega) l + two f 1792 (by omega) l

theorem lane_of (q : FVec Ideal S1024x256 .f32) (f : Fin 2048 → EReal) (o : ℕ) (ho : o + 256 ≤ 2048) (i : Fin 1024)
    (h : ∀ x : Fin 256, q (ix2 i x) = f ⟨o + x.val, by omega⟩) (l : Fin 128) : lane q i l = two f o ho l := by
  unfold lane two
  rw [h, h]

set_option maxHeartbeats 3200000 in
/-- A last point leaves the rows, normalized and scaled. -/
theorem step_C_at (c : Dev nD) (t : Fin cfg0.N) (x4 : Vec Ideal S1024x2048 .f32) (g7 : t.val % 8 = 7) (i : Fin 1024) (j : Fin 2048) :
    step m c t x4 (ix2 i j)
      = vv m c t x4 g7 i j
        * Ideal.rsqrt (Ideal.div (∑ l : Fin 128, gather (vv m c t x4 g7 i) l) (Ideal.ofBits .f32 0x45000000#32) + Ideal.ofBits .f32 0x358637BD#32)
        * (iblk m c 3 t : FVec Ideal S1x2048 .f32) (ix2 (0 : Fin 1) j) := by
  rw [step_C m c t x4 g7, View.read_writes_junk_eq_canon]
  unfold atC runC
  dsimp only
  rw [View.canon_cons_unit_zero]
  · rw [pay41_at]
    refine congrArg₂ (· * ·) (congrArg₂ (· * ·) ?_ (congrArg (fun S => Ideal.rsqrt (Ideal.div S (Ideal.ofBits .f32 0x45000000#32) + Ideal.ofBits .f32 0x358637BD#32)) (Finset.sum_congr rfl fun l _ => ?_))) ?_
    · delta runC.sl.v198 runC.sl.H4_8
      rw [View.readCov_eq_canon]
      · change View.canon _ _ = _
        rw [show (Rect.unit (s := S1024x2048) ![0, 0] S1024x2048.size inb_S1024x2048_S1024x2048_0_0).toLoadRect.idx (ix2 i j) = ix2 i j by
          blk_ext [Rect.idx_withinL, LoadRect.idx_apply, unit_off, unit_stride]]
        canon_tiles x h
        case piece0 => idx_vars x; exact chunkC m c t _ x4 i j x0 x1 1792 _ _ _ _ _ _ _ _ (by omega) (by omega) (by omega)
        case piece1 => idx_vars x; exact chunkC m c t _ x4 i j x0 x1 1536 _ _ _ _ _ _ _ _ (by omega) (by omega) (by omega)
        case piece2 => idx_vars x; exact chunkC m c t _ x4 i j x0 x1 1280 _ _ _ _ _ _ _ _ (by omega) (by omega) (by omega)
        case piece3 => idx_vars x; exact chunkC m c t _ x4 i j x0 x1 1024 _ _ _ _ _ _ _ _ (by omega) (by omega) (by omega)
        case piece4 => idx_vars x; exact chunkC m c t _ x4 i j x0 x1 768 _ _ _ _ _ _ _ _ (by omega) (by omega) (by omega)
        case piece5 => idx_vars x; exact chunkC m c t _ x4 i j x0 x1 512 _ _ _ _ _ _ _ _ (by omega) (by omega) (by omega)
        case piece6 => idx_vars x; exact chunkC m c t _ x4 i j x0 x1 256 _ _ _ _ _ _ _ _ (by omega) (by omega) (by omega)
        case piece7 => idx_vars x; exact chunkC m c t _ x4 i j x0 x1 0 _ _ _ _ _ _ _ _ (by omega) (by omega) (by omega)
      · exact fun y => View.cover_of_tiledL (s := S1024x2048) _ S1024x256.size (by sl_kernel_rfl) _
    · delta runC.sl.v193 runC.sl.H9_8
      rw [View.readCov_cons_unit_lit' _ _ _ _ _ (by intro a; fin_cases a <;> rfl) (by intro a; fin_cases a <;> rfl)]
      rw [pay40_at]
      refine congrArg₂ (· + ·) ?_ (lane_of _ _ 1792 (by omega) i (fun x => chunkC m c t _ x4 i _ i x 1792 _ _ _ _ _ _ _ _ (by omega) rfl rfl) l)
      delta runC.sl.v188 runC.sl.H9_7
      rw [View.readCov_cons_unit_lit' _ _ _ _ _ (by intro a; fin_cases a <;> rfl) (by intro a; fin_cases a <;> rfl)]
      rw [pay38_at]
      refine congrArg₂ (· + ·) ?_ (lane_of _ _ 1536 (by omega) i (fun x => chunkC m c t _ x4 i _ i x 1536 _ _ _ _ _ _ _ _ (by omega) rfl rfl) l)
      delta runC.sl.v169 runC.sl.H9_6
      rw [View.readCov_cons_unit_lit' _ _ _ _ _ (by intro a; fin_cases a <;> rfl) (by intro a; fin_cases a <;> rfl)]
      rw [pay36_at]
      refine congrArg₂ (· + ·) ?_ (lane_of _ _ 1280 (by omega) i (fun x => chunkC m c t _ x4 i _ i x 1280 _ _ _ _ _ _ _ _ (by omega) rfl rfl) l)
      delta runC.sl.v150 runC.sl.H9_5
      rw [View.readCov_cons_unit_lit' _ _ _ _ _ (by intro a; fin_cases a <;> rfl) (by intro a; fin_cases a <;> rfl)]
      rw [pay33_at]
      refine congrArg₂ (· + ·) ?_ (lane_of _ _ 1024 (by omega) i (fun x => chunkC m c t _ x4 i _ i x 1024 _ _ _ _ _ _ _ _ (by omega) rfl rfl) l)
      delta runC.sl.v131 runC.sl.H9_4
      rw [View.readCov_cons_unit_lit' _ _ _ _ _ (by intro a; fin_cases a <;> rfl) (by intro a; fin_cases a <;> rfl)]
      rw [pay31_at]
      refine congrArg₂ (· + ·) ?_ (lane_of _ _ 768 (by omega) i (fun x => chunkC m c t _ x4 i _ i x 768 _ _ _ _ _ _ _ _ (by omega) rfl rfl) l)
      delta runC.sl.v112 runC.sl.H9_3
      rw [View.readCov_cons_unit_lit' _ _ _ _ _ (by intro a; fin_cases a <;> rfl) (by intro a; fin_cases a <;> rfl)]
      rw [pay27_at]
      refine congrArg₂ (· + ·) ?_ (lane_of _ _ 512 (by omega) i (fun x => chunkC m c t _ x4 i _ i x 512 _ _ _ _ _ _ _ _ (by omega) rfl rfl) l)
      delta runC.sl.v93 runC.sl.H9_2
      rw [View.readCov_cons_unit_lit' _ _ _ _ _ (by intro a; fin_cases a <;> rfl) (by intro a; fin_cases a <;> rfl)]
      rw [pay25_eq]
      rw [pay24_at]
      refine congrArg₂ (· + ·) ?_ (lane_of _ _ 256 (by omega) i (fun x => chunkC m c t _ x4 i _ i x 256 _ _ _ _ _ _ _ _ (by omega) rfl rfl) l)
      delta runC.sl.v74 runC.sl.H9_1
      rw [View.readCov_cons_unit_lit' _ _ _ _ _ (by intro a; fin_cases a <;> rfl) (by intro a; fin_cases a <;> rfl)]
      refine (pay22_at _ _ _ _ i l).trans (lane_of _ _ 0 (by omega) i (fun x => chunkC m c t _ x4 i _ i x 0 _ _ _ _ _ _ _ _ (by omega) rfl rfl) l)
    · refine (Memref.IsWhole.readAt_unread (whole3 t) _ _ _).trans ?_
      blk_ext [Rect.idx_withinL, LoadRect.idx_apply, unit_off, unit_stride]
  · funext a; fin_cases a <;> rfl

end Cert.MlpIdeal.Ffn

end
-- ==== Proof.MlpSum.lean ====
module

public import proofs.«01_k».proof.Proof.MlpVal
public import proofs.«01_k».proof.Proof.Gen.MlpReferenceIdeal.Run

@[expose] public section

/-! The feed-forward layer: what the points of a row block leave in the output is the reference's rows. -/

set_option maxRecDepth 16384

noncomputable section

namespace Cert.MlpReferenceIdeal.Ref

open Cert.MlpReferenceIdeal Cert.MlpReferenceIdeal.Gen
open Idealize.ShloMosaic Idealize.ShloMosaic.TcCoe Idealize.SL.Sem

/-- The reference's result, from its arguments. -/
def U (a0 : FVec Ideal S8192x2048 .bf16) (a1 : FVec Ideal S8192x2048 .f32) (a2 : FVec Ideal S2048x8192 .bf16) (a3 : FVec Ideal S8192x2048 .bf16)
    (a4 : FVec Ideal S1x2048 .f32) : FVec Ideal S8192x2048 .f32 :=
  mulf (mulf (addf a1 (Host.dotGeneral dot_S8192x8192_S8192x2048_S8192x2048_1_0_0_1_n_n none (mulf (maximumf (Host.dotGeneral dot_S8192x2048_S2048x8192_S8192x8192_1_0_0_1_n_n none (extf .f32 a0 bitsLt_bf16_f32) (extf .f32 a2 bitsLt_bf16_f32)) (broadcastInDim S8192x8192 ![] bcast_S_S8192x8192 (constant S_ .f32 0x00000000#32))) (maximumf (Host.dotGeneral dot_S8192x2048_S2048x8192_S8192x8192_1_0_0_1_n_n none (extf .f32 a0 bitsLt_bf16_f32) (extf .f32 a2 bitsLt_bf16_f32)) (broadcastInDim S8192x8192 ![] bcast_S_S8192x8192 (constant S_ .f32 0x00000000#32)))) (extf .f32 a3 bitsLt_bf16_f32))) (broadcastInDim S8192x2048 ![0, 1] bcast_S8192x1_S8192x2048_0_1 (Host.rsqrt (addf (Host.divf (broadcastInDim S8192x1 ![0] bcast_S8192_S8192x1_0 (Host.reduceAdd (mulf (addf a1 (Host.dotGeneral dot_S8192x8192_S8192x2048_S8192x2048_1_0_0_1_n_n none (mulf (maximumf (Host.dotGeneral dot_S8192x2048_S2048x8192_S8192x8192_1_0_0_1_n_n none (extf .f32 a0 bitsLt_bf16_f32) (extf .f32 a2 bitsLt_bf16_f32)) (broadcastInDim S8192x8192 ![] bcast_S_S8192x8192 (constant S_ .f32 0x00000000#32))) (maximumf (Host.dotGeneral dot_S8192x2048_S2048x8192_S8192x8192_1_0_0_1_n_n none (extf .f32 a0 bitsLt_bf16_f32) (extf .f32 a2 bitsLt_bf16_f32)) (broadcastInDim S8192x8192 ![] bcast_S_S8192x8192 (constant S_ .f32 0x00000000#32)))) (extf .f32 a3 bitsLt_bf16_f32))) (addf a1 (Host.dotGeneral dot_S8192x8192_S8192x2048_S8192x2048_1_0_0_1_n_n none (mulf (maximumf (Host.dotGeneral dot_S8192x2048_S2048x8192_S8192x8192_1_0_0_1_n_n none (extf .f32 a0 bitsLt_bf16_f32) (extf .f32 a2 bitsLt_bf16_f32)) (broadcastInDim S8192x8192 ![] bcast_S_S8192x8192 (constant S_ .f32 0x00000000#32))) (maximumf (Host.dotGeneral dot_S8192x2048_S2048x8192_S8192x8192_1_0_0_1_n_n none (extf .f32 a0 bitsLt_bf16_f32) (extf .f32 a2 bitsLt_bf16_f32)) (broadcastInDim S8192x8192 ![] bcast_S_S8192x8192 (constant S_ .f32 0x00000000#32)))) (extf .f32 a3 bitsLt_bf16_f32)))) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 a4)

/-- The residual stream plus the feed-forward's output, at an index. -/
def H (a0 : FVec Ideal S8192x2048 .bf16) (a1 : FVec Ideal S8192x2048 .f32) (a2 : FVec Ideal S2048x8192 .bf16) (a3 : FVec Ideal S8192x2048 .bf16)
    (i : Fin 8192) (j : Fin 2048) : EReal :=
  a1 (ix2 i j) + ∑ x : Fin 8192, (max (∑ l : Fin 2048, a0 (ix2 i l) * a2 (ix2 l x)) 0 * max (∑ l : Fin 2048, a0 (ix2 i l) * a2 (ix2 l x)) 0) * a3 (ix2 x j)

/-- The reference's result, at an index. -/
theorem U_at (a0 : FVec Ideal S8192x2048 .bf16) (a1 : FVec Ideal S8192x2048 .f32) (a2 : FVec Ideal S2048x8192 .bf16) (a3 : FVec Ideal S8192x2048 .bf16)
    (a4 : FVec Ideal S1x2048 .f32) (i : Fin 8192) (j : Fin 2048) :
    U a0 a1 a2 a3 a4 (ix2 i j) = H a0 a1 a2 a3 i j
      * Ideal.rsqrt (Ideal.div (∑ x, H a0 a1 a2 a3 i x * H a0 a1 a2 a3 i x) (Ideal.ofBits .f32 0x45000000#32) + Ideal.ofBits .f32 0x358637BD#32) * a4 (ix2 (0 : Fin 1) j) := by
  pointwise [U, H]

end Cert.MlpReferenceIdeal.Ref

namespace Cert.MlpIdeal.Ffn

open Cert.MlpIdeal Cert.MlpIdeal.Gen
open Idealize.ShloMosaic Idealize.ShloMosaic.TcCoe Idealize.SL.Sem

/-! ## Sums -/

/-- The squares the lanes gather are the squares of the row. -/
theorem gather_sum (f : Fin 2048 → EReal) : ∑ l : Fin 128, gather f l = ∑ x, f x * f x := by
  let g : ℕ → EReal := fun n => if h : n < 2048 then f ⟨n, h⟩ * f ⟨n, h⟩ else 0
  have hg : ∀ (n : ℕ) (h : n < 2048), f ⟨n, h⟩ * f ⟨n, h⟩ = g n := fun n h => by simp only [g, dif_pos h]
  have s : ∀ (o : ℕ) (ho : o + 256 ≤ 2048), ∑ l : Fin 128, two f o ho l = ∑ x ∈ Finset.range 256, g (o + x) := by
    intro o ho
    rw [show (256 : ℕ) = 128 + 128 from rfl, Finset.sum_range_add, Finset.sum_range, Finset.sum_range, ← Finset.sum_add_distrib]
    refine Finset.sum_congr rfl fun l _ => ?_
    unfold two
    rw [hg, hg]
  have e : ∑ x, f x * f x = ∑ x ∈ Finset.range (256 + 256 + 256 + 256 + 256 + 256 + 256 + 256), g x := by
    rw [Finset.sum_range]
    exact Finset.sum_congr rfl fun x _ => hg x.val x.isLt
  rw [e]
  unfold gather
  simp only [Finset.sum_add_distrib, s, Finset.sum_range_add]
  simp

variable (m : (ℓ : Loc nD τ sig) → Buf (Elt Ideal) ℓ)

/-! ## Where the blocks sit -/

/-- Where each window sits at each grid point. -/
theorem idx : ∀ t : Fin cfg0.N, win0_0.index t = ![t.val / 8, 0] ∧ win0_1.index t = ![0, t.val % 8] ∧
    win0_2.index t = ![t.val % 8, 0] ∧ win0_3.index t = ![0, 0] ∧ win0_4.index t = ![t.val / 8, 0] :=
  (by decide +kernel : ∀ t : Fin grid0.N, _)

theorem lt64 (t : Fin cfg0.N) : t.val < 64 := lt_of_lt_of_eq t.isLt (by rfl)

/-- The row of the arrays that row `i` of a point's block is. -/
def rowOf (t : Fin cfg0.N) (i : Fin 1024) : Fin 8192 := ⟨t.val / 8 * 1024 + i.val, by have := lt64 t; omega⟩

/-- The hidden unit that unit `k` of a point is. -/
def hid (t : Fin cfg0.N) (k : Fin 1024) : Fin 8192 := ⟨t.val % 8 * 1024 + k.val, by omega⟩

abbrev A0 (c : Dev nD) : FVec Ideal S8192x2048 .bf16 := m ((c : Thread nD τ).loc main_arg0)
abbrev A1 (c : Dev nD) : FVec Ideal S8192x2048 .f32 := m ((c : Thread nD τ).loc main_arg1)
abbrev A2 (c : Dev nD) : FVec Ideal S2048x8192 .bf16 := m ((c : Thread nD τ).loc main_arg2)
abbrev A3 (c : Dev nD) : FVec Ideal S8192x2048 .bf16 := m ((c : Thread nD τ).loc main_arg3)
abbrev A4 (c : Dev nD) : FVec Ideal S1x2048 .f32 := m ((c : Thread nD τ).loc main_arg4)

theorem blk0 (c : Dev nD) (t : Fin cfg0.N) (i : Fin 1024) (l : Fin 2048) : (iblk m c 0 t : FVec Ideal S1024x2048 .bf16) (ix2 i l) = A0 m c (ix2 (rowOf t i) l) := by
  blk_point [iblk, V, idx t, rowOf]
theorem blk1 (c : Dev nD) (t : Fin cfg0.N) (l : Fin 2048) (k : Fin 1024) : (iblk m c 1 t : FVec Ideal S2048x1024 .bf16) (ix2 l k) = A2 m c (ix2 l (hid t k)) := by
  blk_point [iblk, V, idx t, hid]
theorem blk2 (c : Dev nD) (t : Fin cfg0.N) (k : Fin 1024) (j : Fin 2048) : (iblk m c 2 t : FVec Ideal S1024x2048 .bf16) (ix2 k j) = A3 m c (ix2 (hid t k) j) := by
  blk_point [iblk, V, idx t, hid]
theorem blk3 (c : Dev nD) (t : Fin cfg0.N) (j : Fin 2048) : (iblk m c 3 t : FVec Ideal S1x2048 .f32) (ix2 (0 : Fin 1) j) = A4 m c (ix2 (0 : Fin 1) j) := by
  blk_point [iblk, V, idx t]

theorem resid_at (c : Dev nD) (t : Fin cfg0.N) (g7 : t.val % 8 = 7) (i : Fin 1024) (j : Fin 2048) : resid m c t g7 (ix2 i j) = A1 m c (ix2 (rowOf t i) j) := by
  unfold resid
  change A1 m c ((Rect.unit (s := S8192x2048) (k0_off2 (grid0.coords t)) S1024x2048.size (k0_off2_inb (grid0.coords t) ((last_iff t).mpr g7))).emb (ix2 i j)) = _
  refine congrArg (A1 m c) ?_
  blk_ext [Rect.emb_apply, unit_off, unit_stride, off2_eq t, start, rowOf]

/-! ## What a row block's points leave -/

/-- What a hidden unit adds. -/
def unit (c : Dev nD) (i : Fin 8192) (j : Fin 2048) (x : Fin 8192) : EReal :=
  sq (∑ l : Fin 2048, A0 m c (ix2 i l) * A2 m c (ix2 l x)) * A3 m c (ix2 x j)

/-- The same over the natural numbers. -/
def unitN (c : Dev nD) (i : Fin 8192) (j : Fin 2048) (n : ℕ) : EReal := if h : n < 8192 then unit m c i j ⟨n, h⟩ else 0

theorem P_eq (c : Dev nD) (t : Fin cfg0.N) (i : Fin 1024) (j : Fin 2048) :
    P m c t i j = ∑ x ∈ Finset.range 1024, unitN m c (rowOf t i) j (t.val % 8 * 1024 + x) := by
  unfold P part
  rw [Finset.sum_range]
  refine Finset.sum_congr rfl fun k _ => ?_
  unfold unitN
  rw [dif_pos (show t.val % 8 * 1024 + k.val < 8192 from (hid t k).isLt)]
  simp only [blk0, blk1, blk2]
  rfl

theorem row_pred (t : Fin cfg0.N) (g : t.val % 8 ≠ 0) (h : t.val - 1 < cfg0.N) (i : Fin 1024) : rowOf ⟨t.val - 1, h⟩ i = rowOf t i := by
  refine Fin.ext ?_
  simp only [rowOf]
  omega

theorem left_at (c : Dev nD) (n : ℕ) : ∀ (h : n < cfg0.N) (g7 : n % 8 ≠ 7) (i : Fin 1024) (j : Fin 2048),
    left m c n h (ix2 i j) = ∑ x ∈ Finset.range (n % 8 * 1024 + 1024), unitN m c (rowOf ⟨n, h⟩ i) j x := by
  induction n using Nat.strong_induction_on with
  | _ n ih =>
    intro h g7 i j
    by_cases g : n % 8 = 0
    · refine (left_A m c ⟨n, h⟩ g i j).trans ?_
      rw [P_eq]
      simp [g]
    · rw [left_later m c ⟨n, h⟩ g, step_B_at m c ⟨n, h⟩ _ g g7, P_eq, Finset.sum_range_add]
      congr 1
      have e := ih (n - 1) (by omega) (Nat.lt_of_le_of_lt (Nat.sub_le _ _) h) (by omega) i j
      refine e.trans ?_
      rw [row_pred ⟨n, h⟩ g _ i, show (n - 1) % 8 * 1024 + 1024 = n % 8 * 1024 by omega]

theorem last_at (c : Dev nD) (t : Fin cfg0.N) (g7 : t.val % 8 = 7) (h : t.val - 1 < cfg0.N) (i : Fin 1024) (j : Fin 2048) :
    vv m c t (left m c (t.val - 1) h) g7 i j = MlpReferenceIdeal.Ref.H (A0 m c) (A1 m c) (A2 m c) (A3 m c) (rowOf t i) j := by
  unfold vv MlpReferenceIdeal.Ref.H
  rw [left_at m c _ h (by omega) i j, P_eq, row_pred t (by omega) h i, show (t.val - 1) % 8 * 1024 + 1024 = t.val % 8 * 1024 by omega,
    ← Finset.sum_range_add, show t.val % 8 * 1024 + 1024 = 8192 by omega, resid_at, add_comm]
  refine congrArg (A1 m c (ix2 (rowOf t i) j) + ·) ((Finset.sum_range _).trans ?_)
  refine Finset.sum_congr rfl fun x _ => ?_
  unfold unitN
  rw [dif_pos x.isLt]
  rfl

/-- After the run the output is the reference's. -/
theorem final (c : Dev nD) : (dats m 0 c).arrAt 4 cfg0.N = MlpReferenceIdeal.Ref.U (A0 m c) (A1 m c) (A2 m c) (A3 m c) (A4 m c) := by
  refine (dats m 0 c).arrAt_eq_of_covers 4 _ (by decide +kernel) fun t hf y => ?_
  have g7 : t.val % 8 = 7 := (flush0_4 t).mp hf
  idx_vars y
  rw [show ((cfg0.win 4).blk t).view.emb (ix2 y0 y1) = ix2 (rowOf t y0) y1 by blk_ext [idx t, rowOf]]
  blk_simp
  rw [after_4, MlpReferenceIdeal.Ref.U_at, left_later m c t (by omega)]
  refine (step_C_at m c t _ g7 y0 y1).trans ?_
  rw [gather_sum, blk3]
  simp only [last_at m c t g7]

end Cert.MlpIdeal.Ffn

end
-- ==== Proof.MlpClaim.lean ====
/- The feed-forward's claim: its kernel's result is its reference's. -/
module

public import proofs.«01_k».proof.Defs
public import proofs.«01_k».proof.Proof.Gen.MlpIdeal
public import proofs.«01_k».proof.Proof.Gen.MlpReferenceIdeal
public import proofs.«01_k».proof.Proof.MlpSum
public import Idealize.ShloMosaic.Lib.Quiescent

@[expose] public section

set_option maxRecDepth 16384

noncomputable section

namespace Cert.MlpIdeal.Ffn

open Cert.MlpIdeal Cert.MlpIdeal.Gen
open Idealize.ShloMosaic Idealize.ShloMosaic.TcCoe Idealize.SL.Sem

variable (m : (ℓ : Loc nD τ sig) → Buf (Elt Ideal) ℓ) (ρ : Dev nD → PrngReg)

/-- The kernel's run, with what it leaves in its result. -/
theorem kernelRun : θ_run defs (onTc (τ := τ) (main (F := Ideal))) ⟨m, fun _ => 0, ρ⟩ (fun r => ∀ c : Dev nD,
      r.2.mem ((c.tc : Thread nD τ).loc main_v0) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h => fun c => ⟨(h.1 c).1 4, ((h.1 c).1 0).trans (((dats m 0 c).arrAt_in 0 rfl _).trans (A_eq m c 0)),
      (h.1 c).2.1 main_arg1 (Finset.mem_singleton_self _),
      ((h.1 c).1 1).trans (((dats m 0 c).arrAt_in 1 rfl _).trans (A_eq m c 1)),
      ((h.1 c).1 2).trans (((dats m 0 c).arrAt_in 2 rfl _).trans (A_eq m c 2)),
      ((h.1 c).1 3).trans (((dats m 0 c).arrAt_in 3 rfl _).trans (A_eq m c 3))⟩) (run m ρ)

end Cert.MlpIdeal.Ffn

namespace Cert.Proof

open Idealize.ShloMosaic Idealize.SL.Sem

/-- The feed-forward's kernel computes the reference's normed residual stream. -/
theorem algebraic_mlp : Cert.algebraic_MlpIdeal_MlpReferenceIdeal (hMlpIdeal := Cert.MlpIdeal.Gen.facts)
    (hMlpReferenceIdeal := Cert.MlpReferenceIdeal.Gen.facts) := by
  intro m ρ m' ρ' _ hagree
  refine ⟨_, Cert.MlpIdeal.Ffn.kernelRun m ρ, ?_⟩
  refine (θ_run Cert.MlpReferenceIdeal.defs _ _).mono (fun _ h c => ⟨(h c).1.trans ?_, (h c).2⟩)
    (Cert.MlpReferenceIdeal.Value.run (F := Ideal) m' ρ')
  rw [Cert.MlpIdeal.Ffn.final m c]
  obtain ⟨h0, h1, h2, h3, h4⟩ := hagree c
  rw [h0, h1, h2, h3, h4]
  rfl

end Cert.Proof

end
-- ==== Proof.lean ====
module

public import proofs.«01_k».proof.Defs
public import proofs.«01_k».proof.Proof.Gen.Mixer
public import proofs.«01_k».proof.Proof.Gen.Mixer.Skeleton
public import proofs.«01_k».proof.Proof.Gen.Mixer.Launch
public import proofs.«01_k».proof.Proof.Gen.Mixer.Points
public import proofs.«01_k».proof.Proof.MixFrame
public import proofs.«01_k».proof.Proof.Gen.MixerIdeal
public import proofs.«01_k».proof.Proof.Gen.MixerIdeal.Skeleton
public import proofs.«01_k».proof.Proof.Gen.MixerIdeal.Launch
public import proofs.«01_k».proof.Proof.Gen.MixerIdeal.Points
public import proofs.«01_k».proof.Proof.MixFrameIdeal
public import proofs.«01_k».proof.Proof.AttClaim
public import proofs.«01_k».proof.Proof.OutClaim
public import proofs.«01_k».proof.Proof.InFrame
public import proofs.«01_k».proof.Proof.InBit
public import proofs.«01_k».proof.Proof.InClaim
public import proofs.«01_k».proof.Proof.MlpBit
public import proofs.«01_k».proof.Proof.MlpFrameIdeal
public import proofs.«01_k».proof.Proof.MlpClaim
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpReferenceIdeal
public import proofs.«01_k».proof.Proof.Gen.MlpReferenceIdeal.Run
public import proofs.«01_k».proof.Proof.Gen.AttentionIdeal
public import proofs.«01_k».proof.Proof.Gen.Outproj
public import proofs.«01_k».proof.Proof.Gen.Outproj.Skeleton
public import proofs.«01_k».proof.Proof.Gen.Outproj.Launch
public import proofs.«01_k».proof.Proof.Gen.Outproj.Points
public import proofs.«01_k».proof.Proof.Gen.Outproj.Frame
public import proofs.«01_k».proof.Proof.Gen.OutprojIdeal
public import proofs.«01_k».proof.Proof.Gen.OutprojIdeal.Skeleton
public import proofs.«01_k».proof.Proof.Gen.OutprojIdeal.Launch
public import proofs.«01_k».proof.Proof.Gen.OutprojIdeal.Points
public import proofs.«01_k».proof.Proof.Gen.OutprojIdeal.Frame
public import proofs.«01_k».proof.Proof.Gen.OutprojReferenceIdeal
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojReferenceIdeal
public import proofs.«01_k».proof.Proof.Gen.InprojReferenceIdeal.Run
public import proofs.«01_k».proof.Proof.Gen.Pre_attention_pre
public import proofs.«01_k».proof.Proof.Gen.OutprojIdeal.Value
public import proofs.«01_k».proof.Proof.Gen.AttentionIdeal.Run
public import proofs.«01_k».proof.Proof.Gen.OutprojReferenceIdeal.Run
public import Idealize.ShloMosaic.Lib.Quiescent
public import Idealize.ShloMosaic.PureOps.IdealRules
public import Idealize.ShloMosaic.Adequacy
public import Idealize.ShloMosaic.Init

@[expose] public section

noncomputable section

namespace Cert.Proof

open Idealize.ShloMosaic Idealize.SL.Sem Cert.Mixer

/-- The claims. -/
theorem claim : Cert.Claim := ⟨Cert.Mixer.Gen.facts, Cert.MixerIdeal.Gen.facts, Cert.AttentionIdeal.Gen.facts, Cert.Mlp.Gen.facts, Cert.MlpIdeal.Gen.facts, Cert.MlpReferenceIdeal.Gen.facts, Cert.Outproj.Gen.facts, Cert.OutprojIdeal.Gen.facts, Cert.OutprojReferenceIdeal.Gen.facts, Cert.Inproj.Gen.facts, Cert.InprojIdeal.Gen.facts, Cert.InprojReferenceIdeal.Gen.facts, Cert.Pre_attention_pre.Gen.facts,
  fun m ρ _ => Cert.Mixer.Att.frame m ρ,
  fun m ρ _ => Cert.MixerIdeal.Att.frame m ρ (Cert.MixerIdeal.Att.S m) (Cert.MixerIdeal.Att.hA m) (Cert.MixerIdeal.Att.hB m),
  fun m ρ _ => Cert.MixerIdeal.Att.frame m ρ (Cert.MixerIdeal.Att.S m) (Cert.MixerIdeal.Att.hA m) (Cert.MixerIdeal.Att.hB m),
  fun m ρ _ => (θ_run Cert.AttentionIdeal.defs _ _).mono (fun r h => ⟨fun c => (h c).2, sem_eq_zero_of_no_sems (by decide) r.2⟩) (Cert.AttentionIdeal.Value.run (F := Ideal) m ρ),
  fun m ρ _ => (θ_run Cert.AttentionIdeal.defs _ _).mono (fun r h => ⟨fun c => (h c).2, sem_eq_zero_of_no_sems (by decide) r.2⟩) (Cert.AttentionIdeal.Value.run (F := Ideal) m ρ),
  fun m ρ _ => Cert.Mlp.Ffn.frame m ρ,
  fun m ρ _ => Cert.MlpIdeal.Ffn.frame m ρ,
  fun m ρ _ => (θ_run Cert.MlpReferenceIdeal.defs _ _).mono (fun r h => ⟨fun c => (h c).2, sem_eq_zero_of_no_sems (by decide) r.2⟩) (Cert.MlpReferenceIdeal.Value.run (F := Ideal) m ρ),
  fun m ρ _ => Cert.Outproj.Gen.frame m ρ,
  fun m ρ _ => Cert.OutprojIdeal.Gen.frame m ρ,
  fun m ρ _ => (θ_run Cert.OutprojReferenceIdeal.defs _ _).mono (fun r h => ⟨fun c => (h c).2.2, sem_eq_zero_of_no_sems (by decide) r.2⟩) (Cert.OutprojReferenceIdeal.Value.run (F := Ideal) m ρ),
  fun m ρ _ => Cert.Inproj.Proj.frame m ρ,
  fun m ρ _ => Cert.InprojIdeal.Proj.frame m ρ,
  fun m ρ _ => (θ_run Cert.InprojReferenceIdeal.defs _ _).mono (fun r h => ⟨fun c => (h c).2.2.2.2, sem_eq_zero_of_no_sems (by decide) r.2⟩) (Cert.InprojReferenceIdeal.Value.run (F := Ideal) m ρ),
  ⟨IdealRules.named_const.statement Cert.MixerIdeal.κ "log2e" .f32 0x3FB8AA3B#32 (((Real.log 2)⁻¹ : ℝ) : EReal) rfl,
    IdealRules.named_const.statement Cert.MixerIdeal.κ "mask" .f32 0xF191ACCB#32 ⊥ rfl⟩,
  algebraic_attention,
  trivial,
  algebraic_mlp,
  trivial,
  algebraic_outproj,
  trivial,
  algebraic_inproj⟩

end Cert.Proof

end
